-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_LnKernel (m : (ℓ : Loc Cert.LnKernel.nD Cert.LnKernel.τ Cert.LnKernel.sig) → Buf (Elt Bits) ℓ) : Prop :=
  True

def Pre_LnKernelIdeal (m : (ℓ : Loc Cert.LnKernelIdeal.nD Cert.LnKernelIdeal.τ Cert.LnKernelIdeal.sig) → Buf (Elt Ideal) ℓ) : Prop :=
  True

def Pre_LnKernelIdeal_finite_ln [hPre_finite_ln : Cert.Pre_finite_ln.Facts] (m : (ℓ : Loc Cert.LnKernelIdeal.nD Cert.LnKernelIdeal.τ Cert.LnKernelIdeal.sig) → Buf (Elt Ideal) ℓ) : Prop :=
  ∀ c : Dev Cert.LnKernelIdeal.nD,
    (Cert.Pre_finite_ln.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3))) = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_finite_ln [hPre_finite_ln : Cert.Pre_finite_ln.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_finite_ln.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3))) = (fun _ => 1#1)

def Pre_LnResKernel (m : (ℓ : Loc Cert.LnResKernel.nD Cert.LnResKernel.τ Cert.LnResKernel.sig) → Buf (Elt Bits) ℓ) : Prop :=
  True

def Pre_LnResKernelIdeal (m : (ℓ : Loc Cert.LnResKernelIdeal.nD Cert.LnResKernelIdeal.τ Cert.LnResKernelIdeal.sig) → Buf (Elt Ideal) ℓ) : Prop :=
  True

def Pre_LnResKernelIdeal_finite_ln_res [hPre_finite_ln_res : Cert.Pre_finite_ln_res.Facts] (m : (ℓ : Loc Cert.LnResKernelIdeal.nD Cert.LnResKernelIdeal.τ Cert.LnResKernelIdeal.sig) → Buf (Elt Ideal) ℓ) : Prop :=
  ∀ c : Dev Cert.LnResKernelIdeal.nD,
    (Cert.Pre_finite_ln_res.fn (F := Ideal) (m ((c.tc : Thread Cert.LnResKernelIdeal.nD Cert.LnResKernelIdeal.τ).loc Cert.LnResKernelIdeal.main_arg0)) (m ((c.tc : Thread Cert.LnResKernelIdeal.nD Cert.LnResKernelIdeal.τ).loc Cert.LnResKernelIdeal.main_arg1)) (m ((c.tc : Thread Cert.LnResKernelIdeal.nD Cert.LnResKernelIdeal.τ).loc Cert.LnResKernelIdeal.main_arg2)) (m ((c.tc : Thread Cert.LnResKernelIdeal.nD Cert.LnResKernelIdeal.τ).loc Cert.LnResKernelIdeal.main_arg3)) (m ((c.tc : Thread Cert.LnResKernelIdeal.nD Cert.LnResKernelIdeal.τ).loc Cert.LnResKernelIdeal.main_arg4)) (m ((c.tc : Thread Cert.LnResKernelIdeal.nD Cert.LnResKernelIdeal.τ).loc Cert.LnResKernelIdeal.main_arg5))) = (fun _ => 1#1)

def Pre_LnResReferenceIdeal (m : (ℓ : Loc Cert.LnResReferenceIdeal.nD Cert.LnResReferenceIdeal.τ Cert.LnResReferenceIdeal.sig) → Buf (Elt Ideal) ℓ) : Prop :=
  True

def Pre_LnResReferenceIdeal_finite_ln_res [hPre_finite_ln_res : Cert.Pre_finite_ln_res.Facts] (m : (ℓ : Loc Cert.LnResReferenceIdeal.nD Cert.LnResReferenceIdeal.τ Cert.LnResReferenceIdeal.sig) → Buf (Elt Ideal) ℓ) : Prop :=
  ∀ c : Dev Cert.LnResReferenceIdeal.nD,
    (Cert.Pre_finite_ln_res.fn (F := Ideal) (m ((c.tc : Thread Cert.LnResReferenceIdeal.nD Cert.LnResReferenceIdeal.τ).loc Cert.LnResReferenceIdeal.main_arg0)) (m ((c.tc : Thread Cert.LnResReferenceIdeal.nD Cert.LnResReferenceIdeal.τ).loc Cert.LnResReferenceIdeal.main_arg1)) (m ((c.tc : Thread Cert.LnResReferenceIdeal.nD Cert.LnResReferenceIdeal.τ).loc Cert.LnResReferenceIdeal.main_arg2)) (m ((c.tc : Thread Cert.LnResReferenceIdeal.nD Cert.LnResReferenceIdeal.τ).loc Cert.LnResReferenceIdeal.main_arg3)) (m ((c.tc : Thread Cert.LnResReferenceIdeal.nD Cert.LnResReferenceIdeal.τ).loc Cert.LnResReferenceIdeal.main_arg4)) (m ((c.tc : Thread Cert.LnResReferenceIdeal.nD Cert.LnResReferenceIdeal.τ).loc Cert.LnResReferenceIdeal.main_arg5))) = (fun _ => 1#1)

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsKernelIdeal_finite_rms [hPre_finite_rms : Cert.Pre_finite_rms.Facts] (m : (ℓ : Loc Cert.RmsKernelIdeal.nD Cert.RmsKernelIdeal.τ Cert.RmsKernelIdeal.sig) → Buf (Elt Ideal) ℓ) : Prop :=
  ∀ c : Dev Cert.RmsKernelIdeal.nD,
    (Cert.Pre_finite_rms.fn (F := Ideal) (m ((c.tc : Thread Cert.RmsKernelIdeal.nD Cert.RmsKernelIdeal.τ).loc Cert.RmsKernelIdeal.main_arg0)) (m ((c.tc : Thread Cert.RmsKernelIdeal.nD Cert.RmsKernelIdeal.τ).loc Cert.RmsKernelIdeal.main_arg1)) (m ((c.tc : Thread Cert.RmsKernelIdeal.nD Cert.RmsKernelIdeal.τ).loc Cert.RmsKernelIdeal.main_arg2)) (m ((c.tc : Thread Cert.RmsKernelIdeal.nD Cert.RmsKernelIdeal.τ).loc Cert.RmsKernelIdeal.main_arg3)) (m ((c.tc : Thread Cert.RmsKernelIdeal.nD Cert.RmsKernelIdeal.τ).loc Cert.RmsKernelIdeal.main_arg4)) (m ((c.tc : Thread Cert.RmsKernelIdeal.nD Cert.RmsKernelIdeal.τ).loc Cert.RmsKernelIdeal.main_arg5)) (m ((c.tc : Thread Cert.RmsKernelIdeal.nD Cert.RmsKernelIdeal.τ).loc Cert.RmsKernelIdeal.main_arg6)) (m ((c.tc : Thread Cert.RmsKernelIdeal.nD Cert.RmsKernelIdeal.τ).loc Cert.RmsKernelIdeal.main_arg7))) = (fun _ => 1#1)

def Pre_RmsReferenceIdeal (m : (ℓ : Loc Cert.RmsReferenceIdeal.nD Cert.RmsReferenceIdeal.τ Cert.RmsReferenceIdeal.sig) → Buf (Elt Ideal) ℓ) : Prop :=
  True

def Pre_RmsReferenceIdeal_finite_rms [hPre_finite_rms : Cert.Pre_finite_rms.Facts] (m : (ℓ : Loc Cert.RmsReferenceIdeal.nD Cert.RmsReferenceIdeal.τ Cert.RmsReferenceIdeal.sig) → Buf (Elt Ideal) ℓ) : Prop :=
  ∀ c : Dev Cert.RmsReferenceIdeal.nD,
    (Cert.Pre_finite_rms.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3)) (m ((c.tc : Thread Cert.RmsReferenceIdeal.nD Cert.RmsReferenceIdeal.τ).loc Cert.RmsReferenceIdeal.main_arg4)) (m ((c.tc : Thread Cert.RmsReferenceIdeal.nD Cert.RmsReferenceIdeal.τ).loc Cert.RmsReferenceIdeal.main_arg5)) (m ((c.tc : Thread Cert.RmsReferenceIdeal.nD Cert.RmsReferenceIdeal.τ).loc Cert.RmsReferenceIdeal.main_arg6)) (m ((c.tc : Thread Cert.RmsReferenceIdeal.nD Cert.RmsReferenceIdeal.τ).loc Cert.RmsReferenceIdeal.main_arg7))) = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_finite_pool [hPre_finite_pool : Cert.Pre_finite_pool.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_pool [hPre_finite_pool : Cert.Pre_finite_pool.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))) = (fun _ => 1#1)

def Pre_LruKernel (m : (ℓ : Loc Cert.LruKernel.nD Cert.LruKernel.τ Cert.LruKernel.sig) → Buf (Elt Bits) ℓ) : Prop :=
  True

def Pre_LruKernelIdeal (m : (ℓ : Loc Cert.LruKernelIdeal.nD Cert.LruKernelIdeal.τ Cert.LruKernelIdeal.sig) → Buf (Elt Ideal) ℓ) : Prop :=
  True

def Pre_AttnFKernel (m : (ℓ : Loc Cert.AttnFKernel.nD Cert.AttnFKernel.τ Cert.AttnFKernel.sig) → Buf (Elt Bits) ℓ) : Prop :=
  True

def Pre_AttnFKernelIdeal (m : (ℓ : Loc Cert.AttnFKernelIdeal.nD Cert.AttnFKernelIdeal.τ Cert.AttnFKernelIdeal.sig) → Buf (Elt Ideal) ℓ) : Prop :=
  True

def Pre_AttnFKernelIdeal_finite_attn_fwd [hPre_finite_attn_fwd : Cert.Pre_finite_attn_fwd.Facts] (m : (ℓ : Loc Cert.AttnFKernelIdeal.nD Cert.AttnFKernelIdeal.τ Cert.AttnFKernelIdeal.sig) → Buf (Elt Ideal) ℓ) : Prop :=
  ∀ c : Dev Cert.AttnFKernelIdeal.nD,
    (Cert.Pre_finite_attn_fwd.fn (F := Ideal) (m ((c.tc : Thread Cert.AttnFKernelIdeal.nD Cert.AttnFKernelIdeal.τ).loc Cert.AttnFKernelIdeal.main_arg0)) (m ((c.tc : Thread Cert.AttnFKernelIdeal.nD Cert.AttnFKernelIdeal.τ).loc Cert.AttnFKernelIdeal.main_arg1)) (m ((c.tc : Thread Cert.AttnFKernelIdeal.nD Cert.AttnFKernelIdeal.τ).loc Cert.AttnFKernelIdeal.main_arg2)) (m ((c.tc : Thread Cert.AttnFKernelIdeal.nD Cert.AttnFKernelIdeal.τ).loc Cert.AttnFKernelIdeal.main_arg3)) (m ((c.tc : Thread Cert.AttnFKernelIdeal.nD Cert.AttnFKernelIdeal.τ).loc Cert.AttnFKernelIdeal.main_arg4)) (m ((c.tc : Thread Cert.AttnFKernelIdeal.nD Cert.AttnFKernelIdeal.τ).loc Cert.AttnFKernelIdeal.main_arg5)) (m ((c.tc : Thread Cert.AttnFKernelIdeal.nD Cert.AttnFKernelIdeal.τ).loc Cert.AttnFKernelIdeal.main_arg6)) (m ((c.tc : Thread Cert.AttnFKernelIdeal.nD Cert.AttnFKernelIdeal.τ).loc Cert.AttnFKernelIdeal.main_arg7))) = (fun _ => 1#1)

def Pre_AttnFReferenceIdeal (m : (ℓ : Loc Cert.AttnFReferenceIdeal.nD Cert.AttnFReferenceIdeal.τ Cert.AttnFReferenceIdeal.sig) → Buf (Elt Ideal) ℓ) : Prop :=
  True

def Pre_AttnFReferenceIdeal_finite_attn_fwd [hPre_finite_attn_fwd : Cert.Pre_finite_attn_fwd.Facts] (m : (ℓ : Loc Cert.AttnFReferenceIdeal.nD Cert.AttnFReferenceIdeal.τ Cert.AttnFReferenceIdeal.sig) → Buf (Elt Ideal) ℓ) : Prop :=
  ∀ c : Dev Cert.AttnFReferenceIdeal.nD,
    (Cert.Pre_finite_attn_fwd.fn (F := Ideal) (m ((c.tc : Thread Cert.AttnFReferenceIdeal.nD Cert.AttnFReferenceIdeal.τ).loc Cert.AttnFReferenceIdeal.main_arg0)) (m ((c.tc : Thread Cert.AttnFReferenceIdeal.nD Cert.AttnFReferenceIdeal.τ).loc Cert.AttnFReferenceIdeal.main_arg1)) (m ((c.tc : Thread Cert.AttnFReferenceIdeal.nD Cert.AttnFReferenceIdeal.τ).loc Cert.AttnFReferenceIdeal.main_arg2)) (m ((c.tc : Thread Cert.AttnFReferenceIdeal.nD Cert.AttnFReferenceIdeal.τ).loc Cert.AttnFReferenceIdeal.main_arg3)) (m ((c.tc : Thread Cert.AttnFReferenceIdeal.nD Cert.AttnFReferenceIdeal.τ).loc Cert.AttnFReferenceIdeal.main_arg4)) (m ((c.tc : Thread Cert.AttnFReferenceIdeal.nD Cert.AttnFReferenceIdeal.τ).loc Cert.AttnFReferenceIdeal.main_arg5)) (m ((c.tc : Thread Cert.AttnFReferenceIdeal.nD Cert.AttnFReferenceIdeal.τ).loc Cert.AttnFReferenceIdeal.main_arg6)) (m ((c.tc : Thread Cert.AttnFReferenceIdeal.nD Cert.AttnFReferenceIdeal.τ).loc Cert.AttnFReferenceIdeal.main_arg7))) = (fun _ => 1#1)

def Pre_ResLnKernel (m : (ℓ : Loc Cert.ResLnKernel.nD Cert.ResLnKernel.τ Cert.ResLnKernel.sig) → Buf (Elt Bits) ℓ) : Prop :=
  True

def Pre_ResLnKernelIdeal (m : (ℓ : Loc Cert.ResLnKernelIdeal.nD Cert.ResLnKernelIdeal.τ Cert.ResLnKernelIdeal.sig) → Buf (Elt Ideal) ℓ) : Prop :=
  True

def Pre_ResLnReferenceIdeal (m : (ℓ : Loc Cert.ResLnReferenceIdeal.nD Cert.ResLnReferenceIdeal.τ Cert.ResLnReferenceIdeal.sig) → Buf (Elt Ideal) ℓ) : Prop :=
  True

def Pre_ProjLnKernel (m : (ℓ : Loc Cert.ProjLnKernel.nD Cert.ProjLnKernel.τ Cert.ProjLnKernel.sig) → Buf (Elt Bits) ℓ) : Prop :=
  True

def Pre_ProjLnKernelIdeal (m : (ℓ : Loc Cert.ProjLnKernelIdeal.nD Cert.ProjLnKernelIdeal.τ Cert.ProjLnKernelIdeal.sig) → Buf (Elt Ideal) ℓ) : Prop :=
  True

def Pre_ProjLnReferenceIdeal (m : (ℓ : Loc Cert.ProjLnReferenceIdeal.nD Cert.ProjLnReferenceIdeal.τ Cert.ProjLnReferenceIdeal.sig) → Buf (Elt Ideal) ℓ) : Prop :=
  True

def Pre_MlpFKernel (m : (ℓ : Loc Cert.MlpFKernel.nD Cert.MlpFKernel.τ Cert.MlpFKernel.sig) → Buf (Elt Bits) ℓ) : Prop :=
  True

def Pre_MlpFKernelIdeal (m : (ℓ : Loc Cert.MlpFKernelIdeal.nD Cert.MlpFKernelIdeal.τ Cert.MlpFKernelIdeal.sig) → Buf (Elt Ideal) ℓ) : Prop :=
  True

def Pre_MlpFReferenceIdeal (m : (ℓ : Loc Cert.MlpFReferenceIdeal.nD Cert.MlpFReferenceIdeal.τ Cert.MlpFReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_PoolFKernel (m : (ℓ : Loc Cert.PoolFKernel.nD Cert.PoolFKernel.τ Cert.PoolFKernel.sig) → Buf (Elt Bits) ℓ) : Prop :=
  True

def Pre_PoolFKernelIdeal (m : (ℓ : Loc Cert.PoolFKernelIdeal.nD Cert.PoolFKernelIdeal.τ Cert.PoolFKernelIdeal.sig) → Buf (Elt Ideal) ℓ) : Prop :=
  True

def Pre_PoolFKernelIdeal_finite_pool_fwd [hPre_finite_pool_fwd : Cert.Pre_finite_pool_fwd.Facts] (m : (ℓ : Loc Cert.PoolFKernelIdeal.nD Cert.PoolFKernelIdeal.τ Cert.PoolFKernelIdeal.sig) → Buf (Elt Ideal) ℓ) : Prop :=
  ∀ c : Dev Cert.PoolFKernelIdeal.nD,
    (Cert.Pre_finite_pool_fwd.fn (F := Ideal) (m ((c.tc : Thread Cert.PoolFKernelIdeal.nD Cert.PoolFKernelIdeal.τ).loc Cert.PoolFKernelIdeal.main_arg0)) (m ((c.tc : Thread Cert.PoolFKernelIdeal.nD Cert.PoolFKernelIdeal.τ).loc Cert.PoolFKernelIdeal.main_arg1)) (m ((c.tc : Thread Cert.PoolFKernelIdeal.nD Cert.PoolFKernelIdeal.τ).loc Cert.PoolFKernelIdeal.main_arg2))) = (fun _ => 1#1)

def Pre_PoolFReferenceIdeal (m : (ℓ : Loc Cert.PoolFReferenceIdeal.nD Cert.PoolFReferenceIdeal.τ Cert.PoolFReferenceIdeal.sig) → Buf (Elt Ideal) ℓ) : Prop :=
  True

def Pre_PoolFReferenceIdeal_finite_pool_fwd [hPre_finite_pool_fwd : Cert.Pre_finite_pool_fwd.Facts] (m : (ℓ : Loc Cert.PoolFReferenceIdeal.nD Cert.PoolFReferenceIdeal.τ Cert.PoolFReferenceIdeal.sig) → Buf (Elt Ideal) ℓ) : Prop :=
  ∀ c : Dev Cert.PoolFReferenceIdeal.nD,
    (Cert.Pre_finite_pool_fwd.fn (F := Ideal) (m ((c.tc : Thread Cert.PoolFReferenceIdeal.nD Cert.PoolFReferenceIdeal.τ).loc Cert.PoolFReferenceIdeal.main_arg0)) (m ((c.tc : Thread Cert.PoolFReferenceIdeal.nD Cert.PoolFReferenceIdeal.τ).loc Cert.PoolFReferenceIdeal.main_arg1)) (m ((c.tc : Thread Cert.PoolFReferenceIdeal.nD Cert.PoolFReferenceIdeal.τ).loc Cert.PoolFReferenceIdeal.main_arg2))) = (fun _ => 1#1)

def Pre_LruFKernel (m : (ℓ : Loc Cert.LruFKernel.nD Cert.LruFKernel.τ Cert.LruFKernel.sig) → Buf (Elt Bits) ℓ) : Prop :=
  True

def Pre_LruFKernelIdeal (m : (ℓ : Loc Cert.LruFKernelIdeal.nD Cert.LruFKernelIdeal.τ Cert.LruFKernelIdeal.sig) → Buf (Elt Ideal) ℓ) : Prop :=
  True

def Pre_LruFReferenceIdeal (m : (ℓ : Loc Cert.LruFReferenceIdeal.nD Cert.LruFReferenceIdeal.τ Cert.LruFReferenceIdeal.sig) → Buf (Elt Ideal) ℓ) : Prop :=
  True

def Pre_MmKernel (m : (ℓ : Loc Cert.MmKernel.nD Cert.MmKernel.τ Cert.MmKernel.sig) → Buf (Elt Bits) ℓ) : Prop :=
  True

def Pre_MmKernelIdeal (m : (ℓ : Loc Cert.MmKernelIdeal.nD Cert.MmKernelIdeal.τ Cert.MmKernelIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def Pre_DwinKernel (m : (ℓ : Loc Cert.DwinKernel.nD Cert.DwinKernel.τ Cert.DwinKernel.sig) → Buf (Elt Bits) ℓ) : Prop :=
  True

def Pre_DwinKernelIdeal (m : (ℓ : Loc Cert.DwinKernelIdeal.nD Cert.DwinKernelIdeal.τ Cert.DwinKernelIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_LnKernel [hLnKernel : Cert.LnKernel.Facts] : Prop :=
  ∀ (m : (ℓ : Loc Cert.LnKernel.nD Cert.LnKernel.τ Cert.LnKernel.sig) → Buf (Elt Bits) ℓ) (g : Dev Cert.LnKernel.nD → PrngReg), Pre_LnKernel m →
    θ_run (Cert.LnKernel.defs (F := Bits)) (onTc (τ := Cert.LnKernel.τ) (Cert.LnKernel.main (F := Bits))) ⟨m, fun _ => 0, g⟩ (fun r => (∀ c : Dev Cert.LnKernel.nD,
      r.2.mem ((c.tc : Thread Cert.LnKernel.nD Cert.LnKernel.τ).loc Cert.LnKernel.main_arg0) = m ((c.tc : Thread Cert.LnKernel.nD Cert.LnKernel.τ).loc Cert.LnKernel.main_arg0)
      ∧ r.2.mem ((c.tc : Thread Cert.LnKernel.nD Cert.LnKernel.τ).loc Cert.LnKernel.main_arg1) = m ((c.tc : Thread Cert.LnKernel.nD Cert.LnKernel.τ).loc Cert.LnKernel.main_arg1)
      ∧ r.2.mem ((c.tc : Thread Cert.LnKernel.nD Cert.LnKernel.τ).loc Cert.LnKernel.main_arg2) = m ((c.tc : Thread Cert.LnKernel.nD Cert.LnKernel.τ).loc Cert.LnKernel.main_arg2)
      ∧ r.2.mem ((c.tc : Thread Cert.LnKernel.nD Cert.LnKernel.τ).loc Cert.LnKernel.main_arg3) = m ((c.tc : Thread Cert.LnKernel.nD Cert.LnKernel.τ).loc Cert.LnKernel.main_arg3))
      ∧ r.2.sem = fun _ => 0)

def quiescent_LnKernelIdeal [hLnKernelIdeal : Cert.LnKernelIdeal.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnKernelIdeal_pre_finite_ln [hLnKernelIdeal : Cert.LnKernelIdeal.Facts] [hPre_finite_ln : Cert.Pre_finite_ln.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal_finite_ln m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_LnReferenceIdeal_pre_finite_ln [hLnReferenceIdeal : Cert.LnReferenceIdeal.Facts] [hPre_finite_ln : Cert.Pre_finite_ln.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_finite_ln m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_LnResKernel [hLnResKernel : Cert.LnResKernel.Facts] : Prop :=
  ∀ (m : (ℓ : Loc Cert.LnResKernel.nD Cert.LnResKernel.τ Cert.LnResKernel.sig) → Buf (Elt Bits) ℓ) (g : Dev Cert.LnResKernel.nD → PrngReg), Pre_LnResKernel m →
    θ_run (Cert.LnResKernel.defs (F := Bits)) (onTc (τ := Cert.LnResKernel.τ) (Cert.LnResKernel.main (F := Bits))) ⟨m, fun _ => 0, g⟩ (fun r => (∀ c : Dev Cert.LnResKernel.nD,
      r.2.mem ((c.tc : Thread Cert.LnResKernel.nD Cert.LnResKernel.τ).loc Cert.LnResKernel.main_arg0) = m ((c.tc : Thread Cert.LnResKernel.nD Cert.LnResKernel.τ).loc Cert.LnResKernel.main_arg0)
      ∧ r.2.mem ((c.tc : Thread Cert.LnResKernel.nD Cert.LnResKernel.τ).loc Cert.LnResKernel.main_arg1) = m ((c.tc : Thread Cert.LnResKernel.nD Cert.LnResKernel.τ).loc Cert.LnResKernel.main_arg1)
      ∧ r.2.mem ((c.tc : Thread Cert.LnResKernel.nD Cert.LnResKernel.τ).loc Cert.LnResKernel.main_arg2) = m ((c.tc : Thread Cert.LnResKernel.nD Cert.LnResKernel.τ).loc Cert.LnResKernel.main_arg2)
      ∧ r.2.mem ((c.tc : Thread Cert.LnResKernel.nD Cert.LnResKernel.τ).loc Cert.LnResKernel.main_arg3) = m ((c.tc : Thread Cert.LnResKernel.nD Cert.LnResKernel.τ).loc Cert.LnResKernel.main_arg3)
      ∧ r.2.mem ((c.tc : Thread Cert.LnResKernel.nD Cert.LnResKernel.τ).loc Cert.LnResKernel.main_arg4) = m ((c.tc : Thread Cert.LnResKernel.nD Cert.LnResKernel.τ).loc Cert.LnResKernel.main_arg4)
      ∧ r.2.mem ((c.tc : Thread Cert.LnResKernel.nD Cert.LnResKernel.τ).loc Cert.LnResKernel.main_arg5) = m ((c.tc : Thread Cert.LnResKernel.nD Cert.LnResKernel.τ).loc Cert.LnResKernel.main_arg5))
      ∧ r.2.sem = fun _ => 0)

def quiescent_LnResKernelIdeal [hLnResKernelIdeal : Cert.LnResKernelIdeal.Facts] : Prop :=
  ∀ (m : (ℓ : Loc Cert.LnResKernelIdeal.nD Cert.LnResKernelIdeal.τ Cert.LnResKernelIdeal.sig) → Buf (Elt Ideal) ℓ) (g : Dev Cert.LnResKernelIdeal.nD → PrngReg), Pre_LnResKernelIdeal m →
    θ_run (Cert.LnResKernelIdeal.defs (F := Ideal)) (onTc (τ := Cert.LnResKernelIdeal.τ) (Cert.LnResKernelIdeal.main (F := Ideal))) ⟨m, fun _ => 0, g⟩ (fun r => (∀ c : Dev Cert.LnResKernelIdeal.nD,
      r.2.mem ((c.tc : Thread Cert.LnResKernelIdeal.nD Cert.LnResKernelIdeal.τ).loc Cert.LnResKernelIdeal.main_arg0) = m ((c.tc : Thread Cert.LnResKernelIdeal.nD Cert.LnResKernelIdeal.τ).loc Cert.LnResKernelIdeal.main_arg0)
      ∧ r.2.mem ((c.tc : Thread Cert.LnResKernelIdeal.nD Cert.LnResKernelIdeal.τ).loc Cert.LnResKernelIdeal.main_arg1) = m ((c.tc : Thread Cert.LnResKernelIdeal.nD Cert.LnResKernelIdeal.τ).loc Cert.LnResKernelIdeal.main_arg1)
      ∧ r.2.mem ((c.tc : Thread Cert.LnResKernelIdeal.nD Cert.LnResKernelIdeal.τ).loc Cert.LnResKernelIdeal.main_arg2) = m ((c.tc : Thread Cert.LnResKernelIdeal.nD Cert.LnResKernelIdeal.τ).loc Cert.LnResKernelIdeal.main_arg2)
      ∧ r.2.mem ((c.tc : Thread Cert.LnResKernelIdeal.nD Cert.LnResKernelIdeal.τ).loc Cert.LnResKernelIdeal.main_arg3) = m ((c.tc : Thread Cert.LnResKernelIdeal.nD Cert.LnResKernelIdeal.τ).loc Cert.LnResKernelIdeal.main_arg3)
      ∧ r.2.mem ((c.tc : Thread Cert.LnResKernelIdeal.nD Cert.LnResKernelIdeal.τ).loc Cert.LnResKernelIdeal.main_arg4) = m ((c.tc : Thread Cert.LnResKernelIdeal.nD Cert.LnResKernelIdeal.τ).loc Cert.LnResKernelIdeal.main_arg4)
      ∧ r.2.mem ((c.tc : Thread Cert.LnResKernelIdeal.nD Cert.LnResKernelIdeal.τ).loc Cert.LnResKernelIdeal.main_arg5) = m ((c.tc : Thread Cert.LnResKernelIdeal.nD Cert.LnResKernelIdeal.τ).loc Cert.LnResKernelIdeal.main_arg5))
      ∧ r.2.sem = fun _ => 0)

def quiescent_LnResKernelIdeal_pre_finite_ln_res [hLnResKernelIdeal : Cert.LnResKernelIdeal.Facts] [hPre_finite_ln_res : Cert.Pre_finite_ln_res.Facts] : Prop :=
  ∀ (m : (ℓ : Loc Cert.LnResKernelIdeal.nD Cert.LnResKernelIdeal.τ Cert.LnResKernelIdeal.sig) → Buf (Elt Ideal) ℓ) (g : Dev Cert.LnResKernelIdeal.nD → PrngReg), Pre_LnResKernelIdeal_finite_ln_res m →
    θ_run (Cert.LnResKernelIdeal.defs (F := Ideal)) (onTc (τ := Cert.LnResKernelIdeal.τ) (Cert.LnResKernelIdeal.main (F := Ideal))) ⟨m, fun _ => 0, g⟩ (fun r => (∀ c : Dev Cert.LnResKernelIdeal.nD,
      r.2.mem ((c.tc : Thread Cert.LnResKernelIdeal.nD Cert.LnResKernelIdeal.τ).loc Cert.LnResKernelIdeal.main_arg0) = m ((c.tc : Thread Cert.LnResKernelIdeal.nD Cert.LnResKernelIdeal.τ).loc Cert.LnResKernelIdeal.main_arg0)
      ∧ r.2.mem ((c.tc : Thread Cert.LnResKernelIdeal.nD Cert.LnResKernelIdeal.τ).loc Cert.LnResKernelIdeal.main_arg1) = m ((c.tc : Thread Cert.LnResKernelIdeal.nD Cert.LnResKernelIdeal.τ).loc Cert.LnResKernelIdeal.main_arg1)
      ∧ r.2.mem ((c.tc : Thread Cert.LnResKernelIdeal.nD Cert.LnResKernelIdeal.τ).loc Cert.LnResKernelIdeal.main_arg2) = m ((c.tc : Thread Cert.LnResKernelIdeal.nD Cert.LnResKernelIdeal.τ).loc Cert.LnResKernelIdeal.main_arg2)
      ∧ r.2.mem ((c.tc : Thread Cert.LnResKernelIdeal.nD Cert.LnResKernelIdeal.τ).loc Cert.LnResKernelIdeal.main_arg3) = m ((c.tc : Thread Cert.LnResKernelIdeal.nD Cert.LnResKernelIdeal.τ).loc Cert.LnResKernelIdeal.main_arg3)
      ∧ r.2.mem ((c.tc : Thread Cert.LnResKernelIdeal.nD Cert.LnResKernelIdeal.τ).loc Cert.LnResKernelIdeal.main_arg4) = m ((c.tc : Thread Cert.LnResKernelIdeal.nD Cert.LnResKernelIdeal.τ).loc Cert.LnResKernelIdeal.main_arg4)
      ∧ r.2.mem ((c.tc : Thread Cert.LnResKernelIdeal.nD Cert.LnResKernelIdeal.τ).loc Cert.LnResKernelIdeal.main_arg5) = m ((c.tc : Thread Cert.LnResKernelIdeal.nD Cert.LnResKernelIdeal.τ).loc Cert.LnResKernelIdeal.main_arg5))
      ∧ r.2.sem = fun _ => 0)

def quiescent_LnResReferenceIdeal [hLnResReferenceIdeal : Cert.LnResReferenceIdeal.Facts] : Prop :=
  ∀ (m : (ℓ : Loc Cert.LnResReferenceIdeal.nD Cert.LnResReferenceIdeal.τ Cert.LnResReferenceIdeal.sig) → Buf (Elt Ideal) ℓ) (g : Dev Cert.LnResReferenceIdeal.nD → PrngReg), Pre_LnResReferenceIdeal m →
    θ_run (Cert.LnResReferenceIdeal.defs (F := Ideal)) (onTc (τ := Cert.LnResReferenceIdeal.τ) (Cert.LnResReferenceIdeal.main (F := Ideal))) ⟨m, fun _ => 0, g⟩ (fun r => (∀ c : Dev Cert.LnResReferenceIdeal.nD,
      r.2.mem ((c.tc : Thread Cert.LnResReferenceIdeal.nD Cert.LnResReferenceIdeal.τ).loc Cert.LnResReferenceIdeal.main_arg0) = m ((c.tc : Thread Cert.LnResReferenceIdeal.nD Cert.LnResReferenceIdeal.τ).loc Cert.LnResReferenceIdeal.main_arg0)
      ∧ r.2.mem ((c.tc : Thread Cert.LnResReferenceIdeal.nD Cert.LnResReferenceIdeal.τ).loc Cert.LnResReferenceIdeal.main_arg1) = m ((c.tc : Thread Cert.LnResReferenceIdeal.nD Cert.LnResReferenceIdeal.τ).loc Cert.LnResReferenceIdeal.main_arg1)
      ∧ r.2.mem ((c.tc : Thread Cert.LnResReferenceIdeal.nD Cert.LnResReferenceIdeal.τ).loc Cert.LnResReferenceIdeal.main_arg2) = m ((c.tc : Thread Cert.LnResReferenceIdeal.nD Cert.LnResReferenceIdeal.τ).loc Cert.LnResReferenceIdeal.main_arg2)
      ∧ r.2.mem ((c.tc : Thread Cert.LnResReferenceIdeal.nD Cert.LnResReferenceIdeal.τ).loc Cert.LnResReferenceIdeal.main_arg3) = m ((c.tc : Thread Cert.LnResReferenceIdeal.nD Cert.LnResReferenceIdeal.τ).loc Cert.LnResReferenceIdeal.main_arg3)
      ∧ r.2.mem ((c.tc : Thread Cert.LnResReferenceIdeal.nD Cert.LnResReferenceIdeal.τ).loc Cert.LnResReferenceIdeal.main_arg4) = m ((c.tc : Thread Cert.LnResReferenceIdeal.nD Cert.LnResReferenceIdeal.τ).loc Cert.LnResReferenceIdeal.main_arg4)
      ∧ r.2.mem ((c.tc : Thread Cert.LnResReferenceIdeal.nD Cert.LnResReferenceIdeal.τ).loc Cert.LnResReferenceIdeal.main_arg5) = m ((c.tc : Thread Cert.LnResReferenceIdeal.nD Cert.LnResReferenceIdeal.τ).loc Cert.LnResReferenceIdeal.main_arg5))
      ∧ r.2.sem = fun _ => 0)

def quiescent_LnResReferenceIdeal_pre_finite_ln_res [hLnResReferenceIdeal : Cert.LnResReferenceIdeal.Facts] [hPre_finite_ln_res : Cert.Pre_finite_ln_res.Facts] : Prop :=
  ∀ (m : (ℓ : Loc Cert.LnResReferenceIdeal.nD Cert.LnResReferenceIdeal.τ Cert.LnResReferenceIdeal.sig) → Buf (Elt Ideal) ℓ) (g : Dev Cert.LnResReferenceIdeal.nD → PrngReg), Pre_LnResReferenceIdeal_finite_ln_res m →
    θ_run (Cert.LnResReferenceIdeal.defs (F := Ideal)) (onTc (τ := Cert.LnResReferenceIdeal.τ) (Cert.LnResReferenceIdeal.main (F := Ideal))) ⟨m, fun _ => 0, g⟩ (fun r => (∀ c : Dev Cert.LnResReferenceIdeal.nD,
      r.2.mem ((c.tc : Thread Cert.LnResReferenceIdeal.nD Cert.LnResReferenceIdeal.τ).loc Cert.LnResReferenceIdeal.main_arg0) = m ((c.tc : Thread Cert.LnResReferenceIdeal.nD Cert.LnResReferenceIdeal.τ).loc Cert.LnResReferenceIdeal.main_arg0)
      ∧ r.2.mem ((c.tc : Thread Cert.LnResReferenceIdeal.nD Cert.LnResReferenceIdeal.τ).loc Cert.LnResReferenceIdeal.main_arg1) = m ((c.tc : Thread Cert.LnResReferenceIdeal.nD Cert.LnResReferenceIdeal.τ).loc Cert.LnResReferenceIdeal.main_arg1)
      ∧ r.2.mem ((c.tc : Thread Cert.LnResReferenceIdeal.nD Cert.LnResReferenceIdeal.τ).loc Cert.LnResReferenceIdeal.main_arg2) = m ((c.tc : Thread Cert.LnResReferenceIdeal.nD Cert.LnResReferenceIdeal.τ).loc Cert.LnResReferenceIdeal.main_arg2)
      ∧ r.2.mem ((c.tc : Thread Cert.LnResReferenceIdeal.nD Cert.LnResReferenceIdeal.τ).loc Cert.LnResReferenceIdeal.main_arg3) = m ((c.tc : Thread Cert.LnResReferenceIdeal.nD Cert.LnResReferenceIdeal.τ).loc Cert.LnResReferenceIdeal.main_arg3)
      ∧ r.2.mem ((c.tc : Thread Cert.LnResReferenceIdeal.nD Cert.LnResReferenceIdeal.τ).loc Cert.LnResReferenceIdeal.main_arg4) = m ((c.tc : Thread Cert.LnResReferenceIdeal.nD Cert.LnResReferenceIdeal.τ).loc Cert.LnResReferenceIdeal.main_arg4)
      ∧ r.2.mem ((c.tc : Thread Cert.LnResReferenceIdeal.nD Cert.LnResReferenceIdeal.τ).loc Cert.LnResReferenceIdeal.main_arg5) = m ((c.tc : Thread Cert.LnResReferenceIdeal.nD Cert.LnResReferenceIdeal.τ).loc Cert.LnResReferenceIdeal.main_arg5))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2)
      ∧ r.2.mem ((c.tc : Thread Cert.RmsKernel.nD Cert.RmsKernel.τ).loc Cert.RmsKernel.main_arg3) = m ((c.tc : Thread Cert.RmsKernel.nD Cert.RmsKernel.τ).loc Cert.RmsKernel.main_arg3)
      ∧ r.2.mem ((c.tc : Thread Cert.RmsKernel.nD Cert.RmsKernel.τ).loc Cert.RmsKernel.main_arg4) = m ((c.tc : Thread Cert.RmsKernel.nD Cert.RmsKernel.τ).loc Cert.RmsKernel.main_arg4)
      ∧ r.2.mem ((c.tc : Thread Cert.RmsKernel.nD Cert.RmsKernel.τ).loc Cert.RmsKernel.main_arg5) = m ((c.tc : Thread Cert.RmsKernel.nD Cert.RmsKernel.τ).loc Cert.RmsKernel.main_arg5)
      ∧ r.2.mem ((c.tc : Thread Cert.RmsKernel.nD Cert.RmsKernel.τ).loc Cert.RmsKernel.main_arg6) = m ((c.tc : Thread Cert.RmsKernel.nD Cert.RmsKernel.τ).loc Cert.RmsKernel.main_arg6)
      ∧ r.2.mem ((c.tc : Thread Cert.RmsKernel.nD Cert.RmsKernel.τ).loc Cert.RmsKernel.main_arg7) = m ((c.tc : Thread Cert.RmsKernel.nD Cert.RmsKernel.τ).loc Cert.RmsKernel.main_arg7))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3)
      ∧ r.2.mem ((c.tc : Thread Cert.RmsKernelIdeal.nD Cert.RmsKernelIdeal.τ).loc Cert.RmsKernelIdeal.main_arg4) = m ((c.tc : Thread Cert.RmsKernelIdeal.nD Cert.RmsKernelIdeal.τ).loc Cert.RmsKernelIdeal.main_arg4)
      ∧ r.2.mem ((c.tc : Thread Cert.RmsKernelIdeal.nD Cert.RmsKernelIdeal.τ).loc Cert.RmsKernelIdeal.main_arg5) = m ((c.tc : Thread Cert.RmsKernelIdeal.nD Cert.RmsKernelIdeal.τ).loc Cert.RmsKernelIdeal.main_arg5)
      ∧ r.2.mem ((c.tc : Thread Cert.RmsKernelIdeal.nD Cert.RmsKernelIdeal.τ).loc Cert.RmsKernelIdeal.main_arg6) = m ((c.tc : Thread Cert.RmsKernelIdeal.nD Cert.RmsKernelIdeal.τ).loc Cert.RmsKernelIdeal.main_arg6)
      ∧ r.2.mem ((c.tc : Thread Cert.RmsKernelIdeal.nD Cert.RmsKernelIdeal.τ).loc Cert.RmsKernelIdeal.main_arg7) = m ((c.tc : Thread Cert.RmsKernelIdeal.nD Cert.RmsKernelIdeal.τ).loc Cert.RmsKernelIdeal.main_arg7))
      ∧ r.2.sem = fun _ => 0)

def quiescent_RmsKernelIdeal_pre_finite_rms [hRmsKernelIdeal : Cert.RmsKernelIdeal.Facts] [hPre_finite_rms : Cert.Pre_finite_rms.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal_finite_rms m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3)
      ∧ r.2.mem ((c.tc : Thread Cert.RmsKernelIdeal.nD Cert.RmsKernelIdeal.τ).loc Cert.RmsKernelIdeal.main_arg4) = m ((c.tc : Thread Cert.RmsKernelIdeal.nD Cert.RmsKernelIdeal.τ).loc Cert.RmsKernelIdeal.main_arg4)
      ∧ r.2.mem ((c.tc : Thread Cert.RmsKernelIdeal.nD Cert.RmsKernelIdeal.τ).loc Cert.RmsKernelIdeal.main_arg5) = m ((c.tc : Thread Cert.RmsKernelIdeal.nD Cert.RmsKernelIdeal.τ).loc Cert.RmsKernelIdeal.main_arg5)
      ∧ r.2.mem ((c.tc : Thread Cert.RmsKernelIdeal.nD Cert.RmsKernelIdeal.τ).loc Cert.RmsKernelIdeal.main_arg6) = m ((c.tc : Thread Cert.RmsKernelIdeal.nD Cert.RmsKernelIdeal.τ).loc Cert.RmsKernelIdeal.main_arg6)
      ∧ r.2.mem ((c.tc : Thread Cert.RmsKernelIdeal.nD Cert.RmsKernelIdeal.τ).loc Cert.RmsKernelIdeal.main_arg7) = m ((c.tc : Thread Cert.RmsKernelIdeal.nD Cert.RmsKernelIdeal.τ).loc Cert.RmsKernelIdeal.main_arg7))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3)
      ∧ r.2.mem ((c.tc : Thread Cert.RmsReferenceIdeal.nD Cert.RmsReferenceIdeal.τ).loc Cert.RmsReferenceIdeal.main_arg4) = m ((c.tc : Thread Cert.RmsReferenceIdeal.nD Cert.RmsReferenceIdeal.τ).loc Cert.RmsReferenceIdeal.main_arg4)
      ∧ r.2.mem ((c.tc : Thread Cert.RmsReferenceIdeal.nD Cert.RmsReferenceIdeal.τ).loc Cert.RmsReferenceIdeal.main_arg5) = m ((c.tc : Thread Cert.RmsReferenceIdeal.nD Cert.RmsReferenceIdeal.τ).loc Cert.RmsReferenceIdeal.main_arg5)
      ∧ r.2.mem ((c.tc : Thread Cert.RmsReferenceIdeal.nD Cert.RmsReferenceIdeal.τ).loc Cert.RmsReferenceIdeal.main_arg6) = m ((c.tc : Thread Cert.RmsReferenceIdeal.nD Cert.RmsReferenceIdeal.τ).loc Cert.RmsReferenceIdeal.main_arg6)
      ∧ r.2.mem ((c.tc : Thread Cert.RmsReferenceIdeal.nD Cert.RmsReferenceIdeal.τ).loc Cert.RmsReferenceIdeal.main_arg7) = m ((c.tc : Thread Cert.RmsReferenceIdeal.nD Cert.RmsReferenceIdeal.τ).loc Cert.RmsReferenceIdeal.main_arg7))
      ∧ r.2.sem = fun _ => 0)

def quiescent_RmsReferenceIdeal_pre_finite_rms [hRmsReferenceIdeal : Cert.RmsReferenceIdeal.Facts] [hPre_finite_rms : Cert.Pre_finite_rms.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal_finite_rms m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3)
      ∧ r.2.mem ((c.tc : Thread Cert.RmsReferenceIdeal.nD Cert.RmsReferenceIdeal.τ).loc Cert.RmsReferenceIdeal.main_arg4) = m ((c.tc : Thread Cert.RmsReferenceIdeal.nD Cert.RmsReferenceIdeal.τ).loc Cert.RmsReferenceIdeal.main_arg4)
      ∧ r.2.mem ((c.tc : Thread Cert.RmsReferenceIdeal.nD Cert.RmsReferenceIdeal.τ).loc Cert.RmsReferenceIdeal.main_arg5) = m ((c.tc : Thread Cert.RmsReferenceIdeal.nD Cert.RmsReferenceIdeal.τ).loc Cert.RmsReferenceIdeal.main_arg5)
      ∧ r.2.mem ((c.tc : Thread Cert.RmsReferenceIdeal.nD Cert.RmsReferenceIdeal.τ).loc Cert.RmsReferenceIdeal.main_arg6) = m ((c.tc : Thread Cert.RmsReferenceIdeal.nD Cert.RmsReferenceIdeal.τ).loc Cert.RmsReferenceIdeal.main_arg6)
      ∧ r.2.mem ((c.tc : Thread Cert.RmsReferenceIdeal.nD Cert.RmsReferenceIdeal.τ).loc Cert.RmsReferenceIdeal.main_arg7) = m ((c.tc : Thread Cert.RmsReferenceIdeal.nD Cert.RmsReferenceIdeal.τ).loc Cert.RmsReferenceIdeal.main_arg7))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolKernelIdeal_pre_finite_pool [hPoolKernelIdeal : Cert.PoolKernelIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_finite_pool m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolReferenceIdeal_pre_finite_pool [hPoolReferenceIdeal : Cert.PoolReferenceIdeal.Facts] [hPre_finite_pool : Cert.Pre_finite_pool.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_pool m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6)
      ∧ r.2.mem ((c.tc : Thread Cert.AttnKernel.nD Cert.AttnKernel.τ).loc Cert.AttnKernel.main_arg7) = m ((c.tc : Thread Cert.AttnKernel.nD Cert.AttnKernel.τ).loc Cert.AttnKernel.main_arg7)
      ∧ r.2.mem ((c.tc : Thread Cert.AttnKernel.nD Cert.AttnKernel.τ).loc Cert.AttnKernel.main_arg8) = m ((c.tc : Thread Cert.AttnKernel.nD Cert.AttnKernel.τ).loc Cert.AttnKernel.main_arg8))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7)
      ∧ r.2.mem ((c.tc : Thread Cert.AttnKernelIdeal.nD Cert.AttnKernelIdeal.τ).loc Cert.AttnKernelIdeal.main_arg8) = m ((c.tc : Thread Cert.AttnKernelIdeal.nD Cert.AttnKernelIdeal.τ).loc Cert.AttnKernelIdeal.main_arg8))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7)
      ∧ r.2.mem ((c.tc : Thread Cert.AttnKernelIdeal.nD Cert.AttnKernelIdeal.τ).loc Cert.AttnKernelIdeal.main_arg8) = m ((c.tc : Thread Cert.AttnKernelIdeal.nD Cert.AttnKernelIdeal.τ).loc Cert.AttnKernelIdeal.main_arg8))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_LruKernel [hLruKernel : Cert.LruKernel.Facts] : Prop :=
  ∀ (m : (ℓ : Loc Cert.LruKernel.nD Cert.LruKernel.τ Cert.LruKernel.sig) → Buf (Elt Bits) ℓ) (g : Dev Cert.LruKernel.nD → PrngReg), Pre_LruKernel m →
    θ_run (Cert.LruKernel.defs (F := Bits)) (onTc (τ := Cert.LruKernel.τ) (Cert.LruKernel.main (F := Bits))) ⟨m, fun _ => 0, g⟩ (fun r => (∀ c : Dev Cert.LruKernel.nD,
      r.2.mem ((c.tc : Thread Cert.LruKernel.nD Cert.LruKernel.τ).loc Cert.LruKernel.main_arg0) = m ((c.tc : Thread Cert.LruKernel.nD Cert.LruKernel.τ).loc Cert.LruKernel.main_arg0)
      ∧ r.2.mem ((c.tc : Thread Cert.LruKernel.nD Cert.LruKernel.τ).loc Cert.LruKernel.main_arg1) = m ((c.tc : Thread Cert.LruKernel.nD Cert.LruKernel.τ).loc Cert.LruKernel.main_arg1)
      ∧ r.2.mem ((c.tc : Thread Cert.LruKernel.nD Cert.LruKernel.τ).loc Cert.LruKernel.main_arg2) = m ((c.tc : Thread Cert.LruKernel.nD Cert.LruKernel.τ).loc Cert.LruKernel.main_arg2)
      ∧ r.2.mem ((c.tc : Thread Cert.LruKernel.nD Cert.LruKernel.τ).loc Cert.LruKernel.main_arg3) = m ((c.tc : Thread Cert.LruKernel.nD Cert.LruKernel.τ).loc Cert.LruKernel.main_arg3)
      ∧ r.2.mem ((c.tc : Thread Cert.LruKernel.nD Cert.LruKernel.τ).loc Cert.LruKernel.main_arg4) = m ((c.tc : Thread Cert.LruKernel.nD Cert.LruKernel.τ).loc Cert.LruKernel.main_arg4)
      ∧ r.2.mem ((c.tc : Thread Cert.LruKernel.nD Cert.LruKernel.τ).loc Cert.LruKernel.main_arg5) = m ((c.tc : Thread Cert.LruKernel.nD Cert.LruKernel.τ).loc Cert.LruKernel.main_arg5)
      ∧ r.2.mem ((c.tc : Thread Cert.LruKernel.nD Cert.LruKernel.τ).loc Cert.LruKernel.main_arg6) = m ((c.tc : Thread Cert.LruKernel.nD Cert.LruKernel.τ).loc Cert.LruKernel.main_arg6)
      ∧ r.2.mem ((c.tc : Thread Cert.LruKernel.nD Cert.LruKernel.τ).loc Cert.LruKernel.main_arg7) = m ((c.tc : Thread Cert.LruKernel.nD Cert.LruKernel.τ).loc Cert.LruKernel.main_arg7)
      ∧ r.2.mem ((c.tc : Thread Cert.LruKernel.nD Cert.LruKernel.τ).loc Cert.LruKernel.main_arg8) = m ((c.tc : Thread Cert.LruKernel.nD Cert.LruKernel.τ).loc Cert.LruKernel.main_arg8))
      ∧ r.2.sem = fun _ => 0)

def quiescent_LruKernelIdeal [hLruKernelIdeal : Cert.LruKernelIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
      ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8))
      ∧ r.2.sem = fun _ => 0)

def quiescent_AttnFKernel [hAttnFKernel : Cert.AttnFKernel.Facts] : Prop :=
  ∀ (m : (ℓ : Loc Cert.AttnFKernel.nD Cert.AttnFKernel.τ Cert.AttnFKernel.sig) → Buf (Elt Bits) ℓ) (g : Dev Cert.AttnFKernel.nD → PrngReg), Pre_AttnFKernel m →
    θ_run (Cert.AttnFKernel.defs (F := Bits)) (onTc (τ := Cert.AttnFKernel.τ) (Cert.AttnFKernel.main (F := Bits))) ⟨m, fun _ => 0, g⟩ (fun r => (∀ c : Dev Cert.AttnFKernel.nD,
      r.2.mem ((c.tc : Thread Cert.AttnFKernel.nD Cert.AttnFKernel.τ).loc Cert.AttnFKernel.main_arg0) = m ((c.tc : Thread Cert.AttnFKernel.nD Cert.AttnFKernel.τ).loc Cert.AttnFKernel.main_arg0)
      ∧ r.2.mem ((c.tc : Thread Cert.AttnFKernel.nD Cert.AttnFKernel.τ).loc Cert.AttnFKernel.main_arg1) = m ((c.tc : Thread Cert.AttnFKernel.nD Cert.AttnFKernel.τ).loc Cert.AttnFKernel.main_arg1)
      ∧ r.2.mem ((c.tc : Thread Cert.AttnFKernel.nD Cert.AttnFKernel.τ).loc Cert.AttnFKernel.main_arg2) = m ((c.tc : Thread Cert.AttnFKernel.nD Cert.AttnFKernel.τ).loc Cert.AttnFKernel.main_arg2)
      ∧ r.2.mem ((c.tc : Thread Cert.AttnFKernel.nD Cert.AttnFKernel.τ).loc Cert.AttnFKernel.main_arg3) = m ((c.tc : Thread Cert.AttnFKernel.nD Cert.AttnFKernel.τ).loc Cert.AttnFKernel.main_arg3)
      ∧ r.2.mem ((c.tc : Thread Cert.AttnFKernel.nD Cert.AttnFKernel.τ).loc Cert.AttnFKernel.main_arg4) = m ((c.tc : Thread Cert.AttnFKernel.nD Cert.AttnFKernel.τ).loc Cert.AttnFKernel.main_arg4)
      ∧ r.2.mem ((c.tc : Thread Cert.AttnFKernel.nD Cert.AttnFKernel.τ).loc Cert.AttnFKernel.main_arg5) = m ((c.tc : Thread Cert.AttnFKernel.nD Cert.AttnFKernel.τ).loc Cert.AttnFKernel.main_arg5)
      ∧ r.2.mem ((c.tc : Thread Cert.AttnFKernel.nD Cert.AttnFKernel.τ).loc Cert.AttnFKernel.main_arg6) = m ((c.tc : Thread Cert.AttnFKernel.nD Cert.AttnFKernel.τ).loc Cert.AttnFKernel.main_arg6)
      ∧ r.2.mem ((c.tc : Thread Cert.AttnFKernel.nD Cert.AttnFKernel.τ).loc Cert.AttnFKernel.main_arg7) = m ((c.tc : Thread Cert.AttnFKernel.nD Cert.AttnFKernel.τ).loc Cert.AttnFKernel.main_arg7))
      ∧ r.2.sem = fun _ => 0)

def quiescent_AttnFKernelIdeal [hAttnFKernelIdeal : Cert.AttnFKernelIdeal.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg), Pre_AttnFKernelIdeal m →
    θ_run (Cert.AttnFKernelIdeal.defs (F := Ideal)) (onTc (τ := Cert.AttnFKernelIdeal.τ) (Cert.AttnFKernelIdeal.main (F := Ideal))) ⟨m, fun _ => 0, g⟩ (fun r => (∀ c : Dev Cert.AttnFKernelIdeal.nD,
      r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
      ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1)
      ∧ r.2.mem ((c.tc : Thread Cert.AttnFKernelIdeal.nD Cert.AttnFKernelIdeal.τ).loc Cert.AttnFKernelIdeal.main_arg2) = m ((c.tc : Thread Cert.AttnFKernelIdeal.nD Cert.AttnFKernelIdeal.τ).loc Cert.AttnFKernelIdeal.main_arg2)
      ∧ r.2.mem ((c.tc : Thread Cert.AttnFKernelIdeal.nD Cert.AttnFKernelIdeal.τ).loc Cert.AttnFKernelIdeal.main_arg3) = m ((c.tc : Thread Cert.AttnFKernelIdeal.nD Cert.AttnFKernelIdeal.τ).loc Cert.AttnFKernelIdeal.main_arg3)
      ∧ r.2.mem ((c.tc : Thread Cert.AttnFKernelIdeal.nD Cert.AttnFKernelIdeal.τ).loc Cert.AttnFKernelIdeal.main_arg4) = m ((c.tc : Thread Cert.AttnFKernelIdeal.nD Cert.AttnFKernelIdeal.τ).loc Cert.AttnFKernelIdeal.main_arg4)
      ∧ r.2.mem ((c.tc : Thread Cert.AttnFKernelIdeal.nD Cert.AttnFKernelIdeal.τ).loc Cert.AttnFKernelIdeal.main_arg5) = m ((c.tc : Thread Cert.AttnFKernelIdeal.nD Cert.AttnFKernelIdeal.τ).loc Cert.AttnFKernelIdeal.main_arg5)
      ∧ r.2.mem ((c.tc : Thread Cert.AttnFKernelIdeal.nD Cert.AttnFKernelIdeal.τ).loc Cert.AttnFKernelIdeal.main_arg6) = m ((c.tc : Thread Cert.AttnFKernelIdeal.nD Cert.AttnFKernelIdeal.τ).loc Cert.AttnFKernelIdeal.main_arg6)
      ∧ r.2.mem ((c.tc : Thread Cert.AttnFKernelIdeal.nD Cert.AttnFKernelIdeal.τ).loc Cert.AttnFKernelIdeal.main_arg7) = m ((c.tc : Thread Cert.AttnFKernelIdeal.nD Cert.AttnFKernelIdeal.τ).loc Cert.AttnFKernelIdeal.main_arg7))
      ∧ r.2.sem = fun _ => 0)

def quiescent_AttnFKernelIdeal_pre_finite_attn_fwd [hAttnFKernelIdeal : Cert.AttnFKernelIdeal.Facts] [hPre_finite_attn_fwd : Cert.Pre_finite_attn_fwd.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg), Pre_AttnFKernelIdeal_finite_attn_fwd m →
    θ_run (Cert.AttnFKernelIdeal.defs (F := Ideal)) (onTc (τ := Cert.AttnFKernelIdeal.τ) (Cert.AttnFKernelIdeal.main (F := Ideal))) ⟨m, fun _ => 0, g⟩ (fun r => (∀ c : Dev Cert.AttnFKernelIdeal.nD,
      r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
      ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1)
      ∧ r.2.mem ((c.tc : Thread Cert.AttnFKernelIdeal.nD Cert.AttnFKernelIdeal.τ).loc Cert.AttnFKernelIdeal.main_arg2) = m ((c.tc : Thread Cert.AttnFKernelIdeal.nD Cert.AttnFKernelIdeal.τ).loc Cert.AttnFKernelIdeal.main_arg2)
      ∧ r.2.mem ((c.tc : Thread Cert.AttnFKernelIdeal.nD Cert.AttnFKernelIdeal.τ).loc Cert.AttnFKernelIdeal.main_arg3) = m ((c.tc : Thread Cert.AttnFKernelIdeal.nD Cert.AttnFKernelIdeal.τ).loc Cert.AttnFKernelIdeal.main_arg3)
      ∧ r.2.mem ((c.tc : Thread Cert.AttnFKernelIdeal.nD Cert.AttnFKernelIdeal.τ).loc Cert.AttnFKernelIdeal.main_arg4) = m ((c.tc : Thread Cert.AttnFKernelIdeal.nD Cert.AttnFKernelIdeal.τ).loc Cert.AttnFKernelIdeal.main_arg4)
      ∧ r.2.mem ((c.tc : Thread Cert.AttnFKernelIdeal.nD Cert.AttnFKernelIdeal.τ).loc Cert.AttnFKernelIdeal.main_arg5) = m ((c.tc : Thread Cert.AttnFKernelIdeal.nD Cert.AttnFKernelIdeal.τ).loc Cert.AttnFKernelIdeal.main_arg5)
      ∧ r.2.mem ((c.tc : Thread Cert.AttnFKernelIdeal.nD Cert.AttnFKernelIdeal.τ).loc Cert.AttnFKernelIdeal.main_arg6) = m ((c.tc : Thread Cert.AttnFKernelIdeal.nD Cert.AttnFKernelIdeal.τ).loc Cert.AttnFKernelIdeal.main_arg6)
      ∧ r.2.mem ((c.tc : Thread Cert.AttnFKernelIdeal.nD Cert.AttnFKernelIdeal.τ).loc Cert.AttnFKernelIdeal.main_arg7) = m ((c.tc : Thread Cert.AttnFKernelIdeal.nD Cert.AttnFKernelIdeal.τ).loc Cert.AttnFKernelIdeal.main_arg7))
      ∧ r.2.sem = fun _ => 0)

def quiescent_AttnFReferenceIdeal [hAttnFReferenceIdeal : Cert.AttnFReferenceIdeal.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1)
      ∧ r.2.mem ((c.tc : Thread Cert.AttnFReferenceIdeal.nD Cert.AttnFReferenceIdeal.τ).loc Cert.AttnFReferenceIdeal.main_arg2) = m ((c.tc : Thread Cert.AttnFReferenceIdeal.nD Cert.AttnFReferenceIdeal.τ).loc Cert.AttnFReferenceIdeal.main_arg2)
      ∧ r.2.mem ((c.tc : Thread Cert.AttnFReferenceIdeal.nD Cert.AttnFReferenceIdeal.τ).loc Cert.AttnFReferenceIdeal.main_arg3) = m ((c.tc : Thread Cert.AttnFReferenceIdeal.nD Cert.AttnFReferenceIdeal.τ).loc Cert.AttnFReferenceIdeal.main_arg3)
      ∧ r.2.mem ((c.tc : Thread Cert.AttnFReferenceIdeal.nD Cert.AttnFReferenceIdeal.τ).loc Cert.AttnFReferenceIdeal.main_arg4) = m ((c.tc : Thread Cert.AttnFReferenceIdeal.nD Cert.AttnFReferenceIdeal.τ).loc Cert.AttnFReferenceIdeal.main_arg4)
      ∧ r.2.mem ((c.tc : Thread Cert.AttnFReferenceIdeal.nD Cert.AttnFReferenceIdeal.τ).loc Cert.AttnFReferenceIdeal.main_arg5) = m ((c.tc : Thread Cert.AttnFReferenceIdeal.nD Cert.AttnFReferenceIdeal.τ).loc Cert.AttnFReferenceIdeal.main_arg5)
      ∧ r.2.mem ((c.tc : Thread Cert.AttnFReferenceIdeal.nD Cert.AttnFReferenceIdeal.τ).loc Cert.AttnFReferenceIdeal.main_arg6) = m ((c.tc : Thread Cert.AttnFReferenceIdeal.nD Cert.AttnFReferenceIdeal.τ).loc Cert.AttnFReferenceIdeal.main_arg6)
      ∧ r.2.mem ((c.tc : Thread Cert.AttnFReferenceIdeal.nD Cert.AttnFReferenceIdeal.τ).loc Cert.AttnFReferenceIdeal.main_arg7) = m ((c.tc : Thread Cert.AttnFReferenceIdeal.nD Cert.AttnFReferenceIdeal.τ).loc Cert.AttnFReferenceIdeal.main_arg7))
      ∧ r.2.sem = fun _ => 0)

def quiescent_AttnFReferenceIdeal_pre_finite_attn_fwd [hAttnFReferenceIdeal : Cert.AttnFReferenceIdeal.Facts] [hPre_finite_attn_fwd : Cert.Pre_finite_attn_fwd.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal_finite_attn_fwd m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1)
      ∧ r.2.mem ((c.tc : Thread Cert.AttnFReferenceIdeal.nD Cert.AttnFReferenceIdeal.τ).loc Cert.AttnFReferenceIdeal.main_arg2) = m ((c.tc : Thread Cert.AttnFReferenceIdeal.nD Cert.AttnFReferenceIdeal.τ).loc Cert.AttnFReferenceIdeal.main_arg2)
      ∧ r.2.mem ((c.tc : Thread Cert.AttnFReferenceIdeal.nD Cert.AttnFReferenceIdeal.τ).loc Cert.AttnFReferenceIdeal.main_arg3) = m ((c.tc : Thread Cert.AttnFReferenceIdeal.nD Cert.AttnFReferenceIdeal.τ).loc Cert.AttnFReferenceIdeal.main_arg3)
      ∧ r.2.mem ((c.tc : Thread Cert.AttnFReferenceIdeal.nD Cert.AttnFReferenceIdeal.τ).loc Cert.AttnFReferenceIdeal.main_arg4) = m ((c.tc : Thread Cert.AttnFReferenceIdeal.nD Cert.AttnFReferenceIdeal.τ).loc Cert.AttnFReferenceIdeal.main_arg4)
      ∧ r.2.mem ((c.tc : Thread Cert.AttnFReferenceIdeal.nD Cert.AttnFReferenceIdeal.τ).loc Cert.AttnFReferenceIdeal.main_arg5) = m ((c.tc : Thread Cert.AttnFReferenceIdeal.nD Cert.AttnFReferenceIdeal.τ).loc Cert.AttnFReferenceIdeal.main_arg5)
      ∧ r.2.mem ((c.tc : Thread Cert.AttnFReferenceIdeal.nD Cert.AttnFReferenceIdeal.τ).loc Cert.AttnFReferenceIdeal.main_arg6) = m ((c.tc : Thread Cert.AttnFReferenceIdeal.nD Cert.AttnFReferenceIdeal.τ).loc Cert.AttnFReferenceIdeal.main_arg6)
      ∧ r.2.mem ((c.tc : Thread Cert.AttnFReferenceIdeal.nD Cert.AttnFReferenceIdeal.τ).loc Cert.AttnFReferenceIdeal.main_arg7) = m ((c.tc : Thread Cert.AttnFReferenceIdeal.nD Cert.AttnFReferenceIdeal.τ).loc Cert.AttnFReferenceIdeal.main_arg7))
      ∧ r.2.sem = fun _ => 0)

def quiescent_ResLnKernel [hResLnKernel : Cert.ResLnKernel.Facts] : Prop :=
  ∀ (m : (ℓ : Loc Cert.ResLnKernel.nD Cert.ResLnKernel.τ Cert.ResLnKernel.sig) → Buf (Elt Bits) ℓ) (g : Dev Cert.ResLnKernel.nD → PrngReg), Pre_ResLnKernel m →
    θ_run (Cert.ResLnKernel.defs (F := Bits)) (onTc (τ := Cert.ResLnKernel.τ) (Cert.ResLnKernel.main (F := Bits))) ⟨m, fun _ => 0, g⟩ (fun r => (∀ c : Dev Cert.ResLnKernel.nD,
      r.2.mem ((c.tc : Thread Cert.ResLnKernel.nD Cert.ResLnKernel.τ).loc Cert.ResLnKernel.main_arg0) = m ((c.tc : Thread Cert.ResLnKernel.nD Cert.ResLnKernel.τ).loc Cert.ResLnKernel.main_arg0)
      ∧ r.2.mem ((c.tc : Thread Cert.ResLnKernel.nD Cert.ResLnKernel.τ).loc Cert.ResLnKernel.main_arg1) = m ((c.tc : Thread Cert.ResLnKernel.nD Cert.ResLnKernel.τ).loc Cert.ResLnKernel.main_arg1)
      ∧ r.2.mem ((c.tc : Thread Cert.ResLnKernel.nD Cert.ResLnKernel.τ).loc Cert.ResLnKernel.main_arg2) = m ((c.tc : Thread Cert.ResLnKernel.nD Cert.ResLnKernel.τ).loc Cert.ResLnKernel.main_arg2)
      ∧ r.2.mem ((c.tc : Thread Cert.ResLnKernel.nD Cert.ResLnKernel.τ).loc Cert.ResLnKernel.main_arg3) = m ((c.tc : Thread Cert.ResLnKernel.nD Cert.ResLnKernel.τ).loc Cert.ResLnKernel.main_arg3))
      ∧ r.2.sem = fun _ => 0)

def quiescent_ResLnKernelIdeal [hResLnKernelIdeal : Cert.ResLnKernelIdeal.Facts] : Prop :=
  ∀ (m : (ℓ : Loc Cert.ResLnKernelIdeal.nD Cert.ResLnKernelIdeal.τ Cert.ResLnKernelIdeal.sig) → Buf (Elt Ideal) ℓ) (g : Dev Cert.ResLnKernelIdeal.nD → PrngReg), Pre_ResLnKernelIdeal m →
    θ_run (Cert.ResLnKernelIdeal.defs (F := Ideal)) (onTc (τ := Cert.ResLnKernelIdeal.τ) (Cert.ResLnKernelIdeal.main (F := Ideal))) ⟨m, fun _ => 0, g⟩ (fun r => (∀ c : Dev Cert.ResLnKernelIdeal.nD,
      r.2.mem ((c.tc : Thread Cert.ResLnKernelIdeal.nD Cert.ResLnKernelIdeal.τ).loc Cert.ResLnKernelIdeal.main_arg0) = m ((c.tc : Thread Cert.ResLnKernelIdeal.nD Cert.ResLnKernelIdeal.τ).loc Cert.ResLnKernelIdeal.main_arg0)
      ∧ r.2.mem ((c.tc : Thread Cert.ResLnKernelIdeal.nD Cert.ResLnKernelIdeal.τ).loc Cert.ResLnKernelIdeal.main_arg1) = m ((c.tc : Thread Cert.ResLnKernelIdeal.nD Cert.ResLnKernelIdeal.τ).loc Cert.ResLnKernelIdeal.main_arg1)
      ∧ r.2.mem ((c.tc : Thread Cert.ResLnKernelIdeal.nD Cert.ResLnKernelIdeal.τ).loc Cert.ResLnKernelIdeal.main_arg2) = m ((c.tc : Thread Cert.ResLnKernelIdeal.nD Cert.ResLnKernelIdeal.τ).loc Cert.ResLnKernelIdeal.main_arg2)
      ∧ r.2.mem ((c.tc : Thread Cert.ResLnKernelIdeal.nD Cert.ResLnKernelIdeal.τ).loc Cert.ResLnKernelIdeal.main_arg3) = m ((c.tc : Thread Cert.ResLnKernelIdeal.nD Cert.ResLnKernelIdeal.τ).loc Cert.ResLnKernelIdeal.main_arg3))
      ∧ r.2.sem = fun _ => 0)

def quiescent_ResLnReferenceIdeal [hResLnReferenceIdeal : Cert.ResLnReferenceIdeal.Facts] : Prop :=
  ∀ (m : (ℓ : Loc Cert.ResLnReferenceIdeal.nD Cert.ResLnReferenceIdeal.τ Cert.ResLnReferenceIdeal.sig) → Buf (Elt Ideal) ℓ) (g : Dev Cert.ResLnReferenceIdeal.nD → PrngReg), Pre_ResLnReferenceIdeal m →
    θ_run (Cert.ResLnReferenceIdeal.defs (F := Ideal)) (onTc (τ := Cert.ResLnReferenceIdeal.τ) (Cert.ResLnReferenceIdeal.main (F := Ideal))) ⟨m, fun _ => 0, g⟩ (fun r => (∀ c : Dev Cert.ResLnReferenceIdeal.nD,
      r.2.mem ((c.tc : Thread Cert.ResLnReferenceIdeal.nD Cert.ResLnReferenceIdeal.τ).loc Cert.ResLnReferenceIdeal.main_arg0) = m ((c.tc : Thread Cert.ResLnReferenceIdeal.nD Cert.ResLnReferenceIdeal.τ).loc Cert.ResLnReferenceIdeal.main_arg0)
      ∧ r.2.mem ((c.tc : Thread Cert.ResLnReferenceIdeal.nD Cert.ResLnReferenceIdeal.τ).loc Cert.ResLnReferenceIdeal.main_arg1) = m ((c.tc : Thread Cert.ResLnReferenceIdeal.nD Cert.ResLnReferenceIdeal.τ).loc Cert.ResLnReferenceIdeal.main_arg1)
      ∧ r.2.mem ((c.tc : Thread Cert.ResLnReferenceIdeal.nD Cert.ResLnReferenceIdeal.τ).loc Cert.ResLnReferenceIdeal.main_arg2) = m ((c.tc : Thread Cert.ResLnReferenceIdeal.nD Cert.ResLnReferenceIdeal.τ).loc Cert.ResLnReferenceIdeal.main_arg2)
      ∧ r.2.mem ((c.tc : Thread Cert.ResLnReferenceIdeal.nD Cert.ResLnReferenceIdeal.τ).loc Cert.ResLnReferenceIdeal.main_arg3) = m ((c.tc : Thread Cert.ResLnReferenceIdeal.nD Cert.ResLnReferenceIdeal.τ).loc Cert.ResLnReferenceIdeal.main_arg3))
      ∧ r.2.sem = fun _ => 0)

def quiescent_ProjLnKernel [hProjLnKernel : Cert.ProjLnKernel.Facts] : Prop :=
  ∀ (m : (ℓ : Loc Cert.ProjLnKernel.nD Cert.ProjLnKernel.τ Cert.ProjLnKernel.sig) → Buf (Elt Bits) ℓ) (g : Dev Cert.ProjLnKernel.nD → PrngReg), Pre_ProjLnKernel m →
    θ_run (Cert.ProjLnKernel.defs (F := Bits)) (onTc (τ := Cert.ProjLnKernel.τ) (Cert.ProjLnKernel.main (F := Bits))) ⟨m, fun _ => 0, g⟩ (fun r => (∀ c : Dev Cert.ProjLnKernel.nD,
      r.2.mem ((c.tc : Thread Cert.ProjLnKernel.nD Cert.ProjLnKernel.τ).loc Cert.ProjLnKernel.main_arg0) = m ((c.tc : Thread Cert.ProjLnKernel.nD Cert.ProjLnKernel.τ).loc Cert.ProjLnKernel.main_arg0)
      ∧ r.2.mem ((c.tc : Thread Cert.ProjLnKernel.nD Cert.ProjLnKernel.τ).loc Cert.ProjLnKernel.main_arg1) = m ((c.tc : Thread Cert.ProjLnKernel.nD Cert.ProjLnKernel.τ).loc Cert.ProjLnKernel.main_arg1)
      ∧ r.2.mem ((c.tc : Thread Cert.ProjLnKernel.nD Cert.ProjLnKernel.τ).loc Cert.ProjLnKernel.main_arg2) = m ((c.tc : Thread Cert.ProjLnKernel.nD Cert.ProjLnKernel.τ).loc Cert.ProjLnKernel.main_arg2)
      ∧ r.2.mem ((c.tc : Thread Cert.ProjLnKernel.nD Cert.ProjLnKernel.τ).loc Cert.ProjLnKernel.main_arg3) = m ((c.tc : Thread Cert.ProjLnKernel.nD Cert.ProjLnKernel.τ).loc Cert.ProjLnKernel.main_arg3)
      ∧ r.2.mem ((c.tc : Thread Cert.ProjLnKernel.nD Cert.ProjLnKernel.τ).loc Cert.ProjLnKernel.main_arg4) = m ((c.tc : Thread Cert.ProjLnKernel.nD Cert.ProjLnKernel.τ).loc Cert.ProjLnKernel.main_arg4))
      ∧ r.2.sem = fun _ => 0)

def quiescent_ProjLnKernelIdeal [hProjLnKernelIdeal : Cert.ProjLnKernelIdeal.Facts] : Prop :=
  ∀ (m : (ℓ : Loc Cert.ProjLnKernelIdeal.nD Cert.ProjLnKernelIdeal.τ Cert.ProjLnKernelIdeal.sig) → Buf (Elt Ideal) ℓ) (g : Dev Cert.ProjLnKernelIdeal.nD → PrngReg), Pre_ProjLnKernelIdeal m →
    θ_run (Cert.ProjLnKernelIdeal.defs (F := Ideal)) (onTc (τ := Cert.ProjLnKernelIdeal.τ) (Cert.ProjLnKernelIdeal.main (F := Ideal))) ⟨m, fun _ => 0, g⟩ (fun r => (∀ c : Dev Cert.ProjLnKernelIdeal.nD,
      r.2.mem ((c.tc : Thread Cert.ProjLnKernelIdeal.nD Cert.ProjLnKernelIdeal.τ).loc Cert.ProjLnKernelIdeal.main_arg0) = m ((c.tc : Thread Cert.ProjLnKernelIdeal.nD Cert.ProjLnKernelIdeal.τ).loc Cert.ProjLnKernelIdeal.main_arg0)
      ∧ r.2.mem ((c.tc : Thread Cert.ProjLnKernelIdeal.nD Cert.ProjLnKernelIdeal.τ).loc Cert.ProjLnKernelIdeal.main_arg1) = m ((c.tc : Thread Cert.ProjLnKernelIdeal.nD Cert.ProjLnKernelIdeal.τ).loc Cert.ProjLnKernelIdeal.main_arg1)
      ∧ r.2.mem ((c.tc : Thread Cert.ProjLnKernelIdeal.nD Cert.ProjLnKernelIdeal.τ).loc Cert.ProjLnKernelIdeal.main_arg2) = m ((c.tc : Thread Cert.ProjLnKernelIdeal.nD Cert.ProjLnKernelIdeal.τ).loc Cert.ProjLnKernelIdeal.main_arg2)
      ∧ r.2.mem ((c.tc : Thread Cert.ProjLnKernelIdeal.nD Cert.ProjLnKernelIdeal.τ).loc Cert.ProjLnKernelIdeal.main_arg3) = m ((c.tc : Thread Cert.ProjLnKernelIdeal.nD Cert.ProjLnKernelIdeal.τ).loc Cert.ProjLnKernelIdeal.main_arg3)
      ∧ r.2.mem ((c.tc : Thread Cert.ProjLnKernelIdeal.nD Cert.ProjLnKernelIdeal.τ).loc Cert.ProjLnKernelIdeal.main_arg4) = m ((c.tc : Thread Cert.ProjLnKernelIdeal.nD Cert.ProjLnKernelIdeal.τ).loc Cert.ProjLnKernelIdeal.main_arg4))
      ∧ r.2.sem = fun _ => 0)

def quiescent_ProjLnReferenceIdeal [hProjLnReferenceIdeal : Cert.ProjLnReferenceIdeal.Facts] : Prop :=
  ∀ (m : (ℓ : Loc Cert.ProjLnReferenceIdeal.nD Cert.ProjLnReferenceIdeal.τ Cert.ProjLnReferenceIdeal.sig) → Buf (Elt Ideal) ℓ) (g : Dev Cert.ProjLnReferenceIdeal.nD → PrngReg), Pre_ProjLnReferenceIdeal m →
    θ_run (Cert.ProjLnReferenceIdeal.defs (F := Ideal)) (onTc (τ := Cert.ProjLnReferenceIdeal.τ) (Cert.ProjLnReferenceIdeal.main (F := Ideal))) ⟨m, fun _ => 0, g⟩ (fun r => (∀ c : Dev Cert.ProjLnReferenceIdeal.nD,
      r.2.mem ((c.tc : Thread Cert.ProjLnReferenceIdeal.nD Cert.ProjLnReferenceIdeal.τ).loc Cert.ProjLnReferenceIdeal.main_arg0) = m ((c.tc : Thread Cert.ProjLnReferenceIdeal.nD Cert.ProjLnReferenceIdeal.τ).loc Cert.ProjLnReferenceIdeal.main_arg0)
      ∧ r.2.mem ((c.tc : Thread Cert.ProjLnReferenceIdeal.nD Cert.ProjLnReferenceIdeal.τ).loc Cert.ProjLnReferenceIdeal.main_arg1) = m ((c.tc : Thread Cert.ProjLnReferenceIdeal.nD Cert.ProjLnReferenceIdeal.τ).loc Cert.ProjLnReferenceIdeal.main_arg1)
      ∧ r.2.mem ((c.tc : Thread Cert.ProjLnReferenceIdeal.nD Cert.ProjLnReferenceIdeal.τ).loc Cert.ProjLnReferenceIdeal.main_arg2) = m ((c.tc : Thread Cert.ProjLnReferenceIdeal.nD Cert.ProjLnReferenceIdeal.τ).loc Cert.ProjLnReferenceIdeal.main_arg2)
      ∧ r.2.mem ((c.tc : Thread Cert.ProjLnReferenceIdeal.nD Cert.ProjLnReferenceIdeal.τ).loc Cert.ProjLnReferenceIdeal.main_arg3) = m ((c.tc : Thread Cert.ProjLnReferenceIdeal.nD Cert.ProjLnReferenceIdeal.τ).loc Cert.ProjLnReferenceIdeal.main_arg3)
      ∧ r.2.mem ((c.tc : Thread Cert.ProjLnReferenceIdeal.nD Cert.ProjLnReferenceIdeal.τ).loc Cert.ProjLnReferenceIdeal.main_arg4) = m ((c.tc : Thread Cert.ProjLnReferenceIdeal.nD Cert.ProjLnReferenceIdeal.τ).loc Cert.ProjLnReferenceIdeal.main_arg4))
      ∧ r.2.sem = fun _ => 0)

def quiescent_MlpFKernel [hMlpFKernel : Cert.MlpFKernel.Facts] : Prop :=
  ∀ (m : (ℓ : Loc Cert.MlpFKernel.nD Cert.MlpFKernel.τ Cert.MlpFKernel.sig) → Buf (Elt Bits) ℓ) (g : Dev Cert.MlpFKernel.nD → PrngReg), Pre_MlpFKernel m →
    θ_run (Cert.MlpFKernel.defs (F := Bits)) (onTc (τ := Cert.MlpFKernel.τ) (Cert.MlpFKernel.main (F := Bits))) ⟨m, fun _ => 0, g⟩ (fun r => (∀ c : Dev Cert.MlpFKernel.nD,
      r.2.mem ((c.tc : Thread Cert.MlpFKernel.nD Cert.MlpFKernel.τ).loc Cert.MlpFKernel.main_arg0) = m ((c.tc : Thread Cert.MlpFKernel.nD Cert.MlpFKernel.τ).loc Cert.MlpFKernel.main_arg0)
      ∧ r.2.mem ((c.tc : Thread Cert.MlpFKernel.nD Cert.MlpFKernel.τ).loc Cert.MlpFKernel.main_arg1) = m ((c.tc : Thread Cert.MlpFKernel.nD Cert.MlpFKernel.τ).loc Cert.MlpFKernel.main_arg1)
      ∧ r.2.mem ((c.tc : Thread Cert.MlpFKernel.nD Cert.MlpFKernel.τ).loc Cert.MlpFKernel.main_arg2) = m ((c.tc : Thread Cert.MlpFKernel.nD Cert.MlpFKernel.τ).loc Cert.MlpFKernel.main_arg2)
      ∧ r.2.mem ((c.tc : Thread Cert.MlpFKernel.nD Cert.MlpFKernel.τ).loc Cert.MlpFKernel.main_arg3) = m ((c.tc : Thread Cert.MlpFKernel.nD Cert.MlpFKernel.τ).loc Cert.MlpFKernel.main_arg3)
      ∧ r.2.mem ((c.tc : Thread Cert.MlpFKernel.nD Cert.MlpFKernel.τ).loc Cert.MlpFKernel.main_arg4) = m ((c.tc : Thread Cert.MlpFKernel.nD Cert.MlpFKernel.τ).loc Cert.MlpFKernel.main_arg4))
      ∧ r.2.sem = fun _ => 0)

def quiescent_MlpFKernelIdeal [hMlpFKernelIdeal : Cert.MlpFKernelIdeal.Facts] : Prop :=
  ∀ (m : (ℓ : Loc Cert.MlpFKernelIdeal.nD Cert.MlpFKernelIdeal.τ Cert.MlpFKernelIdeal.sig) → Buf (Elt Ideal) ℓ) (g : Dev Cert.MlpFKernelIdeal.nD → PrngReg), Pre_MlpFKernelIdeal m →
    θ_run (Cert.MlpFKernelIdeal.defs (F := Ideal)) (onTc (τ := Cert.MlpFKernelIdeal.τ) (Cert.MlpFKernelIdeal.main (F := Ideal))) ⟨m, fun _ => 0, g⟩ (fun r => (∀ c : Dev Cert.MlpFKernelIdeal.nD,
      r.2.mem ((c.tc : Thread Cert.MlpFKernelIdeal.nD Cert.MlpFKernelIdeal.τ).loc Cert.MlpFKernelIdeal.main_arg0) = m ((c.tc : Thread Cert.MlpFKernelIdeal.nD Cert.MlpFKernelIdeal.τ).loc Cert.MlpFKernelIdeal.main_arg0)
      ∧ r.2.mem ((c.tc : Thread Cert.MlpFKernelIdeal.nD Cert.MlpFKernelIdeal.τ).loc Cert.MlpFKernelIdeal.main_arg1) = m ((c.tc : Thread Cert.MlpFKernelIdeal.nD Cert.MlpFKernelIdeal.τ).loc Cert.MlpFKernelIdeal.main_arg1)
      ∧ r.2.mem ((c.tc : Thread Cert.MlpFKernelIdeal.nD Cert.MlpFKernelIdeal.τ).loc Cert.MlpFKernelIdeal.main_arg2) = m ((c.tc : Thread Cert.MlpFKernelIdeal.nD Cert.MlpFKernelIdeal.τ).loc Cert.MlpFKernelIdeal.main_arg2)
      ∧ r.2.mem ((c.tc : Thread Cert.MlpFKernelIdeal.nD Cert.MlpFKernelIdeal.τ).loc Cert.MlpFKernelIdeal.main_arg3) = m ((c.tc : Thread Cert.MlpFKernelIdeal.nD Cert.MlpFKernelIdeal.τ).loc Cert.MlpFKernelIdeal.main_arg3)
      ∧ r.2.mem ((c.tc : Thread Cert.MlpFKernelIdeal.nD Cert.MlpFKernelIdeal.τ).loc Cert.MlpFKernelIdeal.main_arg4) = m ((c.tc : Thread Cert.MlpFKernelIdeal.nD Cert.MlpFKernelIdeal.τ).loc Cert.MlpFKernelIdeal.main_arg4))
      ∧ r.2.sem = fun _ => 0)

def quiescent_MlpFReferenceIdeal [hMlpFReferenceIdeal : Cert.MlpFReferenceIdeal.Facts] : Prop :=
  ∀ (m : (ℓ : Loc Cert.MlpFReferenceIdeal.nD Cert.MlpFReferenceIdeal.τ Cert.MlpFReferenceIdeal.sig) → Buf (Elt Ideal) ℓ) (g : Dev Cert.MlpFReferenceIdeal.nD → PrngReg), Pre_MlpFReferenceIdeal m →
    θ_run (Cert.MlpFReferenceIdeal.defs (F := Ideal)) (onTc (τ := Cert.MlpFReferenceIdeal.τ) (Cert.MlpFReferenceIdeal.main (F := Ideal))) ⟨m, fun _ => 0, g⟩ (fun r => (∀ c : Dev Cert.MlpFReferenceIdeal.nD,
      r.2.mem ((c.tc : Thread Cert.MlpFReferenceIdeal.nD Cert.MlpFReferenceIdeal.τ).loc Cert.MlpFReferenceIdeal.main_arg0) = m ((c.tc : Thread Cert.MlpFReferenceIdeal.nD Cert.MlpFReferenceIdeal.τ).loc Cert.MlpFReferenceIdeal.main_arg0)
      ∧ r.2.mem ((c.tc : Thread Cert.MlpFReferenceIdeal.nD Cert.MlpFReferenceIdeal.τ).loc Cert.MlpFReferenceIdeal.main_arg1) = m ((c.tc : Thread Cert.MlpFReferenceIdeal.nD Cert.MlpFReferenceIdeal.τ).loc Cert.MlpFReferenceIdeal.main_arg1)
      ∧ r.2.mem ((c.tc : Thread Cert.MlpFReferenceIdeal.nD Cert.MlpFReferenceIdeal.τ).loc Cert.MlpFReferenceIdeal.main_arg2) = m ((c.tc : Thread Cert.MlpFReferenceIdeal.nD Cert.MlpFReferenceIdeal.τ).loc Cert.MlpFReferenceIdeal.main_arg2)
      ∧ r.2.mem ((c.tc : Thread Cert.MlpFReferenceIdeal.nD Cert.MlpFReferenceIdeal.τ).loc Cert.MlpFReferenceIdeal.main_arg3) = m ((c.tc : Thread Cert.MlpFReferenceIdeal.nD Cert.MlpFReferenceIdeal.τ).loc Cert.MlpFReferenceIdeal.main_arg3)
      ∧ r.2.mem ((c.tc : Thread Cert.MlpFReferenceIdeal.nD Cert.MlpFReferenceIdeal.τ).loc Cert.MlpFReferenceIdeal.main_arg4) = m ((c.tc : Thread Cert.MlpFReferenceIdeal.nD Cert.MlpFReferenceIdeal.τ).loc Cert.MlpFReferenceIdeal.main_arg4))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4)
      ∧ r.2.mem ((c.tc : Thread Cert.DownKernel.nD Cert.DownKernel.τ).loc Cert.DownKernel.main_arg5) = m ((c.tc : Thread Cert.DownKernel.nD Cert.DownKernel.τ).loc Cert.DownKernel.main_arg5))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
      ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_PoolFKernel [hPoolFKernel : Cert.PoolFKernel.Facts] : Prop :=
  ∀ (m : (ℓ : Loc Cert.PoolFKernel.nD Cert.PoolFKernel.τ Cert.PoolFKernel.sig) → Buf (Elt Bits) ℓ) (g : Dev Cert.PoolFKernel.nD → PrngReg), Pre_PoolFKernel m →
    θ_run (Cert.PoolFKernel.defs (F := Bits)) (onTc (τ := Cert.PoolFKernel.τ) (Cert.PoolFKernel.main (F := Bits))) ⟨m, fun _ => 0, g⟩ (fun r => (∀ c : Dev Cert.PoolFKernel.nD,
      r.2.mem ((c.tc : Thread Cert.PoolFKernel.nD Cert.PoolFKernel.τ).loc Cert.PoolFKernel.main_arg0) = m ((c.tc : Thread Cert.PoolFKernel.nD Cert.PoolFKernel.τ).loc Cert.PoolFKernel.main_arg0)
      ∧ r.2.mem ((c.tc : Thread Cert.PoolFKernel.nD Cert.PoolFKernel.τ).loc Cert.PoolFKernel.main_arg1) = m ((c.tc : Thread Cert.PoolFKernel.nD Cert.PoolFKernel.τ).loc Cert.PoolFKernel.main_arg1)
      ∧ r.2.mem ((c.tc : Thread Cert.PoolFKernel.nD Cert.PoolFKernel.τ).loc Cert.PoolFKernel.main_arg2) = m ((c.tc : Thread Cert.PoolFKernel.nD Cert.PoolFKernel.τ).loc Cert.PoolFKernel.main_arg2))
      ∧ r.2.sem = fun _ => 0)

def quiescent_PoolFKernelIdeal [hPoolFKernelIdeal : Cert.PoolFKernelIdeal.Facts] : Prop :=
  ∀ (m : (ℓ : Loc Cert.PoolFKernelIdeal.nD Cert.PoolFKernelIdeal.τ Cert.PoolFKernelIdeal.sig) → Buf (Elt Ideal) ℓ) (g : Dev Cert.PoolFKernelIdeal.nD → PrngReg), Pre_PoolFKernelIdeal m →
    θ_run (Cert.PoolFKernelIdeal.defs (F := Ideal)) (onTc (τ := Cert.PoolFKernelIdeal.τ) (Cert.PoolFKernelIdeal.main (F := Ideal))) ⟨m, fun _ => 0, g⟩ (fun r => (∀ c : Dev Cert.PoolFKernelIdeal.nD,
      r.2.mem ((c.tc : Thread Cert.PoolFKernelIdeal.nD Cert.PoolFKernelIdeal.τ).loc Cert.PoolFKernelIdeal.main_arg0) = m ((c.tc : Thread Cert.PoolFKernelIdeal.nD Cert.PoolFKernelIdeal.τ).loc Cert.PoolFKernelIdeal.main_arg0)
      ∧ r.2.mem ((c.tc : Thread Cert.PoolFKernelIdeal.nD Cert.PoolFKernelIdeal.τ).loc Cert.PoolFKernelIdeal.main_arg1) = m ((c.tc : Thread Cert.PoolFKernelIdeal.nD Cert.PoolFKernelIdeal.τ).loc Cert.PoolFKernelIdeal.main_arg1)
      ∧ r.2.mem ((c.tc : Thread Cert.PoolFKernelIdeal.nD Cert.PoolFKernelIdeal.τ).loc Cert.PoolFKernelIdeal.main_arg2) = m ((c.tc : Thread Cert.PoolFKernelIdeal.nD Cert.PoolFKernelIdeal.τ).loc Cert.PoolFKernelIdeal.main_arg2))
      ∧ r.2.sem = fun _ => 0)

def quiescent_PoolFKernelIdeal_pre_finite_pool_fwd [hPoolFKernelIdeal : Cert.PoolFKernelIdeal.Facts] [hPre_finite_pool_fwd : Cert.Pre_finite_pool_fwd.Facts] : Prop :=
  ∀ (m : (ℓ : Loc Cert.PoolFKernelIdeal.nD Cert.PoolFKernelIdeal.τ Cert.PoolFKernelIdeal.sig) → Buf (Elt Ideal) ℓ) (g : Dev Cert.PoolFKernelIdeal.nD → PrngReg), Pre_PoolFKernelIdeal_finite_pool_fwd m →
    θ_run (Cert.PoolFKernelIdeal.defs (F := Ideal)) (onTc (τ := Cert.PoolFKernelIdeal.τ) (Cert.PoolFKernelIdeal.main (F := Ideal))) ⟨m, fun _ => 0, g⟩ (fun r => (∀ c : Dev Cert.PoolFKernelIdeal.nD,
      r.2.mem ((c.tc : Thread Cert.PoolFKernelIdeal.nD Cert.PoolFKernelIdeal.τ).loc Cert.PoolFKernelIdeal.main_arg0) = m ((c.tc : Thread Cert.PoolFKernelIdeal.nD Cert.PoolFKernelIdeal.τ).loc Cert.PoolFKernelIdeal.main_arg0)
      ∧ r.2.mem ((c.tc : Thread Cert.PoolFKernelIdeal.nD Cert.PoolFKernelIdeal.τ).loc Cert.PoolFKernelIdeal.main_arg1) = m ((c.tc : Thread Cert.PoolFKernelIdeal.nD Cert.PoolFKernelIdeal.τ).loc Cert.PoolFKernelIdeal.main_arg1)
      ∧ r.2.mem ((c.tc : Thread Cert.PoolFKernelIdeal.nD Cert.PoolFKernelIdeal.τ).loc Cert.PoolFKernelIdeal.main_arg2) = m ((c.tc : Thread Cert.PoolFKernelIdeal.nD Cert.PoolFKernelIdeal.τ).loc Cert.PoolFKernelIdeal.main_arg2))
      ∧ r.2.sem = fun _ => 0)

def quiescent_PoolFReferenceIdeal [hPoolFReferenceIdeal : Cert.PoolFReferenceIdeal.Facts] : Prop :=
  ∀ (m : (ℓ : Loc Cert.PoolFReferenceIdeal.nD Cert.PoolFReferenceIdeal.τ Cert.PoolFReferenceIdeal.sig) → Buf (Elt Ideal) ℓ) (g : Dev Cert.PoolFReferenceIdeal.nD → PrngReg), Pre_PoolFReferenceIdeal m →
    θ_run (Cert.PoolFReferenceIdeal.defs (F := Ideal)) (onTc (τ := Cert.PoolFReferenceIdeal.τ) (Cert.PoolFReferenceIdeal.main (F := Ideal))) ⟨m, fun _ => 0, g⟩ (fun r => (∀ c : Dev Cert.PoolFReferenceIdeal.nD,
      r.2.mem ((c.tc : Thread Cert.PoolFReferenceIdeal.nD Cert.PoolFReferenceIdeal.τ).loc Cert.PoolFReferenceIdeal.main_arg0) = m ((c.tc : Thread Cert.PoolFReferenceIdeal.nD Cert.PoolFReferenceIdeal.τ).loc Cert.PoolFReferenceIdeal.main_arg0)
      ∧ r.2.mem ((c.tc : Thread Cert.PoolFReferenceIdeal.nD Cert.PoolFReferenceIdeal.τ).loc Cert.PoolFReferenceIdeal.main_arg1) = m ((c.tc : Thread Cert.PoolFReferenceIdeal.nD Cert.PoolFReferenceIdeal.τ).loc Cert.PoolFReferenceIdeal.main_arg1)
      ∧ r.2.mem ((c.tc : Thread Cert.PoolFReferenceIdeal.nD Cert.PoolFReferenceIdeal.τ).loc Cert.PoolFReferenceIdeal.main_arg2) = m ((c.tc : Thread Cert.PoolFReferenceIdeal.nD Cert.PoolFReferenceIdeal.τ).loc Cert.PoolFReferenceIdeal.main_arg2))
      ∧ r.2.sem = fun _ => 0)

def quiescent_PoolFReferenceIdeal_pre_finite_pool_fwd [hPoolFReferenceIdeal : Cert.PoolFReferenceIdeal.Facts] [hPre_finite_pool_fwd : Cert.Pre_finite_pool_fwd.Facts] : Prop :=
  ∀ (m : (ℓ : Loc Cert.PoolFReferenceIdeal.nD Cert.PoolFReferenceIdeal.τ Cert.PoolFReferenceIdeal.sig) → Buf (Elt Ideal) ℓ) (g : Dev Cert.PoolFReferenceIdeal.nD → PrngReg), Pre_PoolFReferenceIdeal_finite_pool_fwd m →
    θ_run (Cert.PoolFReferenceIdeal.defs (F := Ideal)) (onTc (τ := Cert.PoolFReferenceIdeal.τ) (Cert.PoolFReferenceIdeal.main (F := Ideal))) ⟨m, fun _ => 0, g⟩ (fun r => (∀ c : Dev Cert.PoolFReferenceIdeal.nD,
      r.2.mem ((c.tc : Thread Cert.PoolFReferenceIdeal.nD Cert.PoolFReferenceIdeal.τ).loc Cert.PoolFReferenceIdeal.main_arg0) = m ((c.tc : Thread Cert.PoolFReferenceIdeal.nD Cert.PoolFReferenceIdeal.τ).loc Cert.PoolFReferenceIdeal.main_arg0)
      ∧ r.2.mem ((c.tc : Thread Cert.PoolFReferenceIdeal.nD Cert.PoolFReferenceIdeal.τ).loc Cert.PoolFReferenceIdeal.main_arg1) = m ((c.tc : Thread Cert.PoolFReferenceIdeal.nD Cert.PoolFReferenceIdeal.τ).loc Cert.PoolFReferenceIdeal.main_arg1)
      ∧ r.2.mem ((c.tc : Thread Cert.PoolFReferenceIdeal.nD Cert.PoolFReferenceIdeal.τ).loc Cert.PoolFReferenceIdeal.main_arg2) = m ((c.tc : Thread Cert.PoolFReferenceIdeal.nD Cert.PoolFReferenceIdeal.τ).loc Cert.PoolFReferenceIdeal.main_arg2))
      ∧ r.2.sem = fun _ => 0)

def quiescent_LruFKernel [hLruFKernel : Cert.LruFKernel.Facts] : Prop :=
  ∀ (m : (ℓ : Loc Cert.LruFKernel.nD Cert.LruFKernel.τ Cert.LruFKernel.sig) → Buf (Elt Bits) ℓ) (g : Dev Cert.LruFKernel.nD → PrngReg), Pre_LruFKernel m →
    θ_run (Cert.LruFKernel.defs (F := Bits)) (onTc (τ := Cert.LruFKernel.τ) (Cert.LruFKernel.main (F := Bits))) ⟨m, fun _ => 0, g⟩ (fun r => (∀ c : Dev Cert.LruFKernel.nD,
      r.2.mem ((c.tc : Thread Cert.LruFKernel.nD Cert.LruFKernel.τ).loc Cert.LruFKernel.main_arg0) = m ((c.tc : Thread Cert.LruFKernel.nD Cert.LruFKernel.τ).loc Cert.LruFKernel.main_arg0)
      ∧ r.2.mem ((c.tc : Thread Cert.LruFKernel.nD Cert.LruFKernel.τ).loc Cert.LruFKernel.main_arg1) = m ((c.tc : Thread Cert.LruFKernel.nD Cert.LruFKernel.τ).loc Cert.LruFKernel.main_arg1)
      ∧ r.2.mem ((c.tc : Thread Cert.LruFKernel.nD Cert.LruFKernel.τ).loc Cert.LruFKernel.main_arg2) = m ((c.tc : Thread Cert.LruFKernel.nD Cert.LruFKernel.τ).loc Cert.LruFKernel.main_arg2)
      ∧ r.2.mem ((c.tc : Thread Cert.LruFKernel.nD Cert.LruFKernel.τ).loc Cert.LruFKernel.main_arg3) = m ((c.tc : Thread Cert.LruFKernel.nD Cert.LruFKernel.τ).loc Cert.LruFKernel.main_arg3)
      ∧ r.2.mem ((c.tc : Thread Cert.LruFKernel.nD Cert.LruFKernel.τ).loc Cert.LruFKernel.main_arg4) = m ((c.tc : Thread Cert.LruFKernel.nD Cert.LruFKernel.τ).loc Cert.LruFKernel.main_arg4)
      ∧ r.2.mem ((c.tc : Thread Cert.LruFKernel.nD Cert.LruFKernel.τ).loc Cert.LruFKernel.main_arg5) = m ((c.tc : Thread Cert.LruFKernel.nD Cert.LruFKernel.τ).loc Cert.LruFKernel.main_arg5)
      ∧ r.2.mem ((c.tc : Thread Cert.LruFKernel.nD Cert.LruFKernel.τ).loc Cert.LruFKernel.main_arg6) = m ((c.tc : Thread Cert.LruFKernel.nD Cert.LruFKernel.τ).loc Cert.LruFKernel.main_arg6)
      ∧ r.2.mem ((c.tc : Thread Cert.LruFKernel.nD Cert.LruFKernel.τ).loc Cert.LruFKernel.main_arg7) = m ((c.tc : Thread Cert.LruFKernel.nD Cert.LruFKernel.τ).loc Cert.LruFKernel.main_arg7))
      ∧ r.2.sem = fun _ => 0)

def quiescent_LruFKernelIdeal [hLruFKernelIdeal : Cert.LruFKernelIdeal.Facts] : Prop :=
  ∀ (m : (ℓ : Loc Cert.LruFKernelIdeal.nD Cert.LruFKernelIdeal.τ Cert.LruFKernelIdeal.sig) → Buf (Elt Ideal) ℓ) (g : Dev Cert.LruFKernelIdeal.nD → PrngReg), Pre_LruFKernelIdeal m →
    θ_run (Cert.LruFKernelIdeal.defs (F := Ideal)) (onTc (τ := Cert.LruFKernelIdeal.τ) (Cert.LruFKernelIdeal.main (F := Ideal))) ⟨m, fun _ => 0, g⟩ (fun r => (∀ c : Dev Cert.LruFKernelIdeal.nD,
      r.2.mem ((c.tc : Thread Cert.LruFKernelIdeal.nD Cert.LruFKernelIdeal.τ).loc Cert.LruFKernelIdeal.main_arg0) = m ((c.tc : Thread Cert.LruFKernelIdeal.nD Cert.LruFKernelIdeal.τ).loc Cert.LruFKernelIdeal.main_arg0)
      ∧ r.2.mem ((c.tc : Thread Cert.LruFKernelIdeal.nD Cert.LruFKernelIdeal.τ).loc Cert.LruFKernelIdeal.main_arg1) = m ((c.tc : Thread Cert.LruFKernelIdeal.nD Cert.LruFKernelIdeal.τ).loc Cert.LruFKernelIdeal.main_arg1)
      ∧ r.2.mem ((c.tc : Thread Cert.LruFKernelIdeal.nD Cert.LruFKernelIdeal.τ).loc Cert.LruFKernelIdeal.main_arg2) = m ((c.tc : Thread Cert.LruFKernelIdeal.nD Cert.LruFKernelIdeal.τ).loc Cert.LruFKernelIdeal.main_arg2)
      ∧ r.2.mem ((c.tc : Thread Cert.LruFKernelIdeal.nD Cert.LruFKernelIdeal.τ).loc Cert.LruFKernelIdeal.main_arg3) = m ((c.tc : Thread Cert.LruFKernelIdeal.nD Cert.LruFKernelIdeal.τ).loc Cert.LruFKernelIdeal.main_arg3)
      ∧ r.2.mem ((c.tc : Thread Cert.LruFKernelIdeal.nD Cert.LruFKernelIdeal.τ).loc Cert.LruFKernelIdeal.main_arg4) = m ((c.tc : Thread Cert.LruFKernelIdeal.nD Cert.LruFKernelIdeal.τ).loc Cert.LruFKernelIdeal.main_arg4)
      ∧ r.2.mem ((c.tc : Thread Cert.LruFKernelIdeal.nD Cert.LruFKernelIdeal.τ).loc Cert.LruFKernelIdeal.main_arg5) = m ((c.tc : Thread Cert.LruFKernelIdeal.nD Cert.LruFKernelIdeal.τ).loc Cert.LruFKernelIdeal.main_arg5)
      ∧ r.2.mem ((c.tc : Thread Cert.LruFKernelIdeal.nD Cert.LruFKernelIdeal.τ).loc Cert.LruFKernelIdeal.main_arg6) = m ((c.tc : Thread Cert.LruFKernelIdeal.nD Cert.LruFKernelIdeal.τ).loc Cert.LruFKernelIdeal.main_arg6)
      ∧ r.2.mem ((c.tc : Thread Cert.LruFKernelIdeal.nD Cert.LruFKernelIdeal.τ).loc Cert.LruFKernelIdeal.main_arg7) = m ((c.tc : Thread Cert.LruFKernelIdeal.nD Cert.LruFKernelIdeal.τ).loc Cert.LruFKernelIdeal.main_arg7))
      ∧ r.2.sem = fun _ => 0)

def quiescent_LruFReferenceIdeal [hLruFReferenceIdeal : Cert.LruFReferenceIdeal.Facts] : Prop :=
  ∀ (m : (ℓ : Loc Cert.LruFReferenceIdeal.nD Cert.LruFReferenceIdeal.τ Cert.LruFReferenceIdeal.sig) → Buf (Elt Ideal) ℓ) (g : Dev Cert.LruFReferenceIdeal.nD → PrngReg), Pre_LruFReferenceIdeal m →
    θ_run (Cert.LruFReferenceIdeal.defs (F := Ideal)) (onTc (τ := Cert.LruFReferenceIdeal.τ) (Cert.LruFReferenceIdeal.main (F := Ideal))) ⟨m, fun _ => 0, g⟩ (fun r => (∀ c : Dev Cert.LruFReferenceIdeal.nD,
      r.2.mem ((c.tc : Thread Cert.LruFReferenceIdeal.nD Cert.LruFReferenceIdeal.τ).loc Cert.LruFReferenceIdeal.main_arg0) = m ((c.tc : Thread Cert.LruFReferenceIdeal.nD Cert.LruFReferenceIdeal.τ).loc Cert.LruFReferenceIdeal.main_arg0)
      ∧ r.2.mem ((c.tc : Thread Cert.LruFReferenceIdeal.nD Cert.LruFReferenceIdeal.τ).loc Cert.LruFReferenceIdeal.main_arg1) = m ((c.tc : Thread Cert.LruFReferenceIdeal.nD Cert.LruFReferenceIdeal.τ).loc Cert.LruFReferenceIdeal.main_arg1)
      ∧ r.2.mem ((c.tc : Thread Cert.LruFReferenceIdeal.nD Cert.LruFReferenceIdeal.τ).loc Cert.LruFReferenceIdeal.main_arg2) = m ((c.tc : Thread Cert.LruFReferenceIdeal.nD Cert.LruFReferenceIdeal.τ).loc Cert.LruFReferenceIdeal.main_arg2)
      ∧ r.2.mem ((c.tc : Thread Cert.LruFReferenceIdeal.nD Cert.LruFReferenceIdeal.τ).loc Cert.LruFReferenceIdeal.main_arg3) = m ((c.tc : Thread Cert.LruFReferenceIdeal.nD Cert.LruFReferenceIdeal.τ).loc Cert.LruFReferenceIdeal.main_arg3)
      ∧ r.2.mem ((c.tc : Thread Cert.LruFReferenceIdeal.nD Cert.LruFReferenceIdeal.τ).loc Cert.LruFReferenceIdeal.main_arg4) = m ((c.tc : Thread Cert.LruFReferenceIdeal.nD Cert.LruFReferenceIdeal.τ).loc Cert.LruFReferenceIdeal.main_arg4)
      ∧ r.2.mem ((c.tc : Thread Cert.LruFReferenceIdeal.nD Cert.LruFReferenceIdeal.τ).loc Cert.LruFReferenceIdeal.main_arg5) = m ((c.tc : Thread Cert.LruFReferenceIdeal.nD Cert.LruFReferenceIdeal.τ).loc Cert.LruFReferenceIdeal.main_arg5)
      ∧ r.2.mem ((c.tc : Thread Cert.LruFReferenceIdeal.nD Cert.LruFReferenceIdeal.τ).loc Cert.LruFReferenceIdeal.main_arg6) = m ((c.tc : Thread Cert.LruFReferenceIdeal.nD Cert.LruFReferenceIdeal.τ).loc Cert.LruFReferenceIdeal.main_arg6)
      ∧ r.2.mem ((c.tc : Thread Cert.LruFReferenceIdeal.nD Cert.LruFReferenceIdeal.τ).loc Cert.LruFReferenceIdeal.main_arg7) = m ((c.tc : Thread Cert.LruFReferenceIdeal.nD Cert.LruFReferenceIdeal.τ).loc Cert.LruFReferenceIdeal.main_arg7))
      ∧ r.2.sem = fun _ => 0)

def quiescent_MmKernel [hMmKernel : Cert.MmKernel.Facts] : Prop :=
  ∀ (m : (ℓ : Loc Cert.MmKernel.nD Cert.MmKernel.τ Cert.MmKernel.sig) → Buf (Elt Bits) ℓ) (g : Dev Cert.MmKernel.nD → PrngReg), Pre_MmKernel m →
    θ_run (Cert.MmKernel.defs (F := Bits)) (onTc (τ := Cert.MmKernel.τ) (Cert.MmKernel.main (F := Bits))) ⟨m, fun _ => 0, g⟩ (fun r => (∀ c : Dev Cert.MmKernel.nD,
      r.2.mem ((c.tc : Thread Cert.MmKernel.nD Cert.MmKernel.τ).loc Cert.MmKernel.main_arg0) = m ((c.tc : Thread Cert.MmKernel.nD Cert.MmKernel.τ).loc Cert.MmKernel.main_arg0)
      ∧ r.2.mem ((c.tc : Thread Cert.MmKernel.nD Cert.MmKernel.τ).loc Cert.MmKernel.main_arg1) = m ((c.tc : Thread Cert.MmKernel.nD Cert.MmKernel.τ).loc Cert.MmKernel.main_arg1))
      ∧ r.2.sem = fun _ => 0)

def quiescent_MmKernelIdeal [hMmKernelIdeal : Cert.MmKernelIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg), Pre_MmKernelIdeal m →
    θ_run (Cert.MmKernelIdeal.defs (F := Ideal)) (onTc (τ := Cert.MmKernelIdeal.τ) (Cert.MmKernelIdeal.main (F := Ideal))) ⟨m, fun _ => 0, g⟩ (fun r => (∀ c : Dev Cert.MmKernelIdeal.nD,
      r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
      ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1))
      ∧ r.2.sem = fun _ => 0)

def quiescent_DwinKernel [hDwinKernel : Cert.DwinKernel.Facts] : Prop :=
  ∀ (m : (ℓ : Loc Cert.DwinKernel.nD Cert.DwinKernel.τ Cert.DwinKernel.sig) → Buf (Elt Bits) ℓ) (g : Dev Cert.DwinKernel.nD → PrngReg), Pre_DwinKernel m →
    θ_run (Cert.DwinKernel.defs (F := Bits)) (onTc (τ := Cert.DwinKernel.τ) (Cert.DwinKernel.main (F := Bits))) ⟨m, fun _ => 0, g⟩ (fun r => (∀ c : Dev Cert.DwinKernel.nD,
      r.2.mem ((c.tc : Thread Cert.DwinKernel.nD Cert.DwinKernel.τ).loc Cert.DwinKernel.main_arg0) = m ((c.tc : Thread Cert.DwinKernel.nD Cert.DwinKernel.τ).loc Cert.DwinKernel.main_arg0)
      ∧ r.2.mem ((c.tc : Thread Cert.DwinKernel.nD Cert.DwinKernel.τ).loc Cert.DwinKernel.main_arg1) = m ((c.tc : Thread Cert.DwinKernel.nD Cert.DwinKernel.τ).loc Cert.DwinKernel.main_arg1))
      ∧ r.2.sem = fun _ => 0)

def quiescent_DwinKernelIdeal [hDwinKernelIdeal : Cert.DwinKernelIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg), Pre_DwinKernelIdeal m →
    θ_run (Cert.DwinKernelIdeal.defs (F := Ideal)) (onTc (τ := Cert.DwinKernelIdeal.τ) (Cert.DwinKernelIdeal.main (F := Ideal))) ⟨m, fun _ => 0, g⟩ (fun r => (∀ c : Dev Cert.DwinKernelIdeal.nD,
      r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
      ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5)
      ∧ r.2.mem ((c.tc : Thread Cert.AdamKernel.nD Cert.AdamKernel.τ).loc Cert.AdamKernel.main_arg6) = m ((c.tc : Thread Cert.AdamKernel.nD Cert.AdamKernel.τ).loc Cert.AdamKernel.main_arg6)
      ∧ r.2.mem ((c.tc : Thread Cert.AdamKernel.nD Cert.AdamKernel.τ).loc Cert.AdamKernel.main_arg7) = m ((c.tc : Thread Cert.AdamKernel.nD Cert.AdamKernel.τ).loc Cert.AdamKernel.main_arg7)
      ∧ r.2.mem ((c.tc : Thread Cert.AdamKernel.nD Cert.AdamKernel.τ).loc Cert.AdamKernel.main_arg8) = m ((c.tc : Thread Cert.AdamKernel.nD Cert.AdamKernel.τ).loc Cert.AdamKernel.main_arg8)
      ∧ r.2.mem ((c.tc : Thread Cert.AdamKernel.nD Cert.AdamKernel.τ).loc Cert.AdamKernel.main_arg9) = m ((c.tc : Thread Cert.AdamKernel.nD Cert.AdamKernel.τ).loc Cert.AdamKernel.main_arg9)
      ∧ r.2.mem ((c.tc : Thread Cert.AdamKernel.nD Cert.AdamKernel.τ).loc Cert.AdamKernel.main_arg10) = m ((c.tc : Thread Cert.AdamKernel.nD Cert.AdamKernel.τ).loc Cert.AdamKernel.main_arg10)
      ∧ r.2.mem ((c.tc : Thread Cert.AdamKernel.nD Cert.AdamKernel.τ).loc Cert.AdamKernel.main_arg11) = m ((c.tc : Thread Cert.AdamKernel.nD Cert.AdamKernel.τ).loc Cert.AdamKernel.main_arg11))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
      ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
      ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
      ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
      ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
      ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
      ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_LnKernel_LnKernelIdeal : Prop :=
  True

def algebraic_LnKernelIdeal_LnReferenceIdeal_pre_finite_ln [hLnKernelIdeal : Cert.LnKernelIdeal.Facts] [hLnReferenceIdeal : Cert.LnReferenceIdeal.Facts] [hPre_finite_ln : Cert.Pre_finite_ln.Facts] : Prop :=
  ∀ (m : (ℓ : Loc Cert.LnKernelIdeal.nD Cert.LnKernelIdeal.τ Cert.LnKernelIdeal.sig) → Buf (Elt Ideal) ℓ) (g : Dev Cert.LnKernelIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnKernelIdeal_finite_ln m →
    (∀ c : Dev Cert.LnKernelIdeal.nD,
      m' ((c.tc : Thread Cert.LnReferenceIdeal.nD Cert.LnReferenceIdeal.τ).loc Cert.LnReferenceIdeal.main_arg0) = m ((c.tc : Thread Cert.LnKernelIdeal.nD Cert.LnKernelIdeal.τ).loc Cert.LnKernelIdeal.main_arg0)
      ∧ m' ((c.tc : Thread Cert.LnReferenceIdeal.nD Cert.LnReferenceIdeal.τ).loc Cert.LnReferenceIdeal.main_arg1) = m ((c.tc : Thread Cert.LnKernelIdeal.nD Cert.LnKernelIdeal.τ).loc Cert.LnKernelIdeal.main_arg1)
      ∧ m' ((c.tc : Thread Cert.LnReferenceIdeal.nD Cert.LnReferenceIdeal.τ).loc Cert.LnReferenceIdeal.main_arg2) = m ((c.tc : Thread Cert.LnKernelIdeal.nD Cert.LnKernelIdeal.τ).loc Cert.LnKernelIdeal.main_arg2)
      ∧ m' ((c.tc : Thread Cert.LnReferenceIdeal.nD Cert.LnReferenceIdeal.τ).loc Cert.LnReferenceIdeal.main_arg3) = m ((c.tc : Thread Cert.LnKernelIdeal.nD Cert.LnKernelIdeal.τ).loc Cert.LnKernelIdeal.main_arg3)) →
    ∃ (v0 : (c : Dev Cert.LnKernelIdeal.nD) → Buf (Elt Ideal) ((c.tc : Thread Cert.LnKernelIdeal.nD Cert.LnKernelIdeal.τ).loc Cert.LnKernelIdeal.main_v1_0)) (v1 : (c : Dev Cert.LnKernelIdeal.nD) → Buf (Elt Ideal) ((c.tc : Thread Cert.LnKernelIdeal.nD Cert.LnKernelIdeal.τ).loc Cert.LnKernelIdeal.main_v1_1)) (v2 : (c : Dev Cert.LnKernelIdeal.nD) → Buf (Elt Ideal) ((c.tc : Thread Cert.LnKernelIdeal.nD Cert.LnKernelIdeal.τ).loc Cert.LnKernelIdeal.main_v1_2)) (v3 : (c : Dev Cert.LnKernelIdeal.nD) → Buf (Elt Ideal) ((c.tc : Thread Cert.LnKernelIdeal.nD Cert.LnKernelIdeal.τ).loc Cert.LnKernelIdeal.main_v1_3)),
      θ_run (Cert.LnKernelIdeal.defs (F := Ideal)) (onTc (τ := Cert.LnKernelIdeal.τ) (Cert.LnKernelIdeal.main (F := Ideal))) ⟨m, fun _ => 0, g⟩ (fun r => ∀ c : Dev Cert.LnKernelIdeal.nD,
          r.2.mem ((c.tc : Thread Cert.LnKernelIdeal.nD Cert.LnKernelIdeal.τ).loc Cert.LnKernelIdeal.main_v1_0) = v0 c
          ∧ r.2.mem ((c.tc : Thread Cert.LnKernelIdeal.nD Cert.LnKernelIdeal.τ).loc Cert.LnKernelIdeal.main_v1_1) = v1 c
          ∧ r.2.mem ((c.tc : Thread Cert.LnKernelIdeal.nD Cert.LnKernelIdeal.τ).loc Cert.LnKernelIdeal.main_v1_2) = v2 c
          ∧ r.2.mem ((c.tc : Thread Cert.LnKernelIdeal.nD Cert.LnKernelIdeal.τ).loc Cert.LnKernelIdeal.main_v1_3) = v3 c
          ∧ r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
          ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
          ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
          ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v66) = v0 c
          ∧ r.2.mem ((c.tc : Thread Cert.LnReferenceIdeal.nD Cert.LnReferenceIdeal.τ).loc Cert.LnReferenceIdeal.main_v67) = v1 c
          ∧ r.2.mem ((c.tc : Thread Cert.LnReferenceIdeal.nD Cert.LnReferenceIdeal.τ).loc Cert.LnReferenceIdeal.main_v68) = v2 c
          ∧ r.2.mem ((c.tc : Thread Cert.LnReferenceIdeal.nD Cert.LnReferenceIdeal.τ).loc Cert.LnReferenceIdeal.main_v69) = v3 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3))

def preserves_LnResKernel_LnResKernelIdeal : Prop :=
  True

def algebraic_LnResKernelIdeal_LnResReferenceIdeal_pre_finite_ln_res [hLnResKernelIdeal : Cert.LnResKernelIdeal.Facts] [hLnResReferenceIdeal : Cert.LnResReferenceIdeal.Facts] [hPre_finite_ln_res : Cert.Pre_finite_ln_res.Facts] : Prop :=
  ∀ (m : (ℓ : Loc Cert.LnResKernelIdeal.nD Cert.LnResKernelIdeal.τ Cert.LnResKernelIdeal.sig) → Buf (Elt Ideal) ℓ) (g : Dev Cert.LnResKernelIdeal.nD → PrngReg)
    (m' : (ℓ : Loc Cert.LnResReferenceIdeal.nD Cert.LnResReferenceIdeal.τ Cert.LnResReferenceIdeal.sig) → Buf (Elt Ideal) ℓ) (g' : Dev Cert.LnResReferenceIdeal.nD → PrngReg), Pre_LnResKernelIdeal_finite_ln_res m →
    (∀ c : Dev Cert.LnResKernelIdeal.nD,
      m' ((c.tc : Thread Cert.LnResReferenceIdeal.nD Cert.LnResReferenceIdeal.τ).loc Cert.LnResReferenceIdeal.main_arg0) = m ((c.tc : Thread Cert.LnResKernelIdeal.nD Cert.LnResKernelIdeal.τ).loc Cert.LnResKernelIdeal.main_arg0)
      ∧ m' ((c.tc : Thread Cert.LnResReferenceIdeal.nD Cert.LnResReferenceIdeal.τ).loc Cert.LnResReferenceIdeal.main_arg1) = m ((c.tc : Thread Cert.LnResKernelIdeal.nD Cert.LnResKernelIdeal.τ).loc Cert.LnResKernelIdeal.main_arg1)
      ∧ m' ((c.tc : Thread Cert.LnResReferenceIdeal.nD Cert.LnResReferenceIdeal.τ).loc Cert.LnResReferenceIdeal.main_arg2) = m ((c.tc : Thread Cert.LnResKernelIdeal.nD Cert.LnResKernelIdeal.τ).loc Cert.LnResKernelIdeal.main_arg2)
      ∧ m' ((c.tc : Thread Cert.LnResReferenceIdeal.nD Cert.LnResReferenceIdeal.τ).loc Cert.LnResReferenceIdeal.main_arg3) = m ((c.tc : Thread Cert.LnResKernelIdeal.nD Cert.LnResKernelIdeal.τ).loc Cert.LnResKernelIdeal.main_arg3)
      ∧ m' ((c.tc : Thread Cert.LnResReferenceIdeal.nD Cert.LnResReferenceIdeal.τ).loc Cert.LnResReferenceIdeal.main_arg4) = m ((c.tc : Thread Cert.LnResKernelIdeal.nD Cert.LnResKernelIdeal.τ).loc Cert.LnResKernelIdeal.main_arg4)
      ∧ m' ((c.tc : Thread Cert.LnResReferenceIdeal.nD Cert.LnResReferenceIdeal.τ).loc Cert.LnResReferenceIdeal.main_arg5) = m ((c.tc : Thread Cert.LnResKernelIdeal.nD Cert.LnResKernelIdeal.τ).loc Cert.LnResKernelIdeal.main_arg5)) →
    ∃ (v0 : (c : Dev Cert.LnResKernelIdeal.nD) → Buf (Elt Ideal) ((c.tc : Thread Cert.LnResKernelIdeal.nD Cert.LnResKernelIdeal.τ).loc Cert.LnResKernelIdeal.main_v1_0)) (v1 : (c : Dev Cert.LnResKernelIdeal.nD) → Buf (Elt Ideal) ((c.tc : Thread Cert.LnResKernelIdeal.nD Cert.LnResKernelIdeal.τ).loc Cert.LnResKernelIdeal.main_v1_1)) (v2 : (c : Dev Cert.LnResKernelIdeal.nD) → Buf (Elt Ideal) ((c.tc : Thread Cert.LnResKernelIdeal.nD Cert.LnResKernelIdeal.τ).loc Cert.LnResKernelIdeal.main_v1_2)) (v3 : (c : Dev Cert.LnResKernelIdeal.nD) → Buf (Elt Ideal) ((c.tc : Thread Cert.LnResKernelIdeal.nD Cert.LnResKernelIdeal.τ).loc Cert.LnResKernelIdeal.main_v1_3)),
      θ_run (Cert.LnResKernelIdeal.defs (F := Ideal)) (onTc (τ := Cert.LnResKernelIdeal.τ) (Cert.LnResKernelIdeal.main (F := Ideal))) ⟨m, fun _ => 0, g⟩ (fun r => ∀ c : Dev Cert.LnResKernelIdeal.nD,
          r.2.mem ((c.tc : Thread Cert.LnResKernelIdeal.nD Cert.LnResKernelIdeal.τ).loc Cert.LnResKernelIdeal.main_v1_0) = v0 c
          ∧ r.2.mem ((c.tc : Thread Cert.LnResKernelIdeal.nD Cert.LnResKernelIdeal.τ).loc Cert.LnResKernelIdeal.main_v1_1) = v1 c
          ∧ r.2.mem ((c.tc : Thread Cert.LnResKernelIdeal.nD Cert.LnResKernelIdeal.τ).loc Cert.LnResKernelIdeal.main_v1_2) = v2 c
          ∧ r.2.mem ((c.tc : Thread Cert.LnResKernelIdeal.nD Cert.LnResKernelIdeal.τ).loc Cert.LnResKernelIdeal.main_v1_3) = v3 c
          ∧ r.2.mem ((c.tc : Thread Cert.LnResKernelIdeal.nD Cert.LnResKernelIdeal.τ).loc Cert.LnResKernelIdeal.main_arg0) = m ((c.tc : Thread Cert.LnResKernelIdeal.nD Cert.LnResKernelIdeal.τ).loc Cert.LnResKernelIdeal.main_arg0)
          ∧ r.2.mem ((c.tc : Thread Cert.LnResKernelIdeal.nD Cert.LnResKernelIdeal.τ).loc Cert.LnResKernelIdeal.main_arg1) = m ((c.tc : Thread Cert.LnResKernelIdeal.nD Cert.LnResKernelIdeal.τ).loc Cert.LnResKernelIdeal.main_arg1)
          ∧ r.2.mem ((c.tc : Thread Cert.LnResKernelIdeal.nD Cert.LnResKernelIdeal.τ).loc Cert.LnResKernelIdeal.main_arg2) = m ((c.tc : Thread Cert.LnResKernelIdeal.nD Cert.LnResKernelIdeal.τ).loc Cert.LnResKernelIdeal.main_arg2)
          ∧ r.2.mem ((c.tc : Thread Cert.LnResKernelIdeal.nD Cert.LnResKernelIdeal.τ).loc Cert.LnResKernelIdeal.main_arg3) = m ((c.tc : Thread Cert.LnResKernelIdeal.nD Cert.LnResKernelIdeal.τ).loc Cert.LnResKernelIdeal.main_arg3)
          ∧ r.2.mem ((c.tc : Thread Cert.LnResKernelIdeal.nD Cert.LnResKernelIdeal.τ).loc Cert.LnResKernelIdeal.main_arg4) = m ((c.tc : Thread Cert.LnResKernelIdeal.nD Cert.LnResKernelIdeal.τ).loc Cert.LnResKernelIdeal.main_arg4)
          ∧ r.2.mem ((c.tc : Thread Cert.LnResKernelIdeal.nD Cert.LnResKernelIdeal.τ).loc Cert.LnResKernelIdeal.main_arg5) = m ((c.tc : Thread Cert.LnResKernelIdeal.nD Cert.LnResKernelIdeal.τ).loc Cert.LnResKernelIdeal.main_arg5))
      ∧ θ_run (Cert.LnResReferenceIdeal.defs (F := Ideal)) (onTc (τ := Cert.LnResReferenceIdeal.τ) (Cert.LnResReferenceIdeal.main (F := Ideal))) ⟨m', fun _ => 0, g'⟩ (fun r => ∀ c : Dev Cert.LnResReferenceIdeal.nD,
          r.2.mem ((c.tc : Thread Cert.LnResReferenceIdeal.nD Cert.LnResReferenceIdeal.τ).loc Cert.LnResReferenceIdeal.main_v71) = v0 c
          ∧ r.2.mem ((c.tc : Thread Cert.LnResReferenceIdeal.nD Cert.LnResReferenceIdeal.τ).loc Cert.LnResReferenceIdeal.main_v72) = v1 c
          ∧ r.2.mem ((c.tc : Thread Cert.LnResReferenceIdeal.nD Cert.LnResReferenceIdeal.τ).loc Cert.LnResReferenceIdeal.main_v73) = v2 c
          ∧ r.2.mem ((c.tc : Thread Cert.LnResReferenceIdeal.nD Cert.LnResReferenceIdeal.τ).loc Cert.LnResReferenceIdeal.main_v74) = v3 c
          ∧ r.2.mem ((c.tc : Thread Cert.LnResReferenceIdeal.nD Cert.LnResReferenceIdeal.τ).loc Cert.LnResReferenceIdeal.main_arg0) = m' ((c.tc : Thread Cert.LnResReferenceIdeal.nD Cert.LnResReferenceIdeal.τ).loc Cert.LnResReferenceIdeal.main_arg0)
          ∧ r.2.mem ((c.tc : Thread Cert.LnResReferenceIdeal.nD Cert.LnResReferenceIdeal.τ).loc Cert.LnResReferenceIdeal.main_arg1) = m' ((c.tc : Thread Cert.LnResReferenceIdeal.nD Cert.LnResReferenceIdeal.τ).loc Cert.LnResReferenceIdeal.main_arg1)
          ∧ r.2.mem ((c.tc : Thread Cert.LnResReferenceIdeal.nD Cert.LnResReferenceIdeal.τ).loc Cert.LnResReferenceIdeal.main_arg2) = m' ((c.tc : Thread Cert.LnResReferenceIdeal.nD Cert.LnResReferenceIdeal.τ).loc Cert.LnResReferenceIdeal.main_arg2)
          ∧ r.2.mem ((c.tc : Thread Cert.LnResReferenceIdeal.nD Cert.LnResReferenceIdeal.τ).loc Cert.LnResReferenceIdeal.main_arg3) = m' ((c.tc : Thread Cert.LnResReferenceIdeal.nD Cert.LnResReferenceIdeal.τ).loc Cert.LnResReferenceIdeal.main_arg3)
          ∧ r.2.mem ((c.tc : Thread Cert.LnResReferenceIdeal.nD Cert.LnResReferenceIdeal.τ).loc Cert.LnResReferenceIdeal.main_arg4) = m' ((c.tc : Thread Cert.LnResReferenceIdeal.nD Cert.LnResReferenceIdeal.τ).loc Cert.LnResReferenceIdeal.main_arg4)
          ∧ r.2.mem ((c.tc : Thread Cert.LnResReferenceIdeal.nD Cert.LnResReferenceIdeal.τ).loc Cert.LnResReferenceIdeal.main_arg5) = m' ((c.tc : Thread Cert.LnResReferenceIdeal.nD Cert.LnResReferenceIdeal.τ).loc Cert.LnResReferenceIdeal.main_arg5))

def preserves_RmsKernel_RmsKernelIdeal : Prop :=
  True

def algebraic_RmsKernelIdeal_RmsReferenceIdeal_pre_finite_rms [hRmsKernelIdeal : Cert.RmsKernelIdeal.Facts] [hRmsReferenceIdeal : Cert.RmsReferenceIdeal.Facts] [hPre_finite_rms : Cert.Pre_finite_rms.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal_finite_rms m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)
      ∧ m' ((c.tc : Thread Cert.RmsReferenceIdeal.nD Cert.RmsReferenceIdeal.τ).loc Cert.RmsReferenceIdeal.main_arg3) = m ((c.tc : Thread Cert.RmsKernelIdeal.nD Cert.RmsKernelIdeal.τ).loc Cert.RmsKernelIdeal.main_arg3)
      ∧ m' ((c.tc : Thread Cert.RmsReferenceIdeal.nD Cert.RmsReferenceIdeal.τ).loc Cert.RmsReferenceIdeal.main_arg4) = m ((c.tc : Thread Cert.RmsKernelIdeal.nD Cert.RmsKernelIdeal.τ).loc Cert.RmsKernelIdeal.main_arg4)
      ∧ m' ((c.tc : Thread Cert.RmsReferenceIdeal.nD Cert.RmsReferenceIdeal.τ).loc Cert.RmsReferenceIdeal.main_arg5) = m ((c.tc : Thread Cert.RmsKernelIdeal.nD Cert.RmsKernelIdeal.τ).loc Cert.RmsKernelIdeal.main_arg5)
      ∧ m' ((c.tc : Thread Cert.RmsReferenceIdeal.nD Cert.RmsReferenceIdeal.τ).loc Cert.RmsReferenceIdeal.main_arg6) = m ((c.tc : Thread Cert.RmsKernelIdeal.nD Cert.RmsKernelIdeal.τ).loc Cert.RmsKernelIdeal.main_arg6)
      ∧ m' ((c.tc : Thread Cert.RmsReferenceIdeal.nD Cert.RmsReferenceIdeal.τ).loc Cert.RmsReferenceIdeal.main_arg7) = m ((c.tc : Thread Cert.RmsKernelIdeal.nD Cert.RmsKernelIdeal.τ).loc Cert.RmsKernelIdeal.main_arg7)) →
    ∃ (v0 : (c : Dev Cert.RmsKernelIdeal.nD) → Buf (Elt Ideal) ((c.tc : Thread Cert.RmsKernelIdeal.nD Cert.RmsKernelIdeal.τ).loc Cert.RmsKernelIdeal.main_v2_0)) (v1 : (c : Dev Cert.RmsKernelIdeal.nD) → Buf (Elt Ideal) ((c.tc : Thread Cert.RmsKernelIdeal.nD Cert.RmsKernelIdeal.τ).loc Cert.RmsKernelIdeal.main_v2_1)) (v2 : (c : Dev Cert.RmsKernelIdeal.nD) → Buf (Elt Ideal) ((c.tc : Thread Cert.RmsKernelIdeal.nD Cert.RmsKernelIdeal.τ).loc Cert.RmsKernelIdeal.main_v2_2)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v2_0) = v0 c
          ∧ r.2.mem ((c.tc : Thread Cert.RmsKernelIdeal.nD Cert.RmsKernelIdeal.τ).loc Cert.RmsKernelIdeal.main_v2_1) = v1 c
          ∧ r.2.mem ((c.tc : Thread Cert.RmsKernelIdeal.nD Cert.RmsKernelIdeal.τ).loc Cert.RmsKernelIdeal.main_v2_2) = v2 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
          ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3)
          ∧ r.2.mem ((c.tc : Thread Cert.RmsKernelIdeal.nD Cert.RmsKernelIdeal.τ).loc Cert.RmsKernelIdeal.main_arg4) = m ((c.tc : Thread Cert.RmsKernelIdeal.nD Cert.RmsKernelIdeal.τ).loc Cert.RmsKernelIdeal.main_arg4)
          ∧ r.2.mem ((c.tc : Thread Cert.RmsKernelIdeal.nD Cert.RmsKernelIdeal.τ).loc Cert.RmsKernelIdeal.main_arg5) = m ((c.tc : Thread Cert.RmsKernelIdeal.nD Cert.RmsKernelIdeal.τ).loc Cert.RmsKernelIdeal.main_arg5)
          ∧ r.2.mem ((c.tc : Thread Cert.RmsKernelIdeal.nD Cert.RmsKernelIdeal.τ).loc Cert.RmsKernelIdeal.main_arg6) = m ((c.tc : Thread Cert.RmsKernelIdeal.nD Cert.RmsKernelIdeal.τ).loc Cert.RmsKernelIdeal.main_arg6)
          ∧ r.2.mem ((c.tc : Thread Cert.RmsKernelIdeal.nD Cert.RmsKernelIdeal.τ).loc Cert.RmsKernelIdeal.main_arg7) = m ((c.tc : Thread Cert.RmsKernelIdeal.nD Cert.RmsKernelIdeal.τ).loc Cert.RmsKernelIdeal.main_arg7))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v103) = v0 c
          ∧ r.2.mem ((c.tc : Thread Cert.RmsReferenceIdeal.nD Cert.RmsReferenceIdeal.τ).loc Cert.RmsReferenceIdeal.main_v104) = v1 c
          ∧ r.2.mem ((c.tc : Thread Cert.RmsReferenceIdeal.nD Cert.RmsReferenceIdeal.τ).loc Cert.RmsReferenceIdeal.main_v105) = v2 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3)
          ∧ r.2.mem ((c.tc : Thread Cert.RmsReferenceIdeal.nD Cert.RmsReferenceIdeal.τ).loc Cert.RmsReferenceIdeal.main_arg4) = m' ((c.tc : Thread Cert.RmsReferenceIdeal.nD Cert.RmsReferenceIdeal.τ).loc Cert.RmsReferenceIdeal.main_arg4)
          ∧ r.2.mem ((c.tc : Thread Cert.RmsReferenceIdeal.nD Cert.RmsReferenceIdeal.τ).loc Cert.RmsReferenceIdeal.main_arg5) = m' ((c.tc : Thread Cert.RmsReferenceIdeal.nD Cert.RmsReferenceIdeal.τ).loc Cert.RmsReferenceIdeal.main_arg5)
          ∧ r.2.mem ((c.tc : Thread Cert.RmsReferenceIdeal.nD Cert.RmsReferenceIdeal.τ).loc Cert.RmsReferenceIdeal.main_arg6) = m' ((c.tc : Thread Cert.RmsReferenceIdeal.nD Cert.RmsReferenceIdeal.τ).loc Cert.RmsReferenceIdeal.main_arg6)
          ∧ r.2.mem ((c.tc : Thread Cert.RmsReferenceIdeal.nD Cert.RmsReferenceIdeal.τ).loc Cert.RmsReferenceIdeal.main_arg7) = m' ((c.tc : Thread Cert.RmsReferenceIdeal.nD Cert.RmsReferenceIdeal.τ).loc Cert.RmsReferenceIdeal.main_arg7))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)) →
    ∃ (v0 : (c : Dev Cert.MlpKernelIdeal.nD) → Buf (Elt Ideal) ((c.tc : Thread Cert.MlpKernelIdeal.nD Cert.MlpKernelIdeal.τ).loc Cert.MlpKernelIdeal.main_v13_0)) (v1 : (c : Dev Cert.MlpKernelIdeal.nD) → Buf (Elt Ideal) ((c.tc : Thread Cert.MlpKernelIdeal.nD Cert.MlpKernelIdeal.τ).loc Cert.MlpKernelIdeal.main_v13_1)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v13_0) = v0 c
          ∧ r.2.mem ((c.tc : Thread Cert.MlpKernelIdeal.nD Cert.MlpKernelIdeal.τ).loc Cert.MlpKernelIdeal.main_v13_1) = v1 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v27) = v0 c
          ∧ r.2.mem ((c.tc : Thread Cert.MlpReferenceIdeal.nD Cert.MlpReferenceIdeal.τ).loc Cert.MlpReferenceIdeal.main_v13) = v1 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_PoolKernel_PoolKernelIdeal : Prop :=
  True

def algebraic_PoolKernelIdeal_PoolReferenceIdeal_pre_finite_pool [hPoolKernelIdeal : Cert.PoolKernelIdeal.Facts] [hPoolReferenceIdeal : Cert.PoolReferenceIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_finite_pool m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v1_0)) (v1 : (c : Dev Cert.PoolKernelIdeal.nD) → Buf (Elt Ideal) ((c.tc : Thread Cert.PoolKernelIdeal.nD Cert.PoolKernelIdeal.τ).loc Cert.PoolKernelIdeal.main_v1_1)) (v2 : (c : Dev Cert.PoolKernelIdeal.nD) → Buf (Elt Ideal) ((c.tc : Thread Cert.PoolKernelIdeal.nD Cert.PoolKernelIdeal.τ).loc Cert.PoolKernelIdeal.main_v1_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v1_0) = v0 c
          ∧ r.2.mem ((c.tc : Thread Cert.PoolKernelIdeal.nD Cert.PoolKernelIdeal.τ).loc Cert.PoolKernelIdeal.main_v1_1) = v1 c
          ∧ r.2.mem ((c.tc : Thread Cert.PoolKernelIdeal.nD Cert.PoolKernelIdeal.τ).loc Cert.PoolKernelIdeal.main_v1_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v172) = v0 c
          ∧ r.2.mem ((c.tc : Thread Cert.PoolReferenceIdeal.nD Cert.PoolReferenceIdeal.τ).loc Cert.PoolReferenceIdeal.main_v105) = v1 c
          ∧ r.2.mem ((c.tc : Thread Cert.PoolReferenceIdeal.nD Cert.PoolReferenceIdeal.τ).loc Cert.PoolReferenceIdeal.main_v173) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)
      ∧ m' ((c.tc : Thread Cert.AttnReferenceIdeal.nD Cert.AttnReferenceIdeal.τ).loc Cert.AttnReferenceIdeal.main_arg6) = m ((c.tc : Thread Cert.AttnKernelIdeal.nD Cert.AttnKernelIdeal.τ).loc Cert.AttnKernelIdeal.main_arg6)
      ∧ m' ((c.tc : Thread Cert.AttnReferenceIdeal.nD Cert.AttnReferenceIdeal.τ).loc Cert.AttnReferenceIdeal.main_arg7) = m ((c.tc : Thread Cert.AttnKernelIdeal.nD Cert.AttnKernelIdeal.τ).loc Cert.AttnKernelIdeal.main_arg7)
      ∧ m' ((c.tc : Thread Cert.AttnReferenceIdeal.nD Cert.AttnReferenceIdeal.τ).loc Cert.AttnReferenceIdeal.main_arg8) = m ((c.tc : Thread Cert.AttnKernelIdeal.nD Cert.AttnKernelIdeal.τ).loc Cert.AttnKernelIdeal.main_arg8)) →
    ∃ (v0 : (c : Dev Cert.AttnKernelIdeal.nD) → Buf (Elt Ideal) ((c.tc : Thread Cert.AttnKernelIdeal.nD Cert.AttnKernelIdeal.τ).loc Cert.AttnKernelIdeal.main_v63_0)) (v1 : (c : Dev Cert.AttnKernelIdeal.nD) → Buf (Elt Ideal) ((c.tc : Thread Cert.AttnKernelIdeal.nD Cert.AttnKernelIdeal.τ).loc Cert.AttnKernelIdeal.main_v63_1)) (v2 : (c : Dev Cert.AttnKernelIdeal.nD) → Buf (Elt Ideal) ((c.tc : Thread Cert.AttnKernelIdeal.nD Cert.AttnKernelIdeal.τ).loc Cert.AttnKernelIdeal.main_v63_2)) (v3 : (c : Dev Cert.AttnKernelIdeal.nD) → Buf (Elt Ideal) ((c.tc : Thread Cert.AttnKernelIdeal.nD Cert.AttnKernelIdeal.τ).loc Cert.AttnKernelIdeal.main_v63_3)) (v4 : (c : Dev Cert.AttnKernelIdeal.nD) → Buf (Elt Ideal) ((c.tc : Thread Cert.AttnKernelIdeal.nD Cert.AttnKernelIdeal.τ).loc Cert.AttnKernelIdeal.main_v63_4)) (v5 : (c : Dev Cert.AttnKernelIdeal.nD) → Buf (Elt Ideal) ((c.tc : Thread Cert.AttnKernelIdeal.nD Cert.AttnKernelIdeal.τ).loc Cert.AttnKernelIdeal.main_v63_5)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v63_0) = v0 c
          ∧ r.2.mem ((c.tc : Thread Cert.AttnKernelIdeal.nD Cert.AttnKernelIdeal.τ).loc Cert.AttnKernelIdeal.main_v63_1) = v1 c
          ∧ r.2.mem ((c.tc : Thread Cert.AttnKernelIdeal.nD Cert.AttnKernelIdeal.τ).loc Cert.AttnKernelIdeal.main_v63_2) = v2 c
          ∧ r.2.mem ((c.tc : Thread Cert.AttnKernelIdeal.nD Cert.AttnKernelIdeal.τ).loc Cert.AttnKernelIdeal.main_v63_3) = v3 c
          ∧ r.2.mem ((c.tc : Thread Cert.AttnKernelIdeal.nD Cert.AttnKernelIdeal.τ).loc Cert.AttnKernelIdeal.main_v63_4) = v4 c
          ∧ r.2.mem ((c.tc : Thread Cert.AttnKernelIdeal.nD Cert.AttnKernelIdeal.τ).loc Cert.AttnKernelIdeal.main_v63_5) = v5 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
          ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
          ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7)
          ∧ r.2.mem ((c.tc : Thread Cert.AttnKernelIdeal.nD Cert.AttnKernelIdeal.τ).loc Cert.AttnKernelIdeal.main_arg8) = m ((c.tc : Thread Cert.AttnKernelIdeal.nD Cert.AttnKernelIdeal.τ).loc Cert.AttnKernelIdeal.main_arg8))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v128) = v0 c
          ∧ r.2.mem ((c.tc : Thread Cert.AttnReferenceIdeal.nD Cert.AttnReferenceIdeal.τ).loc Cert.AttnReferenceIdeal.main_v131) = v1 c
          ∧ r.2.mem ((c.tc : Thread Cert.AttnReferenceIdeal.nD Cert.AttnReferenceIdeal.τ).loc Cert.AttnReferenceIdeal.main_v134) = v2 c
          ∧ r.2.mem ((c.tc : Thread Cert.AttnReferenceIdeal.nD Cert.AttnReferenceIdeal.τ).loc Cert.AttnReferenceIdeal.main_v126) = v3 c
          ∧ r.2.mem ((c.tc : Thread Cert.AttnReferenceIdeal.nD Cert.AttnReferenceIdeal.τ).loc Cert.AttnReferenceIdeal.main_v105) = v4 c
          ∧ r.2.mem ((c.tc : Thread Cert.AttnReferenceIdeal.nD Cert.AttnReferenceIdeal.τ).loc Cert.AttnReferenceIdeal.main_v94) = v5 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8))

def preserves_LruKernel_LruKernelIdeal : Prop :=
  True

def preserves_AttnFKernel_AttnFKernelIdeal : Prop :=
  True

def algebraic_AttnFKernelIdeal_AttnFReferenceIdeal_pre_finite_attn_fwd [hAttnFKernelIdeal : Cert.AttnFKernelIdeal.Facts] [hAttnFReferenceIdeal : Cert.AttnFReferenceIdeal.Facts] [hPre_finite_attn_fwd : Cert.Pre_finite_attn_fwd.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg)
    (m' : (ℓ : Loc Cert.AttnFReferenceIdeal.nD Cert.AttnFReferenceIdeal.τ Cert.AttnFReferenceIdeal.sig) → Buf (Elt Ideal) ℓ) (g' : Dev Cert.AttnFReferenceIdeal.nD → PrngReg), Pre_AttnFKernelIdeal_finite_attn_fwd m →
    (∀ c : Dev Cert.AttnFKernelIdeal.nD,
      m' ((c.tc : Thread Cert.AttnFReferenceIdeal.nD Cert.AttnFReferenceIdeal.τ).loc Cert.AttnFReferenceIdeal.main_arg0) = m ((c.tc : Thread Cert.AttnFKernelIdeal.nD Cert.AttnFKernelIdeal.τ).loc Cert.AttnFKernelIdeal.main_arg0)
      ∧ m' ((c.tc : Thread Cert.AttnFReferenceIdeal.nD Cert.AttnFReferenceIdeal.τ).loc Cert.AttnFReferenceIdeal.main_arg1) = m ((c.tc : Thread Cert.AttnFKernelIdeal.nD Cert.AttnFKernelIdeal.τ).loc Cert.AttnFKernelIdeal.main_arg1)
      ∧ m' ((c.tc : Thread Cert.AttnFReferenceIdeal.nD Cert.AttnFReferenceIdeal.τ).loc Cert.AttnFReferenceIdeal.main_arg2) = m ((c.tc : Thread Cert.AttnFKernelIdeal.nD Cert.AttnFKernelIdeal.τ).loc Cert.AttnFKernelIdeal.main_arg2)
      ∧ m' ((c.tc : Thread Cert.AttnFReferenceIdeal.nD Cert.AttnFReferenceIdeal.τ).loc Cert.AttnFReferenceIdeal.main_arg3) = m ((c.tc : Thread Cert.AttnFKernelIdeal.nD Cert.AttnFKernelIdeal.τ).loc Cert.AttnFKernelIdeal.main_arg3)
      ∧ m' ((c.tc : Thread Cert.AttnFReferenceIdeal.nD Cert.AttnFReferenceIdeal.τ).loc Cert.AttnFReferenceIdeal.main_arg4) = m ((c.tc : Thread Cert.AttnFKernelIdeal.nD Cert.AttnFKernelIdeal.τ).loc Cert.AttnFKernelIdeal.main_arg4)
      ∧ m' ((c.tc : Thread Cert.AttnFReferenceIdeal.nD Cert.AttnFReferenceIdeal.τ).loc Cert.AttnFReferenceIdeal.main_arg5) = m ((c.tc : Thread Cert.AttnFKernelIdeal.nD Cert.AttnFKernelIdeal.τ).loc Cert.AttnFKernelIdeal.main_arg5)
      ∧ m' ((c.tc : Thread Cert.AttnFReferenceIdeal.nD Cert.AttnFReferenceIdeal.τ).loc Cert.AttnFReferenceIdeal.main_arg6) = m ((c.tc : Thread Cert.AttnFKernelIdeal.nD Cert.AttnFKernelIdeal.τ).loc Cert.AttnFKernelIdeal.main_arg6)
      ∧ m' ((c.tc : Thread Cert.AttnFReferenceIdeal.nD Cert.AttnFReferenceIdeal.τ).loc Cert.AttnFReferenceIdeal.main_arg7) = m ((c.tc : Thread Cert.AttnFKernelIdeal.nD Cert.AttnFKernelIdeal.τ).loc Cert.AttnFKernelIdeal.main_arg7)) →
    ∃ (v0 : (c : Dev Cert.AttnFKernelIdeal.nD) → Buf (Elt Ideal) ((c.tc : Thread Cert.AttnFKernelIdeal.nD Cert.AttnFKernelIdeal.τ).loc Cert.AttnFKernelIdeal.main_v10_0)) (v1 : (c : Dev Cert.AttnFKernelIdeal.nD) → Buf (Elt Ideal) ((c.tc : Thread Cert.AttnFKernelIdeal.nD Cert.AttnFKernelIdeal.τ).loc Cert.AttnFKernelIdeal.main_v10_1)),
      θ_run (Cert.AttnFKernelIdeal.defs (F := Ideal)) (onTc (τ := Cert.AttnFKernelIdeal.τ) (Cert.AttnFKernelIdeal.main (F := Ideal))) ⟨m, fun _ => 0, g⟩ (fun r => ∀ c : Dev Cert.AttnFKernelIdeal.nD,
          r.2.mem ((c.tc : Thread Cert.AttnFKernelIdeal.nD Cert.AttnFKernelIdeal.τ).loc Cert.AttnFKernelIdeal.main_v10_0) = v0 c
          ∧ r.2.mem ((c.tc : Thread Cert.AttnFKernelIdeal.nD Cert.AttnFKernelIdeal.τ).loc Cert.AttnFKernelIdeal.main_v10_1) = v1 c
          ∧ r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
          ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1)
          ∧ r.2.mem ((c.tc : Thread Cert.AttnFKernelIdeal.nD Cert.AttnFKernelIdeal.τ).loc Cert.AttnFKernelIdeal.main_arg2) = m ((c.tc : Thread Cert.AttnFKernelIdeal.nD Cert.AttnFKernelIdeal.τ).loc Cert.AttnFKernelIdeal.main_arg2)
          ∧ r.2.mem ((c.tc : Thread Cert.AttnFKernelIdeal.nD Cert.AttnFKernelIdeal.τ).loc Cert.AttnFKernelIdeal.main_arg3) = m ((c.tc : Thread Cert.AttnFKernelIdeal.nD Cert.AttnFKernelIdeal.τ).loc Cert.AttnFKernelIdeal.main_arg3)
          ∧ r.2.mem ((c.tc : Thread Cert.AttnFKernelIdeal.nD Cert.AttnFKernelIdeal.τ).loc Cert.AttnFKernelIdeal.main_arg4) = m ((c.tc : Thread Cert.AttnFKernelIdeal.nD Cert.AttnFKernelIdeal.τ).loc Cert.AttnFKernelIdeal.main_arg4)
          ∧ r.2.mem ((c.tc : Thread Cert.AttnFKernelIdeal.nD Cert.AttnFKernelIdeal.τ).loc Cert.AttnFKernelIdeal.main_arg5) = m ((c.tc : Thread Cert.AttnFKernelIdeal.nD Cert.AttnFKernelIdeal.τ).loc Cert.AttnFKernelIdeal.main_arg5)
          ∧ r.2.mem ((c.tc : Thread Cert.AttnFKernelIdeal.nD Cert.AttnFKernelIdeal.τ).loc Cert.AttnFKernelIdeal.main_arg6) = m ((c.tc : Thread Cert.AttnFKernelIdeal.nD Cert.AttnFKernelIdeal.τ).loc Cert.AttnFKernelIdeal.main_arg6)
          ∧ r.2.mem ((c.tc : Thread Cert.AttnFKernelIdeal.nD Cert.AttnFKernelIdeal.τ).loc Cert.AttnFKernelIdeal.main_arg7) = m ((c.tc : Thread Cert.AttnFKernelIdeal.nD Cert.AttnFKernelIdeal.τ).loc Cert.AttnFKernelIdeal.main_arg7))
      ∧ θ_run (Cert.AttnFReferenceIdeal.defs (F := Ideal)) (onTc (τ := Cert.AttnFReferenceIdeal.τ) (Cert.AttnFReferenceIdeal.main (F := Ideal))) ⟨m', fun _ => 0, g'⟩ (fun r => ∀ c : Dev Cert.AttnFReferenceIdeal.nD,
          r.2.mem ((c.tc : Thread Cert.AttnFReferenceIdeal.nD Cert.AttnFReferenceIdeal.τ).loc Cert.AttnFReferenceIdeal.main_v51) = v0 c
          ∧ r.2.mem ((c.tc : Thread Cert.AttnFReferenceIdeal.nD Cert.AttnFReferenceIdeal.τ).loc Cert.AttnFReferenceIdeal.main_v53) = v1 c
          ∧ r.2.mem ((c.tc : Thread Cert.AttnFReferenceIdeal.nD Cert.AttnFReferenceIdeal.τ).loc Cert.AttnFReferenceIdeal.main_arg0) = m' ((c.tc : Thread Cert.AttnFReferenceIdeal.nD Cert.AttnFReferenceIdeal.τ).loc Cert.AttnFReferenceIdeal.main_arg0)
          ∧ r.2.mem ((c.tc : Thread Cert.AttnFReferenceIdeal.nD Cert.AttnFReferenceIdeal.τ).loc Cert.AttnFReferenceIdeal.main_arg1) = m' ((c.tc : Thread Cert.AttnFReferenceIdeal.nD Cert.AttnFReferenceIdeal.τ).loc Cert.AttnFReferenceIdeal.main_arg1)
          ∧ r.2.mem ((c.tc : Thread Cert.AttnFReferenceIdeal.nD Cert.AttnFReferenceIdeal.τ).loc Cert.AttnFReferenceIdeal.main_arg2) = m' ((c.tc : Thread Cert.AttnFReferenceIdeal.nD Cert.AttnFReferenceIdeal.τ).loc Cert.AttnFReferenceIdeal.main_arg2)
          ∧ r.2.mem ((c.tc : Thread Cert.AttnFReferenceIdeal.nD Cert.AttnFReferenceIdeal.τ).loc Cert.AttnFReferenceIdeal.main_arg3) = m' ((c.tc : Thread Cert.AttnFReferenceIdeal.nD Cert.AttnFReferenceIdeal.τ).loc Cert.AttnFReferenceIdeal.main_arg3)
          ∧ r.2.mem ((c.tc : Thread Cert.AttnFReferenceIdeal.nD Cert.AttnFReferenceIdeal.τ).loc Cert.AttnFReferenceIdeal.main_arg4) = m' ((c.tc : Thread Cert.AttnFReferenceIdeal.nD Cert.AttnFReferenceIdeal.τ).loc Cert.AttnFReferenceIdeal.main_arg4)
          ∧ r.2.mem ((c.tc : Thread Cert.AttnFReferenceIdeal.nD Cert.AttnFReferenceIdeal.τ).loc Cert.AttnFReferenceIdeal.main_arg5) = m' ((c.tc : Thread Cert.AttnFReferenceIdeal.nD Cert.AttnFReferenceIdeal.τ).loc Cert.AttnFReferenceIdeal.main_arg5)
          ∧ r.2.mem ((c.tc : Thread Cert.AttnFReferenceIdeal.nD Cert.AttnFReferenceIdeal.τ).loc Cert.AttnFReferenceIdeal.main_arg6) = m' ((c.tc : Thread Cert.AttnFReferenceIdeal.nD Cert.AttnFReferenceIdeal.τ).loc Cert.AttnFReferenceIdeal.main_arg6)
          ∧ r.2.mem ((c.tc : Thread Cert.AttnFReferenceIdeal.nD Cert.AttnFReferenceIdeal.τ).loc Cert.AttnFReferenceIdeal.main_arg7) = m' ((c.tc : Thread Cert.AttnFReferenceIdeal.nD Cert.AttnFReferenceIdeal.τ).loc Cert.AttnFReferenceIdeal.main_arg7))

def preserves_ResLnKernel_ResLnKernelIdeal : Prop :=
  True

def algebraic_ResLnKernelIdeal_ResLnReferenceIdeal [hResLnKernelIdeal : Cert.ResLnKernelIdeal.Facts] [hResLnReferenceIdeal : Cert.ResLnReferenceIdeal.Facts] : Prop :=
  ∀ (m : (ℓ : Loc Cert.ResLnKernelIdeal.nD Cert.ResLnKernelIdeal.τ Cert.ResLnKernelIdeal.sig) → Buf (Elt Ideal) ℓ) (g : Dev Cert.ResLnKernelIdeal.nD → PrngReg)
    (m' : (ℓ : Loc Cert.ResLnReferenceIdeal.nD Cert.ResLnReferenceIdeal.τ Cert.ResLnReferenceIdeal.sig) → Buf (Elt Ideal) ℓ) (g' : Dev Cert.ResLnReferenceIdeal.nD → PrngReg), Pre_ResLnKernelIdeal m →
    (∀ c : Dev Cert.ResLnKernelIdeal.nD,
      m' ((c.tc : Thread Cert.ResLnReferenceIdeal.nD Cert.ResLnReferenceIdeal.τ).loc Cert.ResLnReferenceIdeal.main_arg0) = m ((c.tc : Thread Cert.ResLnKernelIdeal.nD Cert.ResLnKernelIdeal.τ).loc Cert.ResLnKernelIdeal.main_arg0)
      ∧ m' ((c.tc : Thread Cert.ResLnReferenceIdeal.nD Cert.ResLnReferenceIdeal.τ).loc Cert.ResLnReferenceIdeal.main_arg1) = m ((c.tc : Thread Cert.ResLnKernelIdeal.nD Cert.ResLnKernelIdeal.τ).loc Cert.ResLnKernelIdeal.main_arg1)
      ∧ m' ((c.tc : Thread Cert.ResLnReferenceIdeal.nD Cert.ResLnReferenceIdeal.τ).loc Cert.ResLnReferenceIdeal.main_arg2) = m ((c.tc : Thread Cert.ResLnKernelIdeal.nD Cert.ResLnKernelIdeal.τ).loc Cert.ResLnKernelIdeal.main_arg2)
      ∧ m' ((c.tc : Thread Cert.ResLnReferenceIdeal.nD Cert.ResLnReferenceIdeal.τ).loc Cert.ResLnReferenceIdeal.main_arg3) = m ((c.tc : Thread Cert.ResLnKernelIdeal.nD Cert.ResLnKernelIdeal.τ).loc Cert.ResLnKernelIdeal.main_arg3)) →
    ∃ (v0 : (c : Dev Cert.ResLnKernelIdeal.nD) → Buf (Elt Ideal) ((c.tc : Thread Cert.ResLnKernelIdeal.nD Cert.ResLnKernelIdeal.τ).loc Cert.ResLnKernelIdeal.main_v2_0)) (v1 : (c : Dev Cert.ResLnKernelIdeal.nD) → Buf (Elt Ideal) ((c.tc : Thread Cert.ResLnKernelIdeal.nD Cert.ResLnKernelIdeal.τ).loc Cert.ResLnKernelIdeal.main_v2_1)) (v2 : (c : Dev Cert.ResLnKernelIdeal.nD) → Buf (Elt Ideal) ((c.tc : Thread Cert.ResLnKernelIdeal.nD Cert.ResLnKernelIdeal.τ).loc Cert.ResLnKernelIdeal.main_v2_2)),
      θ_run (Cert.ResLnKernelIdeal.defs (F := Ideal)) (onTc (τ := Cert.ResLnKernelIdeal.τ) (Cert.ResLnKernelIdeal.main (F := Ideal))) ⟨m, fun _ => 0, g⟩ (fun r => ∀ c : Dev Cert.ResLnKernelIdeal.nD,
          r.2.mem ((c.tc : Thread Cert.ResLnKernelIdeal.nD Cert.ResLnKernelIdeal.τ).loc Cert.ResLnKernelIdeal.main_v2_0) = v0 c
          ∧ r.2.mem ((c.tc : Thread Cert.ResLnKernelIdeal.nD Cert.ResLnKernelIdeal.τ).loc Cert.ResLnKernelIdeal.main_v2_1) = v1 c
          ∧ r.2.mem ((c.tc : Thread Cert.ResLnKernelIdeal.nD Cert.ResLnKernelIdeal.τ).loc Cert.ResLnKernelIdeal.main_v2_2) = v2 c
          ∧ r.2.mem ((c.tc : Thread Cert.ResLnKernelIdeal.nD Cert.ResLnKernelIdeal.τ).loc Cert.ResLnKernelIdeal.main_arg0) = m ((c.tc : Thread Cert.ResLnKernelIdeal.nD Cert.ResLnKernelIdeal.τ).loc Cert.ResLnKernelIdeal.main_arg0)
          ∧ r.2.mem ((c.tc : Thread Cert.ResLnKernelIdeal.nD Cert.ResLnKernelIdeal.τ).loc Cert.ResLnKernelIdeal.main_arg1) = m ((c.tc : Thread Cert.ResLnKernelIdeal.nD Cert.ResLnKernelIdeal.τ).loc Cert.ResLnKernelIdeal.main_arg1)
          ∧ r.2.mem ((c.tc : Thread Cert.ResLnKernelIdeal.nD Cert.ResLnKernelIdeal.τ).loc Cert.ResLnKernelIdeal.main_arg2) = m ((c.tc : Thread Cert.ResLnKernelIdeal.nD Cert.ResLnKernelIdeal.τ).loc Cert.ResLnKernelIdeal.main_arg2)
          ∧ r.2.mem ((c.tc : Thread Cert.ResLnKernelIdeal.nD Cert.ResLnKernelIdeal.τ).loc Cert.ResLnKernelIdeal.main_arg3) = m ((c.tc : Thread Cert.ResLnKernelIdeal.nD Cert.ResLnKernelIdeal.τ).loc Cert.ResLnKernelIdeal.main_arg3))
      ∧ θ_run (Cert.ResLnReferenceIdeal.defs (F := Ideal)) (onTc (τ := Cert.ResLnReferenceIdeal.τ) (Cert.ResLnReferenceIdeal.main (F := Ideal))) ⟨m', fun _ => 0, g'⟩ (fun r => ∀ c : Dev Cert.ResLnReferenceIdeal.nD,
          r.2.mem ((c.tc : Thread Cert.ResLnReferenceIdeal.nD Cert.ResLnReferenceIdeal.τ).loc Cert.ResLnReferenceIdeal.main_v2) = v0 c
          ∧ r.2.mem ((c.tc : Thread Cert.ResLnReferenceIdeal.nD Cert.ResLnReferenceIdeal.τ).loc Cert.ResLnReferenceIdeal.main_v30) = v1 c
          ∧ r.2.mem ((c.tc : Thread Cert.ResLnReferenceIdeal.nD Cert.ResLnReferenceIdeal.τ).loc Cert.ResLnReferenceIdeal.main_v31) = v2 c
          ∧ r.2.mem ((c.tc : Thread Cert.ResLnReferenceIdeal.nD Cert.ResLnReferenceIdeal.τ).loc Cert.ResLnReferenceIdeal.main_arg0) = m' ((c.tc : Thread Cert.ResLnReferenceIdeal.nD Cert.ResLnReferenceIdeal.τ).loc Cert.ResLnReferenceIdeal.main_arg0)
          ∧ r.2.mem ((c.tc : Thread Cert.ResLnReferenceIdeal.nD Cert.ResLnReferenceIdeal.τ).loc Cert.ResLnReferenceIdeal.main_arg1) = m' ((c.tc : Thread Cert.ResLnReferenceIdeal.nD Cert.ResLnReferenceIdeal.τ).loc Cert.ResLnReferenceIdeal.main_arg1)
          ∧ r.2.mem ((c.tc : Thread Cert.ResLnReferenceIdeal.nD Cert.ResLnReferenceIdeal.τ).loc Cert.ResLnReferenceIdeal.main_arg2) = m' ((c.tc : Thread Cert.ResLnReferenceIdeal.nD Cert.ResLnReferenceIdeal.τ).loc Cert.ResLnReferenceIdeal.main_arg2)
          ∧ r.2.mem ((c.tc : Thread Cert.ResLnReferenceIdeal.nD Cert.ResLnReferenceIdeal.τ).loc Cert.ResLnReferenceIdeal.main_arg3) = m' ((c.tc : Thread Cert.ResLnReferenceIdeal.nD Cert.ResLnReferenceIdeal.τ).loc Cert.ResLnReferenceIdeal.main_arg3))

def preserves_ProjLnKernel_ProjLnKernelIdeal : Prop :=
  True

def algebraic_ProjLnKernelIdeal_ProjLnReferenceIdeal [hProjLnKernelIdeal : Cert.ProjLnKernelIdeal.Facts] [hProjLnReferenceIdeal : Cert.ProjLnReferenceIdeal.Facts] : Prop :=
  ∀ (m : (ℓ : Loc Cert.ProjLnKernelIdeal.nD Cert.ProjLnKernelIdeal.τ Cert.ProjLnKernelIdeal.sig) → Buf (Elt Ideal) ℓ) (g : Dev Cert.ProjLnKernelIdeal.nD → PrngReg)
    (m' : (ℓ : Loc Cert.ProjLnReferenceIdeal.nD Cert.ProjLnReferenceIdeal.τ Cert.ProjLnReferenceIdeal.sig) → Buf (Elt Ideal) ℓ) (g' : Dev Cert.ProjLnReferenceIdeal.nD → PrngReg), Pre_ProjLnKernelIdeal m →
    (∀ c : Dev Cert.ProjLnKernelIdeal.nD,
      m' ((c.tc : Thread Cert.ProjLnReferenceIdeal.nD Cert.ProjLnReferenceIdeal.τ).loc Cert.ProjLnReferenceIdeal.main_arg0) = m ((c.tc : Thread Cert.ProjLnKernelIdeal.nD Cert.ProjLnKernelIdeal.τ).loc Cert.ProjLnKernelIdeal.main_arg0)
      ∧ m' ((c.tc : Thread Cert.ProjLnReferenceIdeal.nD Cert.ProjLnReferenceIdeal.τ).loc Cert.ProjLnReferenceIdeal.main_arg1) = m ((c.tc : Thread Cert.ProjLnKernelIdeal.nD Cert.ProjLnKernelIdeal.τ).loc Cert.ProjLnKernelIdeal.main_arg1)
      ∧ m' ((c.tc : Thread Cert.ProjLnReferenceIdeal.nD Cert.ProjLnReferenceIdeal.τ).loc Cert.ProjLnReferenceIdeal.main_arg2) = m ((c.tc : Thread Cert.ProjLnKernelIdeal.nD Cert.ProjLnKernelIdeal.τ).loc Cert.ProjLnKernelIdeal.main_arg2)
      ∧ m' ((c.tc : Thread Cert.ProjLnReferenceIdeal.nD Cert.ProjLnReferenceIdeal.τ).loc Cert.ProjLnReferenceIdeal.main_arg3) = m ((c.tc : Thread Cert.ProjLnKernelIdeal.nD Cert.ProjLnKernelIdeal.τ).loc Cert.ProjLnKernelIdeal.main_arg3)
      ∧ m' ((c.tc : Thread Cert.ProjLnReferenceIdeal.nD Cert.ProjLnReferenceIdeal.τ).loc Cert.ProjLnReferenceIdeal.main_arg4) = m ((c.tc : Thread Cert.ProjLnKernelIdeal.nD Cert.ProjLnKernelIdeal.τ).loc Cert.ProjLnKernelIdeal.main_arg4)) →
    ∃ (v0 : (c : Dev Cert.ProjLnKernelIdeal.nD) → Buf (Elt Ideal) ((c.tc : Thread Cert.ProjLnKernelIdeal.nD Cert.ProjLnKernelIdeal.τ).loc Cert.ProjLnKernelIdeal.main_v4_0)) (v1 : (c : Dev Cert.ProjLnKernelIdeal.nD) → Buf (Elt Ideal) ((c.tc : Thread Cert.ProjLnKernelIdeal.nD Cert.ProjLnKernelIdeal.τ).loc Cert.ProjLnKernelIdeal.main_v4_1)) (v2 : (c : Dev Cert.ProjLnKernelIdeal.nD) → Buf (Elt Ideal) ((c.tc : Thread Cert.ProjLnKernelIdeal.nD Cert.ProjLnKernelIdeal.τ).loc Cert.ProjLnKernelIdeal.main_v4_2)),
      θ_run (Cert.ProjLnKernelIdeal.defs (F := Ideal)) (onTc (τ := Cert.ProjLnKernelIdeal.τ) (Cert.ProjLnKernelIdeal.main (F := Ideal))) ⟨m, fun _ => 0, g⟩ (fun r => ∀ c : Dev Cert.ProjLnKernelIdeal.nD,
          r.2.mem ((c.tc : Thread Cert.ProjLnKernelIdeal.nD Cert.ProjLnKernelIdeal.τ).loc Cert.ProjLnKernelIdeal.main_v4_0) = v0 c
          ∧ r.2.mem ((c.tc : Thread Cert.ProjLnKernelIdeal.nD Cert.ProjLnKernelIdeal.τ).loc Cert.ProjLnKernelIdeal.main_v4_1) = v1 c
          ∧ r.2.mem ((c.tc : Thread Cert.ProjLnKernelIdeal.nD Cert.ProjLnKernelIdeal.τ).loc Cert.ProjLnKernelIdeal.main_v4_2) = v2 c
          ∧ r.2.mem ((c.tc : Thread Cert.ProjLnKernelIdeal.nD Cert.ProjLnKernelIdeal.τ).loc Cert.ProjLnKernelIdeal.main_arg0) = m ((c.tc : Thread Cert.ProjLnKernelIdeal.nD Cert.ProjLnKernelIdeal.τ).loc Cert.ProjLnKernelIdeal.main_arg0)
          ∧ r.2.mem ((c.tc : Thread Cert.ProjLnKernelIdeal.nD Cert.ProjLnKernelIdeal.τ).loc Cert.ProjLnKernelIdeal.main_arg1) = m ((c.tc : Thread Cert.ProjLnKernelIdeal.nD Cert.ProjLnKernelIdeal.τ).loc Cert.ProjLnKernelIdeal.main_arg1)
          ∧ r.2.mem ((c.tc : Thread Cert.ProjLnKernelIdeal.nD Cert.ProjLnKernelIdeal.τ).loc Cert.ProjLnKernelIdeal.main_arg2) = m ((c.tc : Thread Cert.ProjLnKernelIdeal.nD Cert.ProjLnKernelIdeal.τ).loc Cert.ProjLnKernelIdeal.main_arg2)
          ∧ r.2.mem ((c.tc : Thread Cert.ProjLnKernelIdeal.nD Cert.ProjLnKernelIdeal.τ).loc Cert.ProjLnKernelIdeal.main_arg3) = m ((c.tc : Thread Cert.ProjLnKernelIdeal.nD Cert.ProjLnKernelIdeal.τ).loc Cert.ProjLnKernelIdeal.main_arg3)
          ∧ r.2.mem ((c.tc : Thread Cert.ProjLnKernelIdeal.nD Cert.ProjLnKernelIdeal.τ).loc Cert.ProjLnKernelIdeal.main_arg4) = m ((c.tc : Thread Cert.ProjLnKernelIdeal.nD Cert.ProjLnKernelIdeal.τ).loc Cert.ProjLnKernelIdeal.main_arg4))
      ∧ θ_run (Cert.ProjLnReferenceIdeal.defs (F := Ideal)) (onTc (τ := Cert.ProjLnReferenceIdeal.τ) (Cert.ProjLnReferenceIdeal.main (F := Ideal))) ⟨m', fun _ => 0, g'⟩ (fun r => ∀ c : Dev Cert.ProjLnReferenceIdeal.nD,
          r.2.mem ((c.tc : Thread Cert.ProjLnReferenceIdeal.nD Cert.ProjLnReferenceIdeal.τ).loc Cert.ProjLnReferenceIdeal.main_v3) = v0 c
          ∧ r.2.mem ((c.tc : Thread Cert.ProjLnReferenceIdeal.nD Cert.ProjLnReferenceIdeal.τ).loc Cert.ProjLnReferenceIdeal.main_v31) = v1 c
          ∧ r.2.mem ((c.tc : Thread Cert.ProjLnReferenceIdeal.nD Cert.ProjLnReferenceIdeal.τ).loc Cert.ProjLnReferenceIdeal.main_v32) = v2 c
          ∧ r.2.mem ((c.tc : Thread Cert.ProjLnReferenceIdeal.nD Cert.ProjLnReferenceIdeal.τ).loc Cert.ProjLnReferenceIdeal.main_arg0) = m' ((c.tc : Thread Cert.ProjLnReferenceIdeal.nD Cert.ProjLnReferenceIdeal.τ).loc Cert.ProjLnReferenceIdeal.main_arg0)
          ∧ r.2.mem ((c.tc : Thread Cert.ProjLnReferenceIdeal.nD Cert.ProjLnReferenceIdeal.τ).loc Cert.ProjLnReferenceIdeal.main_arg1) = m' ((c.tc : Thread Cert.ProjLnReferenceIdeal.nD Cert.ProjLnReferenceIdeal.τ).loc Cert.ProjLnReferenceIdeal.main_arg1)
          ∧ r.2.mem ((c.tc : Thread Cert.ProjLnReferenceIdeal.nD Cert.ProjLnReferenceIdeal.τ).loc Cert.ProjLnReferenceIdeal.main_arg2) = m' ((c.tc : Thread Cert.ProjLnReferenceIdeal.nD Cert.ProjLnReferenceIdeal.τ).loc Cert.ProjLnReferenceIdeal.main_arg2)
          ∧ r.2.mem ((c.tc : Thread Cert.ProjLnReferenceIdeal.nD Cert.ProjLnReferenceIdeal.τ).loc Cert.ProjLnReferenceIdeal.main_arg3) = m' ((c.tc : Thread Cert.ProjLnReferenceIdeal.nD Cert.ProjLnReferenceIdeal.τ).loc Cert.ProjLnReferenceIdeal.main_arg3)
          ∧ r.2.mem ((c.tc : Thread Cert.ProjLnReferenceIdeal.nD Cert.ProjLnReferenceIdeal.τ).loc Cert.ProjLnReferenceIdeal.main_arg4) = m' ((c.tc : Thread Cert.ProjLnReferenceIdeal.nD Cert.ProjLnReferenceIdeal.τ).loc Cert.ProjLnReferenceIdeal.main_arg4))

def preserves_MlpFKernel_MlpFKernelIdeal : Prop :=
  True

def algebraic_MlpFKernelIdeal_MlpFReferenceIdeal [hMlpFKernelIdeal : Cert.MlpFKernelIdeal.Facts] [hMlpFReferenceIdeal : Cert.MlpFReferenceIdeal.Facts] : Prop :=
  ∀ (m : (ℓ : Loc Cert.MlpFKernelIdeal.nD Cert.MlpFKernelIdeal.τ Cert.MlpFKernelIdeal.sig) → Buf (Elt Ideal) ℓ) (g : Dev Cert.MlpFKernelIdeal.nD → PrngReg)
    (m' : (ℓ : Loc Cert.MlpFReferenceIdeal.nD Cert.MlpFReferenceIdeal.τ Cert.MlpFReferenceIdeal.sig) → Buf (Elt Ideal) ℓ) (g' : Dev Cert.MlpFReferenceIdeal.nD → PrngReg), Pre_MlpFKernelIdeal m →
    (∀ c : Dev Cert.MlpFKernelIdeal.nD,
      m' ((c.tc : Thread Cert.MlpFReferenceIdeal.nD Cert.MlpFReferenceIdeal.τ).loc Cert.MlpFReferenceIdeal.main_arg0) = m ((c.tc : Thread Cert.MlpFKernelIdeal.nD Cert.MlpFKernelIdeal.τ).loc Cert.MlpFKernelIdeal.main_arg0)
      ∧ m' ((c.tc : Thread Cert.MlpFReferenceIdeal.nD Cert.MlpFReferenceIdeal.τ).loc Cert.MlpFReferenceIdeal.main_arg1) = m ((c.tc : Thread Cert.MlpFKernelIdeal.nD Cert.MlpFKernelIdeal.τ).loc Cert.MlpFKernelIdeal.main_arg1)
      ∧ m' ((c.tc : Thread Cert.MlpFReferenceIdeal.nD Cert.MlpFReferenceIdeal.τ).loc Cert.MlpFReferenceIdeal.main_arg2) = m ((c.tc : Thread Cert.MlpFKernelIdeal.nD Cert.MlpFKernelIdeal.τ).loc Cert.MlpFKernelIdeal.main_arg2)
      ∧ m' ((c.tc : Thread Cert.MlpFReferenceIdeal.nD Cert.MlpFReferenceIdeal.τ).loc Cert.MlpFReferenceIdeal.main_arg3) = m ((c.tc : Thread Cert.MlpFKernelIdeal.nD Cert.MlpFKernelIdeal.τ).loc Cert.MlpFKernelIdeal.main_arg3)
      ∧ m' ((c.tc : Thread Cert.MlpFReferenceIdeal.nD Cert.MlpFReferenceIdeal.τ).loc Cert.MlpFReferenceIdeal.main_arg4) = m ((c.tc : Thread Cert.MlpFKernelIdeal.nD Cert.MlpFKernelIdeal.τ).loc Cert.MlpFKernelIdeal.main_arg4)) →
    ∃ (v0 : (c : Dev Cert.MlpFKernelIdeal.nD) → Buf (Elt Ideal) ((c.tc : Thread Cert.MlpFKernelIdeal.nD Cert.MlpFKernelIdeal.τ).loc Cert.MlpFKernelIdeal.main_v8_0)) (v1 : (c : Dev Cert.MlpFKernelIdeal.nD) → Buf (Elt Ideal) ((c.tc : Thread Cert.MlpFKernelIdeal.nD Cert.MlpFKernelIdeal.τ).loc Cert.MlpFKernelIdeal.main_v8_1)) (v2 : (c : Dev Cert.MlpFKernelIdeal.nD) → Buf (Elt Ideal) ((c.tc : Thread Cert.MlpFKernelIdeal.nD Cert.MlpFKernelIdeal.τ).loc Cert.MlpFKernelIdeal.main_v8_2)) (v3 : (c : Dev Cert.MlpFKernelIdeal.nD) → Buf (Elt Ideal) ((c.tc : Thread Cert.MlpFKernelIdeal.nD Cert.MlpFKernelIdeal.τ).loc Cert.MlpFKernelIdeal.main_v8_3)),
      θ_run (Cert.MlpFKernelIdeal.defs (F := Ideal)) (onTc (τ := Cert.MlpFKernelIdeal.τ) (Cert.MlpFKernelIdeal.main (F := Ideal))) ⟨m, fun _ => 0, g⟩ (fun r => ∀ c : Dev Cert.MlpFKernelIdeal.nD,
          r.2.mem ((c.tc : Thread Cert.MlpFKernelIdeal.nD Cert.MlpFKernelIdeal.τ).loc Cert.MlpFKernelIdeal.main_v8_0) = v0 c
          ∧ r.2.mem ((c.tc : Thread Cert.MlpFKernelIdeal.nD Cert.MlpFKernelIdeal.τ).loc Cert.MlpFKernelIdeal.main_v8_1) = v1 c
          ∧ r.2.mem ((c.tc : Thread Cert.MlpFKernelIdeal.nD Cert.MlpFKernelIdeal.τ).loc Cert.MlpFKernelIdeal.main_v8_2) = v2 c
          ∧ r.2.mem ((c.tc : Thread Cert.MlpFKernelIdeal.nD Cert.MlpFKernelIdeal.τ).loc Cert.MlpFKernelIdeal.main_v8_3) = v3 c
          ∧ r.2.mem ((c.tc : Thread Cert.MlpFKernelIdeal.nD Cert.MlpFKernelIdeal.τ).loc Cert.MlpFKernelIdeal.main_arg0) = m ((c.tc : Thread Cert.MlpFKernelIdeal.nD Cert.MlpFKernelIdeal.τ).loc Cert.MlpFKernelIdeal.main_arg0)
          ∧ r.2.mem ((c.tc : Thread Cert.MlpFKernelIdeal.nD Cert.MlpFKernelIdeal.τ).loc Cert.MlpFKernelIdeal.main_arg1) = m ((c.tc : Thread Cert.MlpFKernelIdeal.nD Cert.MlpFKernelIdeal.τ).loc Cert.MlpFKernelIdeal.main_arg1)
          ∧ r.2.mem ((c.tc : Thread Cert.MlpFKernelIdeal.nD Cert.MlpFKernelIdeal.τ).loc Cert.MlpFKernelIdeal.main_arg2) = m ((c.tc : Thread Cert.MlpFKernelIdeal.nD Cert.MlpFKernelIdeal.τ).loc Cert.MlpFKernelIdeal.main_arg2)
          ∧ r.2.mem ((c.tc : Thread Cert.MlpFKernelIdeal.nD Cert.MlpFKernelIdeal.τ).loc Cert.MlpFKernelIdeal.main_arg3) = m ((c.tc : Thread Cert.MlpFKernelIdeal.nD Cert.MlpFKernelIdeal.τ).loc Cert.MlpFKernelIdeal.main_arg3)
          ∧ r.2.mem ((c.tc : Thread Cert.MlpFKernelIdeal.nD Cert.MlpFKernelIdeal.τ).loc Cert.MlpFKernelIdeal.main_arg4) = m ((c.tc : Thread Cert.MlpFKernelIdeal.nD Cert.MlpFKernelIdeal.τ).loc Cert.MlpFKernelIdeal.main_arg4))
      ∧ θ_run (Cert.MlpFReferenceIdeal.defs (F := Ideal)) (onTc (τ := Cert.MlpFReferenceIdeal.τ) (Cert.MlpFReferenceIdeal.main (F := Ideal))) ⟨m', fun _ => 0, g'⟩ (fun r => ∀ c : Dev Cert.MlpFReferenceIdeal.nD,
          r.2.mem ((c.tc : Thread Cert.MlpFReferenceIdeal.nD Cert.MlpFReferenceIdeal.τ).loc Cert.MlpFReferenceIdeal.main_v6) = v0 c
          ∧ r.2.mem ((c.tc : Thread Cert.MlpFReferenceIdeal.nD Cert.MlpFReferenceIdeal.τ).loc Cert.MlpFReferenceIdeal.main_v34) = v1 c
          ∧ r.2.mem ((c.tc : Thread Cert.MlpFReferenceIdeal.nD Cert.MlpFReferenceIdeal.τ).loc Cert.MlpFReferenceIdeal.main_v35) = v2 c
          ∧ r.2.mem ((c.tc : Thread Cert.MlpFReferenceIdeal.nD Cert.MlpFReferenceIdeal.τ).loc Cert.MlpFReferenceIdeal.main_v36) = v3 c
          ∧ r.2.mem ((c.tc : Thread Cert.MlpFReferenceIdeal.nD Cert.MlpFReferenceIdeal.τ).loc Cert.MlpFReferenceIdeal.main_arg0) = m' ((c.tc : Thread Cert.MlpFReferenceIdeal.nD Cert.MlpFReferenceIdeal.τ).loc Cert.MlpFReferenceIdeal.main_arg0)
          ∧ r.2.mem ((c.tc : Thread Cert.MlpFReferenceIdeal.nD Cert.MlpFReferenceIdeal.τ).loc Cert.MlpFReferenceIdeal.main_arg1) = m' ((c.tc : Thread Cert.MlpFReferenceIdeal.nD Cert.MlpFReferenceIdeal.τ).loc Cert.MlpFReferenceIdeal.main_arg1)
          ∧ r.2.mem ((c.tc : Thread Cert.MlpFReferenceIdeal.nD Cert.MlpFReferenceIdeal.τ).loc Cert.MlpFReferenceIdeal.main_arg2) = m' ((c.tc : Thread Cert.MlpFReferenceIdeal.nD Cert.MlpFReferenceIdeal.τ).loc Cert.MlpFReferenceIdeal.main_arg2)
          ∧ r.2.mem ((c.tc : Thread Cert.MlpFReferenceIdeal.nD Cert.MlpFReferenceIdeal.τ).loc Cert.MlpFReferenceIdeal.main_arg3) = m' ((c.tc : Thread Cert.MlpFReferenceIdeal.nD Cert.MlpFReferenceIdeal.τ).loc Cert.MlpFReferenceIdeal.main_arg3)
          ∧ r.2.mem ((c.tc : Thread Cert.MlpFReferenceIdeal.nD Cert.MlpFReferenceIdeal.τ).loc Cert.MlpFReferenceIdeal.main_arg4) = m' ((c.tc : Thread Cert.MlpFReferenceIdeal.nD Cert.MlpFReferenceIdeal.τ).loc Cert.MlpFReferenceIdeal.main_arg4))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)
      ∧ m' ((c.tc : Thread Cert.DownReferenceIdeal.nD Cert.DownReferenceIdeal.τ).loc Cert.DownReferenceIdeal.main_arg5) = m ((c.tc : Thread Cert.DownKernelIdeal.nD Cert.DownKernelIdeal.τ).loc Cert.DownKernelIdeal.main_arg5)) →
    ∃ (v0 : (c : Dev Cert.DownKernelIdeal.nD) → Buf (Elt Ideal) ((c.tc : Thread Cert.DownKernelIdeal.nD Cert.DownKernelIdeal.τ).loc Cert.DownKernelIdeal.main_v5_0)) (v1 : (c : Dev Cert.DownKernelIdeal.nD) → Buf (Elt Ideal) ((c.tc : Thread Cert.DownKernelIdeal.nD Cert.DownKernelIdeal.τ).loc Cert.DownKernelIdeal.main_v5_1)) (v2 : (c : Dev Cert.DownKernelIdeal.nD) → Buf (Elt Ideal) ((c.tc : Thread Cert.DownKernelIdeal.nD Cert.DownKernelIdeal.τ).loc Cert.DownKernelIdeal.main_v5_2)) (v3 : (c : Dev Cert.DownKernelIdeal.nD) → Buf (Elt Ideal) ((c.tc : Thread Cert.DownKernelIdeal.nD Cert.DownKernelIdeal.τ).loc Cert.DownKernelIdeal.main_v5_3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v5_0) = v0 c
          ∧ r.2.mem ((c.tc : Thread Cert.DownKernelIdeal.nD Cert.DownKernelIdeal.τ).loc Cert.DownKernelIdeal.main_v5_1) = v1 c
          ∧ r.2.mem ((c.tc : Thread Cert.DownKernelIdeal.nD Cert.DownKernelIdeal.τ).loc Cert.DownKernelIdeal.main_v5_2) = v2 c
          ∧ r.2.mem ((c.tc : Thread Cert.DownKernelIdeal.nD Cert.DownKernelIdeal.τ).loc Cert.DownKernelIdeal.main_v5_3) = v3 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
          ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_v33) = v1 c
          ∧ r.2.mem ((c.tc : Thread Cert.DownReferenceIdeal.nD Cert.DownReferenceIdeal.τ).loc Cert.DownReferenceIdeal.main_v34) = v2 c
          ∧ r.2.mem ((c.tc : Thread Cert.DownReferenceIdeal.nD Cert.DownReferenceIdeal.τ).loc Cert.DownReferenceIdeal.main_v44) = v3 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)) →
    ∃ (v0 : (c : Dev Cert.RopeKernelIdeal.nD) → Buf (Elt Ideal) ((c.tc : Thread Cert.RopeKernelIdeal.nD Cert.RopeKernelIdeal.τ).loc Cert.RopeKernelIdeal.main_v12_0)) (v1 : (c : Dev Cert.RopeKernelIdeal.nD) → Buf (Elt Ideal) ((c.tc : Thread Cert.RopeKernelIdeal.nD Cert.RopeKernelIdeal.τ).loc Cert.RopeKernelIdeal.main_v12_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v12_0) = v0 c
          ∧ r.2.mem ((c.tc : Thread Cert.RopeKernelIdeal.nD Cert.RopeKernelIdeal.τ).loc Cert.RopeKernelIdeal.main_v12_1) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v16) = v0 c
          ∧ r.2.mem ((c.tc : Thread Cert.RopeReferenceIdeal.nD Cert.RopeReferenceIdeal.τ).loc Cert.RopeReferenceIdeal.main_v17) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_PoolFKernel_PoolFKernelIdeal : Prop :=
  True

def algebraic_PoolFKernelIdeal_PoolFReferenceIdeal_pre_finite_pool_fwd [hPoolFKernelIdeal : Cert.PoolFKernelIdeal.Facts] [hPoolFReferenceIdeal : Cert.PoolFReferenceIdeal.Facts] [hPre_finite_pool_fwd : Cert.Pre_finite_pool_fwd.Facts] : Prop :=
  ∀ (m : (ℓ : Loc Cert.PoolFKernelIdeal.nD Cert.PoolFKernelIdeal.τ Cert.PoolFKernelIdeal.sig) → Buf (Elt Ideal) ℓ) (g : Dev Cert.PoolFKernelIdeal.nD → PrngReg)
    (m' : (ℓ : Loc Cert.PoolFReferenceIdeal.nD Cert.PoolFReferenceIdeal.τ Cert.PoolFReferenceIdeal.sig) → Buf (Elt Ideal) ℓ) (g' : Dev Cert.PoolFReferenceIdeal.nD → PrngReg), Pre_PoolFKernelIdeal_finite_pool_fwd m →
    (∀ c : Dev Cert.PoolFKernelIdeal.nD,
      m' ((c.tc : Thread Cert.PoolFReferenceIdeal.nD Cert.PoolFReferenceIdeal.τ).loc Cert.PoolFReferenceIdeal.main_arg0) = m ((c.tc : Thread Cert.PoolFKernelIdeal.nD Cert.PoolFKernelIdeal.τ).loc Cert.PoolFKernelIdeal.main_arg0)
      ∧ m' ((c.tc : Thread Cert.PoolFReferenceIdeal.nD Cert.PoolFReferenceIdeal.τ).loc Cert.PoolFReferenceIdeal.main_arg1) = m ((c.tc : Thread Cert.PoolFKernelIdeal.nD Cert.PoolFKernelIdeal.τ).loc Cert.PoolFKernelIdeal.main_arg1)
      ∧ m' ((c.tc : Thread Cert.PoolFReferenceIdeal.nD Cert.PoolFReferenceIdeal.τ).loc Cert.PoolFReferenceIdeal.main_arg2) = m ((c.tc : Thread Cert.PoolFKernelIdeal.nD Cert.PoolFKernelIdeal.τ).loc Cert.PoolFKernelIdeal.main_arg2)) →
    ∃ (v0 : (c : Dev Cert.PoolFKernelIdeal.nD) → Buf (Elt Ideal) ((c.tc : Thread Cert.PoolFKernelIdeal.nD Cert.PoolFKernelIdeal.τ).loc Cert.PoolFKernelIdeal.main_v1)),
      θ_run (Cert.PoolFKernelIdeal.defs (F := Ideal)) (onTc (τ := Cert.PoolFKernelIdeal.τ) (Cert.PoolFKernelIdeal.main (F := Ideal))) ⟨m, fun _ => 0, g⟩ (fun r => ∀ c : Dev Cert.PoolFKernelIdeal.nD,
          r.2.mem ((c.tc : Thread Cert.PoolFKernelIdeal.nD Cert.PoolFKernelIdeal.τ).loc Cert.PoolFKernelIdeal.main_v1) = v0 c
          ∧ r.2.mem ((c.tc : Thread Cert.PoolFKernelIdeal.nD Cert.PoolFKernelIdeal.τ).loc Cert.PoolFKernelIdeal.main_arg0) = m ((c.tc : Thread Cert.PoolFKernelIdeal.nD Cert.PoolFKernelIdeal.τ).loc Cert.PoolFKernelIdeal.main_arg0)
          ∧ r.2.mem ((c.tc : Thread Cert.PoolFKernelIdeal.nD Cert.PoolFKernelIdeal.τ).loc Cert.PoolFKernelIdeal.main_arg1) = m ((c.tc : Thread Cert.PoolFKernelIdeal.nD Cert.PoolFKernelIdeal.τ).loc Cert.PoolFKernelIdeal.main_arg1)
          ∧ r.2.mem ((c.tc : Thread Cert.PoolFKernelIdeal.nD Cert.PoolFKernelIdeal.τ).loc Cert.PoolFKernelIdeal.main_arg2) = m ((c.tc : Thread Cert.PoolFKernelIdeal.nD Cert.PoolFKernelIdeal.τ).loc Cert.PoolFKernelIdeal.main_arg2))
      ∧ θ_run (Cert.PoolFReferenceIdeal.defs (F := Ideal)) (onTc (τ := Cert.PoolFReferenceIdeal.τ) (Cert.PoolFReferenceIdeal.main (F := Ideal))) ⟨m', fun _ => 0, g'⟩ (fun r => ∀ c : Dev Cert.PoolFReferenceIdeal.nD,
          r.2.mem ((c.tc : Thread Cert.PoolFReferenceIdeal.nD Cert.PoolFReferenceIdeal.τ).loc Cert.PoolFReferenceIdeal.main_v89) = v0 c
          ∧ r.2.mem ((c.tc : Thread Cert.PoolFReferenceIdeal.nD Cert.PoolFReferenceIdeal.τ).loc Cert.PoolFReferenceIdeal.main_arg0) = m' ((c.tc : Thread Cert.PoolFReferenceIdeal.nD Cert.PoolFReferenceIdeal.τ).loc Cert.PoolFReferenceIdeal.main_arg0)
          ∧ r.2.mem ((c.tc : Thread Cert.PoolFReferenceIdeal.nD Cert.PoolFReferenceIdeal.τ).loc Cert.PoolFReferenceIdeal.main_arg1) = m' ((c.tc : Thread Cert.PoolFReferenceIdeal.nD Cert.PoolFReferenceIdeal.τ).loc Cert.PoolFReferenceIdeal.main_arg1)
          ∧ r.2.mem ((c.tc : Thread Cert.PoolFReferenceIdeal.nD Cert.PoolFReferenceIdeal.τ).loc Cert.PoolFReferenceIdeal.main_arg2) = m' ((c.tc : Thread Cert.PoolFReferenceIdeal.nD Cert.PoolFReferenceIdeal.τ).loc Cert.PoolFReferenceIdeal.main_arg2))

def preserves_LruFKernel_LruFKernelIdeal : Prop :=
  True

def algebraic_LruFKernelIdeal_LruFReferenceIdeal [hLruFKernelIdeal : Cert.LruFKernelIdeal.Facts] [hLruFReferenceIdeal : Cert.LruFReferenceIdeal.Facts] : Prop :=
  ∀ (m : (ℓ : Loc Cert.LruFKernelIdeal.nD Cert.LruFKernelIdeal.τ Cert.LruFKernelIdeal.sig) → Buf (Elt Ideal) ℓ) (g : Dev Cert.LruFKernelIdeal.nD → PrngReg)
    (m' : (ℓ : Loc Cert.LruFReferenceIdeal.nD Cert.LruFReferenceIdeal.τ Cert.LruFReferenceIdeal.sig) → Buf (Elt Ideal) ℓ) (g' : Dev Cert.LruFReferenceIdeal.nD → PrngReg), Pre_LruFKernelIdeal m →
    (∀ c : Dev Cert.LruFKernelIdeal.nD,
      m' ((c.tc : Thread Cert.LruFReferenceIdeal.nD Cert.LruFReferenceIdeal.τ).loc Cert.LruFReferenceIdeal.main_arg0) = m ((c.tc : Thread Cert.LruFKernelIdeal.nD Cert.LruFKernelIdeal.τ).loc Cert.LruFKernelIdeal.main_arg0)
      ∧ m' ((c.tc : Thread Cert.LruFReferenceIdeal.nD Cert.LruFReferenceIdeal.τ).loc Cert.LruFReferenceIdeal.main_arg1) = m ((c.tc : Thread Cert.LruFKernelIdeal.nD Cert.LruFKernelIdeal.τ).loc Cert.LruFKernelIdeal.main_arg1)
      ∧ m' ((c.tc : Thread Cert.LruFReferenceIdeal.nD Cert.LruFReferenceIdeal.τ).loc Cert.LruFReferenceIdeal.main_arg2) = m ((c.tc : Thread Cert.LruFKernelIdeal.nD Cert.LruFKernelIdeal.τ).loc Cert.LruFKernelIdeal.main_arg2)
      ∧ m' ((c.tc : Thread Cert.LruFReferenceIdeal.nD Cert.LruFReferenceIdeal.τ).loc Cert.LruFReferenceIdeal.main_arg3) = m ((c.tc : Thread Cert.LruFKernelIdeal.nD Cert.LruFKernelIdeal.τ).loc Cert.LruFKernelIdeal.main_arg3)
      ∧ m' ((c.tc : Thread Cert.LruFReferenceIdeal.nD Cert.LruFReferenceIdeal.τ).loc Cert.LruFReferenceIdeal.main_arg4) = m ((c.tc : Thread Cert.LruFKernelIdeal.nD Cert.LruFKernelIdeal.τ).loc Cert.LruFKernelIdeal.main_arg4)
      ∧ m' ((c.tc : Thread Cert.LruFReferenceIdeal.nD Cert.LruFReferenceIdeal.τ).loc Cert.LruFReferenceIdeal.main_arg5) = m ((c.tc : Thread Cert.LruFKernelIdeal.nD Cert.LruFKernelIdeal.τ).loc Cert.LruFKernelIdeal.main_arg5)
      ∧ m' ((c.tc : Thread Cert.LruFReferenceIdeal.nD Cert.LruFReferenceIdeal.τ).loc Cert.LruFReferenceIdeal.main_arg6) = m ((c.tc : Thread Cert.LruFKernelIdeal.nD Cert.LruFKernelIdeal.τ).loc Cert.LruFKernelIdeal.main_arg6)
      ∧ m' ((c.tc : Thread Cert.LruFReferenceIdeal.nD Cert.LruFReferenceIdeal.τ).loc Cert.LruFReferenceIdeal.main_arg7) = m ((c.tc : Thread Cert.LruFKernelIdeal.nD Cert.LruFKernelIdeal.τ).loc Cert.LruFKernelIdeal.main_arg7)) →
    ∃ (v0 : (c : Dev Cert.LruFKernelIdeal.nD) → Buf (Elt Ideal) ((c.tc : Thread Cert.LruFKernelIdeal.nD Cert.LruFKernelIdeal.τ).loc Cert.LruFKernelIdeal.main_v4_0)) (v1 : (c : Dev Cert.LruFKernelIdeal.nD) → Buf (Elt Ideal) ((c.tc : Thread Cert.LruFKernelIdeal.nD Cert.LruFKernelIdeal.τ).loc Cert.LruFKernelIdeal.main_v4_1)),
      θ_run (Cert.LruFKernelIdeal.defs (F := Ideal)) (onTc (τ := Cert.LruFKernelIdeal.τ) (Cert.LruFKernelIdeal.main (F := Ideal))) ⟨m, fun _ => 0, g⟩ (fun r => ∀ c : Dev Cert.LruFKernelIdeal.nD,
          r.2.mem ((c.tc : Thread Cert.LruFKernelIdeal.nD Cert.LruFKernelIdeal.τ).loc Cert.LruFKernelIdeal.main_v4_0) = v0 c
          ∧ r.2.mem ((c.tc : Thread Cert.LruFKernelIdeal.nD Cert.LruFKernelIdeal.τ).loc Cert.LruFKernelIdeal.main_v4_1) = v1 c
          ∧ r.2.mem ((c.tc : Thread Cert.LruFKernelIdeal.nD Cert.LruFKernelIdeal.τ).loc Cert.LruFKernelIdeal.main_arg0) = m ((c.tc : Thread Cert.LruFKernelIdeal.nD Cert.LruFKernelIdeal.τ).loc Cert.LruFKernelIdeal.main_arg0)
          ∧ r.2.mem ((c.tc : Thread Cert.LruFKernelIdeal.nD Cert.LruFKernelIdeal.τ).loc Cert.LruFKernelIdeal.main_arg1) = m ((c.tc : Thread Cert.LruFKernelIdeal.nD Cert.LruFKernelIdeal.τ).loc Cert.LruFKernelIdeal.main_arg1)
          ∧ r.2.mem ((c.tc : Thread Cert.LruFKernelIdeal.nD Cert.LruFKernelIdeal.τ).loc Cert.LruFKernelIdeal.main_arg2) = m ((c.tc : Thread Cert.LruFKernelIdeal.nD Cert.LruFKernelIdeal.τ).loc Cert.LruFKernelIdeal.main_arg2)
          ∧ r.2.mem ((c.tc : Thread Cert.LruFKernelIdeal.nD Cert.LruFKernelIdeal.τ).loc Cert.LruFKernelIdeal.main_arg3) = m ((c.tc : Thread Cert.LruFKernelIdeal.nD Cert.LruFKernelIdeal.τ).loc Cert.LruFKernelIdeal.main_arg3)
          ∧ r.2.mem ((c.tc : Thread Cert.LruFKernelIdeal.nD Cert.LruFKernelIdeal.τ).loc Cert.LruFKernelIdeal.main_arg4) = m ((c.tc : Thread Cert.LruFKernelIdeal.nD Cert.LruFKernelIdeal.τ).loc Cert.LruFKernelIdeal.main_arg4)
          ∧ r.2.mem ((c.tc : Thread Cert.LruFKernelIdeal.nD Cert.LruFKernelIdeal.τ).loc Cert.LruFKernelIdeal.main_arg5) = m ((c.tc : Thread Cert.LruFKernelIdeal.nD Cert.LruFKernelIdeal.τ).loc Cert.LruFKernelIdeal.main_arg5)
          ∧ r.2.mem ((c.tc : Thread Cert.LruFKernelIdeal.nD Cert.LruFKernelIdeal.τ).loc Cert.LruFKernelIdeal.main_arg6) = m ((c.tc : Thread Cert.LruFKernelIdeal.nD Cert.LruFKernelIdeal.τ).loc Cert.LruFKernelIdeal.main_arg6)
          ∧ r.2.mem ((c.tc : Thread Cert.LruFKernelIdeal.nD Cert.LruFKernelIdeal.τ).loc Cert.LruFKernelIdeal.main_arg7) = m ((c.tc : Thread Cert.LruFKernelIdeal.nD Cert.LruFKernelIdeal.τ).loc Cert.LruFKernelIdeal.main_arg7))
      ∧ θ_run (Cert.LruFReferenceIdeal.defs (F := Ideal)) (onTc (τ := Cert.LruFReferenceIdeal.τ) (Cert.LruFReferenceIdeal.main (F := Ideal))) ⟨m', fun _ => 0, g'⟩ (fun r => ∀ c : Dev Cert.LruFReferenceIdeal.nD,
          r.2.mem ((c.tc : Thread Cert.LruFReferenceIdeal.nD Cert.LruFReferenceIdeal.τ).loc Cert.LruFReferenceIdeal.main_v105) = v0 c
          ∧ r.2.mem ((c.tc : Thread Cert.LruFReferenceIdeal.nD Cert.LruFReferenceIdeal.τ).loc Cert.LruFReferenceIdeal.main_v89_4) = v1 c
          ∧ r.2.mem ((c.tc : Thread Cert.LruFReferenceIdeal.nD Cert.LruFReferenceIdeal.τ).loc Cert.LruFReferenceIdeal.main_arg0) = m' ((c.tc : Thread Cert.LruFReferenceIdeal.nD Cert.LruFReferenceIdeal.τ).loc Cert.LruFReferenceIdeal.main_arg0)
          ∧ r.2.mem ((c.tc : Thread Cert.LruFReferenceIdeal.nD Cert.LruFReferenceIdeal.τ).loc Cert.LruFReferenceIdeal.main_arg1) = m' ((c.tc : Thread Cert.LruFReferenceIdeal.nD Cert.LruFReferenceIdeal.τ).loc Cert.LruFReferenceIdeal.main_arg1)
          ∧ r.2.mem ((c.tc : Thread Cert.LruFReferenceIdeal.nD Cert.LruFReferenceIdeal.τ).loc Cert.LruFReferenceIdeal.main_arg2) = m' ((c.tc : Thread Cert.LruFReferenceIdeal.nD Cert.LruFReferenceIdeal.τ).loc Cert.LruFReferenceIdeal.main_arg2)
          ∧ r.2.mem ((c.tc : Thread Cert.LruFReferenceIdeal.nD Cert.LruFReferenceIdeal.τ).loc Cert.LruFReferenceIdeal.main_arg3) = m' ((c.tc : Thread Cert.LruFReferenceIdeal.nD Cert.LruFReferenceIdeal.τ).loc Cert.LruFReferenceIdeal.main_arg3)
          ∧ r.2.mem ((c.tc : Thread Cert.LruFReferenceIdeal.nD Cert.LruFReferenceIdeal.τ).loc Cert.LruFReferenceIdeal.main_arg4) = m' ((c.tc : Thread Cert.LruFReferenceIdeal.nD Cert.LruFReferenceIdeal.τ).loc Cert.LruFReferenceIdeal.main_arg4)
          ∧ r.2.mem ((c.tc : Thread Cert.LruFReferenceIdeal.nD Cert.LruFReferenceIdeal.τ).loc Cert.LruFReferenceIdeal.main_arg5) = m' ((c.tc : Thread Cert.LruFReferenceIdeal.nD Cert.LruFReferenceIdeal.τ).loc Cert.LruFReferenceIdeal.main_arg5)
          ∧ r.2.mem ((c.tc : Thread Cert.LruFReferenceIdeal.nD Cert.LruFReferenceIdeal.τ).loc Cert.LruFReferenceIdeal.main_arg6) = m' ((c.tc : Thread Cert.LruFReferenceIdeal.nD Cert.LruFReferenceIdeal.τ).loc Cert.LruFReferenceIdeal.main_arg6)
          ∧ r.2.mem ((c.tc : Thread Cert.LruFReferenceIdeal.nD Cert.LruFReferenceIdeal.τ).loc Cert.LruFReferenceIdeal.main_arg7) = m' ((c.tc : Thread Cert.LruFReferenceIdeal.nD Cert.LruFReferenceIdeal.τ).loc Cert.LruFReferenceIdeal.main_arg7))

def preserves_MmKernel_MmKernelIdeal : Prop :=
  True

def algebraic_MmKernelIdeal_MmReferenceIdeal [hMmKernelIdeal : Cert.MmKernelIdeal.Facts] [hMmReferenceIdeal : Cert.MmReferenceIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmKernelIdeal m →
    (∀ c : Dev Cert.MmKernelIdeal.nD,
      m' ((c.tc : Thread Cert.MmReferenceIdeal.nD Cert.MmReferenceIdeal.τ).loc Cert.MmReferenceIdeal.main_arg0) = m ((c.tc : Thread Cert.MmKernelIdeal.nD Cert.MmKernelIdeal.τ).loc Cert.MmKernelIdeal.main_arg0)
      ∧ m' ((c.tc : Thread Cert.MmReferenceIdeal.nD Cert.MmReferenceIdeal.τ).loc Cert.MmReferenceIdeal.main_arg1) = m ((c.tc : Thread Cert.MmKernelIdeal.nD Cert.MmKernelIdeal.τ).loc Cert.MmKernelIdeal.main_arg1)) →
    ∃ (v0 : (c : Dev Cert.MmKernelIdeal.nD) → Buf (Elt Ideal) ((c.tc : Thread Cert.MmKernelIdeal.nD Cert.MmKernelIdeal.τ).loc Cert.MmKernelIdeal.main_v2)),
      θ_run (Cert.MmKernelIdeal.defs (F := Ideal)) (onTc (τ := Cert.MmKernelIdeal.τ) (Cert.MmKernelIdeal.main (F := Ideal))) ⟨m, fun _ => 0, g⟩ (fun r => ∀ c : Dev Cert.MmKernelIdeal.nD,
          r.2.mem ((c.tc : Thread Cert.MmKernelIdeal.nD Cert.MmKernelIdeal.τ).loc Cert.MmKernelIdeal.main_v2) = v0 c
          ∧ r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
          ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v6) = v0 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1))

def preserves_DwinKernel_DwinKernelIdeal : Prop :=
  True

def algebraic_DwinKernelIdeal_DwinReferenceIdeal [hDwinKernelIdeal : Cert.DwinKernelIdeal.Facts] [hDwinReferenceIdeal : Cert.DwinReferenceIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinKernelIdeal m →
    (∀ c : Dev Cert.DwinKernelIdeal.nD,
      m' ((c.tc : Thread Cert.DwinReferenceIdeal.nD Cert.DwinReferenceIdeal.τ).loc Cert.DwinReferenceIdeal.main_arg0) = m ((c.tc : Thread Cert.DwinKernelIdeal.nD Cert.DwinKernelIdeal.τ).loc Cert.DwinKernelIdeal.main_arg0)
      ∧ m' ((c.tc : Thread Cert.DwinReferenceIdeal.nD Cert.DwinReferenceIdeal.τ).loc Cert.DwinReferenceIdeal.main_arg1) = m ((c.tc : Thread Cert.DwinKernelIdeal.nD Cert.DwinKernelIdeal.τ).loc Cert.DwinKernelIdeal.main_arg1)) →
    ∃ (v0 : (c : Dev Cert.DwinKernelIdeal.nD) → Buf (Elt Ideal) ((c.tc : Thread Cert.DwinKernelIdeal.nD Cert.DwinKernelIdeal.τ).loc Cert.DwinKernelIdeal.main_v2)),
      θ_run (Cert.DwinKernelIdeal.defs (F := Ideal)) (onTc (τ := Cert.DwinKernelIdeal.τ) (Cert.DwinKernelIdeal.main (F := Ideal))) ⟨m, fun _ => 0, g⟩ (fun r => ∀ c : Dev Cert.DwinKernelIdeal.nD,
          r.2.mem ((c.tc : Thread Cert.DwinKernelIdeal.nD Cert.DwinKernelIdeal.τ).loc Cert.DwinKernelIdeal.main_v2) = v0 c
          ∧ r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
          ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v6) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)
      ∧ m' ((c.tc : Thread Cert.AdamReferenceIdeal.nD Cert.AdamReferenceIdeal.τ).loc Cert.AdamReferenceIdeal.main_arg6) = m ((c.tc : Thread Cert.AdamKernelIdeal.nD Cert.AdamKernelIdeal.τ).loc Cert.AdamKernelIdeal.main_arg6)
      ∧ m' ((c.tc : Thread Cert.AdamReferenceIdeal.nD Cert.AdamReferenceIdeal.τ).loc Cert.AdamReferenceIdeal.main_arg7) = m ((c.tc : Thread Cert.AdamKernelIdeal.nD Cert.AdamKernelIdeal.τ).loc Cert.AdamKernelIdeal.main_arg7)
      ∧ m' ((c.tc : Thread Cert.AdamReferenceIdeal.nD Cert.AdamReferenceIdeal.τ).loc Cert.AdamReferenceIdeal.main_arg8) = m ((c.tc : Thread Cert.AdamKernelIdeal.nD Cert.AdamKernelIdeal.τ).loc Cert.AdamKernelIdeal.main_arg8)
      ∧ m' ((c.tc : Thread Cert.AdamReferenceIdeal.nD Cert.AdamReferenceIdeal.τ).loc Cert.AdamReferenceIdeal.main_arg9) = m ((c.tc : Thread Cert.AdamKernelIdeal.nD Cert.AdamKernelIdeal.τ).loc Cert.AdamKernelIdeal.main_arg9)
      ∧ m' ((c.tc : Thread Cert.AdamReferenceIdeal.nD Cert.AdamReferenceIdeal.τ).loc Cert.AdamReferenceIdeal.main_arg10) = m ((c.tc : Thread Cert.AdamKernelIdeal.nD Cert.AdamKernelIdeal.τ).loc Cert.AdamKernelIdeal.main_arg10)
      ∧ m' ((c.tc : Thread Cert.AdamReferenceIdeal.nD Cert.AdamReferenceIdeal.τ).loc Cert.AdamReferenceIdeal.main_arg11) = m ((c.tc : Thread Cert.AdamKernelIdeal.nD Cert.AdamKernelIdeal.τ).loc Cert.AdamKernelIdeal.main_arg11)) →
    ∃ (v0 : (c : Dev Cert.AdamKernelIdeal.nD) → Buf (Elt Ideal) ((c.tc : Thread Cert.AdamKernelIdeal.nD Cert.AdamKernelIdeal.τ).loc Cert.AdamKernelIdeal.main_v4_0)) (v1 : (c : Dev Cert.AdamKernelIdeal.nD) → Buf (Elt Ideal) ((c.tc : Thread Cert.AdamKernelIdeal.nD Cert.AdamKernelIdeal.τ).loc Cert.AdamKernelIdeal.main_v4_1)) (v2 : (c : Dev Cert.AdamKernelIdeal.nD) → Buf (Elt Ideal) ((c.tc : Thread Cert.AdamKernelIdeal.nD Cert.AdamKernelIdeal.τ).loc Cert.AdamKernelIdeal.main_v4_2)) (v3 : (c : Dev Cert.AdamKernelIdeal.nD) → Buf (Elt Ideal) ((c.tc : Thread Cert.AdamKernelIdeal.nD Cert.AdamKernelIdeal.τ).loc Cert.AdamKernelIdeal.main_v4_3)) (v4 : (c : Dev Cert.AdamKernelIdeal.nD) → Buf (Elt Ideal) ((c.tc : Thread Cert.AdamKernelIdeal.nD Cert.AdamKernelIdeal.τ).loc Cert.AdamKernelIdeal.main_v4_4)) (v5 : (c : Dev Cert.AdamKernelIdeal.nD) → Buf (Elt Ideal) ((c.tc : Thread Cert.AdamKernelIdeal.nD Cert.AdamKernelIdeal.τ).loc Cert.AdamKernelIdeal.main_v4_5)) (v6 : (c : Dev Cert.AdamKernelIdeal.nD) → Buf (Elt Ideal) ((c.tc : Thread Cert.AdamKernelIdeal.nD Cert.AdamKernelIdeal.τ).loc Cert.AdamKernelIdeal.main_v4_6)) (v7 : (c : Dev Cert.AdamKernelIdeal.nD) → Buf (Elt Ideal) ((c.tc : Thread Cert.AdamKernelIdeal.nD Cert.AdamKernelIdeal.τ).loc Cert.AdamKernelIdeal.main_v4_7)) (v8 : (c : Dev Cert.AdamKernelIdeal.nD) → Buf (Elt Ideal) ((c.tc : Thread Cert.AdamKernelIdeal.nD Cert.AdamKernelIdeal.τ).loc Cert.AdamKernelIdeal.main_v4_8)) (v9 : (c : Dev Cert.AdamKernelIdeal.nD) → Buf (Elt Ideal) ((c.tc : Thread Cert.AdamKernelIdeal.nD Cert.AdamKernelIdeal.τ).loc Cert.AdamKernelIdeal.main_v4_9)) (v10 : (c : Dev Cert.AdamKernelIdeal.nD) → Buf (Elt Ideal) ((c.tc : Thread Cert.AdamKernelIdeal.nD Cert.AdamKernelIdeal.τ).loc Cert.AdamKernelIdeal.main_v4_10)) (v11 : (c : Dev Cert.AdamKernelIdeal.nD) → Buf (Elt Ideal) ((c.tc : Thread Cert.AdamKernelIdeal.nD Cert.AdamKernelIdeal.τ).loc Cert.AdamKernelIdeal.main_v4_11)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v4_0) = v0 c
          ∧ r.2.mem ((c.tc : Thread Cert.AdamKernelIdeal.nD Cert.AdamKernelIdeal.τ).loc Cert.AdamKernelIdeal.main_v4_1) = v1 c
          ∧ r.2.mem ((c.tc : Thread Cert.AdamKernelIdeal.nD Cert.AdamKernelIdeal.τ).loc Cert.AdamKernelIdeal.main_v4_2) = v2 c
          ∧ r.2.mem ((c.tc : Thread Cert.AdamKernelIdeal.nD Cert.AdamKernelIdeal.τ).loc Cert.AdamKernelIdeal.main_v4_3) = v3 c
          ∧ r.2.mem ((c.tc : Thread Cert.AdamKernelIdeal.nD Cert.AdamKernelIdeal.τ).loc Cert.AdamKernelIdeal.main_v4_4) = v4 c
          ∧ r.2.mem ((c.tc : Thread Cert.AdamKernelIdeal.nD Cert.AdamKernelIdeal.τ).loc Cert.AdamKernelIdeal.main_v4_5) = v5 c
          ∧ r.2.mem ((c.tc : Thread Cert.AdamKernelIdeal.nD Cert.AdamKernelIdeal.τ).loc Cert.AdamKernelIdeal.main_v4_6) = v6 c
          ∧ r.2.mem ((c.tc : Thread Cert.AdamKernelIdeal.nD Cert.AdamKernelIdeal.τ).loc Cert.AdamKernelIdeal.main_v4_7) = v7 c
          ∧ r.2.mem ((c.tc : Thread Cert.AdamKernelIdeal.nD Cert.AdamKernelIdeal.τ).loc Cert.AdamKernelIdeal.main_v4_8) = v8 c
          ∧ r.2.mem ((c.tc : Thread Cert.AdamKernelIdeal.nD Cert.AdamKernelIdeal.τ).loc Cert.AdamKernelIdeal.main_v4_9) = v9 c
          ∧ r.2.mem ((c.tc : Thread Cert.AdamKernelIdeal.nD Cert.AdamKernelIdeal.τ).loc Cert.AdamKernelIdeal.main_v4_10) = v10 c
          ∧ r.2.mem ((c.tc : Thread Cert.AdamKernelIdeal.nD Cert.AdamKernelIdeal.τ).loc Cert.AdamKernelIdeal.main_v4_11) = v11 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
          ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
          ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
          ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
          ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
          ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
          ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_arg0) = v0 c
          ∧ r.2.mem ((c.tc : Thread Cert.AdamReferenceIdeal.nD Cert.AdamReferenceIdeal.τ).loc Cert.AdamReferenceIdeal.main_v72) = v1 c
          ∧ r.2.mem ((c.tc : Thread Cert.AdamReferenceIdeal.nD Cert.AdamReferenceIdeal.τ).loc Cert.AdamReferenceIdeal.main_arg2) = v2 c
          ∧ r.2.mem ((c.tc : Thread Cert.AdamReferenceIdeal.nD Cert.AdamReferenceIdeal.τ).loc Cert.AdamReferenceIdeal.main_v23) = v3 c
          ∧ r.2.mem ((c.tc : Thread Cert.AdamReferenceIdeal.nD Cert.AdamReferenceIdeal.τ).loc Cert.AdamReferenceIdeal.main_v73) = v4 c
          ∧ r.2.mem ((c.tc : Thread Cert.AdamReferenceIdeal.nD Cert.AdamReferenceIdeal.τ).loc Cert.AdamReferenceIdeal.main_v71) = v5 c
          ∧ r.2.mem ((c.tc : Thread Cert.AdamReferenceIdeal.nD Cert.AdamReferenceIdeal.τ).loc Cert.AdamReferenceIdeal.main_v4) = v6 c
          ∧ r.2.mem ((c.tc : Thread Cert.AdamReferenceIdeal.nD Cert.AdamReferenceIdeal.τ).loc Cert.AdamReferenceIdeal.main_v74) = v7 c
          ∧ r.2.mem ((c.tc : Thread Cert.AdamReferenceIdeal.nD Cert.AdamReferenceIdeal.τ).loc Cert.AdamReferenceIdeal.main_v52) = v8 c
          ∧ r.2.mem ((c.tc : Thread Cert.AdamReferenceIdeal.nD Cert.AdamReferenceIdeal.τ).loc Cert.AdamReferenceIdeal.main_v10) = v9 c
          ∧ r.2.mem ((c.tc : Thread Cert.AdamReferenceIdeal.nD Cert.AdamReferenceIdeal.τ).loc Cert.AdamReferenceIdeal.main_v75) = v10 c
          ∧ r.2.mem ((c.tc : Thread Cert.AdamReferenceIdeal.nD Cert.AdamReferenceIdeal.τ).loc Cert.AdamReferenceIdeal.main_v58) = v11 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11))

def Claim : Prop :=
  ∃ (hLossKernel : Cert.LossKernel.Facts) (hLossKernelIdeal : Cert.LossKernelIdeal.Facts) (hLossReferenceIdeal : Cert.LossReferenceIdeal.Facts) (hLnKernel : Cert.LnKernel.Facts) (hLnKernelIdeal : Cert.LnKernelIdeal.Facts) (hLnReferenceIdeal : Cert.LnReferenceIdeal.Facts) (hLnResKernel : Cert.LnResKernel.Facts) (hLnResKernelIdeal : Cert.LnResKernelIdeal.Facts) (hLnResReferenceIdeal : Cert.LnResReferenceIdeal.Facts) (hRmsKernel : Cert.RmsKernel.Facts) (hRmsKernelIdeal : Cert.RmsKernelIdeal.Facts) (hRmsReferenceIdeal : Cert.RmsReferenceIdeal.Facts) (hMlpKernel : Cert.MlpKernel.Facts) (hMlpKernelIdeal : Cert.MlpKernelIdeal.Facts) (hMlpReferenceIdeal : Cert.MlpReferenceIdeal.Facts) (hPoolKernel : Cert.PoolKernel.Facts) (hPoolKernelIdeal : Cert.PoolKernelIdeal.Facts) (hPoolReferenceIdeal : Cert.PoolReferenceIdeal.Facts) (hAttnKernel : Cert.AttnKernel.Facts) (hAttnKernelIdeal : Cert.AttnKernelIdeal.Facts) (hAttnReferenceIdeal : Cert.AttnReferenceIdeal.Facts) (hLruKernel : Cert.LruKernel.Facts) (hLruKernelIdeal : Cert.LruKernelIdeal.Facts) (hAttnFKernel : Cert.AttnFKernel.Facts) (hAttnFKernelIdeal : Cert.AttnFKernelIdeal.Facts) (hAttnFReferenceIdeal : Cert.AttnFReferenceIdeal.Facts) (hResLnKernel : Cert.ResLnKernel.Facts) (hResLnKernelIdeal : Cert.ResLnKernelIdeal.Facts) (hResLnReferenceIdeal : Cert.ResLnReferenceIdeal.Facts) (hProjLnKernel : Cert.ProjLnKernel.Facts) (hProjLnKernelIdeal : Cert.ProjLnKernelIdeal.Facts) (hProjLnReferenceIdeal : Cert.ProjLnReferenceIdeal.Facts) (hMlpFKernel : Cert.MlpFKernel.Facts) (hMlpFKernelIdeal : Cert.MlpFKernelIdeal.Facts) (hMlpFReferenceIdeal : Cert.MlpFReferenceIdeal.Facts) (hDownKernel : Cert.DownKernel.Facts) (hDownKernelIdeal : Cert.DownKernelIdeal.Facts) (hDownReferenceIdeal : Cert.DownReferenceIdeal.Facts) (hRopeKernel : Cert.RopeKernel.Facts) (hRopeKernelIdeal : Cert.RopeKernelIdeal.Facts) (hRopeReferenceIdeal : Cert.RopeReferenceIdeal.Facts) (hPoolFKernel : Cert.PoolFKernel.Facts) (hPoolFKernelIdeal : Cert.PoolFKernelIdeal.Facts) (hPoolFReferenceIdeal : Cert.PoolFReferenceIdeal.Facts) (hLruFKernel : Cert.LruFKernel.Facts) (hLruFKernelIdeal : Cert.LruFKernelIdeal.Facts) (hLruFReferenceIdeal : Cert.LruFReferenceIdeal.Facts) (hMmKernel : Cert.MmKernel.Facts) (hMmKernelIdeal : Cert.MmKernelIdeal.Facts) (hMmReferenceIdeal : Cert.MmReferenceIdeal.Facts) (hDwinKernel : Cert.DwinKernel.Facts) (hDwinKernelIdeal : Cert.DwinKernelIdeal.Facts) (hDwinReferenceIdeal : Cert.DwinReferenceIdeal.Facts) (hAdamKernel : Cert.AdamKernel.Facts) (hAdamKernelIdeal : Cert.AdamKernelIdeal.Facts) (hAdamReferenceIdeal : Cert.AdamReferenceIdeal.Facts) (hPre_finite_ln : Cert.Pre_finite_ln.Facts) (hPre_finite_ln_res : Cert.Pre_finite_ln_res.Facts) (hPre_finite_rms : Cert.Pre_finite_rms.Facts) (hPre_finite_pool : Cert.Pre_finite_pool.Facts) (hPre_finite_attn : Cert.Pre_finite_attn.Facts) (hPre_finite_attn_fwd : Cert.Pre_finite_attn_fwd.Facts) (hPre_finite_pool_fwd : Cert.Pre_finite_pool_fwd.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_LnKernel (hLnKernel := hLnKernel)
    ∧ quiescent_LnKernelIdeal (hLnKernelIdeal := hLnKernelIdeal)
    ∧ quiescent_LnKernelIdeal_pre_finite_ln (hLnKernelIdeal := hLnKernelIdeal) (hPre_finite_ln := hPre_finite_ln)
    ∧ quiescent_LnReferenceIdeal (hLnReferenceIdeal := hLnReferenceIdeal)
    ∧ quiescent_LnReferenceIdeal_pre_finite_ln (hLnReferenceIdeal := hLnReferenceIdeal) (hPre_finite_ln := hPre_finite_ln)
    ∧ quiescent_LnResKernel (hLnResKernel := hLnResKernel)
    ∧ quiescent_LnResKernelIdeal (hLnResKernelIdeal := hLnResKernelIdeal)
    ∧ quiescent_LnResKernelIdeal_pre_finite_ln_res (hLnResKernelIdeal := hLnResKernelIdeal) (hPre_finite_ln_res := hPre_finite_ln_res)
    ∧ quiescent_LnResReferenceIdeal (hLnResReferenceIdeal := hLnResReferenceIdeal)
    ∧ quiescent_LnResReferenceIdeal_pre_finite_ln_res (hLnResReferenceIdeal := hLnResReferenceIdeal) (hPre_finite_ln_res := hPre_finite_ln_res)
    ∧ quiescent_RmsKernel (hRmsKernel := hRmsKernel)
    ∧ quiescent_RmsKernelIdeal (hRmsKernelIdeal := hRmsKernelIdeal)
    ∧ quiescent_RmsKernelIdeal_pre_finite_rms (hRmsKernelIdeal := hRmsKernelIdeal) (hPre_finite_rms := hPre_finite_rms)
    ∧ quiescent_RmsReferenceIdeal (hRmsReferenceIdeal := hRmsReferenceIdeal)
    ∧ quiescent_RmsReferenceIdeal_pre_finite_rms (hRmsReferenceIdeal := hRmsReferenceIdeal) (hPre_finite_rms := hPre_finite_rms)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_PoolKernel (hPoolKernel := hPoolKernel)
    ∧ quiescent_PoolKernelIdeal (hPoolKernelIdeal := hPoolKernelIdeal)
    ∧ quiescent_PoolKernelIdeal_pre_finite_pool (hPoolKernelIdeal := hPoolKernelIdeal) (hPre_finite_pool := hPre_finite_pool)
    ∧ quiescent_PoolReferenceIdeal (hPoolReferenceIdeal := hPoolReferenceIdeal)
    ∧ quiescent_PoolReferenceIdeal_pre_finite_pool (hPoolReferenceIdeal := hPoolReferenceIdeal) (hPre_finite_pool := hPre_finite_pool)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_LruKernel (hLruKernel := hLruKernel)
    ∧ quiescent_LruKernelIdeal (hLruKernelIdeal := hLruKernelIdeal)
    ∧ quiescent_AttnFKernel (hAttnFKernel := hAttnFKernel)
    ∧ quiescent_AttnFKernelIdeal (hAttnFKernelIdeal := hAttnFKernelIdeal)
    ∧ quiescent_AttnFKernelIdeal_pre_finite_attn_fwd (hAttnFKernelIdeal := hAttnFKernelIdeal) (hPre_finite_attn_fwd := hPre_finite_attn_fwd)
    ∧ quiescent_AttnFReferenceIdeal (hAttnFReferenceIdeal := hAttnFReferenceIdeal)
    ∧ quiescent_AttnFReferenceIdeal_pre_finite_attn_fwd (hAttnFReferenceIdeal := hAttnFReferenceIdeal) (hPre_finite_attn_fwd := hPre_finite_attn_fwd)
    ∧ quiescent_ResLnKernel (hResLnKernel := hResLnKernel)
    ∧ quiescent_ResLnKernelIdeal (hResLnKernelIdeal := hResLnKernelIdeal)
    ∧ quiescent_ResLnReferenceIdeal (hResLnReferenceIdeal := hResLnReferenceIdeal)
    ∧ quiescent_ProjLnKernel (hProjLnKernel := hProjLnKernel)
    ∧ quiescent_ProjLnKernelIdeal (hProjLnKernelIdeal := hProjLnKernelIdeal)
    ∧ quiescent_ProjLnReferenceIdeal (hProjLnReferenceIdeal := hProjLnReferenceIdeal)
    ∧ quiescent_MlpFKernel (hMlpFKernel := hMlpFKernel)
    ∧ quiescent_MlpFKernelIdeal (hMlpFKernelIdeal := hMlpFKernelIdeal)
    ∧ quiescent_MlpFReferenceIdeal (hMlpFReferenceIdeal := hMlpFReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_PoolFKernel (hPoolFKernel := hPoolFKernel)
    ∧ quiescent_PoolFKernelIdeal (hPoolFKernelIdeal := hPoolFKernelIdeal)
    ∧ quiescent_PoolFKernelIdeal_pre_finite_pool_fwd (hPoolFKernelIdeal := hPoolFKernelIdeal) (hPre_finite_pool_fwd := hPre_finite_pool_fwd)
    ∧ quiescent_PoolFReferenceIdeal (hPoolFReferenceIdeal := hPoolFReferenceIdeal)
    ∧ quiescent_PoolFReferenceIdeal_pre_finite_pool_fwd (hPoolFReferenceIdeal := hPoolFReferenceIdeal) (hPre_finite_pool_fwd := hPre_finite_pool_fwd)
    ∧ quiescent_LruFKernel (hLruFKernel := hLruFKernel)
    ∧ quiescent_LruFKernelIdeal (hLruFKernelIdeal := hLruFKernelIdeal)
    ∧ quiescent_LruFReferenceIdeal (hLruFReferenceIdeal := hLruFReferenceIdeal)
    ∧ quiescent_MmKernel (hMmKernel := hMmKernel)
    ∧ quiescent_MmKernelIdeal (hMmKernelIdeal := hMmKernelIdeal)
    ∧ quiescent_MmReferenceIdeal (hMmReferenceIdeal := hMmReferenceIdeal)
    ∧ quiescent_DwinKernel (hDwinKernel := hDwinKernel)
    ∧ quiescent_DwinKernelIdeal (hDwinKernelIdeal := hDwinKernelIdeal)
    ∧ quiescent_DwinReferenceIdeal (hDwinReferenceIdeal := hDwinReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_LossKernel_LossKernelIdeal
    ∧ algebraic_LossKernelIdeal_LossReferenceIdeal (hLossKernelIdeal := hLossKernelIdeal) (hLossReferenceIdeal := hLossReferenceIdeal)
    ∧ preserves_LnKernel_LnKernelIdeal
    ∧ algebraic_LnKernelIdeal_LnReferenceIdeal_pre_finite_ln (hLnKernelIdeal := hLnKernelIdeal) (hLnReferenceIdeal := hLnReferenceIdeal) (hPre_finite_ln := hPre_finite_ln)
    ∧ preserves_LnResKernel_LnResKernelIdeal
    ∧ algebraic_LnResKernelIdeal_LnResReferenceIdeal_pre_finite_ln_res (hLnResKernelIdeal := hLnResKernelIdeal) (hLnResReferenceIdeal := hLnResReferenceIdeal) (hPre_finite_ln_res := hPre_finite_ln_res)
    ∧ preserves_RmsKernel_RmsKernelIdeal
    ∧ algebraic_RmsKernelIdeal_RmsReferenceIdeal_pre_finite_rms (hRmsKernelIdeal := hRmsKernelIdeal) (hRmsReferenceIdeal := hRmsReferenceIdeal) (hPre_finite_rms := hPre_finite_rms)
    ∧ preserves_MlpKernel_MlpKernelIdeal
    ∧ algebraic_MlpKernelIdeal_MlpReferenceIdeal (hMlpKernelIdeal := hMlpKernelIdeal) (hMlpReferenceIdeal := hMlpReferenceIdeal)
    ∧ preserves_PoolKernel_PoolKernelIdeal
    ∧ algebraic_PoolKernelIdeal_PoolReferenceIdeal_pre_finite_pool (hPoolKernelIdeal := hPoolKernelIdeal) (hPoolReferenceIdeal := hPoolReferenceIdeal) (hPre_finite_pool := hPre_finite_pool)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_LruKernel_LruKernelIdeal
    ∧ preserves_AttnFKernel_AttnFKernelIdeal
    ∧ algebraic_AttnFKernelIdeal_AttnFReferenceIdeal_pre_finite_attn_fwd (hAttnFKernelIdeal := hAttnFKernelIdeal) (hAttnFReferenceIdeal := hAttnFReferenceIdeal) (hPre_finite_attn_fwd := hPre_finite_attn_fwd)
    ∧ preserves_ResLnKernel_ResLnKernelIdeal
    ∧ algebraic_ResLnKernelIdeal_ResLnReferenceIdeal (hResLnKernelIdeal := hResLnKernelIdeal) (hResLnReferenceIdeal := hResLnReferenceIdeal)
    ∧ preserves_ProjLnKernel_ProjLnKernelIdeal
    ∧ algebraic_ProjLnKernelIdeal_ProjLnReferenceIdeal (hProjLnKernelIdeal := hProjLnKernelIdeal) (hProjLnReferenceIdeal := hProjLnReferenceIdeal)
    ∧ preserves_MlpFKernel_MlpFKernelIdeal
    ∧ algebraic_MlpFKernelIdeal_MlpFReferenceIdeal (hMlpFKernelIdeal := hMlpFKernelIdeal) (hMlpFReferenceIdeal := hMlpFReferenceIdeal)
    ∧ preserves_DownKernel_DownKernelIdeal
    ∧ algebraic_DownKernelIdeal_DownReferenceIdeal (hDownKernelIdeal := hDownKernelIdeal) (hDownReferenceIdeal := hDownReferenceIdeal)
    ∧ preserves_RopeKernel_RopeKernelIdeal
    ∧ algebraic_RopeKernelIdeal_RopeReferenceIdeal (hRopeKernelIdeal := hRopeKernelIdeal) (hRopeReferenceIdeal := hRopeReferenceIdeal)
    ∧ preserves_PoolFKernel_PoolFKernelIdeal
    ∧ algebraic_PoolFKernelIdeal_PoolFReferenceIdeal_pre_finite_pool_fwd (hPoolFKernelIdeal := hPoolFKernelIdeal) (hPoolFReferenceIdeal := hPoolFReferenceIdeal) (hPre_finite_pool_fwd := hPre_finite_pool_fwd)
    ∧ preserves_LruFKernel_LruFKernelIdeal
    ∧ algebraic_LruFKernelIdeal_LruFReferenceIdeal (hLruFKernelIdeal := hLruFKernelIdeal) (hLruFReferenceIdeal := hLruFReferenceIdeal)
    ∧ preserves_MmKernel_MmKernelIdeal
    ∧ algebraic_MmKernelIdeal_MmReferenceIdeal (hMmKernelIdeal := hMmKernelIdeal) (hMmReferenceIdeal := hMmReferenceIdeal)
    ∧ preserves_DwinKernel_DwinKernelIdeal
    ∧ algebraic_DwinKernelIdeal_DwinReferenceIdeal (hDwinKernelIdeal := hDwinKernelIdeal) (hDwinReferenceIdeal := hDwinReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite_attn.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S384x1536 : Shape := ⟨2, ![384, 1536]⟩
abbrev S256x2048 : Shape := ⟨2, ![256, 2048]⟩
abbrev S1024x1024 : Shape := ⟨2, ![1024, 1024]⟩
abbrev S2048x1024 : Shape := ⟨2, ![2048, 1024]⟩
abbrev S_ : Shape := ⟨0, ![]⟩

class Facts : Prop where
  bcast_S_S2048x384 : S_.BroadcastsInDim S2048x384 (![] : Fin 0 → Fin S2048x384.rank)
  reducesTo_S2048x384_S_d0_1 : S2048x384.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048x64 : S_.BroadcastsInDim S2048x64 (![] : Fin 0 → Fin S2048x64.rank)
  reducesTo_S2048x64_S_d0_1 : S2048x64.ReducesTo [0, 1] S_
  bcast_S_S2048x32 : S_.BroadcastsInDim S2048x32 (![] : Fin 0 → Fin S2048x32.rank)
  reducesTo_S2048x32_S_d0_1 : S2048x32.ReducesTo [0, 1] S_
  bcast_S_S384x1536 : S_.BroadcastsInDim S384x1536 (![] : Fin 0 → Fin S384x1536.rank)
  reducesTo_S384x1536_S_d0_1 : S384x1536.ReducesTo [0, 1] S_
  bcast_S_S256x2048 : S_.BroadcastsInDim S256x2048 (![] : Fin 0 → Fin S256x2048.rank)
  reducesTo_S256x2048_S_d0_1 : S256x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg7 : FVec F S1024x1024 .f32) (main_arg8 : FVec F S2048x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  main_v43

def fn_part1 {F : FTy → Type} [FloatOps F] (main_arg4 : FVec F S2048x32 .f32) (main_arg5 : FVec F S384x1536 .f32) (main_arg6 : FVec F S256x2048 .f32) (main_arg7 : FVec F S1024x1024 .f32) (main_arg8 : FVec F S2048x1024 .f32) (main_v13 : IVec S_ 1) (main_v16 : IVec S2048x32 1) : IVec S_ 1 :=
  let main_c_5 : IVec S_ 1 := constantI S_ 1 1#1
  let main_v17 : IVec S_ 1 := (fun x v => Host.reduce IntOp.andi x v reducesTo_S2048x32_S_d0_1 h_S_) main_v16 main_c_5
  let main_v18 : IVec S_ 1 := andi main_v13 main_v17
  let main_v19 : FVec F S2048x32 .f32 := Host.absf main_arg4
  let main_cst_6 : FVec F S_ .f32 := constant S_ .f32 0x7F800000#32
  let main_v20 : FVec F S2048x32 .f32 := broadcastInDim S2048x32 ![] bcast_S_S2048x32 main_cst_6
  let main_v21 : IVec S2048x32 1 := cmpf .olt main_v19 main_v20
  let main_c_7 : IVec S_ 1 := constantI S_ 1 1#1
  let main_v22 : IVec S_ 1 := (fun x v => Host.reduce IntOp.andi x v reducesTo_S2048x32_S_d0_1 h_S_) main_v21 main_c_7
  let main_v23 : IVec S_ 1 := andi main_v18 main_v22
  let main_v24 : FVec F S384x1536 .f32 := Host.absf main_arg5
  let main_cst_8 : FVec F S_ .f32 := constant S_ .f32 0x7F800000#32
  let main_v25 : FVec F S384x1536 .f32 := broadcastInDim S384x1536 ![] bcast_S_S384x1536 main_cst_8
  let main_v26 : IVec S384x1536 1 := cmpf .olt main_v24 main_v25
  let main_c_9 : IVec S_ 1 := constantI S_ 1 1#1
  let main_v27 : IVec S_ 1 := (fun x v => Host.reduce IntOp.andi x v reducesTo_S384x1536_S_d0_1 h_S_) main_v26 main_c_9
  let main_v28 : IVec S_ 1 := andi main_v23 main_v27
  let main_v29 : FVec F S256x2048 .f32 := Host.absf main_arg6
  let main_cst_10 : FVec F S_ .f32 := constant S_ .f32 0x7F800000#32
  let main_v30 : FVec F S256x2048 .f32 := broadcastInDim S256x2048 ![] bcast_S_S256x2048 main_cst_10
  let main_v31 : IVec S256x2048 1 := cmpf .olt main_v29 main_v30
  let main_c_11 : IVec S_ 1 := constantI S_ 1 1#1
  let main_v32 : IVec S_ 1 := (fun x v => Host.reduce IntOp.andi x v reducesTo_S256x2048_S_d0_1 h_S_) main_v31 main_c_11
  let main_v33 : IVec S_ 1 := andi main_v28 main_v32
  fn_part2 (F := F) main_arg7 main_arg8 main_v33

def fn {F : FTy → Type} [FloatOps F] (main_arg0 : FVec F S2048x384 .f32) (main_arg1 : FVec F S2048x256 .f32) (main_arg2 : FVec F S2048x64 .f32) (main_arg3 : FVec F S2048x32 .f32) (main_arg4 : FVec F S2048x32 .f32) (main_arg5 : FVec F S384x1536 .f32) (main_arg6 : FVec F S256x2048 .f32) (main_arg7 : FVec F S1024x1024 .f32) (main_arg8 : FVec F S2048x1024 .f32) : IVec S_ 1 :=
  let main_v0 : FVec F S2048x384 .f32 := Host.absf main_arg0
  let main_cst : FVec F S_ .f32 := constant S_ .f32 0x7F800000#32
  let main_v1 : FVec F S2048x384 .f32 := broadcastInDim S2048x384 ![] bcast_S_S2048x384 main_cst
  let main_v2 : IVec S2048x384 1 := cmpf .olt main_v0 main_v1
  let main_c : IVec S_ 1 := constantI S_ 1 1#1
  let main_v3 : IVec S_ 1 := (fun x v => Host.reduce IntOp.andi x v reducesTo_S2048x384_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x32 .f32 := Host.absf main_arg3
  let main_cst_4 : FVec F S_ .f32 := constant S_ .f32 0x7F800000#32
  let main_v15 : FVec F S2048x32 .f32 := broadcastInDim S2048x32 ![] bcast_S_S2048x32 main_cst_4
  let main_v16 : IVec S2048x32 1 := cmpf .olt main_v14 main_v15
  fn_part1 (F := F) main_arg4 main_arg5 main_arg6 main_arg7 main_arg8 main_v13 main_v16
-- ==== Pre_finite_attn_fwd.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S384x1536 : Shape := ⟨2, ![384, 1536]⟩
abbrev S256x2048 : Shape := ⟨2, ![256, 2048]⟩
abbrev S1024x1024 : Shape := ⟨2, ![1024, 1024]⟩
abbrev S_ : Shape := ⟨0, ![]⟩

class Facts : Prop where
  bcast_S_S2048x384 : S_.BroadcastsInDim S2048x384 (![] : Fin 0 → Fin S2048x384.rank)
  reducesTo_S2048x384_S_d0_1 : S2048x384.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048x64 : S_.BroadcastsInDim S2048x64 (![] : Fin 0 → Fin S2048x64.rank)
  reducesTo_S2048x64_S_d0_1 : S2048x64.ReducesTo [0, 1] S_
  bcast_S_S2048x32 : S_.BroadcastsInDim S2048x32 (![] : Fin 0 → Fin S2048x32.rank)
  reducesTo_S2048x32_S_d0_1 : S2048x32.ReducesTo [0, 1] S_
  bcast_S_S384x1536 : S_.BroadcastsInDim S384x1536 (![] : Fin 0 → Fin S384x1536.rank)
  reducesTo_S384x1536_S_d0_1 : S384x1536.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_arg4 : FVec F S2048x32 .f32) (main_arg5 : FVec F S384x1536 .f32) (main_arg6 : FVec F S256x2048 .f32) (main_v13 : IVec S_ 1) (main_v16 : IVec S2048x32 1) : IVec S_ 1 :=
  let main_c_5 : IVec S_ 1 := constantI S_ 1 1#1
  let main_v17 : IVec S_ 1 := (fun x v => Host.reduce IntOp.andi x v reducesTo_S2048x32_S_d0_1 h_S_) main_v16 main_c_5
  let main_v18 : IVec S_ 1 := andi main_v13 main_v17
  let main_v19 : FVec F S2048x32 .f32 := Host.absf main_arg4
  let main_cst_6 : FVec F S_ .f32 := constant S_ .f32 0x7F800000#32
  let main_v20 : FVec F S2048x32 .f32 := broadcastInDim S2048x32 ![] bcast_S_S2048x32 main_cst_6
  let main_v21 : IVec S2048x32 1 := cmpf .olt main_v19 main_v20
  let main_c_7 : IVec S_ 1 := constantI S_ 1 1#1
  let main_v22 : IVec S_ 1 := (fun x v => Host.reduce IntOp.andi x v reducesTo_S2048x32_S_d0_1 h_S_) main_v21 main_c_7
  let main_v23 : IVec S_ 1 := andi main_v18 main_v22
  let main_v24 : FVec F S384x1536 .f32 := Host.absf main_arg5
  let main_cst_8 : FVec F S_ .f32 := constant S_ .f32 0x7F800000#32
  let main_v25 : FVec F S384x1536 .f32 := broadcastInDim S384x1536 ![] bcast_S_S384x1536 main_cst_8
  let main_v26 : IVec S384x1536 1 := cmpf .olt main_v24 main_v25
  let main_c_9 : IVec S_ 1 := constantI S_ 1 1#1
  let main_v27 : IVec S_ 1 := (fun x v => Host.reduce IntOp.andi x v reducesTo_S384x1536_S_d0_1 h_S_) main_v26 main_c_9
  let main_v28 : IVec S_ 1 := andi main_v23 main_v27
  let main_v29 : FVec F S256x2048 .f32 := Host.absf main_arg6
  let main_cst_10 : FVec F S_ .f32 := constant S_ .f32 0x7F800000#32
  let main_v30 : FVec F S256x2048 .f32 := broadcastInDim S256x2048 ![] bcast_S_S256x2048 main_cst_10
  let main_v31 : IVec S256x2048 1 := cmpf .olt main_v29 main_v30
  let main_c_11 : IVec S_ 1 := constantI S_ 1 1#1
  let main_v32 : IVec S_ 1 := (fun x v => Host.reduce IntOp.andi x v reducesTo_S256x2048_S_d0_1 h_S_) main_v31 main_c_11
  let main_v33 : IVec S_ 1 := andi main_v28 main_v32
  main_v33

def fn {F : FTy → Type} [FloatOps F] (main_arg0 : FVec F S2048x384 .f32) (main_arg1 : FVec F S2048x256 .f32) (main_arg2 : FVec F S2048x64 .f32) (main_arg3 : FVec F S2048x32 .f32) (main_arg4 : FVec F S2048x32 .f32) (main_arg5 : FVec F S384x1536 .f32) (main_arg6 : FVec F S256x2048 .f32) (main_arg7 : FVec F S1024x1024 .f32) : IVec S_ 1 :=
  let main_v0 : FVec F S2048x384 .f32 := Host.absf main_arg0
  let main_cst : FVec F S_ .f32 := constant S_ .f32 0x7F800000#32
  let main_v1 : FVec F S2048x384 .f32 := broadcastInDim S2048x384 ![] bcast_S_S2048x384 main_cst
  let main_v2 : IVec S2048x384 1 := cmpf .olt main_v0 main_v1
  let main_c : IVec S_ 1 := constantI S_ 1 1#1
  let main_v3 : IVec S_ 1 := (fun x v => Host.reduce IntOp.andi x v reducesTo_S2048x384_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x32 .f32 := Host.absf main_arg3
  let main_cst_4 : FVec F S_ .f32 := constant S_ .f32 0x7F800000#32
  let main_v15 : FVec F S2048x32 .f32 := broadcastInDim S2048x32 ![] bcast_S_S2048x32 main_cst_4
  let main_v16 : IVec S2048x32 1 := cmpf .olt main_v14 main_v15
  fn_part1 (F := F) main_arg4 main_arg5 main_arg6 main_v13 main_v16
-- ==== Pre_finite_ln.lean ====
abbrev S2048x1024 : Shape := ⟨2, ![2048, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S4x1024_S1x1024_3_0 : S4x1024.Slices ![3, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2048x1024 .f32) (main_arg1 : FVec F S2048x1024 .f32) (main_arg2 : FVec F S4x1024 .f32) (main_arg3 : FVec F S4x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := (extractStridedSlice S1x1024 ![3, 0] · slices_S4x1024_S1x1024_3_0) main_arg2
  let main_v10 : FVec F S1024 .f32 := shapeCast S1024 main_v9 shapeCasts_S1x1024_S1024
  let main_v11 : FVec F S1024 .f32 := Host.absf main_v10
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v8 main_v14
  main_v15
-- ==== Pre_finite_ln_res.lean ====
abbrev S2048x1024 : Shape := ⟨2, ![2048, 1024]⟩
abbrev S4x1024 : Shape := ⟨2, ![4, 1024]⟩
abbrev S8x128 : Shape := ⟨2, ![8, 128]⟩
abbrev S_ : Shape := ⟨0, ![]⟩
abbrev S1x1024 : Shape := ⟨2, ![1, 1024]⟩
abbrev S1024 : Shape := ⟨1, ![1024]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S4x1024_S1x1024_3_0 : S4x1024.Slices ![3, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v13 main_v19
  main_v20

def fn {F : FTy → Type} [FloatOps F] (main_arg0 : FVec F S2048x1024 .f32) (main_arg1 : FVec F S2048x1024 .f32) (main_arg2 : FVec F S2048x1024 .f32) (main_arg3 : FVec F S4x1024 .f32) (main_arg4 : FVec F S4x1024 .f32) (main_arg5 : FVec F S8x128 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := (extractStridedSlice S1x1024 ![3, 0] · slices_S4x1024_S1x1024_3_0) main_arg3
  let main_v15 : FVec F S1024 .f32 := shapeCast S1024 main_v14 shapeCasts_S1x1024_S1024
  let main_v16 : FVec F S1024 .f32 := Host.absf main_v15
  let main_cst_4 : FVec F S_ .f32 := constant S_ .f32 0x7F800000#32
  fn_part1 (F := F) main_v13 main_v16 main_cst_4
-- ==== Pre_finite_pool.lean ====
abbrev S2048x2560 : Shape := ⟨2, ![2048, 2560]⟩
abbrev S2048x1536 : Shape := ⟨2, ![2048, 1536]⟩
abbrev S2x4x128x128 : Shape := ⟨4, ![2, 4, 128, 128]⟩
abbrev S2x512 : Shape := ⟨2, ![2, 512]⟩
abbrev S2048x512 : Shape := ⟨2, ![2048, 512]⟩
abbrev S_ : Shape := ⟨0, ![]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩

class Facts : Prop where
  slices_S2048x2560_S2048x512_0_0 : S2048x2560.Slices ![0, 0] S2048x512
  bcast_S_S2048x512 : S_.BroadcastsInDim S2048x512 (![] : Fin 0 → Fin S2048x512.rank)
  reducesTo_S2048x512_S_d0_1 : S2048x512.ReducesTo [0, 1] S_
  h_S_ : 0 < S_.numel
  slices_S2048x1536_S2048x512_0_0 : S2048x1536.Slices ![0, 0] S2048x512
  slices_S2x4x128x128_S1x4x128x128_1_0_0_0 : S2x4x128x128.Slices ![1, 0, 0, 0] S1x4x128x128
  shapeCasts_S1x4x128x128_S4x128x128 : S1x4x128x128.ShapeCasts S4x128x128
  bcast_S_S4x128x128 : S_.BroadcastsInDim S4x128x128 (![] : Fin 0 → Fin S4x128x128.rank)
  reducesTo_S4x128x128_S_d0_1_2 : S4x128x128.ReducesTo [0, 1, 2] S_
  slices_S2x512_S1x512_1_0 : S2x512.Slices ![1, 0] S1x512
  shapeCasts_S1x512_S512 : S1x512.ShapeCasts S512
  bcast_S_S512 : S_.BroadcastsInDim S512 (![] : Fin 0 → Fin S512.rank)
  reducesTo_S512_S_d0 : S512.ReducesTo [0] S_

variable [Facts]

def fn_part1 {F : FTy → Type} [FloatOps F] (main_arg3 : FVec F S2x512 .f32) (main_v17 : IVec S_ 1) : IVec S_ 1 :=
  let main_v18 : FVec F S1x512 .f32 := (extractStridedSlice S1x512 ![1, 0] · slices_S2x512_S1x512_1_0) main_arg3
  let main_v19 : FVec F S512 .f32 := shapeCast S512 main_v18 shapeCasts_S1x512_S512
  let main_v20 : FVec F S512 .f32 := Host.absf main_v19
  let main_cst_4 : FVec F S_ .f32 := constant S_ .f32 0x7F800000#32
  let main_v21 : FVec F S512 .f32 := broadcastInDim S512 ![] bcast_S_S512 main_cst_4
  let main_v22 : IVec S512 1 := cmpf .olt main_v20 main_v21
  let main_c_5 : IVec S_ 1 := constantI S_ 1 1#1
  let main_v23 : IVec S_ 1 := (fun x v => Host.reduce IntOp.andi x v reducesTo_S512_S_d0 h_S_) main_v22 main_c_5
  let main_v24 : IVec S_ 1 := andi main_v17 main_v23
  main_v24

def fn {F : FTy → Type} [FloatOps F] (main_arg0 : FVec F S2048x2560 .f32) (main_arg1 : FVec F S2048x1536 .f32) (main_arg2 : FVec F S2x4x128x128 .f32) (main_arg3 : FVec F S2x512 .f32) : IVec S_ 1 :=
  let main_v0 : FVec F S2048x512 .f32 := (extractStridedSlice S2048x512 ![0, 0] · slices_S2048x2560_S2048x512_0_0) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S2048x512 .f32 := (extractStridedSlice S2048x512 ![0, 0] · slices_S2048x1536_S2048x512_0_0) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S1x4x128x128 .f32 := (extractStridedSlice S1x4x128x128 ![1, 0, 0, 0] · slices_S2x4x128x128_S1x4x128x128_1_0_0_0) main_arg2
  let main_v12 : FVec F S4x128x128 .f32 := shapeCast S4x128x128 main_v11 shapeCasts_S1x4x128x128_S4x128x128
  let main_v13 : FVec F S4x128x128 .f32 := Host.absf main_v12
  let main_cst_2 : FVec F S_ .f32 := constant S_ .f32 0x7F800000#32
  let main_v14 : FVec F S4x128x128 .f32 := broadcastInDim S4x128x128 ![] bcast_S_S4x128x128 main_cst_2
  let main_v15 : IVec S4x128x128 1 := cmpf .olt main_v13 main_v14
  let main_c_3 : IVec S_ 1 := constantI S_ 1 1#1
  let main_v16 : IVec S_ 1 := (fun x v => Host.reduce IntOp.andi x v reducesTo_S4x128x128_S_d0_1_2 h_S_) main_v15 main_c_3
  let main_v17 : IVec S_ 1 := andi main_v10 main_v16
  fn_part1 (F := F) main_arg3 main_v17
-- ==== Pre_finite_pool_fwd.lean ====
abbrev S2048x2560 : Shape := ⟨2, ![2048, 2560]⟩
abbrev S2x4x128x128 : Shape := ⟨4, ![2, 4, 128, 128]⟩
abbrev S2x512 : Shape := ⟨2, ![2, 512]⟩
abbrev S2048x512 : Shape := ⟨2, ![2048, 512]⟩
abbrev S_ : Shape := ⟨0, ![]⟩

class Facts : Prop where
  slices_S2048x2560_S2048x512_0_0 : S2048x2560.Slices ![0, 0] S2048x512
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x2560 .f32) (main_arg1 : FVec F S2x4x128x128 .f32) (main_arg2 : FVec F S2x512 .f32) : IVec S_ 1 :=
  let main_v0 : FVec F S2048x512 .f32 := (extractStridedSlice S2048x512 ![0, 0] · slices_S2048x2560_S2048x512_0_0) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  main_v4
-- ==== Pre_finite_rms.lean ====
abbrev S2048x704 : Shape := ⟨2, ![2048, 704]⟩
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S2x384 : Shape := ⟨2, ![2, 384]⟩
abbrev S2x256 : Shape := ⟨2, ![2, 256]⟩
abbrev S_ : Shape := ⟨0, ![]⟩
abbrev S1x384 : Shape := ⟨2, ![1, 384]⟩
abbrev S384 : Shape := ⟨1, ![384]⟩
abbrev S1x256 : Shape := ⟨2, ![1, 256]⟩
abbrev S256 : Shape := ⟨1, ![256]⟩

class Facts : Prop where
  bcast_S_S2048x704 : S_.BroadcastsInDim S2048x704 (![] : Fin 0 → Fin S2048x704.rank)
  reducesTo_S2048x704_S_d0_1 : S2048x704.ReducesTo [0, 1] S_
  h_S_ : 0 < S_.numel
  bcast_S_S2048x384 : S_.BroadcastsInDim S2048x384 (![] : Fin 0 → Fin S2048x384.rank)
  reducesTo_S2048x384_S_d0_1 : S2048x384.ReducesTo [0, 1] S_
  bcast_S_S2048x256 : S_.BroadcastsInDim S2048x256 (![] : Fin 0 → Fin S2048x256.rank)
  reducesTo_S2048x256_S_d0_1 : S2048x256.ReducesTo [0, 1] S_
  slices_S2x384_S1x384_1_0 : S2x384.Slices ![1, 0] S1x384
  shapeCasts_S1x384_S384 : S1x384.ShapeCasts S384
  bcast_S_S384 : S_.BroadcastsInDim S384 (![] : Fin 0 → Fin S384.rank)
  reducesTo_S384_S_d0 : S384.ReducesTo [0] S_
  slices_S2x256_S1x256_1_0 : S2x256.Slices ![1, 0] S1x256
  shapeCasts_S1x256_S256 : S1x256.ShapeCasts S256
  bcast_S_S256 : S_.BroadcastsInDim S256 (![] : Fin 0 → Fin S256.rank)
  reducesTo_S256_S_d0 : S256.ReducesTo [0] S_

variable [Facts]

def fn_part1 {F : FTy → Type} [FloatOps F] (main_arg7 : FVec F S2x256 .f32) (main_v13 : IVec S_ 1) (main_v16 : FVec F S384 .f32) (main_cst_4 : FVec F S_ .f32) : IVec S_ 1 :=
  let main_v17 : FVec F S384 .f32 := broadcastInDim S384 ![] bcast_S_S384 main_cst_4
  let main_v18 : IVec S384 1 := cmpf .olt main_v16 main_v17
  let main_c_5 : IVec S_ 1 := constantI S_ 1 1#1
  let main_v19 : IVec S_ 1 := (fun x v => Host.reduce IntOp.andi x v reducesTo_S384_S_d0 h_S_) main_v18 main_c_5
  let main_v20 : IVec S_ 1 := andi main_v13 main_v19
  let main_v21 : FVec F S1x256 .f32 := (extractStridedSlice S1x256 ![1, 0] · slices_S2x256_S1x256_1_0) main_arg7
  let main_v22 : FVec F S256 .f32 := shapeCast S256 main_v21 shapeCasts_S1x256_S256
  let main_v23 : FVec F S256 .f32 := Host.absf main_v22
  let main_cst_6 : FVec F S_ .f32 := constant S_ .f32 0x7F800000#32
  let main_v24 : FVec F S256 .f32 := broadcastInDim S256 ![] bcast_S_S256 main_cst_6
  let main_v25 : IVec S256 1 := cmpf .olt main_v23 main_v24
  let main_c_7 : IVec S_ 1 := constantI S_ 1 1#1
  let main_v26 : IVec S_ 1 := (fun x v => Host.reduce IntOp.andi x v reducesTo_S256_S_d0 h_S_) main_v25 main_c_7
  let main_v27 : IVec S_ 1 := andi main_v20 main_v26
  main_v27

def fn {F : FTy → Type} [FloatOps F] (main_arg0 : FVec F S2048x704 .f32) (main_arg1 : FVec F S2048x384 .f32) (main_arg2 : FVec F S2048x256 .f32) (main_arg3 : FVec F S2048x64 .f32) (main_arg4 : FVec F S2048x32 .f32) (main_arg5 : FVec F S2048x32 .f32) (main_arg6 : FVec F S2x384 .f32) (main_arg7 : FVec F S2x256 .f32) : IVec S_ 1 :=
  let main_v0 : FVec F S2048x704 .f32 := Host.absf main_arg0
  let main_cst : FVec F S_ .f32 := constant S_ .f32 0x7F800000#32
  let main_v1 : FVec F S2048x704 .f32 := broadcastInDim S2048x704 ![] bcast_S_S2048x704 main_cst
  let main_v2 : IVec S2048x704 1 := cmpf .olt main_v0 main_v1
  let main_c : IVec S_ 1 := constantI S_ 1 1#1
  let main_v3 : IVec S_ 1 := (fun x v => Host.reduce IntOp.andi x v reducesTo_S2048x704_S_d0_1 h_S_) main_v2 main_c
  let main_v4 : FVec F S2048x384 .f32 := Host.absf main_arg1
  let main_cst_0 : FVec F S_ .f32 := constant S_ .f32 0x7F800000#32
  let main_v5 : FVec F S2048x384 .f32 := broadcastInDim S2048x384 ![] bcast_S_S2048x384 main_cst_0
  let main_v6 : IVec S2048x384 1 := cmpf .olt main_v4 main_v5
  let main_c_1 : IVec S_ 1 := constantI S_ 1 1#1
  let main_v7 : IVec S_ 1 := (fun x v => Host.reduce IntOp.andi x v reducesTo_S2048x384_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S1x384 .f32 := (extractStridedSlice S1x384 ![1, 0] · slices_S2x384_S1x384_1_0) main_arg6
  let main_v15 : FVec F S384 .f32 := shapeCast S384 main_v14 shapeCasts_S1x384_S384
  let main_v16 : FVec F S384 .f32 := Host.absf main_v15
  let main_cst_4 : FVec F S_ .f32 := constant S_ .f32 0x7F800000#32
  fn_part1 (F := F) main_arg7 main_v13 main_v16 main_cst_4
-- ==== LossKernel.lean ====
abbrev S2048x1024 : Shape := ⟨2, ![2048, 1024]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x128, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v17 : BitVec 1 := Scalar.cmpi .eq arg0 c1_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== LnKernel.lean ====
abbrev S2048x1024 : Shape := ⟨2, ![2048, 1024]⟩
abbrev S4x1024 : Shape := ⟨2, ![4, 1024]⟩
abbrev S4x1x1024 : Shape := ⟨3, ![4, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S4x1024, .f32⟩
  | .hbm, ⟨4, _⟩ => ⟨S4x1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnReferenceIdeal.lean ====
abbrev S2048x1024 : Shape := ⟨2, ![2048, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S_, .f32⟩
  | .hbm, ⟨86, _⟩ => ⟨S2048, .f32⟩
  | .hbm, ⟨87, _⟩ => ⟨S2048x1024, .f32⟩
  | .hbm, ⟨88, _⟩ => ⟨S2048x1024, .f32⟩
  | .hbm, ⟨89, _⟩ => ⟨S2048x1024, .bf16⟩
  | .hbm, ⟨90, _⟩ => ⟨S1x1024, .f32⟩
  | .hbm, ⟨91, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_15 : Ref sig .tc := ⟨.hbm, 82, rfl⟩
abbrev main_v62 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== LnResKernel.lean ====
abbrev S2048x1024 : Shape := ⟨2, ![2048, 1024]⟩
abbrev S4x1024 : Shape := ⟨2, ![4, 1024]⟩
abbrev S8x128 : Shape := ⟨2, ![8, 128]⟩
abbrev S4x1x1024 : Shape := ⟨3, ![4, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x1024, .f32⟩
  | .hbm, ⟨4, _⟩ => ⟨S4x1024, .f32⟩
  | .hbm, ⟨5, _⟩ => ⟨S8x128, .f32⟩
  | .hbm, ⟨6, _⟩ => ⟨S4x1x1024, .f32⟩
  | .hbm, ⟨7, _⟩ => ⟨S2048x1024, .f32⟩
  | .hbm, ⟨8, _⟩ => ⟨S2048x1024, .bf16⟩
  | .hbm, ⟨9, _⟩ => ⟨S1x1024, .f32⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S8x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnResReferenceIdeal.lean ====
abbrev S2048x1024 : Shape := ⟨2, ![2048, 1024]⟩
abbrev S4x1024 : Shape := ⟨2, ![4, 1024]⟩
abbrev S8x128 : Shape := ⟨2, ![8, 128]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x1024, .f32⟩
  | .hbm, ⟨4, _⟩ => ⟨S4x1024, .f32⟩
  | .hbm, ⟨5, _⟩ => ⟨S8x128, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S2048, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x1024, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x1024, .f32⟩
  | .hbm, ⟨97, _⟩ => ⟨S2048x1024, .f32⟩
  | .hbm, ⟨98, _⟩ => ⟨S2048x1024, .bf16⟩
  | .hbm, ⟨99, _⟩ => ⟨S1x1024, .f32⟩
  | .hbm, ⟨100, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== RmsKernel.lean ====
abbrev S2048x704 : Shape := ⟨2, ![2048, 704]⟩
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S2x384 : Shape := ⟨2, ![2, 384]⟩
abbrev S2x256 : Shape := ⟨2, ![2, 256]⟩
abbrev S2x1x384 : Shape := ⟨3, ![2, 1, 384]⟩
abbrev S2x1x256 : Shape := ⟨3, ![2, 1, 256]⟩
abbrev S1x384 : Shape := ⟨2, ![1, 384]⟩
abbrev S1x256 : Shape := ⟨2, ![1, 256]⟩
abbrev S1024x704 : Shape := ⟨2, ![1024, 704]⟩
abbrev S1024x384 : Shape := ⟨2, ![1024, 384]⟩
abbrev S1024x256 : Shape := ⟨2, ![1024, 256]⟩
abbrev S1024x64 : Shape := ⟨2, ![1024, 64]⟩
abbrev S1024x32 : Shape := ⟨2, ![1024, 32]⟩
abbrev S1x1x384 : Shape := ⟨3, ![1, 1, 384]⟩
abbrev S1x1x256 : Shape := ⟨3, ![1, 1, 256]⟩
abbrev S1024 : Shape := ⟨1, ![1024]⟩
abbrev S1024x1 : Shape := ⟨2, ![1024, 1]⟩
abbrev S384 : Shape := ⟨1, ![384]⟩
abbrev S256 : Shape := ⟨1, ![256]⟩

abbrev nBuf : Space → Nat
  | .hbm => 13
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x384, .f32⟩
  | .hbm, ⟨2, _⟩ => ⟨S2048x256, .f32⟩
  | .hbm, ⟨3, _⟩ => ⟨S2048x64, .f32⟩
  | .hbm, ⟨4, _⟩ => ⟨S2048x32, .f32⟩
  | .hbm, ⟨5, _⟩ => ⟨S2048x32, .f32⟩
  | .hbm, ⟨6, _⟩ => ⟨S2x384, .f32⟩
  | .hbm, ⟨7, _⟩ => ⟨S2x256, .f32⟩
  | .hbm, ⟨8, _⟩ => ⟨S2x1x384, .f32⟩
  | .hbm, ⟨9, _⟩ => ⟨S2x1x256, .f32⟩
  | .hbm, ⟨10, _⟩ => ⟨S2048x704, .bf16⟩
  | .hbm, ⟨11, _⟩ => ⟨S1x384, .f32⟩
  | .hbm, ⟨12, _⟩ => ⟨S1x256, .f32⟩
  | .local _ .vmem, ⟨0, _⟩ => ⟨S1024x704, .f32⟩
  | .local _ .vmem, ⟨1, _⟩ => ⟨S1024x704, .f32⟩
  | .local _ .vmem, ⟨2, _⟩ => ⟨S1024x384, .f32⟩
  | .local _ .vmem, ⟨3, _⟩ => ⟨S1024x384, .f32⟩
  | .local _ .vmem, ⟨4, _⟩ => ⟨S1024x256, .f32⟩
  | .local _ .vmem, ⟨5, _⟩ => ⟨S1024x256, .f32⟩
  | .local _ .vmem, ⟨6, _⟩ => ⟨S1024x64, .f32⟩
  | .local _ .vmem, ⟨7, _⟩ => ⟨S1024x64, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1x1x384, .f32⟩
  | .local _ .vmem, ⟨13, _⟩ => ⟨S1x1x256, .f32⟩
  | .local _ .vmem, ⟨14, _⟩ => ⟨S1024x704, .bf16⟩
  | .local _ .vmem, ⟨15, _⟩ => ⟨S1024x704, .bf16⟩
  | .local _ .vmem, ⟨16, _⟩ => ⟨S1x384, .f32⟩
  | .local _ .vmem, ⟨17, _⟩ => ⟨S1x256, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RmsReferenceIdeal.lean ====
abbrev S2048x704 : Shape := ⟨2, ![2048, 704]⟩
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S2x384 : Shape := ⟨2, ![2, 384]⟩
abbrev S2x256 : Shape := ⟨2, ![2, 256]⟩
abbrev S1x384 : Shape := ⟨2, ![1, 384]⟩
abbrev S384 : Shape := ⟨1, ![384]⟩
abbrev S1x256 : Shape := ⟨2, ![1, 256]⟩
abbrev S256 : Shape := ⟨1, ![256]⟩
abbrev S_ : Shape := ⟨0, ![]⟩
abbrev S2048 : Shape := ⟨1, ![2048]⟩
abbrev S2048x1 : Shape := ⟨2, ![2048, 1]⟩

abbrev nBuf : Space → Nat
  | .hbm => 137
  | .vmem => 0
  | .smem => 0
  | _ => 0

abbrev hbmTy0_0 (i : Nat) : BufTy := match i % 128 with
  | 0 => ⟨S2048x704, .f32⟩
  | 1 => ⟨S2048x384, .f32⟩
  | 2 => ⟨S2048x256, .f32⟩
  | 3 => ⟨S2048x64, .f32⟩
  | 4 => ⟨S2048x32, .f32⟩
  | 5 => ⟨S2048x32, .f32⟩
  | 6 => ⟨S2x384, .f32⟩
  | 7 => ⟨S2x256, .f32⟩
  | 8 => ⟨S1x384, .f32⟩
  | 9 => ⟨S384, .f32⟩
  | 10 => ⟨S1x256, .f32⟩
  | 11 => ⟨S256, .f32⟩
  | 12 => ⟨S2048x384, .f32⟩
  | 13 => ⟨S2048x384, .f32⟩
  | 14 => ⟨S_, .f32⟩
  | 15 => ⟨S2048x384, .f32⟩
  | 16 => ⟨S2048x384, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1, .f32⟩
  | 27 => ⟨S2048x1, .f32⟩
  | 28 => ⟨S_, .f32⟩
  | 29 => ⟨S2048x1, .f32⟩
  | 30 => ⟨S2048x1, .f32⟩
  | 31 => ⟨S2048x384, .f32⟩
  | 32 => ⟨S2048x384, .f32⟩
  | 33 => ⟨S1x384, .f32⟩
  | 34 => ⟨S2048x384, .f32⟩
  | 35 => ⟨S2048x384, .f32⟩
  | 36 => ⟨S2048x256, .f32⟩
  | 37 => ⟨S2048x256, .f32⟩
  | 38 => ⟨S_, .f32⟩
  | 39 => ⟨S2048x256, .f32⟩
  | 40 => ⟨S2048x256, .f32⟩
  | 41 => ⟨S_, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x256, .f32⟩
  | 56 => ⟨S2048x256, .f32⟩
  | 57 => ⟨S1x256, .f32⟩
  | 58 => ⟨S2048x256, .f32⟩
  | 59 => ⟨S2048x256, .f32⟩
  | 60 => ⟨S2048x64, .f32⟩
  | 61 => ⟨S2048x32, .f32⟩
  | 62 => ⟨S2048x32, .f32⟩
  | 63 => ⟨S2048x32, .f32⟩
  | 64 => ⟨S2048x32, .f32⟩
  | 65 => ⟨S2048x32, .f32⟩
  | 66 => ⟨S2048x32, .f32⟩
  | 67 => ⟨S2048x32, .f32⟩
  | 68 => ⟨S2048x32, .f32⟩
  | 69 => ⟨S2048x64, .f32⟩
  | 70 => ⟨S2048x32, .f32⟩
  | 71 => ⟨S2048x32, .f32⟩
  | 72 => ⟨S2048x32, .f32⟩
  | 73 => ⟨S2048x32, .f32⟩
  | 74 => ⟨S2048x32, .f32⟩
  | 75 => ⟨S2048x32, .f32⟩
  | 76 => ⟨S2048x32, .f32⟩
  | 77 => ⟨S2048x32, .f32⟩
  | 78 => ⟨S2048x32, .f32⟩
  | 79 => ⟨S2048x64, .f32⟩
  | 80 => ⟨S_, .f32⟩
  | 81 => ⟨S2048x704, .f32⟩
  | 82 => ⟨S2048x256, .f32⟩
  | 83 => ⟨S_, .f32⟩
  | 84 => ⟨S256, .f32⟩
  | 85 => ⟨S1x256, .f32⟩
  | 86 => ⟨S2048x256, .f32⟩
  | 87 => ⟨S2048x256, .f32⟩
  | 88 => ⟨S_, .f32⟩
  | 89 => ⟨S256, .f32⟩
  | 90 => ⟨S2048x256, .f32⟩
  | 91 => ⟨S_, .f32⟩
  | 92 => ⟨S2048, .f32⟩
  | 93 => ⟨S2048x1, .f32⟩
  | 94 => ⟨S2048x256, .f32⟩
  | 95 => ⟨S2048x256, .f32⟩
  | 96 => ⟨S2048x1, .f32⟩
  | 97 => ⟨S_, .f32⟩
  | 98 => ⟨S2048x1, .f32⟩
  | 99 => ⟨S2048x1, .f32⟩
  | 100 => ⟨S_, .f32⟩
  | 101 => ⟨S2048, .f32⟩
  | 102 => ⟨S2048x256, .f32⟩
  | 103 => ⟨S2048x256, .f32⟩
  | 104 => ⟨S2048x256, .f32⟩
  | 105 => ⟨S_, .f32⟩
  | 106 => ⟨S2048x704, .f32⟩
  | 107 => ⟨S2048x704, .f32⟩
  | 108 => ⟨S2048x384, .f32⟩
  | 109 => ⟨S_, .f32⟩
  | 110 => ⟨S384, .f32⟩
  | 111 => ⟨S1x384, .f32⟩
  | 112 => ⟨S2048x384, .f32⟩
  | 113 => ⟨S2048x384, .f32⟩
  | 114 => ⟨S_, .f32⟩
  | 115 => ⟨S384, .f32⟩
  | 116 => ⟨S2048x384, .f32⟩
  | 117 => ⟨S_, .f32⟩
  | 118 => ⟨S2048, .f32⟩
  | 119 => ⟨S2048x1, .f32⟩
  | 120 => ⟨S2048x384, .f32⟩
  | 121 => ⟨S2048x384, .f32⟩
  | 122 => ⟨S2048x1, .f32⟩
  | 123 => ⟨S_, .f32⟩
  | 124 => ⟨S2048x1, .f32⟩
  | 125 => ⟨S2048x1, .f32⟩
  | 126 => ⟨S_, .f32⟩
  | 127 => ⟨S2048, .f32⟩
  | _ => ⟨S2048x704, .f32⟩

abbrev hbmTy0_1 (i : Nat) : BufTy := match i % 128 with
  | 0 => ⟨S2048x384, .f32⟩
  | 1 => ⟨S2048x384, .f32⟩
  | 2 => ⟨S2048x384, .f32⟩
  | 3 => ⟨S_, .f32⟩
  | 4 => ⟨S2048x704, .f32⟩
  | 5 => ⟨S2048x704, .f32⟩
  | 6 => ⟨S2048x704, .bf16⟩
  | 7 => ⟨S1x384, .f32⟩
  | 8 => ⟨S1x256, .f32⟩
  | _ => ⟨S2048x704, .f32⟩

abbrev hbmTy (i : Nat) : BufTy := match i / 128 with
  | 0 => hbmTy0_0 i
  | 1 => hbmTy0_1 i
  | _ => ⟨S2048x704, .f32⟩

abbrev bufTy : (tb : Table) → Fin (tcTables nBuf tb) → BufTy
  | .hbm, ⟨i, _⟩ => hbmTy i
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_cst_14 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_19 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_21 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== MlpKernel.lean ====
abbrev S2048x1024 : Shape := ⟨2, ![2048, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S2048x4096 : Shape := ⟨2, ![2048, 4096]⟩
abbrev S_ : Shape := ⟨0, ![]⟩
abbrev S1024x512 : Shape := ⟨2, ![1024, 512]⟩
abbrev S1024x1024 : Shape := ⟨2, ![1024, 1024]⟩
abbrev S1x1024x512 : Shape := ⟨3, ![1, 1024, 512]⟩
abbrev S1x512x1024 : Shape := ⟨3, ![1, 512, 1024]⟩
abbrev S512x512 : Shape := ⟨2, ![512, 512]⟩
abbrev S512x1024 : Shape := ⟨2, ![512, 1024]⟩

abbrev nBuf : Space → Nat
  | .hbm => 20
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S4096x1024, .bf16⟩
  | .hbm, ⟨8, _⟩ => ⟨S8x512x1024, .bf16⟩
  | .hbm, ⟨9, _⟩ => ⟨S2048x1024, .bf16⟩
  | .hbm, ⟨10, _⟩ => ⟨S1024x4096, .bf16⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .bf16⟩
  | .hbm, ⟨17, _⟩ => ⟨S2048x1024, .bf16⟩
  | .hbm, ⟨18, _⟩ => ⟨S2048x4096, .bf16⟩
  | .hbm, ⟨19, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | .local _ .vmem, ⟨11, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x1024, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S_, .f32⟩
  | .hbm, ⟨29, _⟩ => ⟨S2048x4096, .f32⟩
  | .hbm, ⟨30, _⟩ => ⟨S2048x4096, .i1⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | .hbm, ⟨37, _⟩ => ⟨S2048x1024, .f32⟩
  | .hbm, ⟨38, _⟩ => ⟨S2048x4096, .f32⟩
  | .hbm, ⟨39, _⟩ => ⟨S2048x4096, .f32⟩
  | .hbm, ⟨40, _⟩ => ⟨S_, .f32⟩
  | .hbm, ⟨41, _⟩ => ⟨S2048x4096, .f32⟩
  | .hbm, ⟨42, _⟩ => ⟨S2048x4096, .f32⟩
  | .hbm, ⟨43, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== PoolKernel.lean ====
abbrev S2048x2560 : Shape := ⟨2, ![2048, 2560]⟩
abbrev S2048x1536 : Shape := ⟨2, ![2048, 1536]⟩
abbrev S2x4x128x128 : Shape := ⟨4, ![2, 4, 128, 128]⟩
abbrev S2x512 : Shape := ⟨2, ![2, 512]⟩
abbrev S2x1x512 : Shape := ⟨3, ![2, 1, 512]⟩
abbrev S2048x512 : Shape := ⟨2, ![2048, 512]⟩
abbrev S4x128x128 : Shape := ⟨3, ![4, 128, 128]⟩
abbrev S1x512 : Shape := ⟨2, ![1, 512]⟩
abbrev S1x4x128x128 : Shape := ⟨4, ![1, 4, 128, 128]⟩
abbrev S1x1x512 : Shape := ⟨3, ![1, 1, 512]⟩
abbrev S2048x128 : Shape := ⟨2, ![2048, 128]⟩
abbrev S1x1x128x128 : Shape := ⟨4, ![1, 1, 128, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S1x128x128 : Shape := ⟨3, ![1, 128, 128]⟩
abbrev S8x128 : Shape := ⟨2, ![8, 128]⟩
abbrev S2040x128 : Shape := ⟨2, ![2040, 128]⟩

abbrev nBuf : Space → Nat
  | .hbm => 8
  | .vmem => 7
  | .smem => 0
  | _ => 0

abbrev bufTy : (tb : Table) → Fin (tcTables nBuf tb) → BufTy
  | .hbm, ⟨0, _⟩ => ⟨S2048x2560, .f32⟩
  | .hbm, ⟨1, _⟩ => ⟨S2048x1536, .f32⟩
  | .hbm, ⟨2, _⟩ => ⟨S2x4x128x128, .f32⟩
  | .hbm, ⟨3, _⟩ => ⟨S2x512, .f32⟩
  | .hbm, ⟨4, _⟩ => ⟨S2x1x512, .f32⟩
  | .hbm, ⟨5, _⟩ => ⟨S2048x512, .bf16⟩
  | .hbm, ⟨6, _⟩ => ⟨S4x128x128, .f32⟩
  | .hbm, ⟨7, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S1x4x128x128, .f32⟩
  | .local _ .vmem, ⟨3, _⟩ => ⟨S1x1x512, .f32⟩
  | .local _ .vmem, ⟨4, _⟩ => ⟨S2048x512, .bf16⟩
  | .local _ .vmem, ⟨5, _⟩ => ⟨S4x128x128, .f32⟩
  | .local _ .vmem, ⟨6, _⟩ => ⟨S1x512, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolReferenceIdeal.lean ====
abbrev S2048x2560 : Shape := ⟨2, ![2048, 2560]⟩
abbrev S2048x1536 : Shape := ⟨2, ![2048, 1536]⟩
abbrev S2x4x128x128 : Shape := ⟨4, ![2, 4, 128, 128]⟩
abbrev S2x512 : Shape := ⟨2, ![2, 512]⟩
abbrev S2048x512 : Shape := ⟨2, ![2048, 512]⟩
abbrev S1x2048x512 : Shape := ⟨3, ![1, 2048, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S1x2048x4x128 : Shape := ⟨4, ![1, 2048, 4, 128]⟩
abbrev S_ : Shape := ⟨0, ![]⟩
abbrev S2048 : Shape := ⟨1, ![2048]⟩
abbrev S1x2048x1x128 : Shape := ⟨4, ![1, 2048, 1, 128]⟩
abbrev S1x2048x128 : Shape := ⟨3, ![1, 2048, 128]⟩
abbrev S1x2x128 : Shape := ⟨3, ![1, 2, 128]⟩
abbrev S1x2046x128 : Shape := ⟨3, ![1, 2046, 128]⟩
abbrev S1x2048x1 : Shape := ⟨3, ![1, 2048, 1]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S4x128x1x2048 : Shape := ⟨4, ![4, 128, 1, 2048]⟩
abbrev S1x1x512 : Shape := ⟨3, ![1, 1, 512]⟩
abbrev S4x1x2048x128 : Shape := ⟨4, ![4, 1, 2048, 128]⟩

abbrev nBuf : Space → Nat
  | .hbm => 212
  | .vmem => 0
  | .smem => 0
  | _ => 0

abbrev hbmTy0_0 (i : Nat) : BufTy := match i % 128 with
  | 0 => ⟨S2048x2560, .f32⟩
  | 1 => ⟨S2048x1536, .f32⟩
  | 2 => ⟨S2x4x128x128, .f32⟩
  | 3 => ⟨S2x512, .f32⟩
  | 4 => ⟨S2048x512, .f32⟩
  | 5 => ⟨S1x2048x512, .f32⟩
  | 6 => ⟨S1x4x128x128, .f32⟩
  | 7 => ⟨S4x128x128, .f32⟩
  | 8 => ⟨S1x512, .f32⟩
  | 9 => ⟨S512, .f32⟩
  | 10 => ⟨S1x2048x4x128, .f32⟩
  | 11 => ⟨S_, .f32⟩
  | 12 => ⟨S_, .f32⟩
  | 13 => ⟨S1x2048x4x128, .f32⟩
  | 14 => ⟨S2048, .i32⟩
  | 15 => ⟨S1x2048x1x128, .f32⟩
  | 16 => ⟨S1x2048x128, .f32⟩
  | 17 => ⟨S_, .f32⟩
  | 18 => ⟨S1x2x128, .f32⟩
  | 19 => ⟨S1x2046x128, .f32⟩
  | 20 => ⟨S1x2048x128, .f32⟩
  | 21 => ⟨S_, .f32⟩
  | 22 => ⟨S1x2x128, .f32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S2048, .f32⟩
  | 30 => ⟨S1x2048x1, .f32⟩
  | 31 => ⟨S1x2048x128, .f32⟩
  | 32 => ⟨S1x2048x128, .f32⟩
  | 33 => ⟨S1x2048x128, .f32⟩
  | 34 => ⟨S1x2048x1x128, .f32⟩
  | 35 => ⟨S1x2048x128, .f32⟩
  | 36 => ⟨S1x2048x128, .f32⟩
  | 37 => ⟨S1x2048x1x128, .f32⟩
  | 38 => ⟨S1x2048x128, .f32⟩
  | 39 => ⟨S_, .f32⟩
  | 40 => ⟨S1x4x128, .f32⟩
  | 41 => ⟨S1x2044x128, .f32⟩
  | 42 => ⟨S1x2048x128, .f32⟩
  | 43 => ⟨S_, .f32⟩
  | 44 => ⟨S1x4x128, .f32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .f32⟩
  | 52 => ⟨S1x2048x1, .f32⟩
  | 53 => ⟨S1x2048x128, .f32⟩
  | 54 => ⟨S1x2048x128, .f32⟩
  | 55 => ⟨S1x2048x128, .f32⟩
  | 56 => ⟨S1x2048x1x128, .f32⟩
  | 57 => ⟨S1x2048x128, .f32⟩
  | 58 => ⟨S1x2048x128, .f32⟩
  | 59 => ⟨S1x2048x1x128, .f32⟩
  | 60 => ⟨S1x2048x128, .f32⟩
  | 61 => ⟨S_, .f32⟩
  | 62 => ⟨S1x8x128, .f32⟩
  | 63 => ⟨S1x2040x128, .f32⟩
  | 64 => ⟨S1x2048x128, .f32⟩
  | 65 => ⟨S_, .f32⟩
  | 66 => ⟨S1x8x128, .f32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .f32⟩
  | 74 => ⟨S1x2048x1, .f32⟩
  | 75 => ⟨S1x2048x128, .f32⟩
  | 76 => ⟨S1x2048x128, .f32⟩
  | 77 => ⟨S1x2048x128, .f32⟩
  | 78 => ⟨S1x2048x1x128, .f32⟩
  | 79 => ⟨S1x2048x128, .f32⟩
  | 80 => ⟨S1x2048x128, .f32⟩
  | 81 => ⟨S1x2048x1x128, .f32⟩
  | 82 => ⟨S1x2048x128, .f32⟩
  | 83 => ⟨S_, .f32⟩
  | 84 => ⟨S1x16x128, .f32⟩
  | 85 => ⟨S1x2032x128, .f32⟩
  | 86 => ⟨S1x2048x128, .f32⟩
  | 87 => ⟨S_, .f32⟩
  | 88 => ⟨S1x16x128, .f32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S2048, .f32⟩
  | 96 => ⟨S1x2048x1, .f32⟩
  | 97 => ⟨S1x2048x128, .f32⟩
  | 98 => ⟨S1x2048x128, .f32⟩
  | 99 => ⟨S1x2048x128, .f32⟩
  | 100 => ⟨S1x2048x1x128, .f32⟩
  | 101 => ⟨S1x2048x128, .f32⟩
  | 102 => ⟨S1x2048x128, .f32⟩
  | 103 => ⟨S1x2048x1x128, .f32⟩
  | 104 => ⟨S1x2048x1x128, .f32⟩
  | 105 => ⟨S1x2048x1x128, .f32⟩
  | 106 => ⟨S1x2048x1x128, .f32⟩
  | 107 => ⟨S1x2048x4x128, .f32⟩
  | 108 => ⟨S4x128x1x2048, .f32⟩
  | 109 => ⟨S1x2048x4x128, .f32⟩
  | 110 => ⟨S1x2048x512, .f32⟩
  | 111 => ⟨S1x1x512, .f32⟩
  | 112 => ⟨S1x2048x512, .f32⟩
  | 113 => ⟨S1x2048x512, .f32⟩
  | 114 => ⟨S2048x512, .f32⟩
  | 115 => ⟨S1x2048x512, .f32⟩
  | 116 => ⟨S1x2048x512, .f32⟩
  | 117 => ⟨S_, .f32⟩
  | 118 => ⟨S1x512, .f32⟩
  | 119 => ⟨S1x1x512, .f32⟩
  | 120 => ⟨S1x2048x512, .f32⟩
  | 121 => ⟨S1x2048x512, .f32⟩
  | 122 => ⟨S_, .f32⟩
  | 123 => ⟨S512, .f32⟩
  | 124 => ⟨S1x2048x4x128, .f32⟩
  | 125 => ⟨S4x128x1x2048, .f32⟩
  | 126 => ⟨S4x1x2048x128, .f32⟩
  | 127 => ⟨S1x2048x4x128, .f32⟩
  | _ => ⟨S2048x2560, .f32⟩

abbrev hbmTy0_1 (i : Nat) : BufTy := match i % 128 with
  | 0 => ⟨S4x128x128, .f32⟩
  | 1 => ⟨S4x128x128, .f32⟩
  | 2 => ⟨S1x2048x1x128, .f32⟩
  | 3 => ⟨S1x2048x128, .f32⟩
  | 4 => ⟨S1x2048x1x128, .f32⟩
  | 5 => ⟨S1x2048x128, .f32⟩
  | 6 => ⟨S1x2048x1x128, .f32⟩
  | 7 => ⟨S1x2048x128, .f32⟩
  | 8 => ⟨S1x2048x1x128, .f32⟩
  | 9 => ⟨S1x2048x128, .f32⟩
  | 10 => ⟨S1x2048x128, .f32⟩
  | 11 => ⟨S1x2048x1x128, .f32⟩
  | 12 => ⟨S_, .f32⟩
  | 13 => ⟨S1x2048x4x128, .f32⟩
  | 14 => ⟨S1x2048x128, .f32⟩
  | 15 => ⟨S1x2048x128, .f32⟩
  | 16 => ⟨S1x2048x128, .f32⟩
  | 17 => ⟨S1x16x128, .f32⟩
  | 18 => ⟨S1x2032x128, .f32⟩
  | 19 => ⟨S_, .f32⟩
  | 20 => ⟨S1x2048x128, .f32⟩
  | 21 => ⟨S1x2048x128, .f32⟩
  | 22 => ⟨S1x2048x1x128, .f32⟩
  | 23 => ⟨S_, .f32⟩
  | 24 => ⟨S1x2048x4x128, .f32⟩
  | 25 => ⟨S1x2048x128, .f32⟩
  | 26 => ⟨S1x2048x1x128, .f32⟩
  | 27 => ⟨S_, .f32⟩
  | 28 => ⟨S1x2048x4x128, .f32⟩
  | 29 => ⟨S1x2048x4x128, .f32⟩
  | 30 => ⟨S1x2048x128, .f32⟩
  | 31 => ⟨S1x2048x128, .f32⟩
  | 32 => ⟨S1x2048x128, .f32⟩
  | 33 => ⟨S1x8x128, .f32⟩
  | 34 => ⟨S1x2040x128, .f32⟩
  | 35 => ⟨S_, .f32⟩
  | 36 => ⟨S1x2048x128, .f32⟩
  | 37 => ⟨S1x2048x128, .f32⟩
  | 38 => ⟨S1x2048x1x128, .f32⟩
  | 39 => ⟨S_, .f32⟩
  | 40 => ⟨S1x2048x4x128, .f32⟩
  | 41 => ⟨S1x2048x4x128, .f32⟩
  | 42 => ⟨S1x2048x128, .f32⟩
  | 43 => ⟨S1x2048x1x128, .f32⟩
  | 44 => ⟨S_, .f32⟩
  | 45 => ⟨S1x2048x4x128, .f32⟩
  | 46 => ⟨S1x2048x4x128, .f32⟩
  | 47 => ⟨S1x2048x128, .f32⟩
  | 48 => ⟨S1x2048x128, .f32⟩
  | 49 => ⟨S1x2048x128, .f32⟩
  | 50 => ⟨S1x4x128, .f32⟩
  | 51 => ⟨S1x2044x128, .f32⟩
  | 52 => ⟨S_, .f32⟩
  | 53 => ⟨S1x2048x128, .f32⟩
  | 54 => ⟨S1x2048x128, .f32⟩
  | 55 => ⟨S1x2048x1x128, .f32⟩
  | 56 => ⟨S_, .f32⟩
  | 57 => ⟨S1x2048x4x128, .f32⟩
  | 58 => ⟨S1x2048x4x128, .f32⟩
  | 59 => ⟨S1x2048x128, .f32⟩
  | 60 => ⟨S1x2048x1x128, .f32⟩
  | 61 => ⟨S_, .f32⟩
  | 62 => ⟨S1x2048x4x128, .f32⟩
  | 63 => ⟨S1x2048x4x128, .f32⟩
  | 64 => ⟨S1x2048x128, .f32⟩
  | 65 => ⟨S1x2048x128, .f32⟩
  | 66 => ⟨S1x2048x128, .f32⟩
  | 67 => ⟨S1x2x128, .f32⟩
  | 68 => ⟨S1x2046x128, .f32⟩
  | 69 => ⟨S_, .f32⟩
  | 70 => ⟨S1x2048x128, .f32⟩
  | 71 => ⟨S1x2048x128, .f32⟩
  | 72 => ⟨S1x2048x1x128, .f32⟩
  | 73 => ⟨S_, .f32⟩
  | 74 => ⟨S1x2048x4x128, .f32⟩
  | 75 => ⟨S1x2048x4x128, .f32⟩
  | 76 => ⟨S_, .f32⟩
  | 77 => ⟨S_, .f32⟩
  | 78 => ⟨S1x2048x4x128, .f32⟩
  | 79 => ⟨S1x2048x4x128, .f32⟩
  | 80 => ⟨S1x2048x512, .f32⟩
  | 81 => ⟨S2048x512, .f32⟩
  | 82 => ⟨S2048x512, .bf16⟩
  | 83 => ⟨S1x512, .f32⟩
  | _ => ⟨S2048x2560, .f32⟩

abbrev hbmTy (i : Nat) : BufTy := match i / 128 with
  | 0 => hbmTy0_0 i
  | 1 => hbmTy0_1 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_c_12 : Ref sig .tc := ⟨.hbm, 89, rfl⟩
abbrev main_v69 : Ref sig .tc := ⟨.hbm, 90, rfl⟩
abbrev main_v70 : Ref sig .tc := ⟨.hbm, 91, rfl⟩
abbrev main_c_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_14 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_15 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_16 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_17 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_18 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_19 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_20 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_21 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_22 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_23 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_24 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_25 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_26 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_27 : Ref sig .tc := ⟨.hbm, 201, rfl⟩
abbrev main_v166 : Ref sig .tc := ⟨.hbm, 202, rfl⟩
abbrev main_v167 : Ref sig .tc := ⟨.hbm, 203, rfl⟩
abbrev main_call1_call0_cst : Ref sig .tc := ⟨.hbm, 204, rfl⟩
abbrev main_call1_call0_v0 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩

abbrev nD : Nat := 1
abbrev τ : Topo := Topo.v7x

variable {F : FTy → Type} [FloatOps F]
-- ==== AttnKernel.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S384x1536 : Shape := ⟨2, ![384, 1536]⟩
abbrev S256x2048 : Shape := ⟨2, ![256, 2048]⟩
abbrev S1024x1024 : Shape := ⟨2, ![1024, 1024]⟩
abbrev S2048x1024 : Shape := ⟨2, ![2048, 1024]⟩
abbrev S384x8x192 : Shape := ⟨3, ![384, 8, 192]⟩
abbrev S8x384x192 : Shape := ⟨3, ![8, 384, 192]⟩
abbrev S256x8x256 : Shape := ⟨3, ![256, 8, 256]⟩
abbrev S8x256x256 : Shape := ⟨3, ![8, 256, 256]⟩
abbrev S8x128x1024 : Shape := ⟨3, ![8, 128, 1024]⟩
abbrev S2048x1536 : Shape := ⟨2, ![2048, 1536]⟩
abbrev S2048x8x192 : Shape := ⟨3, ![2048, 8, 192]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x2048 : Shape := ⟨2, ![2048, 2048]⟩
abbrev S2048x8x256 : Shape := ⟨3, ![2048, 8, 256]⟩
abbrev S8x2048x2048 : Shape := ⟨3, ![8, 2048, 2048]⟩
abbrev S2048x2048x8 : Shape := ⟨3, ![2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩
abbrev S1x384x192 : Shape := ⟨3, ![1, 384, 192]⟩
abbrev S1x256x256 : Shape := ⟨3, ![1, 256, 256]⟩
abbrev S1x128x1024 : Shape := ⟨3, ![1, 128, 1024]⟩
abbrev S1x2048x128 : Shape := ⟨3, ![1, 2048, 128]⟩
abbrev S128x2048 : Shape := ⟨2, ![128, 2048]⟩
abbrev S2048x192 : Shape := ⟨2, ![2048, 192]⟩
abbrev S1x384x128 : Shape := ⟨3, ![1, 384, 128]⟩
abbrev S384x128 : Shape := ⟨2, ![384, 128]⟩
abbrev S2048x128 : Shape := ⟨2, ![2048, 128]⟩
abbrev S1x384x64 : Shape := ⟨3, ![1, 384, 64]⟩
abbrev S384x64 : Shape := ⟨2, ![384, 64]⟩
abbrev S1x256x128 : Shape := ⟨3, ![1, 256, 128]⟩
abbrev S256x128 : Shape := ⟨2, ![256, 128]⟩
abbrev S128x1024 : Shape := ⟨2, ![128, 1024]⟩
abbrev S512x192 : Shape := ⟨2, ![512, 192]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S192x512 : Shape := ⟨2, ![192, 512]⟩
abbrev S128x512 : Shape := ⟨2, ![128, 512]⟩
abbrev S1024x192 : Shape := ⟨2, ![1024, 192]⟩
abbrev S512x1024 : Shape := ⟨2, ![512, 1024]⟩
abbrev S1024x128 : Shape := ⟨2, ![1024, 128]⟩
abbrev S192x1024 : Shape := ⟨2, ![192, 1024]⟩
abbrev S1536x192 : Shape := ⟨2, ![1536, 192]⟩
abbrev S512x1536 : Shape := ⟨2, ![512, 1536]⟩
abbrev S1536x128 : Shape := ⟨2, ![1536, 128]⟩
abbrev S192x1536 : Shape := ⟨2, ![192, 1536]⟩
abbrev S128x1536 : Shape := ⟨2, ![128, 1536]⟩
abbrev S512x2048 : Shape := ⟨2, ![512, 2048]⟩
abbrev S192x2048 : Shape := ⟨2, ![192, 2048]⟩

abbrev nBuf : Space → Nat
  | .hbm => 103
  | .vmem => 26
  | .smem => 0
  | _ => 0

abbrev bufTy : (tb : Table) → Fin (tcTables nBuf tb) → BufTy
  | .hbm, ⟨0, _⟩ => ⟨S2048x384, .f32⟩
  | .hbm, ⟨1, _⟩ => ⟨S2048x256, .f32⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S384x1536, .f32⟩
  | .hbm, ⟨6, _⟩ => ⟨S256x2048, .f32⟩
  | .hbm, ⟨7, _⟩ => ⟨S1024x1024, .f32⟩
  | .hbm, ⟨8, _⟩ => ⟨S2048x1024, .f32⟩
  | .hbm, ⟨9, _⟩ => ⟨S384x1536, .bf16⟩
  | .hbm, ⟨10, _⟩ => ⟨S384x8x192, .bf16⟩
  | .hbm, ⟨11, _⟩ => ⟨S8x384x192, .bf16⟩
  | .hbm, ⟨12, _⟩ => ⟨S256x2048, .bf16⟩
  | .hbm, ⟨13, _⟩ => ⟨S256x8x256, .bf16⟩
  | .hbm, ⟨14, _⟩ => ⟨S8x256x256, .bf16⟩
  | .hbm, ⟨15, _⟩ => ⟨S1024x1024, .bf16⟩
  | .hbm, ⟨16, _⟩ => ⟨S8x128x1024, .bf16⟩
  | .hbm, ⟨17, _⟩ => ⟨S2048x384, .bf16⟩
  | .hbm, ⟨18, _⟩ => ⟨S2048x256, .bf16⟩
  | .hbm, ⟨19, _⟩ => ⟨S2048x1024, .bf16⟩
  | .hbm, ⟨20, _⟩ => ⟨S2048x1536, .f32⟩
  | .hbm, ⟨21, _⟩ => ⟨S2048x8x192, .f32⟩
  | .hbm, ⟨22, _⟩ => ⟨S2048x8x128, .f32⟩
  | .hbm, ⟨23, _⟩ => ⟨S2048x8x64, .f32⟩
  | .hbm, ⟨24, _⟩ => ⟨S2048x1x32, .f32⟩
  | .hbm, ⟨25, _⟩ => ⟨S2048x1x32, .f32⟩
  | .hbm, ⟨26, _⟩ => ⟨S2048x8x32, .f32⟩
  | .hbm, ⟨27, _⟩ => ⟨S2048x8x32, .f32⟩
  | .hbm, ⟨28, _⟩ => ⟨S2048x8x32, .f32⟩
  | .hbm, ⟨29, _⟩ => ⟨S2048x8x32, .f32⟩
  | .hbm, ⟨30, _⟩ => ⟨S2048x8x32, .f32⟩
  | .hbm, ⟨31, _⟩ => ⟨S2048x8x32, .f32⟩
  | .hbm, ⟨32, _⟩ => ⟨S2048x8x32, .f32⟩
  | .hbm, ⟨33, _⟩ => ⟨S2048x8x32, .f32⟩
  | .hbm, ⟨34, _⟩ => ⟨S2048x8x32, .f32⟩
  | .hbm, ⟨35, _⟩ => ⟨S2048x8x32, .f32⟩
  | .hbm, ⟨36, _⟩ => ⟨S2048x8x32, .f32⟩
  | .hbm, ⟨37, _⟩ => ⟨S2048x8x32, .f32⟩
  | .hbm, ⟨38, _⟩ => ⟨S2048x8x64, .f32⟩
  | .hbm, ⟨39, _⟩ => ⟨S2048x2048, .f32⟩
  | .hbm, ⟨40, _⟩ => ⟨S2048x8x256, .f32⟩
  | .hbm, ⟨41, _⟩ => ⟨S2048x8x128, .f32⟩
  | .hbm, ⟨42, _⟩ => ⟨S2048x8x128, .f32⟩
  | .hbm, ⟨43, _⟩ => ⟨S8x2048x2048, .f32⟩
  | .hbm, ⟨44, _⟩ => ⟨S2048x2048x8, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048x2048, .f32⟩
  | .hbm, ⟨49, _⟩ => ⟨S8x2048x2048, .f32⟩
  | .hbm, ⟨50, _⟩ => ⟨S2048, .i32⟩
  | .hbm, ⟨51, _⟩ => ⟨S_, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i1⟩
  | .hbm, ⟨59, _⟩ => ⟨S2048, .i32⟩
  | .hbm, ⟨60, _⟩ => ⟨S2048, .i32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S2048, .i1⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S1x2048, .i32⟩
  | .hbm, ⟨70, _⟩ => ⟨S2048x1, .i32⟩
  | .hbm, ⟨71, _⟩ => ⟨S2048x2048, .i32⟩
  | .hbm, ⟨72, _⟩ => ⟨S2048x2048, .i32⟩
  | .hbm, ⟨73, _⟩ => ⟨S2048x2048, .i1⟩
  | .hbm, ⟨74, _⟩ => ⟨S_, .f32⟩
  | .hbm, ⟨75, _⟩ => ⟨S_, .f32⟩
  | .hbm, ⟨76, _⟩ => ⟨S8x2048x2048, .i1⟩
  | .hbm, ⟨77, _⟩ => ⟨S8x2048x2048, .f32⟩
  | .hbm, ⟨78, _⟩ => ⟨S8x2048x2048, .f32⟩
  | .hbm, ⟨79, _⟩ => ⟨S_, .f32⟩
  | .hbm, ⟨80, _⟩ => ⟨S8x2048, .f32⟩
  | .hbm, ⟨81, _⟩ => ⟨S_, .f32⟩
  | .hbm, ⟨82, _⟩ => ⟨S8x2048, .f32⟩
  | .hbm, ⟨83, _⟩ => ⟨S8x2048, .f32⟩
  | .hbm, ⟨84, _⟩ => ⟨S8x2048x1, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S8x128x2048, .f32⟩
  | .hbm, ⟨94, _⟩ => ⟨S2048x8x128, .f32⟩
  | .hbm, ⟨95, _⟩ => ⟨S8x2048x128, .f32⟩
  | .hbm, ⟨96, _⟩ => ⟨S8x2048x128, .bf16⟩
  | .hbm, ⟨97, _⟩ => ⟨S8x128x1024, .bf16⟩
  | .hbm, ⟨98, _⟩ => ⟨S8x384x192, .bf16⟩
  | .hbm, ⟨99, _⟩ => ⟨S8x256x256, .bf16⟩
  | .hbm, ⟨100, _⟩ => ⟨S2048x384, .f32⟩
  | .hbm, ⟨101, _⟩ => ⟨S2048x256, .f32⟩
  | .hbm, ⟨102, _⟩ => ⟨S2048x64, .f32⟩
  | .local _ .vmem, ⟨0, _⟩ => ⟨S2048x384, .bf16⟩
  | .local _ .vmem, ⟨1, _⟩ => ⟨S2048x256, .bf16⟩
  | .local _ .vmem, ⟨2, _⟩ => ⟨S2048x64, .f32⟩
  | .local _ .vmem, ⟨3, _⟩ => ⟨S2048x32, .f32⟩
  | .local _ .vmem, ⟨4, _⟩ => ⟨S2048x32, .f32⟩
  | .local _ .vmem, ⟨5, _⟩ => ⟨S1x384x192, .bf16⟩
  | .local _ .vmem, ⟨6, _⟩ => ⟨S1x384x192, .bf16⟩
  | .local _ .vmem, ⟨7, _⟩ => ⟨S1x256x256, .bf16⟩
  | .local _ .vmem, ⟨8, _⟩ => ⟨S1x256x256, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x2048x128, .bf16⟩
  | .local _ .vmem, ⟨12, _⟩ => ⟨S1x2048x128, .bf16⟩
  | .local _ .vmem, ⟨13, _⟩ => ⟨S2048x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S1x384x192, .bf16⟩
  | .local _ .vmem, ⟨17, _⟩ => ⟨S1x384x192, .bf16⟩
  | .local _ .vmem, ⟨18, _⟩ => ⟨S1x256x256, .bf16⟩
  | .local _ .vmem, ⟨19, _⟩ => ⟨S1x256x256, .bf16⟩
  | .local _ .vmem, ⟨20, _⟩ => ⟨S2048x384, .f32⟩
  | .local _ .vmem, ⟨21, _⟩ => ⟨S2048x256, .f32⟩
  | .local _ .vmem, ⟨22, _⟩ => ⟨S2048x64, .f32⟩
  | .local _ .vmem, ⟨23, _⟩ => ⟨S256x2048, .f32⟩
  | .local _ .vmem, ⟨24, _⟩ => ⟨S128x2048, .f32⟩
  | .local _ .vmem, ⟨25, _⟩ => ⟨S2048x192, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_0 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v47 : Ref sig .tc := ⟨.hbm, 78, rfl⟩
abbrev main_cst_1 : Ref sig .tc := ⟨.hbm, 79, rfl⟩
abbrev main_v48 : Ref sig .tc := ⟨.hbm, 80, rfl⟩
abbrev main_cst_2 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_3 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63_0 : Ref sig .tc := ⟨.hbm, 97, rfl⟩
abbrev main_v63_1 : Ref sig .tc := ⟨.hbm, 98, rfl⟩
abbrev main_v63_2 : Ref sig .tc := ⟨.hbm, 99, rfl⟩
abbrev main_v63_3 : Ref sig .tc := ⟨.hbm, 100, rfl⟩
abbrev main_v63_4 : Ref sig .tc := ⟨.hbm, 101, rfl⟩
abbrev main_v63_5 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v335 : BitVec 1 := Scalar.cmpi .eq arg0 c0_i32
  let v336 : BitVec 32 := Scalar.extui v335
  let c0_i32_170 : BitVec 32 := 0#32
  let v337 : BitVec 1 := Scalar.cmpi .ne v336 c0_i32_170
  v337

def k0_cond2 (i : grid0.Coords) : BitVec 1 :=
  let arg0 : BitVec 32 := BitVec.ofNat 32 (i 0).val
  let c0_i32_171 : BitVec 32 := 0#32
  let v338 : BitVec 1 := Scalar.cmpi .sgt arg0 c0_i32_171
  let v339 : BitVec 32 := Scalar.extui v338
  let c0_i32_172 : BitVec 32 := 0#32
  let v340 : BitVec 1 := Scalar.cmpi .ne v339 c0_i32_172
  v340

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x384x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== AttnReferenceIdeal.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S384x1536 : Shape := ⟨2, ![384, 1536]⟩
abbrev S256x2048 : Shape := ⟨2, ![256, 2048]⟩
abbrev S1024x1024 : Shape := ⟨2, ![1024, 1024]⟩
abbrev S2048x1024 : Shape := ⟨2, ![2048, 1024]⟩
abbrev S2048x1536 : Shape := ⟨2, ![2048, 1536]⟩
abbrev S2048x8x192 : Shape := ⟨3, ![2048, 8, 192]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x2048 : Shape := ⟨2, ![2048, 2048]⟩
abbrev S2048x8x256 : Shape := ⟨3, ![2048, 8, 256]⟩
abbrev S8x2048x2048 : Shape := ⟨3, ![8, 2048, 2048]⟩
abbrev S2048x2048x8 : Shape := ⟨3, ![2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩
abbrev S1536x384 : Shape := ⟨2, ![1536, 384]⟩
abbrev S8x128x1024 : Shape := ⟨3, ![8, 128, 1024]⟩
abbrev S384x8x192 : Shape := ⟨3, ![384, 8, 192]⟩
abbrev S8x384x192 : Shape := ⟨3, ![8, 384, 192]⟩
abbrev S256x8x256 : Shape := ⟨3, ![256, 8, 256]⟩
abbrev S8x256x256 : Shape := ⟨3, ![8, 256, 256]⟩

abbrev nBuf : Space → Nat
  | .hbm => 187
  | .vmem => 0
  | .smem => 0
  | _ => 0

abbrev hbmTy0_0 (i : Nat) : BufTy := match i % 128 with
  | 0 => ⟨S2048x384, .f32⟩
  | 1 => ⟨S2048x256, .f32⟩
  | 2 => ⟨S2048x64, .f32⟩
  | 3 => ⟨S2048x32, .f32⟩
  | 4 => ⟨S2048x32, .f32⟩
  | 5 => ⟨S384x1536, .f32⟩
  | 6 => ⟨S256x2048, .f32⟩
  | 7 => ⟨S1024x1024, .f32⟩
  | 8 => ⟨S2048x1024, .f32⟩
  | 9 => ⟨S2048x1536, .f32⟩
  | 10 => ⟨S2048x8x192, .f32⟩
  | 11 => ⟨S2048x8x128, .f32⟩
  | 12 => ⟨S2048x8x64, .f32⟩
  | 13 => ⟨S2048x1x32, .f32⟩
  | 14 => ⟨S2048x1x32, .f32⟩
  | 15 => ⟨S2048x8x32, .f32⟩
  | 16 => ⟨S2048x8x32, .f32⟩
  | 17 => ⟨S2048x8x32, .f32⟩
  | 18 => ⟨S2048x8x32, .f32⟩
  | 19 => ⟨S2048x8x32, .f32⟩
  | 20 => ⟨S2048x8x32, .f32⟩
  | 21 => ⟨S2048x8x32, .f32⟩
  | 22 => ⟨S2048x8x32, .f32⟩
  | 23 => ⟨S2048x8x32, .f32⟩
  | 24 => ⟨S2048x8x32, .f32⟩
  | 25 => ⟨S2048x8x32, .f32⟩
  | 26 => ⟨S2048x8x32, .f32⟩
  | 27 => ⟨S2048x8x64, .f32⟩
  | 28 => ⟨S2048x2048, .f32⟩
  | 29 => ⟨S2048x8x256, .f32⟩
  | 30 => ⟨S2048x8x128, .f32⟩
  | 31 => ⟨S2048x8x128, .f32⟩
  | 32 => ⟨S8x2048x2048, .f32⟩
  | 33 => ⟨S2048x2048x8, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .f32⟩
  | 39 => ⟨S2048, .i32⟩
  | 40 => ⟨S_, .i32⟩
  | 41 => ⟨S_, .i32⟩
  | 42 => ⟨S2048, .i32⟩
  | 43 => ⟨S2048, .i32⟩
  | 44 => ⟨S2048, .i32⟩
  | 45 => ⟨S_, .i32⟩
  | 46 => ⟨S2048, .i32⟩
  | 47 => ⟨S2048, .i1⟩
  | 48 => ⟨S2048, .i32⟩
  | 49 => ⟨S2048, .i32⟩
  | 50 => ⟨S_, .i32⟩
  | 51 => ⟨S2048, .i32⟩
  | 52 => ⟨S2048, .i1⟩
  | 53 => ⟨S2048, .i1⟩
  | 54 => ⟨S_, .i32⟩
  | 55 => ⟨S2048, .i32⟩
  | 56 => ⟨S2048, .i32⟩
  | 57 => ⟨S2048, .i32⟩
  | 58 => ⟨S1x2048, .i32⟩
  | 59 => ⟨S2048x1, .i32⟩
  | 60 => ⟨S2048x2048, .i32⟩
  | 61 => ⟨S2048x2048, .i32⟩
  | 62 => ⟨S2048x2048, .i1⟩
  | 63 => ⟨S_, .f32⟩
  | 64 => ⟨S_, .f32⟩
  | 65 => ⟨S8x2048x2048, .i1⟩
  | 66 => ⟨S8x2048x2048, .f32⟩
  | 67 => ⟨S8x2048x2048, .f32⟩
  | 68 => ⟨S_, .f32⟩
  | 69 => ⟨S8x2048x2048, .f32⟩
  | 70 => ⟨S_, .f32⟩
  | 71 => ⟨S8x2048, .f32⟩
  | 72 => ⟨S8x2048x1, .f32⟩
  | 73 => ⟨S8x2048x2048, .f32⟩
  | 74 => ⟨S8x2048x2048, .i1⟩
  | 75 => ⟨S8x2048x2048, .f32⟩
  | 76 => ⟨S_, .f32⟩
  | 77 => ⟨S8x2048, .f32⟩
  | 78 => ⟨S_, .f32⟩
  | 79 => ⟨S8x2048, .f32⟩
  | 80 => ⟨S8x2048, .f32⟩
  | 81 => ⟨S_, .f32⟩
  | 82 => ⟨S8x2048, .f32⟩
  | 83 => ⟨S8x2048, .i1⟩
  | 84 => ⟨S_, .f32⟩
  | 85 => ⟨S8x2048, .f32⟩
  | 86 => ⟨S8x2048, .i1⟩
  | 87 => ⟨S_, .f32⟩
  | 88 => ⟨S8x2048, .f32⟩
  | 89 => ⟨S_, .f32⟩
  | 90 => ⟨S8x2048, .f32⟩
  | 91 => ⟨S_, .f32⟩
  | 92 => ⟨S8x2048, .f32⟩
  | 93 => ⟨S8x2048, .f32⟩
  | 94 => ⟨S8x2048, .f32⟩
  | 95 => ⟨S8x2048x1, .f32⟩
  | 96 => ⟨S8x2048x2048, .f32⟩
  | 97 => ⟨S8x2048x2048, .f32⟩
  | 98 => ⟨S8x2048x2048, .f32⟩
  | 99 => ⟨S_, .f32⟩
  | 100 => ⟨S8x2048, .f32⟩
  | 101 => ⟨S8x2048x1, .f32⟩
  | 102 => ⟨S8x2048x2048, .f32⟩
  | 103 => ⟨S8x2048x2048, .f32⟩
  | 104 => ⟨S8x2048x1, .f32⟩
  | 105 => ⟨S_, .f32⟩
  | 106 => ⟨S8x2048x1, .f32⟩
  | 107 => ⟨S8x2048x1, .f32⟩
  | 108 => ⟨S8x128x2048, .f32⟩
  | 109 => ⟨S2048x8x128, .f32⟩
  | 110 => ⟨S2048x1024, .f32⟩
  | 111 => ⟨S2048x1024, .f32⟩
  | 112 => ⟨S1024x1024, .f32⟩
  | 113 => ⟨S1024x1024, .f32⟩
  | 114 => ⟨S2048x1024, .f32⟩
  | 115 => ⟨S2048x8x128, .f32⟩
  | 116 => ⟨S8x128x2048, .f32⟩
  | 117 => ⟨S8x2048x2048, .f32⟩
  | 118 => ⟨S8x128x2048, .f32⟩
  | 119 => ⟨S2048x8x128, .f32⟩
  | 120 => ⟨S8x2048x2048, .f32⟩
  | 121 => ⟨S8x2048x2048, .f32⟩
  | 122 => ⟨S8x2048x2048, .f32⟩
  | 123 => ⟨S_, .f32⟩
  | 124 => ⟨S8x2048, .f32⟩
  | 125 => ⟨S8x2048x1, .f32⟩
  | 126 => ⟨S8x2048x1, .f32⟩
  | 127 => ⟨S8x2048x2048, .f32⟩
  | _ => ⟨S2048x384, .f32⟩

abbrev hbmTy0_1 (i : Nat) : BufTy := match i % 128 with
  | 0 => ⟨S8x2048x2048, .f32⟩
  | 1 => ⟨S_, .f32⟩
  | 2 => ⟨S8x2048, .f32⟩
  | 3 => ⟨S8x2048x2048, .f32⟩
  | 4 => ⟨S8x2048x2048, .f32⟩
  | 5 => ⟨S8x2048x2048, .f32⟩
  | 6 => ⟨S_, .f32⟩
  | 7 => ⟨S8x2048x2048, .f32⟩
  | 8 => ⟨S8x2048x2048, .f32⟩
  | 9 => ⟨S_, .f32⟩
  | 10 => ⟨S8x2048x2048, .f32⟩
  | 11 => ⟨S8x2048x2048, .f32⟩
  | 12 => ⟨S2048x2048x8, .f32⟩
  | 13 => ⟨S2048x8x64, .f32⟩
  | 14 => ⟨S2048x64, .f32⟩
  | 15 => ⟨S8x2048x128, .f32⟩
  | 16 => ⟨S2048x8x128, .f32⟩
  | 17 => ⟨S8x2048x128, .f32⟩
  | 18 => ⟨S2048x8x128, .f32⟩
  | 19 => ⟨S_, .f32⟩
  | 20 => ⟨S2048x8x256, .f32⟩
  | 21 => ⟨S_, .f32⟩
  | 22 => ⟨S2048x8x256, .f32⟩
  | 23 => ⟨S2048x8x256, .f32⟩
  | 24 => ⟨S2048x2048, .f32⟩
  | 25 => ⟨S2048x256, .f32⟩
  | 26 => ⟨S256x2048, .f32⟩
  | 27 => ⟨S2048x256, .f32⟩
  | 28 => ⟨S2048x8x32, .f32⟩
  | 29 => ⟨S2048x8x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x64, .f32⟩
  | 42 => ⟨S_, .f32⟩
  | 43 => ⟨S2048x8x192, .f32⟩
  | 44 => ⟨S_, .f32⟩
  | 45 => ⟨S2048x8x192, .f32⟩
  | 46 => ⟨S2048x8x192, .f32⟩
  | 47 => ⟨S2048x1536, .f32⟩
  | 48 => ⟨S1536x384, .f32⟩
  | 49 => ⟨S384x1536, .f32⟩
  | 50 => ⟨S2048x384, .f32⟩
  | 51 => ⟨S1024x1024, .bf16⟩
  | 52 => ⟨S8x128x1024, .bf16⟩
  | 53 => ⟨S384x8x192, .f32⟩
  | 54 => ⟨S8x384x192, .f32⟩
  | 55 => ⟨S8x384x192, .bf16⟩
  | 56 => ⟨S256x8x256, .f32⟩
  | 57 => ⟨S8x256x256, .f32⟩
  | 58 => ⟨S8x256x256, .bf16⟩
  | _ => ⟨S2048x384, .f32⟩

abbrev hbmTy (i : Nat) : BufTy := match i / 128 with
  | 0 => hbmTy0_0 i
  | 1 => hbmTy0_1 i
  | _ => ⟨S2048x384, .f32⟩

abbrev bufTy : (tb : Table) → Fin (tcTables nBuf tb) → BufTy
  | .hbm, ⟨i, _⟩ => hbmTy i
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_0 : Ref sig .tc := ⟨.hbm, 63, rfl⟩
abbrev main_call1_v0 : Ref sig .tc := ⟨.hbm, 64, rfl⟩
abbrev main_v36_1 : Ref sig .tc := ⟨.hbm, 65, rfl⟩
abbrev main_call1_v2 : Ref sig .tc := ⟨.hbm, 66, rfl⟩
abbrev main_v36_0 : Ref sig .tc := ⟨.hbm, 67, rfl⟩
abbrev main_call1_cst : Ref sig .tc := ⟨.hbm, 68, rfl⟩
abbrev main_v36_2 : Ref sig .tc := ⟨.hbm, 69, rfl⟩
abbrev main_cst_1 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_2 : Ref sig .tc := ⟨.hbm, 76, rfl⟩
abbrev main_v42 : Ref sig .tc := ⟨.hbm, 77, rfl⟩
abbrev main_cst_3 : Ref sig .tc := ⟨.hbm, 78, rfl⟩
abbrev main_v43 : Ref sig .tc := ⟨.hbm, 79, rfl⟩
abbrev main_v44 : Ref sig .tc := ⟨.hbm, 80, rfl⟩
abbrev main_cst_4 : Ref sig .tc := ⟨.hbm, 81, rfl⟩
abbrev main_v45 : Ref sig .tc := ⟨.hbm, 82, rfl⟩
abbrev main_v46 : Ref sig .tc := ⟨.hbm, 83, rfl⟩
abbrev main_cst_5 : Ref sig .tc := ⟨.hbm, 84, rfl⟩
abbrev main_v47 : Ref sig .tc := ⟨.hbm, 85, rfl⟩
abbrev main_v48 : Ref sig .tc := ⟨.hbm, 86, rfl⟩
abbrev main_cst_6 : Ref sig .tc := ⟨.hbm, 87, rfl⟩
abbrev main_v49 : Ref sig .tc := ⟨.hbm, 88, rfl⟩
abbrev main_cst_7 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_9 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_10 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_11 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_12 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call2_cst : Ref sig .tc := ⟨.hbm, 134, rfl⟩
abbrev main_call2_v0 : Ref sig .tc := ⟨.hbm, 135, rfl⟩
abbrev main_v89 : Ref sig .tc := ⟨.hbm, 136, rfl⟩
abbrev main_cst_13 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_14 : Ref sig .tc := ⟨.hbm, 147, rfl⟩
abbrev main_v99 : Ref sig .tc := ⟨.hbm, 148, rfl⟩
abbrev main_cst_15 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_16 : Ref sig .tc := ⟨.hbm, 170, rfl⟩
abbrev main_v120 : Ref sig .tc := ⟨.hbm, 171, rfl⟩
abbrev main_cst_17 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩

abbrev nD : Nat := 1
abbrev τ : Topo := Topo.v7x

variable {F : FTy → Type} [FloatOps F]
-- ==== LruKernel.lean ====
abbrev S2048x2560 : Shape := ⟨2, ![2048, 2560]⟩
abbrev S2048x1536 : Shape := ⟨2, ![2048, 1536]⟩
abbrev S2x4x1024 : Shape := ⟨3, ![2, 4, 1024]⟩
abbrev S2x1024 : Shape := ⟨2, ![2, 1024]⟩
abbrev S2x8x128x128 : Shape := ⟨4, ![2, 8, 128, 128]⟩
abbrev S2x1x1024 : Shape := ⟨3, ![2, 1, 1024]⟩
abbrev S2048x1024 : Shape := ⟨2, ![2048, 1024]⟩
abbrev S2048x128 : Shape := ⟨2, ![2048, 128]⟩
abbrev S1x4x128 : Shape := ⟨3, ![1, 4, 128]⟩
abbrev S1x1x128 : Shape := ⟨3, ![1, 1, 128]⟩
abbrev S1x1x128x128 : Shape := ⟨4, ![1, 1, 128, 128]⟩
abbrev S4x128 : Shape := ⟨2, ![4, 128]⟩
abbrev S1x128 : Shape := ⟨2, ![1, 128]⟩
abbrev S128x128 : Shape := ⟨2, ![128, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S1920x128 : Shape := ⟨2, ![1920, 128]⟩
abbrev S256x128 : Shape := ⟨2, ![256, 128]⟩
abbrev S1792x128 : Shape := ⟨2, ![1792, 128]⟩
abbrev S512x128 : Shape := ⟨2, ![512, 128]⟩
abbrev S1536x128 : Shape := ⟨2, ![1536, 128]⟩
abbrev S1024x128 : Shape := ⟨2, ![1024, 128]⟩
abbrev S4x1024 : Shape := ⟨2, ![4, 1024]⟩
abbrev S1x1024 : Shape := ⟨2, ![1, 1024]⟩
abbrev S8x128x128 : Shape := ⟨3, ![8, 128, 128]⟩
abbrev S1x128x128 : Shape := ⟨3, ![1, 128, 128]⟩
abbrev S128 : Shape := ⟨1, ![128]⟩

abbrev nBuf : Space → Nat
  | .hbm => 24
  | .vmem => 62
  | .smem => 0
  | _ => 0

abbrev bufTy : (tb : Table) → Fin (tcTables nBuf tb) → BufTy
  | .hbm, ⟨0, _⟩ => ⟨S2048x2560, .f32⟩
  | .hbm, ⟨1, _⟩ => ⟨S2048x1536, .f32⟩
  | .hbm, ⟨2, _⟩ => ⟨S2x4x1024, .f32⟩
  | .hbm, ⟨3, _⟩ => ⟨S2x1024, .f32⟩
  | .hbm, ⟨4, _⟩ => ⟨S2x8x128x128, .f32⟩
  | .hbm, ⟨5, _⟩ => ⟨S2x1024, .f32⟩
  | .hbm, ⟨6, _⟩ => ⟨S2x8x128x128, .f32⟩
  | .hbm, ⟨7, _⟩ => ⟨S2x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2048x1024, .bf16⟩
  | .hbm, ⟨14, _⟩ => ⟨S2048x1024, .f32⟩
  | .hbm, ⟨15, _⟩ => ⟨S2048x1024, .bf16⟩
  | .hbm, ⟨16, _⟩ => ⟨S2048x1024, .bf16⟩
  | .hbm, ⟨17, _⟩ => ⟨S4x1024, .f32⟩
  | .hbm, ⟨18, _⟩ => ⟨S1x1024, .f32⟩
  | .hbm, ⟨19, _⟩ => ⟨S8x128x128, .f32⟩
  | .hbm, ⟨20, _⟩ => ⟨S1x1024, .f32⟩
  | .hbm, ⟨21, _⟩ => ⟨S8x128x128, .f32⟩
  | .hbm, ⟨22, _⟩ => ⟨S1x1024, .f32⟩
  | .hbm, ⟨23, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x4x128, .f32⟩
  | .local _ .vmem, ⟨5, _⟩ => ⟨S1x4x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S1x4x128, .f32⟩
  | .local _ .vmem, ⟨27, _⟩ => ⟨S1x4x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128x128, .f32⟩
  | .local _ .vmem, ⟨31, _⟩ => ⟨S1x1x128x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128x128, .f32⟩
  | .local _ .vmem, ⟨35, _⟩ => ⟨S1x1x128x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S2048x128, .bf16⟩
  | .local _ .vmem, ⟨45, _⟩ => ⟨S2048x128, .bf16⟩
  | .local _ .vmem, ⟨46, _⟩ => ⟨S2048x128, .bf16⟩
  | .local _ .vmem, ⟨47, _⟩ => ⟨S2048x128, .bf16⟩
  | .local _ .vmem, ⟨48, _⟩ => ⟨S4x128, .f32⟩
  | .local _ .vmem, ⟨49, _⟩ => ⟨S4x128, .f32⟩
  | .local _ .vmem, ⟨50, _⟩ => ⟨S1x128, .f32⟩
  | .local _ .vmem, ⟨51, _⟩ => ⟨S1x128, .f32⟩
  | .local _ .vmem, ⟨52, _⟩ => ⟨S1x128x128, .f32⟩
  | .local _ .vmem, ⟨53, _⟩ => ⟨S1x128x128, .f32⟩
  | .local _ .vmem, ⟨54, _⟩ => ⟨S1x128, .f32⟩
  | .local _ .vmem, ⟨55, _⟩ => ⟨S1x128, .f32⟩
  | .local _ .vmem, ⟨56, _⟩ => ⟨S1x128x128, .f32⟩
  | .local _ .vmem, ⟨57, _⟩ => ⟨S1x128x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc1_stg15_0 : Ref sig .tc := ⟨.vmem, 52, rfl⟩
abbrev cc1_stg15_1 : Ref sig .tc := ⟨.vmem, 53, rfl⟩
abbrev cc1_stg16_0 : Ref sig .tc := ⟨.vmem, 54, rfl⟩
abbrev cc1_stg16_1 : Ref sig .tc := ⟨.vmem, 55, rfl⟩
abbrev cc1_stg17_0 : Ref sig .tc := ⟨.vmem, 56, rfl⟩
abbrev cc1_stg17_1 : Ref sig .tc := ⟨.vmem, 57, rfl⟩
abbrev cc1_stg18_0 : Ref sig .tc := ⟨.vmem, 58, rfl⟩
abbrev cc1_stg18_1 : Ref sig .tc := ⟨.vmem, 59, rfl⟩
abbrev cc1_stg19_0 : Ref sig .tc := ⟨.vmem, 60, rfl⟩
abbrev cc1_stg19_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57
abbrev cc1_sem18_0 : DmaSem sig := 58
abbrev cc1_sem18_1 : DmaSem sig := 59
abbrev cc1_sem19_0 : DmaSem sig := 60
abbrev cc1_sem19_1 : DmaSem sig := 61

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_4 (i : grid1.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_6 (i : grid1.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_9 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2048x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x128x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x128x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S1x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]
-- ==== AttnFKernel.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S384x1536 : Shape := ⟨2, ![384, 1536]⟩
abbrev S256x2048 : Shape := ⟨2, ![256, 2048]⟩
abbrev S1024x1024 : Shape := ⟨2, ![1024, 1024]⟩
abbrev S384x8x192 : Shape := ⟨3, ![384, 8, 192]⟩
abbrev S8x384x192 : Shape := ⟨3, ![8, 384, 192]⟩
abbrev S256x8x256 : Shape := ⟨3, ![256, 8, 256]⟩
abbrev S8x256x256 : Shape := ⟨3, ![8, 256, 256]⟩
abbrev S8x128x1024 : Shape := ⟨3, ![8, 128, 1024]⟩
abbrev S8x2048x128 : Shape := ⟨3, ![8, 2048, 128]⟩
abbrev S2048x1024 : Shape := ⟨2, ![2048, 1024]⟩
abbrev S1x384x192 : Shape := ⟨3, ![1, 384, 192]⟩
abbrev S1x256x256 : Shape := ⟨3, ![1, 256, 256]⟩
abbrev S1x128x1024 : Shape := ⟨3, ![1, 128, 1024]⟩
abbrev S1x2048x128 : Shape := ⟨3, ![1, 2048, 128]⟩
abbrev S1x384x128 : Shape := ⟨3, ![1, 384, 128]⟩
abbrev S384x128 : Shape := ⟨2, ![384, 128]⟩
abbrev S2048x128 : Shape := ⟨2, ![2048, 128]⟩
abbrev S1x384x64 : Shape := ⟨3, ![1, 384, 64]⟩
abbrev S384x64 : Shape := ⟨2, ![384, 64]⟩
abbrev S2048x192 : Shape := ⟨2, ![2048, 192]⟩
abbrev S1x256x128 : Shape := ⟨3, ![1, 256, 128]⟩
abbrev S256x128 : Shape := ⟨2, ![256, 128]⟩
abbrev S256x192 : Shape := ⟨2, ![256, 192]⟩
abbrev S256x256 : Shape := ⟨2, ![256, 256]⟩
abbrev S256 : Shape := ⟨1, ![256]⟩
abbrev S256x1 : Shape := ⟨2, ![256, 1]⟩
abbrev S512x192 : Shape := ⟨2, ![512, 192]⟩
abbrev S256x512 : Shape := ⟨2, ![256, 512]⟩
abbrev S512x128 : Shape := ⟨2, ![512, 128]⟩
abbrev S768x192 : Shape := ⟨2, ![768, 192]⟩
abbrev S256x768 : Shape := ⟨2, ![256, 768]⟩
abbrev S768x128 : Shape := ⟨2, ![768, 128]⟩
abbrev S1024x192 : Shape := ⟨2, ![1024, 192]⟩
abbrev S256x1024 : Shape := ⟨2, ![256, 1024]⟩
abbrev S1024x128 : Shape := ⟨2, ![1024, 128]⟩
abbrev S1280x192 : Shape := ⟨2, ![1280, 192]⟩
abbrev S256x1280 : Shape := ⟨2, ![256, 1280]⟩
abbrev S1280x128 : Shape := ⟨2, ![1280, 128]⟩
abbrev S1536x192 : Shape := ⟨2, ![1536, 192]⟩
abbrev S256x1536 : Shape := ⟨2, ![256, 1536]⟩
abbrev S1536x128 : Shape := ⟨2, ![1536, 128]⟩
abbrev S1792x192 : Shape := ⟨2, ![1792, 192]⟩
abbrev S256x1792 : Shape := ⟨2, ![256, 1792]⟩
abbrev S1792x128 : Shape := ⟨2, ![1792, 128]⟩
abbrev S128x1024 : Shape := ⟨2, ![128, 1024]⟩

abbrev nBuf : Space → Nat
  | .hbm => 20
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x256, .f32⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S384x1536, .f32⟩
  | .hbm, ⟨6, _⟩ => ⟨S256x2048, .f32⟩
  | .hbm, ⟨7, _⟩ => ⟨S1024x1024, .f32⟩
  | .hbm, ⟨8, _⟩ => ⟨S384x1536, .bf16⟩
  | .hbm, ⟨9, _⟩ => ⟨S384x8x192, .bf16⟩
  | .hbm, ⟨10, _⟩ => ⟨S8x384x192, .bf16⟩
  | .hbm, ⟨11, _⟩ => ⟨S256x2048, .bf16⟩
  | .hbm, ⟨12, _⟩ => ⟨S256x8x256, .bf16⟩
  | .hbm, ⟨13, _⟩ => ⟨S8x256x256, .bf16⟩
  | .hbm, ⟨14, _⟩ => ⟨S1024x1024, .bf16⟩
  | .hbm, ⟨15, _⟩ => ⟨S8x128x1024, .bf16⟩
  | .hbm, ⟨16, _⟩ => ⟨S2048x384, .bf16⟩
  | .hbm, ⟨17, _⟩ => ⟨S2048x256, .bf16⟩
  | .hbm, ⟨18, _⟩ => ⟨S8x2048x128, .bf16⟩
  | .hbm, ⟨19, _⟩ => ⟨S2048x1024, .f32⟩
  | .local _ .vmem, ⟨0, _⟩ => ⟨S2048x384, .bf16⟩
  | .local _ .vmem, ⟨1, _⟩ => ⟨S2048x256, .bf16⟩
  | .local _ .vmem, ⟨2, _⟩ => ⟨S2048x64, .f32⟩
  | .local _ .vmem, ⟨3, _⟩ => ⟨S2048x32, .f32⟩
  | .local _ .vmem, ⟨4, _⟩ => ⟨S2048x32, .f32⟩
  | .local _ .vmem, ⟨5, _⟩ => ⟨S1x384x192, .bf16⟩
  | .local _ .vmem, ⟨6, _⟩ => ⟨S1x384x192, .bf16⟩
  | .local _ .vmem, ⟨7, _⟩ => ⟨S1x256x256, .bf16⟩
  | .local _ .vmem, ⟨8, _⟩ => ⟨S1x256x256, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x2048x128, .bf16⟩
  | .local _ .vmem, ⟨12, _⟩ => ⟨S1x2048x128, .bf16⟩
  | .local _ .vmem, ⟨13, _⟩ => ⟨S2048x1024, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v297 : BitVec 1 := Scalar.cmpi .eq arg0 c0_i32
  let v298 : BitVec 32 := Scalar.extui v297
  let c0_i32_110 : BitVec 32 := 0#32
  let v299 : BitVec 1 := Scalar.cmpi .ne v298 c0_i32_110
  v299

def k0_cond2 (i : grid0.Coords) : BitVec 1 :=
  let arg0 : BitVec 32 := BitVec.ofNat 32 (i 0).val
  let c0_i32_111 : BitVec 32 := 0#32
  let v300 : BitVec 1 := Scalar.cmpi .sgt arg0 c0_i32_111
  let v301 : BitVec 32 := Scalar.extui v300
  let c0_i32_112 : BitVec 32 := 0#32
  let v302 : BitVec 1 := Scalar.cmpi .ne v301 c0_i32_112
  v302

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x384x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnFReferenceIdeal.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S384x1536 : Shape := ⟨2, ![384, 1536]⟩
abbrev S256x2048 : Shape := ⟨2, ![256, 2048]⟩
abbrev S1024x1024 : Shape := ⟨2, ![1024, 1024]⟩
abbrev S2048x1536 : Shape := ⟨2, ![2048, 1536]⟩
abbrev S2048x8x192 : Shape := ⟨3, ![2048, 8, 192]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x2048 : Shape := ⟨2, ![2048, 2048]⟩
abbrev S2048x8x256 : Shape := ⟨3, ![2048, 8, 256]⟩
abbrev S8x2048x2048 : Shape := ⟨3, ![8, 2048, 2048]⟩
abbrev S2048x2048x8 : Shape := ⟨3, ![2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩
abbrev S2048x1024 : Shape := ⟨2, ![2048, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x256, .f32⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S384x1536, .f32⟩
  | .hbm, ⟨6, _⟩ => ⟨S256x2048, .f32⟩
  | .hbm, ⟨7, _⟩ => ⟨S1024x1024, .f32⟩
  | .hbm, ⟨8, _⟩ => ⟨S2048x1536, .f32⟩
  | .hbm, ⟨9, _⟩ => ⟨S2048x8x192, .f32⟩
  | .hbm, ⟨10, _⟩ => ⟨S2048x8x128, .f32⟩
  | .hbm, ⟨11, _⟩ => ⟨S2048x8x64, .f32⟩
  | .hbm, ⟨12, _⟩ => ⟨S2048x1x32, .f32⟩
  | .hbm, ⟨13, _⟩ => ⟨S2048x1x32, .f32⟩
  | .hbm, ⟨14, _⟩ => ⟨S2048x8x32, .f32⟩
  | .hbm, ⟨15, _⟩ => ⟨S2048x8x32, .f32⟩
  | .hbm, ⟨16, _⟩ => ⟨S2048x8x32, .f32⟩
  | .hbm, ⟨17, _⟩ => ⟨S2048x8x32, .f32⟩
  | .hbm, ⟨18, _⟩ => ⟨S2048x8x32, .f32⟩
  | .hbm, ⟨19, _⟩ => ⟨S2048x8x32, .f32⟩
  | .hbm, ⟨20, _⟩ => ⟨S2048x8x32, .f32⟩
  | .hbm, ⟨21, _⟩ => ⟨S2048x8x32, .f32⟩
  | .hbm, ⟨22, _⟩ => ⟨S2048x8x32, .f32⟩
  | .hbm, ⟨23, _⟩ => ⟨S2048x8x32, .f32⟩
  | .hbm, ⟨24, _⟩ => ⟨S2048x8x32, .f32⟩
  | .hbm, ⟨25, _⟩ => ⟨S2048x8x32, .f32⟩
  | .hbm, ⟨26, _⟩ => ⟨S2048x8x64, .f32⟩
  | .hbm, ⟨27, _⟩ => ⟨S2048x2048, .f32⟩
  | .hbm, ⟨28, _⟩ => ⟨S2048x8x256, .f32⟩
  | .hbm, ⟨29, _⟩ => ⟨S2048x8x128, .f32⟩
  | .hbm, ⟨30, _⟩ => ⟨S2048x8x128, .f32⟩
  | .hbm, ⟨31, _⟩ => ⟨S8x2048x2048, .f32⟩
  | .hbm, ⟨32, _⟩ => ⟨S2048x2048x8, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .f32⟩
  | .hbm, ⟨38, _⟩ => ⟨S2048, .i32⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S1x2048, .i32⟩
  | .hbm, ⟨58, _⟩ => ⟨S2048x1, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S_, .f32⟩
  | .hbm, ⟨63, _⟩ => ⟨S_, .f32⟩
  | .hbm, ⟨64, _⟩ => ⟨S8x2048x2048, .i1⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S_, .f32⟩
  | .hbm, ⟨70, _⟩ => ⟨S8x2048, .f32⟩
  | .hbm, ⟨71, _⟩ => ⟨S8x2048, .f32⟩
  | .hbm, ⟨72, _⟩ => ⟨S8x2048x1, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S8x2048x2048, .f32⟩
  | .hbm, ⟨80, _⟩ => ⟨S8x2048x2048, .f32⟩
  | .hbm, ⟨81, _⟩ => ⟨S8x128x2048, .f32⟩
  | .hbm, ⟨82, _⟩ => ⟨S2048x8x128, .f32⟩
  | .hbm, ⟨83, _⟩ => ⟨S8x2048x128, .f32⟩
  | .hbm, ⟨84, _⟩ => ⟨S8x2048x128, .bf16⟩
  | .hbm, ⟨85, _⟩ => ⟨S2048x1024, .f32⟩
  | .hbm, ⟨86, _⟩ => ⟨S2048x1024, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_0 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v36 : Ref sig .tc := ⟨.hbm, 66, rfl⟩
abbrev main_cst_1 : Ref sig .tc := ⟨.hbm, 67, rfl⟩
abbrev main_v37 : Ref sig .tc := ⟨.hbm, 68, rfl⟩
abbrev main_cst_2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_3 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]
-- ==== ResLnKernel.lean ====
abbrev S2048x1024 : Shape := ⟨2, ![2048, 1024]⟩
abbrev S4x1024 : Shape := ⟨2, ![4, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S4x1024, .f32⟩
  | .hbm, ⟨4, _⟩ => ⟨S4x1x1024, .f32⟩
  | .hbm, ⟨5, _⟩ => ⟨S4x1x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResLnReferenceIdeal.lean ====
abbrev S2048x1024 : Shape := ⟨2, ![2048, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== ProjLnKernel.lean ====
abbrev S2048x1024 : Shape := ⟨2, ![2048, 1024]⟩
abbrev S2048x1536 : Shape := ⟨2, ![2048, 1536]⟩
abbrev S1536x1024 : Shape := ⟨2, ![1536, 1024]⟩
abbrev S4x1024 : Shape := ⟨2, ![4, 1024]⟩
abbrev S4x1x1024 : Shape := ⟨3, ![4, 1, 1024]⟩
abbrev S1024x1024 : Shape := ⟨2, ![1024, 1024]⟩
abbrev S1024x1536 : Shape := ⟨2, ![1024, 1536]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S1536x1024, .f32⟩
  | .hbm, ⟨3, _⟩ => ⟨S4x1024, .f32⟩
  | .hbm, ⟨4, _⟩ => ⟨S4x1024, .f32⟩
  | .hbm, ⟨5, _⟩ => ⟨S2048x1536, .bf16⟩
  | .hbm, ⟨6, _⟩ => ⟨S1536x1024, .bf16⟩
  | .hbm, ⟨7, _⟩ => ⟨S4x1x1024, .f32⟩
  | .hbm, ⟨8, _⟩ => ⟨S4x1x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1536x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjLnReferenceIdeal.lean ====
abbrev S2048x1024 : Shape := ⟨2, ![2048, 1024]⟩
abbrev S2048x1536 : Shape := ⟨2, ![2048, 1536]⟩
abbrev S1536x1024 : Shape := ⟨2, ![1536, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S1536x1024, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== MlpFKernel.lean ====
abbrev S2048x1024 : Shape := ⟨2, ![2048, 1024]⟩
abbrev S1024x4096 : Shape := ⟨2, ![1024, 4096]⟩
abbrev S4096x1024 : Shape := ⟨2, ![4096, 1024]⟩
abbrev S4x1024 : Shape := ⟨2, ![4, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4x1x1024 : Shape := ⟨3, ![4, 1, 1024]⟩
abbrev S2048x4096 : Shape := ⟨2, ![2048, 4096]⟩
abbrev S1024x1024 : Shape := ⟨2, ![1024, 1024]⟩
abbrev S1x1024x512 : Shape := ⟨3, ![1, 1024, 512]⟩
abbrev S1x512x1024 : Shape := ⟨3, ![1, 512, 1024]⟩
abbrev S1x1x1024 : Shape := ⟨3, ![1, 1, 1024]⟩
abbrev S1024x512 : Shape := ⟨2, ![1024, 512]⟩
abbrev S512x1024 : Shape := ⟨2, ![512, 1024]⟩
abbrev S512x512 : Shape := ⟨2, ![512, 512]⟩
abbrev S1024 : Shape := ⟨1, ![1024]⟩
abbrev S1024x1 : Shape := ⟨2, ![1024, 1]⟩
abbrev S1x1024 : Shape := ⟨2, ![1, 1024]⟩

abbrev nBuf : Space → Nat
  | .hbm => 17
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S4x1024, .f32⟩
  | .hbm, ⟨4, _⟩ => ⟨S4x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S8x512x1024, .bf16⟩
  | .hbm, ⟨10, _⟩ => ⟨S2048x1024, .bf16⟩
  | .hbm, ⟨11, _⟩ => ⟨S4x1x1024, .f32⟩
  | .hbm, ⟨12, _⟩ => ⟨S4x1x1024, .f32⟩
  | .hbm, ⟨13, _⟩ => ⟨S2048x1024, .f32⟩
  | .hbm, ⟨14, _⟩ => ⟨S2048x1024, .f32⟩
  | .hbm, ⟨15, _⟩ => ⟨S2048x1024, .bf16⟩
  | .hbm, ⟨16, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_32 : BitVec 32 := 0#32
  let v41 : BitVec 1 := Scalar.cmpi .ne v40 c0_i32_32
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MlpFReferenceIdeal.lean ====
abbrev S2048x1024 : Shape := ⟨2, ![2048, 1024]⟩
abbrev S1024x4096 : Shape := ⟨2, ![1024, 4096]⟩
abbrev S4096x1024 : Shape := ⟨2, ![4096, 1024]⟩
abbrev S4x1024 : Shape := ⟨2, ![4, 1024]⟩
abbrev S2048x4096 : Shape := ⟨2, ![2048, 4096]⟩
abbrev S_ : Shape := ⟨0, ![]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S4x1024, .f32⟩
  | .hbm, ⟨4, _⟩ => ⟨S4x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== DownKernel.lean ====
abbrev S2048x1024 : Shape := ⟨2, ![2048, 1024]⟩
abbrev S1024x704 : Shape := ⟨2, ![1024, 704]⟩
abbrev S2x384 : Shape := ⟨2, ![2, 384]⟩
abbrev S2x256 : Shape := ⟨2, ![2, 256]⟩
abbrev S2048x32 : Shape := ⟨2, ![2048, 32]⟩
abbrev S8x128x704 : Shape := ⟨3, ![8, 128, 704]⟩
abbrev S2x1x384 : Shape := ⟨3, ![2, 1, 384]⟩
abbrev S2x1x256 : Shape := ⟨3, ![2, 1, 256]⟩
abbrev S2048x704 : Shape := ⟨2, ![2048, 704]⟩
abbrev S2048x384 : Shape := ⟨2, ![2048, 384]⟩
abbrev S2048x256 : Shape := ⟨2, ![2048, 256]⟩
abbrev S2048x64 : Shape := ⟨2, ![2048, 64]⟩
abbrev S1024x1024 : Shape := ⟨2, ![1024, 1024]⟩
abbrev S1x1x384 : Shape := ⟨3, ![1, 1, 384]⟩
abbrev S1x1x256 : Shape := ⟨3, ![1, 1, 256]⟩
abbrev S1024x32 : Shape := ⟨2, ![1024, 32]⟩
abbrev S1024x384 : Shape := ⟨2, ![1024, 384]⟩
abbrev S1024x256 : Shape := ⟨2, ![1024, 256]⟩
abbrev S1024x64 : Shape := ⟨2, ![1024, 64]⟩
abbrev S1024 : Shape := ⟨1, ![1024]⟩
abbrev S1024x1 : Shape := ⟨2, ![1024, 1]⟩
abbrev S1x384 : Shape := ⟨2, ![1, 384]⟩
abbrev S1x256 : Shape := ⟨2, ![1, 256]⟩

abbrev nBuf : Space → Nat
  | .hbm => 15
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x704, .f32⟩
  | .hbm, ⟨2, _⟩ => ⟨S2x384, .f32⟩
  | .hbm, ⟨3, _⟩ => ⟨S2x256, .f32⟩
  | .hbm, ⟨4, _⟩ => ⟨S2048x32, .f32⟩
  | .hbm, ⟨5, _⟩ => ⟨S2048x32, .f32⟩
  | .hbm, ⟨6, _⟩ => ⟨S1024x704, .bf16⟩
  | .hbm, ⟨7, _⟩ => ⟨S8x128x704, .bf16⟩
  | .hbm, ⟨8, _⟩ => ⟨S2048x1024, .bf16⟩
  | .hbm, ⟨9, _⟩ => ⟨S2x1x384, .f32⟩
  | .hbm, ⟨10, _⟩ => ⟨S2x1x256, .f32⟩
  | .hbm, ⟨11, _⟩ => ⟨S2048x704, .f32⟩
  | .hbm, ⟨12, _⟩ => ⟨S2048x384, .bf16⟩
  | .hbm, ⟨13, _⟩ => ⟨S2048x256, .bf16⟩
  | .hbm, ⟨14, _⟩ => ⟨S2048x64, .f32⟩
  | .local _ .vmem, ⟨0, _⟩ => ⟨S1024x1024, .bf16⟩
  | .local _ .vmem, ⟨1, _⟩ => ⟨S1024x1024, .bf16⟩
  | .local _ .vmem, ⟨2, _⟩ => ⟨S8x128x704, .bf16⟩
  | .local _ .vmem, ⟨3, _⟩ => ⟨S1x1x384, .f32⟩
  | .local _ .vmem, ⟨4, _⟩ => ⟨S1x1x256, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x704, .f32⟩
  | .local _ .vmem, ⟨10, _⟩ => ⟨S1024x704, .f32⟩
  | .local _ .vmem, ⟨11, _⟩ => ⟨S1024x384, .bf16⟩
  | .local _ .vmem, ⟨12, _⟩ => ⟨S1024x384, .bf16⟩
  | .local _ .vmem, ⟨13, _⟩ => ⟨S1024x256, .bf16⟩
  | .local _ .vmem, ⟨14, _⟩ => ⟨S1024x256, .bf16⟩
  | .local _ .vmem, ⟨15, _⟩ => ⟨S1024x64, .f32⟩
  | .local _ .vmem, ⟨16, _⟩ => ⟨S1024x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownReferenceIdeal.lean ====
abbrev S2048x1024 : Shape := ⟨2, ![2048, 1024]⟩
abbrev S1024x704 : Shape := ⟨2, ![1024, 704]⟩
abbrev S2x384 : Shape := ⟨2, ![2, 384]⟩
abbrev S2x256 : Shape := ⟨2, ![2, 256]⟩
abbrev S2048x32 : Shape := ⟨2, ![2048, 32]⟩
abbrev S2048x704 : Shape := ⟨2, ![2048, 704]⟩
abbrev S2048x384 : Shape := ⟨2, ![2048, 384]⟩
abbrev S1x384 : Shape := ⟨2, ![1, 384]⟩
abbrev S384 : Shape := ⟨1, ![384]⟩
abbrev S_ : Shape := ⟨0, ![]⟩
abbrev S2048 : Shape := ⟨1, ![2048]⟩
abbrev S2048x1 : Shape := ⟨2, ![2048, 1]⟩
abbrev S2048x256 : Shape := ⟨2, ![2048, 256]⟩
abbrev S1x256 : Shape := ⟨2, ![1, 256]⟩
abbrev S256 : Shape := ⟨1, ![256]⟩
abbrev S2048x64 : Shape := ⟨2, ![2048, 64]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x704, .f32⟩
  | .hbm, ⟨2, _⟩ => ⟨S2x384, .f32⟩
  | .hbm, ⟨3, _⟩ => ⟨S2x256, .f32⟩
  | .hbm, ⟨4, _⟩ => ⟨S2048x32, .f32⟩
  | .hbm, ⟨5, _⟩ => ⟨S2048x32, .f32⟩
  | .hbm, ⟨6, _⟩ => ⟨S2048x704, .f32⟩
  | .hbm, ⟨7, _⟩ => ⟨S2048x384, .f32⟩
  | .hbm, ⟨8, _⟩ => ⟨S1x384, .f32⟩
  | .hbm, ⟨9, _⟩ => ⟨S384, .f32⟩
  | .hbm, ⟨10, _⟩ => ⟨S2048x384, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x384, .f32⟩
  | .hbm, ⟨22, _⟩ => ⟨S2048x384, .f32⟩
  | .hbm, ⟨23, _⟩ => ⟨S1x384, .f32⟩
  | .hbm, ⟨24, _⟩ => ⟨S2048x384, .f32⟩
  | .hbm, ⟨25, _⟩ => ⟨S2048x384, .f32⟩
  | .hbm, ⟨26, _⟩ => ⟨S2048x256, .f32⟩
  | .hbm, ⟨27, _⟩ => ⟨S1x256, .f32⟩
  | .hbm, ⟨28, _⟩ => ⟨S256, .f32⟩
  | .hbm, ⟨29, _⟩ => ⟨S2048x256, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x256, .f32⟩
  | .hbm, ⟨41, _⟩ => ⟨S2048x256, .f32⟩
  | .hbm, ⟨42, _⟩ => ⟨S1x256, .f32⟩
  | .hbm, ⟨43, _⟩ => ⟨S2048x256, .f32⟩
  | .hbm, ⟨44, _⟩ => ⟨S2048x256, .f32⟩
  | .hbm, ⟨45, _⟩ => ⟨S2048x384, .bf16⟩
  | .hbm, ⟨46, _⟩ => ⟨S2048x256, .bf16⟩
  | .hbm, ⟨47, _⟩ => ⟨S2048x64, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== RopeKernel.lean ====
abbrev S2048 : Shape := ⟨1, ![2048]⟩
abbrev S32 : Shape := ⟨1, ![32]⟩
abbrev S_ : Shape := ⟨0, ![]⟩
abbrev S1x32 : Shape := ⟨2, ![1, 32]⟩
abbrev S2048x1 : Shape := ⟨2, ![2048, 1]⟩
abbrev S2048x32 : Shape := ⟨2, ![2048, 32]⟩

abbrev nBuf : Space → Nat
  | .hbm => 19
  | .vmem => 4
  | .smem => 0
  | _ => 0

abbrev bufTy : (tb : Table) → Fin (tcTables nBuf tb) → BufTy
  | .hbm, ⟨0, _⟩ => ⟨S2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S2048x1, .i32⟩
  | .hbm, ⟨17, _⟩ => ⟨S2048x32, .f32⟩
  | .hbm, ⟨18, _⟩ => ⟨S2048x32, .f32⟩
  | .local _ .vmem, ⟨0, _⟩ => ⟨S2048x1, .i32⟩
  | .local _ .vmem, ⟨1, _⟩ => ⟨S1x32, .f32⟩
  | .local _ .vmem, ⟨2, _⟩ => ⟨S2048x32, .f32⟩
  | .local _ .vmem, ⟨3, _⟩ => ⟨S2048x32, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RopeReferenceIdeal.lean ====
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩

abbrev nBuf : Space → Nat
  | .hbm => 23
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2048, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== PoolFKernel.lean ====
abbrev S2048x2560 : Shape := ⟨2, ![2048, 2560]⟩
abbrev S2x4x128x128 : Shape := ⟨4, ![2, 4, 128, 128]⟩
abbrev S2x512 : Shape := ⟨2, ![2, 512]⟩
abbrev S2x1x512 : Shape := ⟨3, ![2, 1, 512]⟩
abbrev S2048x512 : Shape := ⟨2, ![2048, 512]⟩
abbrev S1x4x128x128 : Shape := ⟨4, ![1, 4, 128, 128]⟩
abbrev S1x1x512 : Shape := ⟨3, ![1, 1, 512]⟩
abbrev S2048x128 : Shape := ⟨2, ![2048, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S8x128 : Shape := ⟨2, ![8, 128]⟩
abbrev S2040x128 : Shape := ⟨2, ![2040, 128]⟩

abbrev nBuf : Space → Nat
  | .hbm => 5
  | .vmem => 4
  | .smem => 0
  | _ => 0

abbrev bufTy : (tb : Table) → Fin (tcTables nBuf tb) → BufTy
  | .hbm, ⟨0, _⟩ => ⟨S2048x2560, .f32⟩
  | .hbm, ⟨1, _⟩ => ⟨S2x4x128x128, .f32⟩
  | .hbm, ⟨2, _⟩ => ⟨S2x512, .f32⟩
  | .hbm, ⟨3, _⟩ => ⟨S2x1x512, .f32⟩
  | .hbm, ⟨4, _⟩ => ⟨S2048x512, .bf16⟩
  | .local _ .vmem, ⟨0, _⟩ => ⟨S2048x512, .f32⟩
  | .local _ .vmem, ⟨1, _⟩ => ⟨S1x4x128x128, .f32⟩
  | .local _ .vmem, ⟨2, _⟩ => ⟨S1x1x512, .f32⟩
  | .local _ .vmem, ⟨3, _⟩ => ⟨S2048x512, .bf16⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== PoolFReferenceIdeal.lean ====
abbrev S2048x2560 : Shape := ⟨2, ![2048, 2560]⟩
abbrev S2x4x128x128 : Shape := ⟨4, ![2, 4, 128, 128]⟩
abbrev S2x512 : Shape := ⟨2, ![2, 512]⟩
abbrev S2048x512 : Shape := ⟨2, ![2048, 512]⟩
abbrev S1x2048x512 : Shape := ⟨3, ![1, 2048, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S1x2048x4x128 : Shape := ⟨4, ![1, 2048, 4, 128]⟩
abbrev S_ : Shape := ⟨0, ![]⟩
abbrev S2048 : Shape := ⟨1, ![2048]⟩
abbrev S1x2048x1x128 : Shape := ⟨4, ![1, 2048, 1, 128]⟩
abbrev S1x2048x128 : Shape := ⟨3, ![1, 2048, 128]⟩
abbrev S1x2x128 : Shape := ⟨3, ![1, 2, 128]⟩
abbrev S1x2046x128 : Shape := ⟨3, ![1, 2046, 128]⟩
abbrev S1x2048x1 : Shape := ⟨3, ![1, 2048, 1]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S4x128x1x2048 : Shape := ⟨4, ![4, 128, 1, 2048]⟩
abbrev S1x1x512 : Shape := ⟨3, ![1, 1, 512]⟩

abbrev nBuf : Space → Nat
  | .hbm => 107
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2x4x128x128, .f32⟩
  | .hbm, ⟨2, _⟩ => ⟨S2x512, .f32⟩
  | .hbm, ⟨3, _⟩ => ⟨S2048x512, .f32⟩
  | .hbm, ⟨4, _⟩ => ⟨S1x2048x512, .f32⟩
  | .hbm, ⟨5, _⟩ => ⟨S1x4x128x128, .f32⟩
  | .hbm, ⟨6, _⟩ => ⟨S4x128x128, .f32⟩
  | .hbm, ⟨7, _⟩ => ⟨S1x512, .f32⟩
  | .hbm, ⟨8, _⟩ => ⟨S512, .f32⟩
  | .hbm, ⟨9, _⟩ => ⟨S1x2048x4x128, .f32⟩
  | .hbm, ⟨10, _⟩ => ⟨S_, .f32⟩
  | .hbm, ⟨11, _⟩ => ⟨S_, .f32⟩
  | .hbm, ⟨12, _⟩ => ⟨S1x2048x4x128, .f32⟩
  | .hbm, ⟨13, _⟩ => ⟨S2048, .i32⟩
  | .hbm, ⟨14, _⟩ => ⟨S1x2048x1x128, .f32⟩
  | .hbm, ⟨15, _⟩ => ⟨S1x2048x128, .f32⟩
  | .hbm, ⟨16, _⟩ => ⟨S_, .f32⟩
  | .hbm, ⟨17, _⟩ => ⟨S1x2x128, .f32⟩
  | .hbm, ⟨18, _⟩ => ⟨S1x2046x128, .f32⟩
  | .hbm, ⟨19, _⟩ => ⟨S1x2048x128, .f32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S1x2048x1, .f32⟩
  | .hbm, ⟨28, _⟩ => ⟨S1x2048x128, .f32⟩
  | .hbm, ⟨29, _⟩ => ⟨S1x2048x128, .f32⟩
  | .hbm, ⟨30, _⟩ => ⟨S1x2048x128, .f32⟩
  | .hbm, ⟨31, _⟩ => ⟨S1x2048x1x128, .f32⟩
  | .hbm, ⟨32, _⟩ => ⟨S1x2048x128, .f32⟩
  | .hbm, ⟨33, _⟩ => ⟨S1x2048x128, .f32⟩
  | .hbm, ⟨34, _⟩ => ⟨S1x2048x1x128, .f32⟩
  | .hbm, ⟨35, _⟩ => ⟨S1x2048x128, .f32⟩
  | .hbm, ⟨36, _⟩ => ⟨S_, .f32⟩
  | .hbm, ⟨37, _⟩ => ⟨S1x4x128, .f32⟩
  | .hbm, ⟨38, _⟩ => ⟨S1x2044x128, .f32⟩
  | .hbm, ⟨39, _⟩ => ⟨S1x2048x128, .f32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S1x2048x1, .f32⟩
  | .hbm, ⟨48, _⟩ => ⟨S1x2048x128, .f32⟩
  | .hbm, ⟨49, _⟩ => ⟨S1x2048x128, .f32⟩
  | .hbm, ⟨50, _⟩ => ⟨S1x2048x128, .f32⟩
  | .hbm, ⟨51, _⟩ => ⟨S1x2048x1x128, .f32⟩
  | .hbm, ⟨52, _⟩ => ⟨S1x2048x128, .f32⟩
  | .hbm, ⟨53, _⟩ => ⟨S1x2048x128, .f32⟩
  | .hbm, ⟨54, _⟩ => ⟨S1x2048x1x128, .f32⟩
  | .hbm, ⟨55, _⟩ => ⟨S1x2048x128, .f32⟩
  | .hbm, ⟨56, _⟩ => ⟨S_, .f32⟩
  | .hbm, ⟨57, _⟩ => ⟨S1x8x128, .f32⟩
  | .hbm, ⟨58, _⟩ => ⟨S1x2040x128, .f32⟩
  | .hbm, ⟨59, _⟩ => ⟨S1x2048x128, .f32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .f32⟩
  | .hbm, ⟨67, _⟩ => ⟨S1x2048x1, .f32⟩
  | .hbm, ⟨68, _⟩ => ⟨S1x2048x128, .f32⟩
  | .hbm, ⟨69, _⟩ => ⟨S1x2048x128, .f32⟩
  | .hbm, ⟨70, _⟩ => ⟨S1x2048x128, .f32⟩
  | .hbm, ⟨71, _⟩ => ⟨S1x2048x1x128, .f32⟩
  | .hbm, ⟨72, _⟩ => ⟨S1x2048x128, .f32⟩
  | .hbm, ⟨73, _⟩ => ⟨S1x2048x128, .f32⟩
  | .hbm, ⟨74, _⟩ => ⟨S1x2048x1x128, .f32⟩
  | .hbm, ⟨75, _⟩ => ⟨S1x2048x128, .f32⟩
  | .hbm, ⟨76, _⟩ => ⟨S_, .f32⟩
  | .hbm, ⟨77, _⟩ => ⟨S1x16x128, .f32⟩
  | .hbm, ⟨78, _⟩ => ⟨S1x2032x128, .f32⟩
  | .hbm, ⟨79, _⟩ => ⟨S1x2048x128, .f32⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .f32⟩
  | .hbm, ⟨87, _⟩ => ⟨S1x2048x1, .f32⟩
  | .hbm, ⟨88, _⟩ => ⟨S1x2048x128, .f32⟩
  | .hbm, ⟨89, _⟩ => ⟨S1x2048x128, .f32⟩
  | .hbm, ⟨90, _⟩ => ⟨S1x2048x128, .f32⟩
  | .hbm, ⟨91, _⟩ => ⟨S1x2048x1x128, .f32⟩
  | .hbm, ⟨92, _⟩ => ⟨S1x2048x128, .f32⟩
  | .hbm, ⟨93, _⟩ => ⟨S1x2048x128, .f32⟩
  | .hbm, ⟨94, _⟩ => ⟨S1x2048x1x128, .f32⟩
  | .hbm, ⟨95, _⟩ => ⟨S1x2048x1x128, .f32⟩
  | .hbm, ⟨96, _⟩ => ⟨S1x2048x1x128, .f32⟩
  | .hbm, ⟨97, _⟩ => ⟨S1x2048x1x128, .f32⟩
  | .hbm, ⟨98, _⟩ => ⟨S1x2048x4x128, .f32⟩
  | .hbm, ⟨99, _⟩ => ⟨S4x128x1x2048, .f32⟩
  | .hbm, ⟨100, _⟩ => ⟨S1x2048x4x128, .f32⟩
  | .hbm, ⟨101, _⟩ => ⟨S1x2048x512, .f32⟩
  | .hbm, ⟨102, _⟩ => ⟨S1x1x512, .f32⟩
  | .hbm, ⟨103, _⟩ => ⟨S1x2048x512, .f32⟩
  | .hbm, ⟨104, _⟩ => ⟨S1x2048x512, .f32⟩
  | .hbm, ⟨105, _⟩ => ⟨S2048x512, .f32⟩
  | .hbm, ⟨106, _⟩ => ⟨S2048x512, .bf16⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_5 : Ref sig .tc := ⟨.hbm, 60, rfl⟩
abbrev main_v48 : Ref sig .tc := ⟨.hbm, 61, rfl⟩
abbrev main_v49 : Ref sig .tc := ⟨.hbm, 62, rfl⟩
abbrev main_c_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c_8 : Ref sig .tc := ⟨.hbm, 80, rfl⟩
abbrev main_v65 : Ref sig .tc := ⟨.hbm, 81, rfl⟩
abbrev main_v66 : Ref sig .tc := ⟨.hbm, 82, rfl⟩
abbrev main_c_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩

abbrev nD : Nat := 1
abbrev τ : Topo := Topo.v7x

variable {F : FTy → Type} [FloatOps F]
-- ==== LruFKernel.lean ====
abbrev S2048x2560 : Shape := ⟨2, ![2048, 2560]⟩
abbrev S2x4x1024 : Shape := ⟨3, ![2, 4, 1024]⟩
abbrev S2x1024 : Shape := ⟨2, ![2, 1024]⟩
abbrev S2x8x128x128 : Shape := ⟨4, ![2, 8, 128, 128]⟩
abbrev S2x1x1024 : Shape := ⟨3, ![2, 1, 1024]⟩
abbrev S2048x1024 : Shape := ⟨2, ![2048, 1024]⟩
abbrev S2048x128 : Shape := ⟨2, ![2048, 128]⟩
abbrev S1x4x128 : Shape := ⟨3, ![1, 4, 128]⟩
abbrev S1x1x128 : Shape := ⟨3, ![1, 1, 128]⟩
abbrev S1x1x128x128 : Shape := ⟨4, ![1, 1, 128, 128]⟩
abbrev S4x128 : Shape := ⟨2, ![4, 128]⟩
abbrev S1x128 : Shape := ⟨2, ![1, 128]⟩
abbrev S128x128 : Shape := ⟨2, ![128, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S1920x128 : Shape := ⟨2, ![1920, 128]⟩
abbrev S256x128 : Shape := ⟨2, ![256, 128]⟩
abbrev S1792x128 : Shape := ⟨2, ![1792, 128]⟩
abbrev S512x128 : Shape := ⟨2, ![512, 128]⟩
abbrev S1536x128 : Shape := ⟨2, ![1536, 128]⟩
abbrev S1024x128 : Shape := ⟨2, ![1024, 128]⟩

abbrev nBuf : Space → Nat
  | .hbm => 14
  | .vmem => 22
  | .smem => 0
  | _ => 0

abbrev bufTy : (tb : Table) → Fin (tcTables nBuf tb) → BufTy
  | .hbm, ⟨0, _⟩ => ⟨S2048x2560, .f32⟩
  | .hbm, ⟨1, _⟩ => ⟨S2x4x1024, .f32⟩
  | .hbm, ⟨2, _⟩ => ⟨S2x1024, .f32⟩
  | .hbm, ⟨3, _⟩ => ⟨S2x8x128x128, .f32⟩
  | .hbm, ⟨4, _⟩ => ⟨S2x1024, .f32⟩
  | .hbm, ⟨5, _⟩ => ⟨S2x8x128x128, .f32⟩
  | .hbm, ⟨6, _⟩ => ⟨S2x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2048x1024, .bf16⟩
  | .hbm, ⟨13, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x4x128, .f32⟩
  | .local _ .vmem, ⟨5, _⟩ => ⟨S1x4x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LruFReferenceIdeal.lean ====
abbrev S2048x2560 : Shape := ⟨2, ![2048, 2560]⟩
abbrev S2x4x1024 : Shape := ⟨3, ![2, 4, 1024]⟩
abbrev S2x1024 : Shape := ⟨2, ![2, 1024]⟩
abbrev S2x8x128x128 : Shape := ⟨4, ![2, 8, 128, 128]⟩
abbrev S2048x1024 : Shape := ⟨2, ![2048, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S3x1024 : Shape := ⟨2, ![3, 1024]⟩
abbrev S2051x1024 : Shape := ⟨2, ![2051, 1024]⟩
abbrev S1x8x128x128 : Shape := ⟨4, ![1, 8, 128, 128]⟩
abbrev S8x128x128 : Shape := ⟨3, ![8, 128, 128]⟩
abbrev S2048x8x128 : Shape := ⟨3, ![2048, 8, 128]⟩
abbrev S8x128x2048 : Shape := ⟨3, ![8, 128, 2048]⟩

abbrev nBuf : Space → Nat
  | .hbm => 160
  | .vmem => 0
  | .smem => 0
  | _ => 0

abbrev hbmTy0_0 (i : Nat) : BufTy := match i % 128 with
  | 0 => ⟨S2048x2560, .f32⟩
  | 1 => ⟨S2x4x1024, .f32⟩
  | 2 => ⟨S2x1024, .f32⟩
  | 3 => ⟨S2x8x128x128, .f32⟩
  | 4 => ⟨S2x1024, .f32⟩
  | 5 => ⟨S2x8x128x128, .f32⟩
  | 6 => ⟨S2x1024, .f32⟩
  | 7 => ⟨S2x1024, .f32⟩
  | 8 => ⟨S2048x1024, .f32⟩
  | 9 => ⟨S1x4x1024, .f32⟩
  | 10 => ⟨S4x1024, .f32⟩
  | 11 => ⟨S1x1024, .f32⟩
  | 12 => ⟨S1024, .f32⟩
  | 13 => ⟨S_, .f32⟩
  | 14 => ⟨S3x1024, .f32⟩
  | 15 => ⟨S2051x1024, .f32⟩
  | 16 => ⟨S1x1024, .f32⟩
  | 17 => ⟨S1024, .f32⟩
  | 18 => ⟨S2048x1024, .f32⟩
  | 19 => ⟨S1x1024, .f32⟩
  | 20 => ⟨S2048x1024, .f32⟩
  | 21 => ⟨S2048x1024, .f32⟩
  | 22 => ⟨S1x1024, .f32⟩
  | 23 => ⟨S1024, .f32⟩
  | 24 => ⟨S2048x1024, .f32⟩
  | 25 => ⟨S1x1024, .f32⟩
  | 26 => ⟨S2048x1024, .f32⟩
  | 27 => ⟨S2048x1024, .f32⟩
  | 28 => ⟨S2048x1024, .f32⟩
  | 29 => ⟨S1x1024, .f32⟩
  | 30 => ⟨S1024, .f32⟩
  | 31 => ⟨S2048x1024, .f32⟩
  | 32 => ⟨S1x1024, .f32⟩
  | 33 => ⟨S2048x1024, .f32⟩
  | 34 => ⟨S2048x1024, .f32⟩
  | 35 => ⟨S2048x1024, .f32⟩
  | 36 => ⟨S1x1024, .f32⟩
  | 37 => ⟨S1024, .f32⟩
  | 38 => ⟨S2048x1024, .f32⟩
  | 39 => ⟨S1x1024, .f32⟩
  | 40 => ⟨S2048x1024, .f32⟩
  | 41 => ⟨S2048x1024, .f32⟩
  | 42 => ⟨S2048x1024, .f32⟩
  | 43 => ⟨S1x1024, .f32⟩
  | 44 => ⟨S2048x1024, .f32⟩
  | 45 => ⟨S2048x1024, .f32⟩
  | 46 => ⟨S1x8x128x128, .f32⟩
  | 47 => ⟨S8x128x128, .f32⟩
  | 48 => ⟨S1x1024, .f32⟩
  | 49 => ⟨S1024, .f32⟩
  | 50 => ⟨S1x8x128x128, .f32⟩
  | 51 => ⟨S8x128x128, .f32⟩
  | 52 => ⟨S1x1024, .f32⟩
  | 53 => ⟨S1024, .f32⟩
  | 54 => ⟨S1x1024, .f32⟩
  | 55 => ⟨S1024, .f32⟩
  | 56 => ⟨S2048x8x128, .f32⟩
  | 57 => ⟨S8x128x2048, .f32⟩
  | 58 => ⟨S2048x8x128, .f32⟩
  | 59 => ⟨S2048x1024, .f32⟩
  | 60 => ⟨S1x1024, .f32⟩
  | 61 => ⟨S2048x1024, .f32⟩
  | 62 => ⟨S2048x1024, .f32⟩
  | 63 => ⟨S2048x1024, .f32⟩
  | 64 => ⟨S2048x1024, .f32⟩
  | 65 => ⟨S_, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S8x128x2048, .f32⟩
  | 72 => ⟨S2048x8x128, .f32⟩
  | 73 => ⟨S2048x1024, .f32⟩
  | 74 => ⟨S1x1024, .f32⟩
  | 75 => ⟨S2048x1024, .f32⟩
  | 76 => ⟨S2048x1024, .f32⟩
  | 77 => ⟨S2048x1024, .f32⟩
  | 78 => ⟨S2048x1024, .f32⟩
  | 79 => ⟨S_, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S_, .f32⟩
  | 86 => ⟨S2048x1024, .f32⟩
  | 87 => ⟨S2048x1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S1024, .f32⟩
  | 94 => ⟨S1024, .i1⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1x1024, .f32⟩
  | 104 => ⟨S2048x1024, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S_, .f32⟩
  | 116 => ⟨S1024, .f32⟩
  | 117 => ⟨S_, .f32⟩
  | 118 => ⟨S2048x1024, .f32⟩
  | 119 => ⟨S_, .i32⟩
  | 120 => ⟨S2048x1024, .f32⟩
  | 121 => ⟨S2048x1024, .f32⟩
  | 122 => ⟨S_, .i32⟩
  | 123 => ⟨S1024, .f32⟩
  | 124 => ⟨S2048x1024, .f32⟩
  | 125 => ⟨S_, .i32⟩
  | 126 => ⟨S_, .i1⟩
  | 127 => ⟨S_, .i32⟩
  | _ => ⟨S2048x2560, .f32⟩

abbrev hbmTy0_1 (i : Nat) : BufTy := match i % 128 with
  | 0 => ⟨S1x1024, .f32⟩
  | 1 => ⟨S1024, .f32⟩
  | 2 => ⟨S_, .i32⟩
  | 3 => ⟨S1x1024, .f32⟩
  | 4 => ⟨S1024, .f32⟩
  | 5 => ⟨S1024, .f32⟩
  | 6 => ⟨S1024, .f32⟩
  | 7 => ⟨S1x1024, .f32⟩
  | 8 => ⟨S_, .i32⟩
  | 9 => ⟨S2048x1024, .f32⟩
  | 10 => ⟨S_, .i32⟩
  | 11 => ⟨S_, .i32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S2048x1024, .f32⟩
  | 30 => ⟨S2048x1024, .f32⟩
  | 31 => ⟨S2048x1024, .bf16⟩
  | _ => ⟨S2048x2560, .f32⟩

abbrev hbmTy (i : Nat) : BufTy := match i / 128 with
  | 0 => hbmTy0_0 i
  | 1 => hbmTy0_1 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_0 : Ref sig .tc := ⟨.hbm, 65, rfl⟩
abbrev main_v56 : Ref sig .tc := ⟨.hbm, 66, rfl⟩
abbrev main_v57 : Ref sig .tc := ⟨.hbm, 67, rfl⟩
abbrev main_cst_1 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_2 : Ref sig .tc := ⟨.hbm, 79, rfl⟩
abbrev main_v68 : Ref sig .tc := ⟨.hbm, 80, rfl⟩
abbrev main_v69 : Ref sig .tc := ⟨.hbm, 81, rfl⟩
abbrev main_cst_3 : Ref sig .tc := ⟨.hbm, 82, rfl⟩
abbrev main_v70 : Ref sig .tc := ⟨.hbm, 83, rfl⟩
abbrev main_v71 : Ref sig .tc := ⟨.hbm, 84, rfl⟩
abbrev main_cst_4 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_5 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_6 : Ref sig .tc := ⟨.hbm, 115, rfl⟩
abbrev main_v87 : Ref sig .tc := ⟨.hbm, 116, rfl⟩
abbrev main_cst_7 : Ref sig .tc := ⟨.hbm, 117, rfl⟩
abbrev main_v88 : Ref sig .tc := ⟨.hbm, 118, rfl⟩
abbrev main_c : Ref sig .tc := ⟨.hbm, 119, rfl⟩
abbrev main_v89_0 : Ref sig .tc := ⟨.hbm, 120, rfl⟩
abbrev main_v89_1 : Ref sig .tc := ⟨.hbm, 121, rfl⟩
abbrev main_v89_2 : Ref sig .tc := ⟨.hbm, 122, rfl⟩
abbrev main_v89_3 : Ref sig .tc := ⟨.hbm, 123, rfl⟩
abbrev main_v89_4 : Ref sig .tc := ⟨.hbm, 124, rfl⟩
abbrev main_while0c_c_16 : Ref sig .tc := ⟨.hbm, 125, rfl⟩
abbrev main_while0c_v106 : Ref sig .tc := ⟨.hbm, 126, rfl⟩
abbrev main_while0b_call1_c : Ref sig .tc := ⟨.hbm, 127, rfl⟩
abbrev main_while0b_call1_v0 : Ref sig .tc := ⟨.hbm, 128, rfl⟩
abbrev main_while0b_v106 : Ref sig .tc := ⟨.hbm, 129, rfl⟩
abbrev main_while0b_call2_c : Ref sig .tc := ⟨.hbm, 130, rfl⟩
abbrev main_while0b_call2_v0 : Ref sig .tc := ⟨.hbm, 131, rfl⟩
abbrev main_while0b_v107 : Ref sig .tc := ⟨.hbm, 132, rfl⟩
abbrev main_while0b_v108 : Ref sig .tc := ⟨.hbm, 133, rfl⟩
abbrev main_while0b_v109 : Ref sig .tc := ⟨.hbm, 134, rfl⟩
abbrev main_while0b_call3_v0 : Ref sig .tc := ⟨.hbm, 135, rfl⟩
abbrev main_while0b_call3_c : Ref sig .tc := ⟨.hbm, 136, rfl⟩
abbrev main_while0b_v110 : Ref sig .tc := ⟨.hbm, 137, rfl⟩
abbrev main_while0b_c_16 : Ref sig .tc := ⟨.hbm, 138, rfl⟩
abbrev main_while0b_v111 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_8 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_9 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_10 : Ref sig .tc := ⟨.hbm, 151, rfl⟩
abbrev main_v99 : Ref sig .tc := ⟨.hbm, 152, rfl⟩
abbrev main_v100 : Ref sig .tc := ⟨.hbm, 153, rfl⟩
abbrev main_cst_11 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩

abbrev nD : Nat := 1
abbrev τ : Topo := Topo.v7x

variable {F : FTy → Type} [FloatOps F]

abbrev main_while0_count : Scf.Loop 32 := ⟨0#32, 2048#32, 1#32⟩
-- ==== MmKernel.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmReferenceIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwinKernel.lean ====
abbrev S2048x1024 : Shape := ⟨2, ![2048, 1024]⟩
abbrev S2048x2560 : Shape := ⟨2, ![2048, 2560]⟩
abbrev S8x1024x320 : Shape := ⟨3, ![8, 1024, 320]⟩
abbrev S2048x320 : Shape := ⟨2, ![2048, 320]⟩
abbrev S1024x320 : Shape := ⟨2, ![1024, 320]⟩
abbrev S1x1024x320 : Shape := ⟨3, ![1, 1024, 320]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x2560, .f32⟩
  | .hbm, ⟨2, _⟩ => ⟨S2048x1024, .bf16⟩
  | .hbm, ⟨3, _⟩ => ⟨S2048x2560, .bf16⟩
  | .hbm, ⟨4, _⟩ => ⟨S8x1024x320, .bf16⟩
  | .local _ .vmem, ⟨0, _⟩ => ⟨S2048x1024, .bf16⟩
  | .local _ .vmem, ⟨1, _⟩ => ⟨S2048x2560, .bf16⟩
  | .local _ .vmem, ⟨2, _⟩ => ⟨S8x1024x320, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DwinReferenceIdeal.lean ====
abbrev S2048x1024 : Shape := ⟨2, ![2048, 1024]⟩
abbrev S2048x2560 : Shape := ⟨2, ![2048, 2560]⟩
abbrev S_ : Shape := ⟨0, ![]⟩
abbrev S1024x2560 : Shape := ⟨2, ![1024, 2560]⟩
abbrev S2560x1024 : Shape := ⟨2, ![2560, 1024]⟩
abbrev S1024x8x320 : Shape := ⟨3, ![1024, 8, 320]⟩
abbrev S8x1024x320 : Shape := ⟨3, ![8, 1024, 320]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2560, .f32⟩
  | .hbm, ⟨2, _⟩ => ⟨S_, .f32⟩
  | .hbm, ⟨3, _⟩ => ⟨S1024x2560, .f32⟩
  | .hbm, ⟨4, _⟩ => ⟨S2048x2560, .f32⟩
  | .hbm, ⟨5, _⟩ => ⟨S2560x1024, .f32⟩
  | .hbm, ⟨6, _⟩ => ⟨S1024x2560, .f32⟩
  | .hbm, ⟨7, _⟩ => ⟨S1024x8x320, .f32⟩
  | .hbm, ⟨8, _⟩ => ⟨S8x1024x320, .f32⟩
  | .hbm, ⟨9, _⟩ => ⟨S8x1024x320, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamKernel.lean ====
abbrev S4x1024 : Shape := ⟨2, ![4, 1024]⟩
abbrev S2x4x128x128 : Shape := ⟨4, ![2, 4, 128, 128]⟩
abbrev S2x48 : Shape := ⟨2, ![2, 48]⟩
abbrev S1024x128 : Shape := ⟨2, ![1024, 128]⟩

abbrev nBuf : Space → Nat
  | .hbm => 28
  | .vmem => 24
  | .smem => 0
  | _ => 0

abbrev bufTy : (tb : Table) → Fin (tcTables nBuf tb) → BufTy
  | .hbm, ⟨0, _⟩ => ⟨S4x1024, .f32⟩
  | .hbm, ⟨1, _⟩ => ⟨S2x4x128x128, .f32⟩
  | .hbm, ⟨2, _⟩ => ⟨S2x48, .f32⟩
  | .hbm, ⟨3, _⟩ => ⟨S4x1024, .f32⟩
  | .hbm, ⟨4, _⟩ => ⟨S2x4x128x128, .f32⟩
  | .hbm, ⟨5, _⟩ => ⟨S2x48, .f32⟩
  | .hbm, ⟨6, _⟩ => ⟨S4x1024, .f32⟩
  | .hbm, ⟨7, _⟩ => ⟨S2x4x128x128, .f32⟩
  | .hbm, ⟨8, _⟩ => ⟨S2x48, .f32⟩
  | .hbm, ⟨9, _⟩ => ⟨S4x1024, .f32⟩
  | .hbm, ⟨10, _⟩ => ⟨S2x4x128x128, .f32⟩
  | .hbm, ⟨11, _⟩ => ⟨S2x48, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S4x1024, .f32⟩
  | .hbm, ⟨17, _⟩ => ⟨S1024x128, .f32⟩
  | .hbm, ⟨18, _⟩ => ⟨S2x48, .f32⟩
  | .hbm, ⟨19, _⟩ => ⟨S4x1024, .f32⟩
  | .hbm, ⟨20, _⟩ => ⟨S1024x128, .f32⟩
  | .hbm, ⟨21, _⟩ => ⟨S2x48, .f32⟩
  | .hbm, ⟨22, _⟩ => ⟨S4x1024, .f32⟩
  | .hbm, ⟨23, _⟩ => ⟨S1024x128, .f32⟩
  | .hbm, ⟨24, _⟩ => ⟨S2x48, .f32⟩
  | .hbm, ⟨25, _⟩ => ⟨S4x1024, .f32⟩
  | .hbm, ⟨26, _⟩ => ⟨S1024x128, .f32⟩
  | .hbm, ⟨27, _⟩ => ⟨S2x48, .f32⟩
  | .local _ .vmem, ⟨0, _⟩ => ⟨S4x1024, .f32⟩
  | .local _ .vmem, ⟨1, _⟩ => ⟨S1024x128, .f32⟩
  | .local _ .vmem, ⟨2, _⟩ => ⟨S2x48, .f32⟩
  | .local _ .vmem, ⟨3, _⟩ => ⟨S4x1024, .f32⟩
  | .local _ .vmem, ⟨4, _⟩ => ⟨S1024x128, .f32⟩
  | .local _ .vmem, ⟨5, _⟩ => ⟨S2x48, .f32⟩
  | .local _ .vmem, ⟨6, _⟩ => ⟨S4x1024, .f32⟩
  | .local _ .vmem, ⟨7, _⟩ => ⟨S1024x128, .f32⟩
  | .local _ .vmem, ⟨8, _⟩ => ⟨S2x48, .f32⟩
  | .local _ .vmem, ⟨9, _⟩ => ⟨S4x1024, .f32⟩
  | .local _ .vmem, ⟨10, _⟩ => ⟨S1024x128, .f32⟩
  | .local _ .vmem, ⟨11, _⟩ => ⟨S2x48, .f32⟩
  | .local _ .vmem, ⟨12, _⟩ => ⟨S4x1024, .f32⟩
  | .local _ .vmem, ⟨13, _⟩ => ⟨S1024x128, .f32⟩
  | .local _ .vmem, ⟨14, _⟩ => ⟨S2x48, .f32⟩
  | .local _ .vmem, ⟨15, _⟩ => ⟨S4x1024, .f32⟩
  | .local _ .vmem, ⟨16, _⟩ => ⟨S1024x128, .f32⟩
  | .local _ .vmem, ⟨17, _⟩ => ⟨S2x48, .f32⟩
  | .local _ .vmem, ⟨18, _⟩ => ⟨S4x1024, .f32⟩
  | .local _ .vmem, ⟨19, _⟩ => ⟨S1024x128, .f32⟩
  | .local _ .vmem, ⟨20, _⟩ => ⟨S2x48, .f32⟩
  | .local _ .vmem, ⟨21, _⟩ => ⟨S4x1024, .f32⟩
  | .local _ .vmem, ⟨22, _⟩ => ⟨S1024x128, .f32⟩
  | .local _ .vmem, ⟨23, _⟩ => ⟨S2x48, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_v4_7 : Ref sig .tc := ⟨.hbm, 23, rfl⟩
abbrev main_v4_8 : Ref sig .tc := ⟨.hbm, 24, rfl⟩
abbrev main_v4_9 : Ref sig .tc := ⟨.hbm, 25, rfl⟩
abbrev main_v4_10 : Ref sig .tc := ⟨.hbm, 26, rfl⟩
abbrev main_v4_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x48 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x48 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x48 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x48 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== AdamReferenceIdeal.lean ====
abbrev S4x1024 : Shape := ⟨2, ![4, 1024]⟩
abbrev S2x4x128x128 : Shape := ⟨4, ![2, 4, 128, 128]⟩
abbrev S2x48 : Shape := ⟨2, ![2, 48]⟩
abbrev S_ : Shape := ⟨0, ![]⟩
abbrev S1024x128 : Shape := ⟨2, ![1024, 128]⟩

abbrev nBuf : Space → Nat
  | .hbm => 115
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x4x128x128, .f32⟩
  | .hbm, ⟨2, _⟩ => ⟨S2x48, .f32⟩
  | .hbm, ⟨3, _⟩ => ⟨S4x1024, .f32⟩
  | .hbm, ⟨4, _⟩ => ⟨S2x4x128x128, .f32⟩
  | .hbm, ⟨5, _⟩ => ⟨S2x48, .f32⟩
  | .hbm, ⟨6, _⟩ => ⟨S4x1024, .f32⟩
  | .hbm, ⟨7, _⟩ => ⟨S2x4x128x128, .f32⟩
  | .hbm, ⟨8, _⟩ => ⟨S2x48, .f32⟩
  | .hbm, ⟨9, _⟩ => ⟨S4x1024, .f32⟩
  | .hbm, ⟨10, _⟩ => ⟨S2x4x128x128, .f32⟩
  | .hbm, ⟨11, _⟩ => ⟨S2x48, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S_, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S_, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | .hbm, ⟨37, _⟩ => ⟨S4x1024, .f32⟩
  | .hbm, ⟨38, _⟩ => ⟨S_, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S_, .f32⟩
  | .hbm, ⟨46, _⟩ => ⟨S2x4x128x128, .f32⟩
  | .hbm, ⟨47, _⟩ => ⟨S2x4x128x128, .f32⟩
  | .hbm, ⟨48, _⟩ => ⟨S_, .f32⟩
  | .hbm, ⟨49, _⟩ => ⟨S2x4x128x128, .f32⟩
  | .hbm, ⟨50, _⟩ => ⟨S2x4x128x128, .f32⟩
  | .hbm, ⟨51, _⟩ => ⟨S2x4x128x128, .f32⟩
  | .hbm, ⟨52, _⟩ => ⟨S_, .f32⟩
  | .hbm, ⟨53, _⟩ => ⟨S2x4x128x128, .f32⟩
  | .hbm, ⟨54, _⟩ => ⟨S2x4x128x128, .f32⟩
  | .hbm, ⟨55, _⟩ => ⟨S2x4x128x128, .f32⟩
  | .hbm, ⟨56, _⟩ => ⟨S_, .f32⟩
  | .hbm, ⟨57, _⟩ => ⟨S2x4x128x128, .f32⟩
  | .hbm, ⟨58, _⟩ => ⟨S2x4x128x128, .f32⟩
  | .hbm, ⟨59, _⟩ => ⟨S2x4x128x128, .f32⟩
  | .hbm, ⟨60, _⟩ => ⟨S_, .f32⟩
  | .hbm, ⟨61, _⟩ => ⟨S2x4x128x128, .f32⟩
  | .hbm, ⟨62, _⟩ => ⟨S2x4x128x128, .f32⟩
  | .hbm, ⟨63, _⟩ => ⟨S_, .f32⟩
  | .hbm, ⟨64, _⟩ => ⟨S2x4x128x128, .f32⟩
  | .hbm, ⟨65, _⟩ => ⟨S2x4x128x128, .f32⟩
  | .hbm, ⟨66, _⟩ => ⟨S2x4x128x128, .f32⟩
  | .hbm, ⟨67, _⟩ => ⟨S_, .f32⟩
  | .hbm, ⟨68, _⟩ => ⟨S2x4x128x128, .f32⟩
  | .hbm, ⟨69, _⟩ => ⟨S2x4x128x128, .f32⟩
  | .hbm, ⟨70, _⟩ => ⟨S2x4x128x128, .f32⟩
  | .hbm, ⟨71, _⟩ => ⟨S_, .f32⟩
  | .hbm, ⟨72, _⟩ => ⟨S2x4x128x128, .f32⟩
  | .hbm, ⟨73, _⟩ => ⟨S2x4x128x128, .f32⟩
  | .hbm, ⟨74, _⟩ => ⟨S2x4x128x128, .f32⟩
  | .hbm, ⟨75, _⟩ => ⟨S_, .f32⟩
  | .hbm, ⟨76, _⟩ => ⟨S2x4x128x128, .f32⟩
  | .hbm, ⟨77, _⟩ => ⟨S2x4x128x128, .f32⟩
  | .hbm, ⟨78, _⟩ => ⟨S_, .f32⟩
  | .hbm, ⟨79, _⟩ => ⟨S2x48, .f32⟩
  | .hbm, ⟨80, _⟩ => ⟨S2x48, .f32⟩
  | .hbm, ⟨81, _⟩ => ⟨S_, .f32⟩
  | .hbm, ⟨82, _⟩ => ⟨S2x48, .f32⟩
  | .hbm, ⟨83, _⟩ => ⟨S2x48, .f32⟩
  | .hbm, ⟨84, _⟩ => ⟨S2x48, .f32⟩
  | .hbm, ⟨85, _⟩ => ⟨S_, .f32⟩
  | .hbm, ⟨86, _⟩ => ⟨S2x48, .f32⟩
  | .hbm, ⟨87, _⟩ => ⟨S2x48, .f32⟩
  | .hbm, ⟨88, _⟩ => ⟨S2x48, .f32⟩
  | .hbm, ⟨89, _⟩ => ⟨S_, .f32⟩
  | .hbm, ⟨90, _⟩ => ⟨S2x48, .f32⟩
  | .hbm, ⟨91, _⟩ => ⟨S2x48, .f32⟩
  | .hbm, ⟨92, _⟩ => ⟨S2x48, .f32⟩
  | .hbm, ⟨93, _⟩ => ⟨S_, .f32⟩
  | .hbm, ⟨94, _⟩ => ⟨S2x48, .f32⟩
  | .hbm, ⟨95, _⟩ => ⟨S2x48, .f32⟩
  | .hbm, ⟨96, _⟩ => ⟨S_, .f32⟩
  | .hbm, ⟨97, _⟩ => ⟨S2x48, .f32⟩
  | .hbm, ⟨98, _⟩ => ⟨S2x48, .f32⟩
  | .hbm, ⟨99, _⟩ => ⟨S2x48, .f32⟩
  | .hbm, ⟨100, _⟩ => ⟨S_, .f32⟩
  | .hbm, ⟨101, _⟩ => ⟨S2x48, .f32⟩
  | .hbm, ⟨102, _⟩ => ⟨S2x48, .f32⟩
  | .hbm, ⟨103, _⟩ => ⟨S2x48, .f32⟩
  | .hbm, ⟨104, _⟩ => ⟨S_, .f32⟩
  | .hbm, ⟨105, _⟩ => ⟨S2x48, .f32⟩
  | .hbm, ⟨106, _⟩ => ⟨S2x48, .f32⟩
  | .hbm, ⟨107, _⟩ => ⟨S2x48, .f32⟩
  | .hbm, ⟨108, _⟩ => ⟨S_, .f32⟩
  | .hbm, ⟨109, _⟩ => ⟨S2x48, .f32⟩
  | .hbm, ⟨110, _⟩ => ⟨S2x48, .f32⟩
  | .hbm, ⟨111, _⟩ => ⟨S1024x128, .f32⟩
  | .hbm, ⟨112, _⟩ => ⟨S1024x128, .f32⟩
  | .hbm, ⟨113, _⟩ => ⟨S1024x128, .f32⟩
  | .hbm, ⟨114, _⟩ => ⟨S1024x128, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩

abbrev nD : Nat := 1
abbrev τ : Topo := Topo.v7x

variable {F : FTy → Type} [FloatOps F]
-- ==== Proof.Common.lean ====
/- Facts shared by the value proofs: which extended reals are real numbers, and sums, quotients and roots of those. -/
module

public import Idealize.ShloMosaic.Lib.Pipeline.Value
public import Idealize.ShloMosaic.Lib.StableHlo.Run
public import Idealize.ShloMosaic.Lib.Pointwise
public import Idealize.ShloMosaic.Lib.ValueIdx
public import Idealize.ShloMosaic.Lib.Tactic
public import Idealize.ShloMosaic.PureOps.Ideal.Laws
public import Idealize.ShloMosaic.Lib.ReduceAll
public import Idealize.ShloMosaic.Lib.Pipeline.ReadBack

@[expose] public section

noncomputable section

namespace Cert.Common

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- A finite extended real times a sum of products is the sum of the products: distribution holds for a nonnegative
    real factor. -/
theorem mul_sum_coe {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.2 hr) (EReal.coe_ne_top r), ih]

/-- The extended reals' sum of real numbers is their real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! The numbers the programs' literals stand for. -/

theorem w_0009765625 : Ideal.ofBits .f32 0x3A800000#32 = ((1 / 1024 : ℝ) : EReal) := by
  simp [Ideal.ofBits, Ideal.ieee, -EReal.coe_mul]; norm_num
theorem w_00048828125 : Ideal.ofBits .f32 0x3A000000#32 = ((1 / 2048 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num

theorem w_neg_half : Ideal.ofBits .f32 0xBF000000#32 = ((-(1 / 2) : ℝ) : EReal) := by
  simp [Ideal.ofBits, Ideal.ieee, -EReal.coe_mul]; norm_num
theorem w_inf : Ideal.ofBits .f32 0x7F800000#32 = ⊤ := by simp [Ideal.ofBits, Ideal.ieee]

/-- An extended real whose absolute value lies under the infinity is a real number. -/
theorem real_of_lt (x : EReal) (h : Ideal.cmp .olt (max x (-x)) ⊤ = 1#1) : ∃ r : ℝ, x = (r : EReal) := by
  have hlt : max x (-x) < ⊤ := by
    by_contra hn
    rw [show Ideal.cmp .olt (max x (-x)) ⊤ = 0#1 by simp [Ideal.cmp, hn]] at h
    exact absurd h (by decide)
  rw [max_lt_iff] at hlt
  refine ⟨x.toReal, (EReal.coe_toReal (ne_of_lt hlt.1) ?_).symm⟩
  rintro rfl
  simp at hlt

/-- The predicate "every element is finite" that holds gives the array's real numbers. -/
theorem reals_of_all {s u t : Shape} [Subsingleton t.Idx] {axes : List (Fin s.rank)} (x o : FVec Ideal s .f32) (v : IVec u 1)
    (ho : ∀ i, o i = ⊤) (h : s.ReducesTo axes t) (hu : 0 < u.numel) (j : t.Idx)
    (e : Host.reduce IntOp.andi (cmpf (F := Ideal) .olt (Host.absf x) o) v h hu j = 1#1) :
    ∃ X : s.Idx → ℝ, ∀ i, x i = (X i : EReal) := by
  have hx : ∀ i, ∃ r : ℝ, x i = (r : EReal) := fun i => by
    have hi := Host.reduce_andi_all _ _ h hu j e i
    refine real_of_lt (x i) ?_
    rw [← ho i]
    exact hi
  exact ⟨fun i => (hx i).choose, fun i => (hx i).choose_spec⟩

theorem rsqrt_pos (v : ℝ) (h : 0 < v) : Ideal.rsqrt (v : EReal) = ((1 / Real.sqrt v : ℝ) : EReal) := by
  rw [Ideal.rsqrt_coe, if_neg h.not_gt, if_neg h.ne', one_div]

/-- Stores under others that cover the index play no part. -/
theorem canon_append {Val : EltTy → Type} {s : Shape} {e : EltTy} [∀ e, Nonempty (Val e)] (L' : List (View.Piece Val s e)) (y : s.Idx) :
    ∀ (L : List (View.Piece Val s e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      exact (View.canon_cons_emb ..).trans (View.canon_cons_emb ..).symm
    · obtain ⟨q, hq, hy⟩ := hy
      rcases List.mem_cons.1 hq with rfl | hq
      · exact absurd hy hm
      · rw [List.cons_append, View.canon_cons_of_not_mem _ _ hm, View.canon_cons_of_not_mem _ _ hm, canon_append L' y L ⟨q, hq, hy⟩]

/-- Rows of an array, loaded as a block that starts at row `o`. -/
theorem ld_rows {Val : EltTy → Type} {e : EltTy} {N n K : ℕ} (X : (⟨2, ![N, K]⟩ : Shape).Idx → Val e) (o : ℕ) (inb) (r : Fin n) (k : Fin K) (R : Fin N) (hR : R.val = o + r.val) :
    View.ld X (Rect.unit (s := ⟨2, ![N, K]⟩) ![o, 0] ![n, K] inb) (ix2 r k) = X (ix2 R k) := by
  refine congrArg X (funext fun a => Fin.ext ?_)
  match a with
  | ⟨0, _⟩ => show o + 1 * r.val = R.val; omega
  | ⟨1, _⟩ => show 0 + 1 * k.val = k.val; omega

end Cert.Common
end
-- ==== Proof.Loss.lean ====
/- The loss and its gradient: the kernel's two blocks of rows against the derivative of the mean squared error. -/
module

public import proofs.«01_k».proof.Defs
public import proofs.«01_k».proof.Proof.Common
public import Idealize.ShloMosaic.Lib.Quiescent
public import proofs.«01_k».proof.Proof.Gen.LossKernelIdeal.Value
public import proofs.«01_k».proof.Proof.Gen.LossReferenceIdeal.Run
public import proofs.«01_k».proof.Proof.Gen.LossReferenceIdeal.Read

@[expose] public section

set_option maxRecDepth 16384

noncomputable section

namespace Cert.LossKernelIdeal.Value

open Cert.LossKernelIdeal Cert.LossKernelIdeal.Gen Idealize.ShloMosaic Idealize.ShloMosaic.TcCoe Idealize.SL.Sem Cert.Common

section Cases
variable {F : FTy → Type} [FloatOps F]
variable (c : Dev nD) (i : grid0.Coords) (a1 : Memref sig .tc .vmem S1024x1024 .f32) (h1 : a1.IsWhole)
  (a2 : Memref sig .tc .vmem S1024x1024 .f32) (h2 : a2.IsWhole) (a3 : Memref sig .tc .vmem S1024x1024 .f32) (h3 : a3.IsWhole)
  (a4 : Memref sig .tc .vmem S1x128 .f32) (h4 : a4.IsWhole) (a5 : Memref sig .tc .vmem S1x1024 .f32) (h5 : a5.IsWhole)
  (x y : Vec F S1024x1024 .f32) (acc : Vec F S1x1024 .f32)

theorem out_A_2 (hc : cond0_0 i) (hd : ¬cond0_1 i) :
    out0_A_2 c i a1 h1 a2 h2 a3 h3 a4 h4 a5 h5 hc hd x y = k0_pay2 x y := by
  unfold out0_A_2
  rw [View.read_writes_eq_canon _ _ _ (cover0_A_2 c i a1 h1 a2 h2 a3 h3 a4 h4 a5 h5 hc hd x y)]
  unfold kernelRun0_A
  dsimp only
  rw [View.canon_unit_zero hz2]
  simp only [View.readAt_eq_ld, h1.read_unread, h2.read_unread, View.ld_unit_zero (S := S1024x1024) hz2]

theorem out_B_2 (hc : ¬cond0_0 i) (hd : cond0_1 i) :
    out0_B_2 c i a1 h1 a2 h2 a3 h3 a4 h4 a5 h5 hc hd x y acc = k0_pay2 x y := by
  unfold out0_B_2
  rw [View.read_writes_eq_canon _ _ _ (cover0_B_2 c i a1 h1 a2 h2 a3 h3 a4 h4 a5 h5 hc hd x y acc)]
  unfold kernelRun0_B
  dsimp only
  rw [View.canon_unit_zero hz2]
  simp only [View.readAt_eq_ld, h1.read_unread, h2.read_unread, View.ld_unit_zero (S := S1024x1024) hz2]

theorem sout_A_0 (hc : cond0_0 i) (hd : ¬cond0_1 i) :
    sout0_A_0 c i a1 h1 a2 h2 a3 h3 a4 h4 a5 h5 hc hd x y = k0_pay4 x y k0_pay3 := by
  unfold sout0_A_0
  rw [View.read_writes_eq_canon _ _ _ (scover0_A_0 c i a1 h1 a2 h2 a3 h3 a4 h4 a5 h5 hc hd x y)]
  unfold kernelRun0_A
  dsimp only
  sl_unfold_words
  rw [View.canon_cons_unit_zero (S := S1x1024) hz2, View.readCov_unit_zero (S := S1x1024) _ hz2]
  simp only [View.readAt_eq_ld, h1.read_unread, h2.read_unread, View.ld_unit_zero (S := S1024x1024) hz2]

theorem out_B_3 (hc : ¬cond0_0 i) (hd : cond0_1 i) :
    out0_B_3 c i a1 h1 a2 h2 a3 h3 a4 h4 a5 h5 hc hd x y acc = k0_pay5 (k0_pay4 x y acc) := by
  unfold out0_B_3
  rw [View.read_writes_eq_canon _ _ _ (cover0_B_3 c i a1 h1 a2 h2 a3 h3 a4 h4 a5 h5 hc hd x y acc)]
  unfold kernelRun0_B
  dsimp only
  sl_unfold_words
  rw [View.canon_unit_zero hz2, View.readCov_unit_zero (S := S1x1024) _ hz2]
  simp only [View.readAt_eq_ld, h1.read_unread, h2.read_unread, h5.read_unread, View.ld_unit_zero (S := S1024x1024) hz2, View.ld_unit_zero (S := S1x1024) hz2]

end Cases

variable (m : (ℓ : Loc nD τ sig) → Buf (Elt Ideal) ℓ)

/-- The two arguments. -/
abbrev Y (c : Dev nD) : FVec Ideal S2048x1024 .f32 := m ((c : Thread nD τ).loc main_arg0)
abbrev T (c : Dev nD) : FVec Ideal S2048x1024 .f32 := m ((c : Thread nD τ).loc main_arg1)

/-- Point `t` reads rows `1024 t …` of each argument. -/
theorem iblk_0 (c : Dev nD) (t : Fin cfg0.N) (r k : Fin 1024) (R : Fin 2048) (hR : R.val = t.val * 1024 + r.val) :
    (iblk m c 0 t : Vec Ideal S1024x1024 .f32) (ix2 r k) = Y m c (ix2 R k) := by
  have hi : win0_0.index t 0 = t.val ∧ win0_0.index t 1 = 0 := by
    clear hR; revert t; exact (by decide +kernel : ∀ t : Fin grid0.N, win0_0.index t 0 = t.val ∧ win0_0.index t 1 = 0)
  unfold iblk
  rw [View.read_apply]
  show V m c main_arg0 _ = _
  unfold V
  congr 1
  funext a
  apply Fin.ext
  match a with
  | ⟨0, _⟩ => show win0_0.index t 0 * 1024 + 1 * r.val = _; rw [hi.1]; show _ = R.val; omega
  | ⟨1, _⟩ => show win0_0.index t 1 * 1024 + 1 * k.val = _; rw [hi.2]; show _ = k.val; omega

theorem iblk_1 (c : Dev nD) (t : Fin cfg0.N) (r k : Fin 1024) (R : Fin 2048) (hR : R.val = t.val * 1024 + r.val) :
    (iblk m c 1 t : Vec Ideal S1024x1024 .f32) (ix2 r k) = T m c (ix2 R k) := by
  have hi : win0_1.index t 0 = t.val ∧ win0_1.index t 1 = 0 := by
    clear hR; revert t; exact (by decide +kernel : ∀ t : Fin grid0.N, win0_1.index t 0 = t.val ∧ win0_1.index t 1 = 0)
  unfold iblk
  rw [View.read_apply]
  show V m c main_arg1 _ = _
  unfold V
  congr 1
  funext a
  apply Fin.ext
  match a with
  | ⟨0, _⟩ => show win0_1.index t 0 * 1024 + 1 * r.val = _; rw [hi.1]; show _ = R.val; omega
  | ⟨1, _⟩ => show win0_1.index t 1 * 1024 + 1 * k.val = _; rw [hi.2]; show _ = k.val; omega

theorem pay2_apply (x y : FVec Ideal S1024x1024 .f32) (r k : Fin 1024) :
    k0_pay2 (F := Ideal) x y (ix2 r k) = (x (ix2 r k) - y (ix2 r k)) * ((1 / 1024 : ℝ) : EReal) := by
  pointwise [k0_pay2, k0_pay1, w_0009765625]

theorem pay4_apply (x y : FVec Ideal S1024x1024 .f32) (acc : FVec Ideal S1x1024 .f32) (k : Fin 1024) :
    k0_pay4 (F := Ideal) x y acc (ix2 0 k) = acc (ix2 0 k) + ∑ r : Fin 1024, (x (ix2 r k) - y (ix2 r k)) * (x (ix2 r k) - y (ix2 r k)) := by
  pointwise [k0_pay4, k0_pay1]

theorem pay5_apply (acc : FVec Ideal S1x1024 .f32) (l : Fin 128) :
    k0_pay5 (F := Ideal) acc (ix2 0 l) = ((1 / 2048 : ℝ) : EReal) * ∑ k : Fin 1024, acc (ix2 0 k) := by
  pointwise [k0_pay5, w_00048828125]
  simp only [Finset.univ_unique, Finset.sum_singleton]

/-- The squared error at one place. -/
def sq (c : Dev nD) (r : Fin 2048) (k : Fin 1024) : EReal := (Y m c (ix2 r k) - T m c (ix2 r k)) * (Y m c (ix2 r k) - T m c (ix2 r k))

theorem outs_2 (c : Dev nD) (t : Fin cfg0.N) : (outsAt0 m c t.val t.isLt).1 = k0_pay2 (F := Ideal) (iblk m c 0 t) (iblk m c 1 t) := by
  by_cases h : t.val % 2 = 0
  · have h' : ¬t.val % 2 = 1 := fun e => absurd (h.symm.trans e) (by decide)
    rw [outsAt0_A m c t h h']; dsimp only; rw [out_A_2]
  · have h' : t.val % 2 = 1 := Nat.mod_two_ne_zero.1 h
    rw [outsAt0_B m c t h h']; dsimp only; rw [out_B_2]

theorem N0 : cfg0.N = 2 := N_0

/-- What the array holds at the place that point `t` writes. -/
theorem G2_at (c : Dev nD) (t : Fin cfg0.N) (i : S2048x1024.Idx) (y : S1024x1024.Idx) (hp : pt2Of i = t.val) (hl : loc2Of i = y) :
    G2 m c i = k0_pay2 (F := Ideal) (iblk m c 0 t) (iblk m c 1 t) y := by
  subst hl
  obtain ⟨n, hn⟩ := t
  dsimp only at hp
  subst hp
  unfold G2
  rw [dif_pos hn, ← outsAt0_sweep m c _ hn, outs_2 m c ⟨_, hn⟩]

/-- The gradient. -/
theorem grad_apply (c : Dev nD) (r : Fin 2048) (k : Fin 1024) :
    G2 m c (ix2 r k) = (Y m c (ix2 r k) - T m c (ix2 r k)) * ((1 / 1024 : ℝ) : EReal) := by
  have hlt : r.val / 1024 < cfg0.N := lt_of_lt_of_eq (by omega) N0.symm
  rw [G2_at m c ⟨r.val / 1024, hlt⟩ (ix2 r k) (ix2 ⟨r.val % 1024, by omega⟩ k)
      (by show 1 * (r.val / 1024 - 0) + 1 * (k.val / 1024 - 0) = r.val / 1024; omega)
      (by
        funext a; apply Fin.ext
        match a with
        | ⟨0, _⟩ => rfl
        | ⟨1, _⟩ => show k.val % 1024 = k.val; omega),
    pay2_apply, iblk_0 m c _ _ _ r (by dsimp only; omega), iblk_1 m c _ _ _ r (by dsimp only; omega)]

/-- The loss, in every lane. -/
theorem loss_apply (c : Dev nD) (l : Fin 128) :
    G3 m c (ix2 0 l) = ((1 / 2048 : ℝ) : EReal) * ∑ k : Fin 1024, ∑ r : Fin 2048, sq m c r k := by
  have h0 : 0 < cfg0.N := by rw [N0]; omega
  have h1 : 1 < cfg0.N := by rw [N0]; omega
  rw [G3_last, ← outsAt0_sweep m c 1 h1]
  rw [outsAt0_B m c ⟨1, h1⟩ (by dsimp only; omega) (by dsimp only)]
  dsimp only
  rw [out_B_3, pay5_apply]
  have e0 := outsAt0_A m c ⟨0, h0⟩ (by dsimp only) (by dsimp only; omega)
  rw [show outsAt0 m c (1 - 1) _ = outsAt0 m c 0 h0 from rfl, e0]
  dsimp only
  rw [sout_A_0]
  refine congrArg _ (Finset.sum_congr rfl fun k _ => ?_)
  rw [pay4_apply, pay4_apply, Fin.sum_univ_two_halves 1024 1024 rfl]
  have hz : k0_pay3 (F := Ideal) (ix2 0 k) = 0 := by pointwise [k0_pay3]
  rw [hz, zero_add]
  congr 1
  · refine Finset.sum_congr rfl fun r _ => ?_
    rw [iblk_0 m c ⟨0, h0⟩ r k ⟨0 + r.val, by omega⟩ (by dsimp only), iblk_1 m c ⟨0, h0⟩ r k ⟨0 + r.val, by omega⟩ (by dsimp only)]
    unfold sq
    simp
  · refine Finset.sum_congr rfl fun r _ => ?_
    rw [iblk_0 m c ⟨1, h1⟩ r k ⟨1024 + r.val, by omega⟩ (by dsimp only), iblk_1 m c ⟨1, h1⟩ r k ⟨1024 + r.val, by omega⟩ (by dsimp only)]
    unfold sq
    simp

end Cert.LossKernelIdeal.Value

namespace Cert.LossReferenceIdeal.Value

open Cert.LossReferenceIdeal Cert.LossReferenceIdeal.Gen Idealize.ShloMosaic Idealize.ShloMosaic.TcCoe Idealize.SL.Sem Cert.Common

theorem grad_apply (x y : FVec Ideal S2048x1024 .f32) (r : Fin 2048) (k : Fin 1024) :
    Read.val_main_v14 (F := Ideal) x y (ix2 r k) = (x (ix2 r k) - y (ix2 r k)) * ((1 / 1024 : ℝ) : EReal) := by
  rw [← Read.val_main_v14_eq]
  pointwise [w_half, w_1024, w_two]
  rw [Ideal.div_coe (by norm_num), ← mul_assoc, ← EReal.coe_mul, ← EReal.coe_mul, mul_comm]
  norm_num

theorem loss_apply (x y : FVec Ideal S2048x1024 .f32) (l : Fin 128) :
    Read.val_main_v15 (F := Ideal) x y (ix2 0 l) = ((1 / 2048 : ℝ) : EReal) * ∑ k : Fin 1024, ∑ r : Fin 2048, (x (ix2 r k) - y (ix2 r k)) * (x (ix2 r k) - y (ix2 r k)) := by
  rw [← Read.val_main_v15_eq]
  pointwise [w_half, w_1024, w_two]
  simp only [Ideal.div_coe (show (1024 : ℝ) ≠ 0 by norm_num)]
  rw [Finset.sum_comm, mul_sum_coe _ _ (by norm_num), mul_sum_coe _ _ (by norm_num)]
  refine Finset.sum_congr rfl fun t _ => ?_
  rw [mul_comm (Finset.sum _ _), ← mul_assoc, ← EReal.coe_mul]
  norm_num

end Cert.LossReferenceIdeal.Value

namespace Cert.Loss

open Idealize.ShloMosaic Idealize.ShloMosaic.TcCoe Idealize.SL.Sem Cert.Common

theorem frame_reference : Cert.quiescent_LossReferenceIdeal := fun m g _ =>
  (θ_run Cert.LossReferenceIdeal.defs _ _).mono (fun r h => ⟨fun c => (h c).2.2, sem_eq_zero_of_no_sems (by decide) r.2⟩)
    (LossReferenceIdeal.Value.run m g)

theorem value : Cert.algebraic_LossKernelIdeal_LossReferenceIdeal := by
  intro m g m' g' _ hm
  refine ⟨fun c => LossKernelIdeal.Value.G2 m c, fun c => LossKernelIdeal.Value.G3 m c, LossKernelIdeal.Value.run m g,
    (θ_run _ _ _).mono (fun r h c => ?_) (LossReferenceIdeal.Value.run m' g')⟩
  obtain ⟨h0, h1, h2, h3⟩ := h c
  obtain ⟨e0, e1⟩ := hm c
  refine ⟨h0.trans ?_, h1.trans ?_, h2, h3⟩
  · rw [e0, e1, LossReferenceIdeal.Read.val_main_v14_eq]
    funext i
    rw [eq_ix2 i]
    exact (LossReferenceIdeal.Value.grad_apply _ _ _ _).trans (LossKernelIdeal.Value.grad_apply m c _ _).symm
  · rw [e0, e1, LossReferenceIdeal.Read.val_main_v15_eq]
    funext i
    rw [eq_ix2 i, show i 0 = (0 : Fin 1) from Subsingleton.elim (α := Fin 1) _ _]
    exact (LossReferenceIdeal.Value.loss_apply _ _ _).trans (LossKernelIdeal.Value.loss_apply m c _).symm

end Cert.Loss
end
-- ==== Proof.LayerNorm.lean ====
/- The derivative of a layer norm over real numbers: the sums that the chain rule leaves, against the closed form. -/
module

public import proofs.«01_k».proof.Proof.Common

@[expose] public section

noncomputable section

namespace Cert.LayerNorm

open Idealize.ShloMosaic Cert.Common

theorem w_eps : Ideal.ofBits .f32 0x3727C5AC#32 = ((10995116 / 1099511627776 : ℝ) : EReal) := by
  simp [Ideal.ofBits, Ideal.ieee, -EReal.coe_mul]; norm_num

/-- The mean of squares and the small constant: what the root is taken of. -/
def var (x : Fin 1024 → ℝ) : ℝ := (∑ k, x k * x k) * (1 / 1024) + 10995116 / 1099511627776

theorem var_pos (x : Fin 1024 → ℝ) : 0 < var x := by
  have : 0 ≤ ∑ k, x k * x k := Finset.sum_nonneg fun k _ => mul_self_nonneg _
  unfold var; positivity

/-- One over the root. -/
def rstd (x : Fin 1024 → ℝ) : ℝ := 1 / Real.sqrt (var x)

theorem rstd_sq (x : Fin 1024 → ℝ) : rstd x * rstd x = 1 / var x := by
  unfold rstd
  rw [div_mul_div_comm, Real.mul_self_sqrt (var_pos x).le, one_mul]

/-- A row minus its mean. -/
def cen (z : Fin 1024 → ℝ) (k : Fin 1024) : ℝ := z k - (∑ j, z j) * (1 / 1024)

theorem sum_cen (z : Fin 1024 → ℝ) : ∑ k, cen z k = 0 := by
  unfold cen
  rw [Finset.sum_sub_distrib, Finset.sum_const, Finset.card_univ, Fintype.card_fin, nsmul_eq_mul]
  push_cast
  ring

theorem mean_coe (z : Fin 1024 → ℝ) : Ideal.div (∑ j, (z j : EReal)) ((1024 : ℝ) : EReal) = (((∑ j, z j) * (1 / 1024) : ℝ) : EReal) := by
  rw [Ideal.div_coe (by norm_num), ← coe_sum, ← EReal.coe_mul]

theorem cen_coe (z : Fin 1024 → ℝ) (k : Fin 1024) :
    (z k : EReal) - Ideal.div (∑ j, (z j : EReal)) ((1024 : ℝ) : EReal) = (cen z k : EReal) := by
  rw [mean_coe, ← EReal.coe_sub]; rfl

theorem var_coe (x : Fin 1024 → ℝ) :
    Ideal.div (∑ k, (x k : EReal) * (x k : EReal)) ((1024 : ℝ) : EReal) + ((10995116 / 1099511627776 : ℝ) : EReal) = (var x : EReal) := by
  simp only [← EReal.coe_mul]
  rw [mean_coe (fun k => x k * x k), ← EReal.coe_add]; rfl

theorem rstd_coe (x : Fin 1024 → ℝ) : Ideal.rsqrt (var x : EReal) = (rstd x : EReal) := rsqrt_pos _ (var_pos x)

theorem rstd_div_coe (x : Fin 1024 → ℝ) : Ideal.div (rstd x : EReal) (var x : EReal) = ((rstd x * (1 / var x) : ℝ) : EReal) := by
  rw [Ideal.div_coe (var_pos x).ne', ← EReal.coe_mul]

/-- The gradient of one element: `z` the row, `p` the row of the result's cotangent times the scale. -/
def grad (z p : Fin 1024 → ℝ) (k : Fin 1024) : ℝ :=
  rstd (cen z) * (p k - (∑ j, p j) * (1 / 1024) - cen z k * rstd (cen z) * ((∑ j, p j * (cen z j * rstd (cen z))) * (1 / 1024)))

/-- The chain rule's sums are the closed form. -/
theorem chain_eq (z p : Fin 1024 → ℝ) (k : Fin 1024) :
    p k * rstd (cen z) + ((∑ j, cen z j * p j) * (-(1 / 2) * (rstd (cen z) * (1 / var (cen z))))) * (1 / 1024) * (2 * cen z k)
      + ((∑ j, -(p j * rstd (cen z)))
        + ∑ j, -(((∑ i, cen z i * p i) * (-(1 / 2) * (rstd (cen z) * (1 / var (cen z))))) * (1 / 1024) * (2 * cen z j))) * (1 / 1024)
      = grad z p k := by
  unfold grad
  have h1 : ∑ j, -(((∑ i, cen z i * p i) * (-(1 / 2) * (rstd (cen z) * (1 / var (cen z))))) * (1 / 1024) * (2 * cen z j)) = 0 := by
    rw [Finset.sum_neg_distrib, ← Finset.mul_sum, ← Finset.mul_sum, sum_cen]; ring
  have h2 : ∑ j, p j * (cen z j * rstd (cen z)) = (∑ j, cen z j * p j) * rstd (cen z) := by
    rw [Finset.sum_mul]; exact Finset.sum_congr rfl fun j _ => by ring
  rw [h1, h2, Finset.sum_neg_distrib, ← Finset.sum_mul, ← rstd_sq]
  ring

end Cert.LayerNorm
end
-- ==== Proof.Ln.lean ====
/- The layer norm's backward pass: the kernel's two blocks of rows against the derivative of the layer norm. -/
module

public import proofs.«01_k».proof.Defs
public import proofs.«01_k».proof.Proof.LayerNorm
public import Idealize.ShloMosaic.Lib.Quiescent
public import proofs.«01_k».proof.Proof.Gen.LnKernelIdeal.Value
public import proofs.«01_k».proof.Proof.Gen.LnReferenceIdeal.Run
public import proofs.«01_k».proof.Proof.Gen.LnReferenceIdeal.Read

@[expose] public section

set_option maxRecDepth 16384

noncomputable section

namespace Cert.Ln.K

open Cert.LnKernelIdeal Cert.LnKernelIdeal.Gen Cert.LnKernelIdeal.Value Idealize.ShloMosaic Idealize.ShloMosaic.TcCoe Idealize.SL.Sem Cert.Common Cert.LayerNorm

section Cases
variable {F : FTy → Type} [FloatOps F]
variable (c : Dev nD) (i : grid0.Coords) (a1 : Memref sig .tc .vmem S1024x1024 .f32) (h1 : a1.IsWhole)
  (a2 : Memref sig .tc .vmem S1024x1024 .f32) (h2 : a2.IsWhole) (a3 : Memref sig .tc .vmem S1x1x1024 .f32) (h3 : a3.IsWhole)
  (a4 : Memref sig .tc .vmem S1024x1024 .f32) (h4 : a4.IsWhole) (a5 : Memref sig .tc .vmem S1024x1024 .bf16) (h5 : a5.IsWhole)
  (a6 : Memref sig .tc .vmem S1x1024 .f32) (h6 : a6.IsWhole) (a7 : Memref sig .tc .vmem S1x1024 .f32) (h7 : a7.IsWhole)
  (x z : Vec F S1024x1024 .f32) (g : Vec F S1x1x1024 .f32) (dg db : Vec F S1x1024 .f32)

theorem out_A (hc : cond0_0 i) :
    out0_A_3 c i a1 h1 a2 h2 a3 h3 a4 h4 a5 h5 a6 h6 a7 h7 hc x z g = k0_pay8 x z g
    ∧ out0_A_4 c i a1 h1 a2 h2 a3 h3 a4 h4 a5 h5 a6 h6 a7 h7 hc x z g = k0_pay9 x z g
    ∧ out0_A_5 c i a1 h1 a2 h2 a3 h3 a4 h4 a5 h5 a6 h6 a7 h7 hc x z g = k0_pay3 x (k0_pay7 z) k0_pay1
    ∧ out0_A_6 c i a1 h1 a2 h2 a3 h3 a4 h4 a5 h5 a6 h6 a7 h7 hc x z g = k0_pay4 x k0_pay2 := by
  refine ⟨?_, ?_, ?_, ?_⟩
  · unfold out0_A_3
    rw [View.read_writes_eq_canon _ _ _ (cover0_A_3 c i a1 h1 a2 h2 a3 h3 a4 h4 a5 h5 a6 h6 a7 h7 hc x z g)]
    unfold kernelRun0_A
    dsimp only
    sl_unfold_words
    rw [View.canon_unit_zero hz2]
    simp only [View.readAt_eq_ld, h1.read_unread, h2.read_unread, h3.read_unread, View.ld_unit_zero (S := S1024x1024) hz2, View.ld_unit_zero (S := S1x1x1024) hz3]
  · unfold out0_A_4
    rw [View.read_writes_eq_canon _ _ _ (cover0_A_4 c i a1 h1 a2 h2 a3 h3 a4 h4 a5 h5 a6 h6 a7 h7 hc x z g)]
    unfold kernelRun0_A
    dsimp only
    sl_unfold_words
    rw [View.canon_unit_zero hz2]
    simp only [View.readAt_eq_ld, h1.read_unread, h2.read_unread, h3.read_unread, View.ld_unit_zero (S := S1024x1024) hz2, View.ld_unit_zero (S := S1x1x1024) hz3]
  · unfold out0_A_5
    rw [View.read_writes_eq_canon _ _ _ (cover0_A_5 c i a1 h1 a2 h2 a3 h3 a4 h4 a5 h5 a6 h6 a7 h7 hc x z g)]
    unfold kernelRun0_A
    dsimp only
    sl_unfold_words
    rw [View.canon_cons_unit_zero (S := S1x1024) hz2, View.readCov_unit_zero (S := S1x1024) _ hz2]
    simp only [View.readAt_eq_ld, h1.read_unread, h2.read_unread, h3.read_unread, View.ld_unit_zero (S := S1024x1024) hz2, View.ld_unit_zero (S := S1x1x1024) hz3]
  · unfold out0_A_6
    rw [View.read_writes_eq_canon _ _ _ (cover0_A_6 c i a1 h1 a2 h2 a3 h3 a4 h4 a5 h5 a6 h6 a7 h7 hc x z g)]
    unfold kernelRun0_A
    dsimp only
    sl_unfold_words
    rw [View.canon_cons_unit_zero (S := S1x1024) hz2, View.readCov_unit_zero (S := S1x1024) _ hz2]
    simp only [View.readAt_eq_ld, h1.read_unread, h2.read_unread, h3.read_unread, View.ld_unit_zero (S := S1024x1024) hz2, View.ld_unit_zero (S := S1x1x1024) hz3]

theorem out_B (hc : ¬cond0_0 i) :
    out0_B_3 c i a1 h1 a2 h2 a3 h3 a4 h4 a5 h5 a6 h6 a7 h7 hc x z g dg db = k0_pay8 x z g
    ∧ out0_B_4 c i a1 h1 a2 h2 a3 h3 a4 h4 a5 h5 a6 h6 a7 h7 hc x z g dg db = k0_pay9 x z g
    ∧ out0_B_5 c i a1 h1 a2 h2 a3 h3 a4 h4 a5 h5 a6 h6 a7 h7 hc x z g dg db = k0_pay3 x (k0_pay7 z) dg
    ∧ out0_B_6 c i a1 h1 a2 h2 a3 h3 a4 h4 a5 h5 a6 h6 a7 h7 hc x z g dg db = k0_pay4 x db := by
  refine ⟨?_, ?_, ?_, ?_⟩
  · unfold out0_B_3
    rw [View.read_writes_eq_canon _ _ _ (cover0_B_3 c i a1 h1 a2 h2 a3 h3 a4 h4 a5 h5 a6 h6 a7 h7 hc x z g dg db)]
    unfold kernelRun0_B
    dsimp only
    sl_unfold_words
    rw [View.canon_unit_zero hz2]
    simp only [View.readAt_eq_ld, h1.read_unread, h2.read_unread, h3.read_unread, View.ld_unit_zero (S := S1024x1024) hz2, View.ld_unit_zero (S := S1x1x1024) hz3]
  · unfold out0_B_4
    rw [View.read_writes_eq_canon _ _ _ (cover0_B_4 c i a1 h1 a2 h2 a3 h3 a4 h4 a5 h5 a6 h6 a7 h7 hc x z g dg db)]
    unfold kernelRun0_B
    dsimp only
    sl_unfold_words
    rw [View.canon_unit_zero hz2]
    simp only [View.readAt_eq_ld, h1.read_unread, h2.read_unread, h3.read_unread, View.ld_unit_zero (S := S1024x1024) hz2, View.ld_unit_zero (S := S1x1x1024) hz3]
  · unfold out0_B_5
    rw [View.read_writes_eq_canon _ _ _ (cover0_B_5 c i a1 h1 a2 h2 a3 h3 a4 h4 a5 h5 a6 h6 a7 h7 hc x z g dg db)]
    unfold kernelRun0_B
    dsimp only
    sl_unfold_words
    rw [View.canon_unit_zero hz2]
    simp only [View.readAt_eq_ld, h1.read_unread, h2.read_unread, h3.read_unread, h6.read_unread, View.ld_unit_zero (S := S1024x1024) hz2, View.ld_unit_zero (S := S1x1x1024) hz3, View.ld_unit_zero (S := S1x1024) hz2]
  · unfold out0_B_6
    rw [View.read_writes_eq_canon _ _ _ (cover0_B_6 c i a1 h1 a2 h2 a3 h3 a4 h4 a5 h5 a6 h6 a7 h7 hc x z g dg db)]
    unfold kernelRun0_B
    dsimp only
    sl_unfold_words
    rw [View.canon_unit_zero hz2]
    simp only [View.readAt_eq_ld, h1.read_unread, h2.read_unread, h3.read_unread, h7.read_unread, View.ld_unit_zero (S := S1024x1024) hz2, View.ld_unit_zero (S := S1x1x1024) hz3, View.ld_unit_zero (S := S1x1024) hz2]

end Cases

variable (m : (ℓ : Loc nD τ sig) → Buf (Elt Ideal) ℓ)

/-- The cotangent, the forward pass's input and the scales. -/
abbrev dy (c : Dev nD) : FVec Ideal S2048x1024 .f32 := m ((c : Thread nD τ).loc main_arg0)
abbrev xin (c : Dev nD) : FVec Ideal S2048x1024 .f32 := m ((c : Thread nD τ).loc main_arg1)
abbrev gam (c : Dev nD) : FVec Ideal S4x1024 .f32 := m ((c : Thread nD τ).loc main_arg2)

theorem iblk_0 (c : Dev nD) (t : Fin cfg0.N) (r k : Fin 1024) (R : Fin 2048) (hR : R.val = t.val * 1024 + r.val) :
    (iblk m c 0 t : Vec Ideal S1024x1024 .f32) (ix2 r k) = dy m c (ix2 R k) := by
  have hi : win0_0.index t 0 = t.val ∧ win0_0.index t 1 = 0 := by
    clear hR; revert t; exact (by decide +kernel : ∀ t : Fin grid0.N, win0_0.index t 0 = t.val ∧ win0_0.index t 1 = 0)
  unfold iblk
  rw [View.read_apply]
  show V m c main_arg0 _ = _
  rw [V_main_arg0]
  show dy m c _ = _
  congr 1
  funext a
  apply Fin.ext
  match a with
  | ⟨0, _⟩ => show win0_0.index t 0 * 1024 + 1 * r.val = _; rw [hi.1]; show _ = R.val; omega
  | ⟨1, _⟩ => show win0_0.index t 1 * 1024 + 1 * k.val = _; rw [hi.2]; show _ = k.val; omega

theorem iblk_1 (c : Dev nD) (t : Fin cfg0.N) (r k : Fin 1024) (R : Fin 2048) (hR : R.val = t.val * 1024 + r.val) :
    (iblk m c 1 t : Vec Ideal S1024x1024 .f32) (ix2 r k) = xin m c (ix2 R k) := by
  have hi : win0_1.index t 0 = t.val ∧ win0_1.index t 1 = 0 := by
    clear hR; revert t; exact (by decide +kernel : ∀ t : Fin grid0.N, win0_1.index t 0 = t.val ∧ win0_1.index t 1 = 0)
  unfold iblk
  rw [View.read_apply]
  show V m c main_arg1 _ = _
  rw [V_main_arg1]
  show xin m c _ = _
  congr 1
  funext a
  apply Fin.ext
  match a with
  | ⟨0, _⟩ => show win0_1.index t 0 * 1024 + 1 * r.val = _; rw [hi.1]; show _ = R.val; omega
  | ⟨1, _⟩ => show win0_1.index t 1 * 1024 + 1 * k.val = _; rw [hi.2]; show _ = k.val; omega

theorem V_scales (c : Dev nD) : (V m c main_v0 : FVec Ideal S4x1x1024 .f32) = shapeCast S4x1x1024 (gam m c) shapeCasts_S4x1024_S4x1x1024 := by
  unfold V
  after_results_simp
  rfl

theorem iblk_2 (c : Dev nD) (t : Fin cfg0.N) (k : Fin 1024) :
    (iblk m c 2 t : Vec Ideal S1x1x1024 .f32) (ix3 0 0 k) = gam m c (ix2 3 k) := by
  have hi : win0_2.index t 0 = 3 ∧ win0_2.index t 1 = 0 ∧ win0_2.index t 2 = 0 := by
    revert t; exact (by decide +kernel : ∀ t : Fin grid0.N, win0_2.index t 0 = 3 ∧ win0_2.index t 1 = 0 ∧ win0_2.index t 2 = 0)
  unfold iblk
  rw [View.read_apply]
  show (V m c main_v0 : FVec Ideal S4x1x1024 .f32) _ = _
  rw [V_scales]
  refine Eq.trans (congrArg (shapeCast S4x1x1024 (gam m c) shapeCasts_S4x1024_S4x1x1024) (a₂ := ix3 3 0 k) ?_) ?_
  · funext a
    apply Fin.ext
    match a with
    | ⟨0, _⟩ => show win0_2.index t 0 * 1 + 1 * 0 = _; rw [hi.1]; rfl
    | ⟨1, _⟩ => show win0_2.index t 1 * 1 + 1 * 0 = _; rw [hi.2.1]; rfl
    | ⟨2, _⟩ => show win0_2.index t 2 * 1024 + 1 * k.val = _; rw [hi.2.2]; show _ = k.val; omega
  · pointwise []

theorem N0 : cfg0.N = 2 := N_0

/-- The two gradients of a point's rows. -/
theorem outs_34 (c : Dev nD) (t : Fin cfg0.N) :
    (outsAt0 m c t.val t.isLt).1 = k0_pay8 (F := Ideal) (iblk m c 0 t) (iblk m c 1 t) (iblk m c 2 t)
    ∧ (outsAt0 m c t.val t.isLt).2.1 = k0_pay9 (F := Ideal) (iblk m c 0 t) (iblk m c 1 t) (iblk m c 2 t) := by
  by_cases h : t.val % 2 = 0
  · rw [outsAt0_A m c t h]; dsimp only
    exact ⟨(out_A ..).1, (out_A ..).2.1⟩
  · rw [outsAt0_B m c t h]; dsimp only
    exact ⟨(out_B ..).1, (out_B ..).2.1⟩

/-- The sums over the rows of both points. -/
theorem outs_56 (c : Dev nD) (h0 : 0 < cfg0.N) (h1 : 1 < cfg0.N) :
    (outsAt0 m c 1 h1).2.2.1 = k0_pay3 (F := Ideal) (iblk m c 0 ⟨1, h1⟩) (k0_pay7 (iblk m c 1 ⟨1, h1⟩)) (k0_pay3 (F := Ideal) (iblk m c 0 ⟨0, h0⟩) (k0_pay7 (iblk m c 1 ⟨0, h0⟩)) (k0_pay1 (F := Ideal)))
    ∧ (outsAt0 m c 1 h1).2.2.2 = k0_pay4 (F := Ideal) (iblk m c 0 ⟨1, h1⟩) (k0_pay4 (F := Ideal) (iblk m c 0 ⟨0, h0⟩) (k0_pay2 (F := Ideal))) := by
  have e0 := outsAt0_A m c ⟨0, h0⟩ (by dsimp only)
  have e1 := outsAt0_B m c ⟨1, h1⟩ (by dsimp only; omega)
  rw [e1]
  dsimp only
  rw [show outsAt0 m c (1 - 1) _ = outsAt0 m c 0 h0 from rfl, e0]
  dsimp only
  rw [(out_B ..).2.2.1, (out_B ..).2.2.2, (out_A ..).2.2.1, (out_A ..).2.2.2]
  exact ⟨rfl, rfl⟩

theorem flushed_one {w : Fin cfg0.W} (hw : ∀ t : Fin cfg0.N, (cfg0.win w).flush t = true ↔ t.val % 2 = 1) (t t' : Fin cfg0.N)
    (h : (cfg0.win w).flush t = true) (h' : (cfg0.win w).flush t' = true) (hne : t ≠ t') :
    Disjoint ((cfg0.win w).blk t).view.set ((cfg0.win w).blk t').view.set := by
  refine absurd (Fin.ext ?_) hne
  have a := (hw t).1 h
  have b := (hw t').1 h'
  have ha := lt_of_lt_of_eq t.isLt N0
  have hb := lt_of_lt_of_eq t'.isLt N0
  generalize t.val = u at *
  generalize t'.val = v at *
  omega

theorem arr_3 (c : Dev nD) (t : Fin cfg0.N) (r k : Fin 1024) (R : Fin 2048) (hR : R.val = t.val * 1024 + r.val) :
    ((dats m 0 c).arrAt 3 cfg0.N : FVec Ideal S2048x1024 .f32) (ix2 R k) = (outsAt0 m c t.val t.isLt).1 (ix2 r k) := by
  have hi : win0_3.index t 0 = t.val ∧ win0_3.index t 1 = 0 := by
    clear hR; revert t; exact (by decide +kernel : ∀ t : Fin grid0.N, win0_3.index t 0 = t.val ∧ win0_3.index t 1 = 0)
  have h := congrFun (blocks3 m c t (flush0_3 t)) (ix2 r k)
  rw [View.read_apply, flushed3] at h
  refine Eq.trans (congrArg (dats m 0 c |>.arrAt 3 cfg0.N) ?_) h
  funext a
  apply Fin.ext
  match a with
  | ⟨0, _⟩ => show _ = win0_3.index t 0 * 1024 + 1 * r.val; rw [hi.1]; show R.val = _; omega
  | ⟨1, _⟩ => show _ = win0_3.index t 1 * 1024 + 1 * k.val; rw [hi.2]; show k.val = _; omega

theorem arr_4 (c : Dev nD) (t : Fin cfg0.N) (r k : Fin 1024) (R : Fin 2048) (hR : R.val = t.val * 1024 + r.val) :
    ((dats m 0 c).arrAt 4 cfg0.N : FVec Ideal S2048x1024 .bf16) (ix2 R k) = (outsAt0 m c t.val t.isLt).2.1 (ix2 r k) := by
  have hi : win0_4.index t 0 = t.val ∧ win0_4.index t 1 = 0 := by
    clear hR; revert t; exact (by decide +kernel : ∀ t : Fin grid0.N, win0_4.index t 0 = t.val ∧ win0_4.index t 1 = 0)
  have h := congrFun (blocks4 m c t (flush0_4 t)) (ix2 r k)
  rw [View.read_apply, flushed4] at h
  refine Eq.trans (congrArg (dats m 0 c |>.arrAt 4 cfg0.N) ?_) h
  funext a
  apply Fin.ext
  match a with
  | ⟨0, _⟩ => show _ = win0_4.index t 0 * 1024 + 1 * r.val; rw [hi.1]; show R.val = _; omega
  | ⟨1, _⟩ => show _ = win0_4.index t 1 * 1024 + 1 * k.val; rw [hi.2]; show k.val = _; omega

theorem arr_5 (c : Dev nD) (h1 : 1 < cfg0.N) (k : Fin 1024) :
    ((dats m 0 c).arrAt 5 cfg0.N : FVec Ideal S1x1024 .f32) (ix2 0 k) = (outsAt0 m c 1 h1).2.2.1 (ix2 0 k) := by
  have h := congrFun ((dats m 0 c).read_blk_arrAt_eq_flushed 5 (flushed_one flush0_5) cfg0.N ⟨1, h1⟩ h1 ((flush0_5 _).2 (by dsimp only))) (ix2 0 k)
  rw [View.read_apply, flushed5] at h
  refine Eq.trans (congrArg (dats m 0 c |>.arrAt 5 cfg0.N) ?_) h
  funext a
  apply Fin.ext
  match a with
  | ⟨0, _⟩ => rfl
  | ⟨1, _⟩ => show k.val = 0 * 1024 + 1 * k.val; omega

theorem arr_6 (c : Dev nD) (h1 : 1 < cfg0.N) (k : Fin 1024) :
    ((dats m 0 c).arrAt 6 cfg0.N : FVec Ideal S1x1024 .f32) (ix2 0 k) = (outsAt0 m c 1 h1).2.2.2 (ix2 0 k) := by
  have h := congrFun ((dats m 0 c).read_blk_arrAt_eq_flushed 6 (flushed_one flush0_6) cfg0.N ⟨1, h1⟩ h1 ((flush0_6 _).2 (by dsimp only))) (ix2 0 k)
  rw [View.read_apply, flushed6] at h
  refine Eq.trans (congrArg (dats m 0 c |>.arrAt 6 cfg0.N) ?_) h
  funext a
  apply Fin.ext
  match a with
  | ⟨0, _⟩ => rfl
  | ⟨1, _⟩ => show k.val = 0 * 1024 + 1 * k.val; omega

section Finite
variable (c : Dev nD) (D Z : S2048x1024.Idx → ℝ) (G : Fin 1024 → ℝ)
  (hD : ∀ i, dy m c i = (D i : EReal)) (hZ : ∀ i, xin m c i = (Z i : EReal)) (hG : ∀ k, gam m c (ix2 3 k) = (G k : EReal))
include hD hZ hG

theorem pay8_coe (t : Fin cfg0.N) (r k : Fin 1024) (R : Fin 2048) (hR : R.val = t.val * 1024 + r.val) :
    k0_pay8 (F := Ideal) (iblk m c 0 t) (iblk m c 1 t) (iblk m c 2 t) (ix2 r k)
      = (grad (fun j => Z (ix2 R j)) (fun j => D (ix2 R j) * G j) k : EReal) := by
  have e0 := fun j => (iblk_0 m c t r j R hR).trans (hD _)
  have e1 := fun j => (iblk_1 m c t r j R hR).trans (hZ _)
  have e2 := fun j => (iblk_2 m c t j).trans (hG _)
  generalize (iblk m c 0 t : Vec Ideal S1024x1024 .f32) = x at *
  generalize (iblk m c 1 t : Vec Ideal S1024x1024 .f32) = z at *
  generalize (iblk m c 2 t : Vec Ideal S1x1x1024 .f32) = g at *
  pointwise [k0_pay8, k0_pay7, k0_pay6, k0_pay5, w_1024, w_eps]
  simp only [e0, e1, e2]
  simp only [cen_coe (fun j => Z (ix2 R j)), var_coe, rstd_coe]
  simp only [Ideal.div_coe (show (1024 : ℝ) ≠ 0 by norm_num), ← EReal.coe_mul, ← EReal.coe_sub, ← coe_sum]
  rfl

theorem xhat_coe (t : Fin cfg0.N) (r k : Fin 1024) (R : Fin 2048) (hR : R.val = t.val * 1024 + r.val) :
    k0_pay7 (F := Ideal) (iblk m c 1 t) (ix2 r k) = (cen (fun j => Z (ix2 R j)) k * rstd (cen fun j => Z (ix2 R j)) : EReal) := by
  have e1 := fun j => (iblk_1 m c t r j R hR).trans (hZ _)
  generalize (iblk m c 1 t : Vec Ideal S1024x1024 .f32) = z at *
  pointwise [k0_pay7, k0_pay6, k0_pay5, w_1024, w_eps]
  simp only [e1]
  simp only [cen_coe (fun j => Z (ix2 R j)), var_coe, rstd_coe]

end Finite

theorem pay3_apply (x y : FVec Ideal S1024x1024 .f32) (acc : FVec Ideal S1x1024 .f32) (k : Fin 1024) :
    k0_pay3 (F := Ideal) x y acc (ix2 0 k) = acc (ix2 0 k) + ∑ r : Fin 1024, x (ix2 r k) * y (ix2 r k) := by
  pointwise [k0_pay3]

theorem pay4_apply (x : FVec Ideal S1024x1024 .f32) (acc : FVec Ideal S1x1024 .f32) (k : Fin 1024) :
    k0_pay4 (F := Ideal) x acc (ix2 0 k) = acc (ix2 0 k) + ∑ r : Fin 1024, x (ix2 r k) := by
  pointwise [k0_pay4]

/-- The shift's gradient: the cotangent summed over all rows. -/
theorem dbeta (c : Dev nD) (k : Fin 1024) :
    ((dats m 0 c).arrAt 6 cfg0.N : FVec Ideal S1x1024 .f32) (ix2 0 k) = ∑ r : Fin 2048, dy m c (ix2 r k) := by
  have h0 : 0 < cfg0.N := by rw [N0]; omega
  have h1 : 1 < cfg0.N := by rw [N0]; omega
  rw [arr_6 m c h1, (outs_56 m c h0 h1).2, pay4_apply, pay4_apply, Fin.sum_univ_two_halves 1024 1024 rfl]
  have hz : k0_pay2 (F := Ideal) (ix2 0 k) = 0 := by pointwise [k0_pay2]
  rw [hz, zero_add]
  congr 1
  · refine Finset.sum_congr rfl fun r _ => ?_
    rw [iblk_0 m c ⟨0, h0⟩ r k ⟨0 + r.val, by omega⟩ (by dsimp only)]
    simp
  · refine Finset.sum_congr rfl fun r _ => ?_
    rw [iblk_0 m c ⟨1, h1⟩ r k ⟨1024 + r.val, by omega⟩ (by dsimp only)]

section Finite
variable (c : Dev nD) (D Z : S2048x1024.Idx → ℝ) (G : Fin 1024 → ℝ)
  (hD : ∀ i, dy m c i = (D i : EReal)) (hZ : ∀ i, xin m c i = (Z i : EReal)) (hG : ∀ k, gam m c (ix2 3 k) = (G k : EReal))
include hD hZ hG

/-- The scale's gradient: the cotangent times the normalised row, summed over all rows. -/
theorem dgamma (k : Fin 1024) :
    ((dats m 0 c).arrAt 5 cfg0.N : FVec Ideal S1x1024 .f32) (ix2 0 k)
      = ∑ r : Fin 2048, (D (ix2 r k) : EReal) * ((cen (fun j => Z (ix2 r j)) k : EReal) * (rstd (cen fun j => Z (ix2 r j)) : EReal)) := by
  have h0 : 0 < cfg0.N := by rw [N0]; omega
  have h1 : 1 < cfg0.N := by rw [N0]; omega
  rw [arr_5 m c h1, (outs_56 m c h0 h1).1, pay3_apply, pay3_apply, Fin.sum_univ_two_halves 1024 1024 rfl]
  have hz : k0_pay1 (F := Ideal) (ix2 0 k) = 0 := by pointwise [k0_pay1]
  rw [hz, zero_add]
  congr 1
  · refine Finset.sum_congr rfl fun r _ => ?_
    rw [iblk_0 m c ⟨0, h0⟩ r k ⟨0 + r.val, by omega⟩ (by dsimp only), xhat_coe m c D Z G hD hZ hG ⟨0, h0⟩ r k ⟨0 + r.val, by omega⟩ (by dsimp only), hD]
    simp
  · refine Finset.sum_congr rfl fun r _ => ?_
    rw [iblk_0 m c ⟨1, h1⟩ r k ⟨1024 + r.val, by omega⟩ (by dsimp only), xhat_coe m c D Z G hD hZ hG ⟨1, h1⟩ r k ⟨1024 + r.val, by omega⟩ (by dsimp only), hD]

/-- The input's gradient. -/
theorem dx (R : Fin 2048) (k : Fin 1024) :
    ((dats m 0 c).arrAt 3 cfg0.N : FVec Ideal S2048x1024 .f32) (ix2 R k) = (grad (fun j => Z (ix2 R j)) (fun j => D (ix2 R j) * G j) k : EReal)
    ∧ ((dats m 0 c).arrAt 4 cfg0.N : FVec Ideal S2048x1024 .bf16) (ix2 R k) = (grad (fun j => Z (ix2 R j)) (fun j => D (ix2 R j) * G j) k : EReal) := by
  have hlt : R.val / 1024 < cfg0.N := lt_of_lt_of_eq (by omega) N0.symm
  have hR : R.val = R.val / 1024 * 1024 + R.val % 1024 := by omega
  have hp := pay8_coe m c D Z G hD hZ hG ⟨R.val / 1024, hlt⟩ ⟨R.val % 1024, by omega⟩ k R hR
  constructor
  · rw [arr_3 m c ⟨R.val / 1024, hlt⟩ ⟨R.val % 1024, by omega⟩ k R hR, (outs_34 m c _).1]
    exact hp
  · rw [arr_4 m c ⟨R.val / 1024, hlt⟩ ⟨R.val % 1024, by omega⟩ k R hR, (outs_34 m c _).2]
    exact hp

end Finite

end Cert.Ln.K

namespace Cert.Ln.R

open Cert.LnReferenceIdeal Cert.LnReferenceIdeal.Gen Cert.LnReferenceIdeal.Value Idealize.ShloMosaic Idealize.ShloMosaic.TcCoe Idealize.SL.Sem Cert.Common Cert.LayerNorm

variable (m : (ℓ : Loc nD τ sig) → Buf (Elt Ideal) ℓ)

theorem dbeta (x : FVec Ideal S2048x1024 .f32) (k : Fin 1024) : Read.val_main_v69 (F := Ideal) x (ix2 0 k) = ∑ r : Fin 2048, x (ix2 r k) := by
  rw [← Read.val_main_v69_eq]
  pointwise []
  simp only [Finset.univ_unique, Finset.sum_singleton]

section Finite
variable (c : Dev nD) (D Z : S2048x1024.Idx → ℝ) (G : Fin 1024 → ℝ)
  (hD : ∀ i, (m ((c : Thread nD τ).loc main_arg0)) i = (D i : EReal)) (hZ : ∀ i, (m ((c : Thread nD τ).loc main_arg1)) i = (Z i : EReal))
  (hG : ∀ k, (m ((c : Thread nD τ).loc main_arg2)) (ix2 3 k) = (G k : EReal))
include hD hZ hG

theorem dx (r : Fin 2048) (k : Fin 1024) :
    (res_main_v66 m c : FVec Ideal S2048x1024 .f32) (ix2 r k) = (grad (fun j => Z (ix2 r j)) (fun j => D (ix2 r j) * G j) k : EReal) := by
  unfold res_main_v66
  pointwise [w_1024, w_eps, w_two, w_neg_half]
  simp only [hD, hZ, hG]
  simp only [cen_coe (fun j => Z (ix2 r j)), var_coe, rstd_coe, rstd_div_coe, Finset.univ_unique, Finset.sum_singleton]
  simp only [Ideal.div_coe (show (1024 : ℝ) ≠ 0 by norm_num), ← EReal.coe_mul, ← EReal.coe_neg, ← coe_sum, ← EReal.coe_add]
  rw [EReal.coe_eq_coe_iff]
  exact chain_eq (fun j => Z (ix2 r j)) (fun j => D (ix2 r j) * G j) k

theorem dx_cast (r : Fin 2048) (k : Fin 1024) :
    (res_main_v67 m c : FVec Ideal S2048x1024 .bf16) (ix2 r k) = (grad (fun j => Z (ix2 r j)) (fun j => D (ix2 r j) * G j) k : EReal) :=
  dx m c D Z G hD hZ hG r k

theorem dgamma (k : Fin 1024) :
    Read.val_main_v68 (F := Ideal) (m ((c : Thread nD τ).loc main_arg0)) (m ((c : Thread nD τ).loc main_arg1)) (ix2 0 k)
      = ∑ r : Fin 2048, (D (ix2 r k) : EReal) * ((cen (fun j => Z (ix2 r j)) k : EReal) * (rstd (cen fun j => Z (ix2 r j)) : EReal)) := by
  rw [← Read.val_main_v68_eq]
  pointwise [w_1024, w_eps]
  simp only [Finset.univ_unique, Finset.sum_singleton]
  refine Finset.sum_congr rfl fun r _ => ?_
  simp only [hD, hZ]
  simp only [cen_coe (fun j => Z (ix2 r j)), var_coe, rstd_coe]
  rw [mul_comm]

end Finite

end Cert.Ln.R

namespace Cert.Ln

open Idealize.ShloMosaic Idealize.ShloMosaic.TcCoe Idealize.SL.Sem Cert.Common

theorem pre_facts : Cert.Pre_finite_ln.Facts where
  bcast_S_S2048x1024 := by decide
  reducesTo_S2048x1024_S_d0_1 := by decide
  h_S_ := by decide
  slices_S4x1024_S1x1024_3_0 := by decide
  shapeCasts_S1x1024_S1024 := by decide
  bcast_S_S1024 := by decide
  reducesTo_S1024_S_d0 := by decide

/-- What the precondition says: the cotangent, the input and the scales are real numbers. -/
theorem reals [Cert.Pre_finite_ln.Facts] {d z : FVec Ideal ⟨2, ![2048, 1024]⟩ .f32} {g b : FVec Ideal ⟨2, ![4, 1024]⟩ .f32}
    (h : Cert.Pre_finite_ln.fn (F := Ideal) d z g b = fun _ => 1#1) :
    (∃ D : (⟨2, ![2048, 1024]⟩ : Shape).Idx → ℝ, ∀ i, d i = (D i : EReal)) ∧ (∃ Z : (⟨2, ![2048, 1024]⟩ : Shape).Idx → ℝ, ∀ i, z i = (Z i : EReal))
    ∧ ∃ G : Fin 1024 → ℝ, ∀ k, g (ix2 3 k) = (G k : EReal) := by
  have h0 := congrFun h ix0
  obtain ⟨h1, hg⟩ := IntOp.andi_eq_one.1 h0
  obtain ⟨hd, hz⟩ := IntOp.andi_eq_one.1 h1
  refine ⟨reals_of_all _ _ _ (fun _ => w_inf) _ _ _ hd, reals_of_all _ _ _ (fun _ => w_inf) _ _ _ hz, ?_⟩
  obtain ⟨G, hG⟩ := reals_of_all _ _ _ (fun _ => w_inf) _ _ _ hg
  refine ⟨fun k => G (ix1 k), fun k => Eq.trans ?_ (hG (ix1 k))⟩
  pointwise []

theorem frame_reference : Cert.quiescent_LnReferenceIdeal := fun m g _ =>
  (θ_run Cert.LnReferenceIdeal.defs _ _).mono (fun r h => ⟨fun c => (h c).2.2.2.2, sem_eq_zero_of_no_sems (by decide) r.2⟩)
    (LnReferenceIdeal.Value.run m g)

theorem value : Cert.algebraic_LnKernelIdeal_LnReferenceIdeal_pre_finite_ln (hPre_finite_ln := pre_facts) := by
  intro m g m' g' hp hm
  refine ⟨_, _, _, _, LnKernelIdeal.Value.run_blocks m g,
    (θ_run _ _ _).mono (fun r h c => ?_) (LnReferenceIdeal.Value.run m' g')⟩
  obtain ⟨h0, h1, h2, h3, hk⟩ := h c
  obtain ⟨e0, e1, e2, e3⟩ := hm c
  obtain ⟨⟨D, hD⟩, ⟨Z, hZ⟩, G, hG⟩ := @reals pre_facts _ _ _ _ (hp c)
  have hD' := fun i => (congrFun e0 i).trans (hD i)
  have hZ' := fun i => (congrFun e1 i).trans (hZ i)
  have hG' := fun k => (congrFun e2 (ix2 3 k)).trans (hG k)
  refine ⟨h0.trans ?_, h1.trans ?_, (h2.trans (LnReferenceIdeal.Read.val_main_v68_eq _ _)).trans ?_, (h3.trans (LnReferenceIdeal.Read.val_main_v69_eq _)).trans ?_, hk⟩
  · funext i
    rw [eq_ix2 i]
    exact (R.dx m' c D Z G hD' hZ' hG' _ _).trans (K.dx m c D Z G hD hZ hG _ _).1.symm
  · funext i
    rw [eq_ix2 i]
    exact (R.dx_cast m' c D Z G hD' hZ' hG' _ _).trans (K.dx m c D Z G hD hZ hG _ _).2.symm
  · funext i
    rw [eq_ix2 i, show i 0 = (0 : Fin 1) from Subsingleton.elim (α := Fin 1) _ _]
    exact (R.dgamma m' c D Z G hD' hZ' hG' _).trans (K.dgamma m c D Z G hD hZ hG _).symm
  · rw [e0]
    funext i
    rw [eq_ix2 i, show i 0 = (0 : Fin 1) from Subsingleton.elim (α := Fin 1) _ _]
    exact (R.dbeta _ _).trans (K.dbeta m c _).symm

end Cert.Ln
end
-- ==== Proof.LnRes.lean ====
/- The layer norm's backward pass where the output also feeds a scaled residual: two cotangents meet in one sum. -/
module

public import proofs.«01_k».proof.Defs
public import proofs.«01_k».proof.Proof.LayerNorm
public import Idealize.ShloMosaic.Lib.Quiescent
public import proofs.«01_k».proof.Proof.Gen.LnResKernelIdeal.Value
public import proofs.«01_k».proof.Proof.Gen.LnResReferenceIdeal.Run
public import proofs.«01_k».proof.Proof.Gen.LnResReferenceIdeal.Read

@[expose] public section

set_option maxRecDepth 16384

noncomputable section

namespace Cert.LnRes.K

open Cert.LnResKernelIdeal Cert.LnResKernelIdeal.Gen Cert.LnResKernelIdeal.Value Idealize.ShloMosaic Idealize.ShloMosaic.TcCoe Idealize.SL.Sem Cert.Common Cert.LayerNorm

section Cases
variable {F : FTy → Type} [FloatOps F]
variable (c : Dev nD) (i : grid0.Coords) (a1 : Memref sig .tc .vmem S1024x1024 .f32) (h1 : a1.IsWhole)
  (a2 : Memref sig .tc .vmem S1024x1024 .f32) (h2 : a2.IsWhole) (a3 : Memref sig .tc .vmem S1024x1024 .f32) (h3 : a3.IsWhole)
  (a4 : Memref sig .tc .vmem S1x1x1024 .f32) (h4 : a4.IsWhole) (a5 : Memref sig .tc .vmem S8x128 .f32) (h5 : a5.IsWhole)
  (a6 : Memref sig .tc .vmem S1024x1024 .f32) (h6 : a6.IsWhole) (a7 : Memref sig .tc .vmem S1024x1024 .bf16) (h7 : a7.IsWhole)
  (a8 : Memref sig .tc .vmem S1x1024 .f32) (h8 : a8.IsWhole) (a9 : Memref sig .tc .vmem S1x1024 .f32) (h9 : a9.IsWhole)
  (d r z : Vec F S1024x1024 .f32) (g : Vec F S1x1x1024 .f32) (dep : Vec F S8x128 .f32) (dg db : Vec F S1x1024 .f32)

theorem out_A (hc : cond0_0 i) :
    out0_A_5 c i a1 h1 a2 h2 a3 h3 a4 h4 a5 h5 a6 h6 a7 h7 a8 h8 a9 h9 hc d r z g dep = k0_pay1 (k0_pay9 z) (k0_pay11 d r z g)
    ∧ out0_A_6 c i a1 h1 a2 h2 a3 h3 a4 h4 a5 h5 a6 h6 a7 h7 a8 h8 a9 h9 hc d r z g dep = k0_pay2 (k0_pay9 z) (k0_pay11 d r z g)
    ∧ out0_A_7 c i a1 h1 a2 h2 a3 h3 a4 h4 a5 h5 a6 h6 a7 h7 a8 h8 a9 h9 hc d r z g dep = k0_pay5 (k0_pay7 d r) (k0_pay10 z) k0_pay3
    ∧ out0_A_8 c i a1 h1 a2 h2 a3 h3 a4 h4 a5 h5 a6 h6 a7 h7 a8 h8 a9 h9 hc d r z g dep = k0_pay6 (k0_pay7 d r) k0_pay4 := by
  refine ⟨?_, ?_, ?_, ?_⟩
  · unfold out0_A_5
    rw [View.read_writes_eq_canon _ _ _ (cover0_A_5 c i a1 h1 a2 h2 a3 h3 a4 h4 a5 h5 a6 h6 a7 h7 a8 h8 a9 h9 hc d r z g dep)]
    unfold kernelRun0_A
    dsimp only
    sl_unfold_words
    rw [View.canon_unit_zero hz2]
    simp only [View.readAt_eq_ld, h1.read_unread, h2.read_unread, h3.read_unread, h4.read_unread, View.ld_unit_zero (S := S1024x1024) hz2, View.ld_unit_zero (S := S1x1x1024) hz3]
  · unfold out0_A_6
    rw [View.read_writes_eq_canon _ _ _ (cover0_A_6 c i a1 h1 a2 h2 a3 h3 a4 h4 a5 h5 a6 h6 a7 h7 a8 h8 a9 h9 hc d r z g dep)]
    unfold kernelRun0_A
    dsimp only
    sl_unfold_words
    rw [View.canon_unit_zero hz2]
    simp only [View.readAt_eq_ld, h1.read_unread, h2.read_unread, h3.read_unread, h4.read_unread, View.ld_unit_zero (S := S1024x1024) hz2, View.ld_unit_zero (S := S1x1x1024) hz3]
  · unfold out0_A_7
    rw [View.read_writes_eq_canon _ _ _ (cover0_A_7 c i a1 h1 a2 h2 a3 h3 a4 h4 a5 h5 a6 h6 a7 h7 a8 h8 a9 h9 hc d r z g dep)]
    unfold kernelRun0_A
    dsimp only
    sl_unfold_words
    rw [View.canon_cons_unit_zero (S := S1x1024) hz2, View.readCov_unit_zero (S := S1x1024) _ hz2]
    simp only [View.readAt_eq_ld, h1.read_unread, h2.read_unread, h3.read_unread, h4.read_unread, View.ld_unit_zero (S := S1024x1024) hz2]
  · unfold out0_A_8
    rw [View.read_writes_eq_canon _ _ _ (cover0_A_8 c i a1 h1 a2 h2 a3 h3 a4 h4 a5 h5 a6 h6 a7 h7 a8 h8 a9 h9 hc d r z g dep)]
    unfold kernelRun0_A
    dsimp only
    sl_unfold_words
    rw [View.canon_cons_unit_zero (S := S1x1024) hz2, View.readCov_unit_zero (S := S1x1024) _ hz2]
    simp only [View.readAt_eq_ld, h1.read_unread, h2.read_unread, h3.read_unread, h4.read_unread, View.ld_unit_zero (S := S1024x1024) hz2]

theorem out_B (hc : ¬cond0_0 i) :
    out0_B_5 c i a1 h1 a2 h2 a3 h3 a4 h4 a5 h5 a6 h6 a7 h7 a8 h8 a9 h9 hc d r z g dep dg db = k0_pay1 (k0_pay9 z) (k0_pay11 d r z g)
    ∧ out0_B_6 c i a1 h1 a2 h2 a3 h3 a4 h4 a5 h5 a6 h6 a7 h7 a8 h8 a9 h9 hc d r z g dep dg db = k0_pay2 (k0_pay9 z) (k0_pay11 d r z g)
    ∧ out0_B_7 c i a1 h1 a2 h2 a3 h3 a4 h4 a5 h5 a6 h6 a7 h7 a8 h8 a9 h9 hc d r z g dep dg db = k0_pay5 (k0_pay7 d r) (k0_pay10 z) dg
    ∧ out0_B_8 c i a1 h1 a2 h2 a3 h3 a4 h4 a5 h5 a6 h6 a7 h7 a8 h8 a9 h9 hc d r z g dep dg db = k0_pay6 (k0_pay7 d r) db := by
  refine ⟨?_, ?_, ?_, ?_⟩
  · unfold out0_B_5
    rw [View.read_writes_eq_canon _ _ _ (cover0_B_5 c i a1 h1 a2 h2 a3 h3 a4 h4 a5 h5 a6 h6 a7 h7 a8 h8 a9 h9 hc d r z g dep dg db)]
    unfold kernelRun0_B
    dsimp only
    sl_unfold_words
    rw [View.canon_unit_zero hz2]
    simp only [View.readAt_eq_ld, h1.read_unread, h2.read_unread, h3.read_unread, h4.read_unread, View.ld_unit_zero (S := S1024x1024) hz2, View.ld_unit_zero (S := S1x1x1024) hz3]
  · unfold out0_B_6
    rw [View.read_writes_eq_canon _ _ _ (cover0_B_6 c i a1 h1 a2 h2 a3 h3 a4 h4 a5 h5 a6 h6 a7 h7 a8 h8 a9 h9 hc d r z g dep dg db)]
    unfold kernelRun0_B
    dsimp only
    sl_unfold_words
    rw [View.canon_unit_zero hz2]
    simp only [View.readAt_eq_ld, h1.read_unread, h2.read_unread, h3.read_unread, h4.read_unread, View.ld_unit_zero (S := S1024x1024) hz2, View.ld_unit_zero (S := S1x1x1024) hz3]
  · unfold out0_B_7
    rw [View.read_writes_eq_canon _ _ _ (cover0_B_7 c i a1 h1 a2 h2 a3 h3 a4 h4 a5 h5 a6 h6 a7 h7 a8 h8 a9 h9 hc d r z g dep dg db)]
    unfold kernelRun0_B
    dsimp only
    sl_unfold_words
    rw [View.canon_unit_zero hz2]
    simp only [View.readAt_eq_ld, h1.read_unread, h2.read_unread, h3.read_unread, h8.read_unread, View.ld_unit_zero (S := S1024x1024) hz2, View.ld_unit_zero (S := S1x1024) hz2]
  · unfold out0_B_8
    rw [View.read_writes_eq_canon _ _ _ (cover0_B_8 c i a1 h1 a2 h2 a3 h3 a4 h4 a5 h5 a6 h6 a7 h7 a8 h8 a9 h9 hc d r z g dep dg db)]
    unfold kernelRun0_B
    dsimp only
    sl_unfold_words
    rw [View.canon_unit_zero hz2]
    simp only [View.readAt_eq_ld, h1.read_unread, h2.read_unread, h3.read_unread, h9.read_unread, View.ld_unit_zero (S := S1024x1024) hz2, View.ld_unit_zero (S := S1x1024) hz2]

end Cases

variable (m : (ℓ : Loc nD τ sig) → Buf (Elt Ideal) ℓ)

/-- The two cotangents, the forward pass's input and the scales. -/
abbrev dy (c : Dev nD) : FVec Ideal S2048x1024 .f32 := m ((c : Thread nD τ).loc main_arg0)
abbrev dres (c : Dev nD) : FVec Ideal S2048x1024 .f32 := m ((c : Thread nD τ).loc main_arg1)
abbrev xin (c : Dev nD) : FVec Ideal S2048x1024 .f32 := m ((c : Thread nD τ).loc main_arg2)
abbrev gam (c : Dev nD) : FVec Ideal S4x1024 .f32 := m ((c : Thread nD τ).loc main_arg3)

theorem iblk_0 (c : Dev nD) (t : Fin cfg0.N) (r k : Fin 1024) (R : Fin 2048) (hR : R.val = t.val * 1024 + r.val) :
    (iblk m c 0 t : Vec Ideal S1024x1024 .f32) (ix2 r k) = dy m c (ix2 R k) := by
  have hi : win0_0.index t 0 = t.val ∧ win0_0.index t 1 = 0 := by
    clear hR; revert t; exact (by decide +kernel : ∀ t : Fin grid0.N, win0_0.index t 0 = t.val ∧ win0_0.index t 1 = 0)
  unfold iblk
  rw [View.read_apply]
  show V m c main_arg0 _ = _
  rw [V_main_arg0]
  show dy m c _ = _
  congr 1
  funext a
  apply Fin.ext
  match a with
  | ⟨0, _⟩ => show win0_0.index t 0 * 1024 + 1 * r.val = _; rw [hi.1]; show _ = R.val; omega
  | ⟨1, _⟩ => show win0_0.index t 1 * 1024 + 1 * k.val = _; rw [hi.2]; show _ = k.val; omega

theorem iblk_1 (c : Dev nD) (t : Fin cfg0.N) (r k : Fin 1024) (R : Fin 2048) (hR : R.val = t.val * 1024 + r.val) :
    (iblk m c 1 t : Vec Ideal S1024x1024 .f32) (ix2 r k) = dres m c (ix2 R k) := by
  have hi : win0_1.index t 0 = t.val ∧ win0_1.index t 1 = 0 := by
    clear hR; revert t; exact (by decide +kernel : ∀ t : Fin grid0.N, win0_1.index t 0 = t.val ∧ win0_1.index t 1 = 0)
  unfold iblk
  rw [View.read_apply]
  show V m c main_arg1 _ = _
  rw [V_main_arg1]
  show dres m c _ = _
  congr 1
  funext a
  apply Fin.ext
  match a with
  | ⟨0, _⟩ => show win0_1.index t 0 * 1024 + 1 * r.val = _; rw [hi.1]; show _ = R.val; omega
  | ⟨1, _⟩ => show win0_1.index t 1 * 1024 + 1 * k.val = _; rw [hi.2]; show _ = k.val; omega

theorem iblk_2 (c : Dev nD) (t : Fin cfg0.N) (r k : Fin 1024) (R : Fin 2048) (hR : R.val = t.val * 1024 + r.val) :
    (iblk m c 2 t : Vec Ideal S1024x1024 .f32) (ix2 r k) = xin m c (ix2 R k) := by
  have hi : win0_2.index t 0 = t.val ∧ win0_2.index t 1 = 0 := by
    clear hR; revert t; exact (by decide +kernel : ∀ t : Fin grid0.N, win0_2.index t 0 = t.val ∧ win0_2.index t 1 = 0)
  unfold iblk
  rw [View.read_apply]
  show V m c main_arg2 _ = _
  rw [V_main_arg2]
  show xin m c _ = _
  congr 1
  funext a
  apply Fin.ext
  match a with
  | ⟨0, _⟩ => show win0_2.index t 0 * 1024 + 1 * r.val = _; rw [hi.1]; show _ = R.val; omega
  | ⟨1, _⟩ => show win0_2.index t 1 * 1024 + 1 * k.val = _; rw [hi.2]; show _ = k.val; omega

theorem V_scales (c : Dev nD) : (V m c main_v0 : FVec Ideal S4x1x1024 .f32) = shapeCast S4x1x1024 (gam m c) shapeCasts_S4x1024_S4x1x1024 := by
  unfold V
  after_results_simp
  rfl

theorem iblk_3 (c : Dev nD) (t : Fin cfg0.N) (k : Fin 1024) :
    (iblk m c 3 t : Vec Ideal S1x1x1024 .f32) (ix3 0 0 k) = gam m c (ix2 3 k) := by
  have hi : win0_3.index t 0 = 3 ∧ win0_3.index t 1 = 0 ∧ win0_3.index t 2 = 0 := by
    revert t; exact (by decide +kernel : ∀ t : Fin grid0.N, win0_3.index t 0 = 3 ∧ win0_3.index t 1 = 0 ∧ win0_3.index t 2 = 0)
  unfold iblk
  rw [View.read_apply]
  show (V m c main_v0 : FVec Ideal S4x1x1024 .f32) _ = _
  rw [V_scales]
  refine Eq.trans (congrArg (shapeCast S4x1x1024 (gam m c) shapeCasts_S4x1024_S4x1x1024) (a₂ := ix3 3 0 k) ?_) ?_
  · funext a
    apply Fin.ext
    match a with
    | ⟨0, _⟩ => show win0_3.index t 0 * 1 + 1 * 0 = _; rw [hi.1]; rfl
    | ⟨1, _⟩ => show win0_3.index t 1 * 1 + 1 * 0 = _; rw [hi.2.1]; rfl
    | ⟨2, _⟩ => show win0_3.index t 2 * 1024 + 1 * k.val = _; rw [hi.2.2]; show _ = k.val; omega
  · pointwise []

theorem N0 : cfg0.N = 2 := N_0

/-- The two gradients of a point's rows. -/
theorem outs_56 (c : Dev nD) (t : Fin cfg0.N) :
    (outsAt0 m c t.val t.isLt).1 = k0_pay1 (F := Ideal) (k0_pay9 (iblk m c 2 t)) (k0_pay11 (iblk m c 0 t) (iblk m c 1 t) (iblk m c 2 t) (iblk m c 3 t))
    ∧ (outsAt0 m c t.val t.isLt).2.1 = k0_pay2 (F := Ideal) (k0_pay9 (iblk m c 2 t)) (k0_pay11 (iblk m c 0 t) (iblk m c 1 t) (iblk m c 2 t) (iblk m c 3 t)) := by
  by_cases h : t.val % 2 = 0
  · rw [outsAt0_A m c t h]; dsimp only
    exact ⟨(out_A ..).1, (out_A ..).2.1⟩
  · rw [outsAt0_B m c t h]; dsimp only
    exact ⟨(out_B ..).1, (out_B ..).2.1⟩

/-- The sums over the rows of both points. -/
theorem outs_78 (c : Dev nD) (h0 : 0 < cfg0.N) (h1 : 1 < cfg0.N) :
    (outsAt0 m c 1 h1).2.2.1 = k0_pay5 (F := Ideal) (k0_pay7 (iblk m c 0 ⟨1, h1⟩) (iblk m c 1 ⟨1, h1⟩)) (k0_pay10 (iblk m c 2 ⟨1, h1⟩)) (k0_pay5 (F := Ideal) (k0_pay7 (iblk m c 0 ⟨0, h0⟩) (iblk m c 1 ⟨0, h0⟩)) (k0_pay10 (iblk m c 2 ⟨0, h0⟩)) (k0_pay3 (F := Ideal)))
    ∧ (outsAt0 m c 1 h1).2.2.2 = k0_pay6 (F := Ideal) (k0_pay7 (iblk m c 0 ⟨1, h1⟩) (iblk m c 1 ⟨1, h1⟩)) (k0_pay6 (F := Ideal) (k0_pay7 (iblk m c 0 ⟨0, h0⟩) (iblk m c 1 ⟨0, h0⟩)) (k0_pay4 (F := Ideal))) := by
  have e0 := outsAt0_A m c ⟨0, h0⟩ (by dsimp only)
  have e1 := outsAt0_B m c ⟨1, h1⟩ (by dsimp only; omega)
  rw [e1]
  dsimp only
  rw [show outsAt0 m c (1 - 1) _ = outsAt0 m c 0 h0 from rfl, e0]
  dsimp only
  rw [(out_B ..).2.2.1, (out_B ..).2.2.2, (out_A ..).2.2.1, (out_A ..).2.2.2]
  exact ⟨rfl, rfl⟩

theorem flushed_one {w : Fin cfg0.W} (hw : ∀ t : Fin cfg0.N, (cfg0.win w).flush t = true ↔ t.val % 2 = 1) (t t' : Fin cfg0.N)
    (h : (cfg0.win w).flush t = true) (h' : (cfg0.win w).flush t' = true) (hne : t ≠ t') :
    Disjoint ((cfg0.win w).blk t).view.set ((cfg0.win w).blk t').view.set := by
  refine absurd (Fin.ext ?_) hne
  have a := (hw t).1 h
  have b := (hw t').1 h'
  have ha := lt_of_lt_of_eq t.isLt N0
  have hb := lt_of_lt_of_eq t'.isLt N0
  generalize t.val = u at *
  generalize t'.val = v at *
  omega

theorem arr_5 (c : Dev nD) (t : Fin cfg0.N) (r k : Fin 1024) (R : Fin 2048) (hR : R.val = t.val * 1024 + r.val) :
    ((dats m 0 c).arrAt 5 cfg0.N : FVec Ideal S2048x1024 .f32) (ix2 R k) = (outsAt0 m c t.val t.isLt).1 (ix2 r k) := by
  have hi : win0_5.index t 0 = t.val ∧ win0_5.index t 1 = 0 := by
    clear hR; revert t; exact (by decide +kernel : ∀ t : Fin grid0.N, win0_5.index t 0 = t.val ∧ win0_5.index t 1 = 0)
  have h := congrFun (blocks5 m c t (flush0_5 t)) (ix2 r k)
  rw [View.read_apply, flushed5] at h
  refine Eq.trans (congrArg (dats m 0 c |>.arrAt 5 cfg0.N) ?_) h
  funext a
  apply Fin.ext
  match a with
  | ⟨0, _⟩ => show _ = win0_5.index t 0 * 1024 + 1 * r.val; rw [hi.1]; show R.val = _; omega
  | ⟨1, _⟩ => show _ = win0_5.index t 1 * 1024 + 1 * k.val; rw [hi.2]; show k.val = _; omega

theorem arr_6 (c : Dev nD) (t : Fin cfg0.N) (r k : Fin 1024) (R : Fin 2048) (hR : R.val = t.val * 1024 + r.val) :
    ((dats m 0 c).arrAt 6 cfg0.N : FVec Ideal S2048x1024 .bf16) (ix2 R k) = (outsAt0 m c t.val t.isLt).2.1 (ix2 r k) := by
  have hi : win0_6.index t 0 = t.val ∧ win0_6.index t 1 = 0 := by
    clear hR; revert t; exact (by decide +kernel : ∀ t : Fin grid0.N, win0_6.index t 0 = t.val ∧ win0_6.index t 1 = 0)
  have h := congrFun (blocks6 m c t (flush0_6 t)) (ix2 r k)
  rw [View.read_apply, flushed6] at h
  refine Eq.trans (congrArg (dats m 0 c |>.arrAt 6 cfg0.N) ?_) h
  funext a
  apply Fin.ext
  match a with
  | ⟨0, _⟩ => show _ = win0_6.index t 0 * 1024 + 1 * r.val; rw [hi.1]; show R.val = _; omega
  | ⟨1, _⟩ => show _ = win0_6.index t 1 * 1024 + 1 * k.val; rw [hi.2]; show k.val = _; omega

theorem arr_7 (c : Dev nD) (h1 : 1 < cfg0.N) (k : Fin 1024) :
    ((dats m 0 c).arrAt 7 cfg0.N : FVec Ideal S1x1024 .f32) (ix2 0 k) = (outsAt0 m c 1 h1).2.2.1 (ix2 0 k) := by
  have h := congrFun ((dats m 0 c).read_blk_arrAt_eq_flushed 7 (flushed_one flush0_7) cfg0.N ⟨1, h1⟩ h1 ((flush0_7 _).2 (by dsimp only))) (ix2 0 k)
  rw [View.read_apply, flushed7] at h
  refine Eq.trans (congrArg (dats m 0 c |>.arrAt 7 cfg0.N) ?_) h
  funext a
  apply Fin.ext
  match a with
  | ⟨0, _⟩ => rfl
  | ⟨1, _⟩ => show k.val = 0 * 1024 + 1 * k.val; omega

theorem arr_8 (c : Dev nD) (h1 : 1 < cfg0.N) (k : Fin 1024) :
    ((dats m 0 c).arrAt 8 cfg0.N : FVec Ideal S1x1024 .f32) (ix2 0 k) = (outsAt0 m c 1 h1).2.2.2 (ix2 0 k) := by
  have h := congrFun ((dats m 0 c).read_blk_arrAt_eq_flushed 8 (flushed_one flush0_8) cfg0.N ⟨1, h1⟩ h1 ((flush0_8 _).2 (by dsimp only))) (ix2 0 k)
  rw [View.read_apply, flushed8] at h
  refine Eq.trans (congrArg (dats m 0 c |>.arrAt 8 cfg0.N) ?_) h
  funext a
  apply Fin.ext
  match a with
  | ⟨0, _⟩ => rfl
  | ⟨1, _⟩ => show k.val = 0 * 1024 + 1 * k.val; omega

/-- The residual's scale, the fourth root of eight as the programs write it. -/
def alpha : ℝ := 14107901 / 8388608
theorem w_alpha : Ideal.ofBits .f32 0x3FD744FD#32 = (alpha : EReal) := by
  simp [Ideal.ofBits, Ideal.ieee, -EReal.coe_mul, alpha]; norm_num

theorem ct_apply (c : Dev nD) (t : Fin cfg0.N) (r k : Fin 1024) (R : Fin 2048) (hR : R.val = t.val * 1024 + r.val) :
    k0_pay7 (F := Ideal) (iblk m c 0 t) (iblk m c 1 t) (ix2 r k) = dy m c (ix2 R k) + (alpha : EReal) * dres m c (ix2 R k) := by
  have e0 := iblk_0 m c t r k R hR
  have e1 := iblk_1 m c t r k R hR
  generalize (iblk m c 0 t : Vec Ideal S1024x1024 .f32) = x at *
  generalize (iblk m c 1 t : Vec Ideal S1024x1024 .f32) = y at *
  pointwise [k0_pay7, w_alpha]
  rw [e0, e1]

theorem pay5_apply (x y : FVec Ideal S1024x1024 .f32) (acc : FVec Ideal S1x1024 .f32) (k : Fin 1024) :
    k0_pay5 (F := Ideal) x y acc (ix2 0 k) = acc (ix2 0 k) + ∑ r : Fin 1024, x (ix2 r k) * y (ix2 r k) := by
  pointwise [k0_pay5]

theorem pay6_apply (x : FVec Ideal S1024x1024 .f32) (acc : FVec Ideal S1x1024 .f32) (k : Fin 1024) :
    k0_pay6 (F := Ideal) x acc (ix2 0 k) = acc (ix2 0 k) + ∑ r : Fin 1024, x (ix2 r k) := by
  pointwise [k0_pay6]

/-- The shift's gradient: the summed cotangents, summed over all rows. -/
theorem dbeta (c : Dev nD) (k : Fin 1024) :
    ((dats m 0 c).arrAt 8 cfg0.N : FVec Ideal S1x1024 .f32) (ix2 0 k) = ∑ r : Fin 2048, (dy m c (ix2 r k) + (alpha : EReal) * dres m c (ix2 r k)) := by
  have h0 : 0 < cfg0.N := by rw [N0]; omega
  have h1 : 1 < cfg0.N := by rw [N0]; omega
  have hz : k0_pay4 (F := Ideal) (ix2 0 k) = 0 := by pointwise [k0_pay4]
  rw [arr_8 m c h1, (outs_78 m c h0 h1).2, pay6_apply, pay6_apply, Fin.sum_univ_two_halves 1024 1024 rfl, hz, zero_add]
  congr 1
  · refine Finset.sum_congr rfl fun r _ => ?_
    rw [ct_apply m c ⟨0, h0⟩ r k ⟨0 + r.val, by omega⟩ (by dsimp only)]
    simp
  · refine Finset.sum_congr rfl fun r _ => ?_
    rw [ct_apply m c ⟨1, h1⟩ r k ⟨1024 + r.val, by omega⟩ (by dsimp only)]

section Finite
variable (c : Dev nD) (D E Z : S2048x1024.Idx → ℝ) (G : Fin 1024 → ℝ)
  (hD : ∀ i, dy m c i = (D i : EReal)) (hE : ∀ i, dres m c i = (E i : EReal)) (hZ : ∀ i, xin m c i = (Z i : EReal))
  (hG : ∀ k, gam m c (ix2 3 k) = (G k : EReal))
include hD hE hZ hG

theorem pay1_coe (t : Fin cfg0.N) (r k : Fin 1024) (R : Fin 2048) (hR : R.val = t.val * 1024 + r.val) :
    k0_pay1 (F := Ideal) (k0_pay9 (iblk m c 2 t)) (k0_pay11 (iblk m c 0 t) (iblk m c 1 t) (iblk m c 2 t) (iblk m c 3 t)) (ix2 r k)
      = (grad (fun j => Z (ix2 R j)) (fun j => (D (ix2 R j) + alpha * E (ix2 R j)) * G j) k : EReal) := by
  have e0 := fun j => (iblk_0 m c t r j R hR).trans (hD _)
  have e1 := fun j => (iblk_1 m c t r j R hR).trans (hE _)
  have e2 := fun j => (iblk_2 m c t r j R hR).trans (hZ _)
  have e3 := fun j => (iblk_3 m c t j).trans (hG _)
  generalize (iblk m c 0 t : Vec Ideal S1024x1024 .f32) = x at *
  generalize (iblk m c 1 t : Vec Ideal S1024x1024 .f32) = y at *
  generalize (iblk m c 2 t : Vec Ideal S1024x1024 .f32) = z at *
  generalize (iblk m c 3 t : Vec Ideal S1x1x1024 .f32) = g at *
  pointwise [k0_pay1, k0_pay11, k0_pay10, k0_pay9, k0_pay8, k0_pay7, w_1024, w_eps, w_alpha]
  simp only [e0, e1, e2, e3]
  simp only [cen_coe (fun j => Z (ix2 R j)), var_coe, rstd_coe]
  simp only [Ideal.div_coe (show (1024 : ℝ) ≠ 0 by norm_num), ← EReal.coe_mul, ← EReal.coe_add, ← EReal.coe_sub, ← coe_sum]
  rfl

theorem xhat_coe (t : Fin cfg0.N) (r k : Fin 1024) (R : Fin 2048) (hR : R.val = t.val * 1024 + r.val) :
    k0_pay10 (F := Ideal) (iblk m c 2 t) (ix2 r k) = (cen (fun j => Z (ix2 R j)) k * rstd (cen fun j => Z (ix2 R j)) : EReal) := by
  have e1 := fun j => (iblk_2 m c t r j R hR).trans (hZ _)
  generalize (iblk m c 2 t : Vec Ideal S1024x1024 .f32) = z at *
  pointwise [k0_pay10, k0_pay9, k0_pay8, w_1024, w_eps]
  simp only [e1]
  simp only [cen_coe (fun j => Z (ix2 R j)), var_coe, rstd_coe]

/-- The scale's gradient: the summed cotangents times the normalised row, summed over all rows. -/
theorem dgamma (k : Fin 1024) :
    ((dats m 0 c).arrAt 7 cfg0.N : FVec Ideal S1x1024 .f32) (ix2 0 k)
      = ∑ r : Fin 2048, ((D (ix2 r k) : EReal) + (alpha : EReal) * (E (ix2 r k) : EReal)) * ((cen (fun j => Z (ix2 r j)) k : EReal) * (rstd (cen fun j => Z (ix2 r j)) : EReal)) := by
  have h0 : 0 < cfg0.N := by rw [N0]; omega
  have h1 : 1 < cfg0.N := by rw [N0]; omega
  have hz : k0_pay3 (F := Ideal) (ix2 0 k) = 0 := by pointwise [k0_pay3]
  rw [arr_7 m c h1, (outs_78 m c h0 h1).1, pay5_apply, pay5_apply, Fin.sum_univ_two_halves 1024 1024 rfl, hz, zero_add]
  congr 1
  · refine Finset.sum_congr rfl fun r _ => ?_
    rw [ct_apply m c ⟨0, h0⟩ r k ⟨0 + r.val, by omega⟩ (by dsimp only), xhat_coe m c D E Z G hD hE hZ hG ⟨0, h0⟩ r k ⟨0 + r.val, by omega⟩ (by dsimp only), hD, hE]
    simp
  · refine Finset.sum_congr rfl fun r _ => ?_
    rw [ct_apply m c ⟨1, h1⟩ r k ⟨1024 + r.val, by omega⟩ (by dsimp only), xhat_coe m c D E Z G hD hE hZ hG ⟨1, h1⟩ r k ⟨1024 + r.val, by omega⟩ (by dsimp only), hD, hE]

/-- The input's gradient. -/
theorem dx (R : Fin 2048) (k : Fin 1024) :
    ((dats m 0 c).arrAt 5 cfg0.N : FVec Ideal S2048x1024 .f32) (ix2 R k) = (grad (fun j => Z (ix2 R j)) (fun j => (D (ix2 R j) + alpha * E (ix2 R j)) * G j) k : EReal)
    ∧ ((dats m 0 c).arrAt 6 cfg0.N : FVec Ideal S2048x1024 .bf16) (ix2 R k) = (grad (fun j => Z (ix2 R j)) (fun j => (D (ix2 R j) + alpha * E (ix2 R j)) * G j) k : EReal) := by
  have hlt : R.val / 1024 < cfg0.N := lt_of_lt_of_eq (by omega) N0.symm
  have hR : R.val = R.val / 1024 * 1024 + R.val % 1024 := by omega
  have hp := pay1_coe m c D E Z G hD hE hZ hG ⟨R.val / 1024, hlt⟩ ⟨R.val % 1024, by omega⟩ k R hR
  constructor
  · rw [arr_5 m c ⟨R.val / 1024, hlt⟩ ⟨R.val % 1024, by omega⟩ k R hR, (outs_56 m c _).1]
    exact hp
  · rw [arr_6 m c ⟨R.val / 1024, hlt⟩ ⟨R.val % 1024, by omega⟩ k R hR, (outs_56 m c _).2]
    exact hp

end Finite

end Cert.LnRes.K

namespace Cert.LnRes.R

open Cert.LnResReferenceIdeal Cert.LnResReferenceIdeal.Gen Cert.LnResReferenceIdeal.Value Idealize.ShloMosaic Idealize.ShloMosaic.TcCoe Idealize.SL.Sem Cert.Common Cert.LayerNorm
open Cert.LnRes.K (alpha w_alpha)

variable (m : (ℓ : Loc nD τ sig) → Buf (Elt Ideal) ℓ)

theorem dbeta (x y : FVec Ideal S2048x1024 .f32) (k : Fin 1024) :
    Read.val_main_v74 (F := Ideal) x y (ix2 0 k) = ∑ r : Fin 2048, (x (ix2 r k) + (alpha : EReal) * y (ix2 r k)) := by
  rw [← Read.val_main_v74_eq]
  pointwise [w_alpha]
  simp only [Finset.univ_unique, Finset.sum_singleton]

section Finite
variable (c : Dev nD) (D E Z : S2048x1024.Idx → ℝ) (G : Fin 1024 → ℝ)
  (hD : ∀ i, (m ((c : Thread nD τ).loc main_arg0)) i = (D i : EReal)) (hE : ∀ i, (m ((c : Thread nD τ).loc main_arg1)) i = (E i : EReal))
  (hZ : ∀ i, (m ((c : Thread nD τ).loc main_arg2)) i = (Z i : EReal)) (hG : ∀ k, (m ((c : Thread nD τ).loc main_arg3)) (ix2 3 k) = (G k : EReal))
include hD hE hZ hG

theorem dx (r : Fin 2048) (k : Fin 1024) :
    (res_main_v71 m c : FVec Ideal S2048x1024 .f32) (ix2 r k) = (grad (fun j => Z (ix2 r j)) (fun j => (D (ix2 r j) + alpha * E (ix2 r j)) * G j) k : EReal) := by
  unfold res_main_v71
  pointwise [w_1024, w_eps, w_two, w_neg_half, w_alpha]
  simp only [hD, hE, hZ, hG]
  simp only [cen_coe (fun j => Z (ix2 r j)), var_coe, rstd_coe, rstd_div_coe, Finset.univ_unique, Finset.sum_singleton]
  simp only [Ideal.div_coe (show (1024 : ℝ) ≠ 0 by norm_num), ← EReal.coe_mul, ← EReal.coe_neg, ← coe_sum, ← EReal.coe_add]
  rw [EReal.coe_eq_coe_iff]
  exact chain_eq (fun j => Z (ix2 r j)) (fun j => (D (ix2 r j) + alpha * E (ix2 r j)) * G j) k

theorem dx_cast (r : Fin 2048) (k : Fin 1024) :
    (res_main_v72 m c : FVec Ideal S2048x1024 .bf16) (ix2 r k) = (grad (fun j => Z (ix2 r j)) (fun j => (D (ix2 r j) + alpha * E (ix2 r j)) * G j) k : EReal) :=
  dx m c D E Z G hD hE hZ hG r k

theorem dgamma (k : Fin 1024) :
    Read.val_main_v73 (F := Ideal) (m ((c : Thread nD τ).loc main_arg0)) (m ((c : Thread nD τ).loc main_arg1)) (m ((c : Thread nD τ).loc main_arg2)) (ix2 0 k)
      = ∑ r : Fin 2048, ((D (ix2 r k) : EReal) + (alpha : EReal) * (E (ix2 r k) : EReal)) * ((cen (fun j => Z (ix2 r j)) k : EReal) * (rstd (cen fun j => Z (ix2 r j)) : EReal)) := by
  rw [← Read.val_main_v73_eq]
  pointwise [w_1024, w_eps, w_alpha]
  simp only [Finset.univ_unique, Finset.sum_singleton]
  refine Finset.sum_congr rfl fun r _ => ?_
  simp only [hD, hE, hZ]
  simp only [cen_coe (fun j => Z (ix2 r j)), var_coe, rstd_coe]
  rw [mul_comm]

end Finite

end Cert.LnRes.R

namespace Cert.LnRes

open Idealize.ShloMosaic Idealize.ShloMosaic.TcCoe Idealize.SL.Sem Cert.Common

theorem pre_facts : Cert.Pre_finite_ln_res.Facts where
  bcast_S_S2048x1024 := by decide
  reducesTo_S2048x1024_S_d0_1 := by decide
  h_S_ := by decide
  slices_S4x1024_S1x1024_3_0 := by decide
  shapeCasts_S1x1024_S1024 := by decide
  bcast_S_S1024 := by decide
  reducesTo_S1024_S_d0 := by decide

/-- What the precondition says: the two cotangents, the input and the scales are real numbers. -/
theorem reals [Cert.Pre_finite_ln_res.Facts] {d r z : FVec Ideal ⟨2, ![2048, 1024]⟩ .f32} {g b : FVec Ideal ⟨2, ![4, 1024]⟩ .f32} {dep : FVec Ideal ⟨2, ![8, 128]⟩ .f32}
    (h : Cert.Pre_finite_ln_res.fn (F := Ideal) d r z g b dep = fun _ => 1#1) :
    (∃ D : (⟨2, ![2048, 1024]⟩ : Shape).Idx → ℝ, ∀ i, d i = (D i : EReal)) ∧ (∃ E : (⟨2, ![2048, 1024]⟩ : Shape).Idx → ℝ, ∀ i, r i = (E i : EReal))
    ∧ (∃ Z : (⟨2, ![2048, 1024]⟩ : Shape).Idx → ℝ, ∀ i, z i = (Z i : EReal)) ∧ ∃ G : Fin 1024 → ℝ, ∀ k, g (ix2 3 k) = (G k : EReal) := by
  have h0 := congrFun h ix0
  obtain ⟨h1, hg⟩ := IntOp.andi_eq_one.1 h0
  obtain ⟨h2, hz⟩ := IntOp.andi_eq_one.1 h1
  obtain ⟨hd, hr⟩ := IntOp.andi_eq_one.1 h2
  refine ⟨reals_of_all _ _ _ (fun _ => w_inf) _ _ _ hd, reals_of_all _ _ _ (fun _ => w_inf) _ _ _ hr, reals_of_all _ _ _ (fun _ => w_inf) _ _ _ hz, ?_⟩
  obtain ⟨G, hG⟩ := reals_of_all _ _ _ (fun _ => w_inf) _ _ _ hg
  refine ⟨fun k => G (ix1 k), fun k => Eq.trans ?_ (hG (ix1 k))⟩
  pointwise []

theorem frame_reference : Cert.quiescent_LnResReferenceIdeal := fun m g _ =>
  (θ_run Cert.LnResReferenceIdeal.defs _ _).mono (fun r h => ⟨fun c => (h c).2.2.2.2, sem_eq_zero_of_no_sems (by decide) r.2⟩)
    (LnResReferenceIdeal.Value.run m g)

theorem value : Cert.algebraic_LnResKernelIdeal_LnResReferenceIdeal_pre_finite_ln_res (hPre_finite_ln_res := pre_facts) := by
  intro m g m' g' hp hm
  refine ⟨_, _, _, _, LnResKernelIdeal.Value.run_blocks m g,
    (θ_run _ _ _).mono (fun r h c => ?_) (LnResReferenceIdeal.Value.run m' g')⟩
  obtain ⟨h0, h1, h2, h3, hk⟩ := h c
  obtain ⟨e0, e1, e2, e3, -⟩ := hm c
  obtain ⟨⟨D, hD⟩, ⟨E, hE⟩, ⟨Z, hZ⟩, G, hG⟩ := @reals pre_facts _ _ _ _ _ _ (hp c)
  have hD' := fun i => (congrFun e0 i).trans (hD i)
  have hE' := fun i => (congrFun e1 i).trans (hE i)
  have hZ' := fun i => (congrFun e2 i).trans (hZ i)
  have hG' := fun k => (congrFun e3 (ix2 3 k)).trans (hG k)
  refine ⟨h0.trans ?_, h1.trans ?_, (h2.trans (LnResReferenceIdeal.Read.val_main_v73_eq _ _ _)).trans ?_, (h3.trans (LnResReferenceIdeal.Read.val_main_v74_eq _ _)).trans ?_, hk⟩
  · funext i
    rw [eq_ix2 i]
    exact (R.dx m' c D E Z G hD' hE' hZ' hG' _ _).trans (K.dx m c D E Z G hD hE hZ hG _ _).1.symm
  · funext i
    rw [eq_ix2 i]
    exact (R.dx_cast m' c D E Z G hD' hE' hZ' hG' _ _).trans (K.dx m c D E Z G hD hE hZ hG _ _).2.symm
  · funext i
    rw [eq_ix2 i, show i 0 = (0 : Fin 1) from Subsingleton.elim (α := Fin 1) _ _]
    exact (R.dgamma m' c D E Z G hD' hE' hZ' hG' _).trans (K.dgamma m c D E Z G hD hE hZ hG _).symm
  · rw [e0, e1]
    funext i
    rw [eq_ix2 i, show i 0 = (0 : Fin 1) from Subsingleton.elim (α := Fin 1) _ _]
    exact (R.dbeta _ _ _).trans (K.dbeta m c _).symm

end Cert.LnRes
end
-- ==== Proof.RmsNorm.lean ====
/- The derivative of a root-mean-square norm over real numbers: the sums that the chain rule leaves, against the closed form. -/
module

public import proofs.«01_k».proof.Proof.Common

@[expose] public section

noncomputable section

namespace Cert.RmsNorm

open Idealize.ShloMosaic Cert.Common

theorem w_eps : Ideal.ofBits .f32 0x358637BD#32 = ((8796093 / 8796093022208 : ℝ) : EReal) := by
  simp [Ideal.ofBits, Ideal.ieee, -EReal.coe_mul]; norm_num

theorem w_384 : Ideal.ofBits .f32 0x43C00000#32 = ((384 : ℝ) : EReal) := by
  simp [Ideal.ofBits, Ideal.ieee, -EReal.coe_mul]; norm_num

theorem w_256 : Ideal.ofBits .f32 0x43800000#32 = ((256 : ℝ) : EReal) := by
  simp [Ideal.ofBits, Ideal.ieee, -EReal.coe_mul]; norm_num

variable {n : Nat} (N : ℝ) (hN : 0 < N)

/-- The mean of squares and the small constant: what the root is taken of. -/
def ms (x : Fin n → ℝ) : ℝ := (∑ k, x k * x k) * (1 / N) + 8796093 / 8796093022208

/-- One over the root. -/
def rstd (x : Fin n → ℝ) : ℝ := 1 / Real.sqrt (ms N x)

/-- The gradient of one element: `z` the row, `p` the row of the result's cotangent times the scale. -/
def grad (z p : Fin n → ℝ) (k : Fin n) : ℝ :=
  rstd N z * (p k - z k * rstd N z * ((∑ j, p j * (z j * rstd N z)) * (1 / N)))

include hN

theorem ms_pos (x : Fin n → ℝ) : 0 < ms N x := by
  have : 0 ≤ ∑ k, x k * x k := Finset.sum_nonneg fun k _ => mul_self_nonneg _
  unfold ms; positivity

theorem rstd_sq (x : Fin n → ℝ) : rstd N x * rstd N x = 1 / ms N x := by
  unfold rstd
  rw [div_mul_div_comm, Real.mul_self_sqrt (ms_pos N hN x).le, one_mul]

theorem ms_coe (x : Fin n → ℝ) :
    Ideal.div (∑ k, (x k : EReal) * (x k : EReal)) (N : EReal) + ((8796093 / 8796093022208 : ℝ) : EReal) = (ms N x : EReal) := by
  simp only [← EReal.coe_mul]
  rw [Ideal.div_coe hN.ne', ← coe_sum, ← EReal.coe_mul, ← EReal.coe_add]; rfl

theorem rstd_coe (x : Fin n → ℝ) : Ideal.rsqrt (ms N x : EReal) = (rstd N x : EReal) := rsqrt_pos _ (ms_pos N hN x)

theorem rstd_div_coe (x : Fin n → ℝ) : Ideal.div (rstd N x : EReal) (ms N x : EReal) = ((rstd N x * (1 / ms N x) : ℝ) : EReal) := by
  rw [Ideal.div_coe (ms_pos N hN x).ne', ← EReal.coe_mul]

/-- The chain rule's sums are the closed form. -/
theorem chain_eq (z p : Fin n → ℝ) (k : Fin n) :
    p k * rstd N z + ((∑ j, z j * p j) * (-(1 / 2) * (rstd N z * (1 / ms N z)))) * (1 / N) * (2 * z k) = grad N z p k := by
  unfold grad
  have h2 : ∑ j, p j * (z j * rstd N z) = (∑ j, z j * p j) * rstd N z := by
    rw [Finset.sum_mul]; exact Finset.sum_congr rfl fun j _ => by ring
  rw [h2, ← rstd_sq N hN]
  ring

end Cert.RmsNorm
end
-- ==== Proof.Rms.lean ====
/- The backward pass of the two root-mean-square norms and the rotary embedding that share one projection's columns. -/
module

public import proofs.«01_k».proof.Defs
public import proofs.«01_k».proof.Proof.RmsNorm
public import Idealize.ShloMosaic.Lib.Quiescent
public import Idealize.ShloMosaic.Lib.Pipeline.ValueKit
public import Idealize.ShloMosaic.Lib.Tactic.CleanTypes
public import proofs.«01_k».proof.Proof.Gen.RmsKernelIdeal.Value
public import proofs.«01_k».proof.Proof.Gen.RmsReferenceIdeal.Run
public import proofs.«01_k».proof.Proof.Gen.RmsReferenceIdeal.Read

@[expose] public section

set_option maxRecDepth 16384

noncomputable section

namespace Cert.Rms.K

open Cert.RmsKernelIdeal Cert.RmsKernelIdeal.Gen Cert.RmsKernelIdeal.Value Idealize.ShloMosaic Idealize.ShloMosaic.TcCoe Idealize.SL.Sem Cert.Common Cert.RmsNorm

variable (m : (ℓ : Loc nD τ sig) → Buf (Elt Ideal) ℓ)

/-- A grid point's columns of the projection: the first norm's and the second's. -/
abbrev cq (x : Vec Ideal S1024x704 .f32) : Vec Ideal S1024x384 .f32 := View.ld x (Rect.unit ![0, 0] S1024x384.size inb_S1024x704_S1024x384_0_0)
abbrev ckv (x : Vec Ideal S1024x704 .f32) : Vec Ideal S1024x256 .f32 := View.ld x (Rect.unit ![0, 384] S1024x256.size inb_S1024x704_S1024x256_0_384)

theorem idx : ∀ t : Fin cfg0.N, (win0_0.index t = ![t.val, 0] ∧ win0_1.index t = ![t.val, 0] ∧ win0_2.index t = ![t.val, 0] ∧ win0_3.index t = ![t.val, 0])
    ∧ (win0_4.index t = ![t.val, 0] ∧ win0_5.index t = ![t.val, 0] ∧ win0_6.index t = ![1, 0, 0] ∧ win0_7.index t = ![1, 0, 0]) ∧ win0_8.index t = ![t.val, 0] :=
  (by decide +kernel : ∀ t : Fin grid0.N, (win0_0.index t = ![t.val, 0] ∧ win0_1.index t = ![t.val, 0] ∧ win0_2.index t = ![t.val, 0] ∧ win0_3.index t = ![t.val, 0])
    ∧ (win0_4.index t = ![t.val, 0] ∧ win0_5.index t = ![t.val, 0] ∧ win0_6.index t = ![1, 0, 0] ∧ win0_7.index t = ![1, 0, 0]) ∧ win0_8.index t = ![t.val, 0])

section Blocks
variable (c : Dev nD) (t : Fin cfg0.N) (r : Fin 1024) (R : Fin 2048) (hR : R.val = t.val * 1024 + r.val)
include hR

theorem iblk_0 (k : Fin 704) : (iblk m c 0 t : Vec Ideal S1024x704 .f32) (ix2 r k) = m ((c : Thread nD τ).loc main_arg0) (ix2 R k) := by
  blk_ext! [iblk, V, idx t]
theorem iblk_1 (k : Fin 384) : (iblk m c 1 t : Vec Ideal S1024x384 .f32) (ix2 r k) = m ((c : Thread nD τ).loc main_arg1) (ix2 R k) := by
  blk_ext! [iblk, V, idx t]
theorem iblk_2 (k : Fin 256) : (iblk m c 2 t : Vec Ideal S1024x256 .f32) (ix2 r k) = m ((c : Thread nD τ).loc main_arg2) (ix2 R k) := by
  blk_ext! [iblk, V, idx t]
theorem iblk_3 (k : Fin 64) : (iblk m c 3 t : Vec Ideal S1024x64 .f32) (ix2 r k) = m ((c : Thread nD τ).loc main_arg3) (ix2 R k) := by
  blk_ext! [iblk, V, idx t]
theorem iblk_4 (k : Fin 32) : (iblk m c 4 t : Vec Ideal S1024x32 .f32) (ix2 r k) = m ((c : Thread nD τ).loc main_arg4) (ix2 R k) := by
  blk_ext! [iblk, V, idx t]
theorem iblk_5 (k : Fin 32) : (iblk m c 5 t : Vec Ideal S1024x32 .f32) (ix2 r k) = m ((c : Thread nD τ).loc main_arg5) (ix2 R k) := by
  blk_ext! [iblk, V, idx t]

end Blocks

theorem iblk_6 (c : Dev nD) (t : Fin cfg0.N) (k : Fin 384) : (iblk m c 6 t : Vec Ideal S1x1x384 .f32) (ix3 0 0 k) = m ((c : Thread nD τ).loc main_arg6) (ix2 1 k) := by
  blk_ext! [iblk, V, idx t]
theorem iblk_7 (c : Dev nD) (t : Fin cfg0.N) (k : Fin 256) : (iblk m c 7 t : Vec Ideal S1x1x256 .f32) (ix3 0 0 k) = m ((c : Thread nD τ).loc main_arg7) (ix2 1 k) := by
  blk_ext! [iblk, V, idx t]

/-- The first norm's columns of what a point writes. -/
theorem out_q (c : Dev nD) (t : Fin cfg0.N) (r : Fin 1024) (k : Fin 384) (K : Fin 704) (hK : K.val = k.val) :
    (outsAt0 m c t.val t.isLt).1 (ix2 r K) = k0_pay6 (cq (iblk m c 0 t)) (iblk m c 1 t) (iblk m c 6 t) (ix2 r k) := by
  by_cases h : t.val % 2 = 0
  · rw [outsAt0_A m c t h]; frame_out
    canon_tiles x h using View.cover_of_tiledBy _ ![1024, 64] (by sl_kernel_rfl) _
    · exfalso; change K.val = _ at h1; omega
    · exfalso; change K.val = _ at h1; omega
    · rw [show x = ix2 r k from by rw [eq_ix2 x]; exact congrArg₂ ix2 (Fin.ext h0.symm) (Fin.ext (by change K.val = _ at h1; omega))]
      rfl
  · rw [outsAt0_B m c t h]; frame_out
    canon_tiles x h using View.cover_of_tiledBy _ ![1024, 64] (by sl_kernel_rfl) _
    · exfalso; change K.val = _ at h1; omega
    · exfalso; change K.val = _ at h1; omega
    · rw [show x = ix2 r k from by rw [eq_ix2 x]; exact congrArg₂ ix2 (Fin.ext h0.symm) (Fin.ext (by change K.val = _ at h1; omega))]
      rfl

/-- The second norm's columns. -/
theorem out_kv (c : Dev nD) (t : Fin cfg0.N) (r : Fin 1024) (k : Fin 256) (K : Fin 704) (hK : K.val = 384 + k.val) :
    (outsAt0 m c t.val t.isLt).1 (ix2 r K) = k0_pay14 (ckv (iblk m c 0 t)) (iblk m c 2 t) (k0_pay8 (iblk m c 7 t)) (ix2 r k) := by
  by_cases h : t.val % 2 = 0
  · rw [outsAt0_A m c t h]; frame_out
    canon_tiles x h using View.cover_of_tiledBy _ ![1024, 64] (by sl_kernel_rfl) _
    · exfalso; change K.val = _ at h1; omega
    · rw [show x = ix2 r k from by rw [eq_ix2 x]; exact congrArg₂ ix2 (Fin.ext h0.symm) (Fin.ext (by change K.val = _ at h1; omega))]
    · exfalso; change K.val = _ at h1; omega
  · rw [outsAt0_B m c t h]; frame_out
    canon_tiles x h using View.cover_of_tiledBy _ ![1024, 64] (by sl_kernel_rfl) _
    · exfalso; change K.val = _ at h1; omega
    · rw [show x = ix2 r k from by rw [eq_ix2 x]; exact congrArg₂ ix2 (Fin.ext h0.symm) (Fin.ext (by change K.val = _ at h1; omega))]
    · exfalso; change K.val = _ at h1; omega

/-- The rotary embedding's columns. -/
theorem out_pe (c : Dev nD) (t : Fin cfg0.N) (r : Fin 1024) (k : Fin 64) (K : Fin 704) (hK : K.val = 640 + k.val) :
    (outsAt0 m c t.val t.isLt).1 (ix2 r K) = k0_pay1 (iblk m c 3 t) (iblk m c 4 t) (iblk m c 5 t) (ix2 r k) := by
  by_cases h : t.val % 2 = 0
  · rw [outsAt0_A m c t h]; frame_out
    canon_tiles x h using View.cover_of_tiledBy _ ![1024, 64] (by sl_kernel_rfl) _
    · rw [show x = ix2 r k from by rw [eq_ix2 x]; exact congrArg₂ ix2 (Fin.ext h0.symm) (Fin.ext (by change K.val = _ at h1; omega))]
    · exfalso; change K.val = _ at h1; omega
    · exfalso; change K.val = _ at h1; omega
  · rw [outsAt0_B m c t h]; frame_out
    canon_tiles x h using View.cover_of_tiledBy _ ![1024, 64] (by sl_kernel_rfl) _
    · rw [show x = ix2 r k from by rw [eq_ix2 x]; exact congrArg₂ ix2 (Fin.ext h0.symm) (Fin.ext (by change K.val = _ at h1; omega))]
    · exfalso; change K.val = _ at h1; omega
    · exfalso; change K.val = _ at h1; omega

theorem N0 : cfg0.N = 2 := N_0

/-- The two scales' gradients after the second point. -/
theorem outs_scales (c : Dev nD) (h0 : 0 < cfg0.N) (h1 : 1 < cfg0.N) :
    (outsAt0 m c 1 h1).2.1 = k0_pay11 (F := Ideal) (k0_pay7 (cq (iblk m c 0 ⟨1, h1⟩)) (iblk m c 1 ⟨1, h1⟩)) (k0_pay11 (F := Ideal) (k0_pay7 (cq (iblk m c 0 ⟨0, h0⟩)) (iblk m c 1 ⟨0, h0⟩)) (k0_pay2 (F := Ideal)))
    ∧ (outsAt0 m c 1 h1).2.2 = k0_pay12 (F := Ideal) (ckv (iblk m c 0 ⟨1, h1⟩)) (iblk m c 2 ⟨1, h1⟩) (k0_pay12 (F := Ideal) (ckv (iblk m c 0 ⟨0, h0⟩)) (iblk m c 2 ⟨0, h0⟩) (k0_pay3 (F := Ideal))) := by
  have e0 := outsAt0_A m c ⟨0, h0⟩ (by dsimp only)
  have e1 := outsAt0_B m c ⟨1, h1⟩ (by dsimp only; omega)
  rw [e1]
  dsimp only
  rw [show outsAt0 m c (1 - 1) _ = outsAt0 m c 0 h0 from rfl, e0]
  dsimp only
  constructor <;> frame_out

theorem flushed_one {w : Fin cfg0.W} (hw : ∀ t : Fin cfg0.N, (cfg0.win w).flush t = true ↔ t.val % 2 = 1) (t t' : Fin cfg0.N)
    (h : (cfg0.win w).flush t = true) (h' : (cfg0.win w).flush t' = true) (hne : t ≠ t') :
    Disjoint ((cfg0.win w).blk t).view.set ((cfg0.win w).blk t').view.set := by
  refine absurd (Fin.ext ?_) hne
  have a := (hw t).1 h
  have b := (hw t').1 h'
  have ha := lt_of_lt_of_eq t.isLt N0
  have hb := lt_of_lt_of_eq t'.isLt N0
  generalize t.val = u at *
  generalize t'.val = v at *
  omega

theorem arr_8 (c : Dev nD) (t : Fin cfg0.N) (r : Fin 1024) (k : Fin 704) (R : Fin 2048) (hR : R.val = t.val * 1024 + r.val) :
    ((dats m 0 c).arrAt 8 cfg0.N : FVec Ideal S2048x704 .bf16) (ix2 R k) = (outsAt0 m c t.val t.isLt).1 (ix2 r k) := by
  have h := congrFun (blocks8 m c t (flush0_8 t)) (ix2 r k)
  rw [View.read_apply, flushed8] at h
  refine Eq.trans (congrArg (dats m 0 c |>.arrAt 8 cfg0.N) ?_) h
  blk_ext [idx t]

theorem arr_9 (c : Dev nD) (h1 : 1 < cfg0.N) (k : Fin 384) :
    ((dats m 0 c).arrAt 9 cfg0.N : FVec Ideal S1x384 .f32) (ix2 0 k) = (outsAt0 m c 1 h1).2.1 (ix2 0 k) := by
  have h := congrFun ((dats m 0 c).read_blk_arrAt_eq_flushed 9 (flushed_one flush0_9) cfg0.N ⟨1, h1⟩ h1 ((flush0_9 _).2 (by dsimp only))) (ix2 0 k)
  rw [View.read_apply, flushed9] at h
  refine Eq.trans (congrArg (dats m 0 c |>.arrAt 9 cfg0.N) ?_) h
  funext a
  apply Fin.ext
  match a with
  | ⟨0, _⟩ => rfl
  | ⟨1, _⟩ => show k.val = 0 * 384 + 1 * k.val; omega

theorem arr_10 (c : Dev nD) (h1 : 1 < cfg0.N) (k : Fin 256) :
    ((dats m 0 c).arrAt 10 cfg0.N : FVec Ideal S1x256 .f32) (ix2 0 k) = (outsAt0 m c 1 h1).2.2 (ix2 0 k) := by
  have h := congrFun ((dats m 0 c).read_blk_arrAt_eq_flushed 10 (flushed_one flush0_10) cfg0.N ⟨1, h1⟩ h1 ((flush0_10 _).2 (by dsimp only))) (ix2 0 k)
  rw [View.read_apply, flushed10] at h
  refine Eq.trans (congrArg (dats m 0 c |>.arrAt 10 cfg0.N) ?_) h
  funext a
  apply Fin.ext
  match a with
  | ⟨0, _⟩ => rfl
  | ⟨1, _⟩ => show k.val = 0 * 256 + 1 * k.val; omega

abbrev Q (x : S2048x704.Idx → ℝ) (r : Fin 2048) (k : Fin 384) : ℝ := x (ix2 r ⟨k.val, by omega⟩)
abbrev KV (x : S2048x704.Idx → ℝ) (r : Fin 2048) (k : Fin 256) : ℝ := x (ix2 r ⟨384 + k.val, by omega⟩)

section Finite
variable (c : Dev nD) (X : S2048x704.Idx → ℝ) (hX : ∀ i, m ((c : Thread nD τ).loc main_arg0) i = (X i : EReal))
include hX

theorem pay6_coe (A : S2048x384.Idx → ℝ) (G : Fin 384 → ℝ) (hA : ∀ i, m ((c : Thread nD τ).loc main_arg1) i = (A i : EReal)) (hG : ∀ k, m ((c : Thread nD τ).loc main_arg6) (ix2 1 k) = (G k : EReal))
    (t : Fin cfg0.N) (r : Fin 1024) (k : Fin 384) (R : Fin 2048) (hR : R.val = t.val * 1024 + r.val) :
    k0_pay6 (F := Ideal) (cq (iblk m c 0 t)) (iblk m c 1 t) (iblk m c 6 t) (ix2 r k)
      = (grad 384 (Q X R) (fun j => A (ix2 R j) * G j) k : EReal) := by
  have e0 := fun j => (iblk_0 m c t r R hR j).trans (hX _)
  have e1 := fun j => (iblk_1 m c t r R hR j).trans (hA _)
  have e3 := fun j => (iblk_6 m c t j).trans (hG _)
  generalize (iblk m c 0 t : Vec Ideal S1024x704 .f32) = x at *
  generalize (iblk m c 1 t : Vec Ideal S1024x384 .f32) = y at *
  generalize (iblk m c 6 t : Vec Ideal S1x1x384 .f32) = g at *
  pointwise [k0_pay6, k0_pay5, k0_pay4, cq, w_384, w_eps]
  simp only [e0, e1, e3]
  simp only [ms_coe 384 (by norm_num) (Q X R), rstd_coe 384 (by norm_num) (Q X R)]
  simp only [Ideal.div_coe (show (384 : ℝ) ≠ 0 by norm_num), ← EReal.coe_mul, ← EReal.coe_sub, ← coe_sum]
  rfl

theorem pay14_coe (B : S2048x256.Idx → ℝ) (G : Fin 256 → ℝ) (hB : ∀ i, m ((c : Thread nD τ).loc main_arg2) i = (B i : EReal)) (hG : ∀ k, m ((c : Thread nD τ).loc main_arg7) (ix2 1 k) = (G k : EReal))
    (t : Fin cfg0.N) (r : Fin 1024) (k : Fin 256) (R : Fin 2048) (hR : R.val = t.val * 1024 + r.val) :
    k0_pay14 (F := Ideal) (ckv (iblk m c 0 t)) (iblk m c 2 t) (k0_pay8 (iblk m c 7 t)) (ix2 r k)
      = (grad 256 (KV X R) (fun j => B (ix2 R j) * G j) k : EReal) := by
  have e0 := fun j => (iblk_0 m c t r R hR j).trans (hX _)
  have e1 := fun j => (iblk_2 m c t r R hR j).trans (hB _)
  have e3 := fun j => (iblk_7 m c t j).trans (hG _)
  generalize (iblk m c 0 t : Vec Ideal S1024x704 .f32) = x at *
  generalize (iblk m c 2 t : Vec Ideal S1024x256 .f32) = y at *
  generalize (iblk m c 7 t : Vec Ideal S1x1x256 .f32) = g at *
  pointwise [k0_pay14, k0_pay10, k0_pay9, k0_pay8, ckv, w_256, w_eps]
  simp only [e0, e1, e3]
  simp only [ms_coe 256 (by norm_num) (KV X R), rstd_coe 256 (by norm_num) (KV X R)]
  simp only [Ideal.div_coe (show (256 : ℝ) ≠ 0 by norm_num), ← EReal.coe_mul, ← EReal.coe_sub, ← coe_sum]
  rfl

/-- One point's share of the first scale's gradient. -/
theorem pay7_coe (A : S2048x384.Idx → ℝ) (hA : ∀ i, m ((c : Thread nD τ).loc main_arg1) i = (A i : EReal))
    (t : Fin cfg0.N) (k : Fin 384) (R : Fin 1024 → Fin 2048) (hR : ∀ r, (R r).val = t.val * 1024 + r.val) :
    k0_pay7 (F := Ideal) (cq (iblk m c 0 t)) (iblk m c 1 t) (ix2 0 k)
      = ∑ r : Fin 1024, (A (ix2 (R r) k) : EReal) * ((Q X (R r) k : EReal) * (rstd 384 (Q X (R r)) : EReal)) := by
  have e0 := fun r j => (iblk_0 m c t r (R r) (hR r) j).trans (hX _)
  have e1 := fun r j => (iblk_1 m c t r (R r) (hR r) j).trans (hA _)
  generalize (iblk m c 0 t : Vec Ideal S1024x704 .f32) = x at *
  generalize (iblk m c 1 t : Vec Ideal S1024x384 .f32) = y at *
  pointwise [k0_pay7, k0_pay5, k0_pay4, cq, w_384, w_eps]
  refine Finset.sum_congr rfl fun r _ => ?_
  simp only [e0, e1]
  simp only [ms_coe 384 (by norm_num) (Q X (R r)), rstd_coe 384 (by norm_num) (Q X (R r))]

theorem pay12_coe (B : S2048x256.Idx → ℝ) (hB : ∀ i, m ((c : Thread nD τ).loc main_arg2) i = (B i : EReal)) (acc : FVec Ideal S1x256 .f32)
    (t : Fin cfg0.N) (k : Fin 256) (R : Fin 1024 → Fin 2048) (hR : ∀ r, (R r).val = t.val * 1024 + r.val) :
    k0_pay12 (F := Ideal) (ckv (iblk m c 0 t)) (iblk m c 2 t) acc (ix2 0 k)
      = acc (ix2 0 k) + ∑ r : Fin 1024, (B (ix2 (R r) k) : EReal) * ((KV X (R r) k : EReal) * (rstd 256 (KV X (R r)) : EReal)) := by
  have e0 := fun r j => (iblk_0 m c t r (R r) (hR r) j).trans (hX _)
  have e1 := fun r j => (iblk_2 m c t r (R r) (hR r) j).trans (hB _)
  generalize (iblk m c 0 t : Vec Ideal S1024x704 .f32) = x at *
  generalize (iblk m c 2 t : Vec Ideal S1024x256 .f32) = y at *
  pointwise [k0_pay12, k0_pay10, k0_pay9, ckv, w_256, w_eps]
  congr 1
  refine Finset.sum_congr rfl fun r _ => ?_
  simp only [e0, e1]
  simp only [ms_coe 256 (by norm_num) (KV X (R r)), rstd_coe 256 (by norm_num) (KV X (R r))]

omit hX in
theorem pay11_apply (x acc : FVec Ideal S1x384 .f32) (k : Fin 384) : k0_pay11 (F := Ideal) x acc (ix2 0 k) = acc (ix2 0 k) + x (ix2 0 k) := by
  pointwise [k0_pay11]

omit hX in
theorem pay2_apply (k : Fin 384) : k0_pay2 (F := Ideal) (ix2 0 k) = 0 := by pointwise [k0_pay2]

omit hX in
theorem pay3_apply (k : Fin 256) : k0_pay3 (F := Ideal) (ix2 0 k) = 0 := by pointwise [k0_pay3]

/-- The first scale's gradient. -/
theorem dgq (A : S2048x384.Idx → ℝ) (hA : ∀ i, m ((c : Thread nD τ).loc main_arg1) i = (A i : EReal)) (k : Fin 384) :
    ((dats m 0 c).arrAt 9 cfg0.N : FVec Ideal S1x384 .f32) (ix2 0 k)
      = ∑ r : Fin 2048, (A (ix2 r k) : EReal) * ((Q X r k : EReal) * (rstd 384 (Q X r) : EReal)) := by
  have h0 : 0 < cfg0.N := by rw [N0]; omega
  have h1 : 1 < cfg0.N := by rw [N0]; omega
  rw [arr_9 m c h1, (outs_scales m c h0 h1).1, Fin.sum_univ_two_halves 1024 1024 rfl]
  rw [pay11_apply, pay11_apply, pay2_apply, pay7_coe m c X hX A hA ⟨0, h0⟩ k (fun r => ⟨0 + r.val, by omega⟩) (fun r => by dsimp only),
    pay7_coe m c X hX A hA ⟨1, h1⟩ k (fun r => ⟨1024 + r.val, by omega⟩) (fun r => by dsimp only)]
  simp only [zero_add]

/-- The second scale's gradient. -/
theorem dgkv (B : S2048x256.Idx → ℝ) (hB : ∀ i, m ((c : Thread nD τ).loc main_arg2) i = (B i : EReal)) (k : Fin 256) :
    ((dats m 0 c).arrAt 10 cfg0.N : FVec Ideal S1x256 .f32) (ix2 0 k)
      = ∑ r : Fin 2048, (B (ix2 r k) : EReal) * ((KV X r k : EReal) * (rstd 256 (KV X r) : EReal)) := by
  have h0 : 0 < cfg0.N := by rw [N0]; omega
  have h1 : 1 < cfg0.N := by rw [N0]; omega
  rw [arr_10 m c h1, (outs_scales m c h0 h1).2, Fin.sum_univ_two_halves 1024 1024 rfl]
  rw [pay12_coe m c X hX B hB _ ⟨1, h1⟩ k (fun r => ⟨1024 + r.val, by omega⟩) (fun r => by dsimp only),
    pay12_coe m c X hX B hB _ ⟨0, h0⟩ k (fun r => ⟨0 + r.val, by omega⟩) (fun r => by dsimp only)]
  simp only [pay3_apply, zero_add]

end Finite

/-- The rotary embedding's gradient: the transposed rotation. -/
def rot (x : S2048x64.Idx → EReal) (co si : S2048x32.Idx → EReal) (R : Fin 2048) (k : Fin 64) : EReal :=
  if h : k.val < 32 then x (ix2 R k) * co (ix2 R ⟨k.val, h⟩) + x (ix2 R ⟨32 + k.val, by omega⟩) * si (ix2 R ⟨k.val, h⟩)
  else x (ix2 R k) * co (ix2 R ⟨k.val - 32, by omega⟩) - x (ix2 R ⟨k.val - 32, by omega⟩) * si (ix2 R ⟨k.val - 32, by omega⟩)

theorem pay1_eq (c : Dev nD) (t : Fin cfg0.N) (r : Fin 1024) (k : Fin 64) (R : Fin 2048) (hR : R.val = t.val * 1024 + r.val) :
    k0_pay1 (F := Ideal) (iblk m c 3 t) (iblk m c 4 t) (iblk m c 5 t) (ix2 r k)
      = rot (m ((c : Thread nD τ).loc main_arg3)) (m ((c : Thread nD τ).loc main_arg4)) (m ((c : Thread nD τ).loc main_arg5)) R k := by
  have e0 := fun j => iblk_3 m c t r R hR j
  have e1 := fun j => iblk_4 m c t r R hR j
  have e2 := fun j => iblk_5 m c t r R hR j
  generalize (iblk m c 3 t : Vec Ideal S1024x64 .f32) = x at *
  generalize (iblk m c 4 t : Vec Ideal S1024x32 .f32) = y at *
  generalize (iblk m c 5 t : Vec Ideal S1024x32 .f32) = z at *
  unfold rot
  pointwise [k0_pay1]
  simp only [e0, e1, e2]
  split
  · rfl
  · rename_i h
    simp only [show 32 + (k.val - 32) = k.val from by omega]

end Cert.Rms.K

namespace Cert.Rms.R

open Cert.RmsReferenceIdeal Cert.RmsReferenceIdeal.Gen Cert.RmsReferenceIdeal.Value Idealize.ShloMosaic Idealize.ShloMosaic.TcCoe Idealize.SL.Sem Cert.Common Cert.RmsNorm
open Cert.Rms.K (Q KV)

variable (m : (ℓ : Loc nD τ sig) → Buf (Elt Ideal) ℓ)

section Finite
variable (c : Dev nD) (X : S2048x704.Idx → ℝ) (hX : ∀ i, m ((c : Thread nD τ).loc main_arg0) i = (X i : EReal))
include hX

theorem dq (A : S2048x384.Idx → ℝ) (G : Fin 384 → ℝ) (hA : ∀ i, m ((c : Thread nD τ).loc main_arg1) i = (A i : EReal)) (hG : ∀ k, m ((c : Thread nD τ).loc main_arg6) (ix2 1 k) = (G k : EReal))
    (r : Fin 2048) (K : Fin 704) (k : Fin 384) (hK : K.val = k.val) :
    (res_main_v103 m c : FVec Ideal S2048x704 .bf16) (ix2 r K) = (grad 384 (Q X r) (fun j => A (ix2 r j) * G j) k : EReal) := by
  unfold res_main_v103
  clean_types
  pointwise [w_384, w_256, w_eps, w_two, w_neg_half]
  rw [dif_neg (by omega), dif_neg (by omega), dif_pos (by omega)]
  simp only [show (⟨K.val, by omega⟩ : Fin 384) = k from Fin.ext hK]
  simp only [hX, hA, hG]
  simp only [ms_coe 384 (by norm_num) (Q X r), rstd_coe 384 (by norm_num) (Q X r), rstd_div_coe 384 (by norm_num) (Q X r), Finset.univ_unique, Finset.sum_singleton]
  simp only [Ideal.div_coe (show (384 : ℝ) ≠ 0 by norm_num), ← EReal.coe_mul, ← EReal.coe_neg, ← coe_sum, ← EReal.coe_add, zero_add]
  rw [EReal.coe_eq_coe_iff, ← chain_eq 384 (by norm_num)]
  rw [show X (ix2 r K) = Q X r k from congrArg X (congrArg (ix2 r) (Fin.ext hK))]

theorem dkv (A : S2048x256.Idx → ℝ) (G : Fin 256 → ℝ) (hA : ∀ i, m ((c : Thread nD τ).loc main_arg2) i = (A i : EReal)) (hG : ∀ k, m ((c : Thread nD τ).loc main_arg7) (ix2 1 k) = (G k : EReal))
    (r : Fin 2048) (K : Fin 704) (k : Fin 256) (hK : K.val = 384 + k.val) :
    (res_main_v103 m c : FVec Ideal S2048x704 .bf16) (ix2 r K) = (grad 256 (KV X r) (fun j => A (ix2 r j) * G j) k : EReal) := by
  unfold res_main_v103
  clean_types
  pointwise [w_384, w_256, w_eps, w_two, w_neg_half]
  rw [dif_neg (by omega), dif_pos (by omega), dif_neg (by omega)]
  simp only [show (⟨K.val - 384, by omega⟩ : Fin 256) = k from Fin.ext (by dsimp only; omega), show K.val - 384 = k.val from by omega]
  simp only [hX, hA, hG]
  simp only [ms_coe 256 (by norm_num) (KV X r), rstd_coe 256 (by norm_num) (KV X r), rstd_div_coe 256 (by norm_num) (KV X r), Finset.univ_unique, Finset.sum_singleton]
  simp only [Ideal.div_coe (show (256 : ℝ) ≠ 0 by norm_num), ← EReal.coe_mul, ← EReal.coe_neg, ← coe_sum, ← EReal.coe_add, zero_add, add_zero]
  rw [EReal.coe_eq_coe_iff, ← chain_eq 256 (by norm_num)]

/-- The first scale's gradient. -/
theorem dgq (A : S2048x384.Idx → ℝ) (hA : ∀ i, m ((c : Thread nD τ).loc main_arg1) i = (A i : EReal)) (k : Fin 384) :
    Read.val_main_v104 (F := Ideal) (m ((c : Thread nD τ).loc main_arg0)) (m ((c : Thread nD τ).loc main_arg1)) (ix2 0 k)
      = ∑ r : Fin 2048, (A (ix2 r k) : EReal) * ((Q X r k : EReal) * (rstd 384 (Q X r) : EReal)) := by
  rw [← Read.val_main_v104_eq]
  pointwise [w_384, w_eps]
  simp only [Finset.univ_unique, Finset.sum_singleton]
  refine Finset.sum_congr rfl fun r _ => ?_
  simp only [hX, hA]
  simp only [ms_coe 384 (by norm_num) (Q X r), rstd_coe 384 (by norm_num) (Q X r)]
  rw [mul_comm]

/-- The second scale's gradient. -/
theorem dgkv (A : S2048x256.Idx → ℝ) (hA : ∀ i, m ((c : Thread nD τ).loc main_arg2) i = (A i : EReal)) (k : Fin 256) :
    Read.val_main_v105 (F := Ideal) (m ((c : Thread nD τ).loc main_arg0)) (m ((c : Thread nD τ).loc main_arg2)) (ix2 0 k)
      = ∑ r : Fin 2048, (A (ix2 r k) : EReal) * ((KV X r k : EReal) * (rstd 256 (KV X r) : EReal)) := by
  rw [← Read.val_main_v105_eq]
  pointwise [w_256, w_eps]
  simp only [Finset.univ_unique, Finset.sum_singleton]
  refine Finset.sum_congr rfl fun r _ => ?_
  simp only [hX, hA]
  simp only [ms_coe 256 (by norm_num) (KV X r), rstd_coe 256 (by norm_num) (KV X r)]
  rw [mul_comm]

end Finite

theorem dpe (c : Dev nD) (r : Fin 2048) (K : Fin 704) (k : Fin 64) (hK : K.val = 640 + k.val) :
    (res_main_v103 m c : FVec Ideal S2048x704 .bf16) (ix2 r K)
      = Cert.Rms.K.rot (m ((c : Thread nD τ).loc main_arg3)) (m ((c : Thread nD τ).loc main_arg4)) (m ((c : Thread nD τ).loc main_arg5)) r k := by
  unfold res_main_v103 Cert.Rms.K.rot
  clean_types
  pointwise [w_384, w_256, w_eps, w_two, w_neg_half]
  rw [dif_pos (show 640 ≤ K.val ∧ K.val - 640 < 64 by omega), dif_neg (show ¬(384 ≤ K.val ∧ K.val - 384 < 256) by omega),
    dif_neg (show ¬K.val < 384 by omega)]
  simp only [show K.val - 640 = k.val from by omega, add_zero]
  by_cases h : k.val < 32
  · rw [dif_pos h, dif_pos h, add_comm]
  · rw [dif_neg h, dif_neg h]
    simp only [show 32 + (k.val - 32) = k.val from by omega, neg_mul, sub_eq_add_neg]

end Cert.Rms.R

namespace Cert.Rms

open Idealize.ShloMosaic Idealize.ShloMosaic.TcCoe Idealize.SL.Sem Cert.Common

theorem frame_reference : Cert.quiescent_RmsReferenceIdeal := fun m g _ =>
  (θ_run Cert.RmsReferenceIdeal.defs _ _).mono (fun r h => ⟨fun c => (h c).2.2.2, sem_eq_zero_of_no_sems (by decide) r.2⟩)
    (RmsReferenceIdeal.Value.run m g)

theorem pre_facts : Cert.Pre_finite_rms.Facts where
  bcast_S_S2048x704 := by decide
  reducesTo_S2048x704_S_d0_1 := by decide
  h_S_ := by decide
  bcast_S_S2048x384 := by decide
  reducesTo_S2048x384_S_d0_1 := by decide
  bcast_S_S2048x256 := by decide
  reducesTo_S2048x256_S_d0_1 := by decide
  slices_S2x384_S1x384_1_0 := by decide
  shapeCasts_S1x384_S384 := by decide
  bcast_S_S384 := by decide
  reducesTo_S384_S_d0 := by decide
  slices_S2x256_S1x256_1_0 := by decide
  shapeCasts_S1x256_S256 := by decide
  bcast_S_S256 := by decide
  reducesTo_S256_S_d0 := by decide

/-- What the precondition says: the projection, the two norms' cotangents and their scales are real numbers. -/
theorem reals [Cert.Pre_finite_rms.Facts] {x : FVec Ideal ⟨2, ![2048, 704]⟩ .f32} {a : FVec Ideal ⟨2, ![2048, 384]⟩ .f32} {b : FVec Ideal ⟨2, ![2048, 256]⟩ .f32}
    {p : FVec Ideal ⟨2, ![2048, 64]⟩ .f32} {co si : FVec Ideal ⟨2, ![2048, 32]⟩ .f32} {g : FVec Ideal ⟨2, ![2, 384]⟩ .f32} {k : FVec Ideal ⟨2, ![2, 256]⟩ .f32}
    (h : Cert.Pre_finite_rms.fn (F := Ideal) x a b p co si g k = fun _ => 1#1) :
    (∃ X : (⟨2, ![2048, 704]⟩ : Shape).Idx → ℝ, ∀ i, x i = (X i : EReal)) ∧ (∃ A : (⟨2, ![2048, 384]⟩ : Shape).Idx → ℝ, ∀ i, a i = (A i : EReal))
    ∧ (∃ B : (⟨2, ![2048, 256]⟩ : Shape).Idx → ℝ, ∀ i, b i = (B i : EReal)) ∧ (∃ G : Fin 384 → ℝ, ∀ j, g (ix2 1 j) = (G j : EReal))
    ∧ ∃ H : Fin 256 → ℝ, ∀ j, k (ix2 1 j) = (H j : EReal) := by
  have h0 := congrFun h ix0
  obtain ⟨h1, hk⟩ := IntOp.andi_eq_one.1 h0
  obtain ⟨h2, hg⟩ := IntOp.andi_eq_one.1 h1
  obtain ⟨h3, hb⟩ := IntOp.andi_eq_one.1 h2
  obtain ⟨hx, ha⟩ := IntOp.andi_eq_one.1 h3
  refine ⟨reals_of_all _ _ _ (fun _ => w_inf) _ _ _ hx, reals_of_all _ _ _ (fun _ => w_inf) _ _ _ ha, reals_of_all _ _ _ (fun _ => w_inf) _ _ _ hb, ?_, ?_⟩
  · obtain ⟨G, hG⟩ := reals_of_all _ _ _ (fun _ => w_inf) _ _ _ hg
    refine ⟨fun k => G (ix1 k), fun k => Eq.trans ?_ (hG (ix1 k))⟩
    pointwise []
  · obtain ⟨G, hG⟩ := reals_of_all _ _ _ (fun _ => w_inf) _ _ _ hk
    refine ⟨fun k => G (ix1 k), fun k => Eq.trans ?_ (hG (ix1 k))⟩
    pointwise []

theorem value : Cert.algebraic_RmsKernelIdeal_RmsReferenceIdeal_pre_finite_rms (hPre_finite_rms := pre_facts) := by
  intro m g m' g' hp hm
  refine ⟨_, _, _, RmsKernelIdeal.Value.run_blocks m g,
    (θ_run _ _ _).mono (fun r h c => ?_) (RmsReferenceIdeal.Value.run m' g')⟩
  obtain ⟨h0, h1, h2, hk⟩ := h c
  obtain ⟨e0, e1, e2, e3, e4, e5, e6, e7⟩ := hm c
  obtain ⟨⟨X, hX⟩, ⟨A, hA⟩, ⟨B, hB⟩, ⟨G, hG⟩, H, hH⟩ := @reals pre_facts _ _ _ _ _ _ _ _ (hp c)
  have hX' := fun i => (congrFun e0 i).trans (hX i)
  have hA' := fun i => (congrFun e1 i).trans (hA i)
  have hB' := fun i => (congrFun e2 i).trans (hB i)
  have hG' := fun k => (congrFun e6 (ix2 1 k)).trans (hG k)
  have hH' := fun k => (congrFun e7 (ix2 1 k)).trans (hH k)
  refine ⟨h0.trans ?_, (h1.trans (RmsReferenceIdeal.Read.val_main_v104_eq _ _)).trans ?_, (h2.trans (RmsReferenceIdeal.Read.val_main_v105_eq _ _)).trans ?_, hk⟩
  · funext i
    obtain ⟨r, k, rfl⟩ : ∃ (r : Fin 2048) (k : Fin 704), i = ix2 r k := ⟨_, _, eq_ix2 i⟩
    obtain ⟨t, u, hR⟩ : ∃ (t : Fin RmsKernelIdeal.cfg0.N) (u : Fin 1024), r.val = t.val * 1024 + u.val :=
      ⟨⟨r.val / 1024, lt_of_lt_of_eq (by omega) K.N0.symm⟩, ⟨r.val % 1024, by omega⟩, by dsimp only; omega⟩
    refine Eq.trans ?_ (K.arr_8 m c t u k r hR).symm
    by_cases a : k.val < 384
    · exact (R.dq m' c X hX' A G hA' hG' r k ⟨k.val, a⟩ rfl).trans
        ((K.out_q m c t u ⟨k.val, a⟩ k rfl).trans (K.pay6_coe m c X hX A G hA hG t u ⟨k.val, a⟩ r hR)).symm
    · by_cases b : k.val < 640
      · have hk' : k.val = 384 + (k.val - 384) := by omega
        exact (R.dkv m' c X hX' B H hB' hH' r k ⟨k.val - 384, by omega⟩ hk').trans
          ((K.out_kv m c t u ⟨k.val - 384, by omega⟩ k hk').trans (K.pay14_coe m c X hX B H hB hH t u _ r hR)).symm
      · have hk' : k.val = 640 + (k.val - 640) := by omega
        refine (R.dpe m' c r k ⟨k.val - 640, by omega⟩ hk').trans (Eq.trans ?_
          ((K.out_pe m c t u ⟨k.val - 640, by omega⟩ k hk').trans (K.pay1_eq m c t u _ r hR)).symm)
        rw [e3, e4, e5]
  · funext i
    rw [eq_ix2 i, show i 0 = (0 : Fin 1) from Subsingleton.elim (α := Fin 1) _ _]
    exact (R.dgq m' c X hX' A hA' _).trans (K.dgq m c X hX A hA _).symm
  · funext i
    rw [eq_ix2 i, show i 0 = (0 : Fin 1) from Subsingleton.elim (α := Fin 1) _ _]
    exact (R.dgkv m' c X hX' B hB' _).trans (K.dgkv m c X hX B hB _).symm

end Cert.Rms
end
-- ==== Proof.Mlp.lean ====
/- The backward pass of the two-layer perceptron with squared rectifier: the hidden gradient and the input's gradient. -/
module

public import proofs.«01_k».proof.Defs
public import proofs.«01_k».proof.Proof.Common
public import Idealize.ShloMosaic.Lib.Quiescent
public import Idealize.ShloMosaic.Lib.Pipeline.ValueKit
public import Idealize.ShloMosaic.Lib.Tactic.CleanTypes
public import proofs.«01_k».proof.Proof.Gen.MlpKernelIdeal.Value
public import proofs.«01_k».proof.Proof.Gen.MlpReferenceIdeal.Run
public import proofs.«01_k».proof.Proof.Gen.MlpReferenceIdeal.Read

@[expose] public section

set_option maxRecDepth 16384

noncomputable section

namespace Cert.Mlp

open Idealize.ShloMosaic Idealize.SL.Sem Cert.Common

/-- The hidden layer before its gate, the gate's cotangent, and the hidden gradient, of whole arrays. -/
def hid (y : (⟨2, ![2048, 1024]⟩ : Shape).Idx → EReal) (w1 : (⟨2, ![1024, 4096]⟩ : Shape).Idx → EReal) (R : Fin 2048) (J : Fin 4096) : EReal :=
  ∑ d : Fin 1024, y (ix2 R d) * w1 (ix2 d J)
def cot (w2 : (⟨2, ![4096, 1024]⟩ : Shape).Idx → EReal) (dz : (⟨2, ![2048, 1024]⟩ : Shape).Idx → EReal) (R : Fin 2048) (J : Fin 4096) : EReal :=
  ∑ d : Fin 1024, dz (ix2 R d) * w2 (ix2 J d)
def dhid (y : (⟨2, ![2048, 1024]⟩ : Shape).Idx → EReal) (w1 : (⟨2, ![1024, 4096]⟩ : Shape).Idx → EReal) (w2 : (⟨2, ![4096, 1024]⟩ : Shape).Idx → EReal)
    (dz : (⟨2, ![2048, 1024]⟩ : Shape).Idx → EReal) (R : Fin 2048) (J : Fin 4096) : EReal :=
  cot w2 dz R J * (2 * max (hid y w1 R J) 0)

theorem sqrt_sq (x : EReal) : Ideal.sqrt (max x 0 * max x 0) = max x 0 := by
  induction x with
  | bot =>
    rw [show max (⊥ : EReal) 0 = ((0 : ℝ) : EReal) from by simp, ← EReal.coe_mul, Ideal.sqrt_coe]
    simp
  | top =>
    rw [show max (⊤ : EReal) 0 = ⊤ from by simp, EReal.top_mul_top]
    rfl
  | coe r =>
    rw [show max (r : EReal) 0 = ((max r 0 : ℝ) : EReal) from by norm_cast, ← EReal.coe_mul, Ideal.sqrt_coe]
    rw [if_neg (by nlinarith [mul_self_nonneg (max r 0)]), Real.sqrt_mul_self (le_max_right _ _)]

end Cert.Mlp

namespace Cert.Mlp.K

open Cert.MlpKernelIdeal Cert.MlpKernelIdeal.Gen Cert.MlpKernelIdeal.Value Idealize.ShloMosaic Idealize.ShloMosaic.TcCoe Idealize.SL.Sem Cert.Common

variable (m : (ℓ : Loc nD τ sig) → Buf (Elt Ideal) ℓ)

theorem idx : ∀ t : Fin cfg0.N, (win0_0.index t = ![t.val / 8, t.val % 8] ∧ win0_1.index t = ![t.val / 8, 0] ∧ win0_2.index t = ![t.val % 8, 0, 0])
    ∧ win0_3.index t = ![t.val % 8, 0, 0] ∧ win0_4.index t = ![t.val / 8, t.val % 8] ∧ win0_5.index t = ![t.val / 8, 0] :=
  (by decide +kernel : ∀ t : Fin grid0.N, (win0_0.index t = ![t.val / 8, t.val % 8] ∧ win0_1.index t = ![t.val / 8, 0] ∧ win0_2.index t = ![t.val % 8, 0, 0])
    ∧ win0_3.index t = ![t.val % 8, 0, 0] ∧ win0_4.index t = ![t.val / 8, t.val % 8] ∧ win0_5.index t = ![t.val / 8, 0])

theorem N0 : cfg0.N = 16 := N_0

theorem act (c : Dev nD) (R : Fin 2048) (K : Fin 4096) :
    (V m c main_v11 : FVec Ideal S2048x4096 .bf16) (ix2 R K)
      = max (hid (m ((c : Thread nD τ).loc main_arg0)) (m ((c : Thread nD τ).loc main_arg1)) R K) 0 * max (hid (m ((c : Thread nD τ).loc main_arg0)) (m ((c : Thread nD τ).loc main_arg1)) R K) 0 := by
  unfold V
  entry_read
  pointwise [hid]

theorem iblk_0 (c : Dev nD) (t : Fin cfg0.N) (r : Fin 1024) (k : Fin 512) (R : Fin 2048) (hR : R.val = t.val / 8 * 1024 + r.val) (K : Fin 4096) (hK : K.val = t.val % 8 * 512 + k.val) :
    (iblk m c 0 t : Vec Ideal S1024x512 .bf16) (ix2 r k)
      = max (hid (m ((c : Thread nD τ).loc main_arg0)) (m ((c : Thread nD τ).loc main_arg1)) R K) 0 * max (hid (m ((c : Thread nD τ).loc main_arg0)) (m ((c : Thread nD τ).loc main_arg1)) R K) 0 := by
  refine Eq.trans ?_ (act m c R K)
  blk_ext [iblk, idx t]
theorem iblk_1 (c : Dev nD) (t : Fin cfg0.N) (r : Fin 1024) (k : Fin 1024) (R : Fin 2048) (hR : R.val = t.val / 8 * 1024 + r.val) :
    (iblk m c 1 t : Vec Ideal S1024x1024 .bf16) (ix2 r k) = m ((c : Thread nD τ).loc main_arg3) (ix2 R k) := by
  blk_ext! [iblk, V, idx t]
theorem iblk_2 (c : Dev nD) (t : Fin cfg0.N) (d : Fin 1024) (k : Fin 512) (K : Fin 4096) (hK : K.val = t.val % 8 * 512 + k.val) :
    (iblk m c 2 t : Vec Ideal S1x1024x512 .bf16) (ix3 0 d k) = m ((c : Thread nD τ).loc main_arg1) (ix2 d K) := by
  blk_ext! [iblk, V, idx t]
theorem iblk_3 (c : Dev nD) (t : Fin cfg0.N) (k : Fin 512) (d : Fin 1024) (K : Fin 4096) (hK : K.val = t.val % 8 * 512 + k.val) :
    (iblk m c 3 t : Vec Ideal S1x512x1024 .bf16) (ix3 0 k d) = m ((c : Thread nD τ).loc main_arg2) (ix2 K d) := by
  blk_ext! [iblk, V, idx t]

theorem pay4_apply (a : Vec Ideal S512x512 .bf16) (z : Vec Ideal S512x1024 .bf16) (w : Vec Ideal S1x512x1024 .bf16) (r k : Fin 512) :
    k0_pay4 a z w (ix2 r k) = (∑ d : Fin 1024, z (ix2 r d) * w (ix3 0 k d)) * (2 * Ideal.sqrt (a (ix2 r k))) := by
  pointwise [k0_pay4, w_two]; rfl
theorem pay1_apply (a : Vec Ideal S512x512 .bf16) (z : Vec Ideal S512x1024 .bf16) (w : Vec Ideal S1x512x1024 .bf16) (r k : Fin 512) :
    k0_pay1 (k0_pay6 a) (k0_pay7 z) w (ix2 r k) = (∑ d : Fin 1024, z (ix2 r d) * w (ix3 0 k d)) * (2 * Ideal.sqrt (a (ix2 r k))) := by
  pointwise [k0_pay1, k0_pay6, k0_pay7, w_two]; rfl

/-- The hidden gradient of a grid point's blocks, at an index. -/
def gate (a : Vec Ideal S1024x512 .bf16) (z : Vec Ideal S1024x1024 .bf16) (w : Vec Ideal S1x512x1024 .bf16) (r : Fin 1024) (k : Fin 512) : EReal :=
  (∑ d : Fin 1024, z (ix2 r d) * w (ix3 0 k d)) * (2 * Ideal.sqrt (a (ix2 r k)))

section Rows
variable (a : Vec Ideal S1024x512 .bf16) (z : Vec Ideal S1024x1024 .bf16) (w : Vec Ideal S1x512x1024 .bf16)

theorem low (x : S512x512.Idx) (r : Fin 1024) (k : Fin 512) (h0 : r.val = (x 0).val) (h1 : k.val = (x 1).val) :
    k0_pay4 (View.ld a (Rect.unit ![0, 0] ![512, 512] inb_S1024x512_S512x512_0_0)) (View.ld z (Rect.unit ![0, 0] ![512, 1024] inb_S1024x1024_S512x1024_0_0)) w x
      = gate a z w r k := by
  obtain ⟨u, v, rfl⟩ : ∃ (u v : Fin 512), x = ix2 u v := ⟨_, _, eq_ix2 x⟩
  obtain rfl : k = v := Fin.ext h1
  rw [pay4_apply, gate]
  congr 1
  · exact Finset.sum_congr rfl fun d _ => congrArg (· * _) (ld_rows z 0 _ u d r (h0.trans (Nat.zero_add _).symm))
  · exact congrArg (fun y => 2 * Ideal.sqrt y) (ld_rows a 0 _ u k r (h0.trans (Nat.zero_add _).symm))

theorem high (x : S512x512.Idx) (r : Fin 1024) (k : Fin 512) (h0 : r.val = 512 + (x 0).val) (h1 : k.val = (x 1).val) :
    k0_pay1 (k0_pay6 (View.ld a (Rect.unit ![512, 0] ![512, 512] inb_S1024x512_S512x512_512_0))) (k0_pay7 (View.ld z (Rect.unit ![512, 0] ![512, 1024] inb_S1024x1024_S512x1024_512_0))) w x
      = gate a z w r k := by
  obtain ⟨u, v, rfl⟩ : ∃ (u v : Fin 512), x = ix2 u v := ⟨_, _, eq_ix2 x⟩
  obtain rfl : k = v := Fin.ext h1
  rw [pay1_apply, gate]
  congr 1
  · exact Finset.sum_congr rfl fun d _ => congrArg (· * _) (ld_rows z 512 _ u d r h0)
  · exact congrArg (fun y => 2 * Ideal.sqrt y) (ld_rows a 512 _ u k r h0)

end Rows

theorem out4 (c : Dev nD) (t : Fin cfg0.N) (r : Fin 1024) (k : Fin 512) :
    (outsAt0 m c t.val t.isLt).1 (ix2 r k) = gate (iblk m c 0 t) (iblk m c 1 t) (iblk m c 3 t) r k := by
  by_cases h : t.val % 8 = 0
  · rw [outsAt0_A m c t h]; frame_out
    canon_tiles x h using View.cover_of_tiledBy _ ![512, 512] (by sl_kernel_rfl) _
    · exact high _ _ _ x r k h0 h1
    · exact low _ _ _ x r k h0 h1
  · rw [outsAt0_B m c t h]; frame_out
    canon_tiles x h using View.cover_of_tiledBy _ ![512, 512] (by sl_kernel_rfl) _
    · exact high _ _ _ x r k h0 h1
    · exact low _ _ _ x r k h0 h1

theorem pay5_eq (a : Vec Ideal S512x512 .bf16) (z : Vec Ideal S512x1024 .bf16) (w : Vec Ideal S1x512x1024 .bf16) (u : Vec Ideal S512x1024 .f32) (v : Vec Ideal S1x1024x512 .bf16)
    (r : Fin 512) (k : Fin 1024) : k0_pay5 a z w u v (ix2 r k) = u (ix2 r k) + ∑ l : Fin 512, k0_pay4 a z w (ix2 r l) * v (ix3 0 k l) := by
  pointwise [k0_pay5]
theorem pay2_eq (a : FVec Ideal S512x512 .f32) (z : FVec Ideal S512x1024 .bf16) (w : Vec Ideal S1x512x1024 .bf16) (u : Vec Ideal S512x1024 .f32) (v : Vec Ideal S1x1024x512 .bf16)
    (r : Fin 512) (k : Fin 1024) : k0_pay2 a z w u v (ix2 r k) = u (ix2 r k) + ∑ l : Fin 512, k0_pay1 a z w (ix2 r l) * v (ix3 0 k l) := by
  pointwise [k0_pay2]

theorem zero_apply (i : S1024x1024.Idx) : k0_pay3 (F := Ideal) i = 0 := by
  rw [eq_ix2 i]; pointwise [k0_pay3]

theorem out5_A (c : Dev nD) (t : Fin cfg0.N) (h : t.val % 8 = 0) (r : Fin 1024) (k : Fin 1024) :
    (outsAt0 m c t.val t.isLt).2 (ix2 r k) = 0 + ∑ l : Fin 512, gate (iblk m c 0 t) (iblk m c 1 t) (iblk m c 3 t) r l * (iblk m c 2 t : Vec Ideal S1x1024x512 .bf16) (ix3 0 k l) := by
  rw [outsAt0_A m c t h]; frame_open
  simp (disch := decide) only [↓ View.readCov_skip, ↓ View.readCov_cons_toLoadRect, ↓ View.readCov_fill]
  frame_out
  refine (canon_append [_] _ [_, _] (View.cover_of_tiledBy _ ![512, 1024] (by sl_kernel_rfl) _)).trans ?_
  canon_tiles x h using View.cover_of_tiledBy _ ![512, 1024] (by sl_kernel_rfl) _
  · obtain ⟨u, v, rfl⟩ : ∃ (u : Fin 512) (v : Fin 1024), x = ix2 u v := ⟨_, _, eq_ix2 x⟩
    obtain rfl : k = v := Fin.ext h1
    refine (pay2_eq _ _ _ _ _ u k).trans (congr_arg₂ (· + ·) ((ld_rows (Val := Elt Ideal) (e := .f32) (k0_pay3 (F := Ideal)) 512 _ u k r h0).trans (zero_apply (ix2 r k))) ?_)
    exact Finset.sum_congr rfl fun l _ => congrArg (· * _) (high _ _ _ (ix2 u l) r l h0 rfl)
  · obtain ⟨u, v, rfl⟩ : ∃ (u : Fin 512) (v : Fin 1024), x = ix2 u v := ⟨_, _, eq_ix2 x⟩
    obtain rfl : k = v := Fin.ext h1
    refine (pay5_eq _ _ _ _ _ u k).trans (congr_arg₂ (· + ·) ((ld_rows (Val := Elt Ideal) (e := .f32) (k0_pay3 (F := Ideal)) 0 _ u k r (h0.trans (Nat.zero_add _).symm)).trans (zero_apply (ix2 r k))) ?_)
    exact Finset.sum_congr rfl fun l _ => congrArg (· * _) (low _ _ _ (ix2 u l) r l h0 rfl)

theorem out5_B (c : Dev nD) (t : Fin cfg0.N) (h : ¬t.val % 8 = 0) (r : Fin 1024) (k : Fin 1024) :
    (outsAt0 m c t.val t.isLt).2 (ix2 r k) = (outsAt0 m c (t.val - 1) (Nat.lt_of_le_of_lt (Nat.sub_le _ _) t.isLt)).2 (ix2 r k)
      + ∑ l : Fin 512, gate (iblk m c 0 t) (iblk m c 1 t) (iblk m c 3 t) r l * (iblk m c 2 t : Vec Ideal S1x1024x512 .bf16) (ix3 0 k l) := by
  rw [outsAt0_B m c t h]; frame_open
  simp (disch := decide) only [↓ View.readCov_skip, ↓ View.readCov_cons_toLoadRect, ↓ View.readCov_fill]
  frame_out
  canon_tiles x h using View.cover_of_tiledBy _ ![512, 1024] (by sl_kernel_rfl) _
  · obtain ⟨u, v, rfl⟩ : ∃ (u : Fin 512) (v : Fin 1024), x = ix2 u v := ⟨_, _, eq_ix2 x⟩
    obtain rfl : k = v := Fin.ext h1
    refine (pay2_eq _ _ _ _ _ u k).trans (congr_arg₂ (· + ·) ((ld_rows (Val := Elt Ideal) (e := .f32) ((outsAt0 m c (t.val - 1) _).2) 512 _ u k r h0).trans rfl) ?_)
    exact Finset.sum_congr rfl fun l _ => congrArg (· * _) (high _ _ _ (ix2 u l) r l h0 rfl)
  · obtain ⟨u, v, rfl⟩ : ∃ (u : Fin 512) (v : Fin 1024), x = ix2 u v := ⟨_, _, eq_ix2 x⟩
    obtain rfl : k = v := Fin.ext h1
    refine (pay5_eq _ _ _ _ _ u k).trans (congr_arg₂ (· + ·) ((ld_rows (Val := Elt Ideal) (e := .f32) ((outsAt0 m c (t.val - 1) _).2) 0 _ u k r (h0.trans (Nat.zero_add _).symm)).trans rfl) ?_)
    exact Finset.sum_congr rfl fun l _ => congrArg (· * _) (low _ _ _ (ix2 u l) r l h0 rfl)
theorem arr_4 (c : Dev nD) (t : Fin cfg0.N) (r : Fin 1024) (k : Fin 512) (R : Fin 2048) (hR : R.val = t.val / 8 * 1024 + r.val) (K : Fin 4096) (hK : K.val = t.val % 8 * 512 + k.val) :
    ((dats m 0 c).arrAt 4 cfg0.N : FVec Ideal S2048x4096 .bf16) (ix2 R K) = (outsAt0 m c t.val t.isLt).1 (ix2 r k) := by
  have h := congrFun (blocks4 m c t (flush0_4 t)) (ix2 r k)
  rw [View.read_apply, flushed4] at h
  refine Eq.trans (congrArg (dats m 0 c |>.arrAt 4 cfg0.N) ?_) h
  blk_ext [idx t]

/-- A point's hidden gradient is the whole arrays'. -/
theorem gate_eq (c : Dev nD) (t : Fin cfg0.N) (r : Fin 1024) (k : Fin 512) (R : Fin 2048) (hR : R.val = t.val / 8 * 1024 + r.val) (K : Fin 4096) (hK : K.val = t.val % 8 * 512 + k.val) :
    gate (iblk m c 0 t) (iblk m c 1 t) (iblk m c 3 t) r k
      = dhid (m ((c : Thread nD τ).loc main_arg0)) (m ((c : Thread nD τ).loc main_arg1)) (m ((c : Thread nD τ).loc main_arg2)) (m ((c : Thread nD τ).loc main_arg3)) R K := by
  unfold gate dhid
  rw [iblk_0 m c t r k R hR K hK, sqrt_sq]
  exact congrArg (· * _) (Finset.sum_congr rfl fun d _ => congr_arg₂ (· * ·) (iblk_1 m c t r d R hR) (iblk_3 m c t k d K hK))

theorem dh (c : Dev nD) (R : Fin 2048) (K : Fin 4096) :
    ((dats m 0 c).arrAt 4 cfg0.N : FVec Ideal S2048x4096 .bf16) (ix2 R K)
      = dhid (m ((c : Thread nD τ).loc main_arg0)) (m ((c : Thread nD τ).loc main_arg1)) (m ((c : Thread nD τ).loc main_arg2)) (m ((c : Thread nD τ).loc main_arg3)) R K := by
  obtain ⟨t, r, k, hR, hK⟩ : ∃ (t : Fin cfg0.N) (r : Fin 1024) (k : Fin 512), R.val = t.val / 8 * 1024 + r.val ∧ K.val = t.val % 8 * 512 + k.val :=
    ⟨⟨R.val / 1024 * 8 + K.val / 512, lt_of_lt_of_eq (by omega) N0.symm⟩, ⟨R.val % 1024, by omega⟩, ⟨K.val % 512, by omega⟩, by dsimp only; omega, by dsimp only; omega⟩
  rw [arr_4 m c t r k R hR K hK, out4, gate_eq m c t r k R hR K hK]

/-- What a point adds to its rows of the input's gradient. -/
def term (c : Dev nD) (n : ℕ) (i : S1024x1024.Idx) : EReal :=
  if h : n < cfg0.N then ∑ l : Fin 512, gate (iblk m c 0 ⟨n, h⟩) (iblk m c 1 ⟨n, h⟩) (iblk m c 3 ⟨n, h⟩) (i 0) l * (iblk m c 2 ⟨n, h⟩ : Vec Ideal S1x1024x512 .bf16) (ix3 0 (i 1) l) else 0

theorem out5 (c : Dev nD) (t : Fin cfg0.N) (ht : t.val % 8 = 7) (i : S1024x1024.Idx) :
    (outsAt0 m c t.val t.isLt).2 i = 0 + ∑ k ∈ Finset.range (7 + 1), term m c (8 * (t.val / 8) + k) i := by
  refine Pipeline.eq_sum_of_reset_step_apply_of_mod (fun n h => (outsAt0 m c n h).2) 8 (fun _ => (0 : EReal)) (term m c) (fun t h i => ?_) (fun t h i => ?_) t ht i
  · rw [eq_ix2 i]
    refine (out5_A m c t h _ _).trans (congrArg (0 + ·) ?_)
    rw [term, dif_pos t.isLt]
    rfl
  · rw [eq_ix2 i]
    refine (out5_B m c t h _ _).trans (congrArg (_ + ·) ?_)
    rw [term, dif_pos t.isLt]
    rfl

theorem disjoint5 (t t' : Fin cfg0.N) (h : (cfg0.win 5).flush t = true) (h' : (cfg0.win 5).flush t' = true) (hne : t ≠ t') :
    Disjoint ((cfg0.win 5).blk t).view.set ((cfg0.win 5).blk t').view.set := by
  refine (cfg0.win 5).disjoint_blk fun e => hne (Fin.ext ?_)
  have a := (flush0_5 t).1 h
  have b := (flush0_5 t').1 h'
  have e0 := congrFun ((idx t).2.2.2.symm.trans (Eq.trans e (idx t').2.2.2)) 0
  change t.val / 8 = t'.val / 8 at e0
  generalize t.val = u at *
  generalize t'.val = v at *
  omega

theorem arr_5 (c : Dev nD) (t : Fin cfg0.N) (ht : t.val % 8 = 7) (r k : Fin 1024) (R : Fin 2048) (hR : R.val = t.val / 8 * 1024 + r.val) :
    ((dats m 0 c).arrAt 5 cfg0.N : FVec Ideal S2048x1024 .f32) (ix2 R k) = (outsAt0 m c t.val t.isLt).2 (ix2 r k) := by
  have h := congrFun ((dats m 0 c).read_blk_arrAt_eq_flushed 5 disjoint5 cfg0.N t t.isLt ((flush0_5 t).2 ht)) (ix2 r k)
  rw [View.read_apply, flushed5] at h
  refine Eq.trans (congrArg (dats m 0 c |>.arrAt 5 cfg0.N) ?_) h
  blk_ext [idx t]

theorem dff (c : Dev nD) (R : Fin 2048) (K : Fin 1024) :
    ((dats m 0 c).arrAt 5 cfg0.N : FVec Ideal S2048x1024 .f32) (ix2 R K)
      = ∑ J : Fin 4096, (dhid (m ((c : Thread nD τ).loc main_arg0)) (m ((c : Thread nD τ).loc main_arg1)) (m ((c : Thread nD τ).loc main_arg2)) (m ((c : Thread nD τ).loc main_arg3)) R J : EReal)
          * (m ((c : Thread nD τ).loc main_arg1) : FVec Ideal S1024x4096 .f32) (ix2 K J) := by
  obtain ⟨t, r, hR, ht⟩ : ∃ (t : Fin cfg0.N) (r : Fin 1024), R.val = t.val / 8 * 1024 + r.val ∧ t.val % 8 = 7 :=
    ⟨⟨R.val / 1024 * 8 + 7, lt_of_lt_of_eq (by omega) N0.symm⟩, ⟨R.val % 1024, by omega⟩, by dsimp only; omega, by dsimp only; omega⟩
  have hn := lt_of_lt_of_eq t.isLt N0
  have e : (outsAt0 m c t.val t.isLt).2 (ix2 r K) = ∑ j : Fin 8, term m c (8 * (t.val / 8) + j.val) (ix2 r K) := by
    rw [out5 m c t ht, zero_add, Finset.sum_range]
  refine (arr_5 m c t ht r K R hR).trans (e.trans ?_)
  refine Eq.trans (Finset.sum_congr rfl fun j _ => ?_) (Fin.sum_mul_add_fin 8 512 (fun J : Fin 4096 => (dhid (m ((c : Thread nD τ).loc main_arg0)) (m ((c : Thread nD τ).loc main_arg1)) (m ((c : Thread nD τ).loc main_arg2)) (m ((c : Thread nD τ).loc main_arg3)) R J : EReal)
          * (m ((c : Thread nD τ).loc main_arg1) : FVec Ideal S1024x4096 .f32) (ix2 K J)) rfl)
  have hj : 8 * (t.val / 8) + j.val < cfg0.N := lt_of_lt_of_eq (by omega) N0.symm
  rw [term, dif_pos hj]
  have hR' : R.val = (8 * (t.val / 8) + j.val) / 8 * 1024 + r.val := by omega
  refine Finset.sum_congr rfl fun l _ => ?_
  have hL : ∀ h, (⟨j.val * 512 + l.val, h⟩ : Fin 4096).val = (8 * (t.val / 8) + j.val) % 8 * 512 + l.val := fun h => by dsimp only; omega
  exact congr_arg₂ (· * ·) (gate_eq m c ⟨_, hj⟩ r l R hR' _ (hL _)) (iblk_2 m c ⟨_, hj⟩ K l _ (hL _))

end Cert.Mlp.K

namespace Cert.Mlp.R

open Cert.MlpReferenceIdeal Cert.MlpReferenceIdeal.Value Idealize.ShloMosaic Idealize.ShloMosaic.TcCoe Idealize.SL.Sem Cert.Common

variable (m : (ℓ : Loc nD τ sig) → Buf (Elt Ideal) ℓ)

theorem gated (x p : EReal) : (if 0 < x then p * (((2 : ℝ) : EReal) * max x 0) else 0) = p * (2 * max x 0) := by
  split
  · rfl
  · rename_i h
    rw [max_eq_right (not_lt.1 h), mul_zero, mul_zero]

theorem dh (c : Dev nD) (R : Fin 2048) (K : Fin 4096) :
    Read.val_main_v27 (F := Ideal) (m ((c : Thread nD τ).loc main_arg0)) (m ((c : Thread nD τ).loc main_arg1)) (m ((c : Thread nD τ).loc main_arg2)) (m ((c : Thread nD τ).loc main_arg3)) (ix2 R K)
      = dhid (m ((c : Thread nD τ).loc main_arg0)) (m ((c : Thread nD τ).loc main_arg1)) (m ((c : Thread nD τ).loc main_arg2)) (m ((c : Thread nD τ).loc main_arg3)) R K := by
  rw [← Read.val_main_v27_eq]
  pointwise [w_two]
  exact gated _ _

theorem dff (c : Dev nD) (R : Fin 2048) (K : Fin 1024) :
    Read.val_main_v13 (F := Ideal) (m ((c : Thread nD τ).loc main_arg0)) (m ((c : Thread nD τ).loc main_arg1)) (m ((c : Thread nD τ).loc main_arg2)) (m ((c : Thread nD τ).loc main_arg3)) (ix2 R K)
      = ∑ J : Fin 4096, (dhid (m ((c : Thread nD τ).loc main_arg0)) (m ((c : Thread nD τ).loc main_arg1)) (m ((c : Thread nD τ).loc main_arg2)) (m ((c : Thread nD τ).loc main_arg3)) R J : EReal)
          * (m ((c : Thread nD τ).loc main_arg1) : FVec Ideal S1024x4096 .f32) (ix2 K J) := by
  rw [← Read.val_main_v13_eq]
  pointwise [w_two]
  exact Finset.sum_congr rfl fun J _ => congrArg (· * _) (gated _ _)

end Cert.Mlp.R
namespace Cert.Mlp

open Idealize.ShloMosaic Idealize.ShloMosaic.TcCoe Idealize.SL.Sem

theorem frame_reference : Cert.quiescent_MlpReferenceIdeal := fun m g _ =>
  (θ_run Cert.MlpReferenceIdeal.defs _ _).mono (fun r h => ⟨fun c => (h c).2.2, sem_eq_zero_of_no_sems (by decide) r.2⟩) (MlpReferenceIdeal.Value.run m g)

theorem value : Cert.algebraic_MlpKernelIdeal_MlpReferenceIdeal := by
  intro m g m' g' _ hm
  refine ⟨_, _, MlpKernelIdeal.Value.run_blocks m g,
    (θ_run _ _ _).mono (fun r h c => ?_) (MlpReferenceIdeal.Value.run m' g')⟩
  obtain ⟨h0, h1, hk⟩ := h c
  obtain ⟨e0, e1, e2, e3⟩ := hm c
  refine ⟨(h0.trans (MlpReferenceIdeal.Read.val_main_v27_eq _ _ _ _)).trans ?_, (h1.trans (MlpReferenceIdeal.Read.val_main_v13_eq _ _ _ _)).trans ?_, hk⟩
  · funext i
    rw [eq_ix2 i]
    refine (R.dh m' c _ _).trans (Eq.trans ?_ (K.dh m c _ _).symm)
    rw [e0, e1, e2, e3]
  · funext i
    rw [eq_ix2 i]
    refine (R.dff m' c _ _).trans (Eq.trans ?_ (K.dff m c _ _).symm)
    rw [e0, e1, e2, e3]

end Cert.Mlp
end
-- ==== Proof.Window.lean ====
/- Sums over a window of consecutive entries: by doublings, by differences of running sums, and a host window sum at an entry. -/
module

public import proofs.«01_k».proof.Proof.Common
public import Idealize.ShloMosaic.PureOps.Contract

@[expose] public section

noncomputable section

namespace Cert.Window

open Idealize.ShloMosaic Finset

section Monoid
variable {M : Type*} [AddCommMonoid M]

/-- The `w` entries ending at `n`, and the `w` entries starting at `n`. -/
def back (w : ℕ) (x : ℕ → M) (n : ℕ) : M := ∑ i ∈ range w, if i ≤ n then x (n - i) else 0
def ahead (w : ℕ) (x : ℕ → M) (n : ℕ) : M := ∑ i ∈ range w, x (n + i)

theorem back_one (x : ℕ → M) (n : ℕ) : back 1 x n = x n := by simp [back]
theorem ahead_one (x : ℕ → M) (n : ℕ) : ahead 1 x n = x n := by simp [ahead]

theorem back_double (k : ℕ) (x : ℕ → M) (n : ℕ) :
    back k x n + (if k ≤ n then back k x (n - k) else 0) = back (k + k) x n := by
  unfold back
  rw [sum_range_add]
  congr 1
  split
  · next h =>
    refine sum_congr rfl fun i _ => ?_
    by_cases hi : i ≤ n - k
    · rw [if_pos hi, if_pos (by omega)]; exact congrArg x (by omega)
    · rw [if_neg hi, if_neg (by omega)]
  · next h => exact (sum_eq_zero fun i _ => if_neg (by omega)).symm

theorem ahead_double (k : ℕ) (x : ℕ → M) (n : ℕ) : ahead k x n + ahead k x (n + k) = ahead (k + k) x n := by
  unfold ahead
  rw [sum_range_add]
  exact congrArg _ (sum_congr rfl fun i _ => congrArg x (by omega))

theorem ahead_zero {T : ℕ} (x : ℕ → M) (hx : ∀ n, T ≤ n → x n = 0) (k n : ℕ) (h : T ≤ n) : ahead k x n = 0 :=
  sum_eq_zero fun i _ => hx _ (by omega)

theorem back_congr {w n : ℕ} {x y : ℕ → M} (h : ∀ i, i ≤ n → x i = y i) : back w x n = back w y n :=
  sum_congr rfl fun i _ => by split <;> [exact h _ (by omega); rfl]

end Monoid

theorem back_coe (w : ℕ) (x : ℕ → ℝ) (n : ℕ) : back w (fun i => (x i : EReal)) n = ((back w x n : ℝ) : EReal) := by
  unfold back
  rw [Common.coe_sum]
  exact sum_congr rfl fun i _ => by split <;> simp
theorem ahead_coe (w : ℕ) (x : ℕ → ℝ) (n : ℕ) : ahead w (fun i => (x i : EReal)) n = ((ahead w x n : ℝ) : EReal) := by
  unfold ahead
  rw [Common.coe_sum]

/-- A window's sum is the running sum up to its end less the running sum before its start. -/
theorem back_eq_sub (w : ℕ) (x : ℕ → ℝ) (n : ℕ) : back w x n = (∑ i ∈ range (n + 1), x i) - ∑ i ∈ range (n + 1 - w), x i := by
  induction w with
  | zero => simp [back]
  | succ w ih =>
    unfold back at ih ⊢
    rw [sum_range_succ, ih]
    split
    · next h =>
      rw [show n + 1 - w = (n - w) + 1 from by omega, sum_range_succ x (n - w), show n + 1 - (w + 1) = n - w from by omega]; ring
    · next h =>
      rw [show n + 1 - w = 0 from by omega, show n + 1 - (w + 1) = 0 from by omega]; ring

theorem sum_shift (x : ℕ → ℝ) (n T : ℕ) : ∑ i ∈ range T, x (n + i) = (∑ i ∈ range (n + T), x i) - ∑ i ∈ range n, x i := by
  rw [sum_range_add]; ring

/-- The sum from `n` on of the entries less the entries `w` later is the sum of the `w` entries from `n`, where the entries
    from `T` on are zero. -/
theorem ahead_eq_tail (T w : ℕ) (x : ℕ → ℝ) (hx : ∀ n, T ≤ n → x n = 0) (n : ℕ) :
    ∑ i ∈ range T, (x (n + i) + -x (n + i + w)) = ahead w x n := by
  have e : ∑ i ∈ range T, x (n + i + w) = ∑ i ∈ range T, x (n + w + i) := sum_congr rfl fun i _ => congrArg x (by omega)
  rw [sum_add_distrib, sum_neg_distrib, e, sum_shift, sum_shift, ahead, sum_shift]
  have z : ∑ i ∈ range (n + w + T), x i = ∑ i ∈ range (n + T), x i := by
    rw [show n + w + T = n + T + w from by omega, sum_range_add]
    rw [sum_eq_zero (s := range w) fun i _ => hx (n + T + i) (by omega), add_zero]
  rw [z]; ring

/-- The running sum read through a window as long as the array, padded in front. -/
theorem prefix_eq (T : ℕ) (x : ℕ → ℝ) (n : ℕ) (hn : n < T) :
    (∑ i ∈ range T, if T - 1 ≤ n + i then x (n + i - (T - 1)) else 0) = ∑ i ∈ range (n + 1), x i := by
  rw [← sum_filter]
  refine sum_bij (fun i _ => n + i - (T - 1)) (fun i hi => ?_) (fun i hi j hj h => ?_) (fun i hi => ?_) (fun _ _ => rfl)
  · simp only [mem_filter, mem_range] at hi ⊢; omega
  · simp only [mem_filter, mem_range] at hi hj; omega
  · simp only [mem_range] at hi
    exact ⟨i + (T - 1) - n, by simp only [mem_filter, mem_range]; omega, by omega⟩

/-! A host window sum along the second of four axes, at an entry. -/

theorem foldl_add {n : ℕ} (f : Fin n → EReal) (a : EReal) : (List.finRange n).foldl (fun r i => r + f i) a = a + ∑ i, f i := by
  rw [Fin.sum_univ_def]
  generalize List.finRange n = l
  induction l generalizing a with
  | nil => simp
  | cons b l ih => rw [List.foldl_cons, ih, List.map_cons, List.sum_cons, add_assoc]

theorem numel_col (T : ℕ) : (⟨4, ![1, T, 1, 1]⟩ : Shape).numel = T := by simp [Shape.numel, Fin.prod_univ_succ]

/-- A position of a window of one column. -/
def pos {T : ℕ} (i : Fin T) : (⟨4, ![1, T, 1, 1]⟩ : Shape).Idx := (⟨4, ![1, T, 1, 1]⟩ : Shape).rowMajor.symm (i.cast (numel_col T).symm)

theorem pos_eq {T : ℕ} (i : Fin T) : pos i = ix4 0 i 0 0 := by
  unfold pos
  rw [Equiv.symm_apply_eq]
  apply Fin.ext
  rw [Shape.rowMajor_val_four]
  change i.val = ((0 * T + i.val) * 1 + 0) * 1 + 0
  omega

theorem window_add {A T B C lo hi : ℕ} (x : (⟨4, ![A, T, B, C]⟩ : Shape).Idx → EReal) (init : (⟨0, ![]⟩ : Shape).Idx → EReal) (h0 : init ix0 = 0)
    (h : (⟨4, ![A, T, B, C]⟩ : Shape).ReduceWindows (![1, T, 1, 1] : Fin 4 → ℕ) ![1, 1, 1, 1] ![0, lo, 0, 0] ![0, hi, 0, 0] ⟨4, ![A, T, B, C]⟩)
    (hu : 0 < (⟨0, ![]⟩ : Shape).numel) (a : Fin A) (n : Fin T) (b : Fin B) (c : Fin C) :
    Host.reduceWindowAdd (F := Ideal) (φ := .f32) ![1, T, 1, 1] ![1, 1, 1, 1] ![0, lo, 0, 0] ![0, hi, 0, 0] x init h hu (ix4 a n b c)
      = ∑ i ∈ range T, if hi : lo ≤ n.val + i ∧ n.val + i - lo < T then x (ix4 a ⟨n.val + i - lo, hi.2⟩ b c) else 0 := by
  have hv : init (Shape.Idx.first hu) = 0 := (congrArg init (funext fun d => d.elim0)).trans h0
  show Host.reduceWindow (· + ·) _ _ _ _ x (fun _ : (⟨0, ![]⟩ : Shape).Idx => init (Shape.Idx.first hu)) h (by decide) (ix4 a n b c) = _
  unfold Host.reduceWindow
  dsimp only
  rw [foldl_add, hv, zero_add]
  have hN := numel_col T
  rw [Finset.sum_range]
  refine Fintype.sum_equiv (finCongr hN) _ _ fun i => ?_
  obtain ⟨i, rfl⟩ : ∃ j : Fin T, i = j.cast hN.symm := ⟨i.cast hN, rfl⟩
  change _ = if hi : lo ≤ n.val + i.val ∧ n.val + i.val - lo < T then x (ix4 a ⟨n.val + i.val - lo, hi.2⟩ b c) else 0
  have w0 : (pos i 0).val = 0 := by rw [pos_eq]; rfl
  have w1 : (pos i 1).val = i.val := by rw [pos_eq]; rfl
  have w2 : (pos i 2).val = 0 := by rw [pos_eq]; rfl
  have w3 : (pos i 3).val = 0 := by rw [pos_eq]; rfl
  have ha := a.isLt; have hb := b.isLt; have hc := c.isLt
  by_cases hi : lo ≤ n.val + i.val ∧ n.val + i.val - lo < T
  · rw [dif_pos hi, dif_pos ?_]
    · refine congrArg x (funext fun d => Fin.ext ?_)
      fin_cases d
      · show a.val * 1 + (pos i 0).val - 0 = a.val; omega
      · show n.val * 1 + (pos i 1).val - lo = n.val + i.val - lo; omega
      · show b.val * 1 + (pos i 2).val - 0 = b.val; omega
      · show c.val * 1 + (pos i 3).val - 0 = c.val; omega
    · intro d
      fin_cases d
      · show 0 ≤ a.val * 1 + (pos i 0).val ∧ a.val * 1 + (pos i 0).val - 0 < A; omega
      · show lo ≤ n.val * 1 + (pos i 1).val ∧ n.val * 1 + (pos i 1).val - lo < T; omega
      · show 0 ≤ b.val * 1 + (pos i 2).val ∧ b.val * 1 + (pos i 2).val - 0 < B; omega
      · show 0 ≤ c.val * 1 + (pos i 3).val ∧ c.val * 1 + (pos i 3).val - 0 < C; omega
  · rw [dif_neg hi, dif_neg fun hd => hi ?_]
    have := hd 1
    change lo ≤ n.val * 1 + (pos i 1).val ∧ n.val * 1 + (pos i 1).val - lo < T at this
    omega

end Cert.Window
-- ==== Proof.Pool.lean ====
/- The backward pass of the four windowed means: gradients of the input, of the group matrices and of the scale. -/
module

public import proofs.«01_k».proof.Defs
public import proofs.«01_k».proof.Proof.Window
public import Idealize.ShloMosaic.Lib.Quiescent
public import Idealize.ShloMosaic.Lib.Pipeline.ValueKit
public import Idealize.ShloMosaic.Lib.Tactic.CleanTypes
public import Idealize.ShloMosaic.Lib.WordCmp
public import proofs.«01_k».proof.Proof.Gen.PoolKernelIdeal.Value
public import proofs.«01_k».proof.Proof.Gen.PoolReferenceIdeal.Run
public import proofs.«01_k».proof.Proof.Gen.PoolReferenceIdeal.Read

@[expose] public section

set_option maxRecDepth 16384

noncomputable section

namespace Cert.Pool

open Idealize.ShloMosaic Cert.Window

/-- The number of rows in a group's window that ends at a row. -/
def rows (g : Fin 4) (r : Fin 2048) : ℝ := ((min (r.val + 1) (2 ^ (g.val + 1)) : ℕ) : ℝ)

theorem rows_pos (g : Fin 4) (r : Fin 2048) : 0 < rows g r :=
  Nat.cast_pos.2 (lt_min (Nat.succ_pos _) (Nat.two_pow_pos _))

theorem count (g : Fin 4) (r : Fin 2048) :
    (FloatOps.sitofp (F := Ideal) .f32 (IntOp.minsi (IntOp.addi (BitVec.ofNat 32 r.val) 1#32) (BitVec.ofNat 32 (2 ^ (g.val + 1)))) : EReal) = ((rows g r : ℝ) : EReal) := by
  have hr := r.isLt
  have key : (IntOp.minsi (IntOp.addi (BitVec.ofNat 32 r.val) 1#32) (BitVec.ofNat 32 (2 ^ (g.val + 1)))).toInt = ((min (r.val + 1) (2 ^ (g.val + 1)) : ℕ) : ℤ) := by
    have hw : 2 ^ (g.val + 1) ≤ 16 := by fin_cases g <;> decide
    have e0 : ∀ n : ℕ, n < 4096 → (BitVec.ofNat 32 n).toInt = (n : ℤ) := fun n hn => by
      rw [BitVec.toInt_eq_toNat_of_lt (by rw [BitVec.toNat_ofNat]; omega), BitVec.toNat_ofNat]; omega
    have e1 : (IntOp.addi (BitVec.ofNat 32 r.val) 1#32).toInt = ((r.val + 1 : ℕ) : ℤ) := by
      unfold IntOp.addi
      rw [← BitVec.ofNat_add, e0 _ (by omega)]
    have e2 := e0 (2 ^ (g.val + 1)) (by omega)
    generalize 2 ^ (g.val + 1) = w at *
    unfold IntOp.minsi
    split
    · next h => rw [BitVec.slt_iff_toInt_lt, e1, e2] at h; rw [e1]; omega
    · next h => rw [BitVec.slt_iff_toInt_lt, e1, e2] at h; rw [e2]; omega
  show (((IntOp.minsi (IntOp.addi (BitVec.ofNat 32 r.val) 1#32) (BitVec.ofNat 32 (2 ^ (g.val + 1)))).toInt : ℝ) : EReal) = _
  rw [key, rows, Int.cast_natCast]

/-- A group's lane among the 512. -/
def lane (g : Fin 4) (c : Fin 128) : Fin 512 := ⟨g.val * 128 + c.val, by omega⟩

theorem exists_lane (K : Fin 512) : ∃ (g : Fin 4) (c : Fin 128), K = lane g c :=
  ⟨⟨K.val / 128, by omega⟩, ⟨K.val % 128, by omega⟩, Fin.ext (by show K.val = K.val / 128 * 128 + K.val % 128; omega)⟩

section Spec
variable (P Y : Fin 2048 → Fin 512 → ℝ) (W : Fin 4 → Fin 128 → Fin 128 → ℝ) (Z : Fin 512 → ℝ)

/-- A column of numbers, continued by zeros. -/
def ext (f : Fin 2048 → ℝ) (n : ℕ) : ℝ := if h : n < 2048 then f ⟨n, h⟩ else 0

/-- The windowed mean less the input. -/
def delta (g : Fin 4) (c : Fin 128) (r : Fin 2048) : ℝ := back (2 ^ (g.val + 1)) (ext fun n => P n (lane g c)) r.val * (1 / rows g r) - P r (lane g c)
/-- What reaches that difference from the output. -/
def cotR (g : Fin 4) (k : Fin 128) (r : Fin 2048) : ℝ := ∑ c : Fin 128, Y r (lane g c) * Z (lane g c) * W g k c
/-- The gradients of the input, of the group matrices and of the scale. -/
def dU (g : Fin 4) (k : Fin 128) (r : Fin 2048) : ℝ := ahead (2 ^ (g.val + 1)) (ext fun n => cotR Y W Z g k n * (1 / rows g n)) r.val - cotR Y W Z g k r
def dW (g : Fin 4) (k c : Fin 128) : ℝ := ∑ r : Fin 2048, delta P g k r * (Y r (lane g c) * Z (lane g c))
def dS (g : Fin 4) (c : Fin 128) : ℝ := ∑ r : Fin 2048, Y r (lane g c) * ∑ k : Fin 128, delta P g k r * W g k c

end Spec

end Cert.Pool

namespace Cert.Pool.K

open Cert.PoolKernelIdeal Cert.PoolKernelIdeal.Gen Cert.PoolKernelIdeal.Value Idealize.ShloMosaic Idealize.ShloMosaic.TcCoe Idealize.SL.Sem Cert.Common Cert.Window Idealize.ShloMosaic.WordCmp

/-- A column of a block, continued by zeros. -/
def col (y : Vec Ideal S2048x128 .f32) (c : Fin 128) : ℕ → EReal := fun n => if h : n < 2048 then y (ix2 ⟨n, h⟩ c) else 0

theorem col_lt (y : Vec Ideal S2048x128 .f32) (c : Fin 128) (r : Fin 2048) : col y c r.val = y (ix2 r c) := dif_pos r.isLt
theorem col_ge (y : Vec Ideal S2048x128 .f32) (c : Fin 128) (n : ℕ) (h : 2048 ≤ n) : col y c n = 0 := dif_neg (by omega)

/-- The block plus itself moved `k` rows down, and up; rows moved in are zero. -/
def dn (k : BitVec 32) (y : Vec Ideal S2048x128 .f32) : Vec Ideal S2048x128 .f32 :=
  addf (F := Ideal) (φ := .f32) y (select (cmpi .sge (iota .tc S2048x128 32 [0] iota_S2048x128_d0_w32) (broadcast S2048x128 k)) (dynamicRotate 0 k none y rotates_S2048x128_d0) (broadcast S2048x128 (Scalar.ofBits (F := Ideal) .f32 0x00000000#32)))
def up (k : BitVec 32) (y : Vec Ideal S2048x128 .f32) : Vec Ideal S2048x128 .f32 :=
  addf (F := Ideal) (φ := .f32) y (select (cmpi .slt (iota .tc S2048x128 32 [0] iota_S2048x128_d0_w32) (broadcast S2048x128 k)) (dynamicRotate 0 k none y rotates_S2048x128_d0) (broadcast S2048x128 (Scalar.ofBits (F := Ideal) .f32 0x00000000#32)))

/-- The same by eight rows, which moves whole tiles. -/
def dn8 (y : Vec Ideal S2048x128 .f32) : Vec Ideal S2048x128 .f32 :=
  addf (F := Ideal) (φ := .f32) y (concatenate S2048x128 0 [⟨S8x128, broadcast S8x128 (Scalar.ofBits (F := Ideal) .f32 0x00000000#32)⟩, ⟨S2040x128, extractStridedSlice S2040x128 ![0, 0] y slices_S2048x128_o0_0_S2040x128⟩] concatenates_S8x128_S2040x128_S2048x128_d0)
def up8 (y : Vec Ideal S2048x128 .f32) : Vec Ideal S2048x128 .f32 :=
  addf (F := Ideal) (φ := .f32) y (concatenate S2048x128 0 [⟨S2040x128, extractStridedSlice S2040x128 ![8, 0] y slices_S2048x128_o8_0_S2040x128⟩, ⟨S8x128, broadcast S8x128 (Scalar.ofBits (F := Ideal) .f32 0x00000000#32)⟩] concatenates_S2040x128_S8x128_S2048x128_d0)

theorem sge (a b : ℕ) (ha : a < 2048) (hb : b < 2048) : IntOp.cmpi .sge (BitVec.ofNat 32 a) (BitVec.ofNat 32 b) = 1#1 ↔ b ≤ a :=
  cmpi_sge_ofNat_eq_one_iff (w := 32) (by omega) (by omega)
theorem slt (a b : ℕ) (ha : a < 2048) (hb : b < 2048) : IntOp.cmpi .slt (BitVec.ofNat 32 a) (BitVec.ofNat 32 b) = 1#1 ↔ a < b :=
  cmpi_slt_ofNat_eq_one_iff (w := 32) (by omega) (by omega)

theorem dn_apply (k : ℕ) (hk : k < 2048) (y : Vec Ideal S2048x128 .f32) (r : Fin 2048) (c : Fin 128) :
    dn (BitVec.ofNat 32 k) y (ix2 r c) = col y c r.val + if k ≤ r.val then col y c (r.val - k) else 0 := by
  have hr := r.isLt
  have ht : (BitVec.ofNat 32 k).toNat = k := by rw [BitVec.toNat_ofNat]; omega
  unfold dn
  pointwise []
  rw [col_lt]
  unfold Scalar.select
  by_cases h : k ≤ r.val
  · refine congrArg (_ + ·) ((if_pos ((sge _ _ hr hk).2 h)).trans ?_)
    rw [if_pos h, col, dif_pos (by omega)]
    exact congrArg (fun a => y (ix2 a c)) (Fin.ext (by rw [ht]; show (r.val + 2048 - k % 2048) % 2048 = r.val - k; omega))
  · refine congrArg (_ + ·) ((if_neg (fun e => h ((sge _ _ hr hk).1 e))).trans ?_)
    rw [if_neg h]
theorem up_apply (k : ℕ) (hk : 0 < k) (hk' : k < 2048) (y : Vec Ideal S2048x128 .f32) (r : Fin 2048) (c : Fin 128) :
    up (BitVec.ofNat 32 (2048 - k)) y (ix2 r c) = col y c r.val + col y c (r.val + k) := by
  have hr := r.isLt
  have ht : (BitVec.ofNat 32 (2048 - k)).toNat = 2048 - k := by rw [BitVec.toNat_ofNat]; omega
  unfold up
  pointwise []
  rw [col_lt]
  unfold Scalar.select
  by_cases h : r.val < 2048 - k
  · refine congrArg (_ + ·) ((if_pos ((slt _ _ hr (by omega)).2 h)).trans ?_)
    rw [col, dif_pos (by omega)]
    exact congrArg (fun a => y (ix2 a c)) (Fin.ext (by rw [ht]; show (r.val + 2048 - (2048 - k) % 2048) % 2048 = r.val + k; omega))
  · refine congrArg (_ + ·) ((if_neg (fun e => h ((slt _ _ hr (by omega)).1 e))).trans ?_)
    rw [col_ge _ _ _ (by omega)]
theorem dn8_apply (y : Vec Ideal S2048x128 .f32) (r : Fin 2048) (c : Fin 128) :
    dn8 y (ix2 r c) = col y c r.val + if 8 ≤ r.val then col y c (r.val - 8) else 0 := by
  have hr := r.isLt
  unfold dn8
  pointwise []
  rw [col_lt]
  by_cases h : 8 ≤ r.val
  · rw [dif_neg (by omega), if_pos h, col, dif_pos (by omega)]
  · rw [dif_pos (by omega), if_neg h]
theorem up8_apply (y : Vec Ideal S2048x128 .f32) (r : Fin 2048) (c : Fin 128) :
    up8 y (ix2 r c) = col y c r.val + col y c (r.val + 8) := by
  have hr := r.isLt
  unfold up8
  pointwise []
  rw [col_lt]
  by_cases h : r.val < 2040
  · rw [dif_pos h, col, dif_pos (by omega)]
    exact congrArg (fun a => _ + y (ix2 a c)) (Fin.ext (by show 8 + r.val = r.val + 8; omega))
  · rw [dif_neg h, col_ge _ _ _ (by omega)]

/-- The windowed sums of the four groups: one to four doublings. -/
def sumDn : Fin 4 → Vec Ideal S2048x128 .f32 → Vec Ideal S2048x128 .f32
  | 0, y => dn 1#32 y
  | 1, y => dn 2#32 (dn 1#32 y)
  | 2, y => dn 4#32 (dn 2#32 (dn 1#32 y))
  | 3, y => dn8 (dn 4#32 (dn 2#32 (dn 1#32 y)))
def sumUp : Fin 4 → Vec Ideal S2048x128 .f32 → Vec Ideal S2048x128 .f32
  | 0, y => up 2047#32 y
  | 1, y => up 2046#32 (up 2047#32 y)
  | 2, y => up 2044#32 (up 2046#32 (up 2047#32 y))
  | 3, y => up8 (up 2044#32 (up 2046#32 (up 2047#32 y)))

/-- One doubling of a window's sum. -/
theorem dn_step (k : ℕ) (y z : Vec Ideal S2048x128 .f32) (x : ℕ → EReal) (c : Fin 128) (hz : ∀ n, n < 2048 → col z c n = back k x n)
    (hy : ∀ r : Fin 2048, y (ix2 r c) = col z c r.val + if k ≤ r.val then col z c (r.val - k) else 0) :
    ∀ n, n < 2048 → col y c n = back (k + k) x n := fun n hn => by
  rw [col, dif_pos hn, hy, hz n hn, ← back_double]
  dsimp only
  congr 1
  split
  · exact hz _ (by omega)
  · rfl
theorem up_step (k : ℕ) (y z : Vec Ideal S2048x128 .f32) (x : ℕ → EReal) (hx : ∀ n, 2048 ≤ n → x n = 0) (c : Fin 128) (hz : ∀ n, col z c n = ahead k x n)
    (hy : ∀ r : Fin 2048, y (ix2 r c) = col z c r.val + col z c (r.val + k)) :
    ∀ n, col y c n = ahead (k + k) x n := fun n => by
  by_cases hn : n < 2048
  · rw [col, dif_pos hn, hy, hz, hz, ← ahead_double]
  · rw [col_ge _ _ _ (by omega), ahead_zero x hx _ _ (by omega)]

theorem sumDn_apply (g : Fin 4) (y : Vec Ideal S2048x128 .f32) (r : Fin 2048) (c : Fin 128) :
    sumDn g y (ix2 r c) = back (2 ^ (g.val + 1)) (col y c) r.val := by
  have h0 : ∀ n, n < 2048 → col y c n = back 1 (col y c) n := fun n _ => (back_one _ _).symm
  have h1 := dn_step 1 (dn 1#32 y) y _ c h0 fun r => dn_apply 1 (by omega) _ _ _
  have h2 := dn_step 2 (dn 2#32 (dn 1#32 y)) _ _ c h1 fun r => dn_apply 2 (by omega) _ _ _
  have h3 := dn_step 4 (dn 4#32 (dn 2#32 (dn 1#32 y))) _ _ c h2 fun r => dn_apply 4 (by omega) _ _ _
  have h4 := dn_step 8 (dn8 (dn 4#32 (dn 2#32 (dn 1#32 y)))) _ _ c h3 fun r => dn8_apply _ _ _
  fin_cases g
  · exact (col_lt _ c r).symm.trans (h1 r.val r.isLt)
  · exact (col_lt _ c r).symm.trans (h2 r.val r.isLt)
  · exact (col_lt _ c r).symm.trans (h3 r.val r.isLt)
  · exact (col_lt _ c r).symm.trans (h4 r.val r.isLt)
theorem sumUp_apply (g : Fin 4) (y : Vec Ideal S2048x128 .f32) (r : Fin 2048) (c : Fin 128) :
    sumUp g y (ix2 r c) = ahead (2 ^ (g.val + 1)) (col y c) r.val := by
  have hx := col_ge y c
  have h0 : ∀ n, col y c n = ahead 1 (col y c) n := fun n => (ahead_one _ _).symm
  have h1 := up_step 1 (up 2047#32 y) y _ hx c h0 fun r => up_apply 1 (by omega) (by omega) _ _ _
  have h2 := up_step 2 (up 2046#32 (up 2047#32 y)) _ _ hx c h1 fun r => up_apply 2 (by omega) (by omega) _ _ _
  have h3 := up_step 4 (up 2044#32 (up 2046#32 (up 2047#32 y))) _ _ hx c h2 fun r => up_apply 4 (by omega) (by omega) _ _ _
  have h4 := up_step 8 (up8 (up 2044#32 (up 2046#32 (up 2047#32 y)))) _ _ hx c h3 fun r => up8_apply _ _ _
  fin_cases g
  · exact (col_lt _ c r).symm.trans (h1 r.val)
  · exact (col_lt _ c r).symm.trans (h2 r.val)
  · exact (col_lt _ c r).symm.trans (h3 r.val)
  · exact (col_lt _ c r).symm.trans (h4 r.val)

/-- One over the number of rows in a group's window. -/
def inv (g : Fin 4) : Vec Ideal S2048x128 .f32 :=
  divf (F := Ideal) (φ := .f32) (broadcast S2048x128 (Scalar.ofBits (F := Ideal) .f32 0x3F800000#32)) (sitofp (F := Ideal) .f32 (minsi (addi (iota .tc S2048x128 32 [0] iota_S2048x128_d0_w32) (broadcast S2048x128 1#32)) (broadcast S2048x128 (BitVec.ofNat 32 (2 ^ (g.val + 1))))))

theorem inv_apply (g : Fin 4) (r : Fin 2048) (c : Fin 128) : inv g (ix2 r c) = ((1 / (rows g r) : ℝ) : EReal) := by
  unfold inv
  pointwise []
  rw [count g r, Ideal.div_coe (rows_pos g r).ne', one_mul]

/-- A group's difference of windowed mean and input, and its three gradients, of blocks. -/
def diff (g : Fin 4) (u : Vec Ideal S2048x128 .f32) : Vec Ideal S2048x128 .f32 := subf (F := Ideal) (φ := .f32) (mulf (F := Ideal) (φ := .f32) (sumDn g u) (inv g)) u
def scaled (d : Vec Ideal S2048x128 .f32) (s : Vec Ideal S1x1x128 .f32) : FVec Ideal S2048x128 .bf16 :=
  truncf (F := Ideal) .bf16 (mulf (F := Ideal) (φ := .f32) d (broadcastTo S2048x128 (shapeCast S1x128 s shapeCasts_S1x1x128_S1x128) broadcasts_S1x128_S2048x128)) bitsLt_bf16_f32
def cot (d : Vec Ideal S2048x128 .f32) (s : Vec Ideal S1x1x128 .f32) (w : Vec Ideal S1x1x128x128 .f32) : Vec Ideal S2048x128 .f32 :=
  matmul (F := Ideal) dot_S2048x128_S128x128_S2048x128_1_1_0_0_n_n none (scaled d s) (k0_pay3 w) (constant S2048x128 .f32 0x00000000#32)
def du (g : Fin 4) (d : Vec Ideal S2048x128 .f32) (s : Vec Ideal S1x1x128 .f32) (w : Vec Ideal S1x1x128x128 .f32) : Vec Ideal S2048x128 .bf16 :=
  truncf (F := Ideal) .bf16 (subf (F := Ideal) (φ := .f32) (sumUp g (mulf (F := Ideal) (φ := .f32) (cot d s w) (inv g))) (cot d s w)) bitsLt_bf16_f32
def dw (g : Fin 4) (u d : Vec Ideal S2048x128 .f32) (s : Vec Ideal S1x1x128 .f32) : Vec Ideal S1x128x128 .f32 :=
  shapeCast S1x128x128 (matmul (F := Ideal) dot_S2048x128_S2048x128_S128x128_0_0_1_1_n_n none (truncf (F := Ideal) .bf16 (diff g u) bitsLt_bf16_f32) (scaled d s) (constant S128x128 .f32 0x00000000#32)) shapeCasts_S128x128_S1x128x128
def ds (g : Fin 4) (u d : Vec Ideal S2048x128 .f32) (w : Vec Ideal S1x1x128x128 .f32) : Vec Ideal S1x128 .f32 :=
  shapeCast S1x128 (multiReduction (F := Ideal) .add [0] S128 (mulf (F := Ideal) (φ := .f32) d (matmul (F := Ideal) dot_S2048x128_S128x128_S2048x128_1_0_0_1_n_n none (truncf (F := Ideal) .bf16 (diff g u) bitsLt_bf16_f32) (k0_pay3 w) (constant S2048x128 .f32 0x00000000#32))) 0x00000000#32 reduces_S2048x128_S128 (.inl rfl) rfl) shapeCasts_S128_S1x128

/-- The rows' numbers, as every group after the first reads them. -/
abbrev io : IVec S2048x128 32 := iota .tc S2048x128 32 [0] iota_S2048x128_d0_w32

theorem pay_du (d : Vec Ideal S2048x128 .f32) (s : Vec Ideal S1x1x128 .f32) (w : Vec Ideal S1x1x128x128 .f32) :
    k0_pay8 io (k0_pay1 (F := Ideal)) (k0_pay3 w) (k0_pay5 d s) = du 0 d s w ∧ k0_pay15 io (k0_pay9 (F := Ideal) io) w d s = du 1 d s w
    ∧ k0_pay22 io (k0_pay16 (F := Ideal) io) (k0_pay18 w) d s = du 2 d s w ∧ k0_pay29 io (k0_pay23 (F := Ideal) io 1#32) (k0_pay25 w) d s = du 3 d s w :=
  ⟨rfl, rfl, rfl, rfl⟩
theorem pay_dw (u d : Vec Ideal S2048x128 .f32) (s : Vec Ideal S1x1x128 .f32) :
    k0_pay7 (k0_pay6 u d s) = dw 0 u d s ∧ k0_pay14 (k0_pay10 io u) d s = dw 1 u d s
    ∧ k0_pay21 (k0_pay17 io u) d s = dw 2 u d s ∧ k0_pay28 (k0_pay24 io u 1#32) d s = dw 3 u d s :=
  ⟨rfl, rfl, rfl, rfl⟩
theorem pay_ds (u d : Vec Ideal S2048x128 .f32) (w : Vec Ideal S1x1x128x128 .f32) :
    k0_pay4 u w d = ds 0 u d w ∧ k0_pay12 (k0_pay10 io u) w d = ds 1 u d w
    ∧ k0_pay19 io u w d = ds 2 u d w ∧ k0_pay26 io u 1#32 w d = ds 3 u d w :=
  ⟨rfl, rfl, rfl, rfl⟩

theorem diff_apply (g : Fin 4) (u : Vec Ideal S2048x128 .f32) (r : Fin 2048) (c : Fin 128) :
    diff g u (ix2 r c) = back (2 ^ (g.val + 1)) (col u c) r.val * inv g (ix2 r c) - u (ix2 r c) := by
  unfold diff
  pointwise [sumDn_apply]
theorem cot_apply (d : Vec Ideal S2048x128 .f32) (s : Vec Ideal S1x1x128 .f32) (w : Vec Ideal S1x1x128x128 .f32) (r : Fin 2048) (k : Fin 128) :
    cot d s w (ix2 r k) = ∑ c : Fin 128, d (ix2 r c) * s (ix3 0 0 c) * w (ix4 0 0 k c) := by
  unfold cot scaled
  pointwise [k0_pay3]
theorem du_apply (g : Fin 4) (d : Vec Ideal S2048x128 .f32) (s : Vec Ideal S1x1x128 .f32) (w : Vec Ideal S1x1x128x128 .f32) (r : Fin 2048) (k : Fin 128) :
    du g d s w (ix2 r k) = ahead (2 ^ (g.val + 1)) (col (mulf (F := Ideal) (φ := .f32) (cot d s w) (inv g)) k) r.val - cot d s w (ix2 r k) := by
  unfold du
  pointwise [sumUp_apply]
theorem dw_apply (g : Fin 4) (u d : Vec Ideal S2048x128 .f32) (s : Vec Ideal S1x1x128 .f32) (k c : Fin 128) :
    dw g u d s (ix3 0 k c) = ∑ r : Fin 2048, diff g u (ix2 r k) * (d (ix2 r c) * s (ix3 0 0 c)) := by
  unfold dw scaled
  pointwise []
theorem ds_apply (g : Fin 4) (u d : Vec Ideal S2048x128 .f32) (w : Vec Ideal S1x1x128x128 .f32) (c : Fin 128) :
    ds g u d w (ix2 0 c) = ∑ r : Fin 2048, d (ix2 r c) * ∑ k : Fin 128, diff g u (ix2 r k) * w (ix4 0 0 k c) := by
  unfold ds
  pointwise [k0_pay3]

section Coe
variable (P Y : Fin 2048 → Fin 512 → ℝ) (W : Fin 4 → Fin 128 → Fin 128 → ℝ) (Z : Fin 512 → ℝ) (g : Fin 4)

theorem col_coe (y : Vec Ideal S2048x128 .f32) (c : Fin 128) (f : Fin 2048 → ℝ) (h : ∀ r, y (ix2 r c) = (f r : EReal)) :
    col y c = fun n => (ext f n : EReal) := by
  funext n
  unfold col ext
  split
  · exact h _
  · rfl

theorem diff_coe (u : Vec Ideal S2048x128 .f32) (hu : ∀ r c, u (ix2 r c) = (P r (lane g c) : EReal)) (r : Fin 2048) (c : Fin 128) :
    diff g u (ix2 r c) = (delta P g c r : EReal) := by
  rw [diff_apply, col_coe u c (fun n => P n (lane g c)) (fun r => hu r c), back_coe, inv_apply, hu, ← EReal.coe_mul, ← EReal.coe_sub, delta]

theorem cot_coe (d : Vec Ideal S2048x128 .f32) (s : Vec Ideal S1x1x128 .f32) (w : Vec Ideal S1x1x128x128 .f32)
    (hd : ∀ r c, d (ix2 r c) = (Y r (lane g c) : EReal)) (hs : ∀ c, s (ix3 0 0 c) = (Z (lane g c) : EReal)) (hw : ∀ k c, w (ix4 0 0 k c) = (W g k c : EReal))
    (r : Fin 2048) (k : Fin 128) : cot d s w (ix2 r k) = (cotR Y W Z g k r : EReal) := by
  rw [cot_apply]
  simp only [hd, hs, hw, ← EReal.coe_mul, ← coe_sum]
  rfl

theorem du_coe (d : Vec Ideal S2048x128 .f32) (s : Vec Ideal S1x1x128 .f32) (w : Vec Ideal S1x1x128x128 .f32)
    (hd : ∀ r c, d (ix2 r c) = (Y r (lane g c) : EReal)) (hs : ∀ c, s (ix3 0 0 c) = (Z (lane g c) : EReal)) (hw : ∀ k c, w (ix4 0 0 k c) = (W g k c : EReal))
    (r : Fin 2048) (k : Fin 128) : du g d s w (ix2 r k) = (dU Y W Z g k r : EReal) := by
  have hc := cot_coe Y W Z g d s w hd hs hw
  have hm : ∀ n, mulf (F := Ideal) (φ := .f32) (cot d s w) (inv g) (ix2 n k) = ((cotR Y W Z g k n * (1 / rows g n) : ℝ) : EReal) := fun n => by
    rw [EReal.coe_mul, ← hc, ← inv_apply g n k]; rfl
  rw [du_apply, col_coe _ k _ hm, ahead_coe, hc, ← EReal.coe_sub, dU]

theorem dw_coe (u d : Vec Ideal S2048x128 .f32) (s : Vec Ideal S1x1x128 .f32) (hu : ∀ r c, u (ix2 r c) = (P r (lane g c) : EReal))
    (hd : ∀ r c, d (ix2 r c) = (Y r (lane g c) : EReal)) (hs : ∀ c, s (ix3 0 0 c) = (Z (lane g c) : EReal)) (k c : Fin 128) :
    dw g u d s (ix3 0 k c) = (dW P Y Z g k c : EReal) := by
  rw [dw_apply]
  simp only [diff_coe P g u hu, hd, hs, ← EReal.coe_mul, ← coe_sum]
  rfl

theorem ds_coe (u d : Vec Ideal S2048x128 .f32) (w : Vec Ideal S1x1x128x128 .f32) (hu : ∀ r c, u (ix2 r c) = (P r (lane g c) : EReal))
    (hd : ∀ r c, d (ix2 r c) = (Y r (lane g c) : EReal)) (hw : ∀ k c, w (ix4 0 0 k c) = (W g k c : EReal)) (c : Fin 128) :
    ds g u d w (ix2 0 c) = (dS P Y W g c : EReal) := by
  rw [ds_apply]
  simp only [diff_coe P g u hu, hd, hw, ← EReal.coe_mul, ← coe_sum]
  rfl

end Coe

/-- A group's columns, matrix and scales, loaded from the whole blocks. -/
theorem ld_cols (X : Vec Ideal S2048x512 .f32) (g : Fin 4) (o : ℕ) (ho : o = g.val * 128) (inb) (r : Fin 2048) (c : Fin 128) :
    View.ld (Val := Elt Ideal) (e' := .f32) X (Rect.unit (s := S2048x512) ![0, o] S2048x128.size inb) (ix2 r c) = X (ix2 r (lane g c)) := by
  subst ho
  refine congrArg X (funext fun a => Fin.ext ?_)
  match a with
  | ⟨0, _⟩ => show 0 + 1 * r.val = r.val; omega
  | ⟨1, _⟩ => show g.val * 128 + 1 * c.val = g.val * 128 + c.val; omega
theorem ld_scale (X : Vec Ideal S1x1x512 .f32) (g : Fin 4) (o : ℕ) (ho : o = g.val * 128) (inb) (c : Fin 128) :
    View.ld (Val := Elt Ideal) (e' := .f32) X (Rect.unit (s := S1x1x512) ![0, 0, o] S1x1x128.size inb) (ix3 0 0 c) = X (ix3 0 0 (lane g c)) := by
  subst ho
  refine congrArg X (funext fun a => Fin.ext ?_)
  match a with
  | ⟨0, _⟩ => rfl
  | ⟨1, _⟩ => rfl
  | ⟨2, _⟩ => show g.val * 128 + 1 * c.val = g.val * 128 + c.val; omega
theorem ld_mat (X : Vec Ideal S1x4x128x128 .f32) (g : Fin 4) (o : ℕ) (ho : o = g.val) (inb) (k c : Fin 128) :
    View.ld (Val := Elt Ideal) (e' := .f32) X (Rect.unit (s := S1x4x128x128) ![0, o, 0, 0] S1x1x128x128.size inb) (ix4 0 0 k c) = X (ix4 0 g k c) := by
  subst ho
  refine congrArg X (funext fun a => Fin.ext ?_)
  match a with
  | ⟨0, _⟩ => rfl
  | ⟨1, _⟩ => show g.val + 1 * 0 = g.val; omega
  | ⟨2, _⟩ => show 0 + 1 * k.val = k.val; omega
  | ⟨3, _⟩ => show 0 + 1 * c.val = c.val; omega

section Outs
variable (P Y : Fin 2048 → Fin 512 → ℝ) (W : Fin 4 → Fin 128 → Fin 128 → ℝ) (Z : Fin 512 → ℝ)
  (x0 x1 : Vec Ideal S2048x512 .f32) (x2 : Vec Ideal S1x4x128x128 .f32) (x3 : Vec Ideal S1x1x512 .f32)
  (a0 : ∀ r k, x0 (ix2 r k) = (P r k : EReal)) (a1 : ∀ r k, x1 (ix2 r k) = (Y r k : EReal)) (a2 : ∀ g k c, x2 (ix4 0 g k c) = (W g k c : EReal)) (a3 : ∀ k, x3 (ix3 0 0 k) = (Z k : EReal))

omit a0 a1 a2 a3 in
theorem band (g j : Fin 4) (k v : Fin 128) (h : (lane g k).val = j.val * 128 + v.val) : g = j ∧ k = v := by
  have hl : (lane g k).val = g.val * 128 + k.val := rfl
  exact ⟨Fin.ext (by omega), Fin.ext (by omega)⟩

include a1 a2 a3 in
theorem out4_coe (r : Fin 2048) (g : Fin 4) (k : Fin 128) : out0_4 x0 x1 x2 x3 (ix2 r (lane g k)) = (dU Y W Z g k r : EReal) := by
  unfold_out out0_4
  canon_tiles x h using View.cover_of_tiledBy _ ![2048, 128] (by sl_kernel_rfl) _
  · obtain ⟨u, v, rfl⟩ : ∃ (u : Fin 2048) (v : Fin 128), x = ix2 u v := ⟨_, _, eq_ix2 x⟩
    obtain rfl : r = u := Fin.ext h0
    obtain ⟨rfl, rfl⟩ := band g 3 k v h1
    exact (congrFun (pay_du _ _ _).2.2.2 _).trans (du_coe Y W Z 3 _ _ _ (fun r c => (ld_cols x1 3 _ rfl _ r c).trans (a1 _ _)) (fun c => (ld_scale x3 3 _ rfl _ c).trans (a3 _)) (fun k c => (ld_mat x2 3 _ rfl _ k c).trans (a2 _ _ _)) _ _)
  · obtain ⟨u, v, rfl⟩ : ∃ (u : Fin 2048) (v : Fin 128), x = ix2 u v := ⟨_, _, eq_ix2 x⟩
    obtain rfl : r = u := Fin.ext h0
    obtain ⟨rfl, rfl⟩ := band g 2 k v h1
    exact (congrFun (pay_du _ _ _).2.2.1 _).trans (du_coe Y W Z 2 _ _ _ (fun r c => (ld_cols x1 2 _ rfl _ r c).trans (a1 _ _)) (fun c => (ld_scale x3 2 _ rfl _ c).trans (a3 _)) (fun k c => (ld_mat x2 2 _ rfl _ k c).trans (a2 _ _ _)) _ _)
  · obtain ⟨u, v, rfl⟩ : ∃ (u : Fin 2048) (v : Fin 128), x = ix2 u v := ⟨_, _, eq_ix2 x⟩
    obtain rfl : r = u := Fin.ext h0
    obtain ⟨rfl, rfl⟩ := band g 1 k v h1
    exact (congrFun (pay_du _ _ _).2.1 _).trans (du_coe Y W Z 1 _ _ _ (fun r c => (ld_cols x1 1 _ rfl _ r c).trans (a1 _ _)) (fun c => (ld_scale x3 1 _ rfl _ c).trans (a3 _)) (fun k c => (ld_mat x2 1 _ rfl _ k c).trans (a2 _ _ _)) _ _)
  · obtain ⟨u, v, rfl⟩ : ∃ (u : Fin 2048) (v : Fin 128), x = ix2 u v := ⟨_, _, eq_ix2 x⟩
    obtain rfl : r = u := Fin.ext h0
    obtain ⟨rfl, rfl⟩ := band g 0 k v (h1.trans (by show v.val = 0 * 128 + v.val; omega))
    exact (congrFun (pay_du _ _ _).1 _).trans (du_coe Y W Z 0 _ _ _ (fun r c => (ld_cols x1 0 _ rfl _ r c).trans (a1 _ _)) (fun c => (ld_scale x3 0 _ rfl _ c).trans (a3 _)) (fun k c => (ld_mat x2 0 _ rfl _ k c).trans (a2 _ _ _)) _ _)

include a0 a1 a3 in
theorem out5_coe (g : Fin 4) (k c : Fin 128) : out0_5 x0 x1 x2 x3 (ix3 g k c) = (dW P Y Z g k c : EReal) := by
  unfold_out out0_5
  canon_tiles x h using View.cover_of_tiledBy _ ![1, 128, 128] (by sl_kernel_rfl) _
  · obtain ⟨u, v, w, rfl⟩ : ∃ (u : Fin 1) (v w : Fin 128), x = ix3 u v w := ⟨_, _, _, eq_ix3 x⟩
    obtain rfl : u = 0 := Subsingleton.elim _ _
    obtain rfl : g = 3 := Fin.ext h0
    obtain rfl : k = v := Fin.ext h1
    obtain rfl : c = w := Fin.ext h2
    exact (congrFun (pay_dw _ _ _).2.2.2 _).trans (dw_coe P Y Z 3 _ _ _ (fun r c => (ld_cols x0 3 _ rfl _ r c).trans (a0 _ _)) (fun r c => (ld_cols x1 3 _ rfl _ r c).trans (a1 _ _)) (fun c => (ld_scale x3 3 _ rfl _ c).trans (a3 _)) _ _)
  · obtain ⟨u, v, w, rfl⟩ : ∃ (u : Fin 1) (v w : Fin 128), x = ix3 u v w := ⟨_, _, _, eq_ix3 x⟩
    obtain rfl : u = 0 := Subsingleton.elim _ _
    obtain rfl : g = 2 := Fin.ext h0
    obtain rfl : k = v := Fin.ext h1
    obtain rfl : c = w := Fin.ext h2
    exact (congrFun (pay_dw _ _ _).2.2.1 _).trans (dw_coe P Y Z 2 _ _ _ (fun r c => (ld_cols x0 2 _ rfl _ r c).trans (a0 _ _)) (fun r c => (ld_cols x1 2 _ rfl _ r c).trans (a1 _ _)) (fun c => (ld_scale x3 2 _ rfl _ c).trans (a3 _)) _ _)
  · obtain ⟨u, v, w, rfl⟩ : ∃ (u : Fin 1) (v w : Fin 128), x = ix3 u v w := ⟨_, _, _, eq_ix3 x⟩
    obtain rfl : u = 0 := Subsingleton.elim _ _
    obtain rfl : g = 1 := Fin.ext h0
    obtain rfl : k = v := Fin.ext h1
    obtain rfl : c = w := Fin.ext h2
    exact (congrFun (pay_dw _ _ _).2.1 _).trans (dw_coe P Y Z 1 _ _ _ (fun r c => (ld_cols x0 1 _ rfl _ r c).trans (a0 _ _)) (fun r c => (ld_cols x1 1 _ rfl _ r c).trans (a1 _ _)) (fun c => (ld_scale x3 1 _ rfl _ c).trans (a3 _)) _ _)
  · obtain ⟨u, v, w, rfl⟩ : ∃ (u : Fin 1) (v w : Fin 128), x = ix3 u v w := ⟨_, _, _, eq_ix3 x⟩
    obtain rfl : u = 0 := Subsingleton.elim _ _
    obtain rfl : g = 0 := Fin.ext h0
    obtain rfl : k = v := Fin.ext h1
    obtain rfl : c = w := Fin.ext h2
    exact (congrFun (pay_dw _ _ _).1 _).trans (dw_coe P Y Z 0 _ _ _ (fun r c => (ld_cols x0 0 _ rfl _ r c).trans (a0 _ _)) (fun r c => (ld_cols x1 0 _ rfl _ r c).trans (a1 _ _)) (fun c => (ld_scale x3 0 _ rfl _ c).trans (a3 _)) _ _)

include a0 a1 a2 in
theorem out6_coe (g : Fin 4) (c : Fin 128) : out0_6 x0 x1 x2 x3 (ix2 0 (lane g c)) = (dS P Y W g c : EReal) := by
  unfold_out out0_6
  canon_tiles x h using View.cover_of_tiledBy _ ![1, 128] (by sl_kernel_rfl) _
  · obtain ⟨u, v, rfl⟩ : ∃ (u : Fin 1) (v : Fin 128), x = ix2 u v := ⟨_, _, eq_ix2 x⟩
    obtain rfl : u = 0 := Subsingleton.elim _ _
    obtain ⟨rfl, rfl⟩ := band g 3 c v h1
    exact (congrFun (pay_ds _ _ _).2.2.2 _).trans (ds_coe P Y W 3 _ _ _ (fun r c => (ld_cols x0 3 _ rfl _ r c).trans (a0 _ _)) (fun r c => (ld_cols x1 3 _ rfl _ r c).trans (a1 _ _)) (fun k c => (ld_mat x2 3 _ rfl _ k c).trans (a2 _ _ _)) _)
  · obtain ⟨u, v, rfl⟩ : ∃ (u : Fin 1) (v : Fin 128), x = ix2 u v := ⟨_, _, eq_ix2 x⟩
    obtain rfl : u = 0 := Subsingleton.elim _ _
    obtain ⟨rfl, rfl⟩ := band g 2 c v h1
    exact (congrFun (pay_ds _ _ _).2.2.1 _).trans (ds_coe P Y W 2 _ _ _ (fun r c => (ld_cols x0 2 _ rfl _ r c).trans (a0 _ _)) (fun r c => (ld_cols x1 2 _ rfl _ r c).trans (a1 _ _)) (fun k c => (ld_mat x2 2 _ rfl _ k c).trans (a2 _ _ _)) _)
  · obtain ⟨u, v, rfl⟩ : ∃ (u : Fin 1) (v : Fin 128), x = ix2 u v := ⟨_, _, eq_ix2 x⟩
    obtain rfl : u = 0 := Subsingleton.elim _ _
    obtain ⟨rfl, rfl⟩ := band g 1 c v h1
    exact (congrFun (pay_ds _ _ _).2.1 _).trans (ds_coe P Y W 1 _ _ _ (fun r c => (ld_cols x0 1 _ rfl _ r c).trans (a0 _ _)) (fun r c => (ld_cols x1 1 _ rfl _ r c).trans (a1 _ _)) (fun k c => (ld_mat x2 1 _ rfl _ k c).trans (a2 _ _ _)) _)
  · obtain ⟨u, v, rfl⟩ : ∃ (u : Fin 1) (v : Fin 128), x = ix2 u v := ⟨_, _, eq_ix2 x⟩
    obtain rfl : u = 0 := Subsingleton.elim _ _
    obtain ⟨rfl, rfl⟩ := band g 0 c v (h1.trans (by show v.val = 0 * 128 + v.val; omega))
    exact (congrFun (pay_ds _ _ _).1 _).trans (ds_coe P Y W 0 _ _ _ (fun r c => (ld_cols x0 0 _ rfl _ r c).trans (a0 _ _)) (fun r c => (ld_cols x1 0 _ rfl _ r c).trans (a1 _ _)) (fun k c => (ld_mat x2 0 _ rfl _ k c).trans (a2 _ _ _)) _)

end Outs

variable (m : (ℓ : Loc nD τ sig) → Buf (Elt Ideal) ℓ)

theorem idx : ∀ t : Fin cfg0.N, (win0_0.index t = ![0, 0] ∧ win0_1.index t = ![0, 0] ∧ win0_2.index t = ![1, 0, 0, 0] ∧ win0_3.index t = ![1, 0, 0])
    ∧ win0_4.index t = ![0, 0] ∧ win0_5.index t = ![0, 0, 0] ∧ win0_6.index t = ![0, 0] :=
  (by decide +kernel : ∀ t : Fin grid0.N, (win0_0.index t = ![0, 0] ∧ win0_1.index t = ![0, 0] ∧ win0_2.index t = ![1, 0, 0, 0] ∧ win0_3.index t = ![1, 0, 0])
    ∧ win0_4.index t = ![0, 0] ∧ win0_5.index t = ![0, 0, 0] ∧ win0_6.index t = ![0, 0])

theorem iblk_0 (c : Dev nD) (t : Fin cfg0.N) (r : Fin 2048) (k : Fin 512) :
    (iblk m c 0 t : Vec Ideal S2048x512 .f32) (ix2 r k) = m ((c : Thread nD τ).loc main_arg0) (ix2 r ⟨k.val, by omega⟩) := by
  blk_ext! [iblk, V, idx t]
theorem iblk_1 (c : Dev nD) (t : Fin cfg0.N) (r : Fin 2048) (k : Fin 512) :
    (iblk m c 1 t : Vec Ideal S2048x512 .f32) (ix2 r k) = m ((c : Thread nD τ).loc main_arg1) (ix2 r ⟨k.val, by omega⟩) := by
  blk_ext! [iblk, V, idx t]
theorem iblk_2 (c : Dev nD) (t : Fin cfg0.N) (g : Fin 4) (k l : Fin 128) :
    (iblk m c 2 t : Vec Ideal S1x4x128x128 .f32) (ix4 0 g k l) = m ((c : Thread nD τ).loc main_arg2) (ix4 1 g k l) := by
  blk_ext! [iblk, V, idx t]
theorem iblk_3 (c : Dev nD) (t : Fin cfg0.N) (k : Fin 512) :
    (iblk m c 3 t : Vec Ideal S1x1x512 .f32) (ix3 0 0 k) = m ((c : Thread nD τ).loc main_arg3) (ix2 1 k) := by
  blk_ext! [iblk, V, idx t]

theorem arr_4 (c : Dev nD) (t : Fin cfg0.N) (r : Fin 2048) (k : Fin 512) :
    ((dats m 0 c).arrAt 4 cfg0.N : FVec Ideal S2048x512 .bf16) (ix2 r k) = out0_4 (iblk m c 0 t) (iblk m c 1 t) (iblk m c 2 t) (iblk m c 3 t) (ix2 r k) := by
  have h := congrFun (blocks4 m c t (flush0_4 t)) (ix2 r k)
  rw [View.read_apply, flushed4] at h
  refine Eq.trans (congrArg (dats m 0 c |>.arrAt 4 cfg0.N) ?_) h
  blk_ext [idx t]
theorem arr_5 (c : Dev nD) (t : Fin cfg0.N) (g : Fin 4) (k l : Fin 128) :
    ((dats m 0 c).arrAt 5 cfg0.N : FVec Ideal S4x128x128 .f32) (ix3 g k l) = out0_5 (iblk m c 0 t) (iblk m c 1 t) (iblk m c 2 t) (iblk m c 3 t) (ix3 g k l) := by
  have h := congrFun (blocks5 m c t (flush0_5 t)) (ix3 g k l)
  rw [View.read_apply, flushed5] at h
  refine Eq.trans (congrArg (dats m 0 c |>.arrAt 5 cfg0.N) ?_) h
  blk_ext [idx t]
theorem arr_6 (c : Dev nD) (t : Fin cfg0.N) (k : Fin 512) :
    ((dats m 0 c).arrAt 6 cfg0.N : FVec Ideal S1x512 .f32) (ix2 0 k) = out0_6 (iblk m c 0 t) (iblk m c 1 t) (iblk m c 2 t) (iblk m c 3 t) (ix2 0 k) := by
  have h := congrFun (blocks6 m c t (flush0_6 t)) (ix2 0 k)
  rw [View.read_apply, flushed6] at h
  refine Eq.trans (congrArg (dats m 0 c |>.arrAt 6 cfg0.N) ?_) h
  blk_ext [idx t]

/-- The three arrays after the region, of finite arguments. -/
theorem grads (c : Dev nD) (P Y : Fin 2048 → Fin 512 → ℝ) (W : Fin 4 → Fin 128 → Fin 128 → ℝ) (Z : Fin 512 → ℝ)
    (hP : ∀ r k, m ((c : Thread nD τ).loc main_arg0) (ix2 r ⟨(k : Fin 512).val, by omega⟩) = (P r k : EReal))
    (hY : ∀ r k, m ((c : Thread nD τ).loc main_arg1) (ix2 r ⟨(k : Fin 512).val, by omega⟩) = (Y r k : EReal))
    (hW : ∀ g k l, m ((c : Thread nD τ).loc main_arg2) (ix4 1 g k l) = (W g k l : EReal)) (hZ : ∀ k, m ((c : Thread nD τ).loc main_arg3) (ix2 1 k) = (Z k : EReal)) :
    (∀ r g k, ((dats m 0 c).arrAt 4 cfg0.N : FVec Ideal S2048x512 .bf16) (ix2 r (lane g k)) = (dU Y W Z g k r : EReal))
    ∧ (∀ g k l, ((dats m 0 c).arrAt 5 cfg0.N : FVec Ideal S4x128x128 .f32) (ix3 g k l) = (dW P Y Z g k l : EReal))
    ∧ ∀ g k, ((dats m 0 c).arrAt 6 cfg0.N : FVec Ideal S1x512 .f32) (ix2 0 (lane g k)) = (dS P Y W g k : EReal) := by
  have t : Fin cfg0.N := ⟨0, by rw [show cfg0.N = 1 from N_0]; omega⟩
  have b0 := fun r k => (iblk_0 m c t r k).trans (hP r k)
  have b1 := fun r k => (iblk_1 m c t r k).trans (hY r k)
  have b2 := fun g k l => (iblk_2 m c t g k l).trans (hW g k l)
  have b3 := fun k => (iblk_3 m c t k).trans (hZ k)
  exact ⟨fun r g k => (arr_4 m c t r _).trans (out4_coe Y W Z _ _ _ _ b1 b2 b3 r g k), fun g k l => (arr_5 m c t g k l).trans (out5_coe P Y Z _ _ _ _ b0 b1 b3 g k l),
    fun g k => (arr_6 m c t _).trans (out6_coe P Y W _ _ _ _ b0 b1 b2 g k)⟩

end Cert.Pool.K

namespace Cert.Pool.R

open Cert.PoolReferenceIdeal Cert.PoolReferenceIdeal.Gen Cert.PoolReferenceIdeal.Value Idealize.ShloMosaic Idealize.ShloMosaic.TcCoe Idealize.SL.Sem Cert.Common Cert.Window

section Reads
variable (V0 : Valuation τ sig (Elt Ideal)) (P Y : Fin 2048 → Fin 512 → ℝ) (W : Fin 4 → Fin 128 → Fin 128 → ℝ) (Z : Fin 512 → ℝ)
  (hP : ∀ r k, (V0 (Proc.devRef .tc main_arg0) : FVec Ideal S2048x2560 .f32) (ix2 r ⟨(k : Fin 512).val, by omega⟩) = (P r k : EReal))
  (hY : ∀ r k, (V0 (Proc.devRef .tc main_arg1) : FVec Ideal S2048x1536 .f32) (ix2 r ⟨(k : Fin 512).val, by omega⟩) = (Y r k : EReal))
  (hW : ∀ g k l, (V0 (Proc.devRef .tc main_arg2) : FVec Ideal S2x4x128x128 .f32) (ix4 1 g k l) = (W g k l : EReal))
  (hZ : ∀ k, (V0 (Proc.devRef .tc main_arg3) : FVec Ideal S2x512 .f32) (ix2 1 k) = (Z k : EReal))

include hP in
theorem v6 (r : Fin 2048) (g : Fin 4) (c : Fin 128) : (res_main_v6 V0 : FVec Ideal S1x2048x4x128 .f32) (ix4 0 r g c) = (P r (lane g c) : EReal) := by
  unfold res_main_v6
  clean_types
  pointwise []
  exact hP r (lane g c)

include hP in
theorem v7 (r : Fin 2048) (g : Fin 4) (c : Fin 128) :
    (res_main_v7 V0 : FVec Ideal S1x2048x4x128 .f32) (ix4 0 r g c) = ((∑ i ∈ Finset.range (r.val + 1), ext (fun n => P n (lane g c)) i : ℝ) : EReal) := by
  unfold res_main_v7
  refine (window_add _ _ (by pointwise []) _ _ 0 r g c).trans ?_
  rw [← prefix_eq 2048 _ _ r.isLt, coe_sum]
  refine Finset.sum_congr rfl fun i hi => ?_
  have hi := Finset.mem_range.1 hi
  have hr := r.isLt
  by_cases h : 2048 - 1 ≤ r.val + i
  · rw [if_pos h, dif_pos (by omega), ext, dif_pos (by omega)]
    exact v6 V0 P hP _ g c
  · rw [if_neg h, dif_neg (by omega)]; rfl

theorem cnt (g : Fin 4) (r : Fin 2048) : ![res_main_v20 V0, res_main_v38 V0, res_main_v56 V0, res_main_v74 V0] g (ix3 0 r 0) = (rows g r : EReal) := by
  fin_cases g
  · show res_main_v20 V0 (ix3 0 r 0) = _
    unfold res_main_v20 res_main_v8
    clean_types
    pointwise []
    exact count 0 r
  · show res_main_v38 V0 (ix3 0 r 0) = _
    unfold res_main_v38 res_main_v8
    clean_types
    pointwise []
    exact count 1 r
  · show res_main_v56 V0 (ix3 0 r 0) = _
    unfold res_main_v56 res_main_v8
    clean_types
    pointwise []
    exact count 2 r
  · show res_main_v74 V0 (ix3 0 r 0) = _
    unfold res_main_v74 res_main_v8
    clean_types
    pointwise []
    exact count 3 r

include hY hZ in
theorem v101 (r : Fin 2048) (g : Fin 4) (c : Fin 128) : (res_main_v101 V0 : FVec Ideal S4x128x1x2048 .f32) (ix4 g c 0 r) = ((Y r (lane g c) * Z (lane g c) : ℝ) : EReal) := by
  unfold res_main_v101 res_main_v93 res_main_v89
  clean_types
  pointwise []
  rw [EReal.coe_mul]
  exact congr_arg₂ (fun a b : EReal => a * b) (hY r (lane g c)) (hZ (lane g c))

include hW in
theorem v3 (g : Fin 4) (k c : Fin 128) : (res_main_v3 V0 : FVec Ideal S4x128x128 .f32) (ix3 g k c) = (W g k c : EReal) := by
  unfold res_main_v3
  clean_types
  pointwise []
  rw [← hW]

include hY hZ hW in
theorem v103 (r : Fin 2048) (g : Fin 4) (k : Fin 128) : (res_main_v103 V0 : FVec Ideal S1x2048x4x128 .f32) (ix4 0 r g k) = (cotR Y W Z g k r : EReal) := by
  unfold res_main_v103
  clean_types
  pointwise []
  simp only [v101 V0 Y Z hY hZ, v3 V0 W hW, ← EReal.coe_mul, ← coe_sum]
  rfl

/-- The reference's windowed sum, a difference of prefix sums. -/
theorem forward (x : ℕ → ℝ) (w : ℕ) (n : ℕ) (hn : n < 2048) (q : ℝ) (hq : q ≠ 0) (u : ℝ) :
    Ideal.div (((∑ i ∈ Finset.range (n + 1), x i : ℝ) : EReal) - if h : n < w then 0 else ((∑ i ∈ Finset.range (n - w + 1), x i : ℝ) : EReal)) (q : EReal) - (u : EReal)
      = ((back w x n * (1 / q) - u : ℝ) : EReal) := by
  rw [Ideal.div_coe hq, back_eq_sub]
  by_cases h : n < w
  · rw [dif_pos h, show n + 1 - w = 0 from by omega, Finset.sum_range_zero, ← EReal.coe_zero, ← EReal.coe_sub, ← EReal.coe_mul, ← EReal.coe_sub]
  · rw [dif_neg h, show n + 1 - w = n - w + 1 from by omega, ← EReal.coe_sub, ← EReal.coe_mul, ← EReal.coe_sub]

include hP in
theorem v85 (r : Fin 2048) (g : Fin 4) (c : Fin 128) : (res_main_v85 V0 : FVec Ideal S1x2048x4x128 .f32) (ix4 0 r g c) = (delta P g c r : EReal) := by
  have h7 := v7 V0 P hP
  have h6 := v6 V0 P hP
  have hc := cnt V0
  unfold res_main_v85 res_main_v10 res_main_v28 res_main_v46 res_main_v64
  clean_types
  fin_cases g
  · pointwise []
    simp only [h7, h6, show res_main_v20 V0 (ix3 0 r 0) = _ from hc 0 r]
    exact forward _ 2 r.val r.isLt _ (rows_pos 0 r).ne' _
  · pointwise []
    simp only [h7, h6, show res_main_v38 V0 (ix3 0 r 0) = _ from hc 1 r]
    exact forward _ 4 r.val r.isLt _ (rows_pos 1 r).ne' _
  · pointwise []
    simp only [h7, h6, show res_main_v56 V0 (ix3 0 r 0) = _ from hc 2 r]
    exact forward _ 8 r.val r.isLt _ (rows_pos 2 r).ne' _
  · pointwise []
    simp only [h7, h6, show res_main_v74 V0 (ix3 0 r 0) = _ from hc 3 r]
    exact forward _ 16 r.val r.isLt _ (rows_pos 3 r).ne' _

include hP hY hZ in
theorem p105 (g : Fin 4) (k c : Fin 128) :
    (transpose S4x128x128 [0, 2, 1] (Host.dotGeneral (φ₁ := .f32) (φ₂ := .f32) dot_S4x128x1x2048_S1x2048x4x128_S4x128x128_23_01_1_3_0_2 none (res_main_v101 V0) (res_main_v85 V0)) transposes_S4x128x128_S4x128x128_0_2_1 : FVec Ideal S4x128x128 .f32) (ix3 g k c) = (dW P Y Z g k c : EReal) := by
  pointwise []
  rw [Finset.univ_unique, Finset.sum_singleton, dW, coe_sum]
  refine Finset.sum_congr rfl fun r _ => ?_
  rw [EReal.coe_mul, mul_comm]
  exact congr_arg₂ (fun a b : EReal => a * b) (v85 V0 P hP r g k) (v101 V0 Y Z hY hZ r g c)

/-- A sum over two axes of one entry each. -/
theorem reduce_units {n : ℕ} (h : (⟨3, ![1, 1, n]⟩ : Shape).ReducesTo [0, 1] ⟨1, ![n]⟩) (x : (⟨3, ![1, 1, n]⟩ : Shape).Idx → EReal) (a : EReal) (k : Fin n) :
    Ideal.hostReduceAdd h x a (ix1 k) = a + x (ix3 0 0 k) := by
  unfold Ideal.hostReduceAdd
  have e : ∀ c : Fin n, h.drop (ix3 0 0 c) = ix1 c := fun c => funext fun b => by
    match b with
    | ⟨0, _⟩ => rfl
  refine congrArg (a + ·) (Finset.sum_eq_single_of_mem (ix3 0 0 k) (Finset.mem_filter.2 ⟨Finset.mem_univ _, e k⟩) fun i hi hne => absurd ?_ hne)
  obtain ⟨u, v, w, rfl⟩ : ∃ (u v : Fin 1) (w : Fin n), i = ix3 u v w := ⟨_, _, _, eq_ix3 i⟩
  obtain rfl : u = 0 := Subsingleton.elim _ _
  obtain rfl : v = 0 := Subsingleton.elim _ _
  have hk := (e w).symm.trans (Finset.mem_filter.1 hi).2
  exact congrArg (ix3 0 0) (congrFun hk 0)

include hP hY hW in
theorem p173 (g : Fin 4) (c : Fin 128) :
    (broadcastInDim S1x512 ![1] bcast_S512_S1x512_1 (Host.reduceAdd (shapeCast S1x1x512 (Host.reduceAdd (mulf (res_main_v88 V0) (res_main_v93 V0)) (constant S_ .f32 0x00000000#32) reducesTo_S1x2048x512_S1x512_d1 h_S_) shapeCasts_S1x512_S1x1x512) (constant S_ .f32 0x00000000#32) reducesTo_S1x1x512_S512_d0_1 h_S_) : FVec Ideal S1x512 .f32) (ix2 0 (lane g c)) = (dS P Y W g c : EReal) := by
  unfold res_main_v93 res_main_v88
  clean_types
  pointwise []
  rw [reduce_units]
  pointwise []
  unfold dS
  rw [coe_sum]
  refine Finset.sum_congr rfl fun r _ => ?_
  have e1 : (⟨(lane g c).val / 128, by omega⟩ : Fin 4) = g := Fin.ext (by show (g.val * 128 + c.val) / 128 = g.val; omega)
  have e2 : (⟨(lane g c).val % 128, by omega⟩ : Fin 128) = c := Fin.ext (by show (g.val * 128 + c.val) % 128 = c.val; omega)
  simp only [e1, e2, v3 V0 W hW, v85 V0 P hP, ← EReal.coe_mul, ← coe_sum]
  rw [EReal.coe_mul, mul_comm, hY r (lane g c)]
  refine congrArg (_ * ·) (congrArg _ (Finset.sum_congr rfl fun k _ => mul_comm _ _))

/-- The reference's reversed windowed sum, a difference of sums to the end. -/
theorem tail (w : ℕ) (f : Fin 2048 → ℝ) (X : S1x2048x4x128.Idx → EReal) (g : Fin 4) (k : Fin 128)
    (hX : ∀ n : Fin 2048, X (ix4 0 n g k) = ((f n + -ext f (n.val + w) : ℝ) : EReal)) (r : Fin 2048) :
    (∑ i ∈ Finset.range 2048, if hi : 0 ≤ r.val + i ∧ r.val + i - 0 < 2048 then X (ix4 0 ⟨r.val + i - 0, hi.2⟩ g k) else 0) = ((ahead w (ext f) r.val : ℝ) : EReal) := by
  have hz : ∀ n, 2048 ≤ n → ext f n = 0 := fun n h => dif_neg (by omega)
  rw [← ahead_eq_tail 2048 w _ hz, coe_sum]
  refine Finset.sum_congr rfl fun i _ => ?_
  by_cases h : r.val + i < 2048
  · rw [dif_pos ⟨Nat.zero_le _, h⟩, hX]
    exact congrArg (fun a : ℝ => ((a + -ext f (r.val + i + w) : ℝ) : EReal)) (show f _ = ext f (r.val + i) by rw [ext, dif_pos h]; rfl)
  · rw [dif_neg (fun e => h e.2), hz _ (by omega), hz _ (by omega)]
    simp

/-- An entry over its count less the entry `w` rows later over its own. -/
theorem step (w : ℕ) (hw : w ≤ 2048) (f q : Fin 2048 → ℝ) (hq : ∀ n, q n ≠ 0) (n : Fin 2048) :
    (Ideal.div (f n : EReal) (q n : EReal) + if h : n.val < 2048 - w then -Ideal.div (f ⟨w + n.val, by omega⟩ : EReal) (q ⟨w + n.val, by omega⟩ : EReal) else 0)
      = ((f n * (1 / q n) + -ext (fun n => f n * (1 / q n)) (n.val + w) : ℝ) : EReal) := by
  rw [Ideal.div_coe (hq n)]
  by_cases h : n.val < 2048 - w
  · rw [dif_pos h, Ideal.div_coe (hq _), ext, dif_pos (by omega), ← EReal.coe_mul, ← EReal.coe_mul, ← EReal.coe_neg, ← EReal.coe_add]
    simp only [Nat.add_comm w n.val]
  · rw [dif_neg h, ext, dif_neg (by omega), neg_zero, add_zero, add_zero, ← EReal.coe_mul]

include hY hZ hW in
theorem p172 (r : Fin 2048) (g : Fin 4) (k : Fin 128) :
    Read.val_main_v172 (F := Ideal) (V0 (Proc.devRef .tc main_arg1)) (V0 (Proc.devRef .tc main_arg2)) (V0 (Proc.devRef .tc main_arg3)) (ix2 r (lane g k)) = (dU Y W Z g k r : EReal) := by
  have e1 : (⟨(lane g k).val / 128, by omega⟩ : Fin 4) = g := Fin.ext (by show (g.val * 128 + k.val) / 128 = g.val; omega)
  have e2 : (⟨(lane g k).val % 128, by omega⟩ : Fin 128) = k := Fin.ext (by show (g.val * 128 + k.val) % 128 = k.val; omega)
  rw [← Read.val_main_v172_eq V0]
  unfold res_main_v118 res_main_v119 res_main_v118 res_main_v131 res_main_v132 res_main_v131 res_main_v145 res_main_v146 res_main_v145 res_main_v159 res_main_v160 res_main_v159 res_main_v107 res_main_v109 res_main_v111 res_main_v113
  clean_types
  pointwise []
  simp only [e1, e2]
  have h3 := v103 V0 Y W Z hY hW hZ
  have hc := cnt V0
  refine (congr_arg₂ (fun a b : EReal => a + b) (x' := ((-cotR Y W Z g k r : ℝ) : EReal)) ?_
    ((window_add _ _ ?_ _ _ 0 r g k).trans (tail (2 ^ (g.val + 1)) (fun n => cotR Y W Z g k n * (1 / rows g n)) _ g k (fun n => ?_) r))).trans ?_
  rotate_left
  · pointwise []
  rotate_left
  rotate_left
  · have d1 : (lane g k).val / 128 = g.val := congrArg Fin.val e1
    have d2 : (lane g k).val % 128 = k.val := congrArg Fin.val e2
    have hk := k.isLt
    simp only [d1, d2, h3]
    clear e1 e2 d1 d2
    fin_cases g <;> simp [hk]
  · fin_cases g
    · pointwise []
      simp only [h3, show ∀ n, res_main_v20 V0 (ix3 0 n 0) = _ from hc 0]
      exact step 2 (by omega) _ _ (fun n => (rows_pos 0 n).ne') n
    · pointwise []
      simp only [h3, show ∀ n, res_main_v38 V0 (ix3 0 n 0) = _ from hc 1]
      exact step 4 (by omega) _ _ (fun n => (rows_pos 1 n).ne') n
    · pointwise []
      simp only [h3, show ∀ n, res_main_v56 V0 (ix3 0 n 0) = _ from hc 2]
      exact step 8 (by omega) _ _ (fun n => (rows_pos 2 n).ne') n
    · pointwise []
      simp only [h3, show ∀ n, res_main_v74 V0 (ix3 0 n 0) = _ from hc 3]
      exact step 16 (by omega) _ _ (fun n => (rows_pos 3 n).ne') n
  · rw [← EReal.coe_add, dU]
    exact congrArg _ (by ring)

end Reads

end Cert.Pool.R

namespace Cert.Pool

open Idealize.ShloMosaic Idealize.ShloMosaic.TcCoe Idealize.SL.Sem Cert.Common

theorem pre_facts : Cert.Pre_finite_pool.Facts where
  slices_S2048x2560_S2048x512_0_0 := by decide
  bcast_S_S2048x512 := by decide
  reducesTo_S2048x512_S_d0_1 := by decide
  h_S_ := by decide
  slices_S2048x1536_S2048x512_0_0 := by decide
  slices_S2x4x128x128_S1x4x128x128_1_0_0_0 := by decide
  shapeCasts_S1x4x128x128_S4x128x128 := by decide
  bcast_S_S4x128x128 := by decide
  reducesTo_S4x128x128_S_d0_1_2 := by decide
  slices_S2x512_S1x512_1_0 := by decide
  shapeCasts_S1x512_S512 := by decide
  bcast_S_S512 := by decide
  reducesTo_S512_S_d0 := by decide

theorem frame_reference : Cert.quiescent_PoolReferenceIdeal := fun m g _ =>
  (θ_run Cert.PoolReferenceIdeal.defs _ _).mono (fun r h => ⟨fun c => (h c).2.2.2, sem_eq_zero_of_no_sems (by decide) r.2⟩)
    (PoolReferenceIdeal.Value.run m g)

/-- What the precondition says: the branch's columns, their cotangents, the second layer's matrices and scales are real numbers. -/
theorem reals [Cert.Pre_finite_pool.Facts] {p : FVec Ideal ⟨2, ![2048, 2560]⟩ .f32} {y : FVec Ideal ⟨2, ![2048, 1536]⟩ .f32} {w : FVec Ideal ⟨4, ![2, 4, 128, 128]⟩ .f32}
    {z : FVec Ideal ⟨2, ![2, 512]⟩ .f32} (h : Cert.Pre_finite_pool.fn (F := Ideal) p y w z = fun _ => 1#1) :
    (∃ P : Fin 2048 → Fin 512 → ℝ, ∀ r k, p (ix2 r ⟨(k : Fin 512).val, by omega⟩) = (P r k : EReal)) ∧ (∃ Y : Fin 2048 → Fin 512 → ℝ, ∀ r k, y (ix2 r ⟨(k : Fin 512).val, by omega⟩) = (Y r k : EReal))
    ∧ (∃ W : Fin 4 → Fin 128 → Fin 128 → ℝ, ∀ g k c, w (ix4 1 g k c) = (W g k c : EReal)) ∧ ∃ Z : Fin 512 → ℝ, ∀ k, z (ix2 1 k) = (Z k : EReal) := by
  have h0 := congrFun h ix0
  obtain ⟨h1, hz⟩ := IntOp.andi_eq_one.1 h0
  obtain ⟨h2, hw⟩ := IntOp.andi_eq_one.1 h1
  obtain ⟨hp, hy⟩ := IntOp.andi_eq_one.1 h2
  refine ⟨?_, ?_, ?_, ?_⟩
  · obtain ⟨P, hP⟩ := reals_of_all _ _ _ (fun _ => w_inf) _ _ _ hp
    exact ⟨fun r k => P (ix2 r k), fun r k => Eq.trans (by pointwise []) (hP (ix2 r k))⟩
  · obtain ⟨P, hP⟩ := reals_of_all _ _ _ (fun _ => w_inf) _ _ _ hy
    exact ⟨fun r k => P (ix2 r k), fun r k => Eq.trans (by pointwise []) (hP (ix2 r k))⟩
  · obtain ⟨P, hP⟩ := reals_of_all _ _ _ (fun _ => w_inf) _ _ _ hw
    exact ⟨fun g k c => P (ix3 g k c), fun g k c => Eq.trans (by pointwise []) (hP (ix3 g k c))⟩
  · obtain ⟨P, hP⟩ := reals_of_all _ _ _ (fun _ => w_inf) _ _ _ hz
    exact ⟨fun k => P (ix1 k), fun k => Eq.trans (by pointwise []) (hP (ix1 k))⟩

theorem value : Cert.algebraic_PoolKernelIdeal_PoolReferenceIdeal_pre_finite_pool (hPre_finite_pool := pre_facts) := by
  intro m g m' g' hp hm
  refine ⟨_, _, _, PoolKernelIdeal.Value.run_blocks m g,
    (θ_run _ _ _).mono (fun r h c => ?_) (PoolReferenceIdeal.Value.run m' g')⟩
  obtain ⟨h0, h1, h2, hk⟩ := h c
  obtain ⟨e0, e1, e2, e3⟩ := hm c
  obtain ⟨⟨P, hP⟩, ⟨Y, hY⟩, ⟨W, hW⟩, Z, hZ⟩ := @reals pre_facts _ _ _ _ (hp c)
  have hP' := fun r k => (congrFun e0 _).trans (hP r k)
  have hY' := fun r k => (congrFun e1 _).trans (hY r k)
  have hW' := fun g k c => (congrFun e2 _).trans (hW g k c)
  have hZ' := fun k => (congrFun e3 _).trans (hZ k)
  obtain ⟨k0, k1, k2⟩ := K.grads m c P Y W Z hP hY hW hZ
  refine ⟨(h0.trans (PoolReferenceIdeal.Read.val_main_v172_eq _)).trans ?_, h1.trans ?_, h2.trans ?_, hk⟩
  · funext i
    obtain ⟨r, K, rfl⟩ : ∃ (r : Fin 2048) (K : Fin 512), i = ix2 r K := ⟨_, _, eq_ix2 i⟩
    obtain ⟨g, k, rfl⟩ := exists_lane K
    exact (R.p172 _ Y W Z hY' hW' hZ' r g k).trans (k0 r g k).symm
  · funext i
    obtain ⟨g, k, l, rfl⟩ : ∃ (g : Fin 4) (k l : Fin 128), i = ix3 g k l := ⟨_, _, _, eq_ix3 i⟩
    exact (R.p105 _ P Y Z hP' hY' hZ' g k l).trans (k1 g k l).symm
  · funext i
    obtain ⟨r, K, rfl⟩ : ∃ (r : Fin 1) (K : Fin 512), i = ix2 r K := ⟨_, _, eq_ix2 i⟩
    obtain rfl : r = 0 := Subsingleton.elim _ _
    obtain ⟨g, k, rfl⟩ := exists_lane K
    exact (R.p173 _ P Y W hP' hY' hW' g k).trans (k2 g k).symm

end Cert.Pool
-- ==== Proof.Attention.lean ====
/- One head's masked attention over the reals: probabilities, and the gradients of its scores, queries, keys and values. -/
module

public import proofs.«01_k».proof.Proof.Common

@[expose] public section

noncomputable section

namespace Cert.Attention

open Idealize.ShloMosaic Cert.Common

theorem w_neg_inf : Ideal.ofBits .f32 0xFF800000#32 = ⊥ := by simp [Ideal.ofBits, Ideal.ieee]

/-- The scale of the scores. -/
def sc : ℝ := 4843165 / 67108864
theorem w_sc : Ideal.ofBits .f32 0x3D93CD3A#32 = (sc : EReal) := by
  unfold sc
  simp [Ideal.ofBits, Ideal.ieee, -EReal.coe_mul]; norm_num

/-- A key is seen by a query when its chunk of sixty-four is not later than the query's. -/
abbrev Vis (i j : ℕ) : Prop := j / 64 ≤ i / 64

theorem vis_self (i : ℕ) : Vis i i := le_refl _

/-- A word divided by sixty-four. -/
theorem shr (n : ℕ) (h : n < 2048) : IntOp.shrsi .vector (BitVec.ofNat 32 n) 6#32 = BitVec.ofNat 32 (n / 64) :=
  (by decide +kernel : ∀ n : Fin 2048, IntOp.shrsi .vector (BitVec.ofNat 32 n.val) 6#32 = BitVec.ofNat 32 (n.val / 64)) ⟨n, h⟩

/-- The mask's comparison of two chunks selects. -/
theorem sel (a b : ℕ) (ha : a < 2048) (hb : b < 2048) (x y : EReal) :
    Scalar.select (IntOp.cmpi .sle (BitVec.ofNat 32 (b / 64)) (BitVec.ofNat 32 (a / 64))) x y = if Vis a b then x else y := by
  have e0 : ∀ n : ℕ, n < 2048 → (BitVec.ofNat 32 n).toInt = (n : ℤ) := fun n hn => by
    rw [BitVec.toInt_eq_toNat_of_lt (by rw [BitVec.toNat_ofNat]; omega), BitVec.toNat_ofNat]; omega
  have key : (IntOp.cmpi .sle (BitVec.ofNat 32 (b / 64)) (BitVec.ofNat 32 (a / 64)) = 1#1) ↔ Vis a b := by
    unfold IntOp.cmpi
    simp only [BitVec.sle, e0 (b / 64) (by omega), e0 (a / 64) (by omega), Nat.cast_le]
    by_cases h : b / 64 ≤ a / 64 <;> simp [Vis, h]
  unfold Scalar.select
  by_cases h : Vis a b
  · rw [if_pos h]; exact if_pos (key.2 h)
  · rw [if_neg h]; exact if_neg (fun e => h (key.1 e))

section Spec
variable (q k : Fin 2048 → Fin 192 → ℝ) (v o : Fin 2048 → Fin 128 → ℝ)

def score (i j : Fin 2048) : ℝ := (∑ d : Fin 192, q i d * k j d) * sc
def wt (i j : Fin 2048) : ℝ := if Vis i.val j.val then Real.exp (score q k i j) else 0
def total (i : Fin 2048) : ℝ := ∑ j : Fin 2048, wt q k i j
def prob (i j : Fin 2048) : ℝ := wt q k i j / total q k i
def outp (i : Fin 2048) (d : Fin 128) : ℝ := ∑ j : Fin 2048, prob q k i j * v j d
def dprob (i j : Fin 2048) : ℝ := ∑ d : Fin 128, o i d * v j d
def dscore (i j : Fin 2048) : ℝ := prob q k i j * (dprob v o i j - ∑ l : Fin 2048, prob q k i l * dprob v o i l) * sc
def dQ (i : Fin 2048) (d : Fin 192) : ℝ := ∑ j : Fin 2048, dscore q k v o i j * k j d
def dK (j : Fin 2048) (d : Fin 192) : ℝ := ∑ i : Fin 2048, q i d * dscore q k v o i j
def dV (j : Fin 2048) (d : Fin 128) : ℝ := ∑ i : Fin 2048, o i d * prob q k i j

theorem wt_nonneg (i j : Fin 2048) : 0 ≤ wt q k i j := by
  unfold wt; split
  · exact (Real.exp_pos _).le
  · exact le_refl _

theorem total_pos (i : Fin 2048) : 0 < total q k i :=
  Finset.sum_pos' (fun j _ => wt_nonneg q k i j) ⟨i, Finset.mem_univ _, by rw [wt, if_pos (vis_self _)]; exact Real.exp_pos _⟩

theorem prob_zero {i j : Fin 2048} (h : ¬ Vis i.val j.val) : prob q k i j = 0 := by rw [prob, wt, if_neg h, zero_div]
theorem dscore_zero {i j : Fin 2048} (h : ¬ Vis i.val j.val) : dscore q k v o i j = 0 := by rw [dscore, prob_zero q k h, zero_mul, zero_mul]

end Spec

/-- A sum whose terms vanish from `K` on is the sum over the first `K`. -/
theorem sum_prefix {K : ℕ} (hK : K ≤ 2048) (f : Fin 2048 → ℝ) (hf : ∀ j, K ≤ j.val → f j = 0) :
    ∑ j : Fin K, f (j.castLE hK) = ∑ j, f j := by
  refine (Finset.sum_map Finset.univ (Fin.castLEEmb hK) f).symm.trans ?_
  refine Finset.sum_subset (Finset.subset_univ _) fun j _ hj => hf j ?_
  by_contra h
  exact hj (Finset.mem_map.2 ⟨⟨j.val, by omega⟩, Finset.mem_univ _, rfl⟩)

section Row
variable (q k : Fin 2048 → Fin 192 → ℝ) {K : ℕ} (hK : K ≤ 2048) (i : Fin 2048) (x : Fin K → EReal)

/-- The row of masked scores as the first `K` keys give it. -/
def Row : Prop := ∀ j : Fin K, x j = if Vis i.val j.val then (score q k i (j.castLE hK) : EReal) else ⊥

variable (hx : Row q k hK i x) (hi : i.val < K)
include hx hi

theorem row_max : ∃ μ : ℝ, Finset.fold max (⊥ : EReal) x Finset.univ = (μ : EReal) := by
  have hi' : x ⟨i.val, hi⟩ = (score q k i i : EReal) := (hx ⟨i.val, hi⟩).trans (if_pos (vis_self _))
  have hlt : Finset.fold max (⊥ : EReal) x Finset.univ < ⊤ := Finset.fold_max_lt _ |>.2 ⟨bot_lt_top, fun j _ => by
    rw [hx j]; split
    · exact EReal.coe_lt_top _
    · exact bot_lt_top⟩
  have hgt : ⊥ < Finset.fold max (⊥ : EReal) x Finset.univ := (Finset.lt_fold_max _).2 (.inr ⟨⟨i.val, hi⟩, Finset.mem_univ _, by
    rw [hi']; exact EReal.bot_lt_coe _⟩)
  exact ⟨_, (EReal.coe_toReal hlt.ne hgt.ne').symm⟩

/-- The exponentials of a row less its maximum are the weights, all times one positive number. -/
theorem row_exp : ∃ ε : ℝ, 0 < ε ∧ ∀ j : Fin K, Ideal.exp (x j - Finset.fold max (⊥ : EReal) x Finset.univ) = ((wt q k i (j.castLE hK) * ε : ℝ) : EReal) := by
  obtain ⟨μ, hμ⟩ := row_max q k hK i x hx hi
  refine ⟨Real.exp (-μ), Real.exp_pos _, fun j => ?_⟩
  rw [hμ, hx j, wt]
  by_cases h : Vis i.val j.val
  · rw [if_pos h, if_pos (show Vis i.val (j.castLE hK).val from h), ← EReal.coe_sub, Ideal.exp_coe, sub_eq_add_neg, Real.exp_add]
  · rw [if_neg h, if_neg (show ¬ Vis i.val (j.castLE hK).val from h), EReal.bot_sub, Ideal.exp_bot, zero_mul]; rfl

/-- A row's probabilities. -/
theorem row_prob (hz : ∀ l : Fin 2048, K ≤ l.val → ¬ Vis i.val l.val) (j : Fin K) :
    Ideal.div (Ideal.exp (x j - Finset.fold max (⊥ : EReal) x Finset.univ)) (∑ l, Ideal.exp (x l - Finset.fold max (⊥ : EReal) x Finset.univ))
      = (prob q k i (j.castLE hK) : EReal) := by
  obtain ⟨ε, hε, he⟩ := row_exp q k hK i x hx hi
  have hs : ∑ l : Fin K, wt q k i (l.castLE hK) * ε = total q k i * ε := by
    rw [total, Finset.sum_mul]
    exact sum_prefix hK (fun l => wt q k i l * ε) fun l hl => by rw [wt, if_neg (hz l hl), zero_mul]
  simp only [he]
  rw [← coe_sum, hs, Ideal.div_coe (mul_pos (total_pos q k i) hε).ne', ← EReal.coe_mul, EReal.coe_eq_coe_iff, prob]
  have := total_pos q k i
  field_simp

end Row

/-- One masked score: keys before the query's block are all seen, those in it where the chunks say so. -/
theorem entry (off u l : ℕ) (hu : u < 512) (hoff : off % 64 = 0) (hl : l < off + 512) (s : ℝ) (a : l < off → EReal) (b : ¬ l < off → EReal)
    (ha : ∀ h, a h = (s : EReal)) (hb : ∀ h, b h = (s : EReal)) :
    (if h : l < off then a h else
      Scalar.select (IntOp.cmpi .sle (IntOp.shrsi .vector (BitVec.ofNat 32 (l - off)) 6#32) (IntOp.shrsi .vector (BitVec.ofNat 32 u) 6#32)) (b h)
        (Ideal.ofBits .f32 0xFF800000#32)) = if Vis (off + u) l then (s : EReal) else ⊥ := by
  by_cases h : l < off
  · rw [dif_pos h, ha, if_pos (show Vis (off + u) l by simp only [Vis]; omega)]
  · rw [dif_neg h, hb, shr _ (by omega), shr _ (by omega), sel u (l - off) (by omega) (by omega), w_neg_inf]
    exact if_congr (by simp only [Vis]; omega) rfl rfl

section Coe
variable {q k : Fin 2048 → Fin 192 → ℝ} {v o : Fin 2048 → Fin 128 → ℝ} {K : ℕ} (hK : K ≤ 2048) (i : Fin 2048) (hz : ∀ l : Fin 2048, K ≤ l.val → ¬ Vis i.val l.val)

theorem score_coe (i j : Fin 2048) : (∑ d : Fin 192, (q i d : EReal) * (k j d : EReal)) * Ideal.ofBits .f32 0x3D93CD3A#32 = (score q k i j : EReal) := by
  rw [w_sc, score]
  simp only [← EReal.coe_mul, ← coe_sum]

include hz

theorem dscore_coe (j : Fin K) :
    (prob q k i (j.castLE hK) : EReal) * ((∑ d : Fin 128, (o i d : EReal) * (v (j.castLE hK) d : EReal))
      - ∑ l : Fin K, (prob q k i (l.castLE hK) : EReal) * ∑ d : Fin 128, (o i d : EReal) * (v (l.castLE hK) d : EReal)) * Ideal.ofBits .f32 0x3D93CD3A#32
      = (dscore q k v o i (j.castLE hK) : EReal) := by
  rw [w_sc, dscore]
  simp only [← EReal.coe_mul, ← EReal.coe_sub, ← coe_sum]
  rw [EReal.coe_eq_coe_iff, ← sum_prefix hK (fun l => prob q k i l * dprob v o i l) fun l hl => by rw [prob_zero q k (hz l hl), zero_mul]]
  rfl

theorem dQ_coe (d : Fin 192) : ∑ j : Fin K, (dscore q k v o i (j.castLE hK) : EReal) * (k (j.castLE hK) d : EReal) = (dQ q k v o i d : EReal) := by
  simp only [← EReal.coe_mul, ← coe_sum]
  rw [EReal.coe_eq_coe_iff, dQ]
  exact sum_prefix hK (fun l => dscore q k v o i l * k l d) fun l hl => by rw [dscore_zero q k v o (hz l hl), zero_mul]

end Coe

/-- The part of a sum over all rows that the first `n` rows give. -/
def part (n : ℕ) (f : Fin 2048 → ℝ) : ℝ := ∑ i : Fin 2048, if i.val < n then f i else 0

theorem part_zero (f : Fin 2048 → ℝ) : part 0 f = 0 := by simp [part]
theorem part_full (f : Fin 2048 → ℝ) : part 2048 f = ∑ i, f i := Finset.sum_congr rfl fun i _ => if_pos i.isLt

theorem part_step (n : ℕ) (hn : n + 512 ≤ 2048) (f : Fin 2048 → ℝ) :
    part (n + 512) f = part n f + ∑ u : Fin 512, f ⟨n + u.val, by omega⟩ := by
  have e : ∑ u : Fin 512, f ⟨n + u.val, by omega⟩ = ∑ i : Fin 2048, if n ≤ i.val ∧ i.val < n + 512 then f i else 0 := by
    rw [← Finset.sum_filter]
    refine Finset.sum_bij (fun u _ => ⟨n + u.val, by omega⟩) (fun u _ => ?_) (fun a _ b _ h => ?_) (fun i hi => ?_) (fun _ _ => rfl)
    · simp
    · have := congrArg Fin.val h; simp only [] at this; exact Fin.ext (by omega)
    · have := (Finset.mem_filter.1 hi).2
      exact ⟨⟨i.val - n, by omega⟩, Finset.mem_univ _, Fin.ext (by simp only []; omega)⟩
  rw [e, part, part, ← Finset.sum_add_distrib]
  refine Finset.sum_congr rfl fun i _ => ?_
  by_cases h : i.val < n
  · rw [if_pos h, if_pos (by omega), if_neg (by omega), add_zero]
  · by_cases h' : i.val < n + 512
    · rw [if_pos h', if_neg h, if_pos (by omega), zero_add]
    · rw [if_neg h', if_neg h, if_neg (by omega), zero_add]

/-- The rows of a block give nothing to a key behind them. -/
theorem part_skip (n : ℕ) (hn : n + 512 ≤ 2048) (f : Fin 2048 → ℝ) (j : ℕ) (hj : n + 512 ≤ j) (h64 : n % 64 = 0)
    (hf : ∀ i : Fin 2048, ¬ Vis i.val j → f i = 0) : part (n + 512) f = part n f := by
  rw [part_step n hn, Finset.sum_eq_zero fun u _ => hf _ (by simp only [Vis]; omega), add_zero]

/-- A store of the leading columns of an array, read at an index. -/
theorem canon_lead {Val : EltTy → Type} {e : EltTy} [∀ e, Nonempty (Val e)] {R N r n : ℕ} (L : List (View.Piece Val (⟨2, ![R, N]⟩ : Shape) e)) (inb)
    (w : (⟨2, ![r, n]⟩ : Shape).Idx → Val e) (d : Fin R) (j : Fin N) :
    View.canon (⟨Rect.unit (s := ⟨2, ![R, N]⟩) ![0, 0] ![r, n] inb, w⟩ :: L) (ix2 d j)
      = if h : d.val < r ∧ j.val < n then w (ix2 ⟨d.val, h.1⟩ ⟨j.val, h.2⟩) else View.canon L (ix2 d j) := by
  by_cases h : d.val < r ∧ j.val < n
  · rw [dif_pos h]
    refine Eq.trans ?_ (View.canon_cons_emb (Rect.unit (s := ⟨2, ![R, N]⟩) ![0, 0] ![r, n] inb) w L (ix2 ⟨d.val, h.1⟩ ⟨j.val, h.2⟩))
    refine congrArg (View.canon _) (funext fun a => Fin.ext ?_)
    match a with
    | ⟨0, _⟩ => show d.val = 0 + 1 * d.val; omega
    | ⟨1, _⟩ => show j.val = 0 + 1 * j.val; omega
  · rw [dif_neg h]
    refine View.canon_cons_of_not_mem _ _ fun hm => h ?_
    obtain ⟨x, hx⟩ := (Rect.unit (s := ⟨2, ![R, N]⟩) ![0, 0] ![r, n] inb).exists_idx_of_mem hm
    have h0 : 0 + 1 * (x 0).val = d.val := congrArg (fun f : (⟨2, ![R, N]⟩ : Shape).Idx => (f 0).val) hx
    have h1 : 0 + 1 * (x 1).val = j.val := congrArg (fun f : (⟨2, ![R, N]⟩ : Shape).Idx => (f 1).val) hx
    have b0 : (x 0).val < r := (x 0).isLt
    have b1 : (x 1).val < n := (x 1).isLt
    omega

/-- One head's arguments: the latent queries and keys, the shared rotary key, the rotation, the head's factors and the
    gradient of the layer's result. -/
structure Head where
  cq : Fin 2048 → Fin 384 → ℝ
  ckv : Fin 2048 → Fin 256 → ℝ
  kp : Fin 2048 → Fin 64 → ℝ
  cs : Fin 2048 → Fin 32 → ℝ
  sn : Fin 2048 → Fin 32 → ℝ
  wq : Fin 384 → Fin 192 → ℝ
  wkv : Fin 256 → Fin 256 → ℝ
  wo : Fin 128 → Fin 1024 → ℝ
  dz : Fin 2048 → Fin 1024 → ℝ

namespace Head
variable (H : Head)

/-- The rotation of a row's two halves, and its transpose. -/
def rope (f : Fin 2048 → Fin 64 → ℝ) (r : Fin 2048) (d : Fin 64) : ℝ :=
  if h : d.val < 32 then f r ⟨d.val, by omega⟩ * H.cs r ⟨d.val, h⟩ - f r ⟨32 + d.val, by omega⟩ * H.sn r ⟨d.val, h⟩
  else f r ⟨d.val - 32, by omega⟩ * H.sn r ⟨d.val - 32, by omega⟩ + f r ⟨32 + (d.val - 32), by omega⟩ * H.cs r ⟨d.val - 32, by omega⟩
def ropeT (g : Fin 2048 → Fin 64 → ℝ) (r : Fin 2048) (d : Fin 64) : ℝ :=
  if h : d.val < 32 then g r ⟨d.val, by omega⟩ * H.cs r ⟨d.val, h⟩ + g r ⟨32 + d.val, by omega⟩ * H.sn r ⟨d.val, h⟩
  else g r ⟨32 + (d.val - 32), by omega⟩ * H.cs r ⟨d.val - 32, by omega⟩ - g r ⟨d.val - 32, by omega⟩ * H.sn r ⟨d.val - 32, by omega⟩

def qn (r : Fin 2048) (d : Fin 128) : ℝ := ∑ c : Fin 384, H.cq r c * H.wq c ⟨d.val, by omega⟩
def qp (r : Fin 2048) (d : Fin 64) : ℝ := ∑ c : Fin 384, H.cq r c * H.wq c ⟨128 + d.val, by omega⟩
def kn (r : Fin 2048) (d : Fin 128) : ℝ := ∑ c : Fin 256, H.ckv r c * H.wkv c ⟨d.val, by omega⟩

def q (r : Fin 2048) (d : Fin 192) : ℝ := if h : d.val < 128 then H.qn r ⟨d.val, h⟩ else H.rope H.qp r ⟨d.val - 128, by omega⟩
def k (r : Fin 2048) (d : Fin 192) : ℝ := if h : d.val < 128 then H.kn r ⟨d.val, h⟩ else H.kp r ⟨d.val - 128, by omega⟩
def v (r : Fin 2048) (d : Fin 128) : ℝ := ∑ c : Fin 256, H.ckv r c * H.wkv c ⟨128 + d.val, by omega⟩
def o (r : Fin 2048) (d : Fin 128) : ℝ := ∑ n : Fin 1024, H.dz r n * H.wo d n

/-- The head's output and its gradients of queries (plain and rotary part), keys and values. -/
def out : Fin 2048 → Fin 128 → ℝ := outp H.q H.k H.v
def gq : Fin 2048 → Fin 192 → ℝ := dQ H.q H.k H.v H.o
def gk : Fin 2048 → Fin 192 → ℝ := dK H.q H.k H.v H.o
def gv : Fin 2048 → Fin 128 → ℝ := dV H.q H.k H.o
def gqn (r : Fin 2048) (d : Fin 128) : ℝ := H.gq r ⟨d.val, by omega⟩
def gqp : Fin 2048 → Fin 64 → ℝ := H.ropeT fun r d => H.gq r ⟨128 + d.val, by omega⟩

/-- What the head gives to each result. -/
def gwo (d : Fin 128) (n : Fin 1024) : ℝ := ∑ r : Fin 2048, H.out r d * H.dz r n
def gwq (c : Fin 384) (d : Fin 192) : ℝ :=
  if h : d.val < 128 then ∑ r : Fin 2048, H.cq r c * H.gqn r ⟨d.val, h⟩ else ∑ r : Fin 2048, H.cq r c * H.gqp r ⟨d.val - 128, by omega⟩
def gwkv (c : Fin 256) (d : Fin 256) : ℝ :=
  if h : d.val < 128 then ∑ r : Fin 2048, H.ckv r c * H.gk r ⟨d.val, by omega⟩ else ∑ r : Fin 2048, H.ckv r c * H.gv r ⟨d.val - 128, by omega⟩
def gcq (r : Fin 2048) (c : Fin 384) : ℝ :=
  (∑ d : Fin 128, H.gqn r d * H.wq c ⟨d.val, by omega⟩) + ∑ d : Fin 64, H.gqp r d * H.wq c ⟨128 + d.val, by omega⟩
def gckv (r : Fin 2048) (c : Fin 256) : ℝ :=
  (∑ d : Fin 128, H.gk r ⟨d.val, by omega⟩ * H.wkv c ⟨d.val, by omega⟩) + ∑ d : Fin 128, H.gv r d * H.wkv c ⟨128 + d.val, by omega⟩
def gkp (r : Fin 2048) (d : Fin 64) : ℝ := H.gk r ⟨128 + d.val, by omega⟩

end Head

end Cert.Attention
end
-- ==== Proof.AttnBlocks.lean ====
/- The attention kernel's four blocks of queries: what each block's probabilities and score gradients are, and what it adds
   to the gradients of queries, keys and values. -/
module

public import proofs.«01_k».proof.Defs
public import proofs.«01_k».proof.Proof.Attention
public import Idealize.ShloMosaic.Lib.Pipeline.ValueKit
public import proofs.«01_k».proof.Proof.Gen.AttnKernelIdeal.Value

@[expose] public section

set_option maxRecDepth 16384

noncomputable section

namespace Cert.Attn.K

open Cert.AttnKernelIdeal Cert.AttnKernelIdeal.Gen Cert.AttnKernelIdeal.Value Cert.Common Cert.Attention Idealize.ShloMosaic Idealize.ShloMosaic.TcCoe Idealize.SL.Sem
open Idealize.ShloMosaic.Pipeline (Dat)

variable (q k : Fin 2048 → Fin 192 → ℝ) (v o : Fin 2048 → Fin 128 → ℝ)
  (Q K : FVec Ideal S2048x192 .bf16) (V O : FVec Ideal S2048x128 .bf16)

/-- The probabilities and score gradients of the four blocks. -/
abbrev P0 : FVec Ideal S512x512 .f32 := k0_pay16 (k0_pay14 Q K) k0_pay15 (Scalar.ofBits .f32 0xFF800000#32)
abbrev P1 : FVec Ideal S512x1024 .f32 := k0_pay22 Q K
abbrev P2 : FVec Ideal S512x1536 .f32 := k0_pay29 (k0_pay27 Q K) (k0_pay28 Q K)
abbrev io0 : IVec S512x512 32 := iota .tc S512x512 32 [0] iota_S512x512_d0_w32
abbrev io1 : IVec S512x512 32 := iota .tc S512x512 32 [1] iota_S512x512_d1_w32
abbrev P3 : FVec Ideal S512x2048 .f32 := k0_pay35 (k0_pay34 Q K) io0 io1
abbrev D0 : FVec Ideal S512x512 .bf16 := k0_pay17 V O (k0_pay14 Q K) k0_pay15 (Scalar.ofBits .f32 0xFF800000#32)
abbrev D1 : FVec Ideal S512x1024 .bf16 := k0_pay23 Q K V O
abbrev D2 : FVec Ideal S512x1536 .bf16 := k0_pay30 V O (k0_pay27 Q K) (k0_pay28 Q K)
abbrev D3 : FVec Ideal S512x2048 .bf16 := k0_pay36 V O (k0_pay34 Q K) io0 io1

variable {q k v o Q K V O}

section Probs
variable (hQ : ∀ r d, Q (ix2 r d) = (q r d : EReal)) (hK : ∀ r d, K (ix2 r d) = (k r d : EReal))
include hQ hK

theorem P0_coe (u : Fin 512) (j : Fin 512) : P0 Q K (ix2 u j) = (prob q k ⟨u.val, by omega⟩ (j.castLE (by omega)) : EReal) := by
  unfold P0 k0_pay16
  dsimp only
  generalize hc : select _ _ _ = y
  have hy : Row q k (K := 512) (by omega) ⟨u.val, by omega⟩ (fun l => y (ix2 u l)) := fun l => by
    simp only []
    rw [← hc]
    unfold k0_pay14 k0_pay15
    pointwise []
    have e := entry 0 u.val l.val u.isLt (by omega) (by omega) (score q k ⟨u.val, by omega⟩ ⟨l.val, by omega⟩) (fun _ => 0) (fun _ => (∑ d : Fin 192, Q (ix2 ⟨u.val, by omega⟩ d) * K (ix2 ⟨l.val, by omega⟩ d)) * Ideal.ofBits .f32 0x3D93CD3A#32)
      (fun h => absurd h (by omega)) (fun _ => by simp only [hQ, hK]; exact score_coe _ _)
    rw [dif_neg (by omega)] at e
    simp only [Nat.zero_add, Nat.sub_zero] at e
    exact e
  pointwise [w_neg_inf]
  exact row_prob q k _ _ _ hy (by simp only []; omega) (fun l hl => by simp only [Vis]; omega) j

theorem P1_coe (u : Fin 512) (j : Fin 1024) : P1 Q K (ix2 u j) = (prob q k ⟨512 + u.val, by omega⟩ (j.castLE (by omega)) : EReal) := by
  unfold P1 k0_pay22
  dsimp only
  generalize hc : concatenate S512x1024 1 _ _ = y
  have hy : Row q k (K := 1024) (by omega) ⟨512 + u.val, by omega⟩ (fun l => y (ix2 u l)) := fun l => by
    simp only []
    rw [← hc]
    skip
    pointwise []
    refine entry 512 u.val l.val u.isLt (by omega) (by omega) _ _ _ (fun h => ?_) (fun h => ?_)
    · simp only [hQ, hK]; exact score_coe _ _
    · simp only [hQ, hK, show 512 + (l.val - 512) = l.val by omega]; exact score_coe _ _
  pointwise [w_neg_inf]
  exact row_prob q k _ _ _ hy (by simp only []; omega) (fun l hl => by simp only [Vis]; omega) j

theorem P2_coe (u : Fin 512) (j : Fin 1536) : P2 Q K (ix2 u j) = (prob q k ⟨1024 + u.val, by omega⟩ (j.castLE (by omega)) : EReal) := by
  unfold P2 k0_pay29 k0_pay28 k0_pay27
  dsimp only
  generalize hc : concatenate S512x1536 1 _ _ = y
  have hy : Row q k (K := 1536) (by omega) ⟨1024 + u.val, by omega⟩ (fun l => y (ix2 u l)) := fun l => by
    simp only []
    rw [← hc]
    skip
    pointwise []
    refine entry 1024 u.val l.val u.isLt (by omega) (by omega) _ _ _ (fun h => ?_) (fun h => ?_)
    · simp only [hQ, hK]; exact score_coe _ _
    · simp only [hQ, hK, show 1024 + (l.val - 1024) = l.val by omega]; exact score_coe _ _
  pointwise [w_neg_inf]
  exact row_prob q k _ _ _ hy (by simp only []; omega) (fun l hl => by simp only [Vis]; omega) j

theorem P3_coe (u : Fin 512) (j : Fin 2048) : P3 Q K (ix2 u j) = (prob q k ⟨1536 + u.val, by omega⟩ (j.castLE (by omega)) : EReal) := by
  unfold P3 k0_pay35
  dsimp only
  generalize hc : concatenate S512x2048 1 _ _ = y
  have hy : Row q k (K := 2048) (by omega) ⟨1536 + u.val, by omega⟩ (fun l => y (ix2 u l)) := fun l => by
    simp only []
    rw [← hc]
    unfold k0_pay34
    pointwise []
    refine entry 1536 u.val l.val u.isLt (by omega) (by omega) _ _ _ (fun h => ?_) (fun h => ?_)
    · simp only [hQ, hK]; exact score_coe _ _
    · simp only [hQ, hK, show 1536 + (l.val - 1536) = l.val by omega]; exact score_coe _ _
  pointwise [w_neg_inf]
  exact row_prob q k _ _ _ hy (by simp only []; omega) (fun l hl => by simp only [Vis]; omega) j

variable (hV : ∀ r d, V (ix2 r d) = (v r d : EReal)) (hO : ∀ r d, O (ix2 r d) = (o r d : EReal))
include hV hO

theorem D0_coe (u : Fin 512) (j : Fin 512) : D0 Q K V O (ix2 u j) = (dscore q k v o ⟨u.val, by omega⟩ (j.castLE (by omega)) : EReal) := by
  have hP := P0_coe hQ hK u
  unfold P0 at hP
  unfold D0 k0_pay17
  generalize k0_pay16 (F := Ideal) _ _ _ = p at hP ⊢
  pointwise []
  simp only [hP, hO, hV]
  exact dscore_coe (K := 512) (by omega) _ (fun l hl => by simp only [Vis]; omega) j

theorem D1_coe (u : Fin 512) (j : Fin 1024) : D1 Q K V O (ix2 u j) = (dscore q k v o ⟨512 + u.val, by omega⟩ (j.castLE (by omega)) : EReal) := by
  have hP := P1_coe hQ hK u
  unfold P1 at hP
  unfold D1 k0_pay23
  generalize k0_pay22 (F := Ideal) Q K = p at hP ⊢
  pointwise []
  simp only [hP, hO, hV]
  exact dscore_coe (K := 1024) (by omega) _ (fun l hl => by simp only [Vis]; omega) j

theorem D2_coe (u : Fin 512) (j : Fin 1536) : D2 Q K V O (ix2 u j) = (dscore q k v o ⟨1024 + u.val, by omega⟩ (j.castLE (by omega)) : EReal) := by
  have hP := P2_coe hQ hK u
  unfold P2 at hP
  unfold D2 k0_pay30
  generalize k0_pay29 (F := Ideal) _ _ = p at hP ⊢
  pointwise []
  simp only [hP, hO, hV]
  exact dscore_coe (K := 1536) (by omega) _ (fun l hl => by simp only [Vis]; omega) j

theorem D3_coe (u : Fin 512) (j : Fin 2048) : D3 Q K V O (ix2 u j) = (dscore q k v o ⟨1536 + u.val, by omega⟩ (j.castLE (by omega)) : EReal) := by
  have hP := P3_coe hQ hK u
  unfold P3 at hP
  unfold D3 k0_pay36
  generalize k0_pay35 (F := Ideal) _ _ _ = p at hP ⊢
  pointwise []
  simp only [hP, hO, hV]
  exact dscore_coe (K := 2048) (by omega) _ (fun l hl => by simp only [Vis]; omega) j

theorem dq0_coe (u : Fin 512) (d : Fin 192) : k0_pay18 K V O (k0_pay14 Q K) k0_pay15 (Scalar.ofBits .f32 0xFF800000#32) (ix2 u d) = (dQ q k v o ⟨u.val, by omega⟩ d : EReal) := by
  have hD := D0_coe hQ hK hV hO u
  unfold D0 at hD
  unfold k0_pay18
  generalize k0_pay17 (F := Ideal) _ _ _ _ _ = p at hD ⊢
  pointwise []
  simp only [hD, hK]
  exact dQ_coe (K := 512) (by omega) _ (fun l hl => by simp only [Vis]; omega) d

theorem dq1_coe (u : Fin 512) (d : Fin 192) : k0_pay24 Q K V O (ix2 u d) = (dQ q k v o ⟨512 + u.val, by omega⟩ d : EReal) := by
  have hD := D1_coe hQ hK hV hO u
  unfold D1 at hD
  unfold k0_pay24
  generalize k0_pay23 (F := Ideal) _ _ _ _ = p at hD ⊢
  pointwise []
  simp only [hD, hK]
  exact dQ_coe (K := 1024) (by omega) _ (fun l hl => by simp only [Vis]; omega) d

theorem dq2_coe (u : Fin 512) (d : Fin 192) : k0_pay31 K V O (k0_pay27 Q K) (k0_pay28 Q K) (ix2 u d) = (dQ q k v o ⟨1024 + u.val, by omega⟩ d : EReal) := by
  have hD := D2_coe hQ hK hV hO u
  unfold D2 at hD
  unfold k0_pay31
  generalize k0_pay30 (F := Ideal) _ _ _ _ = p at hD ⊢
  pointwise []
  simp only [hD, hK]
  exact dQ_coe (K := 1536) (by omega) _ (fun l hl => by simp only [Vis]; omega) d

theorem dq3_coe (u : Fin 512) (d : Fin 192) : k0_pay37 K V O (k0_pay34 Q K) io0 io1 (ix2 u d) = (dQ q k v o ⟨1536 + u.val, by omega⟩ d : EReal) := by
  have hD := D3_coe hQ hK hV hO u
  unfold D3 at hD
  unfold k0_pay37
  generalize k0_pay36 (F := Ideal) _ _ _ _ _ = p at hD ⊢
  pointwise []
  simp only [hD, hK]
  exact dQ_coe (K := 2048) (by omega) _ (fun l hl => by simp only [Vis]; omega) d

theorem dk0_coe (x : Vec Ideal S192x512 .f32) (d : Fin 192) (j : Fin 512)
    (hx : x (ix2 d j) = (part 0 (fun i => q i d * dscore q k v o i (j.castLE (by omega))) : EReal)) :
    k0_pay19 Q V O (k0_pay14 Q K) k0_pay15 (Scalar.ofBits .f32 0xFF800000#32) x (ix2 d j) = (part 512 (fun i => q i d * dscore q k v o i (j.castLE (by omega))) : EReal) := by
  have hD := fun u => D0_coe hQ hK hV hO u j
  unfold D0 at hD
  unfold k0_pay19
  generalize k0_pay17 (F := Ideal) _ _ _ _ _ = p at hD ⊢
  pointwise []
  simp only [hD, hQ, hx, ← EReal.coe_mul, ← coe_sum, ← EReal.coe_add]
  rw [EReal.coe_eq_coe_iff, part_step 0 (by omega)]
  simp only [Nat.zero_add]

theorem dk1_coe (x : Vec Ideal S192x1024 .f32) (d : Fin 192) (j : Fin 1024)
    (hx : x (ix2 d j) = (part 512 (fun i => q i d * dscore q k v o i (j.castLE (by omega))) : EReal)) :
    k0_pay25 Q (k0_pay23 Q K V O) x (ix2 d j) = (part 1024 (fun i => q i d * dscore q k v o i (j.castLE (by omega))) : EReal) := by
  have hD := fun u => D1_coe hQ hK hV hO u j
  unfold D1 at hD
  unfold k0_pay25
  generalize k0_pay23 (F := Ideal) _ _ _ _ = p at hD ⊢
  pointwise []
  simp only [hD, hQ, hx, ← EReal.coe_mul, ← coe_sum, ← EReal.coe_add]
  rw [EReal.coe_eq_coe_iff, part_step 512 (by omega)]

theorem dk2_coe (x : Vec Ideal S192x1536 .f32) (d : Fin 192) (j : Fin 1536)
    (hx : x (ix2 d j) = (part 1024 (fun i => q i d * dscore q k v o i (j.castLE (by omega))) : EReal)) :
    k0_pay32 Q V O (k0_pay27 Q K) (k0_pay28 Q K) x (ix2 d j) = (part 1536 (fun i => q i d * dscore q k v o i (j.castLE (by omega))) : EReal) := by
  have hD := fun u => D2_coe hQ hK hV hO u j
  unfold D2 at hD
  unfold k0_pay32
  generalize k0_pay30 (F := Ideal) _ _ _ _ = p at hD ⊢
  pointwise []
  simp only [hD, hQ, hx, ← EReal.coe_mul, ← coe_sum, ← EReal.coe_add]
  rw [EReal.coe_eq_coe_iff, part_step 1024 (by omega)]

theorem dk3_coe (x : Vec Ideal S192x2048 .f32) (d : Fin 192) (j : Fin 2048)
    (hx : x (ix2 d j) = (part 1536 (fun i => q i d * dscore q k v o i (j.castLE (by omega))) : EReal)) :
    k0_pay38 Q V O (k0_pay34 Q K) io0 io1 x (ix2 d j) = (part 2048 (fun i => q i d * dscore q k v o i (j.castLE (by omega))) : EReal) := by
  have hD := fun u => D3_coe hQ hK hV hO u j
  unfold D3 at hD
  unfold k0_pay38
  generalize k0_pay36 (F := Ideal) _ _ _ _ _ = p at hD ⊢
  pointwise []
  simp only [hD, hQ, hx, ← EReal.coe_mul, ← coe_sum, ← EReal.coe_add]
  rw [EReal.coe_eq_coe_iff, part_step 1536 (by omega)]

omit hV in
theorem dv0_coe (x : Vec Ideal S128x512 .f32) (d : Fin 128) (j : Fin 512)
    (hx : x (ix2 d j) = (part 0 (fun i => o i d * prob q k i (j.castLE (by omega))) : EReal)) :
    k0_pay21 (k0_pay20 O (k0_pay14 Q K) k0_pay15 (Scalar.ofBits .f32 0xFF800000#32) x) (ix2 d j) = (part 512 (fun i => o i d * prob q k i (j.castLE (by omega))) : EReal) := by
  have hP := fun u => P0_coe hQ hK u j
  unfold P0 at hP
  unfold k0_pay21 k0_pay20
  generalize k0_pay16 (F := Ideal) _ _ _ = p at hP ⊢
  pointwise []
  simp only [hP, hO, hx, ← EReal.coe_mul, ← coe_sum, ← EReal.coe_add]
  rw [EReal.coe_eq_coe_iff, part_step 0 (by omega)]
  simp only [Nat.zero_add]

omit hV in
theorem dv1_coe (x : Vec Ideal S128x1024 .f32) (d : Fin 128) (j : Fin 1024)
    (hx : x (ix2 d j) = (part 512 (fun i => o i d * prob q k i (j.castLE (by omega))) : EReal)) :
    k0_pay26 O (k0_pay22 Q K) x (ix2 d j) = (part 1024 (fun i => o i d * prob q k i (j.castLE (by omega))) : EReal) := by
  have hP := fun u => P1_coe hQ hK u j
  unfold P1 at hP
  unfold k0_pay26
  generalize k0_pay22 (F := Ideal) Q K = p at hP ⊢
  pointwise []
  simp only [hP, hO, hx, ← EReal.coe_mul, ← coe_sum, ← EReal.coe_add]
  rw [EReal.coe_eq_coe_iff, part_step 512 (by omega)]

omit hV in
theorem dv2_coe (x : Vec Ideal S128x1536 .f32) (d : Fin 128) (j : Fin 1536)
    (hx : x (ix2 d j) = (part 1024 (fun i => o i d * prob q k i (j.castLE (by omega))) : EReal)) :
    k0_pay33 O (k0_pay27 Q K) (k0_pay28 Q K) x (ix2 d j) = (part 1536 (fun i => o i d * prob q k i (j.castLE (by omega))) : EReal) := by
  have hP := fun u => P2_coe hQ hK u j
  unfold P2 at hP
  unfold k0_pay33
  generalize k0_pay29 (F := Ideal) _ _ = p at hP ⊢
  pointwise []
  simp only [hP, hO, hx, ← EReal.coe_mul, ← coe_sum, ← EReal.coe_add]
  rw [EReal.coe_eq_coe_iff, part_step 1024 (by omega)]

omit hV in
theorem dv3_coe (x : Vec Ideal S128x2048 .f32) (d : Fin 128) (j : Fin 2048)
    (hx : x (ix2 d j) = (part 1536 (fun i => o i d * prob q k i (j.castLE (by omega))) : EReal)) :
    k0_pay39 O (k0_pay35 (k0_pay34 Q K) io0 io1) x (ix2 d j) = (part 2048 (fun i => o i d * prob q k i (j.castLE (by omega))) : EReal) := by
  have hP := fun u => P3_coe hQ hK u j
  unfold P3 at hP
  unfold k0_pay39
  generalize k0_pay35 (F := Ideal) _ _ _ = p at hP ⊢
  pointwise []
  simp only [hP, hO, hx, ← EReal.coe_mul, ← coe_sum, ← EReal.coe_add]
  rw [EReal.coe_eq_coe_iff, part_step 1536 (by omega)]

end Probs

end Cert.Attn.K
end
-- ==== Proof.AttnHead.lean ====
/- One head of the attention kernel: its scratch arrays hold the gradients of queries, keys and values, and its outputs are
   the products of those with the head's factors. -/
module

public import proofs.«01_k».proof.Proof.AttnBlocks

@[expose] public section

set_option maxRecDepth 16384

noncomputable section

namespace Cert.Attn.K

open Cert.AttnKernelIdeal Cert.AttnKernelIdeal.Gen Cert.AttnKernelIdeal.Value Cert.Common Cert.Attention Idealize.ShloMosaic Idealize.ShloMosaic.TcCoe Idealize.SL.Sem
open Idealize.ShloMosaic.Pipeline (Dat)

section Scratch
variable (Q K : FVec Ideal S2048x192 .bf16) (V O : FVec Ideal S2048x128 .bf16)

/-- The stores into the keys' gradient, newest first, after each block. -/
abbrev kl0 : List (View.Piece (Elt Ideal) S256x2048 .f32) :=
  [⟨Rect.unit (s := S256x2048) ![0, 0] ![192, 512] inb_S256x2048_S192x512_0_0,
    k0_pay19 (F := Ideal) Q V O (k0_pay14 (F := Ideal) Q K) k0_pay15 (FloatOps.ofBits FTy.f32 4286578688#32) (View.ld (Val := Elt Ideal) (e' := .f32) (k0_pay12 (F := Ideal)) (Rect.unit (s := S256x2048) ![0, 0] ![192, 512] inb_S256x2048_S192x512_0_0))⟩,
   ⟨Rect.unit (s := S256x2048) ![0, 0] ![256, 2048] inb_S256x2048_S256x2048_0_0, k0_pay12 (F := Ideal)⟩]
abbrev kl1 : List (View.Piece (Elt Ideal) S256x2048 .f32) :=
  ⟨Rect.unit (s := S256x2048) ![0, 0] ![192, 1024] inb_S256x2048_S192x1024_0_0,
    k0_pay25 (F := Ideal) Q (k0_pay23 (F := Ideal) Q K V O) ((View.whole cc0_scratch0).readCov (kl0 Q K V O) (Rect.unit (s := S256x2048) ![0, 0] ![192, 1024] inb_S256x2048_S192x1024_0_0).toLoadRect : Vec Ideal S192x1024 .f32)⟩ :: kl0 Q K V O
abbrev kl2 : List (View.Piece (Elt Ideal) S256x2048 .f32) :=
  ⟨Rect.unit (s := S256x2048) ![0, 0] ![192, 1536] inb_S256x2048_S192x1536_0_0,
    k0_pay32 (F := Ideal) Q V O (k0_pay27 (F := Ideal) Q K) (k0_pay28 (F := Ideal) Q K) ((View.whole cc0_scratch0).readCov (kl1 Q K V O) (Rect.unit (s := S256x2048) ![0, 0] ![192, 1536] inb_S256x2048_S192x1536_0_0).toLoadRect : Vec Ideal S192x1536 .f32)⟩ :: kl1 Q K V O
abbrev kl3 : List (View.Piece (Elt Ideal) S256x2048 .f32) :=
  ⟨Rect.unit (s := S256x2048) ![0, 0] ![192, 2048] inb_S256x2048_S192x2048_0_0,
    k0_pay38 (F := Ideal) Q V O (k0_pay34 (F := Ideal) Q K) io0 io1 ((View.whole cc0_scratch0).readCov (kl2 Q K V O) (Rect.unit (s := S256x2048) ![0, 0] ![192, 2048] inb_S256x2048_S192x2048_0_0).toLoadRect : Vec Ideal S192x2048 .f32)⟩ :: kl2 Q K V O
def DKT : Vec Ideal S256x2048 .f32 := (View.whole cc0_scratch0).readCov (kl3 Q K V O) (Rect.unit (s := S256x2048) ![0, 0] ![256, 2048] inb_S256x2048_S256x2048_0_0).toLoadRect

/-- The stores into the values' gradient, newest first, after each block. -/
abbrev vl0 : List (View.Piece (Elt Ideal) S128x2048 .f32) :=
  [⟨Rect.unit (s := S128x2048) ![0, 0] ![128, 512] inb_S128x2048_S128x512_0_0,
    k0_pay21 (F := Ideal) (k0_pay20 (F := Ideal) O (k0_pay14 (F := Ideal) Q K) k0_pay15 (FloatOps.ofBits FTy.f32 4286578688#32) (View.ld (Val := Elt Ideal) (e' := .f32) (k0_pay13 (F := Ideal)) (Rect.unit (s := S128x2048) ![0, 0] ![128, 512] inb_S128x2048_S128x512_0_0)))⟩,
   ⟨Rect.unit (s := S128x2048) ![0, 0] ![128, 2048] inb_S128x2048_S128x2048_0_0, k0_pay13 (F := Ideal)⟩]
abbrev vl1 : List (View.Piece (Elt Ideal) S128x2048 .f32) :=
  ⟨Rect.unit (s := S128x2048) ![0, 0] ![128, 1024] inb_S128x2048_S128x1024_0_0,
    k0_pay26 (F := Ideal) O (k0_pay22 (F := Ideal) Q K) ((View.whole cc0_scratch1).readCov (vl0 Q K O) (Rect.unit (s := S128x2048) ![0, 0] ![128, 1024] inb_S128x2048_S128x1024_0_0).toLoadRect : Vec Ideal S128x1024 .f32)⟩ :: vl0 Q K O
abbrev vl2 : List (View.Piece (Elt Ideal) S128x2048 .f32) :=
  ⟨Rect.unit (s := S128x2048) ![0, 0] ![128, 1536] inb_S128x2048_S128x1536_0_0,
    k0_pay33 (F := Ideal) O (k0_pay27 (F := Ideal) Q K) (k0_pay28 (F := Ideal) Q K) ((View.whole cc0_scratch1).readCov (vl1 Q K O) (Rect.unit (s := S128x2048) ![0, 0] ![128, 1536] inb_S128x2048_S128x1536_0_0).toLoadRect : Vec Ideal S128x1536 .f32)⟩ :: vl1 Q K O
/-- The last store covers the whole array, so the values' gradient is what it writes. -/
def DVT : Vec Ideal S128x2048 .f32 :=
  k0_pay39 (F := Ideal) O (k0_pay35 (F := Ideal) (k0_pay34 (F := Ideal) Q K) io0 io1) ((View.whole cc0_scratch1).readCov (vl2 Q K O) (Rect.unit (s := S128x2048) ![0, 0] ![128, 2048] inb_S128x2048_S128x2048_0_0).toLoadRect : Vec Ideal S128x2048 .f32)

/-- The stores into the queries' gradient. -/
abbrev ql : List (View.Piece (Elt Ideal) S2048x192 .f32) :=
  [⟨Rect.unit (s := S2048x192) ![1536, 0] ![512, 192] inb_S2048x192_S512x192_1536_0, k0_pay37 (F := Ideal) K V O (k0_pay34 (F := Ideal) Q K) io0 io1⟩,
   ⟨Rect.unit (s := S2048x192) ![1024, 0] ![512, 192] inb_S2048x192_S512x192_1024_0, k0_pay31 (F := Ideal) K V O (k0_pay27 (F := Ideal) Q K) (k0_pay28 (F := Ideal) Q K)⟩,
   ⟨Rect.unit (s := S2048x192) ![512, 0] ![512, 192] inb_S2048x192_S512x192_512_0, k0_pay24 (F := Ideal) Q K V O⟩,
   ⟨Rect.unit (s := S2048x192) ![0, 0] ![512, 192] inb_S2048x192_S512x192_0_0, k0_pay18 (F := Ideal) K V O (k0_pay14 (F := Ideal) Q K) k0_pay15 (FloatOps.ofBits FTy.f32 4286578688#32)⟩]
def DQn : Vec Ideal S2048x128 .f32 := (View.whole cc0_scratch2).readCov (ql Q K V O) (Rect.unit (s := S2048x192) ![0, 0] ![2048, 128] inb_S2048x192_S2048x128_0_0).toLoadRect
def DQp : Vec Ideal S2048x64 .f32 := (View.whole cc0_scratch2).readCov (ql Q K V O) (Rect.unit (s := S2048x192) ![0, 128] ![2048, 64] inb_S2048x192_S2048x64_0_128).toLoadRect

variable {q k : Fin 2048 → Fin 192 → ℝ} {v o : Fin 2048 → Fin 128 → ℝ}
  (hQ : ∀ r d, Q (ix2 r d) = (q r d : EReal)) (hK : ∀ r d, K (ix2 r d) = (k r d : EReal))
  (hV : ∀ r d, V (ix2 r d) = (v r d : EReal)) (hO : ∀ r d, O (ix2 r d) = (o r d : EReal))
include hQ hK hV hO

theorem ql_coe (r : Fin 2048) (d : Fin 192) : View.canon (ql Q K V O) (ix2 r d) = (dQ q k v o r d : EReal) := by
  canon_tiles x h using View.cover_of_tiledBy _ ![512, 192] (by sl_kernel_rfl) _
  · obtain ⟨u, e, rfl⟩ : ∃ (u : Fin 512) (e : Fin 192), x = ix2 u e := ⟨_, _, eq_ix2 x⟩
    obtain rfl : d = e := Fin.ext h1
    rw [show r = ⟨1536 + u.val, by omega⟩ from Fin.ext h0]
    exact dq3_coe hQ hK hV hO u d
  · obtain ⟨u, e, rfl⟩ : ∃ (u : Fin 512) (e : Fin 192), x = ix2 u e := ⟨_, _, eq_ix2 x⟩
    obtain rfl : d = e := Fin.ext h1
    rw [show r = ⟨1024 + u.val, by omega⟩ from Fin.ext h0]
    exact dq2_coe hQ hK hV hO u d
  · obtain ⟨u, e, rfl⟩ : ∃ (u : Fin 512) (e : Fin 192), x = ix2 u e := ⟨_, _, eq_ix2 x⟩
    obtain rfl : d = e := Fin.ext h1
    rw [show r = ⟨512 + u.val, by omega⟩ from Fin.ext h0]
    exact dq1_coe hQ hK hV hO u d
  · obtain ⟨u, e, rfl⟩ : ∃ (u : Fin 512) (e : Fin 192), x = ix2 u e := ⟨_, _, eq_ix2 x⟩
    obtain rfl : d = e := Fin.ext h1
    rw [show r = ⟨u.val, by omega⟩ from Fin.ext h0]
    exact dq0_coe hQ hK hV hO u d

theorem DQn_coe (r : Fin 2048) (d : Fin 128) : DQn Q K V O (ix2 r d) = (dQ q k v o r ⟨d.val, by omega⟩ : EReal) := by
  unfold DQn
  rw [View.readCov_eq_canon']
  refine Eq.trans (congrArg (View.canon (ql Q K V O)) ?_) (ql_coe Q K V O hQ hK hV hO r ⟨d.val, by omega⟩)
  refine funext fun a => Fin.ext ?_
  match a with
  | ⟨0, _⟩ => show 0 + 1 * r.val = r.val; omega
  | ⟨1, _⟩ => show 0 + 1 * d.val = d.val; omega

theorem DQp_coe (r : Fin 2048) (d : Fin 64) : DQp Q K V O (ix2 r d) = (dQ q k v o r ⟨128 + d.val, by omega⟩ : EReal) := by
  unfold DQp
  rw [View.readCov_eq_canon']
  refine Eq.trans (congrArg (View.canon (ql Q K V O)) ?_) (ql_coe Q K V O hQ hK hV hO r ⟨128 + d.val, by omega⟩)
  refine funext fun a => Fin.ext ?_
  match a with
  | ⟨0, _⟩ => show 0 + 1 * r.val = r.val; omega
  | ⟨1, _⟩ => show 128 + 1 * d.val = 128 + d.val; omega

/-- What the keys' scratch array holds once the first `n` rows have been added. -/
def KAcc (q k : Fin 2048 → Fin 192 → ℝ) (v o : Fin 2048 → Fin 128 → ℝ) (n : ℕ) (L : List (View.Piece (Elt Ideal) S256x2048 .f32)) : Prop :=
  ∀ (d : Fin 192) (j : Fin 2048), View.canon L (ix2 (⟨d.val, by omega⟩ : Fin 256) j) = (part n (fun i => q i d * dscore q k v o i j) : EReal)
def VAcc (q k : Fin 2048 → Fin 192 → ℝ) (o : Fin 2048 → Fin 128 → ℝ) (n : ℕ) (L : List (View.Piece (Elt Ideal) S128x2048 .f32)) : Prop :=
  ∀ (d : Fin 128) (j : Fin 2048), View.canon L (ix2 d j) = (part n (fun i => o i d * prob q k i j) : EReal)

omit hQ hK hV hO in
theorem kstep (n : ℕ) (hn : n + 512 ≤ 2048) (h64 : n % 64 = 0) (L : List (View.Piece (Elt Ideal) S256x2048 .f32)) (hL : KAcc q k v o n L) (inb)
    (w : Vec Ideal (⟨2, ![192, n + 512]⟩ : Shape) .f32)
    (hw : ∀ (d : Fin 192) (j : Fin (n + 512)), w (ix2 d j) = (part (n + 512) (fun i => q i d * dscore q k v o i (j.castLE hn)) : EReal)) :
    KAcc q k v o (n + 512) (⟨Rect.unit (s := S256x2048) ![0, 0] ![192, n + 512] inb, w⟩ :: L) := fun d j => by
  rw [canon_lead (Val := Elt Ideal) (e := .f32)]
  by_cases h : j.val < n + 512
  · rw [dif_pos ⟨d.isLt, h⟩]; exact hw d ⟨j.val, h⟩
  · rw [dif_neg (fun e => h e.2), hL d j, part_skip n hn _ j.val (by omega) h64]
    exact fun i hi => by rw [dscore_zero q k v o hi, mul_zero]

omit hQ hK hV hO in
theorem vstep (n : ℕ) (hn : n + 512 ≤ 2048) (h64 : n % 64 = 0) (L : List (View.Piece (Elt Ideal) S128x2048 .f32)) (hL : VAcc q k o n L) (inb)
    (w : Vec Ideal (⟨2, ![128, n + 512]⟩ : Shape) .f32)
    (hw : ∀ (d : Fin 128) (j : Fin (n + 512)), w (ix2 d j) = (part (n + 512) (fun i => o i d * prob q k i (j.castLE hn)) : EReal)) :
    VAcc q k o (n + 512) (⟨Rect.unit (s := S128x2048) ![0, 0] ![128, n + 512] inb, w⟩ :: L) := fun d j => by
  rw [canon_lead (Val := Elt Ideal) (e := .f32)]
  by_cases h : j.val < n + 512
  · rw [dif_pos ⟨d.isLt, h⟩]; exact hw d ⟨j.val, h⟩
  · rw [dif_neg (fun e => h e.2), hL d j, part_skip n hn _ j.val (by omega) h64]
    exact fun i hi => by rw [prob_zero q k hi, mul_zero]

omit hQ hK hV hO in
theorem kload {r N : ℕ} (L : List (View.Piece (Elt Ideal) S256x2048 .f32)) (inb) (d : Fin r) (j : Fin N) (hN : N ≤ 2048) (hr : r ≤ 256) :
    (View.whole cc0_scratch0).readCov L (Rect.unit (s := S256x2048) ![0, 0] ![r, N] inb).toLoadRect (ix2 d j) = View.canon L (ix2 (d.castLE hr) (j.castLE hN)) := by
  rw [View.readCov_eq_canon']
  refine congrArg (View.canon L) (funext fun a => Fin.ext ?_)
  match a with
  | ⟨0, _⟩ => show 0 + 1 * d.val = d.val; omega
  | ⟨1, _⟩ => show 0 + 1 * j.val = j.val; omega
omit hQ hK hV hO in
theorem vload {r N : ℕ} (L : List (View.Piece (Elt Ideal) S128x2048 .f32)) (inb) (d : Fin r) (j : Fin N) (hN : N ≤ 2048) (hr : r ≤ 128) :
    (View.whole cc0_scratch1).readCov L (Rect.unit (s := S128x2048) ![0, 0] ![r, N] inb).toLoadRect (ix2 d j) = View.canon L (ix2 (d.castLE hr) (j.castLE hN)) := by
  rw [View.readCov_eq_canon']
  refine congrArg (View.canon L) (funext fun a => Fin.ext ?_)
  match a with
  | ⟨0, _⟩ => show 0 + 1 * d.val = d.val; omega
  | ⟨1, _⟩ => show 0 + 1 * j.val = j.val; omega

omit hQ hK hV hO in
theorem kz (i : S256x2048.Idx) : k0_pay12 (F := Ideal) i = 0 := by rw [eq_ix2 i]; pointwise [k0_pay12]
omit hQ hK hV hO in
theorem vz (i : S128x2048.Idx) : k0_pay13 (F := Ideal) i = 0 := by rw [eq_ix2 i]; pointwise [k0_pay13]

theorem kacc : KAcc q k v o 2048 (kl3 Q K V O) := by
  have z : KAcc q k v o 0 [⟨Rect.unit (s := S256x2048) ![0, 0] ![256, 2048] inb_S256x2048_S256x2048_0_0, k0_pay12 (F := Ideal)⟩] := fun d j => by
    rw [canon_lead (Val := Elt Ideal) (e := .f32), dif_pos ⟨by omega, j.isLt⟩, part_zero]; exact kz _
  have a0 : KAcc q k v o 512 (kl0 Q K V O) := kstep 0 (by omega) (by omega) _ z inb_S256x2048_S192x512_0_0 _ fun d j => by
    refine dk0_coe hQ hK hV hO _ d j ?_
    rw [part_zero]; exact kz _
  have a1 : KAcc q k v o 1024 (kl1 Q K V O) := kstep 512 (by omega) (by omega) _ a0 inb_S256x2048_S192x1024_0_0 _ fun d j =>
    dk1_coe hQ hK hV hO _ d j ((kload _ _ d j (by omega) (by omega)).trans (a0 d _))
  have a2 : KAcc q k v o 1536 (kl2 Q K V O) := kstep 1024 (by omega) (by omega) _ a1 inb_S256x2048_S192x1536_0_0 _ fun d j =>
    dk2_coe hQ hK hV hO _ d j ((kload _ _ d j (by omega) (by omega)).trans (a1 d _))
  exact kstep 1536 (by omega) (by omega) _ a2 inb_S256x2048_S192x2048_0_0 _ fun d j =>
    dk3_coe hQ hK hV hO _ d j ((kload _ _ d j (by omega) (by omega)).trans (a2 d _))

omit hV in
theorem vacc : VAcc q k o 1536 (vl2 Q K O) := by
  have z : VAcc q k o 0 [⟨Rect.unit (s := S128x2048) ![0, 0] ![128, 2048] inb_S128x2048_S128x2048_0_0, k0_pay13 (F := Ideal)⟩] := fun d j => by
    rw [canon_lead (Val := Elt Ideal) (e := .f32), dif_pos ⟨d.isLt, j.isLt⟩, part_zero]; exact vz _
  have a0 : VAcc q k o 512 (vl0 Q K O) := vstep 0 (by omega) (by omega) _ z inb_S128x2048_S128x512_0_0 _ fun d j => by
    refine dv0_coe hQ hK hO _ d j ?_
    rw [part_zero]; exact vz _
  have a1 : VAcc q k o 1024 (vl1 Q K O) := vstep 512 (by omega) (by omega) _ a0 inb_S128x2048_S128x1024_0_0 _ fun d j =>
    dv1_coe hQ hK hO _ d j ((vload _ _ d j (by omega) (by omega)).trans (a0 d _))
  exact vstep 1024 (by omega) (by omega) _ a1 inb_S128x2048_S128x1536_0_0 _ fun d j =>
    dv2_coe hQ hK hO _ d j ((vload _ _ d j (by omega) (by omega)).trans (a1 d _))

theorem DKT_coe (d : Fin 192) (j : Fin 2048) : DKT Q K V O (ix2 (⟨d.val, by omega⟩ : Fin 256) j) = (dK q k v o j d : EReal) := by
  refine (kload (kl3 Q K V O) inb_S256x2048_S256x2048_0_0 (⟨d.val, by omega⟩ : Fin 256) j (le_refl _) (le_refl _)).trans ((kacc Q K V O hQ hK hV hO d j).trans ?_)
  rw [part_full, dK]

omit hV in
theorem DVT_coe (d : Fin 128) (j : Fin 2048) : DVT Q K O (ix2 d j) = (dV q k o j d : EReal) := by
  refine (dv3_coe hQ hK hO _ d j ((vload _ _ d j (by omega) (by omega)).trans (vacc Q K O hQ hK hO d _))).trans ?_
  rw [part_full, dV]; rfl

end Scratch

section Blocks
variable (H : Head) (x0 : Vec Ideal S2048x384 .bf16) (x1 : Vec Ideal S2048x256 .bf16) (x2 : Vec Ideal S2048x64 .f32) (x3 x4 : Vec Ideal S2048x32 .f32)
  (x5 : Vec Ideal S1x384x192 .bf16) (x6 : Vec Ideal S1x256x256 .bf16) (x7 : Vec Ideal S1x128x1024 .bf16) (x8 : Vec Ideal S1x2048x128 .bf16) (x9 : Vec Ideal S2048x1024 .bf16)

abbrev wqn : Vec Ideal S1x384x128 .bf16 := View.ld (Val := Elt Ideal) (e' := .bf16) x5 (Rect.unit (s := S1x384x192) ![0, 0, 0] ![1, 384, 128] inb_S1x384x192_S1x384x128_0_0_0)
abbrev wqp : Vec Ideal S1x384x64 .bf16 := View.ld (Val := Elt Ideal) (e' := .bf16) x5 (Rect.unit (s := S1x384x192) ![0, 0, 128] ![1, 384, 64] inb_S1x384x192_S1x384x64_0_0_128)
abbrev wkn : Vec Ideal S1x256x128 .bf16 := View.ld (Val := Elt Ideal) (e' := .bf16) x6 (Rect.unit (s := S1x256x256) ![0, 0, 0] ![1, 256, 128] inb_S1x256x256_S1x256x128_0_0_0)
abbrev wkp : Vec Ideal S1x256x128 .bf16 := View.ld (Val := Elt Ideal) (e' := .bf16) x6 (Rect.unit (s := S1x256x256) ![0, 0, 128] ![1, 256, 128] inb_S1x256x256_S1x256x128_0_0_128)
abbrev hQ : FVec Ideal S2048x192 .bf16 := k0_pay6 (F := Ideal) x0 x3 x4 (wqn x5) (wqp x5)
abbrev hK : FVec Ideal S2048x192 .bf16 := k0_pay7 (F := Ideal) x1 x2 (wkn x6)
abbrev hV : FVec Ideal S2048x128 .bf16 := k0_pay8 (F := Ideal) x1 (wkp x6)
abbrev hO : FVec Ideal S2048x128 .bf16 := k0_pay11 (F := Ideal) x9 x7

abbrev tQ : Vec Ideal S2048x128 .f32 := DQn (hQ x0 x3 x4 x5) (hK x1 x2 x6) (hV x1 x6) (hO x7 x9)
abbrev tP : Vec Ideal S2048x64 .f32 := DQp (hQ x0 x3 x4 x5) (hK x1 x2 x6) (hV x1 x6) (hO x7 x9)
abbrev tK : Vec Ideal S256x2048 .f32 := DKT (hQ x0 x3 x4 x5) (hK x1 x2 x6) (hV x1 x6) (hO x7 x9)
abbrev tV : Vec Ideal S128x2048 .f32 := DVT (hQ x0 x3 x4 x5) (hK x1 x2 x6) (hO x7 x9)

theorem ld_cols {A n K : ℕ} (X : (⟨3, ![1, A, K]⟩ : Shape).Idx → EReal) (o : ℕ) (inb) (a : Fin A) (j : Fin n) (J : Fin K) (hJ : J.val = o + j.val) :
    View.ld (Val := Elt Ideal) (e' := .bf16) X (Rect.unit (s := ⟨3, ![1, A, K]⟩) ![0, 0, o] ![1, A, n] inb) (ix3 0 a j) = X (ix3 0 a J) := by
  refine congrArg X (funext fun b => Fin.ext ?_)
  match b with
  | ⟨0, _⟩ => rfl
  | ⟨1, _⟩ => show 0 + 1 * a.val = a.val; omega
  | ⟨2, _⟩ => show o + 1 * j.val = J.val; omega

/-- The blocks hold a head's arguments. -/
structure Holds : Prop where
  h0 : ∀ r c, x0 (ix2 r c) = (H.cq r c : EReal)
  h1 : ∀ r c, x1 (ix2 r c) = (H.ckv r c : EReal)
  h2 : ∀ r c, x2 (ix2 r c) = (H.kp r c : EReal)
  h3 : ∀ r c, x3 (ix2 r c) = (H.cs r c : EReal)
  h4 : ∀ r c, x4 (ix2 r c) = (H.sn r c : EReal)
  h5 : ∀ r c, x5 (ix3 0 r c) = (H.wq r c : EReal)
  h6 : ∀ r c, x6 (ix3 0 r c) = (H.wkv r c : EReal)
  h7 : ∀ r c, x7 (ix3 0 r c) = (H.wo r c : EReal)
  h8 : ∀ r c, x8 (ix3 0 r c) = (H.out r c : EReal)
  h9 : ∀ r c, x9 (ix2 r c) = (H.dz r c : EReal)

variable {H x0 x1 x2 x3 x4 x5 x6 x7 x8 x9} (h : Holds H x0 x1 x2 x3 x4 x5 x6 x7 x8 x9)
include h

theorem wqn_coe (c : Fin 384) (d : Fin 128) : wqn x5 (ix3 0 c d) = (H.wq c ⟨d.val, by omega⟩ : EReal) :=
  (ld_cols x5 0 _ c d ⟨d.val, by omega⟩ (Nat.zero_add _).symm).trans (h.h5 _ _)
theorem wqp_coe (c : Fin 384) (d : Fin 64) : wqp x5 (ix3 0 c d) = (H.wq c ⟨128 + d.val, by omega⟩ : EReal) :=
  (ld_cols x5 128 _ c d ⟨128 + d.val, by omega⟩ rfl).trans (h.h5 _ _)
theorem wkn_coe (c : Fin 256) (d : Fin 128) : wkn x6 (ix3 0 c d) = (H.wkv c ⟨d.val, by omega⟩ : EReal) :=
  (ld_cols x6 0 _ c d ⟨d.val, by omega⟩ (Nat.zero_add _).symm).trans (h.h6 _ _)
theorem wkp_coe (c : Fin 256) (d : Fin 128) : wkp x6 (ix3 0 c d) = (H.wkv c ⟨128 + d.val, by omega⟩ : EReal) :=
  (ld_cols x6 128 _ c d ⟨128 + d.val, by omega⟩ rfl).trans (h.h6 _ _)

theorem hQ_coe (r : Fin 2048) (d : Fin 192) : hQ x0 x3 x4 x5 (ix2 r d) = (H.q r d : EReal) := by
  have a := wqn_coe h; have b := wqp_coe h
  unfold hQ
  generalize wqn x5 = y at a ⊢
  generalize wqp x5 = z at b ⊢
  pointwise [k0_pay6, k0_pay4]
  simp only [a, b, h.h0, h.h3, h.h4, ← EReal.coe_mul, ← coe_sum, ← EReal.coe_sub, ← EReal.coe_add]
  unfold Head.q Head.rope Head.qn Head.qp
  split_ifs <;> rfl
theorem hK_coe (r : Fin 2048) (d : Fin 192) : hK x1 x2 x6 (ix2 r d) = (H.k r d : EReal) := by
  have a := wkn_coe h
  unfold hK
  generalize wkn x6 = y at a ⊢
  pointwise [k0_pay7, k0_pay5]
  simp only [a, h.h1, h.h2, ← EReal.coe_mul, ← coe_sum]
  unfold Head.k Head.kn
  split_ifs <;> rfl
theorem hV_coe (r : Fin 2048) (d : Fin 128) : hV x1 x6 (ix2 r d) = (H.v r d : EReal) := by
  have a := wkp_coe h
  unfold hV
  generalize wkp x6 = y at a ⊢
  pointwise [k0_pay8, k0_pay5]
  simp only [a, h.h1, ← EReal.coe_mul, ← coe_sum]
  rfl
theorem hO_coe (r : Fin 2048) (d : Fin 128) : hO x7 x9 (ix2 r d) = (H.o r d : EReal) := by
  unfold hO
  pointwise [k0_pay11, k0_pay9]
  simp only [h.h7, h.h9, ← EReal.coe_mul, ← coe_sum]
  rfl

theorem pQ (r : Fin 2048) (d : Fin 128) : k0_pay41 (F := Ideal) (tQ x0 x1 x2 x3 x4 x5 x6 x7 x9) (ix2 r d) = (H.gqn r d : EReal) := by
  have a := DQn_coe _ _ _ _ (hQ_coe h) (hK_coe h) (hV_coe h) (hO_coe h)
  unfold tQ
  generalize DQn _ _ _ _ = y at a ⊢
  pointwise [k0_pay41]
  exact a r d
theorem pP (r : Fin 2048) (d : Fin 64) : k0_pay42 (F := Ideal) x3 x4 (tP x0 x1 x2 x3 x4 x5 x6 x7 x9) (ix2 r d) = (H.gqp r d : EReal) := by
  have a := DQp_coe _ _ _ _ (hQ_coe h) (hK_coe h) (hV_coe h) (hO_coe h)
  unfold tP
  generalize DQp _ _ _ _ = y at a ⊢
  pointwise [k0_pay42]
  simp only [a, h.h3, h.h4, ← EReal.coe_mul, ← EReal.coe_sub, ← EReal.coe_add]
  unfold Head.gqp Head.ropeT
  split_ifs <;> rfl
theorem pK (r : Fin 2048) (d : Fin 128) : k0_pay43 (F := Ideal) (tK x0 x1 x2 x3 x4 x5 x6 x7 x9) (ix2 r d) = (H.gk r ⟨d.val, by omega⟩ : EReal) := by
  have a := DKT_coe _ _ _ _ (hQ_coe h) (hK_coe h) (hV_coe h) (hO_coe h) ⟨d.val, by omega⟩ r
  unfold tK
  generalize DKT _ _ _ _ = y at a ⊢
  pointwise [k0_pay43, k0_pay40]
  exact a
theorem pR (r : Fin 2048) (d : Fin 64) : k0_pay44 (F := Ideal) (tK x0 x1 x2 x3 x4 x5 x6 x7 x9) (ix2 r d) = (H.gkp r d : EReal) := by
  have a := DKT_coe _ _ _ _ (hQ_coe h) (hK_coe h) (hV_coe h) (hO_coe h) ⟨128 + d.val, by omega⟩ r
  unfold tK
  generalize DKT _ _ _ _ = y at a ⊢
  pointwise [k0_pay44, k0_pay40]
  exact a
theorem pV (r : Fin 2048) (d : Fin 128) : k0_pay45 (F := Ideal) (tV x0 x1 x2 x3 x4 x5 x6 x7 x9) (ix2 r d) = (H.gv r d : EReal) := by
  have a := DVT_coe _ _ _ (hQ_coe h) (hK_coe h) (hO_coe h) d r
  unfold tV
  generalize DVT _ _ _ = y at a ⊢
  pointwise [k0_pay45]
  exact a

theorem res_wo (d : Fin 128) (n : Fin 1024) : k0_pay10 (F := Ideal) x9 x8 (ix3 0 d n) = (H.gwo d n : EReal) := by
  pointwise [k0_pay10, k0_pay9]
  simp only [h.h8, h.h9, ← EReal.coe_mul, ← coe_sum]
  rfl

theorem wq_n (c : Fin 384) (d : Fin 128) : k0_pay46 (F := Ideal) (k0_pay4 x0) (tQ x0 x1 x2 x3 x4 x5 x6 x7 x9) (ix3 0 c d) = ((∑ r : Fin 2048, H.cq r c * H.gqn r d : ℝ) : EReal) := by
  have a := pQ h
  unfold k0_pay46
  generalize k0_pay41 (F := Ideal) _ = y at a ⊢
  pointwise [k0_pay4]
  simp only [a, h.h0, ← EReal.coe_mul, ← coe_sum]
theorem wq_p (c : Fin 384) (d : Fin 64) : k0_pay48 (F := Ideal) (k0_pay47 (k0_pay4 x0) x3 x4 (tP x0 x1 x2 x3 x4 x5 x6 x7 x9)) (ix3 0 c d) = ((∑ r : Fin 2048, H.cq r c * H.gqp r d : ℝ) : EReal) := by
  have a := pP h
  unfold k0_pay48 k0_pay47
  generalize k0_pay42 (F := Ideal) _ _ _ = y at a ⊢
  pointwise [k0_pay4]
  simp only [a, h.h0, ← EReal.coe_mul, ← coe_sum]
theorem wkv_n (c : Fin 256) (d : Fin 128) : k0_pay49 (F := Ideal) (k0_pay5 x1) (k0_pay43 (tK x0 x1 x2 x3 x4 x5 x6 x7 x9)) (ix3 0 c d) = ((∑ r : Fin 2048, H.ckv r c * H.gk r ⟨d.val, by omega⟩ : ℝ) : EReal) := by
  have a := pK h
  unfold k0_pay49
  generalize k0_pay43 (F := Ideal) _ = y at a ⊢
  pointwise [k0_pay5]
  simp only [a, h.h1, ← EReal.coe_mul, ← coe_sum]
theorem wkv_p (c : Fin 256) (d : Fin 128) : k0_pay50 (F := Ideal) (k0_pay5 x1) (k0_pay45 (tV x0 x1 x2 x3 x4 x5 x6 x7 x9)) (ix3 0 c d) = ((∑ r : Fin 2048, H.ckv r c * H.gv r d : ℝ) : EReal) := by
  have a := pV h
  unfold k0_pay50
  generalize k0_pay45 (F := Ideal) _ = y at a ⊢
  pointwise [k0_pay5]
  simp only [a, h.h1, ← EReal.coe_mul, ← coe_sum]

theorem res_wq (c : Fin 384) (d : Fin 192) :
    View.canon [⟨Rect.unit (s := S1x384x192) ![0, 0, 128] ![1, 384, 64] inb_S1x384x192_S1x384x64_0_0_128, k0_pay48 (F := Ideal) (k0_pay47 (k0_pay4 x0) x3 x4 (tP x0 x1 x2 x3 x4 x5 x6 x7 x9))⟩,
      (⟨Rect.unit (s := S1x384x192) ![0, 0, 0] ![1, 384, 128] inb_S1x384x192_S1x384x128_0_0_0, k0_pay46 (F := Ideal) (k0_pay4 x0) (tQ x0 x1 x2 x3 x4 x5 x6 x7 x9)⟩ : View.Piece (Elt Ideal) S1x384x192 .bf16)] (ix3 0 c d)
      = (H.gwq c d : EReal) := by
  unfold Head.gwq
  canon_tiles x hx using View.cover_of_tiledBy _ ![1, 384, 64] (by sl_kernel_rfl) _
  · obtain ⟨b, u, e, rfl⟩ : ∃ (b : Fin 1) (u : Fin 384) (e : Fin 64), x = ix3 b u e := ⟨_, _, _, eq_ix3 x⟩
    obtain rfl : b = 0 := Subsingleton.elim _ _
    obtain rfl : c = u := Fin.ext hx1
    rw [show d = ⟨128 + e.val, by omega⟩ from Fin.ext hx2, dif_neg (by simp only []; omega)]
    refine (wq_p h c e).trans ?_
    simp only [Nat.add_sub_cancel_left]
  · obtain ⟨b, u, e, rfl⟩ : ∃ (b : Fin 1) (u : Fin 384) (e : Fin 128), x = ix3 b u e := ⟨_, _, _, eq_ix3 x⟩
    obtain rfl : b = 0 := Subsingleton.elim _ _
    obtain rfl : c = u := Fin.ext hx1
    rw [show d = ⟨e.val, by omega⟩ from Fin.ext hx2, dif_pos e.isLt]
    exact wq_n h c e
theorem res_wkv (c : Fin 256) (d : Fin 256) :
    View.canon [⟨Rect.unit (s := S1x256x256) ![0, 0, 128] ![1, 256, 128] inb_S1x256x256_S1x256x128_0_0_128, k0_pay50 (F := Ideal) (k0_pay5 x1) (k0_pay45 (tV x0 x1 x2 x3 x4 x5 x6 x7 x9))⟩,
      (⟨Rect.unit (s := S1x256x256) ![0, 0, 0] ![1, 256, 128] inb_S1x256x256_S1x256x128_0_0_0, k0_pay49 (F := Ideal) (k0_pay5 x1) (k0_pay43 (tK x0 x1 x2 x3 x4 x5 x6 x7 x9))⟩ : View.Piece (Elt Ideal) S1x256x256 .bf16)] (ix3 0 c d)
      = (H.gwkv c d : EReal) := by
  unfold Head.gwkv
  canon_tiles x hx using View.cover_of_tiledBy _ ![1, 256, 128] (by sl_kernel_rfl) _
  · obtain ⟨b, u, e, rfl⟩ : ∃ (b : Fin 1) (u : Fin 256) (e : Fin 128), x = ix3 b u e := ⟨_, _, _, eq_ix3 x⟩
    obtain rfl : b = 0 := Subsingleton.elim _ _
    obtain rfl : c = u := Fin.ext hx1
    rw [show d = ⟨128 + e.val, by omega⟩ from Fin.ext hx2, dif_neg (by simp only []; omega)]
    refine (wkv_p h c e).trans ?_
    simp only [Nat.add_sub_cancel_left]
  · obtain ⟨b, u, e, rfl⟩ : ∃ (b : Fin 1) (u : Fin 256) (e : Fin 128), x = ix3 b u e := ⟨_, _, _, eq_ix3 x⟩
    obtain rfl : b = 0 := Subsingleton.elim _ _
    obtain rfl : c = u := Fin.ext hx1
    rw [show d = ⟨e.val, by omega⟩ from Fin.ext hx2, dif_pos e.isLt]
    exact wkv_n h c e

theorem res_cq (r : Fin 2048) (c : Fin 384) :
    k0_pay51 (F := Ideal) (k0_pay41 (tQ x0 x1 x2 x3 x4 x5 x6 x7 x9)) (k0_pay42 x3 x4 (tP x0 x1 x2 x3 x4 x5 x6 x7 x9)) (wqn x5) (wqp x5) (ix2 r c) = (H.gcq r c : EReal) := by
  have a := pQ h; have b := pP h; have e := wqn_coe h; have f := wqp_coe h
  generalize k0_pay41 (F := Ideal) _ = y at a ⊢
  generalize k0_pay42 (F := Ideal) _ _ _ = z at b ⊢
  generalize wqn x5 = u at e ⊢
  generalize wqp x5 = w at f ⊢
  pointwise [k0_pay51]
  simp only [a, b, e, f, ← EReal.coe_mul, ← coe_sum, ← EReal.coe_add]
  rfl
theorem res_ckv (r : Fin 2048) (c : Fin 256) :
    k0_pay52 (F := Ideal) (k0_pay43 (tK x0 x1 x2 x3 x4 x5 x6 x7 x9)) (k0_pay45 (tV x0 x1 x2 x3 x4 x5 x6 x7 x9)) (wkn x6) (wkp x6) (ix2 r c) = (H.gckv r c : EReal) := by
  have a := pK h; have b := pV h; have e := wkn_coe h; have f := wkp_coe h
  generalize k0_pay43 (F := Ideal) _ = y at a ⊢
  generalize k0_pay45 (F := Ideal) _ = z at b ⊢
  generalize wkn x6 = u at e ⊢
  generalize wkp x6 = w at f ⊢
  pointwise [k0_pay52]
  simp only [a, b, e, f, ← EReal.coe_mul, ← coe_sum, ← EReal.coe_add]
  rfl

end Blocks

variable (m : (ℓ : Loc nD τ sig) → Buf (Elt Ideal) ℓ)

theorem of_A (t : Fin cfg0.N) (h : t.val % 8 = 0) : ¬ 1 ≤ t.val := by
  have := lt_of_lt_of_eq t.isLt N_0
  generalize t.val = u at *
  omega
theorem of_B (t : Fin cfg0.N) (h : ¬ t.val % 8 = 0) : 1 ≤ t.val := by
  generalize t.val = u at *
  omega
theorem case_of (t : Fin cfg0.N) : (t.val % 8 = 0 ∧ ¬ 1 ≤ t.val) ∨ (¬ t.val % 8 = 0 ∧ 1 ≤ t.val) := by
  by_cases h : t.val % 8 = 0
  · exact .inl ⟨h, of_A t h⟩
  · exact .inr ⟨h, of_B t h⟩

section Outs
variable (c : Dev nD) (t : Fin cfg0.N) {H : Head}
  (h : Holds H (iblk m c 0 t) (iblk m c 1 t) (iblk m c 2 t) (iblk m c 3 t) (iblk m c 4 t) (iblk m c 5 t) (iblk m c 6 t) (iblk m c 7 t) (iblk m c 8 t) (iblk m c 9 t))
include h

theorem out10 (d : Fin 128) (n : Fin 1024) : (outsAt0 m c t.val t.isLt).1 (ix3 0 d n) = (H.gwo d n : EReal) := by
  rcases case_of t with ⟨h0, h1⟩ | ⟨h0, h1⟩
  · rw [outsAt0_A m c t h0 h1]; frame_out
    exact res_wo h d n
  · rw [outsAt0_B m c t h0 h1]; frame_out
    exact res_wo h d n

theorem out11 (e : Fin 384) (d : Fin 192) : (outsAt0 m c t.val t.isLt).2.1 (ix3 0 e d) = (H.gwq e d : EReal) := by
  rcases case_of t with ⟨h0, h1⟩ | ⟨h0, h1⟩
  · rw [outsAt0_A m c t h0 h1]; frame_open
    simp (disch := decide) only [↓ View.readCov_skip, ↓ View.readCov_cons_toLoadRect, ↓ View.readCov_fill]
    frame_out
    exact res_wq h e d
  · rw [outsAt0_B m c t h0 h1]; frame_open
    simp (disch := decide) only [↓ View.readCov_skip, ↓ View.readCov_cons_toLoadRect, ↓ View.readCov_fill]
    frame_out
    exact res_wq h e d

theorem out12 (e : Fin 256) (d : Fin 256) : (outsAt0 m c t.val t.isLt).2.2.1 (ix3 0 e d) = (H.gwkv e d : EReal) := by
  rcases case_of t with ⟨h0, h1⟩ | ⟨h0, h1⟩
  · rw [outsAt0_A m c t h0 h1]; frame_open
    simp (disch := decide) only [↓ View.readCov_skip, ↓ View.readCov_cons_toLoadRect, ↓ View.readCov_fill]
    frame_out
    exact res_wkv h e d
  · rw [outsAt0_B m c t h0 h1]; frame_open
    simp (disch := decide) only [↓ View.readCov_skip, ↓ View.readCov_cons_toLoadRect, ↓ View.readCov_fill]
    frame_out
    exact res_wkv h e d

omit h in
theorem add1 (a b : FVec Ideal S2048x384 .f32) (i : S2048x384.Idx) : k0_pay1 (F := Ideal) a b i = b i + a i := by rw [eq_ix2 i]; pointwise [k0_pay1]
omit h in
theorem add2 (a b : FVec Ideal S2048x256 .f32) (i : S2048x256.Idx) : k0_pay2 (F := Ideal) a b i = b i + a i := by rw [eq_ix2 i]; pointwise [k0_pay2]
omit h in
theorem add3 (a b : FVec Ideal S2048x64 .f32) (i : S2048x64.Idx) : k0_pay3 (F := Ideal) a b i = b i + a i := by rw [eq_ix2 i]; pointwise [k0_pay3]

theorem out13_A (h0 : t.val % 8 = 0) (r : Fin 2048) (e : Fin 384) : (outsAt0 m c t.val t.isLt).2.2.2.1 (ix2 r e) = (H.gcq r e : EReal) := by
  rw [outsAt0_A m c t h0 (of_A t h0)]; frame_open
  simp (disch := decide) only [↓ View.readCov_skip, ↓ View.readCov_cons_toLoadRect, ↓ View.readCov_fill]
  frame_out
  exact res_cq h r e
theorem out13_B (h0 : ¬ t.val % 8 = 0) (r : Fin 2048) (e : Fin 384) :
    (outsAt0 m c t.val t.isLt).2.2.2.1 (ix2 r e) = (outsAt0 m c (t.val - 1) (Nat.lt_of_le_of_lt (Nat.sub_le _ _) t.isLt)).2.2.2.1 (ix2 r e) + (H.gcq r e : EReal) := by
  rw [outsAt0_B m c t h0 (of_B t h0)]; frame_open
  simp (disch := decide) only [↓ View.readCov_skip, ↓ View.readCov_cons_toLoadRect, ↓ View.readCov_fill]
  frame_out
  exact (add1 _ _ _).trans (congrArg _ (res_cq h r e))
theorem out14_A (h0 : t.val % 8 = 0) (r : Fin 2048) (e : Fin 256) : (outsAt0 m c t.val t.isLt).2.2.2.2.1 (ix2 r e) = (H.gckv r e : EReal) := by
  rw [outsAt0_A m c t h0 (of_A t h0)]; frame_open
  simp (disch := decide) only [↓ View.readCov_skip, ↓ View.readCov_cons_toLoadRect, ↓ View.readCov_fill]
  frame_out
  exact res_ckv h r e
theorem out14_B (h0 : ¬ t.val % 8 = 0) (r : Fin 2048) (e : Fin 256) :
    (outsAt0 m c t.val t.isLt).2.2.2.2.1 (ix2 r e) = (outsAt0 m c (t.val - 1) (Nat.lt_of_le_of_lt (Nat.sub_le _ _) t.isLt)).2.2.2.2.1 (ix2 r e) + (H.gckv r e : EReal) := by
  rw [outsAt0_B m c t h0 (of_B t h0)]; frame_open
  simp (disch := decide) only [↓ View.readCov_skip, ↓ View.readCov_cons_toLoadRect, ↓ View.readCov_fill]
  frame_out
  exact (add2 _ _ _).trans (congrArg _ (res_ckv h r e))
theorem out15_A (h0 : t.val % 8 = 0) (r : Fin 2048) (e : Fin 64) : (outsAt0 m c t.val t.isLt).2.2.2.2.2 (ix2 r e) = (H.gkp r e : EReal) := by
  rw [outsAt0_A m c t h0 (of_A t h0)]; frame_open
  simp (disch := decide) only [↓ View.readCov_skip, ↓ View.readCov_cons_toLoadRect, ↓ View.readCov_fill]
  frame_out
  exact pR h r e
theorem out15_B (h0 : ¬ t.val % 8 = 0) (r : Fin 2048) (e : Fin 64) :
    (outsAt0 m c t.val t.isLt).2.2.2.2.2 (ix2 r e) = (outsAt0 m c (t.val - 1) (Nat.lt_of_le_of_lt (Nat.sub_le _ _) t.isLt)).2.2.2.2.2 (ix2 r e) + (H.gkp r e : EReal) := by
  rw [outsAt0_B m c t h0 (of_B t h0)]; frame_open
  simp (disch := decide) only [↓ View.readCov_skip, ↓ View.readCov_cons_toLoadRect, ↓ View.readCov_fill]
  frame_out
  exact (add3 _ _ _).trans (congrArg _ (pR h r e))

end Outs

end Cert.Attn.K
end
-- ==== Proof.AttnRef.lean ====
/- The attention's reference over the reals, head by head, in the terms of one head's masked attention. -/
module

public import proofs.«01_k».proof.Proof.Attention
public import proofs.«01_k».proof.Proof.Gen.AttnReferenceIdeal.Read

@[expose] public section

noncomputable section

namespace Cert.Attn

open Idealize.ShloMosaic Cert.Common Cert.Attention

/-- The attention's arguments as real numbers. -/
structure Args where
  cq : Fin 2048 → Fin 384 → ℝ
  ckv : Fin 2048 → Fin 256 → ℝ
  kp : Fin 2048 → Fin 64 → ℝ
  cs : Fin 2048 → Fin 32 → ℝ
  sn : Fin 2048 → Fin 32 → ℝ
  wq : Fin 384 → Fin 1536 → ℝ
  wkv : Fin 256 → Fin 2048 → ℝ
  wo : Fin 1024 → Fin 1024 → ℝ
  dz : Fin 2048 → Fin 1024 → ℝ

/-- What head `t` takes of them. -/
def Args.head (A : Args) (t : Fin 8) : Head where
  cq := A.cq
  ckv := A.ckv
  kp := A.kp
  cs := A.cs
  sn := A.sn
  wq c d := A.wq c ⟨t.val * 192 + d.val, by omega⟩
  wkv c d := A.wkv c ⟨t.val * 256 + d.val, by omega⟩
  wo d n := A.wo ⟨t.val * 128 + d.val, by omega⟩ n
  dz := A.dz

/-- A sum over a two-part axis, and one over a row of equal blocks. -/
theorem sum_parts {M : Type*} [AddCommMonoid M] (a b n : ℕ) (hn : n = a + b) (f : Fin n → M) :
    ∑ d : Fin n, f d = (∑ d : Fin a, f ⟨d.val, by omega⟩) + ∑ d : Fin b, f ⟨a + d.val, by omega⟩ := by
  subst hn; exact Fin.sum_univ_add f
theorem sum_blocks {M : Type*} [AddCommMonoid M] (a b n : ℕ) (hn : n = a * b) (f : Fin n → M) (g : Fin a → Fin b → M)
    (hf : ∀ x : Fin n, ∀ t d, x.val / b = t.val → x.val % b = d.val → f x = g t d) : ∑ x, f x = ∑ t, ∑ d, g t d := by
  subst hn
  rw [← Finset.sum_product', ← finProdFinEquiv.sum_comp]
  refine Finset.sum_congr rfl fun p _ => hf _ p.1 p.2 ?_ ?_
  · have hb : 0 < b := lt_of_le_of_lt (Nat.zero_le _) p.2.isLt
    rw [finProdFinEquiv_apply_val, Nat.add_mul_div_left _ _ hb, Nat.div_eq_of_lt p.2.isLt, Nat.zero_add]
  · rw [finProdFinEquiv_apply_val, Nat.add_mul_mod_self_left, Nat.mod_eq_of_lt p.2.isLt]

namespace R
open Cert.AttnReferenceIdeal Cert.AttnReferenceIdeal.Read Cert.AttnReferenceIdeal.Gen

/-- The arrays hold the arguments. -/
structure Fed (A : Args) (X0 : FVec Ideal S2048x384 .f32) (X1 : FVec Ideal S2048x256 .f32) (X2 : FVec Ideal S2048x64 .f32)
    (X3 X4 : FVec Ideal S2048x32 .f32) (X5 : FVec Ideal S384x1536 .f32) (X6 : FVec Ideal S256x2048 .f32)
    (X7 : FVec Ideal S1024x1024 .f32) (X8 : FVec Ideal S2048x1024 .f32) : Prop where
  h0 : ∀ r c, X0 (ix2 r c) = (A.cq r c : EReal)
  h1 : ∀ r c, X1 (ix2 r c) = (A.ckv r c : EReal)
  h2 : ∀ r c, X2 (ix2 r c) = (A.kp r c : EReal)
  h3 : ∀ r c, X3 (ix2 r c) = (A.cs r c : EReal)
  h4 : ∀ r c, X4 (ix2 r c) = (A.sn r c : EReal)
  h5 : ∀ r c, X5 (ix2 r c) = (A.wq r c : EReal)
  h6 : ∀ r c, X6 (ix2 r c) = (A.wkv r c : EReal)
  h7 : ∀ r c, X7 (ix2 r c) = (A.wo r c : EReal)
  h8 : ∀ r c, X8 (ix2 r c) = (A.dz r c : EReal)

theorem chunk (i : Fin 2048) : val_main_v30 (F := Ideal) (ix1 i) = BitVec.ofNat 32 (i.val / 64) := by
  unfold val_main_v30 val_main_call0_v11 val_main_call0_v13 val_main_call0_v2 val_main_call0_v6 val_main_call0_v10 val_main_call0_v3 val_main_call0_v5 val_main_call0_v8 val_main_call0_v9 val_main_call0_v12 val_main_call0_v1 val_main_call0_v4 val_main_call0_v7 val_main_call0_v0 val_main_v29 val_main_c val_main_call0_c val_main_call0_c_0
  pointwise []
  revert i
  decide +kernel
theorem rmax (y : FVec Ideal S8x2048x2048 .f32) (t : Fin 8) (i : Fin 2048) :
    Host.reduce (FloatOps.maximumf (F := Ideal) (φ := .f32)) y (val_main_cst_1 (F := Ideal)) reducesTo_S8x2048x2048_S8x2048_d2 h_S_ (ix2 t i)
      = Finset.fold max (Ideal.ofBits .f32 0xFF800000#32) (fun j => y (ix3 t i j)) Finset.univ := by
  rw [Host.reduce_eq_fold]
  exact (Shape.ReducesTo.fold_fiber_r3_a2 _ _ _ _ _)
theorem mask (t : Fin 8) (i j : Fin 2048) (x y : EReal) : Scalar.select (val_main_v36_1 (F := Ideal) (ix3 t i j)) x y = if Vis i.val j.val then x else y := by
  have h := chunk
  unfold val_main_v36_1 val_main_v35 val_main_v33 val_main_v34 val_main_v31 val_main_v32
  generalize val_main_v30 (F := Ideal) = y at h ⊢
  pointwise []
  rw [h, h]
  exact sel _ _ i.isLt j.isLt x _

variable {A : Args} {X0 : FVec Ideal S2048x384 .f32} {X1 : FVec Ideal S2048x256 .f32} {X2 : FVec Ideal S2048x64 .f32}
    {X3 X4 : FVec Ideal S2048x32 .f32} {X5 : FVec Ideal S384x1536 .f32} {X6 : FVec Ideal S256x2048 .f32}
    {X7 : FVec Ideal S1024x1024 .f32} {X8 : FVec Ideal S2048x1024 .f32} (h : Fed A X0 X1 X2 X3 X4 X5 X6 X7 X8)
include h

theorem qn (r : Fin 2048) (t : Fin 8) (d : Fin 128) : val_main_v2 (F := Ideal) X0 X5 (ix3 r t d) = ((A.head t).qn r d : EReal) := by
  pointwise [val_main_v2, val_main_v1, val_main_v0]
  simp only [h.h0, h.h5, ← EReal.coe_mul, ← coe_sum]
  rfl
theorem qp (r : Fin 2048) (t : Fin 8) (d : Fin 64) : val_main_v3 (F := Ideal) X0 X5 (ix3 r t d) = ((A.head t).qp r d : EReal) := by
  pointwise [val_main_v3, val_main_v1, val_main_v0]
  simp only [h.h0, h.h5, ← EReal.coe_mul, ← coe_sum]
  rfl
theorem kn (r : Fin 2048) (t : Fin 8) (d : Fin 128) : val_main_v21 (F := Ideal) X1 X6 (ix3 r t d) = ((A.head t).kn r d : EReal) := by
  pointwise [val_main_v21, val_main_v20, val_main_v19]
  simp only [h.h1, h.h6, ← EReal.coe_mul, ← coe_sum]
  rfl
theorem va (r : Fin 2048) (t : Fin 8) (d : Fin 128) : val_main_v22 (F := Ideal) X1 X6 (ix3 r t d) = ((A.head t).v r d : EReal) := by
  pointwise [val_main_v22, val_main_v20, val_main_v19]
  simp only [h.h1, h.h6, ← EReal.coe_mul, ← coe_sum]
  rfl
theorem dO (r : Fin 2048) (t : Fin 8) (d : Fin 128) : val_main_v72 (F := Ideal) X7 X8 (ix3 r t d) = ((A.head t).o r d : EReal) := by
  pointwise [val_main_v72, val_main_v71]
  simp only [h.h7, h.h8, ← EReal.coe_mul, ← coe_sum]
  rfl
theorem rp (r : Fin 2048) (t : Fin 8) (d : Fin 64) : val_main_v18 (F := Ideal) X0 X3 X4 X5 (ix3 r t d) = ((A.head t).rope (A.head t).qp r d : EReal) := by
  have a := qp h
  unfold val_main_v18 val_main_v12 val_main_v17 val_main_v9 val_main_v11 val_main_v14 val_main_v16 val_main_v6 val_main_v7 val_main_v8 val_main_v10 val_main_v13 val_main_v15 val_main_v4 val_main_v5
  generalize val_main_v3 (F := Ideal) X0 X5 = y at a ⊢
  pointwise []
  simp only [a, h.h3, h.h4, ← EReal.coe_mul, ← EReal.coe_sub, ← EReal.coe_add]
  unfold Head.rope
  split_ifs <;> rfl

theorem scr (t : Fin 8) (i j : Fin 2048) :
    val_main_v28 (F := Ideal) X0 X1 X2 X3 X4 X5 X6 (ix3 t i j) = (score (A.head t).q (A.head t).k i j : EReal) := by
  have a := qn h; have b := rp h; have c := kn h
  unfold val_main_v28 val_main_v27 val_main_cst val_main_v26 val_main_v25 val_main_v24 val_main_v23
  generalize val_main_v2 (F := Ideal) X0 X5 = y at a ⊢
  generalize val_main_v18 (F := Ideal) X0 X3 X4 X5 = z at b ⊢
  generalize val_main_v21 (F := Ideal) X1 X6 = w at c ⊢
  pointwise []
  simp only [a, b, c, h.h2, w_sc, ← EReal.coe_mul, ← coe_sum, ← EReal.coe_add]
  rw [EReal.coe_eq_coe_iff, score, sum_parts 128 64 192 rfl]
  refine congrArg (· * sc) (congrArg₂ (· + ·) (Finset.sum_congr rfl fun d _ => ?_) (Finset.sum_congr rfl fun d _ => ?_))
  · rw [Head.q, Head.k, dif_pos d.isLt, dif_pos d.isLt]
  · rw [Head.q, Head.k, dif_neg (by simp), dif_neg (by simp), mul_comm]
    simp only [Nat.add_sub_cancel_left]
    rfl

theorem row (t : Fin 8) (i : Fin 2048) :
    Row (A.head t).q (A.head t).k (le_refl 2048) i (fun j => val_main_v36_0 (F := Ideal) X0 X1 X2 X3 X4 X5 X6 (ix3 t i j)) := fun j => by
  show val_main_v36_0 (F := Ideal) X0 X1 X2 X3 X4 X5 X6 (ix3 t i j) = _
  rw [val_main_v36_0_apply, mask, scr h]
  refine if_congr Iff.rfl rfl ?_
  unfold val_main_call1_v2 val_main_call1_v0 val_main_cst_0
  pointwise [id]
  exact w_neg_inf

omit h in
theorem exp_sub (a b : EReal) : FloatOps.hostUnary (F := Ideal) (φ := .f32) .exp (FloatOps.subf (F := Ideal) (φ := .f32) a b) = Ideal.exp (a - b) := rfl
omit h in
theorem bot_max (M : FVec Ideal S8x2048 .f32) (t : Fin 8) (i : Fin 2048) : maximumf (val_main_v43 (F := Ideal)) M (ix2 t i) = M (ix2 t i) := by
  pointwise [val_main_v43, val_main_cst_3]
  rw [w_neg_inf, max_eq_right bot_le]
omit h in
theorem row_of (t : Fin 8) (i j : Fin 2048) :
    val_main_v55 (F := Ideal) X0 X1 X2 X3 X4 X5 X6 (ix3 t i j) = val_main_v44 (F := Ideal) X0 X1 X2 X3 X4 X5 X6 (ix2 t i) := by
  unfold val_main_v55 val_main_v54
  generalize val_main_v44 (F := Ideal) X0 X1 X2 X3 X4 X5 X6 = M
  pointwise []
omit h in
theorem rmax_row (t : Fin 8) (i j : Fin 2048) : val_main_v55 (F := Ideal) X0 X1 X2 X3 X4 X5 X6 (ix3 t i j)
    = Finset.fold max (⊥ : EReal) (fun l => val_main_v36_0 (F := Ideal) X0 X1 X2 X3 X4 X5 X6 (ix3 t i l)) Finset.univ := by
  rw [row_of, val_main_v44, bot_max, val_main_v37]
  generalize val_main_v36_0 (F := Ideal) X0 X1 X2 X3 X4 X5 X6 = y
  rw [rmax, w_neg_inf]

theorem ex (t : Fin 8) (i : Fin 2048) : ∃ ε : ℝ, 0 < ε ∧ ∀ j, val_main_v57 (F := Ideal) X0 X1 X2 X3 X4 X5 X6 (ix3 t i j)
    = ((wt (A.head t).q (A.head t).k i j * ε : ℝ) : EReal) := by
  obtain ⟨ε, hε, he⟩ := row_exp _ _ _ _ _ (row h t i) i.isLt
  refine ⟨ε, hε, fun j => Eq.trans ?_ (he j)⟩
  rw [val_main_v57_apply, val_main_v56_apply, rmax_row]
  exact exp_sub _ _

theorem tot (t : Fin 8) (i : Fin 2048) (ε : ℝ) (he : ∀ j, val_main_v57 (F := Ideal) X0 X1 X2 X3 X4 X5 X6 (ix3 t i j)
    = ((wt (A.head t).q (A.head t).k i j * ε : ℝ) : EReal)) :
    val_main_v58 (F := Ideal) X0 X1 X2 X3 X4 X5 X6 (ix2 t i) = ((total (A.head t).q (A.head t).k i * ε : ℝ) : EReal) := by
  unfold val_main_v58 val_main_cst_9
  generalize val_main_v57 (F := Ideal) X0 X1 X2 X3 X4 X5 X6 = y at he ⊢
  pointwise []
  simp only [he, ← coe_sum]
  rw [total, Finset.sum_mul]

theorem pr (t : Fin 8) (i j : Fin 2048) :
    val_main_v61 (F := Ideal) X0 X1 X2 X3 X4 X5 X6 (ix3 t i j) = (prob (A.head t).q (A.head t).k i j : EReal) := by
  obtain ⟨ε, hε, he⟩ := ex h t i
  have hs := tot h t i ε he
  unfold val_main_v61 val_main_v60 val_main_v59
  generalize val_main_v57 (F := Ideal) X0 X1 X2 X3 X4 X5 X6 = y at he ⊢
  generalize val_main_v58 (F := Ideal) X0 X1 X2 X3 X4 X5 X6 = z at hs ⊢
  pointwise []
  have hT := total_pos (A.head t).q (A.head t).k i
  rw [he, hs, Ideal.div_coe (mul_pos hT hε).ne', ← EReal.coe_mul, EReal.coe_eq_coe_iff, prob]
  field_simp

theorem ou (r : Fin 2048) (t : Fin 8) (d : Fin 128) : val_main_v66 (F := Ideal) X0 X1 X2 X3 X4 X5 X6 (ix3 r t d) = ((A.head t).out r d : EReal) := by
  have a := va h; have b := pr h
  unfold val_main_v66 val_main_v65
  generalize val_main_v22 (F := Ideal) X1 X6 = y at a ⊢
  generalize val_main_v61 (F := Ideal) X0 X1 X2 X3 X4 X5 X6 = z at b ⊢
  pointwise []
  simp only [a, b, ← EReal.coe_mul, ← coe_sum]
  rw [EReal.coe_eq_coe_iff]
  exact Finset.sum_congr rfl fun j _ => mul_comm _ _

theorem dp (t : Fin 8) (i j : Fin 2048) : val_main_v74 (F := Ideal) X1 X6 X7 X8 (ix3 t i j) = (dprob (A.head t).v (A.head t).o i j : EReal) := by
  have a := va h; have b := dO h
  unfold val_main_v74 val_main_v73
  generalize val_main_v22 (F := Ideal) X1 X6 = y at a ⊢
  generalize val_main_v72 (F := Ideal) X7 X8 = z at b ⊢
  pointwise []
  simp only [a, b, ← EReal.coe_mul, ← coe_sum]
  rfl

theorem dv (t : Fin 8) (j : Fin 2048) (d : Fin 128) : val_main_v76 (F := Ideal) X0 X1 X2 X3 X4 X5 X6 X7 X8 (ix3 j t d) = ((A.head t).gv j d : EReal) := by
  have a := pr h; have b := dO h
  unfold val_main_v76 val_main_v75 val_main_v73
  generalize val_main_v61 (F := Ideal) X0 X1 X2 X3 X4 X5 X6 = y at a ⊢
  generalize val_main_v72 (F := Ideal) X7 X8 = z at b ⊢
  pointwise []
  simp only [a, b, ← EReal.coe_mul, ← coe_sum]
  rfl

omit h in
/-- The softmax's gradient as the derivative spells it, with the exponentials scaled by a number that cancels. -/
theorem soft (q k : Fin 2048 → Fin 192 → ℝ) (v o : Fin 2048 → Fin 128 → ℝ) (i j : Fin 2048) (ε : ℝ) (hε : 0 < ε) :
    (dprob v o i j * (1 / (total q k i * ε)) + -∑ l : Fin 2048, dprob v o i l * (1 * (1 / (total q k i * ε * (total q k i * ε)))) * (wt q k i l * ε)) * (wt q k i j * ε) * sc
      = dscore q k v o i j := by
  have hT := (total_pos q k i).ne'
  have e : ∑ l : Fin 2048, dprob v o i l * (1 * (1 / (total q k i * ε * (total q k i * ε)))) * (wt q k i l * ε)
      = (∑ l : Fin 2048, prob q k i l * dprob v o i l) * (1 / (total q k i * ε)) := by
    rw [Finset.sum_mul]
    refine Finset.sum_congr rfl fun l _ => ?_
    rw [prob]; field_simp
  rw [e, dscore, prob]
  field_simp
  ring

theorem ds (t : Fin 8) (i j : Fin 2048) : val_main_v91 (F := Ideal) X0 X1 X2 X3 X4 X5 X6 X7 X8 (ix3 t i j)
    = (dscore (A.head t).q (A.head t).k (A.head t).v (A.head t).o i j : EReal) := by
  obtain ⟨ε, hε, he⟩ := ex h t i
  have hs := tot h t i ε he
  have b := dp h t i
  have hm := mask t i j
  have hT := total_pos (A.head t).q (A.head t).k i
  unfold val_main_v91 val_main_v90 val_main_cst_13 val_main_v89 val_main_call2_v0 val_main_call2_cst val_main_v88 val_main_v87 val_main_v86 val_main_v85 val_main_cst_12 val_main_v84 val_main_v83 val_main_v82 val_main_v81 val_main_v80 val_main_cst_11 val_main_v79 val_main_v78 val_main_v77 val_main_v64 val_main_v63 val_main_cst_10 val_main_v62 val_main_v59
  generalize val_main_v57 (F := Ideal) X0 X1 X2 X3 X4 X5 X6 = y at he ⊢
  generalize val_main_v58 (F := Ideal) X0 X1 X2 X3 X4 X5 X6 = z at hs ⊢
  generalize val_main_v74 (F := Ideal) X1 X6 X7 X8 = w at b ⊢
  generalize val_main_v36_1 (F := Ideal) = M at hm ⊢
  pointwise []
  rw [hm]
  by_cases hv : Vis i.val j.val
  · rw [if_pos hv, he, hs, b, ← EReal.coe_mul, ← EReal.coe_one, Ideal.div_coe (mul_pos hT hε).ne', Ideal.div_coe (mul_pos (mul_pos hT hε) (mul_pos hT hε)).ne', w_sc]
    simp only [he, b, ← EReal.coe_mul, ← coe_sum, ← EReal.coe_neg, ← EReal.coe_add, Finset.univ_unique, Finset.sum_singleton]
    rw [EReal.coe_eq_coe_iff]
    exact soft _ _ _ _ i j ε hε
  · rw [if_neg hv, dscore_zero _ _ _ _ hv]; rfl

theorem gkn (t : Fin 8) (j : Fin 2048) (d : Fin 128) : val_main_v96 (F := Ideal) X0 X1 X2 X3 X4 X5 X6 X7 X8 (ix3 j t d) = ((A.head t).gk j ⟨d.val, by omega⟩ : EReal) := by
  have a := ds h; have b := qn h
  unfold val_main_v96 val_main_v95
  generalize val_main_v91 (F := Ideal) X0 X1 X2 X3 X4 X5 X6 X7 X8 = y at a ⊢
  generalize val_main_v2 (F := Ideal) X0 X5 = z at b ⊢
  pointwise []
  simp only [a, b, ← EReal.coe_mul, ← coe_sum]
  rw [EReal.coe_eq_coe_iff, Head.gk, dK]
  refine Finset.sum_congr rfl fun i _ => ?_
  rw [Head.q, dif_pos d.isLt]
  exact mul_comm _ _
theorem gqn (t : Fin 8) (i : Fin 2048) (d : Fin 128) : val_main_v98 (F := Ideal) X0 X1 X2 X3 X4 X5 X6 X7 X8 (ix3 i t d) = ((A.head t).gqn i d : EReal) := by
  have a := ds h; have b := kn h
  unfold val_main_v98 val_main_v97
  generalize val_main_v91 (F := Ideal) X0 X1 X2 X3 X4 X5 X6 X7 X8 = y at a ⊢
  generalize val_main_v21 (F := Ideal) X1 X6 = z at b ⊢
  pointwise []
  simp only [a, b, ← EReal.coe_mul, ← coe_sum]
  rw [EReal.coe_eq_coe_iff, Head.gqn, Head.gq, dQ]
  refine Finset.sum_congr rfl fun j _ => ?_
  rw [Head.k, dif_pos d.isLt]
theorem gqr (t : Fin 8) (i : Fin 2048) (d : Fin 64) : val_main_v93 (F := Ideal) X0 X1 X2 X3 X4 X5 X6 X7 X8 (ix3 i t d) = ((A.head t).gq i ⟨128 + d.val, by omega⟩ : EReal) := by
  have a := ds h
  unfold val_main_v93 val_main_v92
  generalize val_main_v91 (F := Ideal) X0 X1 X2 X3 X4 X5 X6 X7 X8 = y at a ⊢
  pointwise []
  simp only [a, h.h2, ← EReal.coe_mul, ← coe_sum]
  rw [EReal.coe_eq_coe_iff, Head.gq, dQ]
  refine Finset.sum_congr rfl fun j _ => ?_
  rw [Head.k, dif_neg (by simp)]
  simp only [Nat.add_sub_cancel_left]
  rfl
theorem gkr (j : Fin 2048) (d : Fin 64) : val_main_v94 (F := Ideal) X0 X1 X2 X3 X4 X5 X6 X7 X8 (ix2 j d) = ((∑ t : Fin 8, (A.head t).gkp j d : ℝ) : EReal) := by
  have a := ds h; have b := rp h
  unfold val_main_v94 val_main_v92
  generalize val_main_v91 (F := Ideal) X0 X1 X2 X3 X4 X5 X6 X7 X8 = y at a ⊢
  generalize val_main_v18 (F := Ideal) X0 X3 X4 X5 = z at b ⊢
  pointwise []
  simp only [a, b, ← EReal.coe_mul, ← coe_sum]
  rw [EReal.coe_eq_coe_iff, Finset.sum_comm]
  refine Finset.sum_congr rfl fun t _ => ?_
  rw [Head.gkp, Head.gk, dK]
  refine Finset.sum_congr rfl fun i _ => ?_
  rw [Head.q, dif_neg (by simp)]
  simp only [Nat.add_sub_cancel_left]
  exact mul_comm _ _

/-- One head's gradient of what its keys and values were cut from, and of what its queries were. -/
theorem gkvl (t : Fin 8) (r : Fin 2048) (d : Fin 256) : val_main_v101 (F := Ideal) X0 X1 X2 X3 X4 X5 X6 X7 X8 (ix3 r t d)
    = ((if e : d.val < 128 then (A.head t).gk r ⟨d.val, by omega⟩ else (A.head t).gv r ⟨d.val - 128, by omega⟩ : ℝ) : EReal) := by
  have a := dv h; have b := gkn h
  unfold val_main_v101 val_main_v100 val_main_v99 val_main_cst_14 val_main_cst_15
  generalize val_main_v76 (F := Ideal) X0 X1 X2 X3 X4 X5 X6 X7 X8 = y at a ⊢
  generalize val_main_v96 (F := Ideal) X0 X1 X2 X3 X4 X5 X6 X7 X8 = z at b ⊢
  pointwise []
  simp only [a, b]
  by_cases e : d.val < 128
  · rw [dif_neg (by omega), dif_pos e, dif_pos e, zero_add]
  · rw [dif_pos (by omega), dif_neg e, dif_neg e, add_zero]
theorem grot (t : Fin 8) (i : Fin 2048) (d : Fin 64) : val_main_v119 (F := Ideal) X0 X1 X2 X3 X4 X5 X6 X7 X8 (ix3 i t d) = ((A.head t).gqp i d : EReal) := by
  have a := gqr h
  unfold val_main_v119 val_main_v118 val_main_v117 val_main_v116 val_main_v115 val_main_v114 val_main_v113 val_main_v112 val_main_v111 val_main_v110 val_main_v109 val_main_v108 val_main_v107 val_main_v106 val_main_v4 val_main_v5
  generalize val_main_v93 (F := Ideal) X0 X1 X2 X3 X4 X5 X6 X7 X8 = y at a ⊢
  pointwise []
  simp only [a, h.h3, h.h4, ← EReal.coe_neg, ← EReal.coe_mul, ← EReal.coe_sub, ← EReal.coe_add]
  unfold Head.gqp Head.ropeT
  by_cases e : d.val < 32
  · rw [dif_pos e, dif_pos e, EReal.coe_eq_coe_iff]
    exact add_comm _ _
  · rw [dif_neg e, dif_neg e, EReal.coe_eq_coe_iff, neg_mul, ← sub_eq_add_neg]; rfl
theorem gql (t : Fin 8) (r : Fin 2048) (d : Fin 192) : val_main_v122 (F := Ideal) X0 X1 X2 X3 X4 X5 X6 X7 X8 (ix3 r t d)
    = ((if e : d.val < 128 then (A.head t).gqn r ⟨d.val, e⟩ else (A.head t).gqp r ⟨d.val - 128, by omega⟩ : ℝ) : EReal) := by
  have a := gqn h; have b := grot h
  unfold val_main_v122 val_main_v121 val_main_v120 val_main_cst_16 val_main_cst_17
  generalize val_main_v98 (F := Ideal) X0 X1 X2 X3 X4 X5 X6 X7 X8 = y at a ⊢
  generalize val_main_v119 (F := Ideal) X0 X1 X2 X3 X4 X5 X6 X7 X8 = z at b ⊢
  pointwise []
  simp only [a, b]
  by_cases e : d.val < 128
  · rw [dif_neg (by omega), dif_pos e, dif_pos e, zero_add]
  · rw [dif_pos (by omega), dif_neg e, dif_neg e, add_zero]

theorem res_wo (t : Fin 8) (d : Fin 128) (n : Fin 1024) : val_main_v128 (F := Ideal) X0 X1 X2 X3 X4 X5 X6 X8 (ix3 t d n) = ((A.head t).gwo d n : EReal) := by
  have a := ou h
  unfold val_main_v128 val_main_v127 val_main_v70 val_main_v69 val_main_v67
  generalize val_main_v66 (F := Ideal) X0 X1 X2 X3 X4 X5 X6 = y at a ⊢
  pointwise []
  simp only [a, h.h8, ← EReal.coe_mul, ← coe_sum]
  rw [EReal.coe_eq_coe_iff]
  exact Finset.sum_congr rfl fun r _ => mul_comm _ _
theorem res_wq (t : Fin 8) (c : Fin 384) (d : Fin 192) : val_main_v131 (F := Ideal) X0 X1 X2 X3 X4 X5 X6 X7 X8 (ix3 t c d) = ((A.head t).gwq c d : EReal) := by
  have a := gql h
  unfold val_main_v131 val_main_v130 val_main_v129 val_main_v125 val_main_v124 val_main_v123
  generalize val_main_v122 (F := Ideal) X0 X1 X2 X3 X4 X5 X6 X7 X8 = y at a ⊢
  pointwise []
  simp only [a, h.h0, ← EReal.coe_mul, ← coe_sum]
  rw [EReal.coe_eq_coe_iff, Head.gwq]
  split_ifs <;> exact Finset.sum_congr rfl fun r _ => mul_comm _ _
theorem res_wkv (t : Fin 8) (c : Fin 256) (d : Fin 256) : val_main_v134 (F := Ideal) X0 X1 X2 X3 X4 X5 X6 X7 X8 (ix3 t c d) = ((A.head t).gwkv c d : EReal) := by
  have a := gkvl h
  unfold val_main_v134 val_main_v133 val_main_v132 val_main_v104 val_main_v103 val_main_v102
  generalize val_main_v101 (F := Ideal) X0 X1 X2 X3 X4 X5 X6 X7 X8 = y at a ⊢
  pointwise []
  simp only [a, h.h1, ← EReal.coe_mul, ← coe_sum]
  rw [EReal.coe_eq_coe_iff, Head.gwkv]
  split_ifs <;> exact Finset.sum_congr rfl fun r _ => mul_comm _ _
theorem res_cq (r : Fin 2048) (c : Fin 384) : val_main_v126 (F := Ideal) X0 X1 X2 X3 X4 X5 X6 X7 X8 (ix2 r c) = ((∑ t : Fin 8, (A.head t).gcq r c : ℝ) : EReal) := by
  have a := gql h
  unfold val_main_v126 val_main_v123
  generalize val_main_v122 (F := Ideal) X0 X1 X2 X3 X4 X5 X6 X7 X8 = y at a ⊢
  pointwise []
  simp only [a, h.h5, ← EReal.coe_mul, ← coe_sum]
  rw [EReal.coe_eq_coe_iff]
  refine (sum_blocks 8 192 1536 rfl _ (fun t d => (if e : d.val < 128 then (A.head t).gqn r ⟨d.val, e⟩ else (A.head t).gqp r ⟨d.val - 128, by omega⟩) * (A.head t).wq c d) ?_).trans ?_
  · intro x t d ht hd
    have hx : x = ⟨t.val * 192 + d.val, by omega⟩ := Fin.ext (by show x.val = t.val * 192 + d.val; omega)
    refine congrArg₂ (· * ·) ?_ (congrArg (A.wq c) hx)
    simp only [ht, hd]
  · refine Finset.sum_congr rfl fun t _ => (sum_parts 128 64 192 rfl _).trans (congrArg₂ (· + ·) (Finset.sum_congr rfl fun d _ => ?_) (Finset.sum_congr rfl fun d _ => ?_))
    · rw [dif_pos d.isLt]
    · rw [dif_neg (by simp)]
      simp only [Nat.add_sub_cancel_left]
theorem res_ckv (r : Fin 2048) (c : Fin 256) : val_main_v105 (F := Ideal) X0 X1 X2 X3 X4 X5 X6 X7 X8 (ix2 r c) = ((∑ t : Fin 8, (A.head t).gckv r c : ℝ) : EReal) := by
  have a := gkvl h
  unfold val_main_v105 val_main_v102
  generalize val_main_v101 (F := Ideal) X0 X1 X2 X3 X4 X5 X6 X7 X8 = y at a ⊢
  pointwise []
  simp only [a, h.h6, ← EReal.coe_mul, ← coe_sum]
  rw [EReal.coe_eq_coe_iff]
  refine (sum_blocks 8 256 2048 rfl _ (fun t d => (if e : d.val < 128 then (A.head t).gk r ⟨d.val, by omega⟩ else (A.head t).gv r ⟨d.val - 128, by omega⟩) * (A.head t).wkv c d) ?_).trans ?_
  · intro x t d ht hd
    have hx : x = ⟨t.val * 256 + d.val, by omega⟩ := Fin.ext (by show x.val = t.val * 256 + d.val; omega)
    refine congrArg₂ (· * ·) ?_ (congrArg (A.wkv c) hx)
    simp only [ht, hd]
  · refine Finset.sum_congr rfl fun t _ => (sum_parts 128 128 256 rfl _).trans (congrArg₂ (· + ·) (Finset.sum_congr rfl fun d _ => ?_) (Finset.sum_congr rfl fun d _ => ?_))
    · rw [dif_pos d.isLt]
    · rw [dif_neg (by simp)]
      simp only [Nat.add_sub_cancel_left]

end R

end Cert.Attn
end
-- ==== Proof.Attn.lean ====
/- The attention's backward call: every result is, head by head or summed over the heads, the gradient the specification states. -/
module

public import proofs.«01_k».proof.Defs
public import proofs.«01_k».proof.Proof.AttnHead
public import proofs.«01_k».proof.Proof.AttnRef
public import Idealize.ShloMosaic.Lib.Quiescent
public import proofs.«01_k».proof.Proof.Gen.AttnReferenceIdeal.Run

@[expose] public section

set_option maxRecDepth 16384

noncomputable section

namespace Cert.Attn.K

open Cert.AttnKernelIdeal Cert.AttnKernelIdeal.Gen Cert.AttnKernelIdeal.Value Idealize.ShloMosaic Idealize.ShloMosaic.TcCoe Idealize.SL.Sem Cert.Common Cert.Attention
open Idealize.ShloMosaic.Pipeline (Dat)

variable (m : (ℓ : Loc nD τ sig) → Buf (Elt Ideal) ℓ)

theorem N0 : cfg0.N = 8 := N_0

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![t.val, 0, 0] ∧ win0_6.index t = ![t.val, 0, 0] ∧ win0_7.index t = ![t.val, 0, 0] ∧ win0_8.index t = ![t.val, 0, 0] ∧ win0_9.index t = ![0, 0]
    ∧ win0_10.index t = ![t.val, 0, 0] ∧ win0_11.index t = ![t.val, 0, 0] ∧ win0_12.index t = ![t.val, 0, 0] ∧ win0_13.index t = ![0, 0] ∧ win0_14.index t = ![0, 0] ∧ win0_15.index t = ![0, 0] :=
  (by decide +kernel : ∀ t : Fin grid0.N, _)

/-- A point's head. -/
def hd (t : Fin cfg0.N) : Fin 8 := ⟨t.val, lt_of_lt_of_eq t.isLt N0⟩

/-! The arrays the region reads, as the host left them. -/

theorem v2 (c : Dev nD) (t : Fin 8) (r : Fin 384) (d : Fin 192) : (V m c main_v2 : FVec Ideal S8x384x192 .bf16) (ix3 t r d) = (m ((c : Thread nD τ).loc main_arg5) : FVec Ideal S384x1536 .f32) (ix2 r ⟨t.val * 192 + d.val, by omega⟩) := by
  unfold V
  simp only [hostOps0, hostOps0_1, hostOps0_2, hostOps0_3, hostOps0_4, List.flatten_cons, List.flatten_nil, List.append_nil, List.cons_append, List.nil_append]
  entry_read
  pointwise []
theorem v5 (c : Dev nD) (t : Fin 8) (r : Fin 256) (d : Fin 256) : (V m c main_v5 : FVec Ideal S8x256x256 .bf16) (ix3 t r d) = (m ((c : Thread nD τ).loc main_arg6) : FVec Ideal S256x2048 .f32) (ix2 r ⟨t.val * 256 + d.val, by omega⟩) := by
  unfold V
  simp only [hostOps0, hostOps0_1, hostOps0_2, hostOps0_3, hostOps0_4, List.flatten_cons, List.flatten_nil, List.append_nil, List.cons_append, List.nil_append]
  entry_read
  pointwise []
theorem v7 (c : Dev nD) (t : Fin 8) (r : Fin 128) (d : Fin 1024) : (V m c main_v7 : FVec Ideal S8x128x1024 .bf16) (ix3 t r d) = (m ((c : Thread nD τ).loc main_arg7) : FVec Ideal S1024x1024 .f32) (ix2 ⟨t.val * 128 + r.val, by omega⟩ d) := by
  unfold V
  simp only [hostOps0, hostOps0_1, hostOps0_2, hostOps0_3, hostOps0_4, List.flatten_cons, List.flatten_nil, List.append_nil, List.cons_append, List.nil_append]
  entry_read
  pointwise []
theorem v8 (c : Dev nD) (r : Fin 2048) (d : Fin 384) : (V m c main_v8 : FVec Ideal S2048x384 .bf16) (ix2 r d) = (m ((c : Thread nD τ).loc main_arg0) : FVec Ideal S2048x384 .f32) (ix2 r d) := by
  unfold V
  simp only [hostOps0, hostOps0_1, hostOps0_2, hostOps0_3, hostOps0_4, List.flatten_cons, List.flatten_nil, List.append_nil, List.cons_append, List.nil_append]
  entry_read
  pointwise []
theorem v9 (c : Dev nD) (r : Fin 2048) (d : Fin 256) : (V m c main_v9 : FVec Ideal S2048x256 .bf16) (ix2 r d) = (m ((c : Thread nD τ).loc main_arg1) : FVec Ideal S2048x256 .f32) (ix2 r d) := by
  unfold V
  simp only [hostOps0, hostOps0_1, hostOps0_2, hostOps0_3, hostOps0_4, List.flatten_cons, List.flatten_nil, List.append_nil, List.cons_append, List.nil_append]
  entry_read
  pointwise []
theorem v10 (c : Dev nD) (r : Fin 2048) (d : Fin 1024) : (V m c main_v10 : FVec Ideal S2048x1024 .bf16) (ix2 r d) = (m ((c : Thread nD τ).loc main_arg8) : FVec Ideal S2048x1024 .f32) (ix2 r d) := by
  unfold V
  simp only [hostOps0, hostOps0_1, hostOps0_2, hostOps0_3, hostOps0_4, List.flatten_cons, List.flatten_nil, List.append_nil, List.cons_append, List.nil_append]
  entry_read
  pointwise []

/-- The saved output is what the host's forward lines leave. -/
theorem v62 (c : Dev nD) : (V m c main_v62 : FVec Ideal S8x2048x128 .bf16)
    = (truncf (φ := .f32) .bf16 (transpose S8x2048x128 [1, 0, 2] ((AttnReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) : FVec Ideal S2048x8x128 .f32) transposes_S2048x8x128_S8x2048x128_1_0_2) bitsLt_bf16_f32 : FVec Ideal S8x2048x128 .bf16) := by
  unfold V
  simp only [hostOps0, hostOps0_1, hostOps0_2, hostOps0_3, hostOps0_4, List.flatten_cons, List.flatten_nil, List.append_nil, List.cons_append, List.nil_append]
  entry_read
  rfl
theorem v62_apply (c : Dev nD) (t : Fin 8) (r : Fin 2048) (d : Fin 128) : (V m c main_v62 : FVec Ideal S8x2048x128 .bf16) (ix3 t r d)
    = (AttnReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix3 r t d) := by
  rw [v62]
  generalize (AttnReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) = y
  pointwise []

section Points
variable (c : Dev nD) {A : Args} (f : R.Fed A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
include f

set_option maxHeartbeats 2000000 in
/-- Every point reads its head's blocks. -/
theorem holds (t : Fin cfg0.N) : Holds (A.head (hd t)) (iblk m c 0 t) (iblk m c 1 t) (iblk m c 2 t) (iblk m c 3 t) (iblk m c 4 t) (iblk m c 5 t) (iblk m c 6 t) (iblk m c 7 t) (iblk m c 8 t) (iblk m c 9 t) where
  h0 r k := by
    refine Eq.trans ?_ ((v8 m c r k).trans (f.h0 r k))
    blk_ext [iblk, idx t]
  h1 r k := by
    refine Eq.trans ?_ ((v9 m c r k).trans (f.h1 r k))
    blk_ext [iblk, idx t]
  h2 r k := by
    refine Eq.trans ?_ ((congrFun (V_main_arg2 m c) (ix2 r k)).trans (f.h2 r k))
    blk_ext [iblk, idx t]
  h3 r k := by
    refine Eq.trans ?_ ((congrFun (V_main_arg3 m c) (ix2 r k)).trans (f.h3 r k))
    blk_ext [iblk, idx t]
  h4 r k := by
    refine Eq.trans ?_ ((congrFun (V_main_arg4 m c) (ix2 r k)).trans (f.h4 r k))
    blk_ext [iblk, idx t]
  h5 r k := by
    refine Eq.trans ?_ ((v2 m c (hd t) r k).trans (f.h5 r _))
    blk_ext [iblk, idx t, hd]
  h6 r k := by
    refine Eq.trans ?_ ((v5 m c (hd t) r k).trans (f.h6 r _))
    blk_ext [iblk, idx t, hd]
  h7 r k := by
    refine Eq.trans ?_ ((v7 m c (hd t) r k).trans (f.h7 _ k))
    blk_ext [iblk, idx t, hd]
  h8 r k := by
    refine Eq.trans ?_ ((v62_apply m c (hd t) r k).trans (R.ou f r (hd t) k))
    blk_ext [iblk, idx t, hd]
  h9 r k := by
    refine Eq.trans ?_ ((v10 m c r k).trans (f.h8 r k))
    blk_ext [iblk, idx t]

theorem arr_10 (T : Fin 8) (d : Fin 128) (n : Fin 1024) : ((dats m 0 c).arrAt 10 cfg0.N : FVec Ideal S8x128x1024 .bf16) (ix3 T d n) = ((A.head T).gwo d n : EReal) := by
  obtain ⟨t, rfl⟩ : ∃ t : Fin cfg0.N, hd t = T := ⟨⟨T.val, lt_of_lt_of_eq T.isLt N0.symm⟩, rfl⟩
  have h := congrFun (blocks10 m c t (flush0_10 t)) (ix3 0 d n)
  rw [View.read_apply, flushed10] at h
  refine Eq.trans (congrArg (dats m 0 c |>.arrAt 10 cfg0.N) ?_) (h.trans (out10 m c t (holds m c f t) d n))
  blk_ext [idx t, hd]
theorem arr_11 (T : Fin 8) (d : Fin 384) (n : Fin 192) : ((dats m 0 c).arrAt 11 cfg0.N : FVec Ideal S8x384x192 .bf16) (ix3 T d n) = ((A.head T).gwq d n : EReal) := by
  obtain ⟨t, rfl⟩ : ∃ t : Fin cfg0.N, hd t = T := ⟨⟨T.val, lt_of_lt_of_eq T.isLt N0.symm⟩, rfl⟩
  have h := congrFun (blocks11 m c t (flush0_11 t)) (ix3 0 d n)
  rw [View.read_apply, flushed11] at h
  refine Eq.trans (congrArg (dats m 0 c |>.arrAt 11 cfg0.N) ?_) (h.trans (out11 m c t (holds m c f t) d n))
  blk_ext [idx t, hd]
theorem arr_12 (T : Fin 8) (d : Fin 256) (n : Fin 256) : ((dats m 0 c).arrAt 12 cfg0.N : FVec Ideal S8x256x256 .bf16) (ix3 T d n) = ((A.head T).gwkv d n : EReal) := by
  obtain ⟨t, rfl⟩ : ∃ t : Fin cfg0.N, hd t = T := ⟨⟨T.val, lt_of_lt_of_eq T.isLt N0.symm⟩, rfl⟩
  have h := congrFun (blocks12 m c t (flush0_12 t)) (ix3 0 d n)
  rw [View.read_apply, flushed12] at h
  refine Eq.trans (congrArg (dats m 0 c |>.arrAt 12 cfg0.N) ?_) (h.trans (out12 m c t (holds m c f t) d n))
  blk_ext [idx t, hd]
end Points

/-! The results the heads add up in. -/

/-- What head `n` adds, as a term of a count. -/
def nth (A : Args) (g : Head → ℝ) (n : ℕ) : EReal := if h : n < 8 then (g (A.head ⟨n, h⟩) : EReal) else 0
theorem sum_nth (A : Args) (g : Head → ℝ) : ∑ k ∈ Finset.range (7 + 1), nth A g k = ((∑ t : Fin 8, g (A.head t) : ℝ) : EReal) := by
  rw [Finset.sum_range, coe_sum]
  exact Finset.sum_congr rfl fun t _ => dif_pos t.isLt
theorem nth_hd (A : Args) (g : Head → ℝ) (t : Fin cfg0.N) : nth A g t.val = (g (A.head (hd t)) : EReal) := dif_pos (lt_of_lt_of_eq t.isLt N0)

section Sums
variable (c : Dev nD) {A : Args} (f : R.Fed A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

theorem disjoint13 (t t' : Fin cfg0.N) (h : (cfg0.win 13).flush t = true) (h' : (cfg0.win 13).flush t' = true) (hne : t ≠ t') :
    Disjoint ((cfg0.win 13).blk t).view.set ((cfg0.win 13).blk t').view.set := by
  refine absurd (Fin.ext ?_) hne
  have a := (flush0_13 t).1 h
  have b := (flush0_13 t').1 h'
  have a' := lt_of_lt_of_eq t.isLt N0
  have b' := lt_of_lt_of_eq t'.isLt N0
  generalize t.val = u at *
  generalize t'.val = v at *
  omega
include f in
theorem arr_13 (r : Fin 2048) (e : Fin 384) :
    ((dats m 0 c).arrAt 13 cfg0.N : FVec Ideal S2048x384 .f32) (ix2 r e) = ((∑ t : Fin 8, (A.head t).gcq r e : ℝ) : EReal) := by
  obtain ⟨t, ht⟩ : ∃ t : Fin cfg0.N, t.val = 7 := ⟨⟨7, lt_of_lt_of_eq (by omega) N0.symm⟩, rfl⟩
  have hm : t.val % 8 = 7 := by rw [ht]
  have h := congrFun ((dats m 0 c).read_blk_arrAt_eq_flushed 13 disjoint13 cfg0.N t t.isLt ((flush0_13 t).2 hm)) (ix2 r e)
  rw [View.read_apply, flushed13] at h
  have s : (outsAt0 m c t.val t.isLt).2.2.2.1 (ix2 r e) = 0 + ∑ k ∈ Finset.range (7 + 1), nth A (fun H => H.gcq r e) (8 * (t.val / 8) + k) :=
    Pipeline.eq_sum_of_reset_step_apply_of_mod (fun n h => (fun _ => (outsAt0 m c n h).2.2.2.1 (ix2 r e) : Unit → EReal)) 8 (fun _ => (0 : EReal)) (fun n _ => nth A (fun H => H.gcq r e) n)
      (fun t h _ => (out13_A m c t (holds m c f t) h r e).trans ((nth_hd A (fun H => H.gcq r e) t).symm.trans (zero_add _).symm))
      (fun t h _ => (out13_B m c t (holds m c f t) h r e).trans (congrArg (_ + ·) (nth_hd A (fun H => H.gcq r e) t).symm)) t hm ()
  rw [show 8 * (t.val / 8) = 0 from by rw [ht], zero_add] at s
  simp only [zero_add] at s
  refine Eq.trans (congrArg (dats m 0 c |>.arrAt 13 cfg0.N) ?_) (h.trans (s.trans (sum_nth A fun H => H.gcq r e)))
  blk_ext [idx t]
theorem disjoint14 (t t' : Fin cfg0.N) (h : (cfg0.win 14).flush t = true) (h' : (cfg0.win 14).flush t' = true) (hne : t ≠ t') :
    Disjoint ((cfg0.win 14).blk t).view.set ((cfg0.win 14).blk t').view.set := by
  refine absurd (Fin.ext ?_) hne
  have a := (flush0_14 t).1 h
  have b := (flush0_14 t').1 h'
  have a' := lt_of_lt_of_eq t.isLt N0
  have b' := lt_of_lt_of_eq t'.isLt N0
  generalize t.val = u at *
  generalize t'.val = v at *
  omega
include f in
theorem arr_14 (r : Fin 2048) (e : Fin 256) :
    ((dats m 0 c).arrAt 14 cfg0.N : FVec Ideal S2048x256 .f32) (ix2 r e) = ((∑ t : Fin 8, (A.head t).gckv r e : ℝ) : EReal) := by
  obtain ⟨t, ht⟩ : ∃ t : Fin cfg0.N, t.val = 7 := ⟨⟨7, lt_of_lt_of_eq (by omega) N0.symm⟩, rfl⟩
  have hm : t.val % 8 = 7 := by rw [ht]
  have h := congrFun ((dats m 0 c).read_blk_arrAt_eq_flushed 14 disjoint14 cfg0.N t t.isLt ((flush0_14 t).2 hm)) (ix2 r e)
  rw [View.read_apply, flushed14] at h
  have s : (outsAt0 m c t.val t.isLt).2.2.2.2.1 (ix2 r e) = 0 + ∑ k ∈ Finset.range (7 + 1), nth A (fun H => H.gckv r e) (8 * (t.val / 8) + k) :=
    Pipeline.eq_sum_of_reset_step_apply_of_mod (fun n h => (fun _ => (outsAt0 m c n h).2.2.2.2.1 (ix2 r e) : Unit → EReal)) 8 (fun _ => (0 : EReal)) (fun n _ => nth A (fun H => H.gckv r e) n)
      (fun t h _ => (out14_A m c t (holds m c f t) h r e).trans ((nth_hd A (fun H => H.gckv r e) t).symm.trans (zero_add _).symm))
      (fun t h _ => (out14_B m c t (holds m c f t) h r e).trans (congrArg (_ + ·) (nth_hd A (fun H => H.gckv r e) t).symm)) t hm ()
  rw [show 8 * (t.val / 8) = 0 from by rw [ht], zero_add] at s
  simp only [zero_add] at s
  refine Eq.trans (congrArg (dats m 0 c |>.arrAt 14 cfg0.N) ?_) (h.trans (s.trans (sum_nth A fun H => H.gckv r e)))
  blk_ext [idx t]
theorem disjoint15 (t t' : Fin cfg0.N) (h : (cfg0.win 15).flush t = true) (h' : (cfg0.win 15).flush t' = true) (hne : t ≠ t') :
    Disjoint ((cfg0.win 15).blk t).view.set ((cfg0.win 15).blk t').view.set := by
  refine absurd (Fin.ext ?_) hne
  have a := (flush0_15 t).1 h
  have b := (flush0_15 t').1 h'
  have a' := lt_of_lt_of_eq t.isLt N0
  have b' := lt_of_lt_of_eq t'.isLt N0
  generalize t.val = u at *
  generalize t'.val = v at *
  omega
include f in
theorem arr_15 (r : Fin 2048) (e : Fin 64) :
    ((dats m 0 c).arrAt 15 cfg0.N : FVec Ideal S2048x64 .f32) (ix2 r e) = ((∑ t : Fin 8, (A.head t).gkp r e : ℝ) : EReal) := by
  obtain ⟨t, ht⟩ : ∃ t : Fin cfg0.N, t.val = 7 := ⟨⟨7, lt_of_lt_of_eq (by omega) N0.symm⟩, rfl⟩
  have hm : t.val % 8 = 7 := by rw [ht]
  have h := congrFun ((dats m 0 c).read_blk_arrAt_eq_flushed 15 disjoint15 cfg0.N t t.isLt ((flush0_15 t).2 hm)) (ix2 r e)
  rw [View.read_apply, flushed15] at h
  have s : (outsAt0 m c t.val t.isLt).2.2.2.2.2 (ix2 r e) = 0 + ∑ k ∈ Finset.range (7 + 1), nth A (fun H => H.gkp r e) (8 * (t.val / 8) + k) :=
    Pipeline.eq_sum_of_reset_step_apply_of_mod (fun n h => (fun _ => (outsAt0 m c n h).2.2.2.2.2 (ix2 r e) : Unit → EReal)) 8 (fun _ => (0 : EReal)) (fun n _ => nth A (fun H => H.gkp r e) n)
      (fun t h _ => (out15_A m c t (holds m c f t) h r e).trans ((nth_hd A (fun H => H.gkp r e) t).symm.trans (zero_add _).symm))
      (fun t h _ => (out15_B m c t (holds m c f t) h r e).trans (congrArg (_ + ·) (nth_hd A (fun H => H.gkp r e) t).symm)) t hm ()
  rw [show 8 * (t.val / 8) = 0 from by rw [ht], zero_add] at s
  simp only [zero_add] at s
  refine Eq.trans (congrArg (dats m 0 c |>.arrAt 15 cfg0.N) ?_) (h.trans (s.trans (sum_nth A fun H => H.gkp r e)))
  blk_ext [idx t]
end Sums

end Cert.Attn.K

namespace Cert.Attn

open Idealize.ShloMosaic Idealize.ShloMosaic.TcCoe Idealize.SL.Sem Cert.Common

theorem pre_facts : Cert.Pre_finite_attn.Facts where
  bcast_S_S2048x384 := by decide
  reducesTo_S2048x384_S_d0_1 := by decide
  h_S_ := by decide
  bcast_S_S2048x256 := by decide
  reducesTo_S2048x256_S_d0_1 := by decide
  bcast_S_S2048x64 := by decide
  reducesTo_S2048x64_S_d0_1 := by decide
  bcast_S_S2048x32 := by decide
  reducesTo_S2048x32_S_d0_1 := by decide
  bcast_S_S384x1536 := by decide
  reducesTo_S384x1536_S_d0_1 := by decide
  bcast_S_S256x2048 := by decide
  reducesTo_S256x2048_S_d0_1 := by decide
  bcast_S_S1024x1024 := by decide
  reducesTo_S1024x1024_S_d0_1 := by decide
  bcast_S_S2048x1024 := by decide
  reducesTo_S2048x1024_S_d0_1 := by decide

theorem frame_reference : Cert.quiescent_AttnReferenceIdeal := fun m g _ =>
  (θ_run Cert.AttnReferenceIdeal.defs _ _).mono (fun r h => ⟨fun c => (h c).2.2.2.2.2.2, sem_eq_zero_of_no_sems (by decide) r.2⟩)
    (AttnReferenceIdeal.Value.run m g)

/-- What the precondition says: every entry of the nine arguments is a real number. -/
theorem reals [Cert.Pre_finite_attn.Facts] {x0 : FVec Ideal ⟨2, ![2048, 384]⟩ .f32} {x1 : FVec Ideal ⟨2, ![2048, 256]⟩ .f32} {x2 : FVec Ideal ⟨2, ![2048, 64]⟩ .f32} {x3 : FVec Ideal ⟨2, ![2048, 32]⟩ .f32} {x4 : FVec Ideal ⟨2, ![2048, 32]⟩ .f32} {x5 : FVec Ideal ⟨2, ![384, 1536]⟩ .f32} {x6 : FVec Ideal ⟨2, ![256, 2048]⟩ .f32} {x7 : FVec Ideal ⟨2, ![1024, 1024]⟩ .f32} {x8 : FVec Ideal ⟨2, ![2048, 1024]⟩ .f32}
    (h : Cert.Pre_finite_attn.fn (F := Ideal) x0 x1 x2 x3 x4 x5 x6 x7 x8 = fun _ => 1#1) : ∃ A : Args, R.Fed A x0 x1 x2 x3 x4 x5 x6 x7 x8 := by
  have h0 := congrFun h ix0
  obtain ⟨h0, a8⟩ := IntOp.andi_eq_one.1 h0
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨h0, a1⟩ := IntOp.andi_eq_one.1 h0
  obtain ⟨A0, f0⟩ := reals_of_all _ _ _ (fun _ => w_inf) _ _ _ h0
  obtain ⟨A1, f1⟩ := reals_of_all _ _ _ (fun _ => w_inf) _ _ _ a1
  obtain ⟨A2, f2⟩ := reals_of_all _ _ _ (fun _ => w_inf) _ _ _ a2
  obtain ⟨A3, f3⟩ := reals_of_all _ _ _ (fun _ => w_inf) _ _ _ a3
  obtain ⟨A4, f4⟩ := reals_of_all _ _ _ (fun _ => w_inf) _ _ _ a4
  obtain ⟨A5, f5⟩ := reals_of_all _ _ _ (fun _ => w_inf) _ _ _ a5
  obtain ⟨A6, f6⟩ := reals_of_all _ _ _ (fun _ => w_inf) _ _ _ a6
  obtain ⟨A7, f7⟩ := reals_of_all _ _ _ (fun _ => w_inf) _ _ _ a7
  obtain ⟨A8, f8⟩ := reals_of_all _ _ _ (fun _ => w_inf) _ _ _ a8
  exact ⟨⟨fun r k => A0 (ix2 r k), fun r k => A1 (ix2 r k), fun r k => A2 (ix2 r k), fun r k => A3 (ix2 r k), fun r k => A4 (ix2 r k), fun r k => A5 (ix2 r k), fun r k => A6 (ix2 r k), fun r k => A7 (ix2 r k), fun r k => A8 (ix2 r k)⟩, ⟨fun r k => f0 (ix2 r k), fun r k => f1 (ix2 r k), fun r k => f2 (ix2 r k), fun r k => f3 (ix2 r k), fun r k => f4 (ix2 r k), fun r k => f5 (ix2 r k), fun r k => f6 (ix2 r k), fun r k => f7 (ix2 r k), fun r k => f8 (ix2 r k)⟩⟩

set_option maxHeartbeats 2000000 in
theorem value : Cert.algebraic_AttnKernelIdeal_AttnReferenceIdeal_pre_finite_attn (hPre_finite_attn := pre_facts) := by
  intro m g m' g' hp hm
  refine ⟨_, _, _, _, _, _, AttnKernelIdeal.Value.run_blocks m g,
    (θ_run _ _ _).mono (fun r h c => ?_) (AttnReferenceIdeal.Value.run m' g')⟩
  obtain ⟨h0, h1, h2, h3, h4, h5, hk⟩ := h c
  obtain ⟨e0, e1, e2, e3, e4, e5, e6, e7, e8⟩ := hm c
  obtain ⟨A, f⟩ := @reals pre_facts _ _ _ _ _ _ _ _ _ (hp c)
  have f' : R.Fed A (m' ((c.tc : Thread AttnReferenceIdeal.nD AttnReferenceIdeal.τ).loc AttnReferenceIdeal.main_arg0)) (m' ((c.tc : Thread AttnReferenceIdeal.nD AttnReferenceIdeal.τ).loc AttnReferenceIdeal.main_arg1)) (m' ((c.tc : Thread AttnReferenceIdeal.nD AttnReferenceIdeal.τ).loc AttnReferenceIdeal.main_arg2)) (m' ((c.tc : Thread AttnReferenceIdeal.nD AttnReferenceIdeal.τ).loc AttnReferenceIdeal.main_arg3)) (m' ((c.tc : Thread AttnReferenceIdeal.nD AttnReferenceIdeal.τ).loc AttnReferenceIdeal.main_arg4)) (m' ((c.tc : Thread AttnReferenceIdeal.nD AttnReferenceIdeal.τ).loc AttnReferenceIdeal.main_arg5)) (m' ((c.tc : Thread AttnReferenceIdeal.nD AttnReferenceIdeal.τ).loc AttnReferenceIdeal.main_arg6)) (m' ((c.tc : Thread AttnReferenceIdeal.nD AttnReferenceIdeal.τ).loc AttnReferenceIdeal.main_arg7)) (m' ((c.tc : Thread AttnReferenceIdeal.nD AttnReferenceIdeal.τ).loc AttnReferenceIdeal.main_arg8)) := by
    rw [e0, e1, e2, e3, e4, e5, e6, e7, e8]
    exact f
  refine ⟨(h0.trans (AttnReferenceIdeal.Read.val_main_v128_eq _)).trans ?_, (h1.trans (AttnReferenceIdeal.Read.val_main_v131_eq _)).trans ?_, (h2.trans (AttnReferenceIdeal.Read.val_main_v134_eq _)).trans ?_, (h3.trans (AttnReferenceIdeal.Read.val_main_v126_eq _)).trans ?_, (h4.trans (AttnReferenceIdeal.Read.val_main_v105_eq _)).trans ?_, (h5.trans (AttnReferenceIdeal.Read.val_main_v94_eq _)).trans ?_, hk⟩
  · funext i
    rw [eq_ix3 i]
    exact (R.res_wo f' _ _ _).trans (K.arr_10 m c f _ _ _).symm
  · funext i
    rw [eq_ix3 i]
    exact (R.res_wq f' _ _ _).trans (K.arr_11 m c f _ _ _).symm
  · funext i
    rw [eq_ix3 i]
    exact (R.res_wkv f' _ _ _).trans (K.arr_12 m c f _ _ _).symm
  · funext i
    rw [eq_ix2 i]
    exact (R.res_cq f' _ _).trans (K.arr_13 m c f _ _).symm
  · funext i
    rw [eq_ix2 i]
    exact (R.res_ckv f' _ _).trans (K.arr_14 m c f _ _).symm
  · funext i
    rw [eq_ix2 i]
    exact (R.gkr f' _ _).trans (K.arr_15 m c f _ _).symm

end Cert.Attn
end
-- ==== Proof.AttnFBlocks.lean ====
/- The attention's forward call: each of its eight blocks of queries gives the rows of the head's output. -/
module

public import proofs.«01_k».proof.Defs
public import proofs.«01_k».proof.Proof.Attention
public import Idealize.ShloMosaic.Lib.Pipeline.ValueKit
public import proofs.«01_k».proof.Proof.Gen.AttnFKernelIdeal.Value

@[expose] public section

set_option maxRecDepth 16384

noncomputable section

namespace Cert.AttnF.K

open Cert.AttnFKernelIdeal Cert.AttnFKernelIdeal.Gen Cert.AttnFKernelIdeal.Value Cert.Common Cert.Attention Idealize.ShloMosaic Idealize.ShloMosaic.TcCoe Idealize.SL.Sem
open Idealize.ShloMosaic.Pipeline (Dat)

section Probs
variable {q k : Fin 2048 → Fin 192 → ℝ} {v : Fin 2048 → Fin 128 → ℝ}

/-- A row of the output, from the first `K` keys. -/
theorem out_row {K : ℕ} (hK : K ≤ 2048) (i : Fin 2048) (x : Fin K → EReal) (hx : Row q k hK i x) (hi : i.val < K)
    (hz : ∀ l : Fin 2048, K ≤ l.val → ¬ Vis i.val l.val) (d : Fin 128) :
    ∑ l : Fin K, Ideal.div (Ideal.exp (x l - Finset.fold max (⊥ : EReal) x Finset.univ)) (∑ l, Ideal.exp (x l - Finset.fold max (⊥ : EReal) x Finset.univ)) * (v (l.castLE hK) d : EReal)
      = (outp q k v i d : EReal) := by
  simp only [row_prob q k hK i x hx hi hz, ← EReal.coe_mul, ← coe_sum]
  rw [EReal.coe_eq_coe_iff, outp]
  exact sum_prefix hK (fun l => prob q k i l * v l d) fun l hl => by rw [prob_zero q k (hz l hl), zero_mul]

variable {Q K : FVec Ideal S2048x192 .bf16} {V : FVec Ideal S2048x128 .bf16}
  (hQ : ∀ r d, Q (ix2 r d) = (q r d : EReal)) (hK : ∀ r d, K (ix2 r d) = (k r d : EReal)) (hV : ∀ r d, V (ix2 r d) = (v r d : EReal))
include hQ hK hV

theorem O0_coe (u : Fin 256) (d : Fin 128) : k0_pay7 Q K V (ix3 0 u d) = (outp q k v ⟨u.val, by omega⟩ d : EReal) := by
  unfold k0_pay7
  dsimp only
  generalize hc : select _ _ _ = y
  have hy : Row q k (K := 256) (by omega) ⟨u.val, by omega⟩ (fun l => y (ix2 u l)) := fun l => by
    simp only []
    rw [← hc]
    pointwise []
    have e := entry 0 u.val l.val (by omega) (by omega) (by omega) (score q k ⟨u.val, by omega⟩ ⟨l.val, by omega⟩) (fun _ => 0) (fun _ => (∑ d : Fin 192, Q (ix2 ⟨u.val, by omega⟩ d) * K (ix2 ⟨l.val, by omega⟩ d)) * Ideal.ofBits .f32 0x3D93CD3A#32)
      (fun h => absurd h (by omega)) (fun _ => by simp only [hQ, hK]; exact score_coe _ _)
    rw [dif_neg (by omega)] at e
    simp only [Nat.zero_add, Nat.sub_zero] at e
    exact e
  pointwise [w_neg_inf]
  simp only [hV]
  exact out_row _ _ _ hy (by simp only []; omega) (fun l hl => by simp only [Vis]; omega) d

theorem O1_coe (u : Fin 256) (d : Fin 128) : k0_pay11 V (k0_pay8 Q K) k0_pay9 (k0_pay10 Q K) (Scalar.ofBits .f32 0xFF800000#32) (ix3 0 u d) = (outp q k v ⟨256 + u.val, by omega⟩ d : EReal) := by
  unfold k0_pay11
  dsimp only
  generalize hc : concatenate S256x512 1 _ _ = y
  have hy : Row q k (K := 512) (by omega) ⟨256 + u.val, by omega⟩ (fun l => y (ix2 u l)) := fun l => by
    simp only []
    rw [← hc]
    unfold k0_pay8 k0_pay9 k0_pay10 k0_pay8
    pointwise []
    refine entry 256 u.val l.val (by omega) (by omega) (by omega) _ _ _ (fun h => ?_) (fun h => ?_)
    · simp only [hQ, hK]; exact score_coe _ _
    · simp only [hQ, hK, show 256 + (l.val - 256) = l.val by omega]; exact score_coe _ _
  pointwise [w_neg_inf]
  simp only [hV]
  exact out_row _ _ _ hy (by simp only []; omega) (fun l hl => by simp only [Vis]; omega) d

theorem O2_coe (u : Fin 256) (d : Fin 128) : k0_pay13 V (k0_pay12 Q K) (ix3 0 u d) = (outp q k v ⟨512 + u.val, by omega⟩ d : EReal) := by
  unfold k0_pay13 k0_pay12
  dsimp only
  generalize hc : concatenate S256x768 1 _ _ = y
  have hy : Row q k (K := 768) (by omega) ⟨512 + u.val, by omega⟩ (fun l => y (ix2 u l)) := fun l => by
    simp only []
    rw [← hc]
    pointwise []
    refine entry 512 u.val l.val (by omega) (by omega) (by omega) _ _ _ (fun h => ?_) (fun h => ?_)
    · simp only [hQ, hK]; exact score_coe _ _
    · simp only [hQ, hK, show 512 + (l.val - 512) = l.val by omega]; exact score_coe _ _
  pointwise [w_neg_inf]
  simp only [hV]
  exact out_row _ _ _ hy (by simp only []; omega) (fun l hl => by simp only [Vis]; omega) d

theorem O3_coe (u : Fin 256) (d : Fin 128) : k0_pay14 Q K V (ix3 0 u d) = (outp q k v ⟨768 + u.val, by omega⟩ d : EReal) := by
  unfold k0_pay14
  dsimp only
  generalize hc : concatenate S256x1024 1 _ _ = y
  have hy : Row q k (K := 1024) (by omega) ⟨768 + u.val, by omega⟩ (fun l => y (ix2 u l)) := fun l => by
    simp only []
    rw [← hc]
    pointwise []
    refine entry 768 u.val l.val (by omega) (by omega) (by omega) _ _ _ (fun h => ?_) (fun h => ?_)
    · simp only [hQ, hK]; exact score_coe _ _
    · simp only [hQ, hK, show 768 + (l.val - 768) = l.val by omega]; exact score_coe _ _
  pointwise [w_neg_inf]
  simp only [hV]
  exact out_row _ _ _ hy (by simp only []; omega) (fun l hl => by simp only [Vis]; omega) d

theorem O4_coe (u : Fin 256) (d : Fin 128) : k0_pay17 V (k0_pay15 Q) (k0_pay16 K) (constant S256x1280 .f32 0x00000000#32) (ix3 0 u d) = (outp q k v ⟨1024 + u.val, by omega⟩ d : EReal) := by
  unfold k0_pay17
  dsimp only
  generalize hc : concatenate S256x1280 1 _ _ = y
  have hy : Row q k (K := 1280) (by omega) ⟨1024 + u.val, by omega⟩ (fun l => y (ix2 u l)) := fun l => by
    simp only []
    rw [← hc]
    unfold k0_pay15 k0_pay16
    pointwise []
    refine entry 1024 u.val l.val (by omega) (by omega) (by omega) _ _ _ (fun h => ?_) (fun h => ?_)
    · simp only [hQ, hK]; exact score_coe _ _
    · simp only [hQ, hK, show 1024 + (l.val - 1024) = l.val by omega]; exact score_coe _ _
  pointwise [w_neg_inf]
  simp only [hV]
  exact out_row _ _ _ hy (by simp only []; omega) (fun l hl => by simp only [Vis]; omega) d

theorem O5_coe (u : Fin 256) (d : Fin 128) : k0_pay21 V (k0_pay18 Q K) k0_pay19 (k0_pay20 Q K) (Scalar.ofBits .f32 0xFF800000#32) (ix3 0 u d) = (outp q k v ⟨1280 + u.val, by omega⟩ d : EReal) := by
  unfold k0_pay21
  dsimp only
  generalize hc : concatenate S256x1536 1 _ _ = y
  have hy : Row q k (K := 1536) (by omega) ⟨1280 + u.val, by omega⟩ (fun l => y (ix2 u l)) := fun l => by
    simp only []
    rw [← hc]
    unfold k0_pay18 k0_pay19 k0_pay20 k0_pay18
    pointwise []
    refine entry 1280 u.val l.val (by omega) (by omega) (by omega) _ _ _ (fun h => ?_) (fun h => ?_)
    · simp only [hQ, hK]; exact score_coe _ _
    · simp only [hQ, hK, show 1280 + (l.val - 1280) = l.val by omega]; exact score_coe _ _
  pointwise [w_neg_inf]
  simp only [hV]
  exact out_row _ _ _ hy (by simp only []; omega) (fun l hl => by simp only [Vis]; omega) d

theorem O6_coe (u : Fin 256) (d : Fin 128) : k0_pay23 V (k0_pay22 Q K) (ix3 0 u d) = (outp q k v ⟨1536 + u.val, by omega⟩ d : EReal) := by
  unfold k0_pay23 k0_pay22
  dsimp only
  generalize hc : concatenate S256x1792 1 _ _ = y
  have hy : Row q k (K := 1792) (by omega) ⟨1536 + u.val, by omega⟩ (fun l => y (ix2 u l)) := fun l => by
    simp only []
    rw [← hc]
    pointwise []
    refine entry 1536 u.val l.val (by omega) (by omega) (by omega) _ _ _ (fun h => ?_) (fun h => ?_)
    · simp only [hQ, hK]; exact score_coe _ _
    · simp only [hQ, hK, show 1536 + (l.val - 1536) = l.val by omega]; exact score_coe _ _
  pointwise [w_neg_inf]
  simp only [hV]
  exact out_row _ _ _ hy (by simp only []; omega) (fun l hl => by simp only [Vis]; omega) d

theorem O7_coe (u : Fin 256) (d : Fin 128) : k0_pay24 Q K V (ix3 0 u d) = (outp q k v ⟨1792 + u.val, by omega⟩ d : EReal) := by
  unfold k0_pay24
  dsimp only
  generalize hc : concatenate S256x2048 1 _ _ = y
  have hy : Row q k (K := 2048) (by omega) ⟨1792 + u.val, by omega⟩ (fun l => y (ix2 u l)) := fun l => by
    simp only []
    rw [← hc]
    pointwise []
    refine entry 1792 u.val l.val (by omega) (by omega) (by omega) _ _ _ (fun h => ?_) (fun h => ?_)
    · simp only [hQ, hK]; exact score_coe _ _
    · simp only [hQ, hK, show 1792 + (l.val - 1792) = l.val by omega]; exact score_coe _ _
  pointwise [w_neg_inf]
  simp only [hV]
  exact out_row _ _ _ hy (by simp only []; omega) (fun l hl => by simp only [Vis]; omega) d

end Probs

end Cert.AttnF.K
end
-- ==== Proof.AttnF.lean ====
/- The attention's forward call: every head's output, and the sum over the heads of its product with the output factor. -/
module

public import proofs.«01_k».proof.Defs
public import proofs.«01_k».proof.Proof.AttnFBlocks
public import proofs.«01_k».proof.Proof.AttnRef
public import Idealize.ShloMosaic.Lib.Quiescent
public import proofs.«01_k».proof.Proof.Gen.AttnFReferenceIdeal.Run
public import proofs.«01_k».proof.Proof.Gen.AttnFReferenceIdeal.Read

@[expose] public section

set_option maxRecDepth 16384

noncomputable section

namespace Cert.AttnF.K

open Cert.AttnFKernelIdeal Cert.AttnFKernelIdeal.Gen Cert.AttnFKernelIdeal.Value Cert.Common Cert.Attention Idealize.ShloMosaic Idealize.ShloMosaic.TcCoe Idealize.SL.Sem
open Idealize.ShloMosaic.Pipeline (Dat)

section Blocks
variable (H : Head) (x0 : Vec Ideal S2048x384 .bf16) (x1 : Vec Ideal S2048x256 .bf16) (x2 : Vec Ideal S2048x64 .f32) (x3 x4 : Vec Ideal S2048x32 .f32)
  (x5 : Vec Ideal S1x384x192 .bf16) (x6 : Vec Ideal S1x256x256 .bf16) (x7 : Vec Ideal S1x128x1024 .bf16)

abbrev wqn : Vec Ideal S1x384x128 .bf16 := View.ld (Val := Elt Ideal) (e' := .bf16) x5 (Rect.unit (s := S1x384x192) ![0, 0, 0] ![1, 384, 128] inb_S1x384x192_S1x384x128_0_0_0)
abbrev wqp : Vec Ideal S1x384x64 .bf16 := View.ld (Val := Elt Ideal) (e' := .bf16) x5 (Rect.unit (s := S1x384x192) ![0, 0, 128] ![1, 384, 64] inb_S1x384x192_S1x384x64_0_0_128)
abbrev wkn : Vec Ideal S1x256x128 .bf16 := View.ld (Val := Elt Ideal) (e' := .bf16) x6 (Rect.unit (s := S1x256x256) ![0, 0, 0] ![1, 256, 128] inb_S1x256x256_S1x256x128_0_0_0)
abbrev wkp : Vec Ideal S1x256x128 .bf16 := View.ld (Val := Elt Ideal) (e' := .bf16) x6 (Rect.unit (s := S1x256x256) ![0, 0, 128] ![1, 256, 128] inb_S1x256x256_S1x256x128_0_0_128)
abbrev hQ : FVec Ideal S2048x192 .bf16 := k0_pay4 (F := Ideal) x0 x3 x4 (wqn x5) (wqp x5)
abbrev hK : FVec Ideal S2048x192 .bf16 := k0_pay5 (F := Ideal) x1 x2 (wkn x6)
abbrev hV : FVec Ideal S2048x128 .bf16 := k0_pay6 (F := Ideal) x1 (wkp x6)

theorem ld_cols {A n K : ℕ} (X : (⟨3, ![1, A, K]⟩ : Shape).Idx → EReal) (o : ℕ) (inb) (a : Fin A) (j : Fin n) (J : Fin K) (hJ : J.val = o + j.val) :
    View.ld (Val := Elt Ideal) (e' := .bf16) X (Rect.unit (s := ⟨3, ![1, A, K]⟩) ![0, 0, o] ![1, A, n] inb) (ix3 0 a j) = X (ix3 0 a J) := by
  refine congrArg X (funext fun b => Fin.ext ?_)
  match b with
  | ⟨0, _⟩ => rfl
  | ⟨1, _⟩ => show 0 + 1 * a.val = a.val; omega
  | ⟨2, _⟩ => show o + 1 * j.val = J.val; omega

/-- A point's blocks hold the head's arguments. -/
structure Holds : Prop where
  h0 : ∀ r c, x0 (ix2 r c) = (H.cq r c : EReal)
  h1 : ∀ r c, x1 (ix2 r c) = (H.ckv r c : EReal)
  h2 : ∀ r c, x2 (ix2 r c) = (H.kp r c : EReal)
  h3 : ∀ r c, x3 (ix2 r c) = (H.cs r c : EReal)
  h4 : ∀ r c, x4 (ix2 r c) = (H.sn r c : EReal)
  h5 : ∀ r c, x5 (ix3 0 r c) = (H.wq r c : EReal)
  h6 : ∀ r c, x6 (ix3 0 r c) = (H.wkv r c : EReal)

variable {H x0 x1 x2 x3 x4 x5 x6} (h : Holds H x0 x1 x2 x3 x4 x5 x6)
include h

theorem hQ_coe (r : Fin 2048) (d : Fin 192) : hQ x0 x3 x4 x5 (ix2 r d) = (H.q r d : EReal) := by
  have a : ∀ (c : Fin 384) (d : Fin 128), wqn x5 (ix3 0 c d) = (H.wq c ⟨d.val, by omega⟩ : EReal) := fun c d =>
    (ld_cols x5 0 _ c d ⟨d.val, by omega⟩ (Nat.zero_add _).symm).trans (h.h5 _ _)
  have b : ∀ (c : Fin 384) (d : Fin 64), wqp x5 (ix3 0 c d) = (H.wq c ⟨128 + d.val, by omega⟩ : EReal) := fun c d =>
    (ld_cols x5 128 _ c d ⟨128 + d.val, by omega⟩ rfl).trans (h.h5 _ _)
  unfold hQ
  generalize wqn x5 = y at a ⊢
  generalize wqp x5 = z at b ⊢
  pointwise [k0_pay4]
  simp only [a, b, h.h0, h.h3, h.h4, ← EReal.coe_mul, ← coe_sum, ← EReal.coe_sub, ← EReal.coe_add]
  unfold Head.q Head.rope Head.qn Head.qp
  split_ifs <;> rfl
theorem hK_coe (r : Fin 2048) (d : Fin 192) : hK x1 x2 x6 (ix2 r d) = (H.k r d : EReal) := by
  have a : ∀ (c : Fin 256) (d : Fin 128), wkn x6 (ix3 0 c d) = (H.wkv c ⟨d.val, by omega⟩ : EReal) := fun c d =>
    (ld_cols x6 0 _ c d ⟨d.val, by omega⟩ (Nat.zero_add _).symm).trans (h.h6 _ _)
  unfold hK
  generalize wkn x6 = y at a ⊢
  pointwise [k0_pay5, k0_pay3]
  simp only [a, h.h1, h.h2, ← EReal.coe_mul, ← coe_sum]
  unfold Head.k Head.kn
  split_ifs <;> rfl
theorem hV_coe (r : Fin 2048) (d : Fin 128) : hV x1 x6 (ix2 r d) = (H.v r d : EReal) := by
  have a : ∀ (c : Fin 256) (d : Fin 128), wkp x6 (ix3 0 c d) = (H.wkv c ⟨128 + d.val, by omega⟩ : EReal) := fun c d =>
    (ld_cols x6 128 _ c d ⟨128 + d.val, by omega⟩ rfl).trans (h.h6 _ _)
  unfold hV
  generalize wkp x6 = y at a ⊢
  pointwise [k0_pay6, k0_pay3]
  simp only [a, h.h1, ← EReal.coe_mul, ← coe_sum]
  rfl

omit h in
/-- The stores of the eight blocks, newest first. -/
abbrev ol (Q K : FVec Ideal S2048x192 .bf16) (V : FVec Ideal S2048x128 .bf16) : List (View.Piece (Elt Ideal) S1x2048x128 .bf16) :=
  [⟨Rect.unit (s := S1x2048x128) ![0, 1792, 0] ![1, 256, 128] inb_S1x2048x128_S1x256x128_0_1792_0, k0_pay24 (F := Ideal) Q K V⟩,
   ⟨Rect.unit (s := S1x2048x128) ![0, 1536, 0] ![1, 256, 128] inb_S1x2048x128_S1x256x128_0_1536_0, k0_pay23 (F := Ideal) V (k0_pay22 Q K)⟩,
   ⟨Rect.unit (s := S1x2048x128) ![0, 1280, 0] ![1, 256, 128] inb_S1x2048x128_S1x256x128_0_1280_0, k0_pay21 (F := Ideal) V (k0_pay18 Q K) k0_pay19 (k0_pay20 Q K) (FloatOps.ofBits FTy.f32 4286578688#32)⟩,
   ⟨Rect.unit (s := S1x2048x128) ![0, 1024, 0] ![1, 256, 128] inb_S1x2048x128_S1x256x128_0_1024_0, k0_pay17 (F := Ideal) V (k0_pay15 Q) (k0_pay16 K) (constant S256x1280 .f32 0x00000000#32)⟩,
   ⟨Rect.unit (s := S1x2048x128) ![0, 768, 0] ![1, 256, 128] inb_S1x2048x128_S1x256x128_0_768_0, k0_pay14 (F := Ideal) Q K V⟩,
   ⟨Rect.unit (s := S1x2048x128) ![0, 512, 0] ![1, 256, 128] inb_S1x2048x128_S1x256x128_0_512_0, k0_pay13 (F := Ideal) V (k0_pay12 Q K)⟩,
   ⟨Rect.unit (s := S1x2048x128) ![0, 256, 0] ![1, 256, 128] inb_S1x2048x128_S1x256x128_0_256_0, k0_pay11 (F := Ideal) V (k0_pay8 Q K) k0_pay9 (k0_pay10 Q K) (FloatOps.ofBits FTy.f32 4286578688#32)⟩,
   ⟨Rect.unit (s := S1x2048x128) ![0, 0, 0] ![1, 256, 128] inb_S1x2048x128_S1x256x128_0_0_0, k0_pay7 (F := Ideal) Q K V⟩]

theorem ol_coe (r : Fin 2048) (d : Fin 128) : View.canon (ol (hQ x0 x3 x4 x5) (hK x1 x2 x6) (hV x1 x6)) (ix3 0 r d) = (H.out r d : EReal) := by
  have q := hQ_coe h; have k := hK_coe h; have v := hV_coe h
  unfold Head.out
  generalize hQ x0 x3 x4 x5 = Q at q ⊢
  generalize hK x1 x2 x6 = K at k ⊢
  generalize hV x1 x6 = V at v ⊢
  canon_tiles x hx using View.cover_of_tiledBy _ ![1, 256, 128] (by sl_kernel_rfl) _
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨1792 + u.val, by omega⟩ from Fin.ext hx1]
    exact O7_coe q k v u d
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨1536 + u.val, by omega⟩ from Fin.ext hx1]
    exact O6_coe q k v u d
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨1280 + u.val, by omega⟩ from Fin.ext hx1]
    exact O5_coe q k v u d
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨1024 + u.val, by omega⟩ from Fin.ext hx1]
    exact O4_coe q k v u d
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨768 + u.val, by omega⟩ from Fin.ext hx1]
    exact O3_coe q k v u d
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨512 + u.val, by omega⟩ from Fin.ext hx1]
    exact O2_coe q k v u d
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨256 + u.val, by omega⟩ from Fin.ext hx1]
    exact O1_coe q k v u d
  · obtain ⟨b, u, e, rfl⟩ : ∃ (b : Fin 1) (u : Fin 256) (e : Fin 128), x = ix3 b u e := ⟨_, _, _, eq_ix3 x⟩
    obtain rfl : b = 0 := Subsingleton.elim _ _
    obtain rfl : d = e := Fin.ext hx2
    rw [show r = ⟨u.val, by omega⟩ from Fin.ext hx1]
    exact O0_coe q k v u d

omit h in
theorem pay1 (o : Vec Ideal S1x2048x128 .bf16) (r : Fin 2048) (e : Fin 1024) :
    k0_pay1 (F := Ideal) (k0_pay25 o) x7 (ix2 r e) = ∑ d : Fin 128, (o (ix3 0 r d) : EReal) * (x7 (ix3 0 d e) : EReal) := by
  pointwise [k0_pay1, k0_pay25]
omit h in
theorem pay2 (o : Vec Ideal S1x2048x128 .bf16) (y : Vec Ideal S2048x1024 .f32) (r : Fin 2048) (e : Fin 1024) :
    k0_pay2 (F := Ideal) (k0_pay25 o) x7 y (ix2 r e) = (y (ix2 r e) : EReal) + k0_pay1 (F := Ideal) (k0_pay25 o) x7 (ix2 r e) := by
  unfold k0_pay2
  generalize k0_pay1 (F := Ideal) (k0_pay25 o) x7 = z
  pointwise []

/-- A head's part of the mixed output, from the rows it has just stored. -/
theorem mix_coe (W : View sig .tc .vmem S1x2048x128 .bf16) (r : Fin 2048) (e : Fin 1024) :
    k0_pay1 (F := Ideal) (k0_pay25 (W.readCov (ol (hQ x0 x3 x4 x5) (hK x1 x2 x6) (hV x1 x6)) (Rect.unit (s := S1x2048x128) ![0, 0, 0] ![1, 2048, 128] inb_S1x2048x128_S1x2048x128_0_0_0).toLoadRect)) x7 (ix2 r e)
      = ∑ d : Fin 128, (H.out r d : EReal) * (x7 (ix3 0 d e) : EReal) := by
  refine (pay1 x7 _ r e).trans (Finset.sum_congr rfl fun d _ => congrArg (fun z : EReal => z * (x7 (ix3 0 d e) : EReal)) ?_)
  rw [View.readCov_eq_canon']
  refine Eq.trans (congrArg (View.canon (ol (hQ x0 x3 x4 x5) (hK x1 x2 x6) (hV x1 x6))) ?_) (ol_coe h r d)
  refine funext fun b => Fin.ext ?_
  match b with
  | ⟨0, _⟩ => rfl
  | ⟨1, _⟩ => show 0 + 1 * r.val = r.val; omega
  | ⟨2, _⟩ => show 0 + 1 * d.val = d.val; omega
end Blocks

variable (m : (ℓ : Loc nD τ sig) → Buf (Elt Ideal) ℓ)

theorem of_A (t : Fin cfg0.N) (h : t.val % 8 = 0) : ¬ 1 ≤ t.val := by
  have := lt_of_lt_of_eq t.isLt N_0
  generalize t.val = u at *
  omega
theorem of_B (t : Fin cfg0.N) (h : ¬ t.val % 8 = 0) : 1 ≤ t.val := by
  generalize t.val = u at *
  omega

section Outs
variable (c : Dev nD) (t : Fin cfg0.N) {H : Head}
  (h : Holds H (iblk m c 0 t) (iblk m c 1 t) (iblk m c 2 t) (iblk m c 3 t) (iblk m c 4 t) (iblk m c 5 t) (iblk m c 6 t))
include h

theorem out8 (r : Fin 2048) (d : Fin 128) : (outsAt0 m c t.val t.isLt).1 (ix3 0 r d) = (H.out r d : EReal) := by
  by_cases h0 : t.val % 8 = 0
  · rw [outsAt0_A m c t h0 (of_A t h0)]; frame_out
    exact ol_coe h r d
  · rw [outsAt0_B m c t h0 (of_B t h0)]; frame_out
    exact ol_coe h r d

theorem out9_A (h0 : t.val % 8 = 0) (r : Fin 2048) (e : Fin 1024) :
    (outsAt0 m c t.val t.isLt).2 (ix2 r e) = ∑ d : Fin 128, (H.out r d : EReal) * (iblk m c 7 t (ix3 0 d e) : EReal) := by
  rw [outsAt0_A m c t h0 (of_A t h0)]; frame_out
  exact mix_coe _ h _ r e
theorem out9_B (h0 : ¬ t.val % 8 = 0) (r : Fin 2048) (e : Fin 1024) :
    (outsAt0 m c t.val t.isLt).2 (ix2 r e) = (outsAt0 m c (t.val - 1) (Nat.lt_of_le_of_lt (Nat.sub_le _ _) t.isLt)).2 (ix2 r e)
      + ∑ d : Fin 128, (H.out r d : EReal) * (iblk m c 7 t (ix3 0 d e) : EReal) := by
  rw [outsAt0_B m c t h0 (of_B t h0)]; frame_out
  exact (pay2 _ _ _ r e).trans (congrArg _ (mix_coe _ h _ r e))
end Outs

theorem N0 : cfg0.N = 8 := N_0

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![t.val, 0, 0] ∧ win0_6.index t = ![t.val, 0, 0] ∧ win0_7.index t = ![t.val, 0, 0] ∧ win0_8.index t = ![t.val, 0, 0] ∧ win0_9.index t = ![0, 0] :=
  (by decide +kernel : ∀ t : Fin grid0.N, _)

/-- A point's head. -/
def hd (t : Fin cfg0.N) : Fin 8 := ⟨t.val, lt_of_lt_of_eq t.isLt N0⟩

/-! The arrays the region reads, as the host left them. -/

theorem v2 (c : Dev nD) (t : Fin 8) (r : Fin 384) (d : Fin 192) : (V m c main_v2 : FVec Ideal S8x384x192 .bf16) (ix3 t r d) = (m ((c : Thread nD τ).loc main_arg5) : FVec Ideal S384x1536 .f32) (ix2 r ⟨t.val * 192 + d.val, by omega⟩) := by
  unfold V
  entry_read
  pointwise []
theorem v5 (c : Dev nD) (t : Fin 8) (r : Fin 256) (d : Fin 256) : (V m c main_v5 : FVec Ideal S8x256x256 .bf16) (ix3 t r d) = (m ((c : Thread nD τ).loc main_arg6) : FVec Ideal S256x2048 .f32) (ix2 r ⟨t.val * 256 + d.val, by omega⟩) := by
  unfold V
  entry_read
  pointwise []
theorem v7 (c : Dev nD) (t : Fin 8) (r : Fin 128) (d : Fin 1024) : (V m c main_v7 : FVec Ideal S8x128x1024 .bf16) (ix3 t r d) = (m ((c : Thread nD τ).loc main_arg7) : FVec Ideal S1024x1024 .f32) (ix2 ⟨t.val * 128 + r.val, by omega⟩ d) := by
  unfold V
  entry_read
  pointwise []
theorem v8 (c : Dev nD) (r : Fin 2048) (d : Fin 384) : (V m c main_v8 : FVec Ideal S2048x384 .bf16) (ix2 r d) = (m ((c : Thread nD τ).loc main_arg0) : FVec Ideal S2048x384 .f32) (ix2 r d) := by
  unfold V
  entry_read
  pointwise []
theorem v9 (c : Dev nD) (r : Fin 2048) (d : Fin 256) : (V m c main_v9 : FVec Ideal S2048x256 .bf16) (ix2 r d) = (m ((c : Thread nD τ).loc main_arg1) : FVec Ideal S2048x256 .f32) (ix2 r d) := by
  unfold V
  entry_read
  pointwise []

section Points
variable (c : Dev nD) {A : Cert.Attn.Args} (f : Cert.Attn.R.Fed A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (fun _ => 0) (fun _ => 0))

/-- What head `n` adds to the mixed output, as a term of a count. -/
def nth (A : Cert.Attn.Args) (X : FVec Ideal S1024x1024 .f32) (r : Fin 2048) (e : Fin 1024) (n : ℕ) : EReal :=
  if h : n < 8 then ∑ d : Fin 128, ((A.head ⟨n, h⟩).out r d : EReal) * (X (ix2 ⟨n * 128 + d.val, by omega⟩ e) : EReal) else 0

include f

set_option maxHeartbeats 2000000 in
/-- Every point reads its head's blocks. -/
theorem holds (t : Fin cfg0.N) : Holds (A.head (hd t)) (iblk m c 0 t) (iblk m c 1 t) (iblk m c 2 t) (iblk m c 3 t) (iblk m c 4 t) (iblk m c 5 t) (iblk m c 6 t) where
  h0 r k := by
    refine Eq.trans ?_ ((v8 m c r k).trans (f.h0 r k))
    blk_ext [iblk, idx t]
  h1 r k := by
    refine Eq.trans ?_ ((v9 m c r k).trans (f.h1 r k))
    blk_ext [iblk, idx t]
  h2 r k := by
    refine Eq.trans ?_ ((congrFun (V_main_arg2 m c) (ix2 r k)).trans (f.h2 r k))
    blk_ext [iblk, idx t]
  h3 r k := by
    refine Eq.trans ?_ ((congrFun (V_main_arg3 m c) (ix2 r k)).trans (f.h3 r k))
    blk_ext [iblk, idx t]
  h4 r k := by
    refine Eq.trans ?_ ((congrFun (V_main_arg4 m c) (ix2 r k)).trans (f.h4 r k))
    blk_ext [iblk, idx t]
  h5 r k := by
    refine Eq.trans ?_ ((v2 m c (hd t) r k).trans (f.h5 r _))
    blk_ext [iblk, idx t, hd]
  h6 r k := by
    refine Eq.trans ?_ ((v5 m c (hd t) r k).trans (f.h6 r _))
    blk_ext [iblk, idx t, hd]

omit f in
theorem w7 (t : Fin cfg0.N) (d : Fin 128) (e : Fin 1024) :
    (iblk m c 7 t (ix3 0 d e) : EReal) = (m ((c : Thread nD τ).loc main_arg7) : FVec Ideal S1024x1024 .f32) (ix2 ⟨(hd t).val * 128 + d.val, by omega⟩ e) := by
  refine Eq.trans ?_ (v7 m c (hd t) d e)
  blk_ext [iblk, idx t, hd]

omit f in
theorem nth_hd (t : Fin cfg0.N) (r : Fin 2048) (e : Fin 1024) : ∑ d : Fin 128, ((A.head (hd t)).out r d : EReal) * (iblk m c 7 t (ix3 0 d e) : EReal)
    = nth A (m ((c : Thread nD τ).loc main_arg7)) r e t.val := by
  unfold nth
  rw [dif_pos (lt_of_lt_of_eq t.isLt N0)]
  exact Finset.sum_congr rfl fun d _ => congrArg (fun z : EReal => ((A.head (hd t)).out r d : EReal) * z) (w7 m c t d e)

theorem arr_8 (T : Fin 8) (r : Fin 2048) (d : Fin 128) : ((dats m 0 c).arrAt 8 cfg0.N : FVec Ideal S8x2048x128 .bf16) (ix3 T r d) = ((A.head T).out r d : EReal) := by
  obtain ⟨t, rfl⟩ : ∃ t : Fin cfg0.N, hd t = T := ⟨⟨T.val, lt_of_lt_of_eq T.isLt N0.symm⟩, rfl⟩
  have h := congrFun (blocks8 m c t (flush0_8 t)) (ix3 0 r d)
  rw [View.read_apply, flushed8] at h
  refine Eq.trans (congrArg (dats m 0 c |>.arrAt 8 cfg0.N) ?_) (h.trans (out8 m c t (holds m c f t) r d))
  blk_ext [idx t, hd]

omit f in
theorem disjoint9 (t t' : Fin cfg0.N) (h : (cfg0.win 9).flush t = true) (h' : (cfg0.win 9).flush t' = true) (hne : t ≠ t') :
    Disjoint ((cfg0.win 9).blk t).view.set ((cfg0.win 9).blk t').view.set := by
  refine absurd (Fin.ext ?_) hne
  have a := (flush0_9 t).1 h
  have b := (flush0_9 t').1 h'
  have a' := lt_of_lt_of_eq t.isLt N0
  have b' := lt_of_lt_of_eq t'.isLt N0
  generalize t.val = u at *
  generalize t'.val = v at *
  omega

theorem arr_9 (r : Fin 2048) (e : Fin 1024) : ((dats m 0 c).arrAt 9 cfg0.N : FVec Ideal S2048x1024 .f32) (ix2 r e)
    = ∑ t : Fin 8, ∑ d : Fin 128, ((A.head t).out r d : EReal) * ((m ((c : Thread nD τ).loc main_arg7) : FVec Ideal S1024x1024 .f32) (ix2 ⟨t.val * 128 + d.val, by omega⟩ e) : EReal) := by
  obtain ⟨t, ht⟩ : ∃ t : Fin cfg0.N, t.val = 7 := ⟨⟨7, lt_of_lt_of_eq (by omega) N0.symm⟩, rfl⟩
  have hm : t.val % 8 = 7 := by rw [ht]
  have h := congrFun ((dats m 0 c).read_blk_arrAt_eq_flushed 9 (disjoint9) cfg0.N t t.isLt ((flush0_9 t).2 hm)) (ix2 r e)
  rw [View.read_apply, flushed9] at h
  have s : (outsAt0 m c t.val t.isLt).2 (ix2 r e) = 0 + ∑ k ∈ Finset.range (7 + 1), nth A (m ((c : Thread nD τ).loc main_arg7)) r e (8 * (t.val / 8) + k) :=
    Pipeline.eq_sum_of_reset_step_apply_of_mod (fun n h => (fun _ => (outsAt0 m c n h).2 (ix2 r e) : Unit → EReal)) 8 (fun _ => (0 : EReal)) (fun n _ => nth A (m ((c : Thread nD τ).loc main_arg7)) r e n)
      (fun t h _ => (out9_A m c t (holds m c f t) h r e).trans ((nth_hd m c t r e).trans (zero_add _).symm))
      (fun t h _ => (out9_B m c t (holds m c f t) h r e).trans (congrArg (_ + ·) (nth_hd m c t r e))) t hm ()
  rw [show 8 * (t.val / 8) = 0 from by rw [ht], zero_add] at s
  simp only [zero_add] at s
  refine Eq.trans (congrArg (dats m 0 c |>.arrAt 9 cfg0.N) ?_) (h.trans (s.trans ?_))
  · blk_ext [idx t]
  · rw [Finset.sum_range]
    exact Finset.sum_congr rfl fun t _ => dif_pos t.isLt
end Points

end Cert.AttnF.K

namespace Cert.AttnF

open Idealize.ShloMosaic Idealize.ShloMosaic.TcCoe Idealize.SL.Sem Cert.Common Cert.Attention

namespace R
open Cert.AttnFReferenceIdeal Cert.AttnFReferenceIdeal.Read Cert.AttnFReferenceIdeal.Gen

variable {A : Cert.Attn.Args} {X0 : FVec Ideal S2048x384 .f32} {X1 : FVec Ideal S2048x256 .f32} {X2 : FVec Ideal S2048x64 .f32}
    {X3 X4 : FVec Ideal S2048x32 .f32} {X5 : FVec Ideal S384x1536 .f32} {X6 : FVec Ideal S256x2048 .f32}
    (X7 : FVec Ideal S1024x1024 .f32) (h : Cert.Attn.R.Fed A X0 X1 X2 X3 X4 X5 X6 (fun _ => 0) (fun _ => 0))
include h

/-- The rows of every head, which are those of the backward call's reference too. -/
theorem ou (r : Fin 2048) (t : Fin 8) (d : Fin 128) : val_main_v49 (F := Ideal) X0 X1 X2 X3 X4 X5 X6 (ix3 r t d) = ((A.head t).out r d : EReal) :=
  (congrFun (show val_main_v49 (F := Ideal) X0 X1 X2 X3 X4 X5 X6 = AttnReferenceIdeal.Read.val_main_v66 (F := Ideal) X0 X1 X2 X3 X4 X5 X6 from rfl) (ix3 r t d)).trans (Cert.Attn.R.ou h r t d)

theorem res_o (t : Fin 8) (r : Fin 2048) (d : Fin 128) : val_main_v51 (F := Ideal) X0 X1 X2 X3 X4 X5 X6 (ix3 t r d) = ((A.head t).out r d : EReal) := by
  have a := ou h
  unfold val_main_v51 val_main_v50
  generalize val_main_v49 (F := Ideal) X0 X1 X2 X3 X4 X5 X6 = y at a ⊢
  pointwise []
  exact a r t d

theorem res_mix (r : Fin 2048) (e : Fin 1024) : val_main_v53 (F := Ideal) X0 X1 X2 X3 X4 X5 X6 X7 (ix2 r e)
    = ∑ t : Fin 8, ∑ d : Fin 128, ((A.head t).out r d : EReal) * (X7 (ix2 ⟨t.val * 128 + d.val, by omega⟩ e) : EReal) := by
  have a := ou h
  unfold val_main_v53 val_main_v52
  generalize val_main_v49 (F := Ideal) X0 X1 X2 X3 X4 X5 X6 = y at a ⊢
  pointwise []
  refine Cert.Attn.sum_blocks 8 128 1024 rfl _ _ fun x t d ht hd => ?_
  rw [show x = ⟨t.val * 128 + d.val, by omega⟩ from Fin.ext (by simp only []; omega), ← a r t d]
  refine congrArg (fun z : EReal => z * _) (congrArg y ?_)
  exact congrArg₂ (fun u v => ix3 r u v) (Fin.ext (show (t.val * 128 + d.val) / 128 = t.val by omega)) (Fin.ext (show (t.val * 128 + d.val) % 128 = d.val by omega))

end R

theorem pre_facts : Cert.Pre_finite_attn_fwd.Facts where
  bcast_S_S2048x384 := by decide
  reducesTo_S2048x384_S_d0_1 := by decide
  h_S_ := by decide
  bcast_S_S2048x256 := by decide
  reducesTo_S2048x256_S_d0_1 := by decide
  bcast_S_S2048x64 := by decide
  reducesTo_S2048x64_S_d0_1 := by decide
  bcast_S_S2048x32 := by decide
  reducesTo_S2048x32_S_d0_1 := by decide
  bcast_S_S384x1536 := by decide
  reducesTo_S384x1536_S_d0_1 := by decide
  bcast_S_S256x2048 := by decide
  reducesTo_S256x2048_S_d0_1 := by decide

theorem frame_reference : Cert.quiescent_AttnFReferenceIdeal := fun m g _ =>
  (θ_run Cert.AttnFReferenceIdeal.defs _ _).mono (fun r h => ⟨fun c => (h c).2.2, sem_eq_zero_of_no_sems (by decide) r.2⟩)
    (AttnFReferenceIdeal.Value.run m g)

/-- What the precondition says: every entry of the first seven arguments is a real number. -/
theorem reals [Cert.Pre_finite_attn_fwd.Facts] {x0 : FVec Ideal ⟨2, ![2048, 384]⟩ .f32} {x1 : FVec Ideal ⟨2, ![2048, 256]⟩ .f32} {x2 : FVec Ideal ⟨2, ![2048, 64]⟩ .f32} {x3 : FVec Ideal ⟨2, ![2048, 32]⟩ .f32} {x4 : FVec Ideal ⟨2, ![2048, 32]⟩ .f32} {x5 : FVec Ideal ⟨2, ![384, 1536]⟩ .f32} {x6 : FVec Ideal ⟨2, ![256, 2048]⟩ .f32} {x7 : FVec Ideal ⟨2, ![1024, 1024]⟩ .f32}
    (h : Cert.Pre_finite_attn_fwd.fn (F := Ideal) x0 x1 x2 x3 x4 x5 x6 x7 = fun _ => 1#1) : ∃ A : Cert.Attn.Args, Cert.Attn.R.Fed A x0 x1 x2 x3 x4 x5 x6 (fun _ => 0) (fun _ => 0) := by
  have h0 := congrFun h ix0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨h0, a1⟩ := IntOp.andi_eq_one.1 h0
  obtain ⟨A0, f0⟩ := reals_of_all _ _ _ (fun _ => w_inf) _ _ _ h0
  obtain ⟨A1, f1⟩ := reals_of_all _ _ _ (fun _ => w_inf) _ _ _ a1
  obtain ⟨A2, f2⟩ := reals_of_all _ _ _ (fun _ => w_inf) _ _ _ a2
  obtain ⟨A3, f3⟩ := reals_of_all _ _ _ (fun _ => w_inf) _ _ _ a3
  obtain ⟨A4, f4⟩ := reals_of_all _ _ _ (fun _ => w_inf) _ _ _ a4
  obtain ⟨A5, f5⟩ := reals_of_all _ _ _ (fun _ => w_inf) _ _ _ a5
  obtain ⟨A6, f6⟩ := reals_of_all _ _ _ (fun _ => w_inf) _ _ _ a6
  exact ⟨⟨fun r k => A0 (ix2 r k), fun r k => A1 (ix2 r k), fun r k => A2 (ix2 r k), fun r k => A3 (ix2 r k), fun r k => A4 (ix2 r k), fun r k => A5 (ix2 r k), fun r k => A6 (ix2 r k), fun _ _ => 0, fun _ _ => 0⟩, ⟨fun r k => f0 (ix2 r k), fun r k => f1 (ix2 r k), fun r k => f2 (ix2 r k), fun r k => f3 (ix2 r k), fun r k => f4 (ix2 r k), fun r k => f5 (ix2 r k), fun r k => f6 (ix2 r k), fun _ _ => rfl, fun _ _ => rfl⟩⟩

set_option maxHeartbeats 2000000 in
theorem value : Cert.algebraic_AttnFKernelIdeal_AttnFReferenceIdeal_pre_finite_attn_fwd (hPre_finite_attn_fwd := pre_facts) := by
  intro m g m' g' hp hm
  refine ⟨_, _, AttnFKernelIdeal.Value.run_blocks m g,
    (θ_run _ _ _).mono (fun r h c => ?_) (AttnFReferenceIdeal.Value.run m' g')⟩
  obtain ⟨h0, h1, hk⟩ := h c
  obtain ⟨e0, e1, e2, e3, e4, e5, e6, e7⟩ := hm c
  obtain ⟨A, f⟩ := @reals pre_facts _ _ _ _ _ _ _ _ (hp c)
  have f' : Cert.Attn.R.Fed A (m' ((c.tc : Thread AttnFReferenceIdeal.nD AttnFReferenceIdeal.τ).loc AttnFReferenceIdeal.main_arg0)) (m' ((c.tc : Thread AttnFReferenceIdeal.nD AttnFReferenceIdeal.τ).loc AttnFReferenceIdeal.main_arg1)) (m' ((c.tc : Thread AttnFReferenceIdeal.nD AttnFReferenceIdeal.τ).loc AttnFReferenceIdeal.main_arg2)) (m' ((c.tc : Thread AttnFReferenceIdeal.nD AttnFReferenceIdeal.τ).loc AttnFReferenceIdeal.main_arg3)) (m' ((c.tc : Thread AttnFReferenceIdeal.nD AttnFReferenceIdeal.τ).loc AttnFReferenceIdeal.main_arg4)) (m' ((c.tc : Thread AttnFReferenceIdeal.nD AttnFReferenceIdeal.τ).loc AttnFReferenceIdeal.main_arg5)) (m' ((c.tc : Thread AttnFReferenceIdeal.nD AttnFReferenceIdeal.τ).loc AttnFReferenceIdeal.main_arg6)) (fun _ => 0) (fun _ => 0) := by
    rw [e0, e1, e2, e3, e4, e5, e6]
    exact f
  have k0 := h0.trans (AttnFReferenceIdeal.Read.val_main_v51_eq m' c)
  have k1 := h1.trans (AttnFReferenceIdeal.Read.val_main_v53_eq m' c)
  clear h0 h1 hp hm
  refine ⟨k0.trans ?_, k1.trans ?_, hk⟩
  · funext i
    rw [eq_ix3 i]
    exact (R.res_o f' _ _ _).trans (K.arr_8 m c f _ _ _).symm
  · funext i
    rw [eq_ix2 i]
    refine (R.res_mix _ f' _ _).trans (Eq.trans ?_ (K.arr_9 m c f _ _).symm)
    rw [e7]

end Cert.AttnF
end
-- ==== Proof.ResLn.lean ====
/- The layer norm of a residual: the kernel's two blocks of 1024 rows against the norm of the whole sum. -/
module

public import proofs.«01_k».proof.Defs
public import proofs.«01_k».proof.Proof.Common
public import Idealize.ShloMosaic.Lib.Quiescent
public import Idealize.ShloMosaic.Lib.Pipeline.ValueKit
public import proofs.«01_k».proof.Proof.Gen.ResLnKernelIdeal.Value
public import proofs.«01_k».proof.Proof.Gen.ResLnReferenceIdeal.Run
public import proofs.«01_k».proof.Proof.Gen.ResLnReferenceIdeal.Read

@[expose] public section

set_option maxRecDepth 16384

noncomputable section

namespace Cert.ResLn.K

open Cert.ResLnKernelIdeal Cert.ResLnKernelIdeal.Gen Cert.ResLnKernelIdeal.Value Cert.Common Idealize.ShloMosaic Idealize.ShloMosaic.TcCoe Idealize.SL.Sem
open Cert.ResLnReferenceIdeal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![3, 0, 0] ∧ win0_3.index t = ![3, 0, 0]
    ∧ win0_4.index t = ![t.val, 0] ∧ win0_5.index t = ![t.val, 0] ∧ win0_6.index t = ![t.val, 0] :=
  (by decide +kernel : ∀ t : Fin grid0.N, _)

theorem pt_4 (t : Fin cfg0.N) (r k : Fin 1024) (R : Fin 2048) (hR : R.val = t.val * 1024 + r.val) :
    k0_pay1 (F := Ideal) (iblk m c 0 t) (iblk m c 1 t) (ix2 r k) = val_main_v2 (F := Ideal) (m ((c : Thread nD τ).loc main_arg0)) (m ((c : Thread nD τ).loc main_arg1)) (ix2 R k) := by
  pointwise [k0_pay1, val_main_v2, val_main_v1, val_main_v0, val_main_cst]
  blk_point [iblk, V, idx t]

theorem pt_5 (t : Fin cfg0.N) (r k : Fin 1024) (R : Fin 2048) (hR : R.val = t.val * 1024 + r.val) :
    k0_pay2 (F := Ideal) (iblk m c 0 t) (iblk m c 1 t) (iblk m c 2 t) (iblk m c 3 t) (ix2 r k)
      = val_main_v30 (F := Ideal) (m ((c : Thread nD τ).loc main_arg0)) (m ((c : Thread nD τ).loc main_arg1)) (m ((c : Thread nD τ).loc main_arg2)) (m ((c : Thread nD τ).loc main_arg3)) (ix2 R k) := by
  rw [← val_main_v30_eq]
  pointwise [k0_pay2, k0_pay1]
  blk_point [iblk, V, idx t]

theorem row_lt (t : Fin cfg0.N) (r : Fin 1024) : t.val * 1024 + r.val < 2048 := by
  have h := lt_of_lt_of_eq t.isLt N_0
  omega

theorem arr_4 : (dats m 0 c).arrAt 4 cfg0.N = val_main_v2 (F := Ideal) (m ((c : Thread nD τ).loc main_arg0)) (m ((c : Thread nD τ).loc main_arg1)) := by
  refine (dats m 0 c).arrAt_eq_of_covers 4 _ (by decide +kernel) fun t hf (y : S1024x1024.Idx) => ?_
  blk_simp
  rw [after0_4]
  frame_out
  rw [eq_ix2 y]
  refine (pt_4 m c t (y 0) (y 1) ⟨t.val * 1024 + (y 0).val, row_lt t (y 0)⟩ rfl).trans (congrArg (val_main_v2 (F := Ideal) (m ((c : Thread nD τ).loc main_arg0)) (m ((c : Thread nD τ).loc main_arg1))) ?_)
  blk_ext [idx t]

theorem arr_5 : (dats m 0 c).arrAt 5 cfg0.N = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf (y : S1024x1024.Idx) => ?_
  blk_simp
  rw [after0_5]
  frame_out
  rw [eq_ix2 y]
  refine (pt_5 m c t (y 0) (y 1) ⟨t.val * 1024 + (y 0).val, row_lt t (y 0)⟩ rfl).trans (congrArg (val_main_v30 (F := Ideal) (m ((c : Thread nD τ).loc main_arg0)) (m ((c : Thread nD τ).loc main_arg1)) (m ((c : Thread nD τ).loc main_arg2)) (m ((c : Thread nD τ).loc main_arg3))) ?_)
  blk_ext [idx t]

theorem arr_6 : (dats m 0 c).arrAt 6 cfg0.N = val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf (y : S1024x1024.Idx) => ?_
  blk_simp
  rw [after0_6]
  frame_out
  rw [eq_ix2 y]
  refine (pt_5 m c t (y 0) (y 1) ⟨t.val * 1024 + (y 0).val, row_lt t (y 0)⟩ rfl).trans (congrArg (val_main_v30 (F := Ideal) (m ((c : Thread nD τ).loc main_arg0)) (m ((c : Thread nD τ).loc main_arg1)) (m ((c : Thread nD τ).loc main_arg2)) (m ((c : Thread nD τ).loc main_arg3))) ?_)
  blk_ext [idx t]

end Cert.ResLn.K

namespace Cert.ResLn

open Idealize.ShloMosaic Idealize.ShloMosaic.TcCoe Idealize.SL.Sem

theorem frame_reference : Cert.quiescent_ResLnReferenceIdeal := fun m g _ =>
  (θ_run Cert.ResLnReferenceIdeal.defs _ _).mono (fun r h => ⟨fun c => (h c).2.2.2, sem_eq_zero_of_no_sems (by decide) r.2⟩)
    (ResLnReferenceIdeal.Value.run m g)

theorem value : Cert.algebraic_ResLnKernelIdeal_ResLnReferenceIdeal := by
  intro m g m' g' _ hm
  refine ⟨_, _, _, ResLnKernelIdeal.Value.run_blocks m g,
    (θ_run _ _ _).mono (fun r h c => ?_) (ResLnReferenceIdeal.Value.run m' g')⟩
  obtain ⟨h0, h1, h2, hk⟩ := h c
  obtain ⟨e0, e1, e2, e3⟩ := hm c
  rw [K.arr_4, K.arr_5, K.arr_6, ← e0, ← e1, ← e2, ← e3]
  exact ⟨h0, h1.trans (ResLnReferenceIdeal.Read.val_main_v30_eq _ _ _ _), h2.trans (ResLnReferenceIdeal.Read.val_main_v31_eq _ _ _ _), hk⟩

end Cert.ResLn
end
-- ==== Proof.ProjLn.lean ====
/- The output projection, the residual and the layer norm: the kernel's two blocks of 1024 rows against the norm of the whole sum. -/
module

public import proofs.«01_k».proof.Defs
public import proofs.«01_k».proof.Proof.Common
public import Idealize.ShloMosaic.Lib.Quiescent
public import Idealize.ShloMosaic.Lib.Pipeline.ValueKit
public import proofs.«01_k».proof.Proof.Gen.ProjLnKernelIdeal.Value
public import proofs.«01_k».proof.Proof.Gen.ProjLnReferenceIdeal.Run
public import proofs.«01_k».proof.Proof.Gen.ProjLnReferenceIdeal.Read

@[expose] public section

set_option maxRecDepth 16384

noncomputable section

namespace Cert.ProjLn.K

open Cert.ProjLnKernelIdeal Cert.ProjLnKernelIdeal.Gen Cert.ProjLnKernelIdeal.Value Cert.Common Idealize.ShloMosaic Idealize.ShloMosaic.TcCoe Idealize.SL.Sem
open Cert.ProjLnReferenceIdeal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![2, 0, 0] ∧ win0_4.index t = ![2, 0, 0]
    ∧ win0_5.index t = ![t.val, 0] ∧ win0_6.index t = ![t.val, 0] ∧ win0_7.index t = ![t.val, 0] :=
  (by decide +kernel : ∀ t : Fin grid0.N, _)

/-- The residual the kernel's block holds. -/
theorem pt_5 (t : Fin cfg0.N) (r k : Fin 1024) (R : Fin 2048) (hR : R.val = t.val * 1024 + r.val) :
    k0_pay2 (F := Ideal) (iblk m c 0 t) (iblk m c 1 t) (iblk m c 2 t) (ix2 r k) = val_main_v3 (F := Ideal) (m ((c : Thread nD τ).loc main_arg0)) (m ((c : Thread nD τ).loc main_arg1)) (m ((c : Thread nD τ).loc main_arg2)) (ix2 R k) := by
  rw [← val_main_v3_eq]
  pointwise [k0_pay2]
  blk_point [iblk, V, idx t]

theorem pt_6 (t : Fin cfg0.N) (r k : Fin 1024) (R : Fin 2048) (hR : R.val = t.val * 1024 + r.val) :
    k0_pay3 (F := Ideal) (iblk m c 0 t) (iblk m c 1 t) (iblk m c 2 t) (iblk m c 3 t) (iblk m c 4 t) (ix2 r k)
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R k) := by
  rw [← val_main_v31_eq]
  pointwise [k0_pay3, k0_pay2]
  blk_point [iblk, V, idx t]

theorem row_lt (t : Fin cfg0.N) (r : Fin 1024) : t.val * 1024 + r.val < 2048 := by
  have h := lt_of_lt_of_eq t.isLt N_0
  omega

theorem arr_5 : (dats m 0 c).arrAt 5 cfg0.N = val_main_v3 (F := Ideal) (m ((c : Thread nD τ).loc main_arg0)) (m ((c : Thread nD τ).loc main_arg1)) (m ((c : Thread nD τ).loc main_arg2)) := by
  refine (dats m 0 c).arrAt_eq_of_covers 5 _ (by decide +kernel) fun t hf (y : S1024x1024.Idx) => ?_
  blk_simp
  rw [after0_5]
  frame_out
  rw [eq_ix2 y]
  refine (pt_5 m c t (y 0) (y 1) ⟨t.val * 1024 + (y 0).val, row_lt t (y 0)⟩ rfl).trans (congrArg (val_main_v3 (F := Ideal) (m ((c : Thread nD τ).loc main_arg0)) (m ((c : Thread nD τ).loc main_arg1)) (m ((c : Thread nD τ).loc main_arg2))) ?_)
  blk_ext [idx t]

theorem arr_6 : (dats m 0 c).arrAt 6 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf (y : S1024x1024.Idx) => ?_
  blk_simp
  rw [after0_6]
  unfold out0_6 k0_pay4
  frame_out
  rw [eq_ix2 y]
  refine (pt_6 m c t (y 0) (y 1) ⟨t.val * 1024 + (y 0).val, row_lt t (y 0)⟩ rfl).trans (congrArg (val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_)
  blk_ext [idx t]

theorem arr_7 : (dats m 0 c).arrAt 7 cfg0.N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf (y : S1024x1024.Idx) => ?_
  blk_simp
  rw [after0_7]
  unfold out0_7 k0_pay4
  frame_out
  rw [eq_ix2 y]
  refine (pt_6 m c t (y 0) (y 1) ⟨t.val * 1024 + (y 0).val, row_lt t (y 0)⟩ rfl).trans (congrArg (val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_)
  blk_ext [idx t]

end Cert.ProjLn.K

namespace Cert.ProjLn

open Idealize.ShloMosaic Idealize.ShloMosaic.TcCoe Idealize.SL.Sem

theorem frame_reference : Cert.quiescent_ProjLnReferenceIdeal := fun m g _ =>
  (θ_run Cert.ProjLnReferenceIdeal.defs _ _).mono (fun r h => ⟨fun c => (h c).2.2.2, sem_eq_zero_of_no_sems (by decide) r.2⟩)
    (ProjLnReferenceIdeal.Value.run m g)

theorem value : Cert.algebraic_ProjLnKernelIdeal_ProjLnReferenceIdeal := by
  intro m g m' g' _ hm
  refine ⟨_, _, _, ProjLnKernelIdeal.Value.run_blocks m g,
    (θ_run _ _ _).mono (fun r h c => ?_) (ProjLnReferenceIdeal.Value.run m' g')⟩
  obtain ⟨h0, h1, h2, hk⟩ := h c
  obtain ⟨e0, e1, e2, e3, e4⟩ := hm c
  rw [K.arr_5, K.arr_6, K.arr_7, ← e0, ← e1, ← e2, ← e3, ← e4]
  exact ⟨h0.trans (ProjLnReferenceIdeal.Read.val_main_v3_eq _ _ _), h1.trans (ProjLnReferenceIdeal.Read.val_main_v31_eq _ _ _ _ _), h2.trans (ProjLnReferenceIdeal.Read.val_main_v32_eq _ _ _ _ _), hk⟩

end Cert.ProjLn
end
-- ==== Proof.MlpF.lean ====
/- The gated hidden layer with its residual and norm: the kernel carries the second product over eight blocks of 512 hidden
columns, the reference contracts the 4096 columns at once. -/
module

public import proofs.«01_k».proof.Defs
public import proofs.«01_k».proof.Proof.Common
public import Idealize.ShloMosaic.Lib.Quiescent
public import Idealize.ShloMosaic.Lib.Pipeline.ValueKit
public import proofs.«01_k».proof.Proof.Gen.MlpFKernelIdeal.Value
public import proofs.«01_k».proof.Proof.Gen.MlpFReferenceIdeal.Run
public import proofs.«01_k».proof.Proof.Gen.MlpFReferenceIdeal.Read

@[expose] public section

set_option maxRecDepth 16384

noncomputable section

namespace Cert.MlpF.K

open Cert.MlpFKernelIdeal Cert.MlpFKernelIdeal.Gen Cert.MlpFKernelIdeal.Value Cert.Common Idealize.ShloMosaic Idealize.ShloMosaic.TcCoe Idealize.SL.Sem
open Cert.MlpFReferenceIdeal.Read

variable (m : (ℓ : Loc nD τ sig) → Buf (Elt Ideal) ℓ) (c : Dev nD)

theorem idx : ∀ t : Fin cfg0.N, (win0_0.index t = ![t.val / 8, 0] ∧ win0_1.index t = ![t.val / 8, 0] ∧ win0_2.index t = ![t.val % 8, 0, 0] ∧ win0_3.index t = ![t.val % 8, 0, 0])
    ∧ (win0_4.index t = ![3, 0, 0] ∧ win0_5.index t = ![3, 0, 0]) ∧ win0_6.index t = ![t.val / 8, 0] ∧ win0_7.index t = ![t.val / 8, 0] ∧ win0_8.index t = ![t.val / 8, 0]
    ∧ win0_9.index t = ![t.val / 8, t.val % 8] :=
  (by decide +kernel : ∀ t : Fin grid0.N, _)

/-- The squared rectifier of a hidden column, from a block of rows and a block of hidden columns. -/
def gate (z : Vec Ideal S1024x1024 .bf16) (w : Vec Ideal S1x1024x512 .bf16) (r : Fin 1024) (k : Fin 512) : EReal :=
  max (∑ d : Fin 1024, z (ix2 r d) * w (ix3 0 d k)) 0 * max (∑ d : Fin 1024, z (ix2 r d) * w (ix3 0 d k)) 0

theorem pay7_apply (z : Vec Ideal S512x1024 .bf16) (w : Vec Ideal S1x1024x512 .bf16) (r k : Fin 512) :
    k0_pay7 z w (ix2 r k) = max (∑ d : Fin 1024, z (ix2 r d) * w (ix3 0 d k)) 0 * max (∑ d : Fin 1024, z (ix2 r d) * w (ix3 0 d k)) 0 := by
  pointwise [k0_pay7]
theorem pay1_apply (z : Vec Ideal S512x1024 .bf16) (w : Vec Ideal S1x1024x512 .bf16) (r k : Fin 512) :
    k0_pay1 (k0_pay9 z w) (ix2 r k) = max (∑ d : Fin 1024, z (ix2 r d) * w (ix3 0 d k)) 0 * max (∑ d : Fin 1024, z (ix2 r d) * w (ix3 0 d k)) 0 := by
  pointwise [k0_pay1, k0_pay9]
theorem pay8_eq (z : Vec Ideal S512x1024 .bf16) (w : Vec Ideal S1x1024x512 .bf16) (u : Vec Ideal S512x1024 .f32) (v : Vec Ideal S1x512x1024 .bf16) (r : Fin 512) (k : Fin 1024) :
    k0_pay8 z w u v (ix2 r k) = u (ix2 r k) + ∑ l : Fin 512, k0_pay7 z w (ix2 r l) * v (ix3 0 l k) := by
  pointwise [k0_pay8]
theorem pay2_eq (a : FVec Ideal S512x512 .f32) (u : Vec Ideal S512x1024 .f32) (v : Vec Ideal S1x512x1024 .bf16) (r : Fin 512) (k : Fin 1024) :
    k0_pay2 a u v (ix2 r k) = u (ix2 r k) + ∑ l : Fin 512, k0_pay1 a (ix2 r l) * v (ix3 0 l k) := by
  pointwise [k0_pay2]
theorem zero_apply (i : S1024x1024.Idx) : k0_pay6 (F := Ideal) i = 0 := by
  rw [eq_ix2 i]; pointwise [k0_pay6]

section Rows
variable (z : Vec Ideal S1024x1024 .bf16) (w : Vec Ideal S1x1024x512 .bf16)

theorem low (x : S512x512.Idx) (r : Fin 1024) (k : Fin 512) (h0 : r.val = (x 0).val) (h1 : k.val = (x 1).val) :
    k0_pay7 (View.ld z (Rect.unit ![0, 0] ![512, 1024] inb_S1024x1024_S512x1024_0_0)) w x = gate z w r k := by
  obtain ⟨u, v, rfl⟩ : ∃ (u v : Fin 512), x = ix2 u v := ⟨_, _, eq_ix2 x⟩
  obtain rfl : k = v := Fin.ext h1
  have e : (∑ d : Fin 1024, (View.ld z (Rect.unit ![0, 0] ![512, 1024] inb_S1024x1024_S512x1024_0_0) : Vec Ideal S512x1024 .bf16) (ix2 u d) * w (ix3 0 d k)) = ∑ d : Fin 1024, z (ix2 r d) * w (ix3 0 d k) :=
    Finset.sum_congr rfl fun d _ => congrArg (· * _) (ld_rows z 0 _ u d r (h0.trans (Nat.zero_add _).symm))
  rw [pay7_apply, gate, e]

theorem high (x : S512x512.Idx) (r : Fin 1024) (k : Fin 512) (h0 : r.val = 512 + (x 0).val) (h1 : k.val = (x 1).val) :
    k0_pay1 (k0_pay9 (View.ld z (Rect.unit ![512, 0] ![512, 1024] inb_S1024x1024_S512x1024_512_0)) w) x = gate z w r k := by
  obtain ⟨u, v, rfl⟩ : ∃ (u v : Fin 512), x = ix2 u v := ⟨_, _, eq_ix2 x⟩
  obtain rfl : k = v := Fin.ext h1
  have e : (∑ d : Fin 1024, (View.ld z (Rect.unit ![512, 0] ![512, 1024] inb_S1024x1024_S512x1024_512_0) : Vec Ideal S512x1024 .bf16) (ix2 u d) * w (ix3 0 d k)) = ∑ d : Fin 1024, z (ix2 r d) * w (ix3 0 d k) :=
    Finset.sum_congr rfl fun d _ => congrArg (· * _) (ld_rows z 512 _ u d r h0)
  rw [pay1_apply, gate, e]

theorem low_sum (p : Vec Ideal S1024x1024 .f32) (v : Vec Ideal S1x512x1024 .bf16) (x : S512x1024.Idx) (r k : Fin 1024) (h0 : r.val = (x 0).val) (h1 : k.val = (x 1).val) :
    k0_pay8 (View.ld z (Rect.unit ![0, 0] ![512, 1024] inb_S1024x1024_S512x1024_0_0)) w (View.ld p (Rect.unit ![0, 0] ![512, 1024] inb_S1024x1024_S512x1024_0_0)) v x
      = p (ix2 r k) + ∑ l : Fin 512, gate z w r l * v (ix3 0 l k) := by
  obtain ⟨a, b, rfl⟩ : ∃ (a : Fin 512) (b : Fin 1024), x = ix2 a b := ⟨_, _, eq_ix2 x⟩
  obtain rfl : k = b := Fin.ext h1
  refine (pay8_eq _ _ _ _ a k).trans (congr_arg₂ (· + ·) (ld_rows p 0 _ a k r (h0.trans (Nat.zero_add _).symm)) ?_)
  exact Finset.sum_congr rfl fun l _ => congrArg (· * _) (low z w (ix2 a l) r l h0 rfl)

theorem high_sum (p : Vec Ideal S1024x1024 .f32) (v : Vec Ideal S1x512x1024 .bf16) (x : S512x1024.Idx) (r k : Fin 1024) (h0 : r.val = 512 + (x 0).val) (h1 : k.val = (x 1).val) :
    k0_pay2 (k0_pay9 (View.ld z (Rect.unit ![512, 0] ![512, 1024] inb_S1024x1024_S512x1024_512_0)) w) (View.ld p (Rect.unit ![512, 0] ![512, 1024] inb_S1024x1024_S512x1024_512_0)) v x
      = p (ix2 r k) + ∑ l : Fin 512, gate z w r l * v (ix3 0 l k) := by
  obtain ⟨a, b, rfl⟩ : ∃ (a : Fin 512) (b : Fin 1024), x = ix2 a b := ⟨_, _, eq_ix2 x⟩
  obtain rfl : k = b := Fin.ext h1
  refine (pay2_eq _ _ _ a k).trans (congr_arg₂ (· + ·) (ld_rows p 512 _ a k r h0) ?_)
  exact Finset.sum_congr rfl fun l _ => congrArg (· * _) (high z w (ix2 a l) r l h0 rfl)

end Rows

theorem out9 (t : Fin cfg0.N) (r : Fin 1024) (k : Fin 512) : (outsAt0 m c t.val t.isLt).2.2.2.1 (ix2 r k) = gate (iblk m c 1 t) (iblk m c 2 t) r k := by
  by_cases h : t.val % 8 = 0
  · rw [outsAt0_A m c t h (by omega)]; frame_out
    canon_tiles x h using View.cover_of_tiledBy _ ![512, 512] (by sl_kernel_rfl) _
    · exact high _ _ x r k h0 h1
    · exact low _ _ x r k h0 h1
  · by_cases h' : t.val % 8 = 7
    · rw [outsAt0_C m c t h h']; frame_out
      canon_tiles x h using View.cover_of_tiledBy _ ![512, 512] (by sl_kernel_rfl) _
      · exact high _ _ x r k h0 h1
      · exact low _ _ x r k h0 h1
    · rw [outsAt0_B m c t h h']; frame_out
      canon_tiles x h using View.cover_of_tiledBy _ ![512, 512] (by sl_kernel_rfl) _
      · exact high _ _ x r k h0 h1
      · exact low _ _ x r k h0 h1

/-- What a point adds to its rows of the second product. -/
def add (t : Fin cfg0.N) (r k : Fin 1024) : EReal :=
  ∑ l : Fin 512, gate (iblk m c 1 t) (iblk m c 2 t) r l * (iblk m c 3 t : Vec Ideal S1x512x1024 .bf16) (ix3 0 l k)

theorem acc_first (t : Fin cfg0.N) (h : t.val % 8 = 0) (r k : Fin 1024) : (outsAt0 m c t.val t.isLt).2.2.2.2 (ix2 r k) = 0 + add m c t r k := by
  rw [outsAt0_A m c t h (by omega)]; frame_open
  simp (disch := decide) only [↓ View.readCov_skip, ↓ View.readCov_cons_toLoadRect, ↓ View.readCov_fill]
  frame_out
  refine (canon_append [_] _ [_, _] (View.cover_of_tiledBy _ ![512, 1024] (by sl_kernel_rfl) _)).trans ?_
  canon_tiles x h using View.cover_of_tiledBy _ ![512, 1024] (by sl_kernel_rfl) _
  · exact (high_sum _ _ (k0_pay6 (F := Ideal)) _ x r k h0 h1).trans (congrArg (· + _) (zero_apply _))
  · exact (low_sum _ _ (k0_pay6 (F := Ideal)) _ x r k h0 h1).trans (congrArg (· + _) (zero_apply _))

theorem acc_next (t : Fin cfg0.N) (h : ¬t.val % 8 = 0) (r k : Fin 1024) :
    (outsAt0 m c t.val t.isLt).2.2.2.2 (ix2 r k) = (outsAt0 m c (t.val - 1) (Nat.lt_of_le_of_lt (Nat.sub_le _ _) t.isLt)).2.2.2.2 (ix2 r k) + add m c t r k := by
  by_cases h' : t.val % 8 = 7
  · rw [outsAt0_C m c t h h']; frame_open
    simp (disch := decide) only [↓ View.readCov_skip, ↓ View.readCov_cons_toLoadRect, ↓ View.readCov_fill]
    frame_out
    canon_tiles x h using View.cover_of_tiledBy _ ![512, 1024] (by sl_kernel_rfl) _
    · simp only [read_unread_whole]
      exact high_sum _ _ (outsAt0 m c (t.val - 1) _).2.2.2.2 _ x r k h0 h1
    · simp only [read_unread_whole]
      exact low_sum _ _ (outsAt0 m c (t.val - 1) _).2.2.2.2 _ x r k h0 h1
  · rw [outsAt0_B m c t h h']; frame_open
    simp (disch := decide) only [↓ View.readCov_skip, ↓ View.readCov_cons_toLoadRect, ↓ View.readCov_fill]
    frame_out
    canon_tiles x h using View.cover_of_tiledBy _ ![512, 1024] (by sl_kernel_rfl) _
    · simp only [read_unread_whole]
      exact high_sum _ _ (outsAt0 m c (t.val - 1) _).2.2.2.2 _ x r k h0 h1
    · simp only [read_unread_whole]
      exact low_sum _ _ (outsAt0 m c (t.val - 1) _).2.2.2.2 _ x r k h0 h1

/-- Reading the whole accumulator back gives what its two stores left. -/
theorem reread (L : List (View.Piece (Elt Ideal) S1024x1024 .f32)) (inb) :
    (View.whole cc0_scratch0).readCov L (Rect.unit ![0, 0] ![1024, 1024] inb).toLoadRect = View.canon L :=
  (View.readCov_eq_canon' _ _ _).trans (View.ld_unit_zero (S := S1024x1024) (funext fun a => by fin_cases a <;> rfl) inb _)

theorem out6 (t : Fin cfg0.N) (h : t.val % 8 = 7) : (outsAt0 m c t.val t.isLt).1 = k0_pay3 (F := Ideal) (iblk m c 0 t) (outsAt0 m c t.val t.isLt).2.2.2.2 := by
  rw [outsAt0_C m c t (by omega) h]; frame_open
  simp (disch := decide) only [↓ View.readCov_skip, ↓ View.readCov_cons_toLoadRect, ↓ View.readCov_fill]
  frame_out
  rw [reread]

theorem out7 (t : Fin cfg0.N) (h : t.val % 8 = 7) : (outsAt0 m c t.val t.isLt).2.1 = k0_pay4 (F := Ideal) (iblk m c 0 t) (outsAt0 m c t.val t.isLt).2.2.2.2 (iblk m c 4 t) (iblk m c 5 t) := by
  rw [outsAt0_C m c t (by omega) h]; frame_open
  simp (disch := decide) only [↓ View.readCov_skip, ↓ View.readCov_cons_toLoadRect, ↓ View.readCov_fill]
  frame_out
  rw [reread]

theorem out8 (t : Fin cfg0.N) (h : t.val % 8 = 7) : (outsAt0 m c t.val t.isLt).2.2.1 = k0_pay5 (F := Ideal) (iblk m c 0 t) (outsAt0 m c t.val t.isLt).2.2.2.2 (iblk m c 4 t) (iblk m c 5 t) := by
  rw [outsAt0_C m c t (by omega) h]; frame_open
  simp (disch := decide) only [↓ View.readCov_skip, ↓ View.readCov_cons_toLoadRect, ↓ View.readCov_fill]
  frame_out
  rw [reread]

/-- A point's gate is the whole arrays'. -/
theorem gate_eq (t : Fin cfg0.N) (r : Fin 1024) (k : Fin 512) (R : Fin 2048) (hR : R.val = t.val / 8 * 1024 + r.val) (K : Fin 4096) (hK : K.val = t.val % 8 * 512 + k.val) :
    gate (iblk m c 1 t) (iblk m c 2 t) r k = val_main_v2 (F := Ideal) (m ((c : Thread nD τ).loc main_arg0)) (m ((c : Thread nD τ).loc main_arg1)) (ix2 R K) := by
  pointwise [gate, val_main_v2, val_main_v1, val_main_v0, val_main_call0_v0, val_main_call0_cst]
  refine congrArg (fun a : EReal => max a 0 * max a 0) (Finset.sum_congr rfl fun d _ => congr_arg₂ (· * ·) ?_ ?_)
  · blk_ext! [iblk, V, idx t]
  · blk_ext! [iblk, V, idx t]

theorem down_eq (t : Fin cfg0.N) (k : Fin 512) (d : Fin 1024) (K : Fin 4096) (hK : K.val = t.val % 8 * 512 + k.val) :
    (iblk m c 3 t : Vec Ideal S1x512x1024 .bf16) (ix3 0 k d) = m ((c : Thread nD τ).loc main_arg2) (ix2 K d) := by
  blk_ext! [iblk, V, idx t]

/-- What point `n` adds, as a function of the point's number. -/
def term (n : ℕ) (i : S1024x1024.Idx) : EReal := if h : n < cfg0.N then add m c ⟨n, h⟩ (i 0) (i 1) else 0

theorem acc (t : Fin cfg0.N) (ht : t.val % 8 = 7) (i : S1024x1024.Idx) :
    (outsAt0 m c t.val t.isLt).2.2.2.2 i = 0 + ∑ k ∈ Finset.range (7 + 1), term m c (8 * (t.val / 8) + k) i := by
  refine Pipeline.eq_sum_of_reset_step_apply_of_mod (fun n h => (outsAt0 m c n h).2.2.2.2) 8 (fun _ => (0 : EReal)) (term m c) (fun t h i => ?_) (fun t h i => ?_) t ht i
  · rw [eq_ix2 i]
    refine (acc_first m c t h _ _).trans (congrArg (0 + ·) ?_)
    rw [term, dif_pos t.isLt]
    rfl
  · rw [eq_ix2 i]
    refine (acc_next m c t h _ _).trans (congrArg (_ + ·) ?_)
    rw [term, dif_pos t.isLt]
    rfl

/-- After the last block of hidden columns the accumulator holds the whole second product. -/
theorem acc_eq (t : Fin cfg0.N) (ht : t.val % 8 = 7) (r k : Fin 1024) (R : Fin 2048) (hR : R.val = t.val / 8 * 1024 + r.val) :
    (outsAt0 m c t.val t.isLt).2.2.2.2 (ix2 r k) = val_main_v5 (F := Ideal) (m ((c : Thread nD τ).loc main_arg0)) (m ((c : Thread nD τ).loc main_arg1)) (m ((c : Thread nD τ).loc main_arg2)) (ix2 R k) := by
  have hn := lt_of_lt_of_eq t.isLt N_0
  have e : val_main_v5 (F := Ideal) (m ((c : Thread nD τ).loc main_arg0)) (m ((c : Thread nD τ).loc main_arg1)) (m ((c : Thread nD τ).loc main_arg2)) (ix2 R k)
      = ∑ J : Fin 4096, (val_main_v2 (F := Ideal) (m ((c : Thread nD τ).loc main_arg0)) (m ((c : Thread nD τ).loc main_arg1)) (ix2 R J) : EReal) * (m ((c : Thread nD τ).loc main_arg2) : FVec Ideal S4096x1024 .f32) (ix2 J k) := by
    pointwise [val_main_v5]
  rw [acc m c t ht, zero_add, Finset.sum_range, e]
  refine Eq.trans (Finset.sum_congr rfl fun j _ => ?_) (Fin.sum_mul_add_fin 8 512 (fun J : Fin 4096 => (val_main_v2 (F := Ideal) (m ((c : Thread nD τ).loc main_arg0)) (m ((c : Thread nD τ).loc main_arg1)) (ix2 R J) : EReal)
          * (m ((c : Thread nD τ).loc main_arg2) : FVec Ideal S4096x1024 .f32) (ix2 J k)) rfl)
  have hj : 8 * (t.val / 8) + j.val < cfg0.N := lt_of_lt_of_eq (by omega) N_0.symm
  rw [term, dif_pos hj]
  have hR' : R.val = (8 * (t.val / 8) + j.val) / 8 * 1024 + r.val := by omega
  refine Finset.sum_congr rfl fun l _ => ?_
  have hL : ∀ h, (⟨j.val * 512 + l.val, h⟩ : Fin 4096).val = (8 * (t.val / 8) + j.val) % 8 * 512 + l.val := fun h => by dsimp only; omega
  exact congr_arg₂ (· * ·) (gate_eq m c ⟨_, hj⟩ r l R hR' _ (hL _)) (down_eq m c ⟨_, hj⟩ l k _ (hL _))

theorem pt_6 (t : Fin cfg0.N) (p : Vec Ideal S1024x1024 .f32) (r k : Fin 1024) (R : Fin 2048) (hR : R.val = t.val / 8 * 1024 + r.val)
    (hp : ∀ k, p (ix2 r k) = val_main_v5 (F := Ideal) (m ((c : Thread nD τ).loc main_arg0)) (m ((c : Thread nD τ).loc main_arg1)) (m ((c : Thread nD τ).loc main_arg2)) (ix2 R k)) :
    k0_pay3 (F := Ideal) (iblk m c 0 t) p (ix2 r k) = val_main_v6 (F := Ideal) (m ((c : Thread nD τ).loc main_arg0)) (m ((c : Thread nD τ).loc main_arg1)) (m ((c : Thread nD τ).loc main_arg2)) (ix2 R k) := by
  pointwise [k0_pay3, val_main_v6, val_main_v4, val_main_v3, val_main_cst]
  rw [hp]
  blk_point [iblk, V, idx t]

theorem pt_7 (t : Fin cfg0.N) (p : Vec Ideal S1024x1024 .f32) (r k : Fin 1024) (R : Fin 2048) (hR : R.val = t.val / 8 * 1024 + r.val)
    (hp : ∀ k, p (ix2 r k) = val_main_v5 (F := Ideal) (m ((c : Thread nD τ).loc main_arg0)) (m ((c : Thread nD τ).loc main_arg1)) (m ((c : Thread nD τ).loc main_arg2)) (ix2 R k)) :
    k0_pay4 (F := Ideal) (iblk m c 0 t) p (iblk m c 4 t) (iblk m c 5 t) (ix2 r k) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R k) := by
  pointwise [k0_pay4, k0_pay3, val_main_v6, val_main_v4, val_main_v3, val_main_cst, val_main_v7, val_main_v8, val_main_v9, val_main_v10, val_main_cst_0, val_main_v11, val_main_v12, val_main_cst_1, val_main_v13, val_main_v14, val_main_v15, val_main_v16, val_main_v17, val_main_cst_2, val_main_v18, val_main_v19, val_main_cst_3, val_main_v20, val_main_v21, val_main_v22, val_main_v23, val_main_cst_4, val_main_v24, val_main_v25, val_main_v26, val_main_v27, val_main_v28, val_main_v29, val_main_v30, val_main_v31, val_main_v32, val_main_v33, val_main_v34]
  simp only [hp]
  blk_point [iblk, V, idx t]

theorem row_lt (t : Fin cfg0.N) (r : Fin 1024) : t.val / 8 * 1024 + r.val < 2048 := by
  have h := lt_of_lt_of_eq t.isLt N_0
  omega

theorem arr_6 : (dats m 0 c).arrAt 6 cfg0.N = val_main_v6 (F := Ideal) (m ((c : Thread nD τ).loc main_arg0)) (m ((c : Thread nD τ).loc main_arg1)) (m ((c : Thread nD τ).loc main_arg2)) := by
  refine (dats m 0 c).arrAt_eq_of_covers 6 _ (by decide +kernel) fun t hf (y : S1024x1024.Idx) => ?_
  have ht := (flush0_6 t).mp hf
  blk_simp
  rw [after0_6, out6 m c t ht]
  rw [eq_ix2 y]
  refine (pt_6 m c t _ (y 0) (y 1) ⟨t.val / 8 * 1024 + (y 0).val, row_lt t (y 0)⟩ rfl fun k => acc_eq m c t ht (y 0) k _ rfl).trans (congrArg (val_main_v6 (F := Ideal) (m ((c : Thread nD τ).loc main_arg0)) (m ((c : Thread nD τ).loc main_arg1)) (m ((c : Thread nD τ).loc main_arg2))) ?_)
  blk_ext [idx t]

theorem arr_7 : (dats m 0 c).arrAt 7 cfg0.N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf (y : S1024x1024.Idx) => ?_
  have ht := (flush0_7 t).mp hf
  blk_simp
  rw [after0_7, out7 m c t ht]
  rw [eq_ix2 y]
  refine (pt_7 m c t _ (y 0) (y 1) ⟨t.val / 8 * 1024 + (y 0).val, row_lt t (y 0)⟩ rfl fun k => acc_eq m c t ht (y 0) k _ rfl).trans (congrArg (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_)
  blk_ext [idx t]

theorem arr_8 : (dats m 0 c).arrAt 8 cfg0.N = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf (y : S1024x1024.Idx) => ?_
  have ht := (flush0_8 t).mp hf
  blk_simp
  rw [after0_8, out8 m c t ht]
  rw [eq_ix2 y]
  refine (pt_7 m c t _ (y 0) (y 1) ⟨t.val / 8 * 1024 + (y 0).val, row_lt t (y 0)⟩ rfl fun k => acc_eq m c t ht (y 0) k _ rfl).trans (congrArg (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_)
  blk_ext [idx t]

theorem arr_9 : (dats m 0 c).arrAt 9 cfg0.N = val_main_v36 (F := Ideal) (m ((c : Thread nD τ).loc main_arg0)) (m ((c : Thread nD τ).loc main_arg1)) := by
  refine (dats m 0 c).arrAt_eq_of_covers 9 _ (by decide +kernel) fun t hf (y : S1024x512.Idx) => ?_
  blk_simp
  rw [after0_9]
  rw [eq_ix2 y]
  refine (out9 m c t (y 0) (y 1)).trans ((gate_eq m c t (y 0) (y 1) ⟨t.val / 8 * 1024 + (y 0).val, row_lt t (y 0)⟩ rfl ⟨t.val % 8 * 512 + (y 1).val, by have h : (y 1).val < 512 := (y 1).isLt; omega⟩ rfl).trans
    (congrArg (val_main_v2 (F := Ideal) (m ((c : Thread nD τ).loc main_arg0)) (m ((c : Thread nD τ).loc main_arg1))) ?_))
  blk_ext [idx t]

end Cert.MlpF.K

namespace Cert.MlpF

open Idealize.ShloMosaic Idealize.ShloMosaic.TcCoe Idealize.SL.Sem

theorem frame_reference : Cert.quiescent_MlpFReferenceIdeal := fun m g _ =>
  (θ_run Cert.MlpFReferenceIdeal.defs _ _).mono (fun r h => ⟨fun c => (h c).2.2.2.2, sem_eq_zero_of_no_sems (by decide) r.2⟩)
    (MlpFReferenceIdeal.Value.run m g)

theorem value : Cert.algebraic_MlpFKernelIdeal_MlpFReferenceIdeal := by
  intro m g m' g' _ hm
  refine ⟨_, _, _, _, MlpFKernelIdeal.Value.run_blocks m g,
    (θ_run _ _ _).mono (fun r h c => ?_) (MlpFReferenceIdeal.Value.run m' g')⟩
  obtain ⟨h0, h1, h2, h3, hk⟩ := h c
  obtain ⟨e0, e1, e2, e3, e4⟩ := hm c
  rw [K.arr_6, K.arr_7, K.arr_8, K.arr_9, ← e0, ← e1, ← e2, ← e3, ← e4]
  exact ⟨h0.trans (MlpFReferenceIdeal.Read.val_main_v6_eq _ _ _), h1.trans (MlpFReferenceIdeal.Read.val_main_v34_eq _ _), h2.trans (MlpFReferenceIdeal.Read.val_main_v35_eq _ _),
    h3.trans (MlpFReferenceIdeal.Read.val_main_v36_eq _ _), hk⟩

end Cert.MlpF
end
-- ==== Proof.Down.lean ====
/- The down projection of the latent attention with its two norms and the rotated key: the kernel's two blocks of 1024 rows
against the whole arrays. -/
module

public import proofs.«01_k».proof.Defs
public import proofs.«01_k».proof.Proof.Common
public import Idealize.ShloMosaic.Lib.Quiescent
public import Idealize.ShloMosaic.Lib.Pipeline.ValueKit
public import proofs.«01_k».proof.Proof.Gen.DownKernelIdeal.Value
public import proofs.«01_k».proof.Proof.Gen.DownReferenceIdeal.Run
public import proofs.«01_k».proof.Proof.Gen.DownReferenceIdeal.Read

@[expose] public section

set_option maxRecDepth 16384

noncomputable section

namespace Cert.Down.K

open Cert.DownKernelIdeal Cert.DownKernelIdeal.Gen Cert.DownKernelIdeal.Value Cert.Common Idealize.ShloMosaic Idealize.ShloMosaic.TcCoe Idealize.SL.Sem
open Cert.DownReferenceIdeal.Read

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![1, 0, 0] ∧ win0_3.index t = ![1, 0, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0] :=
  (by decide +kernel : ∀ t : Fin grid0.N, _)

theorem row_lt (t : Fin cfg0.N) (r : Fin 1024) : t.val * 1024 + r.val < 2048 := by
  have h := lt_of_lt_of_eq t.isLt N_0
  omega

theorem pt_6 (t : Fin cfg0.N) (r : Fin 1024) (k : Fin 704) (R : Fin 2048) (hR : R.val = t.val * 1024 + r.val) :
    k0_pay3 (F := Ideal) (iblk m c 1 t) (iblk m c 0 t) (ix2 r k)
      = val_main_v0 (F := Ideal) (m ((c : Thread nD τ).loc main_arg0)) (m ((c : Thread nD τ).loc main_arg1)) (ix2 R k) := by
  rw [← val_main_v0_eq]
  pointwise [k0_pay3]
  blk_point [iblk, V, idx t]

theorem arr_6 : (dats m 0 c).arrAt 6 cfg0.N = val_main_v0 (F := Ideal) (m ((c : Thread nD τ).loc main_arg0)) (m ((c : Thread nD τ).loc main_arg1)) := by
  refine (dats m 0 c).arrAt_eq_of_covers 6 _ (by decide +kernel) fun t hf (y : S1024x704.Idx) => ?_
  blk_simp
  rw [after0_6]
  frame_out
  rw [eq_ix2 y]
  refine (pt_6 m c t (y 0) (y 1) ⟨t.val * 1024 + (y 0).val, row_lt t (y 0)⟩ rfl).trans (congrArg (val_main_v0 (F := Ideal) (m ((c : Thread nD τ).loc main_arg0)) (m ((c : Thread nD τ).loc main_arg1))) ?_)
  blk_ext [idx t]

theorem pt_7 (t : Fin cfg0.N) (r : Fin 1024) (k : Fin 384) (R : Fin 2048) (hR : R.val = t.val * 1024 + r.val) :
    k0_pay4 (F := Ideal) (iblk m c 1 t) (iblk m c 0 t) (iblk m c 2 t) (ix2 r k)
      = val_main_v33 (F := Ideal) (m ((c : Thread nD τ).loc main_arg0)) (m ((c : Thread nD τ).loc main_arg1)) (m ((c : Thread nD τ).loc main_arg2)) (ix2 R k) := by
  rw [← val_main_v33_eq]
  pointwise [k0_pay4, k0_pay3]
  blk_point [iblk, V, idx t]

theorem arr_7 : (dats m 0 c).arrAt 7 cfg0.N = val_main_v33 (F := Ideal) (m ((c : Thread nD τ).loc main_arg0)) (m ((c : Thread nD τ).loc main_arg1)) (m ((c : Thread nD τ).loc main_arg2)) := by
  refine (dats m 0 c).arrAt_eq_of_covers 7 _ (by decide +kernel) fun t hf (y : S1024x384.Idx) => ?_
  blk_simp
  rw [after0_7]
  frame_out
  rw [eq_ix2 y]
  refine (pt_7 m c t (y 0) (y 1) ⟨t.val * 1024 + (y 0).val, row_lt t (y 0)⟩ rfl).trans (congrArg (val_main_v33 (F := Ideal) (m ((c : Thread nD τ).loc main_arg0)) (m ((c : Thread nD τ).loc main_arg1)) (m ((c : Thread nD τ).loc main_arg2))) ?_)
  blk_ext [idx t]

theorem pt_8 (t : Fin cfg0.N) (r : Fin 1024) (k : Fin 256) (R : Fin 2048) (hR : R.val = t.val * 1024 + r.val) :
    k0_pay1 (F := Ideal) (k0_pay5 (iblk m c 1 t) (iblk m c 0 t)) (iblk m c 3 t) (ix2 r k)
      = val_main_v34 (F := Ideal) (m ((c : Thread nD τ).loc main_arg0)) (m ((c : Thread nD τ).loc main_arg1)) (m ((c : Thread nD τ).loc main_arg3)) (ix2 R k) := by
  rw [← val_main_v34_eq]
  pointwise [k0_pay1, k0_pay5, k0_pay3]
  blk_point [iblk, V, idx t]

theorem arr_8 : (dats m 0 c).arrAt 8 cfg0.N = val_main_v34 (F := Ideal) (m ((c : Thread nD τ).loc main_arg0)) (m ((c : Thread nD τ).loc main_arg1)) (m ((c : Thread nD τ).loc main_arg3)) := by
  refine (dats m 0 c).arrAt_eq_of_covers 8 _ (by decide +kernel) fun t hf (y : S1024x256.Idx) => ?_
  blk_simp
  rw [after0_8]
  frame_out
  rw [eq_ix2 y]
  refine (pt_8 m c t (y 0) (y 1) ⟨t.val * 1024 + (y 0).val, row_lt t (y 0)⟩ rfl).trans (congrArg (val_main_v34 (F := Ideal) (m ((c : Thread nD τ).loc main_arg0)) (m ((c : Thread nD τ).loc main_arg1)) (m ((c : Thread nD τ).loc main_arg3))) ?_)
  blk_ext [idx t]

theorem pt_9 (t : Fin cfg0.N) (r : Fin 1024) (k : Fin 64) (R : Fin 2048) (hR : R.val = t.val * 1024 + r.val) :
    k0_pay2 (F := Ideal) (k0_pay3 (iblk m c 1 t) (iblk m c 0 t)) (iblk m c 4 t) (iblk m c 5 t) (ix2 r k)
      = val_main_v44 (F := Ideal) (m ((c : Thread nD τ).loc main_arg0)) (m ((c : Thread nD τ).loc main_arg1)) (m ((c : Thread nD τ).loc main_arg4)) (m ((c : Thread nD τ).loc main_arg5)) (ix2 R k) := by
  rw [← val_main_v44_eq]
  pointwise [k0_pay2, k0_pay3]
  blk_point [iblk, V, idx t]

theorem arr_9 : (dats m 0 c).arrAt 9 cfg0.N = val_main_v44 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 9 _ (by decide +kernel) fun t hf (y : S1024x64.Idx) => ?_
  blk_simp
  rw [after0_9]
  frame_out
  rw [eq_ix2 y]
  refine (pt_9 m c t (y 0) (y 1) ⟨t.val * 1024 + (y 0).val, row_lt t (y 0)⟩ rfl).trans (congrArg (val_main_v44 (F := Ideal) (m ((c : Thread nD τ).loc main_arg0)) (m ((c : Thread nD τ).loc main_arg1)) (m ((c : Thread nD τ).loc main_arg4)) (m ((c : Thread nD τ).loc main_arg5))) ?_)
  blk_ext [idx t]

end Cert.Down.K

namespace Cert.Down

open Idealize.ShloMosaic Idealize.ShloMosaic.TcCoe Idealize.SL.Sem

theorem frame_reference : Cert.quiescent_DownReferenceIdeal := fun m g _ =>
  (θ_run Cert.DownReferenceIdeal.defs _ _).mono (fun r h => ⟨fun c => (h c).2.2.2.2, sem_eq_zero_of_no_sems (by decide) r.2⟩)
    (DownReferenceIdeal.Value.run m g)

theorem value : Cert.algebraic_DownKernelIdeal_DownReferenceIdeal := by
  intro m g m' g' _ hm
  refine ⟨_, _, _, _, DownKernelIdeal.Value.run_blocks m g,
    (θ_run _ _ _).mono (fun r h c => ?_) (DownReferenceIdeal.Value.run m' g')⟩
  obtain ⟨h0, h1, h2, h3, hk⟩ := h c
  obtain ⟨e0, e1, e2, e3, e4, e5⟩ := hm c
  rw [K.arr_6, K.arr_7, K.arr_8, K.arr_9, ← e0, ← e1, ← e2, ← e3, ← e4, ← e5]
  exact ⟨h0.trans (DownReferenceIdeal.Read.val_main_v0_eq _ _), h1.trans (DownReferenceIdeal.Read.val_main_v33_eq _ _ _), h2.trans (DownReferenceIdeal.Read.val_main_v34_eq _ _ _),
    h3.trans (DownReferenceIdeal.Read.val_main_v44_eq _ _ _ _), hk⟩

end Cert.Down
end
-- ==== Proof.Rope.lean ====
/- The tables of the rotary embedding: cosine and sine of position times inverse frequency. -/
module

public import proofs.«01_k».proof.Defs
public import proofs.«01_k».proof.Proof.Common
public import Idealize.ShloMosaic.Lib.Quiescent
public import Idealize.ShloMosaic.Lib.Pipeline.ValueKit
public import proofs.«01_k».proof.Proof.Gen.RopeKernelIdeal.Frame
public import proofs.«01_k».proof.Proof.Gen.RopeReferenceIdeal.Run
public import proofs.«01_k».proof.Proof.Gen.RopeReferenceIdeal.Read

@[expose] public section

set_option maxRecDepth 16384

noncomputable section

namespace Cert.Rope.K

open Cert.RopeKernelIdeal Cert.RopeKernelIdeal.Gen Cert.Common Idealize.ShloMosaic Idealize.ShloMosaic.TcCoe Idealize.SL.Sem
open Cert.RopeReferenceIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem pt_2 (t : Fin cfg0.N) (r : Fin 2048) (k : Fin 32) :
    k0_pay2 (F := Ideal) (iblk m c 0 t) (iblk m c 1 t) (ix2 r k) = val_main_v16 (F := Ideal) (m ((c : Thread nD τ).loc main_arg0)) (ix2 r k) := by
  rw [← val_main_v16_eq]
  pointwise [k0_pay2, k0_pay1]
  blk_point [iblk, V, idx t]

theorem arr_2 : (dats m 0 c).arrAt 2 cfg0.N = val_main_v16 (F := Ideal) (m ((c : Thread nD τ).loc main_arg0)) := by
  refine (dats m 0 c).arrAt_eq_of_covers 2 _ (by decide +kernel) fun t hf (y : S2048x32.Idx) => ?_
  blk_simp
  rw [after0_2]
  frame_out
  rw [eq_ix2 y]
  refine (pt_2 m c t (y 0) (y 1)).trans (congrArg (val_main_v16 (F := Ideal) (m ((c : Thread nD τ).loc main_arg0))) ?_)
  blk_ext [idx t]

theorem pt_3 (t : Fin cfg0.N) (r : Fin 2048) (k : Fin 32) :
    k0_pay3 (F := Ideal) (iblk m c 0 t) (iblk m c 1 t) (ix2 r k) = val_main_v17 (F := Ideal) (m ((c : Thread nD τ).loc main_arg0)) (ix2 r k) := by
  rw [← val_main_v17_eq]
  pointwise [k0_pay3, k0_pay1]
  blk_point [iblk, V, idx t]

theorem arr_3 : (dats m 0 c).arrAt 3 cfg0.N = val_main_v17 (F := Ideal) (m ((c : Thread nD τ).loc main_arg0)) := by
  refine (dats m 0 c).arrAt_eq_of_covers 3 _ (by decide +kernel) fun t hf (y : S2048x32.Idx) => ?_
  blk_simp
  rw [after0_3]
  frame_out
  rw [eq_ix2 y]
  refine (pt_3 m c t (y 0) (y 1)).trans (congrArg (val_main_v17 (F := Ideal) (m ((c : Thread nD τ).loc main_arg0))) ?_)
  blk_ext [idx t]

/-- The run of the kernel leaves the two arrays the grid's blocks make up, and the positions as they were. -/
theorem run (ρ : Dev nD → PrngReg) : θ_run defs (onTc (τ := τ) (main (F := Ideal))) ⟨m, fun _ => 0, ρ⟩ fun r => ∀ c : Dev nD,
      r.2.mem ((c : Thread nD τ).loc main_v12_0) = (dats m 0 c).arrAt 2 cfg0.N
      ∧ r.2.mem ((c : Thread nD τ).loc main_v12_1) = (dats m 0 c).arrAt 3 cfg0.N
      ∧ r.2.mem ((c : Thread nD τ).loc main_arg0) = m ((c : Thread nD τ).loc main_arg0) :=
  (θ_run defs _ _).mono (fun r h c => ⟨(h c).1 2, (h c).1 3,
      ((h c).2 main_arg0 (Pipeline.mem_restRefs_of main_arg0 (by decide) (by decide))).trans (V_main_arg0 m c)⟩) (run_main m ρ)

end Cert.Rope.K

namespace Cert.Rope

open Idealize.ShloMosaic Idealize.ShloMosaic.TcCoe Idealize.SL.Sem

theorem frame_reference : Cert.quiescent_RopeReferenceIdeal := fun m g _ =>
  (θ_run Cert.RopeReferenceIdeal.defs _ _).mono (fun r h => ⟨fun c => (h c).2.2, sem_eq_zero_of_no_sems (by decide) r.2⟩)
    (RopeReferenceIdeal.Value.run m g)

theorem value : Cert.algebraic_RopeKernelIdeal_RopeReferenceIdeal := by
  intro m g m' g' _ hm
  refine ⟨_, _, K.run m g,
    (θ_run _ _ _).mono (fun r h c => ?_) (RopeReferenceIdeal.Value.run m' g')⟩
  obtain ⟨h0, h1, hk⟩ := h c
  have e0 := hm c
  rw [K.arr_2, K.arr_3, ← e0]
  exact ⟨h0.trans (RopeReferenceIdeal.Read.val_main_v16_eq _), h1.trans (RopeReferenceIdeal.Read.val_main_v17_eq _), hk⟩

end Cert.Rope
end
-- ==== Proof.PoolF.lean ====
/- The four windowed means, their products with the group matrices, and the scale. -/
module

public import proofs.«01_k».proof.Defs
public import proofs.«01_k».proof.Proof.Pool
public import proofs.«01_k».proof.Proof.Gen.PoolFKernelIdeal.Value
public import proofs.«01_k».proof.Proof.Gen.PoolFReferenceIdeal.Run
public import proofs.«01_k».proof.Proof.Gen.PoolFReferenceIdeal.Read

@[expose] public section

set_option maxRecDepth 16384

noncomputable section

namespace Cert.PoolF

open Idealize.ShloMosaic Cert.Pool

/-- A row of the result: the differences of windowed mean and input through a group's matrix, times the scale. -/
def spec (P : Fin 2048 → Fin 512 → ℝ) (W : Fin 4 → Fin 128 → Fin 128 → EReal) (Z : Fin 512 → EReal) (g : Fin 4) (c : Fin 128) (r : Fin 2048) : EReal :=
  (∑ k : Fin 128, (delta P g k r : EReal) * W g k c) * Z (lane g c)

end Cert.PoolF

namespace Cert.PoolF.K

open Cert.PoolFKernelIdeal Cert.PoolFKernelIdeal.Gen Cert.PoolFKernelIdeal.Value Idealize.ShloMosaic Idealize.ShloMosaic.TcCoe Idealize.SL.Sem Cert.Common Cert.Pool

/-- A group's columns of the result, of blocks. -/
def fwd (g : Fin 4) (u : Vec Ideal S2048x128 .f32) (w : Vec Ideal S1x1x128x128 .f32) (s : Vec Ideal S1x1x128 .f32) : FVec Ideal S2048x128 .bf16 :=
  truncf (F := Ideal) .bf16 (mulf (F := Ideal) (φ := .f32) (matmul (F := Ideal) dot_S2048x128_S128x128_S2048x128_1_0_0_1_n_n none (truncf (F := Ideal) .bf16 (Pool.K.diff g u) bitsLt_bf16_f32)
      (truncf (F := Ideal) .bf16 (shapeCast S128x128 w shapeCasts_S1x1x128x128_S128x128) bitsLt_bf16_f32) (constant S2048x128 .f32 0x00000000#32))
    (broadcastTo S2048x128 (shapeCast S1x128 s shapeCasts_S1x1x128_S1x128) broadcasts_S1x128_S2048x128)) bitsLt_bf16_f32

theorem pays (u : Vec Ideal S2048x128 .f32) (w : Vec Ideal S1x1x128x128 .f32) (s : Vec Ideal S1x1x128 .f32) :
    k0_pay2 u w s = fwd 0 u w s ∧ k0_pay5 Pool.K.io u (k0_pay3 (F := Ideal)) (k0_pay4 (F := Ideal)) w s = fwd 1 u w s
    ∧ k0_pay8 Pool.K.io u (k0_pay6 (F := Ideal) Pool.K.io) (k0_pay7 Pool.K.io) 1#32 w s = fwd 2 u w s ∧ k0_pay1 Pool.K.io u (k0_pay9 (F := Ideal) Pool.K.io) w s = fwd 3 u w s :=
  ⟨rfl, rfl, rfl, rfl⟩

theorem fwd_apply (P : Fin 2048 → Fin 512 → ℝ) (g : Fin 4) (u : Vec Ideal S2048x128 .f32) (w : Vec Ideal S1x1x128x128 .f32) (s : Vec Ideal S1x1x128 .f32)
    (hu : ∀ r c, u (ix2 r c) = (P r (lane g c) : EReal)) (r : Fin 2048) (c : Fin 128) :
    fwd g u w s (ix2 r c) = (∑ k : Fin 128, (delta P g k r : EReal) * w (ix4 0 0 k c)) * s (ix3 0 0 c) := by
  have hd := Pool.K.diff_coe P g u hu r
  unfold fwd
  pointwise []
  simp only [hd]

section Outs
variable (P : Fin 2048 → Fin 512 → ℝ) (x0 : Vec Ideal S2048x512 .f32) (x1 : Vec Ideal S1x4x128x128 .f32) (x2 : Vec Ideal S1x1x512 .f32)

theorem out3_apply (a0 : ∀ r k, x0 (ix2 r k) = (P r k : EReal)) (r : Fin 2048) (g : Fin 4) (k : Fin 128) :
    out0_3 x0 x1 x2 (ix2 r (lane g k)) = spec P (fun g k c => x1 (ix4 0 g k c)) (fun k => x2 (ix3 0 0 k)) g k r := by
  unfold_out out0_3
  canon_tiles x h using View.cover_of_tiledBy _ ![2048, 128] (by sl_kernel_rfl) _
  · obtain ⟨u, v, rfl⟩ : ∃ (u : Fin 2048) (v : Fin 128), x = ix2 u v := ⟨_, _, eq_ix2 x⟩
    obtain rfl : r = u := Fin.ext h0
    obtain ⟨rfl, rfl⟩ := Pool.K.band g 3 k v h1
    exact (congrFun (pays _ _ _).2.2.2 _).trans ((fwd_apply P 3 _ _ _ (fun r c => (Pool.K.ld_cols x0 3 _ rfl _ r c).trans (a0 _ _)) r k).trans
      (congr_arg₂ (· * ·) (Finset.sum_congr rfl fun l _ => congrArg (_ * ·) (Pool.K.ld_mat x1 3 _ rfl _ l k)) (Pool.K.ld_scale x2 3 _ rfl _ k)))
  · obtain ⟨u, v, rfl⟩ : ∃ (u : Fin 2048) (v : Fin 128), x = ix2 u v := ⟨_, _, eq_ix2 x⟩
    obtain rfl : r = u := Fin.ext h0
    obtain ⟨rfl, rfl⟩ := Pool.K.band g 2 k v h1
    exact (congrFun (pays _ _ _).2.2.1 _).trans ((fwd_apply P 2 _ _ _ (fun r c => (Pool.K.ld_cols x0 2 _ rfl _ r c).trans (a0 _ _)) r k).trans
      (congr_arg₂ (· * ·) (Finset.sum_congr rfl fun l _ => congrArg (_ * ·) (Pool.K.ld_mat x1 2 _ rfl _ l k)) (Pool.K.ld_scale x2 2 _ rfl _ k)))
  · obtain ⟨u, v, rfl⟩ : ∃ (u : Fin 2048) (v : Fin 128), x = ix2 u v := ⟨_, _, eq_ix2 x⟩
    obtain rfl : r = u := Fin.ext h0
    obtain ⟨rfl, rfl⟩ := Pool.K.band g 1 k v h1
    exact (congrFun (pays _ _ _).2.1 _).trans ((fwd_apply P 1 _ _ _ (fun r c => (Pool.K.ld_cols x0 1 _ rfl _ r c).trans (a0 _ _)) r k).trans
      (congr_arg₂ (· * ·) (Finset.sum_congr rfl fun l _ => congrArg (_ * ·) (Pool.K.ld_mat x1 1 _ rfl _ l k)) (Pool.K.ld_scale x2 1 _ rfl _ k)))
  · obtain ⟨u, v, rfl⟩ : ∃ (u : Fin 2048) (v : Fin 128), x = ix2 u v := ⟨_, _, eq_ix2 x⟩
    obtain rfl : r = u := Fin.ext h0
    obtain ⟨rfl, rfl⟩ := Pool.K.band g 0 k v (h1.trans (by show v.val = 0 * 128 + v.val; omega))
    exact (congrFun (pays _ _ _).1 _).trans ((fwd_apply P 0 _ _ _ (fun r c => (Pool.K.ld_cols x0 0 _ rfl _ r c).trans (a0 _ _)) r k).trans
      (congr_arg₂ (· * ·) (Finset.sum_congr rfl fun l _ => congrArg (_ * ·) (Pool.K.ld_mat x1 0 _ rfl _ l k)) (Pool.K.ld_scale x2 0 _ rfl _ k)))

end Outs

variable (m : (ℓ : Loc nD τ sig) → Buf (Elt Ideal) ℓ)

theorem idx : ∀ t : Fin cfg0.N, win0_0.index t = ![0, 0] ∧ win0_1.index t = ![1, 0, 0, 0] ∧ win0_2.index t = ![1, 0, 0] ∧ win0_3.index t = ![0, 0] :=
  (by decide +kernel : ∀ t : Fin grid0.N, win0_0.index t = ![0, 0] ∧ win0_1.index t = ![1, 0, 0, 0] ∧ win0_2.index t = ![1, 0, 0] ∧ win0_3.index t = ![0, 0])

theorem iblk_0 (c : Dev nD) (t : Fin cfg0.N) (r : Fin 2048) (k : Fin 512) :
    (iblk m c 0 t : Vec Ideal S2048x512 .f32) (ix2 r k) = m ((c : Thread nD τ).loc main_arg0) (ix2 r ⟨k.val, by omega⟩) := by
  blk_ext! [iblk, V, idx t]
theorem iblk_1 (c : Dev nD) (t : Fin cfg0.N) (g : Fin 4) (k l : Fin 128) :
    (iblk m c 1 t : Vec Ideal S1x4x128x128 .f32) (ix4 0 g k l) = m ((c : Thread nD τ).loc main_arg1) (ix4 1 g k l) := by
  blk_ext! [iblk, V, idx t]
theorem iblk_2 (c : Dev nD) (t : Fin cfg0.N) (k : Fin 512) :
    (iblk m c 2 t : Vec Ideal S1x1x512 .f32) (ix3 0 0 k) = m ((c : Thread nD τ).loc main_arg2) (ix2 1 k) := by
  blk_ext! [iblk, V, idx t]

theorem arr_3 (c : Dev nD) (t : Fin cfg0.N) (r : Fin 2048) (k : Fin 512) :
    ((dats m 0 c).arrAt 3 cfg0.N : FVec Ideal S2048x512 .bf16) (ix2 r k) = out0_3 (iblk m c 0 t) (iblk m c 1 t) (iblk m c 2 t) (ix2 r k) := by
  have h := congrFun (blocks3 m c t (flush0_3 t)) (ix2 r k)
  rw [View.read_apply, flushed3] at h
  refine Eq.trans (congrArg (dats m 0 c |>.arrAt 3 cfg0.N) ?_) h
  blk_ext [idx t]

/-- The array after the region, of finite columns. -/
theorem result (c : Dev nD) (P : Fin 2048 → Fin 512 → ℝ) (hP : ∀ r k, m ((c : Thread nD τ).loc main_arg0) (ix2 r ⟨(k : Fin 512).val, by omega⟩) = (P r k : EReal))
    (r : Fin 2048) (g : Fin 4) (k : Fin 128) :
    ((dats m 0 c).arrAt 3 cfg0.N : FVec Ideal S2048x512 .bf16) (ix2 r (lane g k))
      = spec P (fun g k c' => m ((c : Thread nD τ).loc main_arg1) (ix4 1 g k c')) (fun k => m ((c : Thread nD τ).loc main_arg2) (ix2 1 k)) g k r := by
  have t : Fin cfg0.N := ⟨0, by rw [show cfg0.N = 1 from N_0]; omega⟩
  refine (arr_3 m c t r _).trans ((out3_apply P _ _ _ (fun r k => (iblk_0 m c t r k).trans (hP r k)) r g k).trans ?_)
  exact congr_arg₂ (fun W Z => spec P W Z g k r) (funext fun g => funext fun k => funext fun l => iblk_1 m c t g k l) (funext fun k => iblk_2 m c t k)

end Cert.PoolF.K

namespace Cert.PoolF.R

open Cert.PoolFReferenceIdeal Cert.PoolFReferenceIdeal.Read Idealize.ShloMosaic Idealize.ShloMosaic.TcCoe Idealize.SL.Sem Cert.Common Cert.Pool Cert.Window

section Reads
variable (p : FVec Ideal S2048x2560 .f32) (w : FVec Ideal S2x4x128x128 .f32) (s : FVec Ideal S2x512 .f32) (P : Fin 2048 → Fin 512 → ℝ)
  (hP : ∀ r k, p (ix2 r ⟨(k : Fin 512).val, by omega⟩) = (P r k : EReal))

include hP in
theorem v6 (r : Fin 2048) (g : Fin 4) (c : Fin 128) : val_main_v6 (F := Ideal) p (ix4 0 r g c) = (P r (lane g c) : EReal) := by
  pointwise [val_main_v6, val_main_v1, val_main_v0]
  exact hP r (lane g c)

include hP in
theorem v7 (r : Fin 2048) (g : Fin 4) (c : Fin 128) :
    val_main_v7 (F := Ideal) p (ix4 0 r g c) = ((∑ i ∈ Finset.range (r.val + 1), ext (fun n => P n (lane g c)) i : ℝ) : EReal) := by
  unfold val_main_v7
  refine (window_add _ _ (by pointwise [val_main_call0_call0_v0, val_main_call0_call0_cst]) _ _ 0 r g c).trans ?_
  rw [← prefix_eq 2048 _ _ r.isLt, coe_sum]
  refine Finset.sum_congr rfl fun i hi => ?_
  have hi := Finset.mem_range.1 hi
  have hr := r.isLt
  by_cases h : 2048 - 1 ≤ r.val + i
  · rw [if_pos h, dif_pos (by omega), ext, dif_pos (by omega)]
    exact v6 p P hP _ g c
  · rw [if_neg h, dif_neg (by omega)]; rfl

include hP in
theorem v81 (r : Fin 2048) (g : Fin 4) (c : Fin 128) : val_main_v81 (F := Ideal) p (ix4 0 r g c) = (delta P g c r : EReal) := by
  have h7 := v7 p P hP
  have h6 := v6 p P hP
  fin_cases g
  · pointwise [val_main_v81, val_main_v77, val_main_v8, val_main_cst, val_main_c, val_main_c_0, val_main_v9, val_main_v10, val_main_v11, val_main_v12, val_main_v13, val_main_v14, val_main_v15, val_main_v16, val_main_v17, val_main_v18, val_main_v19, val_main_v20, val_main_v21, val_main_v22, val_main_v23, val_main_v24, val_main_v25]
    simp only [h7, h6]
    exact (congrArg (fun q => Ideal.div _ q - _) (count 0 r)).trans (Pool.R.forward _ 2 r.val r.isLt _ (rows_pos 0 r).ne' _)
  · pointwise [val_main_v81, val_main_v78, val_main_v8, val_main_cst_1, val_main_c_2, val_main_c_3, val_main_v26, val_main_v27, val_main_v28, val_main_v29, val_main_v30, val_main_v31, val_main_v32, val_main_v33, val_main_v34, val_main_v35, val_main_v36, val_main_v37, val_main_v38, val_main_v39, val_main_v40, val_main_v41, val_main_v42]
    simp only [h7, h6]
    exact (congrArg (fun q => Ideal.div _ q - _) (count 1 r)).trans (Pool.R.forward _ 4 r.val r.isLt _ (rows_pos 1 r).ne' _)
  · pointwise [val_main_v81, val_main_v79, val_main_v8, val_main_cst_4, val_main_c_5, val_main_c_6, val_main_v43, val_main_v44, val_main_v45, val_main_v46, val_main_v47, val_main_v48, val_main_v49, val_main_v50, val_main_v51, val_main_v52, val_main_v53, val_main_v54, val_main_v55, val_main_v56, val_main_v57, val_main_v58, val_main_v59]
    simp only [h7, h6]
    exact (congrArg (fun q => Ideal.div _ q - _) (count 2 r)).trans (Pool.R.forward _ 8 r.val r.isLt _ (rows_pos 2 r).ne' _)
  · pointwise [val_main_v81, val_main_v80, val_main_v8, val_main_cst_7, val_main_c_8, val_main_c_9, val_main_v60, val_main_v61, val_main_v62, val_main_v63, val_main_v64, val_main_v65, val_main_v66, val_main_v67, val_main_v68, val_main_v69, val_main_v70, val_main_v71, val_main_v72, val_main_v73, val_main_v74, val_main_v75, val_main_v76]
    simp only [h7, h6]
    exact (congrArg (fun q => Ideal.div _ q - _) (count 3 r)).trans (Pool.R.forward _ 16 r.val r.isLt _ (rows_pos 3 r).ne' _)

include hP in
theorem v89 (r : Fin 2048) (g : Fin 4) (c : Fin 128) :
    val_main_v89 (F := Ideal) p w s (ix2 r (lane g c)) = spec P (fun g k l => w (ix4 1 g k l)) (fun k => s (ix2 1 k)) g c r := by
  have h81 := v81 p P hP r g
  have e : val_main_v83 (F := Ideal) p w (ix4 0 r g c) = ∑ k : Fin 128, (delta P g k r : EReal) * w (ix4 1 g k c) := by
    pointwise [val_main_v83, val_main_v82, val_main_v3, val_main_v2]
    exact Finset.sum_congr rfl fun k _ => (mul_comm _ _).trans (congrArg (· * _) (h81 k))
  have e' : val_main_v89 (F := Ideal) p w s (ix2 r (lane g c)) = val_main_v83 (F := Ideal) p w (ix4 0 r g c) * s (ix2 1 (lane g c)) := by
    pointwise [val_main_v89, val_main_v88, val_main_v87, val_main_v84, val_main_v86, val_main_v85, val_main_v5, val_main_v4]
    exact congr_arg₂ (fun a b => val_main_v83 (F := Ideal) p w (ix4 0 r a b) * s (ix2 1 (lane g c))) (Fin.ext (by show (g.val * 128 + c.val) / 128 = g.val; omega))
      (Fin.ext (by show (g.val * 128 + c.val) % 128 = c.val; omega))
  rw [e', e, spec]

end Reads

end Cert.PoolF.R

namespace Cert.PoolF

open Idealize.ShloMosaic Idealize.ShloMosaic.TcCoe Idealize.SL.Sem Cert.Common Cert.Pool

theorem pre_facts : Cert.Pre_finite_pool_fwd.Facts where
  slices_S2048x2560_S2048x512_0_0 := by decide
  bcast_S_S2048x512 := by decide
  reducesTo_S2048x512_S_d0_1 := by decide
  h_S_ := by decide

theorem frame_reference : Cert.quiescent_PoolFReferenceIdeal := fun m g _ =>
  (θ_run Cert.PoolFReferenceIdeal.defs _ _).mono (fun r h => ⟨fun c => (h c).2, sem_eq_zero_of_no_sems (by decide) r.2⟩)
    (PoolFReferenceIdeal.Value.run m g)

/-- What the precondition says: the branch's columns are real numbers. -/
theorem reals [Cert.Pre_finite_pool_fwd.Facts] {p : FVec Ideal ⟨2, ![2048, 2560]⟩ .f32} {w : FVec Ideal ⟨4, ![2, 4, 128, 128]⟩ .f32}
    {z : FVec Ideal ⟨2, ![2, 512]⟩ .f32} (h : Cert.Pre_finite_pool_fwd.fn (F := Ideal) p w z = fun _ => 1#1) :
    ∃ P : Fin 2048 → Fin 512 → ℝ, ∀ r k, p (ix2 r ⟨(k : Fin 512).val, by omega⟩) = (P r k : EReal) := by
  obtain ⟨P, hP⟩ := reals_of_all _ _ _ (fun _ => w_inf) _ _ _ (congrFun h ix0)
  exact ⟨fun r k => P (ix2 r k), fun r k => Eq.trans (by pointwise []) (hP (ix2 r k))⟩

theorem value : Cert.algebraic_PoolFKernelIdeal_PoolFReferenceIdeal_pre_finite_pool_fwd (hPre_finite_pool_fwd := pre_facts) := by
  intro m g m' g' hp hm
  refine ⟨_, PoolFKernelIdeal.Value.run_blocks m g,
    (θ_run _ _ _).mono (fun r h c => ?_) (PoolFReferenceIdeal.Value.run m' g')⟩
  obtain ⟨h0, hk⟩ := h c
  obtain ⟨e0, e1, e2⟩ := hm c
  obtain ⟨P, hP⟩ := @reals pre_facts _ _ _ (hp c)
  refine ⟨(h0.trans (PoolFReferenceIdeal.Read.val_main_v89_eq _ _)).trans ?_, hk⟩
  rw [e0, e1, e2]
  funext i
  obtain ⟨r, K, rfl⟩ : ∃ (r : Fin 2048) (K : Fin 512), i = ix2 r K := ⟨_, _, eq_ix2 i⟩
  obtain ⟨g, k, rfl⟩ := exists_lane K
  exact (R.v89 _ _ _ P hP r g k).trans (K.result m c P hP r g k).symm

end Cert.PoolF
end
-- ==== Proof.Recurrence.lean ====
/- A linear recurrence h_n = a_n · h_{n-1} + b_n over the extended reals, as the doubling of windows computes it; and the
   gate of the recurrence: the decay lies in [0, 1], and both ways of writing one minus its square agree. -/
module

public import proofs.«01_k».proof.Proof.Common

@[expose] public section

noncomputable section

namespace Cert.Recurrence

open Idealize.ShloMosaic

variable (a b : ℕ → EReal)

/-- The product of the last `k` decays up to `n`. -/
def P : ℕ → ℕ → EReal
  | 0, _ => 1
  | k + 1, n => if k ≤ n then P k n * a (n - k) else P k n

/-- What the last `k` inputs up to `n` leave of themselves at `n`. -/
def Q : ℕ → ℕ → EReal
  | 0, _ => 0
  | k + 1, n => if k ≤ n then P a k n * b (n - k) + Q k n else Q k n

/-- The recurrence itself, from zero. -/
def H : ℕ → EReal
  | 0 => a 0 * 0 + b 0
  | n + 1 => a (n + 1) * H n + b (n + 1)

theorem P_one (n : ℕ) : P a 1 n = a n := by simp [P]
theorem Q_one (n : ℕ) : Q a b 1 n = b n := by simp [P, Q]

theorem P_add (k n : ℕ) : ∀ l, P a (k + l) n = P a k n * (if k ≤ n then P a l (n - k) else 1)
  | 0 => by simp [P]
  | l + 1 => by
    show (if k + l ≤ n then P a (k + l) n * a (n - (k + l)) else P a (k + l) n) = _
    rw [P_add k n l]
    by_cases h : k ≤ n
    · rw [if_pos h, if_pos h]
      by_cases h' : k + l ≤ n
      · rw [if_pos h', P, if_pos (by omega), mul_assoc, Nat.sub_sub]
      · rw [if_neg h', P, if_neg (by omega)]
    · rw [if_neg (by omega), if_neg h, if_neg h]

/-- Every decay is a real number that is not negative. -/
def Decays : Prop := ∀ n, ∃ r : ℝ, 0 ≤ r ∧ a n = (r : EReal)

variable {a}

theorem P_real (ha : Decays a) (n : ℕ) : ∀ k, ∃ r : ℝ, 0 ≤ r ∧ P a k n = (r : EReal)
  | 0 => ⟨1, zero_le_one, rfl⟩
  | k + 1 => by
    obtain ⟨r, hr, e⟩ := P_real ha n k
    obtain ⟨q, hq, f⟩ := ha (n - k)
    rw [P]
    split
    · exact ⟨r * q, mul_nonneg hr hq, by rw [e, f, EReal.coe_mul]⟩
    · exact ⟨r, hr, e⟩

theorem Q_add (ha : Decays a) (k n : ℕ) : ∀ l, Q a b (k + l) n = P a k n * (if k ≤ n then Q a b l (n - k) else 0) + Q a b k n
  | 0 => by simp [Q]
  | l + 1 => by
    show (if k + l ≤ n then P a (k + l) n * b (n - (k + l)) + Q a b (k + l) n else Q a b (k + l) n) = _
    rw [Q_add ha k n l]
    by_cases h : k ≤ n
    · rw [if_pos h, if_pos h]
      by_cases h' : k + l ≤ n
      · obtain ⟨r, hr, e⟩ := P_real ha n k
        rw [if_pos h', P_add, if_pos h, Q, if_pos (by omega), e, EReal.left_distrib_of_nonneg_of_ne_top (EReal.coe_nonneg.2 hr) (EReal.coe_ne_top _), Nat.sub_sub, mul_assoc, add_assoc]
      · rw [if_neg h', Q, if_neg (by omega)]
    · rw [if_neg (by omega), if_neg h, if_neg h]

/-- The whole window's sum is the recurrence. -/
theorem Q_all (ha : Decays a) : ∀ n, Q a b (n + 1) n = H a b n
  | 0 => by rw [Q_one, H, mul_zero, zero_add]
  | n + 1 => by
    rw [show n + 1 + 1 = 1 + (n + 1) by omega, Q_add b ha, if_pos (by omega), P_one, Q_one, Nat.add_sub_cancel, Q_all ha n, H]

theorem Q_stable (n : ℕ) : ∀ l, Q a b (n + 1 + l) n = Q a b (n + 1) n
  | 0 => rfl
  | l + 1 => by
    show (if n + 1 + l ≤ n then _ else Q a b (n + 1 + l) n) = _
    rw [if_neg (by omega), Q_stable n l]

theorem Q_eq (ha : Decays a) (k n : ℕ) (h : n < k) : Q a b k n = H a b n := by
  obtain ⟨l, rfl⟩ := Nat.exists_eq_add_of_lt h
  rw [show n + l + 1 = n + 1 + l by omega, Q_stable, Q_all b ha]

theorem H_congr {T : ℕ} {a' b' : ℕ → EReal} (h : ∀ n, n < T → a n = a' n ∧ b n = b' n) : ∀ n, n < T → H a b n = H a' b' n
  | 0, hn => by rw [H, H, (h 0 hn).1, (h 0 hn).2]
  | n + 1, hn => by rw [H, H, (h _ hn).1, (h _ hn).2, H_congr h n (by omega)]

/-! The gate. -/

theorem exp_nonneg (x : EReal) : 0 ≤ Ideal.exp x := by
  induction x using EReal.rec with
  | bot => exact le_rfl
  | top => exact le_top
  | coe x => exact EReal.coe_nonneg.2 (Real.exp_pos x).le

/-- A logistic is a real number that is not negative. -/
theorem logistic_real (x : EReal) : ∃ r : ℝ, 0 ≤ r ∧ Ideal.logistic x = (r : EReal) := by
  unfold Ideal.logistic
  have h := exp_nonneg (-x)
  generalize Ideal.exp (-x) = e at h
  induction e using EReal.rec with
  | bot => exact absurd h (by simp)
  | top => exact ⟨0, le_rfl, by rw [EReal.add_top_of_ne_bot (by decide)]; simp [Ideal.div]⟩
  | coe e =>
    have he : (0 : ℝ) < 1 + e := by have := EReal.coe_nonneg.1 h; linarith
    refine ⟨(1 + e)⁻¹, (inv_pos.2 he).le, ?_⟩
    have hd : (1 : EReal) + (e : EReal) = ((1 + e : ℝ) : EReal) := by rw [EReal.coe_add, EReal.coe_one]
    rw [hd, Ideal.div, if_neg (by exact_mod_cast he.ne'), one_mul, EReal.coe_inv]

/-- A softplus is not negative, whatever its argument. -/
theorem softplus_nonneg (u v : EReal) : 0 ≤ max u 0 + Ideal.log1p (Ideal.exp v) := by
  refine add_nonneg (le_max_right _ _) ?_
  unfold Ideal.log1p
  have h := exp_nonneg v
  generalize Ideal.exp v = e at h
  induction e using EReal.rec with
  | bot => exact absurd h (by simp)
  | top => rw [EReal.add_top_of_ne_bot (by decide)]; exact le_top
  | coe e =>
    have he := EReal.coe_nonneg.1 h
    have hd : (1 : EReal) + (e : EReal) = ((1 + e : ℝ) : EReal) := by rw [EReal.coe_add, EReal.coe_one]
    rw [hd]
    show 0 ≤ if 1 + e ≤ 0 then ⊥ else (Real.log (1 + e) : EReal)
    rw [if_neg (by linarith)]
    exact EReal.coe_nonneg.2 (Real.log_nonneg (by linarith))

/-- A decay's exponent: minus eight times a logistic times something not negative. -/
theorem exponent_nonpos (x s : EReal) (hs : 0 ≤ s) : (((-8 : ℝ) : EReal) * Ideal.logistic x) * s ≤ 0 := by
  obtain ⟨r, hr, e⟩ := logistic_real x
  rw [e, ← EReal.coe_mul]
  exact mul_nonpos_of_nonpos_of_nonneg (EReal.coe_nonpos.2 (by nlinarith)) hs

/-- A decay's exponent is not positive: then the decay is real, and its square's complement has two forms. -/
theorem decay_real (L : EReal) (h : L ≤ 0) : ∃ r : ℝ, 0 ≤ r ∧ Ideal.exp L = (r : EReal) := by
  induction L using EReal.rec with
  | bot => exact ⟨0, le_rfl, rfl⟩
  | top => exact absurd h (by simp)
  | coe x => exact ⟨Real.exp x, (Real.exp_pos x).le, rfl⟩

theorem complement (L : EReal) (h : L ≤ 0) :
    (0 - Ideal.tanh L) * (Ideal.exp L * Ideal.exp L + 1) = -Ideal.expm1 (((2 : ℝ) : EReal) * L) := by
  unfold Ideal.expm1
  induction L using EReal.rec with
  | bot =>
    rw [EReal.coe_mul_bot_of_pos two_pos]
    show (0 - (-1 : EReal)) * ((0 : EReal) * 0 + 1) = -((0 : EReal) - 1)
    simp
  | top => exact absurd h (by simp)
  | coe x =>
    have e : (0 - Real.tanh x) * (Real.exp x * Real.exp x + 1) = -(Real.exp (2 * x) - 1) := by
      rw [Real.tanh_eq_sinh_div_cosh, Real.sinh_eq, Real.cosh_eq, two_mul, Real.exp_add, Real.exp_neg]
      have := Real.exp_pos x
      field_simp
      ring
    rw [← EReal.coe_mul]
    show (0 - (Real.tanh x : EReal)) * ((Real.exp x : EReal) * (Real.exp x : EReal) + 1) = -((Real.exp (2 * x) : EReal) - 1)
    exact_mod_cast congrArg (fun r : ℝ => (r : EReal)) e

end Cert.Recurrence
end
-- ==== Proof.LruFScan.lean ====
/- The forward recurrence's kernel: eleven doublings of a window are the recurrence along a head's whole column. -/
module

public import proofs.«01_k».proof.Defs
public import proofs.«01_k».proof.Proof.Recurrence
public import Idealize.ShloMosaic.Lib.Pipeline.ValueKit
public import Idealize.ShloMosaic.Lib.WordCmp
public import proofs.«01_k».proof.Proof.Gen.LruFKernelIdeal.Value

@[expose] public section

set_option maxRecDepth 16384

noncomputable section

namespace Cert.LruF.K

open Cert.LruFKernelIdeal Cert.LruFKernelIdeal.Gen Cert.LruFKernelIdeal.Value Cert.Common Cert.Recurrence Idealize.ShloMosaic Idealize.ShloMosaic.TcCoe Idealize.SL.Sem Idealize.ShloMosaic.WordCmp

/-- A head's block. -/
abbrev T := FVec Ideal S2048x128 .f32

/-- A column of a block, continued by zeros. -/
def col (y : T) (c : Fin 128) : ℕ → EReal := fun n => if h : n < 2048 then y (ix2 ⟨n, h⟩ c) else 0

theorem col_lt (y : T) (c : Fin 128) (r : Fin 2048) : col y c r.val = y (ix2 r c) := dif_pos r.isLt

/-- The block moved `k` rows down; the rows moved in hold one value. By a rotation and a selection, or by whole tiles. -/
def sh (k : BitVec 32) (f : EReal) (y : T) : T :=
  select (cmpi .sge (iota .tc S2048x128 32 [0] iota_S2048x128_d0_w32) (broadcast S2048x128 k)) (dynamicRotate 0 k none y rotates_S2048x128_d0) (broadcast S2048x128 f)
def tl {s t : Shape} (h : S2048x128.Slices ![0, 0] t) (hc : Shape.Concatenates [s, t] S2048x128 0) (f : EReal) (y : T) : T :=
  concatenate S2048x128 0 [⟨s, broadcast s f⟩, ⟨t, extractStridedSlice t ![0, 0] y h⟩] hc

theorem sh_apply (k : ℕ) (hk : k < 2048) (f : EReal) (y : T) (r : Fin 2048) (c : Fin 128) :
    sh (BitVec.ofNat 32 k) f y (ix2 r c) = if k ≤ r.val then col y c (r.val - k) else f := by
  have hr := r.isLt
  have ht : (BitVec.ofNat 32 k).toNat = k := by rw [BitVec.toNat_ofNat]; omega
  unfold sh
  pointwise []
  unfold Scalar.select
  by_cases h : k ≤ r.val
  · refine (if_pos ((cmpi_sge_ofNat_eq_one_iff (w := 32) (by omega) (by omega)).2 h)).trans ?_
    rw [if_pos h, col, dif_pos (by omega)]
    exact congrArg (fun a => y (ix2 a c)) (Fin.ext (by rw [ht]; show (r.val + 2048 - k % 2048) % 2048 = r.val - k; omega))
  · refine (if_neg (fun e => h ((cmpi_sge_ofNat_eq_one_iff (w := 32) (by omega) (by omega)).1 e))).trans ?_
    rw [if_neg h]

theorem tl_apply {k l : ℕ} (hkl : k + l = 2048) (h : S2048x128.Slices ![0, 0] ⟨2, ![l, 128]⟩) (hc) (f : EReal) (y : T) (r : Fin 2048) (c : Fin 128) :
    tl (s := ⟨2, ![k, 128]⟩) (t := ⟨2, ![l, 128]⟩) h hc f y (ix2 r c) = if k ≤ r.val then col y c (r.val - k) else f := by
  have hr := r.isLt
  unfold tl
  pointwise []
  by_cases h : k ≤ r.val
  · rw [dif_neg (by omega), if_pos h, col, dif_pos (by omega)]
    try (refine congrArg y ?_; funext b; fin_cases b <;> rfl)
  · rw [dif_pos (by omega), if_neg h]

/-- One doubling: the window's product of decays, and what its inputs leave. -/
def dA (s : EReal → T → T) (A : T) : T := mulf (F := Ideal) (φ := .f32) A (s 1 A)
def dB (s : EReal → T → T) (A B : T) : T := addf (F := Ideal) (φ := .f32) (mulf (F := Ideal) (φ := .f32) A (s 0 B)) B

variable (α β : ℕ → EReal) (c : Fin 128)

/-- A move of `k` rows. -/
def Moves (s : EReal → T → T) (k : ℕ) : Prop := ∀ f y r, s f y (ix2 r c) = if k ≤ r.val then col y c (r.val - k) else f

theorem dA_col {s : EReal → T → T} {k : ℕ} (hs : Moves c s k) {A : T} (h : ∀ n, n < 2048 → col A c n = P α k n) :
    ∀ n, n < 2048 → col (dA s A) c n = P α (k + k) n := fun n hn => by
  rw [P_add, ← h n hn, col, dif_pos hn]
  show A (ix2 ⟨n, hn⟩ c) * s 1 A (ix2 ⟨n, hn⟩ c) = _
  rw [hs, ← col_lt A c ⟨n, hn⟩]
  refine congrArg (_ * ·) ?_
  show (if k ≤ n then col A c (n - k) else 1) = _
  split
  · exact h _ (by omega)
  · rfl

theorem dB_col {s : EReal → T → T} {k : ℕ} (hs : Moves c s k) {A B : T} (hα : Decays α) (h : ∀ n, n < 2048 → col A c n = P α k n)
    (h' : ∀ n, n < 2048 → col B c n = Q α β k n) :
    ∀ n, n < 2048 → col (dB s A B) c n = Q α β (k + k) n := fun n hn => by
  rw [Q_add β hα, ← h n hn, ← h' n hn, col, dif_pos hn]
  show A (ix2 ⟨n, hn⟩ c) * s 0 B (ix2 ⟨n, hn⟩ c) + B (ix2 ⟨n, hn⟩ c) = _
  rw [hs, ← col_lt A c ⟨n, hn⟩, ← col_lt B c ⟨n, hn⟩]
  refine congrArg (fun q => _ * q + _) ?_
  show (if k ≤ n then col B c (n - k) else 0) = _
  split
  · exact h' _ (by omega)
  · rfl

theorem sh_moves (k : ℕ) (hk : k < 2048) : Moves c (sh (BitVec.ofNat 32 k)) k := fun f y r => sh_apply k hk f y r c
theorem tl_moves {k l : ℕ} (hkl : k + l = 2048) (h : S2048x128.Slices ![0, 0] ⟨2, ![l, 128]⟩) (hc) :
    Moves c (tl (s := ⟨2, ![k, 128]⟩) (t := ⟨2, ![l, 128]⟩) h hc) k := fun f y r => tl_apply hkl h hc f y r c

/-- The doublings' moves. -/
def mv : ℕ → EReal → T → T
  | 0 => sh 1#32
  | 1 => sh 2#32
  | 2 => sh 4#32
  | 3 => tl slices_S2048x128_o0_0_S2040x128 concatenates_S8x128_S2040x128_S2048x128_d0
  | 4 => tl slices_S2048x128_o0_0_S2032x128 concatenates_S16x128_S2032x128_S2048x128_d0
  | 5 => tl slices_S2048x128_o0_0_S2016x128 concatenates_S32x128_S2016x128_S2048x128_d0
  | 6 => tl slices_S2048x128_o0_0_S1984x128 concatenates_S64x128_S1984x128_S2048x128_d0
  | 7 => tl slices_S2048x128_o0_0_S1920x128 concatenates_S128x128_S1920x128_S2048x128_d0
  | 8 => tl slices_S2048x128_o0_0_S1792x128 concatenates_S256x128_S1792x128_S2048x128_d0
  | 9 => tl slices_S2048x128_o0_0_S1536x128 concatenates_S512x128_S1536x128_S2048x128_d0
  | _ => tl slices_S2048x128_o0_0_S1024x128 concatenates_S1024x128_S1024x128_S2048x128_d0

theorem mv_moves : ∀ j, j < 11 → Moves c (mv j) (2 ^ j)
  | 0, _ => sh_moves c 1 (by omega)
  | 1, _ => sh_moves c 2 (by omega)
  | 2, _ => sh_moves c 4 (by omega)
  | 3, _ => tl_moves c rfl _ _
  | 4, _ => tl_moves c rfl _ _
  | 5, _ => tl_moves c rfl _ _
  | 6, _ => tl_moves c rfl _ _
  | 7, _ => tl_moves c rfl _ _
  | 8, _ => tl_moves c rfl _ _
  | 9, _ => tl_moves c rfl _ _
  | 10, _ => tl_moves c rfl _ _
  | j + 11, h => absurd h (by omega)

def scanA (A : T) : ℕ → T
  | 0 => A
  | j + 1 => dA (mv j) (scanA A j)
def scanB (A B : T) : ℕ → T
  | 0 => B
  | j + 1 => dB (mv j) (scanA A j) (scanB A B j)

theorem scanA_col (A : T) (h : ∀ n, n < 2048 → col A c n = α n) : ∀ j, j ≤ 11 → ∀ n, n < 2048 → col (scanA A j) c n = P α (2 ^ j) n
  | 0, _ => fun n hn => by rw [pow_zero, P_one]; exact h n hn
  | j + 1, hj => by
    rw [pow_succ, mul_two]
    exact dA_col α c (mv_moves c j (by omega)) (scanA_col A h j (by omega))

theorem scanB_col (hα : Decays α) (A B : T) (h : ∀ n, n < 2048 → col A c n = α n) (h' : ∀ n, n < 2048 → col B c n = β n) :
    ∀ j, j ≤ 11 → ∀ n, n < 2048 → col (scanB A B j) c n = Q α β (2 ^ j) n
  | 0, _ => fun n hn => by rw [pow_zero, Q_one]; exact h' n hn
  | j + 1, hj => by
    rw [pow_succ, mul_two]
    exact dB_col α β c (mv_moves c j (by omega)) hα (scanA_col α c A h j (by omega)) (scanB_col hα A B h h' j (by omega))

/-- The scan's last array is the recurrence. -/
theorem scan_eq (A B : T) (hA : Decays (col A c)) (r : Fin 2048) : scanB A B 11 (ix2 r c) = H (col A c) (col B c) r.val := by
  rw [← Q_eq (col B c) hA (2 ^ 11) r.val r.isLt, ← scanB_col (col A c) (col B c) c hA A B (fun _ _ => rfl) (fun _ _ => rfl) 11 le_rfl r.val r.isLt, col_lt]

/-! The kernel's own arrays are these. -/

/-- The input of the recurrence. -/
def xin (v i a th : T) : T :=
  mulf (F := Ideal) (φ := .f32) (sqrt (F := Ideal) (φ := .f32) (mulf (F := Ideal) (φ := .f32) (subf (F := Ideal) (φ := .f32) (broadcast S2048x128 (0 : EReal)) th)
    (addf (F := Ideal) (φ := .f32) (mulf (F := Ideal) (φ := .f32) a a) (broadcast S2048x128 (1 : EReal))))) (mulf (F := Ideal) (φ := .f32) i v)

theorem zero_bits : (Scalar.ofBits (F := Ideal) .f32 0x00000000#32 : EReal) = 0 := Ideal.ofBits_zero_f32
theorem one_bits : (Scalar.ofBits (F := Ideal) .f32 0x3F800000#32 : EReal) = 1 := Ideal.ofBits_one_f32

theorem pay18_eq (a : T) : k0_pay18 (F := Ideal) a = scanA a 2 := by
  unfold k0_pay18 k0_pay17
  rw [one_bits]
  rfl
theorem pay19_eq (v i a th : T) : k0_pay19 (F := Ideal) v i a th (Scalar.ofBits .f32 0x00000000#32) = scanB a (xin v i a th) 3 := by
  unfold k0_pay19 k0_pay18 k0_pay17
  rw [one_bits, zero_bits]
  rfl
theorem pay24_eq (a : T) : k0_pay24 (F := Ideal) (iota .tc S2048x128 32 [0] iota_S2048x128_d0_w32) (scanA a 2) 4#32 = scanA a 7 := by
  unfold k0_pay24 k0_pay23 k0_pay22 k0_pay21 k0_pay20
  rw [one_bits]
  rfl
theorem pay25_eq (a x : T) : k0_pay25 (F := Ideal) (iota .tc S2048x128 32 [0] iota_S2048x128_d0_w32) (scanA a 2) (scanB a x 3) 4#32 = scanB a x 8 := by
  unfold k0_pay25 k0_pay24 k0_pay23 k0_pay22 k0_pay21 k0_pay20
  rw [one_bits, zero_bits]
  rfl
theorem pay27_eq (a x : T) : k0_pay27 (F := Ideal) (scanA a 7) (scanB a x 8) k0_pay26 = scanB a x 11 := by
  unfold k0_pay27 k0_pay26
  rw [one_bits, zero_bits]
  rfl

end Cert.LruF.K
end
-- ==== Proof.LruFRun.lean ====
/- The run of the forward recurrence's reference: its loop's state after every trip. -/
module

public import proofs.«01_k».proof.Defs
public import proofs.«01_k».proof.Proof.Gen.LruFReferenceIdeal.Run
public import proofs.«01_k».proof.Proof.Gen.LruFReferenceIdeal.Step

@[expose] public section

noncomputable section

namespace Cert.LruF.Run

open Idealize.ShloMosaic Idealize.ShloMosaic.TcCoe Idealize.SL.Sem Idealize.ShloMosaic.StableHlo
open Cert.LruFReferenceIdeal Cert.LruFReferenceIdeal.Gen Cert.LruFReferenceIdeal.Value Cert.LruFReferenceIdeal.Step

/-- The carried arrays, read off a valuation. -/
def carried (U : Valuation τ sig (Elt Ideal)) : State Ideal :=
  ⟨U (Proc.devRef .tc main_v89_3), U (Proc.devRef .tc main_v89_4), U (Proc.devRef .tc main_v89_0), U (Proc.devRef .tc main_v89_1)⟩

/-- Trip `n` sees its number in the counter, and steps the carried arrays. -/
theorem carried_trip (U : Valuation τ sig (Elt Ideal)) (n : ℕ) (hn : U (Proc.devRef .tc main_v89_2) = constantI S_ 32 (BitVec.ofNat 32 n)) :
    carried (STEP U) = step n (carried U) ∧ STEP U (Proc.devRef .tc main_v89_2) = constantI S_ 32 (BitVec.ofNat 32 (n + 1)) := by
  constructor
  · unfold carried step
    show State.mk _ _ _ _ = State.mk _ _ _ _
    rw [STEP_main_v89_3, STEP_main_v89_4, STEP_main_v89_0, STEP_main_v89_1]
    congr 1
    · unfold Cert.LruFReferenceIdeal.Value.step_main_v89_3 res_main_while0b_v109 b7 b6 b5 b4 b3 b2 b1 b0
      rw [hn]
      rfl
    · unfold Cert.LruFReferenceIdeal.Value.step_main_v89_4 res_main_while0b_v109 b10 b9 b8 b7 b6 b5 b4 b3 b2 b1 b0
      rw [hn]
      rfl
  · rw [STEP_main_v89_2]
    unfold Cert.LruFReferenceIdeal.Value.step_main_v89_2
    rw [hn]
    funext i
    exact (BitVec.ofNat_add n 1).symm

variable (m : (ℓ : Loc nD τ sig) → Buf (Elt Ideal) ℓ) (c : Dev nD)

/-- The state after a number of trips. -/
def trips : ℕ → State Ideal
  | 0 => init (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
  | n + 1 => step n (trips n)

set_option maxRecDepth 65536 in
set_option maxHeartbeats 1000000 in
theorem carried_entry : carried (entryContents preI m c) = trips m c 0 ∧ entryContents preI m c (Proc.devRef .tc main_v89_2) = constantI S_ 32 (BitVec.ofNat 32 0) := by
  constructor
  · unfold carried trips init
    congr 1 <;> (simp only [entryContents, afterL_cons, afterL_nil]; after_reads_simp) <;> rfl
  · (simp only [entryContents, afterL_cons, afterL_nil]; after_reads_simp) <;> rfl

theorem carried_iterate : ∀ n, carried (STEP^[n] (entryContents preI m c)) = trips m c n
    ∧ (STEP^[n] (entryContents preI m c)) (Proc.devRef .tc main_v89_2) = constantI S_ 32 (BitVec.ofNat 32 n)
  | 0 => carried_entry m c
  | n + 1 => by
    obtain ⟨h, hn⟩ := carried_iterate n
    rw [Function.iterate_succ_apply']
    obtain ⟨e, en⟩ := carried_trip _ n hn
    exact ⟨e.trans (congrArg (step n) h), en⟩

/-- Both results of a run that stopped in a given state. -/
theorem results_of (U : Valuation τ sig (Elt Ideal)) (s : State Ideal) (x : (⟨S2048x2560, .f32⟩ : BufTy).Contents (Elt Ideal))
    (h : carried U = s) (hx : U (Proc.devRef .tc main_arg0) = x) :
    U (Proc.devRef .tc main_v89_4) = s.main_v89_4 ∧ out_main_v105 U = R_main_v105 s x := by
  subst h hx
  exact ⟨rfl, rfl⟩

/-- Both results of the run, of the last state. -/
theorem results : (STEP^[2048] (entryContents preI m c)) (Proc.devRef .tc main_v89_4) = (trips m c 2048).main_v89_4
    ∧ out_main_v105 (STEP^[2048] (entryContents preI m c)) = R_main_v105 (trips m c 2048) (m ((c : Thread nD τ).loc main_arg0)) :=
  results_of _ _ _ (carried_iterate m c 2048).1 (iter_main_arg0 m c 2048)

end Cert.LruF.Run
end
-- ==== Proof.LruFRef.lean ====
/- The forward recurrence's reference: its convolution, its gates and its scan, index by index. -/
module

public import proofs.«01_k».proof.Defs
public import proofs.«01_k».proof.Proof.Recurrence
public import proofs.«01_k».proof.Proof.LruFRun
public import Idealize.ShloMosaic.Lib.Pipeline.ValueKit
public import Idealize.ShloMosaic.Lib.WordCmp

@[expose] public section

set_option maxRecDepth 16384

noncomputable section

namespace Cert.LruF.R

open Cert.LruFReferenceIdeal Cert.LruFReferenceIdeal.Gen Cert.LruFReferenceIdeal.Step Cert.Common Cert.Recurrence Idealize.ShloMosaic Idealize.ShloMosaic.TcCoe Idealize.SL.Sem

variable (x : FVec Ideal S2048x2560 .f32) (cw : FVec Ideal S2x4x1024 .f32) (cb : FVec Ideal S2x1024 .f32) (wa : FVec Ideal S2x8x128x128 .f32)
  (ba : FVec Ideal S2x1024 .f32) (wx : FVec Ideal S2x8x128x128 .f32) (bx lam : FVec Ideal S2x1024 .f32)

/-- The channel `C`, `j` rows up; zero above the first row. -/
def up (j : ℕ) (r : Fin 2048) (C : Fin 1024) : EReal := if j ≤ r.val then x (ix2 ⟨r.val - j, by omega⟩ ⟨512 + C.val, by omega⟩) else 0

/-- The causal convolution. -/
def conv (r : Fin 2048) (C : Fin 1024) : EReal :=
  cw (ix3 1 3 C) * x (ix2 r ⟨512 + C.val, by omega⟩) + cw (ix3 1 2 C) * up x 1 r C + cw (ix3 1 1 C) * up x 2 r C + cw (ix3 1 0 C) * up x 3 r C + cb (ix2 1 C)

theorem tap (i j : ℕ) (hj : i + j = 3) (r : Fin 2048) (C : Fin 1024) :
    (if h : i + r.val < 3 then (0 : EReal) else x (ix2 ⟨i + r.val - 3, by omega⟩ ⟨512 + C.val, by omega⟩)) = up x j r C := by
  unfold up
  by_cases h : j ≤ r.val
  · rw [dif_neg (by omega), if_pos h]
    exact congrArg (fun a => x (ix2 a _)) (Fin.ext (by show i + r.val - 3 = r.val - j; omega))
  · rw [dif_pos (by omega), if_neg h]

theorem tap3 (r : Fin 2048) (C : Fin 1024) :
    (if h : r.val < 3 then (0 : EReal) else x (ix2 ⟨r.val - 3, by omega⟩ ⟨512 + C.val, by omega⟩)) = up x 3 r C := by
  unfold up
  by_cases h : 3 ≤ r.val
  · rw [dif_neg (by omega), if_pos h]
  · rw [dif_pos (by omega), if_neg h]

theorem flip4 (a b c d : EReal) : a + b + c + d = d + c + b + a := by ac_rfl

theorem conv_eq (r : Fin 2048) (C : Fin 1024) : A_main_v36 (F := Ideal) x cw cb wa ba wx bx lam (ix2 r C) = conv x cw cb r C := by
  pointwise [A_main_v36, A_main_v35, A_main_v34, A_main_v33, A_main_v32, A_main_v31, A_main_v30, A_main_v29, A_main_v28, A_main_v27, A_main_v26, A_main_v25, A_main_v24,
    A_main_v23, A_main_v22, A_main_v21, A_main_v20, A_main_v19, A_main_v18, A_main_v17, A_main_v16, A_main_v15, A_main_v14, A_main_v13, A_main_v12, A_main_v11, A_main_v10,
    A_main_v9, A_main_v8, A_main_v7, A_main_v6, A_main_v4, A_main_v3, A_main_v2, A_main_v1, A_main_v0, K_main_v5, K_main_cst]
  rw [tap3 x r C, tap x 1 2 rfl r C, tap x 2 1 rfl r C, conv]
  exact congrArg (· + _) (flip4 _ _ _ _)

/-- The channel `k` of the head of channel `C`. -/
def chan (C : Fin 1024) (k : Fin 128) : Fin 1024 := ⟨C.val / 128 * 128 + k.val, by omega⟩

/-- A gate's argument: the head's product with its matrix, and a bias. -/
def pre (w : FVec Ideal S2x8x128x128 .f32) (b : FVec Ideal S2x1024 .f32) (r : Fin 2048) (C : Fin 1024) : EReal :=
  (∑ k : Fin 128, conv x cw cb r (chan C k) * w (ix4 1 ⟨C.val / 128, by omega⟩ k ⟨C.val % 128, by omega⟩)) + b (ix2 1 C)

theorem pre_a (r : Fin 2048) (C : Fin 1024) : A_main_v53 (F := Ideal) x cw cb wa ba wx bx lam (ix2 r C) = pre x cw cb wa ba r C := by
  pointwise [A_main_v53, A_main_v52, A_main_v51, A_main_v50, A_main_v49, A_main_v48, A_main_v47, A_main_v38, A_main_v37, A_main_v40, A_main_v39]
  exact congrArg (· + _) (Finset.sum_congr rfl fun k _ => by rw [conv_eq, mul_comm]; rfl)

theorem pre_x (r : Fin 2048) (C : Fin 1024) : A_main_v65 (F := Ideal) x cw cb wa ba wx bx lam (ix2 r C) = pre x cw cb wx bx r C := by
  pointwise [A_main_v65, A_main_v64, A_main_v63, A_main_v62, A_main_v61, A_main_v60, A_main_v47, A_main_v42, A_main_v41, A_main_v44, A_main_v43]
  exact congrArg (· + _) (Finset.sum_congr rfl fun k _ => by rw [conv_eq, mul_comm]; rfl)

/-- The softplus of minus the head's parameter. -/
def sp (C : Fin 1024) : EReal := max (-lam (ix2 1 C)) 0 + Ideal.log1p (Ideal.exp (-(max (lam (ix2 1 C)) (-lam (ix2 1 C)))))

/-- The exponent of the decay, the decay, the input. -/
def ex (r : Fin 2048) (C : Fin 1024) : EReal := ((-8 : ℝ) : EReal) * Ideal.logistic (pre x cw cb wa ba r C) * sp lam C
def dec (r : Fin 2048) (C : Fin 1024) : EReal := Ideal.exp (ex x cw cb wa ba lam r C)
def inp (r : Fin 2048) (C : Fin 1024) : EReal :=
  Ideal.sqrt ((0 - Ideal.tanh (ex x cw cb wa ba lam r C)) * (dec x cw cb wa ba lam r C * dec x cw cb wa ba lam r C + 1)) * (Ideal.logistic (pre x cw cb wx bx r C) * conv x cw cb r C)

theorem ex_nonpos (r : Fin 2048) (C : Fin 1024) : ex x cw cb wa ba lam r C ≤ 0 := exponent_nonpos _ _ (softplus_nonneg _ _)

theorem w_neg_eight : Ideal.ofBits .f32 0xC1000000#32 = ((-8 : ℝ) : EReal) := by
  simp [Ideal.ofBits, Ideal.ieee, -EReal.coe_mul]; norm_num

theorem sp_eq (C : Fin 1024) : A_main_v75 (F := Ideal) x cw cb wa ba wx bx lam (ix1 C) = sp lam C := by
  pointwise [A_main_v75, A_main_call0_v11, A_main_call0_v10, A_main_call0_v9, A_main_call0_v8, A_main_call0_v7, A_main_call0_v6, A_main_call0_v4, A_main_call0_v3, A_main_call0_v1, A_main_v74,
    A_main_v46, A_main_v45, K_main_call0_v0, K_main_call0_v2, K_main_call0_v5, K_main_call0_cst]
  rw [if_neg (fun e => e rfl)]
  show _ + Ideal.log1p (Ideal.exp (-(max (-lam (ix2 1 C)) (- -lam (ix2 1 C))))) = _
  rw [neg_neg, max_comm (-lam (ix2 1 C)) (lam (ix2 1 C))]
  rfl

theorem ex_eq (r : Fin 2048) (C : Fin 1024) : A_main_v78 (F := Ideal) x cw cb wa ba wx bx lam (ix2 r C) = ex x cw cb wa ba lam r C := by
  pointwise [A_main_v78, A_main_v77, A_main_v76, A_main_v73, A_main_v59, A_main_v57, A_main_v55, A_main_v54, K_main_v72, K_main_cst_4, K_main_v58, K_main_v56, K_main_cst_0, K_main_cst_1]
  rw [pre_a, sp_eq, ex, Ideal.logistic, w_neg_eight]

theorem dec_eq (r : Fin 2048) (C : Fin 1024) : A_main_v79 (F := Ideal) x cw cb wa ba wx bx lam (ix2 r C) = dec x cw cb wa ba lam r C := by
  unfold A_main_v79 dec
  rw [← ex_eq x cw cb wa ba wx bx lam]
  rfl

theorem inp_eq (r : Fin 2048) (C : Fin 1024) : A_main_v86 (F := Ideal) x cw cb wa ba wx bx lam (ix2 r C) = inp x cw cb wa ba wx bx lam r C := by
  pointwise [A_main_v86, A_main_v85, A_main_v84, A_main_v83, A_main_v82, A_main_v81, A_main_v71, A_main_v69, A_main_v67, A_main_v66, K_main_v80, K_main_v70, K_main_v68, K_main_cst_2, K_main_cst_3, K_main_cst_5]
  rw [conv_eq, pre_x, ex_eq, inp, dec, complement _ (ex_nonpos x cw cb wa ba lam r C)]
  rw [Ideal.logistic, Ideal.expm1, w_two]

/-! The scan. -/

/-- A channel's decays and inputs, continued by zeros. -/
def decs (C : Fin 1024) : ℕ → EReal := fun n => if h : n < 2048 then dec x cw cb wa ba lam ⟨n, h⟩ C else 0
def inps (C : Fin 1024) : ℕ → EReal := fun n => if h : n < 2048 then inp x cw cb wa ba wx bx lam ⟨n, h⟩ C else 0

/-- The value carried into trip `n`. -/
def prev (C : Fin 1024) : ℕ → EReal
  | 0 => 0
  | n + 1 => H (decs x cw cb wa ba lam C) (inps x cw cb wa ba wx bx lam C) n

theorem H_prev (C : Fin 1024) : ∀ n, H (decs x cw cb wa ba lam C) (inps x cw cb wa ba wx bx lam C) n
    = decs x cw cb wa ba lam C n * prev x cw cb wa ba wx bx lam C n + inps x cw cb wa ba wx bx lam C n
  | 0 => rfl
  | n + 1 => rfl

/-- The state of the recurrence at a row. -/
def hs (r : Fin 2048) (C : Fin 1024) : EReal := H (decs x cw cb wa ba lam C) (inps x cw cb wa ba wx bx lam C) r.val

/-- The gate's GELU, and the first result. -/
def gelu (r : Fin 2048) (C : Fin 1024) : EReal :=
  x (ix2 r ⟨1536 + C.val, by omega⟩) * (Ideal.ofBits .f32 0x3F000000#32 * (1 + Ideal.tanh (Ideal.ofBits .f32 0x3F4C422A#32 * (x (ix2 r ⟨1536 + C.val, by omega⟩)
    + Ideal.ofBits .f32 0x3D372713#32 * (x (ix2 r ⟨1536 + C.val, by omega⟩) * x (ix2 r ⟨1536 + C.val, by omega⟩) * x (ix2 r ⟨1536 + C.val, by omega⟩))))))

theorem out_apply (s : State Ideal) (r : Fin 2048) (C : Fin 1024) : R_main_v105 s x (ix2 r C) = s.main_v89_4 (ix2 r C) * gelu x r C := by
  pointwise [R_main_v105]
  try rfl

variable {s : State Ideal} (n : ℕ) (hn : n < 2048)

theorem word (n : ℕ) (hn : n < 2048) : (BitVec.ofNat 32 n).toInt = (n : ℤ) := by
  exact WordCmp.toInt_ofNat_of_lt (w := 32) (by omega)

theorem start0 (n : ℕ) (hn : n < 2048) (h) : Host.clampedStart S2048x1024 S1x1024 h
    (fun k => BitVec.toInt (![constantI S_ 32 (BitVec.ofNat 32 n), constantI S_ 32 0#32] k (Shape.Idx.first h_S_))) 0 = n := by
  show (min (max (BitVec.ofNat 32 n).toInt 0) _).toNat = n
  rw [word n hn]
  show (min (max (n : ℤ) 0) ((2048 - 1 : ℕ) : ℤ)).toNat = n
  omega
theorem start1 (n : ℕ) (h) : Host.clampedStart S2048x1024 S1x1024 h
    (fun k => BitVec.toInt (![constantI S_ 32 (BitVec.ofNat 32 n), constantI S_ 32 0#32] k (Shape.Idx.first h_S_))) 1 = 0 := by
  show (min (max (BitVec.ofNat 32 0).toInt 0) _).toNat = 0
  rw [word 0 (by omega)]
  rfl

include hn in
theorem b7_apply (C : Fin 1024) : b7 n s (ix1 C) = s.main_v89_0 (ix2 ⟨n, hn⟩ C) * s.main_v89_3 (ix1 C) + s.main_v89_1 (ix2 ⟨n, hn⟩ C) := by
  pointwise [b7, b6, b5, b4, b3, b2, b1, b0]
  simp only [start0 n hn, start1 n, Nat.zero_add]

include hn in
theorem b10_apply (r : Fin 2048) (C : Fin 1024) : b10 n s (ix2 r C) = if r.val = n then b7 n s (ix1 C) else s.main_v89_4 (ix2 r C) := by
  pointwise [b10, b9, b8]
  simp only [start0 n hn, start1 n, Nat.sub_zero]
  by_cases h : r.val = n
  · rw [dif_pos (by omega), if_pos h]
  · rw [dif_neg (by omega), if_neg h]

variable (m : (ℓ : Loc nD τ sig) → Buf (Elt Ideal) ℓ) (c : Dev nD)

/-- What every trip's state holds. -/
structure Holds (n : ℕ) (s : State Ideal) : Prop where
  decays : ∀ r C, s.main_v89_0 (ix2 r C) = dec x cw cb wa ba lam r C
  inputs : ∀ r C, s.main_v89_1 (ix2 r C) = inp x cw cb wa ba wx bx lam r C
  last : ∀ C, s.main_v89_3 (ix1 C) = prev x cw cb wa ba wx bx lam C n
  rows : ∀ r C, r.val < n → s.main_v89_4 (ix2 r C) = H (decs x cw cb wa ba lam C) (inps x cw cb wa ba wx bx lam C) r.val

theorem holds_init : Holds x cw cb wa ba wx bx lam 0 (init x cw cb wa ba wx bx lam) where
  decays := dec_eq x cw cb wa ba wx bx lam
  inputs := inp_eq x cw cb wa ba wx bx lam
  last C := by
    show K_main_v87 (F := Ideal) (ix1 C) = 0
    pointwise [K_main_v87, K_main_cst_6]
  rows r C h := absurd h (by omega)

include hn in
theorem holds_step (h : Holds x cw cb wa ba wx bx lam n s) : Holds x cw cb wa ba wx bx lam (n + 1) (step n s) := by
  have e : ∀ C, b7 n s (ix1 C) = H (decs x cw cb wa ba lam C) (inps x cw cb wa ba wx bx lam C) n := fun C => by
    rw [b7_apply n hn, h.decays, h.inputs, h.last, H_prev, decs, inps, dif_pos hn, dif_pos hn]
  refine ⟨h.decays, h.inputs, e, fun r C hr => ?_⟩
  rw [step_main_v89_4, b10_apply n hn]
  by_cases q : r.val = n
  · rw [if_pos q, e, q]
  · rw [if_neg q, h.rows r C (by omega)]

theorem holds : ∀ n, n ≤ 2048 → Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) n (Run.trips m c n)
  | 0, _ => holds_init _ _ _ _ _ _ _ _
  | n + 1, h => holds_step _ _ _ _ _ _ _ _ n (by omega) (holds n (by omega))

end Cert.LruF.R
end
-- ==== Proof.LruF.lean ====
/- The gated linear recurrence forward: convolution, gates, recurrence and GELU gate of the eight heads. -/
module

public import proofs.«01_k».proof.Defs
public import proofs.«01_k».proof.Proof.LruFScan
public import proofs.«01_k».proof.Proof.LruFRef
public import Idealize.ShloMosaic.Lib.Quiescent

@[expose] public section

set_option maxRecDepth 16384

noncomputable section

namespace Cert.LruF.K

open Cert.LruFKernelIdeal Cert.LruFKernelIdeal.Gen Cert.LruFKernelIdeal.Value Cert.Common Cert.Recurrence Idealize.ShloMosaic Idealize.ShloMosaic.TcCoe Idealize.SL.Sem

variable (x0 x1 : Vec Ideal S2048x128 .f32) (x2 : Vec Ideal S1x4x128 .f32) (x3 : Vec Ideal S1x1x128 .f32) (x4 : Vec Ideal S1x1x128x128 .f32) (x5 : Vec Ideal S1x1x128 .f32)
  (x6 : Vec Ideal S1x1x128x128 .f32) (x7 x8 : Vec Ideal S1x1x128 .f32)

abbrev rows : IVec S2048x128 32 := iota .tc S2048x128 32 [0] iota_S2048x128_d0_w32

/-- The convolution of a head's block. -/
def kv : T := k0_pay11 rows x0 (k0_pay1 x2) (k0_pay2 x3) (k0_pay8 x0 x2) (k0_pay9 x0) (k0_pay10 x2)
/-- Its two gates, the exponent of the decay, the decay. -/
def ki : T := k0_pay13 rows x0 (k0_pay1 x2) (k0_pay2 x3) (k0_pay5 x6) (k0_pay6 x7) (k0_pay8 x0 x2) (k0_pay9 x0) (k0_pay10 x2)
def kl : T := k0_pay14 rows x0 (k0_pay1 x2) (k0_pay2 x3) (k0_pay3 x4) (k0_pay4 x5) (k0_pay7 x8) (k0_pay8 x0 x2) (k0_pay9 x0) (k0_pay10 x2)

theorem kv_apply (r : Fin 2048) (k : Fin 128) : kv x0 x2 x3 (ix2 r k)
    = x2 (ix3 0 3 k) * x0 (ix2 r k) + x2 (ix3 0 2 k) * sh 1#32 0 x0 (ix2 r k) + x2 (ix3 0 1 k) * sh 2#32 0 x0 (ix2 r k) + x2 (ix3 0 0 k) * sh 3#32 0 x0 (ix2 r k) + x3 (ix3 0 0 k) := by
  unfold kv sh
  pointwise [k0_pay11, k0_pay8, k0_pay9, k0_pay10, k0_pay1, k0_pay2]

theorem ki_apply (r : Fin 2048) (k : Fin 128) : ki x0 x2 x3 x6 x7 (ix2 r k)
    = Ideal.logistic ((∑ d : Fin 128, kv x0 x2 x3 (ix2 r d) * x6 (ix4 0 0 d k)) + x7 (ix3 0 0 k)) := by
  unfold ki kv
  pointwise [k0_pay13, k0_pay12, k0_pay5, k0_pay6]

theorem kl_apply (r : Fin 2048) (k : Fin 128) : kl x0 x2 x3 x4 x5 x8 (ix2 r k)
    = ((-8 : ℝ) : EReal) * Ideal.logistic ((∑ d : Fin 128, kv x0 x2 x3 (ix2 r d) * x4 (ix4 0 0 d k)) + x5 (ix3 0 0 k))
      * (max (-x8 (ix3 0 0 k)) 0 + Ideal.log1p (Ideal.exp (-(max (x8 (ix3 0 0 k)) (-x8 (ix3 0 0 k)))))) := by
  unfold kl kv
  pointwise [k0_pay14, k0_pay12, k0_pay3, k0_pay4, k0_pay7]
  rw [R.w_neg_eight, zero_sub, zero_sub]
  rfl

/-- The decay and the recurrence's input, and the recurrence, as the kernel's arrays. -/
def ka : T := exp (F := Ideal) (φ := .f32) (kl x0 x2 x3 x4 x5 x8)
def kx : T := xin (kv x0 x2 x3) (ki x0 x2 x3 x6 x7) (ka x0 x2 x3 x4 x5 x8) (tanh (F := Ideal) (φ := .f32) (kl x0 x2 x3 x4 x5 x8))
def kh : T := scanB (ka x0 x2 x3 x4 x5 x8) (kx x0 x2 x3 x4 x5 x6 x7 x8) 11
def ky : FVec Ideal S2048x128 .bf16 := k0_pay28 x1 (scanA (ka x0 x2 x3 x4 x5 x8) 7) (scanB (ka x0 x2 x3 x4 x5 x8) (kx x0 x2 x3 x4 x5 x6 x7 x8) 8) k0_pay26

theorem pay15_eq : k0_pay15 rows x0 (k0_pay1 x2) (k0_pay2 x3) (k0_pay3 x4) (k0_pay4 x5) (k0_pay7 x8) (k0_pay8 x0 x2) (k0_pay9 x0) (k0_pay10 x2) = ka x0 x2 x3 x4 x5 x8 := rfl
theorem pay16_eq : k0_pay16 rows x0 (k0_pay1 x2) (k0_pay2 x3) (k0_pay3 x4) (k0_pay4 x5) (k0_pay7 x8) (k0_pay8 x0 x2) (k0_pay9 x0) (k0_pay10 x2)
    = tanh (F := Ideal) (φ := .f32) (kl x0 x2 x3 x4 x5 x8) := rfl

theorem out10_eq : out0_10 x0 x1 x2 x3 x4 x5 x6 x7 x8 = kh x0 x2 x3 x4 x5 x6 x7 x8 := by
  unfold_out out0_10
  frame_out
  rw [pay15_eq, pay16_eq, pay18_eq]
  refine (congrArg₂ (fun p q => k0_pay27 p (k0_pay25 rows _ q 4#32) k0_pay26) (pay24_eq _) (pay19_eq _ _ _ _)).trans ?_
  exact (congrArg (fun q => k0_pay27 _ q k0_pay26) (pay25_eq _ _)).trans (pay27_eq _ _)

theorem tail_y (v i a th : T) : k0_pay28 (F := Ideal) x1 (k0_pay24 (iota .tc S2048x128 32 [0] iota_S2048x128_d0_w32) (scanA a 2) 4#32)
    (k0_pay25 (iota .tc S2048x128 32 [0] iota_S2048x128_d0_w32) (scanA a 2) (k0_pay19 v i a th (Scalar.ofBits .f32 0x00000000#32)) 4#32) k0_pay26
      = k0_pay28 x1 (scanA a 7) (scanB a (xin v i a th) 8) k0_pay26 := by
  rw [pay24_eq, pay19_eq, pay25_eq]

theorem out9_eq : out0_9 x0 x1 x2 x3 x4 x5 x6 x7 x8 = ky x0 x1 x2 x3 x4 x5 x6 x7 x8 := by
  unfold_out out0_9
  frame_out
  rw [pay15_eq, pay16_eq, pay18_eq]
  exact tail_y x1 _ _ _ _

/-- The gate's GELU. -/
def kg (u : EReal) : EReal :=
  u * (Ideal.ofBits .f32 0x3F000000#32 * (1 + Ideal.tanh (Ideal.ofBits .f32 0x3F4C422A#32 * (u + Ideal.ofBits .f32 0x3D372713#32 * (u * u * u)))))

theorem ky_apply (r : Fin 2048) (k : Fin 128) : ky x0 x1 x2 x3 x4 x5 x6 x7 x8 (ix2 r k) = kh x0 x2 x3 x4 x5 x6 x7 x8 (ix2 r k) * kg (x1 (ix2 r k)) := by
  unfold ky kh kg
  rw [← pay27_eq]
  pointwise [k0_pay28]
  refine congrArg (_ * ·) ?_
  rw [mul_comm (Ideal.ofBits .f32 0x3F000000#32) (x1 _), mul_assoc, mul_assoc (_ * x1 _), mul_assoc (Ideal.ofBits .f32 0x3D372713#32), ← mul_assoc (x1 _) (x1 _) (x1 _)]

/-! One head against the reference's functions. -/

section Head

variable {x0 x1 x2 x3 x4 x5 x6 x7 x8}
variable (x : FVec Ideal S2048x2560 .f32) (cw : FVec Ideal S2x4x1024 .f32) (cb : FVec Ideal S2x1024 .f32) (wa : FVec Ideal S2x8x128x128 .f32)
  (ba : FVec Ideal S2x1024 .f32) (wx : FVec Ideal S2x8x128x128 .f32) (bx lam : FVec Ideal S2x1024 .f32) (t : Fin 8)

/-- The channel `k` of head `t`. -/
def ch (k : Fin 128) : Fin 1024 := ⟨t.val * 128 + k.val, by omega⟩

theorem chan_ch (k d : Fin 128) : R.chan (ch t k) d = ch t d := Fin.ext (by show (t.val * 128 + k.val) / 128 * 128 + d.val = t.val * 128 + d.val; omega)

theorem sh_up (h0 : ∀ r k, x0 (ix2 r k) = x (ix2 r ⟨512 + (ch t k).val, by omega⟩)) (j : ℕ) (hj : j < 2048) (r : Fin 2048) (k : Fin 128) :
    sh (BitVec.ofNat 32 j) 0 x0 (ix2 r k) = R.up x j r (ch t k) := by
  rw [sh_apply j hj, R.up]
  by_cases h : j ≤ r.val
  · rw [if_pos h, if_pos h, col, dif_pos (by omega), h0]
  · rw [if_neg h, if_neg h]

theorem kv_conv (h0 : ∀ r k, x0 (ix2 r k) = x (ix2 r ⟨512 + (ch t k).val, by omega⟩)) (h2 : ∀ j k, x2 (ix3 0 j k) = cw (ix3 1 j (ch t k)))
    (h3 : ∀ k, x3 (ix3 0 0 k) = cb (ix2 1 (ch t k))) (r : Fin 2048) (k : Fin 128) : kv x0 x2 x3 (ix2 r k) = R.conv x cw cb r (ch t k) := by
  rw [kv_apply, h0, h2, h2, h2, h2, h3, R.conv]
  exact congrArg (· + _) (congrArg₂ (· + ·) (congrArg₂ (· + ·) (congrArg (_ + _ * ·) (sh_up x t h0 1 (by omega) r k)) (congrArg (_ * ·) (sh_up x t h0 2 (by omega) r k)))
    (congrArg (_ * ·) (sh_up x t h0 3 (by omega) r k)))

theorem pre_head (h0 : ∀ r k, x0 (ix2 r k) = x (ix2 r ⟨512 + (ch t k).val, by omega⟩)) (h2 : ∀ j k, x2 (ix3 0 j k) = cw (ix3 1 j (ch t k)))
    (h3 : ∀ k, x3 (ix3 0 0 k) = cb (ix2 1 (ch t k))) {w : FVec Ideal S2x8x128x128 .f32} {b : FVec Ideal S2x1024 .f32} {y : Vec Ideal S1x1x128x128 .f32} {z : Vec Ideal S1x1x128 .f32}
    (hw : ∀ d k, y (ix4 0 0 d k) = w (ix4 1 t d k)) (hb : ∀ k, z (ix3 0 0 k) = b (ix2 1 (ch t k))) (r : Fin 2048) (k : Fin 128) :
    (∑ d : Fin 128, kv x0 x2 x3 (ix2 r d) * y (ix4 0 0 d k)) + z (ix3 0 0 k) = R.pre x cw cb w b r (ch t k) := by
  rw [hb, R.pre]
  refine congrArg (· + _) (Finset.sum_congr rfl fun d _ => ?_)
  rw [kv_conv x cw cb t h0 h2 h3, hw, chan_ch]
  refine congrArg (fun i => _ * w i) (congrArg₂ (fun a b => ix4 1 a d b) (Fin.ext ?_) (Fin.ext ?_))
  · show t.val = (t.val * 128 + k.val) / 128
    omega
  · show k.val = (t.val * 128 + k.val) % 128
    omega

variable (h0 : ∀ r k, x0 (ix2 r k) = x (ix2 r ⟨512 + (ch t k).val, by omega⟩)) (h2 : ∀ j k, x2 (ix3 0 j k) = cw (ix3 1 j (ch t k)))
  (h3 : ∀ k, x3 (ix3 0 0 k) = cb (ix2 1 (ch t k))) (h4 : ∀ d k, x4 (ix4 0 0 d k) = wa (ix4 1 t d k)) (h5 : ∀ k, x5 (ix3 0 0 k) = ba (ix2 1 (ch t k)))
  (h6 : ∀ d k, x6 (ix4 0 0 d k) = wx (ix4 1 t d k)) (h7 : ∀ k, x7 (ix3 0 0 k) = bx (ix2 1 (ch t k))) (h8 : ∀ k, x8 (ix3 0 0 k) = lam (ix2 1 (ch t k)))
include h0 h2 h3 h4 h5 h8

theorem kl_ex (r : Fin 2048) (k : Fin 128) : kl x0 x2 x3 x4 x5 x8 (ix2 r k) = R.ex x cw cb wa ba lam r (ch t k) := by
  rw [kl_apply, pre_head x cw cb t h0 h2 h3 h4 h5, h8]
  rfl

theorem ka_dec (k : Fin 128) : col (ka x0 x2 x3 x4 x5 x8) k = R.decs x cw cb wa ba lam (ch t k) := funext fun n => by
  unfold col R.decs
  split
  · exact congrArg Ideal.exp (kl_ex x cw cb wa ba lam t h0 h2 h3 h4 h5 h8 _ k)
  · rfl

include h6 h7

theorem kx_inp (k : Fin 128) : col (kx x0 x2 x3 x4 x5 x6 x7 x8) k = R.inps x cw cb wa ba wx bx lam (ch t k) := funext fun n => by
  unfold col R.inps
  split
  · rename_i hn
    have e := kl_ex x cw cb wa ba lam t h0 h2 h3 h4 h5 h8 ⟨n, hn⟩ k
    have e' : ki x0 x2 x3 x6 x7 (ix2 ⟨n, hn⟩ k) = Ideal.logistic (R.pre x cw cb wx bx ⟨n, hn⟩ (ch t k)) := by
      rw [ki_apply, pre_head x cw cb t h0 h2 h3 h6 h7]
    show Ideal.sqrt ((0 - Ideal.tanh (kl x0 x2 x3 x4 x5 x8 (ix2 ⟨n, hn⟩ k))) * (Ideal.exp (kl x0 x2 x3 x4 x5 x8 (ix2 ⟨n, hn⟩ k)) * Ideal.exp (kl x0 x2 x3 x4 x5 x8 (ix2 ⟨n, hn⟩ k)) + 1))
      * (ki x0 x2 x3 x6 x7 (ix2 ⟨n, hn⟩ k) * kv x0 x2 x3 (ix2 ⟨n, hn⟩ k)) = _
    rw [e, e', kv_conv x cw cb t h0 h2 h3]
    rfl
  · rfl

theorem kh_hs (r : Fin 2048) (k : Fin 128) : kh x0 x2 x3 x4 x5 x6 x7 x8 (ix2 r k) = R.hs x cw cb wa ba wx bx lam r (ch t k) := by
  have ha := ka_dec x cw cb wa ba lam t h0 h2 h3 h4 h5 h8 k
  have hx := kx_inp x cw cb wa ba wx bx lam t h0 h2 h3 h4 h5 h6 h7 h8 k
  unfold kh R.hs
  rw [scan_eq, ha, hx]
  rw [ha]
  intro n
  unfold R.decs
  split
  · exact decay_real _ (R.ex_nonpos _ _ _ _ _ _ _ _)
  · exact ⟨0, le_rfl, rfl⟩

end Head

/-! The blocks of a head, and the two arrays. -/

variable (m : (ℓ : Loc nD τ sig) → Buf (Elt Ideal) ℓ) (c : Dev nD)

theorem idx : ∀ t : Fin cfg0.N, (win0_0.index t = ![0, 4 + t.val] ∧ win0_1.index t = ![0, 12 + t.val] ∧ win0_2.index t = ![1, 0, t.val] ∧ win0_3.index t = ![1, 0, t.val])
    ∧ (win0_4.index t = ![1, t.val, 0, 0] ∧ win0_5.index t = ![1, 0, t.val] ∧ win0_6.index t = ![1, t.val, 0, 0] ∧ win0_7.index t = ![1, 0, t.val] ∧ win0_8.index t = ![1, 0, t.val])
    ∧ win0_9.index t = ![0, t.val] ∧ win0_10.index t = ![0, t.val] :=
  (by decide +kernel : ∀ t : Fin grid0.N, _)

theorem N0 : cfg0.N = 8 := N_0
def hd (t : Fin cfg0.N) : Fin 8 := ⟨t.val, N0 ▸ t.isLt⟩

theorem blk0 (t : Fin cfg0.N) (r : Fin 2048) (k : Fin 128) : (iblk m c 0 t : Vec Ideal S2048x128 .f32) (ix2 r k) = m ((c : Thread nD τ).loc main_arg0) (ix2 r ⟨512 + (ch (hd t) k).val, by omega⟩) := by
  unfold ch hd
  blk_point [iblk, V, idx t]
theorem blk1 (t : Fin cfg0.N) (r : Fin 2048) (k : Fin 128) : (iblk m c 1 t : Vec Ideal S2048x128 .f32) (ix2 r k) = m ((c : Thread nD τ).loc main_arg0) (ix2 r ⟨1536 + (ch (hd t) k).val, by omega⟩) := by
  unfold ch hd
  blk_point [iblk, V, idx t]
theorem blk2 (t : Fin cfg0.N) (j : Fin 4) (k : Fin 128) : (iblk m c 2 t : Vec Ideal S1x4x128 .f32) (ix3 0 j k) = m ((c : Thread nD τ).loc main_arg1) (ix3 1 j (ch (hd t) k)) := by
  unfold ch hd
  blk_point [iblk, V, idx t]
theorem blk3 (t : Fin cfg0.N) (k : Fin 128) : (iblk m c 3 t : Vec Ideal S1x1x128 .f32) (ix3 0 0 k) = m ((c : Thread nD τ).loc main_arg2) (ix2 1 (ch (hd t) k)) := by
  unfold ch hd
  blk_point [iblk, V, idx t]
theorem blk4 (t : Fin cfg0.N) (d k : Fin 128) : (iblk m c 4 t : Vec Ideal S1x1x128x128 .f32) (ix4 0 0 d k) = m ((c : Thread nD τ).loc main_arg3) (ix4 1 (hd t) d k) := by
  unfold hd
  blk_point [iblk, V, idx t]
theorem blk5 (t : Fin cfg0.N) (k : Fin 128) : (iblk m c 5 t : Vec Ideal S1x1x128 .f32) (ix3 0 0 k) = m ((c : Thread nD τ).loc main_arg4) (ix2 1 (ch (hd t) k)) := by
  unfold ch hd
  blk_point [iblk, V, idx t]
theorem blk6 (t : Fin cfg0.N) (d k : Fin 128) : (iblk m c 6 t : Vec Ideal S1x1x128x128 .f32) (ix4 0 0 d k) = m ((c : Thread nD τ).loc main_arg5) (ix4 1 (hd t) d k) := by
  unfold hd
  blk_point [iblk, V, idx t]
theorem blk7 (t : Fin cfg0.N) (k : Fin 128) : (iblk m c 7 t : Vec Ideal S1x1x128 .f32) (ix3 0 0 k) = m ((c : Thread nD τ).loc main_arg6) (ix2 1 (ch (hd t) k)) := by
  unfold ch hd
  blk_point [iblk, V, idx t]
theorem blk8 (t : Fin cfg0.N) (k : Fin 128) : (iblk m c 8 t : Vec Ideal S1x1x128 .f32) (ix3 0 0 k) = m ((c : Thread nD τ).loc main_arg7) (ix2 1 (ch (hd t) k)) := by
  unfold ch hd
  blk_point [iblk, V, idx t]

/-- A head's recurrence. -/
theorem pt_10 (t : Fin cfg0.N) (r : Fin 2048) (k : Fin 128) :
    kh (iblk m c 0 t) (iblk m c 2 t) (iblk m c 3 t) (iblk m c 4 t) (iblk m c 5 t) (iblk m c 6 t) (iblk m c 7 t) (iblk m c 8 t) (ix2 r k)
      = R.hs (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) r (ch (hd t) k) :=
  kh_hs _ _ _ _ _ _ _ _ (hd t) (blk0 m c t) (blk2 m c t) (blk3 m c t) (blk4 m c t) (blk5 m c t) (blk6 m c t) (blk7 m c t) (blk8 m c t) r k

/-- The two results as functions of the arguments. -/
def hres : S2048x1024.Idx → EReal := fun i =>
  R.hs (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (i 0) (i 1)
def yres : S2048x1024.Idx → EReal := fun i => hres m c i * R.gelu (m ((c : Thread nD τ).loc main_arg0)) (i 0) (i 1)

theorem blk_10 (t : Fin cfg0.N) (r : Fin 2048) (k : Fin 128) : ((dats m 0 c).arrAt 10 cfg0.N : FVec Ideal S2048x1024 .f32) (ix2 r (ch (hd t) k))
    = out0_10 (iblk m c 0 t) (iblk m c 1 t) (iblk m c 2 t) (iblk m c 3 t) (iblk m c 4 t) (iblk m c 5 t) (iblk m c 6 t) (iblk m c 7 t) (iblk m c 8 t) (ix2 r k) := by
  have h := congrFun (blocks10 m c t (flush0_10 t)) (ix2 r k)
  rw [View.read_apply, flushed10] at h
  refine Eq.trans (congrArg (dats m 0 c |>.arrAt 10 cfg0.N) ?_) h
  unfold ch hd
  blk_ext [idx t]
theorem blk_9 (t : Fin cfg0.N) (r : Fin 2048) (k : Fin 128) : ((dats m 0 c).arrAt 9 cfg0.N : FVec Ideal S2048x1024 .bf16) (ix2 r (ch (hd t) k))
    = out0_9 (iblk m c 0 t) (iblk m c 1 t) (iblk m c 2 t) (iblk m c 3 t) (iblk m c 4 t) (iblk m c 5 t) (iblk m c 6 t) (iblk m c 7 t) (iblk m c 8 t) (ix2 r k) := by
  have h := congrFun (blocks9 m c t (flush0_9 t)) (ix2 r k)
  rw [View.read_apply, flushed9] at h
  refine Eq.trans (congrArg (dats m 0 c |>.arrAt 9 cfg0.N) ?_) h
  unfold ch hd
  blk_ext [idx t]

/-- Every index lies in a head's block. -/
theorem split (C : Fin 1024) : ∃ (t : Fin cfg0.N) (k : Fin 128), C = ch (hd t) k :=
  ⟨⟨C.val / 128, by rw [N0]; omega⟩, ⟨C.val % 128, by omega⟩, Fin.ext (by show C.val = C.val / 128 * 128 + C.val % 128; omega)⟩

theorem arr_10 (r : Fin 2048) (C : Fin 1024) : ((dats m 0 c).arrAt 10 cfg0.N : FVec Ideal S2048x1024 .f32) (ix2 r C) = hres m c (ix2 r C) := by
  obtain ⟨t, k, rfl⟩ := split C
  rw [blk_10, out10_eq]
  exact pt_10 m c t r k

theorem arr_9 (r : Fin 2048) (C : Fin 1024) : ((dats m 0 c).arrAt 9 cfg0.N : FVec Ideal S2048x1024 .bf16) (ix2 r C) = yres m c (ix2 r C) := by
  obtain ⟨t, k, rfl⟩ := split C
  rw [blk_9, out9_eq, ky_apply, pt_10, blk1]
  rfl

end Cert.LruF.K

namespace Cert.LruF

open Idealize.ShloMosaic Idealize.ShloMosaic.TcCoe Idealize.SL.Sem

theorem frame_reference : Cert.quiescent_LruFReferenceIdeal := fun m g _ =>
  (θ_run Cert.LruFReferenceIdeal.defs _ _).mono (fun r h => ⟨fun c => (h c).2.2, sem_eq_zero_of_no_sems (by decide) r.2⟩)
    (LruFReferenceIdeal.Value.run m g)

theorem arrays (m : (ℓ : Loc LruFKernelIdeal.nD LruFKernelIdeal.τ LruFKernelIdeal.sig) → Buf (Elt Ideal) ℓ) (c : Dev LruFKernelIdeal.nD)
    (m' : (ℓ : Loc LruFReferenceIdeal.nD LruFReferenceIdeal.τ LruFReferenceIdeal.sig) → Buf (Elt Ideal) ℓ) (c' : Dev LruFReferenceIdeal.nD)
    (e0 : m' ((c' : Thread LruFReferenceIdeal.nD LruFReferenceIdeal.τ).loc LruFReferenceIdeal.main_arg0) = m ((c : Thread LruFKernelIdeal.nD LruFKernelIdeal.τ).loc LruFKernelIdeal.main_arg0))
    (e1 : m' ((c' : Thread LruFReferenceIdeal.nD LruFReferenceIdeal.τ).loc LruFReferenceIdeal.main_arg1) = m ((c : Thread LruFKernelIdeal.nD LruFKernelIdeal.τ).loc LruFKernelIdeal.main_arg1))
    (e2 : m' ((c' : Thread LruFReferenceIdeal.nD LruFReferenceIdeal.τ).loc LruFReferenceIdeal.main_arg2) = m ((c : Thread LruFKernelIdeal.nD LruFKernelIdeal.τ).loc LruFKernelIdeal.main_arg2))
    (e3 : m' ((c' : Thread LruFReferenceIdeal.nD LruFReferenceIdeal.τ).loc LruFReferenceIdeal.main_arg3) = m ((c : Thread LruFKernelIdeal.nD LruFKernelIdeal.τ).loc LruFKernelIdeal.main_arg3))
    (e4 : m' ((c' : Thread LruFReferenceIdeal.nD LruFReferenceIdeal.τ).loc LruFReferenceIdeal.main_arg4) = m ((c : Thread LruFKernelIdeal.nD LruFKernelIdeal.τ).loc LruFKernelIdeal.main_arg4))
    (e5 : m' ((c' : Thread LruFReferenceIdeal.nD LruFReferenceIdeal.τ).loc LruFReferenceIdeal.main_arg5) = m ((c : Thread LruFKernelIdeal.nD LruFKernelIdeal.τ).loc LruFKernelIdeal.main_arg5))
    (e6 : m' ((c' : Thread LruFReferenceIdeal.nD LruFReferenceIdeal.τ).loc LruFReferenceIdeal.main_arg6) = m ((c : Thread LruFKernelIdeal.nD LruFKernelIdeal.τ).loc LruFKernelIdeal.main_arg6))
    (e7 : m' ((c' : Thread LruFReferenceIdeal.nD LruFReferenceIdeal.τ).loc LruFReferenceIdeal.main_arg7) = m ((c : Thread LruFKernelIdeal.nD LruFKernelIdeal.τ).loc LruFKernelIdeal.main_arg7)) :
    LruFReferenceIdeal.Step.R_main_v105 (Run.trips m' c' 2048) (m' ((c' : Thread LruFReferenceIdeal.nD LruFReferenceIdeal.τ).loc LruFReferenceIdeal.main_arg0))
        = (LruFKernelIdeal.Gen.dats m 0 c).arrAt 9 LruFKernelIdeal.cfg0.N
      ∧ (Run.trips m' c' 2048).main_v89_4 = (LruFKernelIdeal.Gen.dats m 0 c).arrAt 10 LruFKernelIdeal.cfg0.N := by
  have h := R.holds m' c' 2048 le_rfl
  rw [e0, e1, e2, e3, e4, e5, e6, e7] at h
  have hh : ∀ (r : Fin 2048) (C : Fin 1024), (Run.trips m' c' 2048).main_v89_4 (ix2 r C) = K.hres m c (ix2 r C) := fun r C => h.rows r C r.isLt
  constructor
  · funext i
    obtain ⟨r, C, rfl⟩ : ∃ (r : Fin 2048) (C : Fin 1024), i = ix2 r C := ⟨i 0, i 1, eq_ix2 i⟩
    rw [R.out_apply, hh, e0]
    exact (K.arr_9 m c r C).symm
  · funext i
    obtain ⟨r, C, rfl⟩ : ∃ (r : Fin 2048) (C : Fin 1024), i = ix2 r C := ⟨i 0, i 1, eq_ix2 i⟩
    exact (hh r C).trans (K.arr_10 m c r C).symm

theorem value : Cert.algebraic_LruFKernelIdeal_LruFReferenceIdeal := by
  intro m g m' g' _ hm
  refine ⟨_, _, LruFKernelIdeal.Value.run_blocks m g,
    (θ_run _ _ _).mono (fun r h c => ?_) (LruFReferenceIdeal.Value.run m' g')⟩
  obtain ⟨h0, h1, hk⟩ := h c
  obtain ⟨e0, e1, e2, e3, e4, e5, e6, e7⟩ := hm c
  obtain ⟨r1, r0⟩ := Run.results m' c
  obtain ⟨a0, a1⟩ := arrays m c m' c e0 e1 e2 e3 e4 e5 e6 e7
  exact ⟨h0.trans (r0.trans a0), h1.trans (r1.trans a1), hk⟩

end Cert.LruF
end
-- ==== Proof.Mm.lean ====
/- The first weight's gradient of the perceptron, eight blocks of 512 columns against one product. -/
module

public import proofs.«01_k».proof.Defs
public import proofs.«01_k».proof.Proof.Common
public import Idealize.ShloMosaic.Lib.Quiescent
public import Idealize.ShloMosaic.Lib.Pipeline.ValueKit
public import proofs.«01_k».proof.Proof.Gen.MmKernelIdeal.Value
public import proofs.«01_k».proof.Proof.Gen.MmReferenceIdeal.Run
public import proofs.«01_k».proof.Proof.Gen.MmReferenceIdeal.Read

@[expose] public section

set_option maxRecDepth 16384

noncomputable section

namespace Cert.Mm.K

open Cert.MmKernelIdeal Cert.MmKernelIdeal.Gen Cert.MmKernelIdeal.Value Cert.Common Idealize.ShloMosaic Idealize.ShloMosaic.TcCoe Idealize.SL.Sem
open Cert.MmReferenceIdeal.Read

variable (m : (ℓ : Loc nD τ sig) → Buf (Elt Ideal) ℓ) (c : Dev nD)

theorem idx : ∀ t : Fin cfg0.N, win0_0.index t = ![0, 0] ∧ win0_1.index t = ![0, t.val] ∧ win0_2.index t = ![t.val, 0, 0] :=
  (by decide +kernel : ∀ t : Fin grid0.N, _)

theorem N_lt (t : Fin cfg0.N) : t.val < 8 := lt_of_lt_of_eq t.isLt N_0

theorem col_lt (t : Fin cfg0.N) (k : Fin 512) : t.val * 512 + k.val < 4096 := by
  have h := N_lt t
  omega

/-- One entry of the gradient, a sum over the rows. -/
theorem grad (x : (⟨S2048x1024, .f32⟩ : BufTy).Contents (Elt Ideal)) (d : (⟨S2048x4096, .f32⟩ : BufTy).Contents (Elt Ideal)) (b : Fin 8) (r : Fin 1024) (k : Fin 512) (C : Fin 4096) (hC : C.val = b.val * 512 + k.val) :
    val_main_v6 (F := Ideal) x d (ix3 b r k) = ∑ n : Fin 2048, x (ix2 n r) * d (ix2 n C) := by
  rw [val_main_v6_apply, val_main_v5_apply, val_main_v4_apply, val_main_v3_apply]
  refine (val_main_v2_apply x d _).trans (Finset.sum_congr rfl fun n _ => ?_)
  rw [mul_comm]
  refine congrArg₂ (· * ·) (congrArg x ?_) (congrArg d ?_)
  · funext a
    refine Fin.ext ?_
    match a with
    | ⟨0, _⟩ => rfl
    | ⟨1, _⟩ =>
      show ((r.val * 8 + b.val) * 512 + k.val) / 4096 = r.val
      omega
  · funext a
    refine Fin.ext ?_
    match a with
    | ⟨0, _⟩ => rfl
    | ⟨1, _⟩ =>
      show ((r.val * 8 + b.val) * 512 + k.val) % 4096 = C.val
      omega

/-- The forward input and the cotangent. -/
abbrev X : (⟨S2048x1024, .f32⟩ : BufTy).Contents (Elt Ideal) := m ((c : Thread nD τ).loc main_arg0)
abbrev G : (⟨S2048x4096, .f32⟩ : BufTy).Contents (Elt Ideal) := m ((c : Thread nD τ).loc main_arg1)

theorem pt (t : Fin cfg0.N) (r : Fin 1024) (k : Fin 512) :
    k0_pay1 (F := Ideal) (iblk m c 0 t) (iblk m c 1 t) (ix3 0 r k)
      = ∑ n : Fin 2048, X m c (ix2 n r) * G m c (ix2 n ⟨t.val * 512 + k.val, col_lt t k⟩) := by
  pointwise [k0_pay1]
  refine Finset.sum_congr rfl fun n _ => ?_
  blk_point [iblk, V, idx t]

theorem arr_2 : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf (y : S1x1024x512.Idx) => ?_
  blk_simp
  rw [after0_2]
  frame_out
  have h0 : y 0 = (0 : Fin 1) := Subsingleton.elim (α := Fin 1) _ _
  rw [eq_ix3 y, h0]
  refine (pt m c t (y 1) (y 2)).trans ((grad _ _ ⟨t.val, N_lt t⟩ (y 1) (y 2) ⟨t.val * 512 + (y 2).val, col_lt t (y 2)⟩ rfl).symm.trans (congrArg (val_main_v6 (F := Ideal) (m ((c : Thread nD τ).loc main_arg0)) (m ((c : Thread nD τ).loc main_arg1))) ?_))
  blk_ext [idx t]

end Cert.Mm.K

namespace Cert.Mm

open Idealize.ShloMosaic Idealize.ShloMosaic.TcCoe Idealize.SL.Sem

theorem frame_reference : Cert.quiescent_MmReferenceIdeal := fun m g _ =>
  (θ_run Cert.MmReferenceIdeal.defs _ _).mono (fun r h => ⟨fun c => (h c).2, sem_eq_zero_of_no_sems (by decide) r.2⟩)
    (MmReferenceIdeal.Value.run m g)

theorem value : Cert.algebraic_MmKernelIdeal_MmReferenceIdeal := by
  intro m g m' g' _ hm
  refine ⟨_, MmKernelIdeal.Value.run_blocks m g,
    (θ_run _ _ _).mono (fun r h c => ?_) (MmReferenceIdeal.Value.run m' g')⟩
  obtain ⟨h0, hk⟩ := h c
  obtain ⟨e0, e1⟩ := hm c
  rw [K.arr_2, ← e0, ← e1]
  exact ⟨h0.trans (MmReferenceIdeal.Read.val_main_v6_eq _ _), hk⟩

end Cert.Mm
end
-- ==== Proof.Dwin.lean ====
/- The input projection's gradient, eight products of 320 columns against one. -/
module

public import proofs.«01_k».proof.Defs
public import proofs.«01_k».proof.Proof.Common
public import Idealize.ShloMosaic.Lib.Quiescent
public import Idealize.ShloMosaic.Lib.Pipeline.ValueKit
public import proofs.«01_k».proof.Proof.Gen.DwinKernelIdeal.Value
public import proofs.«01_k».proof.Proof.Gen.DwinReferenceIdeal.Run
public import proofs.«01_k».proof.Proof.Gen.DwinReferenceIdeal.Read

@[expose] public section

set_option maxRecDepth 16384

noncomputable section

namespace Cert.Dwin.K

open Cert.DwinKernelIdeal Cert.DwinKernelIdeal.Gen Cert.DwinKernelIdeal.Value Cert.Common Idealize.ShloMosaic Idealize.ShloMosaic.TcCoe Idealize.SL.Sem
open Cert.DwinReferenceIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0, 0] :=
  (by decide +kernel : ∀ t : Fin grid0.N, _)

/-- The eight stores hold one product, of the input and their own columns. -/
theorem pays (x : Vec Ideal S2048x1024 .bf16) (w : Vec Ideal S2048x320 .bf16) :
    k0_pay2 (F := Ideal) x w = k0_pay1 x w ∧ k0_pay3 (F := Ideal) x w = k0_pay1 x w ∧ k0_pay4 (F := Ideal) x w = k0_pay1 x w
      ∧ k0_pay6 (F := Ideal) x w = k0_pay1 (k0_pay5 x) w ∧ k0_pay7 (F := Ideal) x w = k0_pay1 (k0_pay5 x) w
      ∧ k0_pay8 (F := Ideal) x w = k0_pay1 (k0_pay5 x) w ∧ k0_pay9 (F := Ideal) x w = k0_pay1 (k0_pay5 x) w :=
  ⟨rfl, rfl, rfl, rfl, rfl, rfl, rfl⟩

theorem prod_apply (x : Vec Ideal S2048x1024 .bf16) (w : Vec Ideal S2048x320 .bf16) (r : Fin 1024) (k : Fin 320) :
    k0_pay1 (F := Ideal) (k0_pay5 x) w (ix3 0 r k) = ∑ n : Fin 2048, x (ix2 n r) * w (ix2 n k) := by
  pointwise [k0_pay1, k0_pay5]

theorem col_lt (b : Fin 8) (k : Fin 320) : 320 * b.val + k.val < 2560 := by omega

/-- One entry of the gradient, a sum over the rows. -/
theorem grad (x : (⟨S2048x1024, .f32⟩ : BufTy).Contents (Elt Ideal)) (d : (⟨S2048x2560, .f32⟩ : BufTy).Contents (Elt Ideal)) (b : Fin 8) (r : Fin 1024) (k : Fin 320) :
    val_main_v6 (F := Ideal) x d (ix3 b r k) = ∑ n : Fin 2048, x (ix2 n r) * d (ix2 n ⟨320 * b.val + k.val, col_lt b k⟩) := by
  rw [val_main_v6_apply, val_main_v5_apply, val_main_v4_apply, val_main_v3_apply]
  refine (val_main_v2_apply x d _).trans (Finset.sum_congr rfl fun n _ => ?_)
  rw [mul_comm]
  refine congrArg₂ (· * ·) (congrArg x ?_) (congrArg d ?_) <;> refine funext fun a => Fin.ext ?_
  · match a with
    | ⟨0, _⟩ => rfl
    | ⟨1, _⟩ =>
      show ((r.val * 8 + b.val) * 320 + k.val) / 2560 = r.val
      omega
  · match a with
    | ⟨0, _⟩ => rfl
    | ⟨1, _⟩ =>
      show ((r.val * 8 + b.val) * 320 + k.val) % 2560 = 320 * b.val + k.val
      omega

theorem ld_cols (d : Vec Ideal S2048x2560 .bf16) (b : Fin 8) (o : ℕ) (ho : o = 320 * b.val) (inb) (n : Fin 2048) (k : Fin 320) :
    View.ld d (Rect.unit (s := S2048x2560) ![0, o] S2048x320.size inb) (ix2 n k) = d (ix2 n ⟨320 * b.val + k.val, col_lt b k⟩) := by
  subst ho
  refine congrArg d (funext fun a => Fin.ext ?_)
  match a with
  | ⟨0, _⟩ => show 0 + 1 * n.val = n.val; omega
  | ⟨1, _⟩ => show 320 * b.val + 1 * k.val = 320 * b.val + k.val; omega

/-- A store's payload is its slice of the gradient. -/
theorem piece (x : (⟨S2048x1024, .f32⟩ : BufTy).Contents (Elt Ideal)) (d : (⟨S2048x2560, .f32⟩ : BufTy).Contents (Elt Ideal))
    (b : Fin 8) (o q : ℕ) (ho : o = 320 * b.val) (hq : q = b.val) (inb inb' inb₀) (y : S1x1024x320.Idx) :
    k0_pay1 (F := Ideal) (k0_pay5 (View.ld x (Rect.unit (s := S2048x1024) ![0, 0] S2048x1024.size inb₀))) (View.ld d (Rect.unit (s := S2048x2560) ![0, o] S2048x320.size inb)) y
      = val_main_v6 (F := Ideal) x d ((Rect.unit (s := S8x1024x320) ![q, 0, 0] S1x1024x320.size inb').emb y) := by
  obtain ⟨u, r, k, rfl⟩ : ∃ (u : Fin 1) (r : Fin 1024) (k : Fin 320), y = ix3 u r k := ⟨_, _, _, eq_ix3 y⟩
  obtain rfl := Subsingleton.elim u 0
  rw [show (Rect.unit (s := S8x1024x320) ![q, 0, 0] S1x1024x320.size inb').emb (ix3 (0 : Fin 1) r k) = ix3 b r k from funext fun a => Fin.ext (by
    subst hq
    match a with
    | ⟨0, _⟩ => show b.val + 1 * 0 = b.val; omega
    | ⟨1, _⟩ => show 0 + 1 * r.val = r.val; omega
    | ⟨2, _⟩ => show 0 + 1 * k.val = k.val; omega), grad, View.ld_unit_zero hz2]
  exact (prod_apply x _ r k).trans (Finset.sum_congr rfl fun n _ => congrArg (x (ix2 n r) * ·) (ld_cols d b o ho inb n k))

theorem out (x : (⟨S2048x1024, .f32⟩ : BufTy).Contents (Elt Ideal)) (d : (⟨S2048x2560, .f32⟩ : BufTy).Contents (Elt Ideal)) :
    out0_2 (F := Ideal) x d = val_main_v6 (F := Ideal) x d := by
  funext y
  unfold_out out0_2
  refine View.canon_apply_of_pieces (val_main_v6 (F := Ideal) x d) _ (fun p hp z => ?_) y (cover0_2 _ _ _ _ _ _ _ _ y)
  simp only [List.mem_cons, List.not_mem_nil, or_false] at hp
  rcases hp with rfl | rfl | rfl | rfl | rfl | rfl | rfl | rfl
  · exact piece x d 7 _ 7 rfl rfl _ inb_S8x1024x320_S1x1024x320_7_0_0 _ z
  · exact piece x d 6 _ 6 rfl rfl _ inb_S8x1024x320_S1x1024x320_6_0_0 _ z
  · exact piece x d 5 _ 5 rfl rfl _ inb_S8x1024x320_S1x1024x320_5_0_0 _ z
  · exact piece x d 4 _ 4 rfl rfl _ inb_S8x1024x320_S1x1024x320_4_0_0 _ z
  · exact piece x d 3 _ 3 rfl rfl _ inb_S8x1024x320_S1x1024x320_3_0_0 _ z
  · exact piece x d 2 _ 2 rfl rfl _ inb_S8x1024x320_S1x1024x320_2_0_0 _ z
  · exact piece x d 1 _ 1 rfl rfl _ inb_S8x1024x320_S1x1024x320_1_0_0 _ z
  · exact piece x d 0 _ 0 rfl rfl _ inb_S8x1024x320_S1x1024x320_0_0_0 _ z

theorem blk0 (t : Fin cfg0.N) : iblk m c 0 t = m ((c : Thread nD τ).loc main_arg0) := by
  funext (y : S2048x1024.Idx)
  rw [eq_ix2 y]
  blk_point [iblk, V, idx t]

theorem blk1 (t : Fin cfg0.N) : iblk m c 1 t = m ((c : Thread nD τ).loc main_arg1) := by
  funext (y : S2048x2560.Idx)
  rw [eq_ix2 y]
  blk_point [iblk, V, idx t]

theorem arr_2 : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf (y : S8x1024x320.Idx) => ?_
  blk_simp
  rw [after0_2]
  refine (congrFun ((congrArg₂ (out0_2 (F := Ideal)) (blk0 m c t) (blk1 m c t)).trans (out _ _)) y).trans (congrArg (val_main_v6 (F := Ideal) (m ((c : Thread nD τ).loc main_arg0)) (m ((c : Thread nD τ).loc main_arg1))) ?_)
  blk_ext [idx t]

end Cert.Dwin.K

namespace Cert.Dwin

open Idealize.ShloMosaic Idealize.ShloMosaic.TcCoe Idealize.SL.Sem

theorem frame_reference : Cert.quiescent_DwinReferenceIdeal := fun m g _ =>
  (θ_run Cert.DwinReferenceIdeal.defs _ _).mono (fun r h => ⟨fun c => (h c).2, sem_eq_zero_of_no_sems (by decide) r.2⟩)
    (DwinReferenceIdeal.Value.run m g)

theorem value : Cert.algebraic_DwinKernelIdeal_DwinReferenceIdeal := by
  intro m g m' g' _ hm
  refine ⟨_, DwinKernelIdeal.Value.run_blocks m g,
    (θ_run _ _ _).mono (fun r h c => ?_) (DwinReferenceIdeal.Value.run m' g')⟩
  obtain ⟨h0, hk⟩ := h c
  obtain ⟨e0, e1⟩ := hm c
  rw [K.arr_2, ← e0, ← e1]
  exact ⟨h0.trans (DwinReferenceIdeal.Read.val_main_v6_eq _ _), hk⟩

end Cert.Dwin
end
-- ==== Proof.AdamStep.lean ====
/- The optimiser's step, entry by entry, and the arrays the kernel leaves. -/
module

public import proofs.«01_k».proof.Defs
public import proofs.«01_k».proof.Proof.Common
public import Idealize.ShloMosaic.Lib.Quiescent
public import Idealize.ShloMosaic.Lib.Pipeline.ValueKit
public import proofs.«01_k».proof.Proof.Gen.AdamKernelIdeal.Value
public import proofs.«01_k».proof.Proof.Gen.AdamReferenceIdeal.Run
public import proofs.«01_k».proof.Proof.Gen.AdamReferenceIdeal.Read

@[expose] public section

set_option maxRecDepth 16384

noncomputable section

namespace Cert.Adam

open Idealize.ShloMosaic

/-- The moments and the step of one entry, from its gradient, weight and moments. -/
def mom (g u : EReal) : EReal := Ideal.ofBits .f32 0x3F666666#32 * u + Ideal.ofBits .f32 0x3DCCCCCD#32 * g
def vel (g v : EReal) : EReal := Ideal.ofBits .f32 0x3F7FBE77#32 * v + Ideal.ofBits .f32 0x3A83126F#32 * (g * g)
def step (w g u v : EReal) : EReal :=
  Ideal.ofBits .f32 0xBA83126F#32 * (Ideal.div (Ideal.div (mom g u) (Ideal.ofBits .f32 0x3F26BD02#32)) (Ideal.sqrt (Ideal.div (vel g v) (Ideal.ofBits .f32 0x3C231ACC#32)) + Ideal.ofBits .f32 0x322BCC77#32) + Ideal.ofBits .f32 0x3C23D70A#32 * w)

end Cert.Adam

namespace Cert.Adam.K

open Cert.AdamKernelIdeal Cert.AdamKernelIdeal.Gen Cert.AdamKernelIdeal.Value Cert.Common Idealize.ShloMosaic Idealize.ShloMosaic.TcCoe Idealize.SL.Sem
open Cert.AdamReferenceIdeal.Read

theorem pay2_eq (g u : Vec Ideal S4x1024 .f32) (y) : k0_pay2 (F := Ideal) g u y = mom (g y) (u y) := rfl
theorem pay3_eq (g v : Vec Ideal S4x1024 .f32) (y) : k0_pay3 (F := Ideal) g v y = vel (g y) (v y) := rfl
theorem pay4_eq (w g u v : Vec Ideal S4x1024 .f32) (y) : k0_pay4 (F := Ideal) w g u v y = step (w y) (g y) (u y) (v y) := rfl
theorem pay12_eq (g u : Vec Ideal S2x48 .f32) (y) : k0_pay12 (F := Ideal) g u y = mom (g y) (u y) := rfl
theorem pay13_eq (g v : Vec Ideal S2x48 .f32) (y) : k0_pay13 (F := Ideal) g v y = vel (g y) (v y) := rfl
theorem pay1_eq (w g u v : Vec Ideal S2x48 .f32) (y) : k0_pay1 (F := Ideal) w (k0_pay14 g u v) k0_pay15 y = step (w y) (g y) (u y) (v y) := rfl
theorem pay5_eq (g : Vec Ideal S1024x128 .f32) (y) : k0_pay5 (F := Ideal) g y = g y := by
  obtain ⟨i, j, rfl⟩ : ∃ (i : Fin 1024) (j : Fin 128), y = ix2 i j := ⟨_, _, eq_ix2 y⟩
  pointwise [k0_pay5]
theorem pay7_eq (g u : Vec Ideal S1024x128 .f32) (y) : k0_pay7 (F := Ideal) g u y = mom (g y) (u y) := by
  obtain ⟨i, j, rfl⟩ : ∃ (i : Fin 1024) (j : Fin 128), y = ix2 i j := ⟨_, _, eq_ix2 y⟩
  pointwise [k0_pay7, k0_pay6, mom]
theorem pay8_eq (g v : Vec Ideal S1024x128 .f32) (y) : k0_pay8 (F := Ideal) g v y = vel (g y) (v y) := by
  obtain ⟨i, j, rfl⟩ : ∃ (i : Fin 1024) (j : Fin 128), y = ix2 i j := ⟨_, _, eq_ix2 y⟩
  pointwise [k0_pay8, k0_pay6, vel]
theorem pay11_eq (w g u v : Vec Ideal S1024x128 .f32) (y) : k0_pay11 (F := Ideal) (k0_pay9 w g u v) k0_pay10 y = step (w y) (g y) (u y) (v y) := by
  obtain ⟨i, j, rfl⟩ : ∃ (i : Fin 1024) (j : Fin 128), y = ix2 i j := ⟨_, _, eq_ix2 y⟩
  pointwise [k0_pay11, k0_pay10, k0_pay9, k0_pay8, k0_pay7, k0_pay6, step, mom, vel]

theorem v23_eq (g w u v : Vec Ideal S4x1024 .f32) (y) : val_main_v23 (F := Ideal) g w u v y = step (w y) (g y) (u y) (v y) := rfl
theorem v4_eq (g u : Vec Ideal S4x1024 .f32) (y) : val_main_v4 (F := Ideal) g u y = mom (g y) (u y) := rfl
theorem v10_eq (g v : Vec Ideal S4x1024 .f32) (y) : val_main_v10 (F := Ideal) g v y = vel (g y) (v y) := rfl
theorem v71_eq (g w u v : Vec Ideal S2x48 .f32) (y) : val_main_v71 (F := Ideal) g w u v y = step (w y) (g y) (u y) (v y) := rfl
theorem v52_eq (g u : Vec Ideal S2x48 .f32) (y) : val_main_v52 (F := Ideal) g u y = mom (g y) (u y) := rfl
theorem v58_eq (g v : Vec Ideal S2x48 .f32) (y) : val_main_v58 (F := Ideal) g v y = vel (g y) (v y) := rfl

/-- The matrices' rows, one under another. -/
abbrev rows (x : Vec Ideal S2x4x128x128 .f32) : Vec Ideal S1024x128 .f32 := val_main_v72 (F := Ideal) x
theorem v73_eq (g w u v : Vec Ideal S2x4x128x128 .f32) (y) : val_main_v73 (F := Ideal) g w u v y = step (rows w y) (rows g y) (rows u y) (rows v y) := rfl
theorem v74_eq (g u : Vec Ideal S2x4x128x128 .f32) (y) : val_main_v74 (F := Ideal) g u y = mom (rows g y) (rows u y) := rfl
theorem v75_eq (g v : Vec Ideal S2x4x128x128 .f32) (y) : val_main_v75 (F := Ideal) g v y = vel (rows g y) (rows v y) := rfl

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] :=
  (by decide +kernel : ∀ t : Fin grid0.N, _)

/-- An argument as the run finds it. -/
abbrev arg (r : Ref sig .tc) : Buf (Elt Ideal) ((c : Thread nD τ).loc r) := m ((c : Thread nD τ).loc r)

/-- What each input's block holds: the argument, or its rows. -/
theorem blks (t : Fin cfg0.N) : iblk m c 0 t = arg m c main_arg0
      ∧ iblk m c 1 t = rows (arg m c main_arg1)
      ∧ iblk m c 2 t = arg m c main_arg2
      ∧ iblk m c 3 t = arg m c main_arg3
      ∧ iblk m c 4 t = rows (arg m c main_arg4)
      ∧ iblk m c 5 t = arg m c main_arg5
      ∧ iblk m c 6 t = arg m c main_arg6
      ∧ iblk m c 7 t = rows (arg m c main_arg7)
      ∧ iblk m c 8 t = arg m c main_arg8
      ∧ iblk m c 9 t = arg m c main_arg9
      ∧ iblk m c 10 t = rows (arg m c main_arg10)
      ∧ iblk m c 11 t = arg m c main_arg11 := by
  refine ⟨funext fun (y : S4x1024.Idx) => ?_, funext fun (y : S1024x128.Idx) => ?_, funext fun (y : S2x48.Idx) => ?_, funext fun (y : S4x1024.Idx) => ?_, funext fun (y : S1024x128.Idx) => ?_, funext fun (y : S2x48.Idx) => ?_, funext fun (y : S4x1024.Idx) => ?_, funext fun (y : S1024x128.Idx) => ?_, funext fun (y : S2x48.Idx) => ?_, funext fun (y : S4x1024.Idx) => ?_, funext fun (y : S1024x128.Idx) => ?_, funext fun (y : S2x48.Idx) => ?_⟩
  all_goals
    rw [eq_ix2 y]
    first
    | blk_point [iblk, V, idx t]
    | (unfold rows; rw [← val_main_v72_eq]; blk_point [iblk, V, idx t])

theorem arr_12 : (dats m 0 c).arrAt 12 cfg0.N = arg m c main_arg0 := by
  refine (dats m 0 c).arrAt_eq_of_covers 12 _ (by decide +kernel) fun t hf (y : S4x1024.Idx) => ?_
  obtain ⟨b0, b1, b2, b3, b4, b5, b6, b7, b8, b9, b10, b11⟩ := blks m c t
  blk_simp
  rw [after0_12]
  frame_out
  refine Eq.trans ?_ (congrArg (a₁ := y) (arg m c main_arg0) ?_)
  · rw [b0]
  · blk_ext [idx t]

theorem arr_13 : (dats m 0 c).arrAt 13 cfg0.N = rows (arg m c main_arg1) := by
  refine (dats m 0 c).arrAt_eq_of_covers 13 _ (by decide +kernel) fun t hf (y : S1024x128.Idx) => ?_
  obtain ⟨b0, b1, b2, b3, b4, b5, b6, b7, b8, b9, b10, b11⟩ := blks m c t
  blk_simp
  rw [after0_13]
  frame_out
  refine Eq.trans ?_ (congrArg (a₁ := y) (rows (arg m c main_arg1)) ?_)
  · rw [pay5_eq, b1]
  · blk_ext [idx t]

theorem arr_14 : (dats m 0 c).arrAt 14 cfg0.N = arg m c main_arg2 := by
  refine (dats m 0 c).arrAt_eq_of_covers 14 _ (by decide +kernel) fun t hf (y : S2x48.Idx) => ?_
  obtain ⟨b0, b1, b2, b3, b4, b5, b6, b7, b8, b9, b10, b11⟩ := blks m c t
  blk_simp
  rw [after0_14]
  frame_out
  refine Eq.trans ?_ (congrArg (a₁ := y) (arg m c main_arg2) ?_)
  · rw [b2]
  · blk_ext [idx t]

theorem arr_15 : (dats m 0 c).arrAt 15 cfg0.N = val_main_v23 (F := Ideal) (arg m c main_arg0) (arg m c main_arg3) (arg m c main_arg6) (arg m c main_arg9) := by
  refine (dats m 0 c).arrAt_eq_of_covers 15 _ (by decide +kernel) fun t hf (y : S4x1024.Idx) => ?_
  obtain ⟨b0, b1, b2, b3, b4, b5, b6, b7, b8, b9, b10, b11⟩ := blks m c t
  blk_simp
  rw [after0_15]
  frame_out
  refine Eq.trans ?_ (congrArg (a₁ := y) (val_main_v23 (F := Ideal) (arg m c main_arg0) (arg m c main_arg3) (arg m c main_arg6) (arg m c main_arg9)) ?_)
  · rw [pay4_eq, v23_eq, b3, b0, b6, b9]
  · blk_ext [idx t]

theorem arr_16 : (dats m 0 c).arrAt 16 cfg0.N = val_main_v73 (F := Ideal) (arg m c main_arg1) (arg m c main_arg4) (arg m c main_arg7) (arg m c main_arg10) := by
  refine (dats m 0 c).arrAt_eq_of_covers 16 _ (by decide +kernel) fun t hf (y : S1024x128.Idx) => ?_
  obtain ⟨b0, b1, b2, b3, b4, b5, b6, b7, b8, b9, b10, b11⟩ := blks m c t
  blk_simp
  rw [after0_16]
  frame_out
  refine Eq.trans ?_ (congrArg (a₁ := y) (val_main_v73 (F := Ideal) (arg m c main_arg1) (arg m c main_arg4) (arg m c main_arg7) (arg m c main_arg10)) ?_)
  · rw [pay11_eq, v73_eq, b4, b1, b7, b10]
  · blk_ext [idx t]

theorem arr_17 : (dats m 0 c).arrAt 17 cfg0.N = val_main_v71 (F := Ideal) (arg m c main_arg2) (arg m c main_arg5) (arg m c main_arg8) (arg m c main_arg11) := by
  refine (dats m 0 c).arrAt_eq_of_covers 17 _ (by decide +kernel) fun t hf (y : S2x48.Idx) => ?_
  obtain ⟨b0, b1, b2, b3, b4, b5, b6, b7, b8, b9, b10, b11⟩ := blks m c t
  blk_simp
  rw [after0_17]
  frame_out
  refine Eq.trans ?_ (congrArg (a₁ := y) (val_main_v71 (F := Ideal) (arg m c main_arg2) (arg m c main_arg5) (arg m c main_arg8) (arg m c main_arg11)) ?_)
  · rw [pay1_eq, v71_eq, b5, b2, b8, b11]
  · blk_ext [idx t]

theorem arr_18 : (dats m 0 c).arrAt 18 cfg0.N = val_main_v4 (F := Ideal) (arg m c main_arg0) (arg m c main_arg6) := by
  refine (dats m 0 c).arrAt_eq_of_covers 18 _ (by decide +kernel) fun t hf (y : S4x1024.Idx) => ?_
  obtain ⟨b0, b1, b2, b3, b4, b5, b6, b7, b8, b9, b10, b11⟩ := blks m c t
  blk_simp
  rw [after0_18]
  frame_out
  refine Eq.trans ?_ (congrArg (a₁ := y) (val_main_v4 (F := Ideal) (arg m c main_arg0) (arg m c main_arg6)) ?_)
  · rw [pay2_eq, v4_eq, b0, b6]
  · blk_ext [idx t]

theorem arr_19 : (dats m 0 c).arrAt 19 cfg0.N = val_main_v74 (F := Ideal) (arg m c main_arg1) (arg m c main_arg7) := by
  refine (dats m 0 c).arrAt_eq_of_covers 19 _ (by decide +kernel) fun t hf (y : S1024x128.Idx) => ?_
  obtain ⟨b0, b1, b2, b3, b4, b5, b6, b7, b8, b9, b10, b11⟩ := blks m c t
  blk_simp
  rw [after0_19]
  frame_out
  refine Eq.trans ?_ (congrArg (a₁ := y) (val_main_v74 (F := Ideal) (arg m c main_arg1) (arg m c main_arg7)) ?_)
  · rw [pay7_eq, v74_eq, b1, b7]
  · blk_ext [idx t]

theorem arr_20 : (dats m 0 c).arrAt 20 cfg0.N = val_main_v52 (F := Ideal) (arg m c main_arg2) (arg m c main_arg8) := by
  refine (dats m 0 c).arrAt_eq_of_covers 20 _ (by decide +kernel) fun t hf (y : S2x48.Idx) => ?_
  obtain ⟨b0, b1, b2, b3, b4, b5, b6, b7, b8, b9, b10, b11⟩ := blks m c t
  blk_simp
  rw [after0_20]
  frame_out
  refine Eq.trans ?_ (congrArg (a₁ := y) (val_main_v52 (F := Ideal) (arg m c main_arg2) (arg m c main_arg8)) ?_)
  · rw [pay12_eq, v52_eq, b2, b8]
  · blk_ext [idx t]

theorem arr_21 : (dats m 0 c).arrAt 21 cfg0.N = val_main_v10 (F := Ideal) (arg m c main_arg0) (arg m c main_arg9) := by
  refine (dats m 0 c).arrAt_eq_of_covers 21 _ (by decide +kernel) fun t hf (y : S4x1024.Idx) => ?_
  obtain ⟨b0, b1, b2, b3, b4, b5, b6, b7, b8, b9, b10, b11⟩ := blks m c t
  blk_simp
  rw [after0_21]
  frame_out
  refine Eq.trans ?_ (congrArg (a₁ := y) (val_main_v10 (F := Ideal) (arg m c main_arg0) (arg m c main_arg9)) ?_)
  · rw [pay3_eq, v10_eq, b0, b9]
  · blk_ext [idx t]

theorem arr_22 : (dats m 0 c).arrAt 22 cfg0.N = val_main_v75 (F := Ideal) (arg m c main_arg1) (arg m c main_arg10) := by
  refine (dats m 0 c).arrAt_eq_of_covers 22 _ (by decide +kernel) fun t hf (y : S1024x128.Idx) => ?_
  obtain ⟨b0, b1, b2, b3, b4, b5, b6, b7, b8, b9, b10, b11⟩ := blks m c t
  blk_simp
  rw [after0_22]
  frame_out
  refine Eq.trans ?_ (congrArg (a₁ := y) (val_main_v75 (F := Ideal) (arg m c main_arg1) (arg m c main_arg10)) ?_)
  · rw [pay8_eq, v75_eq, b1, b10]
  · blk_ext [idx t]

theorem arr_23 : (dats m 0 c).arrAt 23 cfg0.N = val_main_v58 (F := Ideal) (arg m c main_arg2) (arg m c main_arg11) := by
  refine (dats m 0 c).arrAt_eq_of_covers 23 _ (by decide +kernel) fun t hf (y : S2x48.Idx) => ?_
  obtain ⟨b0, b1, b2, b3, b4, b5, b6, b7, b8, b9, b10, b11⟩ := blks m c t
  blk_simp
  rw [after0_23]
  frame_out
  refine Eq.trans ?_ (congrArg (a₁ := y) (val_main_v58 (F := Ideal) (arg m c main_arg2) (arg m c main_arg11)) ?_)
  · rw [pay13_eq, v58_eq, b2, b11]
  · blk_ext [idx t]

end Cert.Adam.K

end
-- ==== Proof.Adam.lean ====
/- The optimiser's step for the small arrays. -/
module

public import proofs.«01_k».proof.Defs
public import proofs.«01_k».proof.Proof.AdamStep
public import Idealize.ShloMosaic.Lib.Quiescent
public import Idealize.ShloMosaic.Lib.Pipeline.ValueKit
public import proofs.«01_k».proof.Proof.Gen.AdamKernelIdeal.Value
public import proofs.«01_k».proof.Proof.Gen.AdamReferenceIdeal.Run
public import proofs.«01_k».proof.Proof.Gen.AdamReferenceIdeal.Read

@[expose] public section

set_option maxRecDepth 16384

noncomputable section

namespace Cert.Adam

open Idealize.ShloMosaic Idealize.ShloMosaic.TcCoe Idealize.SL.Sem

theorem frame_reference : Cert.quiescent_AdamReferenceIdeal := fun m g _ =>
  (θ_run Cert.AdamReferenceIdeal.defs _ _).mono (fun r h => ⟨fun c => (h c).2.2.2.2.2.2.2.2.2.2.2.2, sem_eq_zero_of_no_sems (by decide) r.2⟩)
    (AdamReferenceIdeal.Value.run m g)

set_option maxHeartbeats 4000000 in
theorem value : Cert.algebraic_AdamKernelIdeal_AdamReferenceIdeal := by
  intro m g m' g' _ hm
  refine ⟨_, _, _, _, _, _, _, _, _, _, _, _, AdamKernelIdeal.Value.run_blocks m g,
    (θ_run _ _ _).mono (fun r h c => ?_) (AdamReferenceIdeal.Value.run m' g')⟩
  obtain ⟨h0, h1, h2, h3, h4, h5, h6, h7, h8, h9, h10, h11, hk⟩ := h c
  obtain ⟨e0, e1, e2, e3, e4, e5, e6, e7, e8, e9, e10, e11⟩ := hm c
  refine ⟨h0.trans (e0.trans (K.arr_12 m c).symm),
    (h1.trans (AdamReferenceIdeal.Read.val_main_v72_eq _)).trans ?_,
    h2.trans (e2.trans (K.arr_14 m c).symm),
    (h3.trans (AdamReferenceIdeal.Read.val_main_v23_eq _ _ _ _)).trans ?_,
    (h4.trans (AdamReferenceIdeal.Read.val_main_v73_eq _ _ _ _)).trans ?_,
    (h5.trans (AdamReferenceIdeal.Read.val_main_v71_eq _ _ _ _)).trans ?_,
    (h6.trans (AdamReferenceIdeal.Read.val_main_v4_eq _ _)).trans ?_,
    (h7.trans (AdamReferenceIdeal.Read.val_main_v74_eq _ _)).trans ?_,
    (h8.trans (AdamReferenceIdeal.Read.val_main_v52_eq _ _)).trans ?_,
    (h9.trans (AdamReferenceIdeal.Read.val_main_v10_eq _ _)).trans ?_,
    (h10.trans (AdamReferenceIdeal.Read.val_main_v75_eq _ _)).trans ?_,
    (h11.trans (AdamReferenceIdeal.Read.val_main_v58_eq _ _)).trans ?_, hk⟩
  · rw [e1]
    exact (K.arr_13 m c).symm
  · rw [e0, e3, e6, e9]
    exact (K.arr_15 m c).symm
  · rw [e1, e4, e7, e10]
    exact (K.arr_16 m c).symm
  · rw [e2, e5, e8, e11]
    exact (K.arr_17 m c).symm
  · rw [e0, e6]
    exact (K.arr_18 m c).symm
  · rw [e1, e7]
    exact (K.arr_19 m c).symm
  · rw [e2, e8]
    exact (K.arr_20 m c).symm
  · rw [e0, e9]
    exact (K.arr_21 m c).symm
  · rw [e1, e10]
    exact (K.arr_22 m c).symm
  · rw [e2, e11]
    exact (K.arr_23 m c).symm

end Cert.Adam
end
-- ==== Proof.lean ====
/- The certificate: every frame, and every value claim, from the modules that prove them. -/
module

public import proofs.«01_k».proof.Defs
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Loss
public import proofs.«01_k».proof.Proof.Gen.LnKernel.Frame
public import proofs.«01_k».proof.Proof.Gen.LnKernelIdeal.Frame
public import proofs.«01_k».proof.Proof.Gen.LnKernelIdeal.Value
public import proofs.«01_k».proof.Proof.Gen.LnReferenceIdeal.Run
public import proofs.«01_k».proof.Proof.Gen.LnReferenceIdeal.Read
public import proofs.«01_k».proof.Proof.Ln
public import proofs.«01_k».proof.Proof.Gen.LnResKernel.Frame
public import proofs.«01_k».proof.Proof.Gen.LnResKernelIdeal.Frame
public import proofs.«01_k».proof.Proof.Gen.LnResKernelIdeal.Value
public import proofs.«01_k».proof.Proof.Gen.LnResReferenceIdeal.Run
public import proofs.«01_k».proof.Proof.Gen.LnResReferenceIdeal.Read
public import proofs.«01_k».proof.Proof.LnRes
public import proofs.«01_k».proof.Proof.Gen.RmsKernel.Frame
public import proofs.«01_k».proof.Proof.Gen.RmsKernelIdeal.Frame
public import proofs.«01_k».proof.Proof.Gen.RmsKernelIdeal.Value
public import proofs.«01_k».proof.Proof.Gen.RmsReferenceIdeal.Run
public import proofs.«01_k».proof.Proof.Gen.RmsReferenceIdeal.Read
public import proofs.«01_k».proof.Proof.Rms
public import proofs.«01_k».proof.Proof.Gen.MlpKernel.Frame
public import proofs.«01_k».proof.Proof.Gen.MlpKernelIdeal.Frame
public import proofs.«01_k».proof.Proof.Gen.MlpKernelIdeal.Value
public import proofs.«01_k».proof.Proof.Gen.MlpReferenceIdeal.Run
public import proofs.«01_k».proof.Proof.Gen.MlpReferenceIdeal.Read
public import proofs.«01_k».proof.Proof.Mlp
public import proofs.«01_k».proof.Proof.Gen.PoolKernel.Frame
public import proofs.«01_k».proof.Proof.Gen.PoolKernelIdeal.Frame
public import proofs.«01_k».proof.Proof.Gen.PoolKernelIdeal.Value
public import proofs.«01_k».proof.Proof.Gen.PoolReferenceIdeal.Run
public import proofs.«01_k».proof.Proof.Gen.PoolReferenceIdeal.Read
public import proofs.«01_k».proof.Proof.Pool
public import proofs.«01_k».proof.Proof.Gen.AttnKernel.Frame
public import proofs.«01_k».proof.Proof.Gen.AttnKernelIdeal.Frame
public import proofs.«01_k».proof.Proof.Gen.AttnKernelIdeal.Value
public import proofs.«01_k».proof.Proof.Gen.AttnReferenceIdeal.Run
public import proofs.«01_k».proof.Proof.Gen.AttnReferenceIdeal.Read
public import proofs.«01_k».proof.Proof.Attn
public import proofs.«01_k».proof.Proof.Gen.LruKernel.Frame
public import proofs.«01_k».proof.Proof.Gen.LruKernelIdeal.Frame
public import proofs.«01_k».proof.Proof.Gen.AttnFKernel.Frame
public import proofs.«01_k».proof.Proof.Gen.AttnFKernelIdeal.Frame
public import proofs.«01_k».proof.Proof.Gen.AttnFKernelIdeal.Value
public import proofs.«01_k».proof.Proof.Gen.AttnFReferenceIdeal.Run
public import proofs.«01_k».proof.Proof.Gen.AttnFReferenceIdeal.Read
public import proofs.«01_k».proof.Proof.AttnF
public import proofs.«01_k».proof.Proof.Gen.ResLnKernel.Frame
public import proofs.«01_k».proof.Proof.Gen.ResLnKernelIdeal.Frame
public import proofs.«01_k».proof.Proof.Gen.ResLnKernelIdeal.Value
public import proofs.«01_k».proof.Proof.Gen.ResLnReferenceIdeal.Run
public import proofs.«01_k».proof.Proof.Gen.ResLnReferenceIdeal.Read
public import proofs.«01_k».proof.Proof.ResLn
public import proofs.«01_k».proof.Proof.Gen.ProjLnKernel.Frame
public import proofs.«01_k».proof.Proof.Gen.ProjLnKernelIdeal.Frame
public import proofs.«01_k».proof.Proof.Gen.ProjLnKernelIdeal.Value
public import proofs.«01_k».proof.Proof.Gen.ProjLnReferenceIdeal.Run
public import proofs.«01_k».proof.Proof.Gen.ProjLnReferenceIdeal.Read
public import proofs.«01_k».proof.Proof.ProjLn
public import proofs.«01_k».proof.Proof.Gen.MlpFKernel.Frame
public import proofs.«01_k».proof.Proof.Gen.MlpFKernelIdeal.Frame
public import proofs.«01_k».proof.Proof.Gen.MlpFKernelIdeal.Value
public import proofs.«01_k».proof.Proof.Gen.MlpFReferenceIdeal.Run
public import proofs.«01_k».proof.Proof.Gen.MlpFReferenceIdeal.Read
public import proofs.«01_k».proof.Proof.MlpF
public import proofs.«01_k».proof.Proof.Gen.DownKernel.Frame
public import proofs.«01_k».proof.Proof.Gen.DownKernelIdeal.Frame
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Down
public import proofs.«01_k».proof.Proof.Gen.RopeKernel.Frame
public import proofs.«01_k».proof.Proof.Gen.RopeKernelIdeal.Frame
public import proofs.«01_k».proof.Proof.Gen.RopeReferenceIdeal.Run
public import proofs.«01_k».proof.Proof.Gen.RopeReferenceIdeal.Read
public import proofs.«01_k».proof.Proof.Rope
public import proofs.«01_k».proof.Proof.Gen.PoolFKernel.Frame
public import proofs.«01_k».proof.Proof.Gen.PoolFKernelIdeal.Frame
public import proofs.«01_k».proof.Proof.Gen.PoolFKernelIdeal.Value
public import proofs.«01_k».proof.Proof.Gen.PoolFReferenceIdeal.Run
public import proofs.«01_k».proof.Proof.Gen.PoolFReferenceIdeal.Read
public import proofs.«01_k».proof.Proof.PoolF
public import proofs.«01_k».proof.Proof.Gen.LruFKernel.Frame
public import proofs.«01_k».proof.Proof.Gen.LruFKernelIdeal.Frame
public import proofs.«01_k».proof.Proof.Gen.LruFKernelIdeal.Value
public import proofs.«01_k».proof.Proof.Gen.LruFReferenceIdeal.Step
public import proofs.«01_k».proof.Proof.LruF
public import proofs.«01_k».proof.Proof.Gen.MmKernel.Frame
public import proofs.«01_k».proof.Proof.Gen.MmKernelIdeal.Frame
public import proofs.«01_k».proof.Proof.Gen.MmKernelIdeal.Value
public import proofs.«01_k».proof.Proof.Gen.MmReferenceIdeal.Run
public import proofs.«01_k».proof.Proof.Gen.MmReferenceIdeal.Read
public import proofs.«01_k».proof.Proof.Mm
public import proofs.«01_k».proof.Proof.Gen.DwinKernel.Frame
public import proofs.«01_k».proof.Proof.Gen.DwinKernelIdeal.Frame
public import proofs.«01_k».proof.Proof.Gen.DwinKernelIdeal.Value
public import proofs.«01_k».proof.Proof.Gen.DwinReferenceIdeal.Run
public import proofs.«01_k».proof.Proof.Gen.DwinReferenceIdeal.Read
public import proofs.«01_k».proof.Proof.Dwin
public import proofs.«01_k».proof.Proof.Gen.AdamKernel.Frame
public import proofs.«01_k».proof.Proof.Gen.AdamKernelIdeal.Frame
public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Proof.Adam
public import Idealize.ShloMosaic.Adequacy
public import Idealize.ShloMosaic.Init

@[expose] public section

noncomputable section

namespace Cert.Proof

open Idealize.ShloMosaic Idealize.SL.Sem

theorem claim : Cert.Claim :=
  ⟨Cert.LossKernel.Gen.facts,
    Cert.LossKernelIdeal.Gen.facts,
    Cert.LossReferenceIdeal.Gen.facts,
    Cert.LnKernel.Gen.facts,
    Cert.LnKernelIdeal.Gen.facts,
    Cert.LnReferenceIdeal.Gen.facts,
    Cert.LnResKernel.Gen.facts,
    Cert.LnResKernelIdeal.Gen.facts,
    Cert.LnResReferenceIdeal.Gen.facts,
    Cert.RmsKernel.Gen.facts,
    Cert.RmsKernelIdeal.Gen.facts,
    Cert.RmsReferenceIdeal.Gen.facts,
    Cert.MlpKernel.Gen.facts,
    Cert.MlpKernelIdeal.Gen.facts,
    Cert.MlpReferenceIdeal.Gen.facts,
    Cert.PoolKernel.Gen.facts,
    Cert.PoolKernelIdeal.Gen.facts,
    Cert.PoolReferenceIdeal.Gen.facts,
    Cert.AttnKernel.Gen.facts,
    Cert.AttnKernelIdeal.Gen.facts,
    Cert.AttnReferenceIdeal.Gen.facts,
    Cert.LruKernel.Gen.facts,
    Cert.LruKernelIdeal.Gen.facts,
    Cert.AttnFKernel.Gen.facts,
    Cert.AttnFKernelIdeal.Gen.facts,
    Cert.AttnFReferenceIdeal.Gen.facts,
    Cert.ResLnKernel.Gen.facts,
    Cert.ResLnKernelIdeal.Gen.facts,
    Cert.ResLnReferenceIdeal.Gen.facts,
    Cert.ProjLnKernel.Gen.facts,
    Cert.ProjLnKernelIdeal.Gen.facts,
    Cert.ProjLnReferenceIdeal.Gen.facts,
    Cert.MlpFKernel.Gen.facts,
    Cert.MlpFKernelIdeal.Gen.facts,
    Cert.MlpFReferenceIdeal.Gen.facts,
    Cert.DownKernel.Gen.facts,
    Cert.DownKernelIdeal.Gen.facts,
    Cert.DownReferenceIdeal.Gen.facts,
    Cert.RopeKernel.Gen.facts,
    Cert.RopeKernelIdeal.Gen.facts,
    Cert.RopeReferenceIdeal.Gen.facts,
    Cert.PoolFKernel.Gen.facts,
    Cert.PoolFKernelIdeal.Gen.facts,
    Cert.PoolFReferenceIdeal.Gen.facts,
    Cert.LruFKernel.Gen.facts,
    Cert.LruFKernelIdeal.Gen.facts,
    Cert.LruFReferenceIdeal.Gen.facts,
    Cert.MmKernel.Gen.facts,
    Cert.MmKernelIdeal.Gen.facts,
    Cert.MmReferenceIdeal.Gen.facts,
    Cert.DwinKernel.Gen.facts,
    Cert.DwinKernelIdeal.Gen.facts,
    Cert.DwinReferenceIdeal.Gen.facts,
    Cert.AdamKernel.Gen.facts,
    Cert.AdamKernelIdeal.Gen.facts,
    Cert.AdamReferenceIdeal.Gen.facts,
    Cert.Ln.pre_facts,
    Cert.LnRes.pre_facts,
    Cert.Rms.pre_facts,
    Cert.Pool.pre_facts,
    Cert.Attn.pre_facts,
    Cert.AttnF.pre_facts,
    Cert.PoolF.pre_facts,
    fun m ρ _ => Cert.LossKernel.Gen.frame m ρ,
    fun m ρ _ => Cert.LossKernelIdeal.Gen.frame m ρ,
    Cert.Loss.frame_reference,
    fun m ρ _ => Cert.LnKernel.Gen.frame m ρ,
    fun m ρ _ => Cert.LnKernelIdeal.Gen.frame m ρ,
    fun m ρ _ => Cert.LnKernelIdeal.Gen.frame m ρ,
    Cert.Ln.frame_reference,
    fun m ρ _ => Cert.Ln.frame_reference m ρ trivial,
    fun m ρ _ => Cert.LnResKernel.Gen.frame m ρ,
    fun m ρ _ => Cert.LnResKernelIdeal.Gen.frame m ρ,
    fun m ρ _ => Cert.LnResKernelIdeal.Gen.frame m ρ,
    Cert.LnRes.frame_reference,
    fun m ρ _ => Cert.LnRes.frame_reference m ρ trivial,
    fun m ρ _ => Cert.RmsKernel.Gen.frame m ρ,
    fun m ρ _ => Cert.RmsKernelIdeal.Gen.frame m ρ,
    fun m ρ _ => Cert.RmsKernelIdeal.Gen.frame m ρ,
    Cert.Rms.frame_reference,
    fun m ρ _ => Cert.Rms.frame_reference m ρ trivial,
    fun m ρ _ => Cert.MlpKernel.Gen.frame m ρ,
    fun m ρ _ => Cert.MlpKernelIdeal.Gen.frame m ρ,
    Cert.Mlp.frame_reference,
    fun m ρ _ => Cert.PoolKernel.Gen.frame m ρ,
    fun m ρ _ => Cert.PoolKernelIdeal.Gen.frame m ρ,
    fun m ρ _ => Cert.PoolKernelIdeal.Gen.frame m ρ,
    Cert.Pool.frame_reference,
    fun m ρ _ => Cert.Pool.frame_reference m ρ trivial,
    fun m ρ _ => Cert.AttnKernel.Gen.frame m ρ,
    fun m ρ _ => Cert.AttnKernelIdeal.Gen.frame m ρ,
    fun m ρ _ => Cert.AttnKernelIdeal.Gen.frame m ρ,
    Cert.Attn.frame_reference,
    fun m ρ _ => Cert.Attn.frame_reference m ρ trivial,
    fun m ρ _ => Cert.LruKernel.Gen.frame m ρ,
    fun m ρ _ => Cert.LruKernelIdeal.Gen.frame m ρ,
    fun m ρ _ => Cert.AttnFKernel.Gen.frame m ρ,
    fun m ρ _ => Cert.AttnFKernelIdeal.Gen.frame m ρ,
    fun m ρ _ => Cert.AttnFKernelIdeal.Gen.frame m ρ,
    Cert.AttnF.frame_reference,
    fun m ρ _ => Cert.AttnF.frame_reference m ρ trivial,
    fun m ρ _ => Cert.ResLnKernel.Gen.frame m ρ,
    fun m ρ _ => Cert.ResLnKernelIdeal.Gen.frame m ρ,
    Cert.ResLn.frame_reference,
    fun m ρ _ => Cert.ProjLnKernel.Gen.frame m ρ,
    fun m ρ _ => Cert.ProjLnKernelIdeal.Gen.frame m ρ,
    Cert.ProjLn.frame_reference,
    fun m ρ _ => Cert.MlpFKernel.Gen.frame m ρ,
    fun m ρ _ => Cert.MlpFKernelIdeal.Gen.frame m ρ,
    Cert.MlpF.frame_reference,
    fun m ρ _ => Cert.DownKernel.Gen.frame m ρ,
    fun m ρ _ => Cert.DownKernelIdeal.Gen.frame m ρ,
    Cert.Down.frame_reference,
    fun m ρ _ => Cert.RopeKernel.Gen.frame m ρ,
    fun m ρ _ => Cert.RopeKernelIdeal.Gen.frame m ρ,
    Cert.Rope.frame_reference,
    fun m ρ _ => Cert.PoolFKernel.Gen.frame m ρ,
    fun m ρ _ => Cert.PoolFKernelIdeal.Gen.frame m ρ,
    fun m ρ _ => Cert.PoolFKernelIdeal.Gen.frame m ρ,
    Cert.PoolF.frame_reference,
    fun m ρ _ => Cert.PoolF.frame_reference m ρ trivial,
    fun m ρ _ => Cert.LruFKernel.Gen.frame m ρ,
    fun m ρ _ => Cert.LruFKernelIdeal.Gen.frame m ρ,
    Cert.LruF.frame_reference,
    fun m ρ _ => Cert.MmKernel.Gen.frame m ρ,
    fun m ρ _ => Cert.MmKernelIdeal.Gen.frame m ρ,
    Cert.Mm.frame_reference,
    fun m ρ _ => Cert.DwinKernel.Gen.frame m ρ,
    fun m ρ _ => Cert.DwinKernelIdeal.Gen.frame m ρ,
    Cert.Dwin.frame_reference,
    fun m ρ _ => Cert.AdamKernel.Gen.frame m ρ,
    fun m ρ _ => Cert.AdamKernelIdeal.Gen.frame m ρ,
    Cert.Adam.frame_reference,
    trivial,
    Cert.Loss.value,
    trivial,
    Cert.Ln.value,
    trivial,
    Cert.LnRes.value,
    trivial,
    Cert.Rms.value,
    trivial,
    Cert.Mlp.value,
    trivial,
    Cert.Pool.value,
    trivial,
    Cert.Attn.value,
    trivial,
    trivial,
    Cert.AttnF.value,
    trivial,
    Cert.ResLn.value,
    trivial,
    Cert.ProjLn.value,
    trivial,
    Cert.MlpF.value,
    trivial,
    Cert.Down.value,
    trivial,
    Cert.Rope.value,
    trivial,
    Cert.PoolF.value,
    trivial,
    Cert.LruF.value,
    trivial,
    Cert.Mm.value,
    trivial,
    Cert.Dwin.value,
    trivial,
    Cert.Adam.value⟩

end Cert.Proof

end
